-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x100000 : Shape := ⟨2, ![1024, 100000]⟩
abbrev S1024x16384 : Shape := ⟨2, ![1024, 16384]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S1024x100000 .f32) (main_arg1 : FVec F S1024x16384 .f32) (main_arg2 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 100000#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S1024x100000 : Shape := ⟨2, ![1024, 100000]⟩
abbrev S1024x16384 : Shape := ⟨2, ![1024, 16384]⟩
abbrev S16384 : Shape := ⟨1, ![16384]⟩
abbrev S100000x1024 : Shape := ⟨2, ![100000, 1024]⟩
abbrev S16384x1024 : Shape := ⟨2, ![16384, 1024]⟩
abbrev S131072x128 : Shape := ⟨2, ![131072, 128]⟩
abbrev S_ : Shape := ⟨0, ![]⟩
abbrev S3126 : Shape := ⟨1, ![3126]⟩
abbrev S1x3126 : Shape := ⟨2, ![1, 3126]⟩
abbrev S16384x1 : Shape := ⟨2, ![16384, 1]⟩
abbrev S16384x3126 : Shape := ⟨2, ![16384, 3126]⟩
abbrev S2x32x1024 : Shape := ⟨3, ![2, 32, 1024]⟩
abbrev S128x128 : Shape := ⟨2, ![128, 128]⟩
abbrev S16400 : Shape := ⟨1, ![16400]⟩
abbrev S3141 : Shape := ⟨1, ![3141]⟩
abbrev S128 : Shape := ⟨1, ![128]⟩
abbrev S2 : Shape := ⟨1, ![2]⟩
abbrev S16 : Shape := ⟨1, ![16]⟩
abbrev S1x32x1024 : Shape := ⟨3, ![1, 32, 1024]⟩
abbrev S32x1024 : Shape := ⟨2, ![32, 1024]⟩
abbrev S1 : Shape := ⟨1, ![1]⟩
abbrev S1x1x16 : Shape := ⟨3, ![1, 1, 16]⟩
abbrev S1x16 : Shape := ⟨2, ![1, 16]⟩

abbrev nBuf : Table → Nat
  | .hbm => 32
  | .local .scVector .vmem => 5
  | _ => 0

abbrev bufTy : (tb : Table) → Fin (nBuf tb) → BufTy
  | .hbm, ⟨0, _⟩ => ⟨S1024x100000, .f32⟩
  | .hbm, ⟨1, _⟩ => ⟨S1024x16384, .f32⟩
  | .hbm, ⟨2, _⟩ => ⟨S16384, .i32⟩
  | .hbm, ⟨3, _⟩ => ⟨S100000x1024, .f32⟩
  | .hbm, ⟨4, _⟩ => ⟨S16384x1024, .f32⟩
  | .hbm, ⟨5, _⟩ => ⟨S131072x128, .f32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S3126, .i32⟩
  | .hbm, ⟨13, _⟩ => ⟨S_, .i32⟩
  | .hbm, ⟨14, _⟩ => ⟨S3126, .i32⟩
  | .hbm, ⟨15, _⟩ => ⟨S3126, .i32⟩
  | .hbm, ⟨16, _⟩ => ⟨S_, .i32⟩
  | .hbm, ⟨17, _⟩ => ⟨S3126, .i32⟩
  | .hbm, ⟨18, _⟩ => ⟨S3126, .i32⟩
  | .hbm, ⟨19, _⟩ => ⟨S_, .i32⟩
  | .hbm, ⟨20, _⟩ => ⟨S3126, .i32⟩
  | .hbm, ⟨21, _⟩ => ⟨S3126, .i32⟩
  | .hbm, ⟨22, _⟩ => ⟨S1x3126, .i32⟩
  | .hbm, ⟨23, _⟩ => ⟨S16384x1, .i32⟩
  | .hbm, ⟨24, _⟩ => ⟨S16384x3126, .i32⟩
  | .hbm, ⟨25, _⟩ => ⟨S16384x3126, .i32⟩
  | .hbm, ⟨26, _⟩ => ⟨S16384x3126, .i1⟩
  | .hbm, ⟨27, _⟩ => ⟨S16384x3126, .i32⟩
  | .hbm, ⟨28, _⟩ => ⟨S_, .i32⟩
  | .hbm, ⟨29, _⟩ => ⟨S3126, .i32⟩
  | .hbm, ⟨30, _⟩ => ⟨S100000x1024, .f32⟩
  | .hbm, ⟨31, _⟩ => ⟨S1024x100000, .f32⟩
  | .local .scVector .vmem, ⟨0, _⟩ => ⟨S2x32x1024, .f32⟩
  | .local .scVector .vmem, ⟨1, _⟩ => ⟨S128x128, .f32⟩
  | .local .scVector .vmem, ⟨2, _⟩ => ⟨S16400, .i32⟩
  | .local .scVector .vmem, ⟨3, _⟩ => ⟨S3141, .i32⟩
  | .local .scVector .vmem, ⟨4, _⟩ => ⟨S128, .i32⟩
  | _, _ => ⟨S1024x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_call1_call0_v0 : Ref sig .tc := ⟨.hbm, 22, rfl⟩
abbrev main_call1_call0_v1 : Ref sig .tc := ⟨.hbm, 23, rfl⟩
abbrev main_call1_call0_v2 : Ref sig .tc := ⟨.hbm, 24, rfl⟩
abbrev main_call1_call0_v3 : Ref sig .tc := ⟨.hbm, 25, rfl⟩
abbrev main_call1_call0_v4 : Ref sig .tc := ⟨.hbm, 26, rfl⟩
abbrev main_call1_call0_v5 : Ref sig .tc := ⟨.hbm, 27, rfl⟩
abbrev main_call1_call0_c : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v0_scv : Ref sig .scVector := ⟨.hbm, 3, rfl⟩
abbrev main_v2_scv : Ref sig .scVector := ⟨.hbm, 5, rfl⟩
abbrev main_v7_scv : Ref sig .scVector := ⟨.hbm, 11, rfl⟩
abbrev main_v15_scv : Ref sig .scVector := ⟨.hbm, 29, rfl⟩
abbrev main_v16_scv : Ref sig .scVector := ⟨.hbm, 30, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_13 : BitVec 32 := 0#32
  let v41 : BitVec 32 := Scalar.addi v19 c0_i32_13
  let c32_i32_14 : BitVec 32 := 32#32
  let v42 : BitVec 32 := Scalar.muli v41 c32_i32_14
  let c0_i32_19 : BitVec 32 := 0#32
  ![v42.toNat, 0]
@[reducible] def k0_t1_loop (i : grid0.Coords) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_26 : BitVec 32 := 1#32
  ⟨c0_i32_24, v55, c1_i32_26⟩
def k0_cond1 (i : grid0.Coords) (k0_t1 : Fin (k0_t1_loop i).trips) : BitVec 1 :=
  let c0_i32_24 : BitVec 32 := 0#32
  let c1_i32_26 : BitVec 32 := 1#32
  let arg15 : BitVec 32 := Scf.iv c0_i32_24 c1_i32_26 k0_t1
  let c1_i32_41 : BitVec 32 := 1#32
  let v74 : BitVec 32 := Scalar.addi arg15 c1_i32_41
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v75 : BitVec 1 := Scalar.cmpi .slt v74 v39
  let v76 : BitVec 32 := Scalar.extui v75
  let c0_i32_42 : BitVec 32 := 0#32
  let v77 : BitVec 1 := Scalar.cmpi .ne v76 c0_i32_42
  v77

def k0_cond2 (i : grid0.Coords) (k0_t1 : Fin (k0_t1_loop i).trips) : BitVec 1 :=
  let c0_i32_24 : BitVec 32 := 0#32
  let c1_i32_26 : BitVec 32 := 1#32
  let arg15 : BitVec 32 := Scf.iv c0_i32_24 c1_i32_26 k0_t1
  let c1_i32_98 : BitVec 32 := 1#32
  let v223 : BitVec 1 := Scalar.cmpi .sge arg15 c1_i32_98
  let v224 : BitVec 32 := Scalar.extui v223
  let c0_i32_99 : BitVec 32 := 0#32
  let v225 : BitVec 1 := Scalar.cmpi .ne v224 c0_i32_99
  v225

def k0_off2 (i : grid0.Coords) (k0_t1 : Fin (k0_t1_loop i).trips) : Fin 3 → Nat :=
  let c1_i32_110 : BitVec 32 := 1#32
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v239 : BitVec 32 := Scalar.subi c1_i32_110 v72
  let c0_i32_112 : BitVec 32 := 0#32
  let c0_i32_113 : BitVec 32 := 0#32
  ![v239.toNat, 0, 0]
def k0_off3 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_26 : BitVec 32 := 1#32
  let arg15 : BitVec 32 := Scf.iv c0_i32_24 c1_i32_26 k0_t1
  let c1_i32_109 : BitVec 32 := 1#32
  let v238 : BitVec 32 := Scalar.subi arg15 c1_i32_109
  let v240 : BitVec 32 := Scalar.addi v19 v238
  let c32_i32_111 : BitVec 32 := 32#32
  let v241 : BitVec 32 := Scalar.muli v240 c32_i32_111
  let c0_i32_114 : BitVec 32 := 0#32
  ![v241.toNat, 0]
def k0_off4 (i : grid0.Coords) (k0_t1 : Fin (k0_t1_loop i).trips) : Fin 1 → Nat :=
  let c1_i32_110 : BitVec 32 := 1#32
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v239 : BitVec 32 := Scalar.subi c1_i32_110 v72
  ![v239.toNat]
def k0_off5 (i : grid0.Coords) (k0_t1 : Fin (k0_t1_loop i).trips) : Fin 3 → Nat :=
  let c1_i32_101 : BitVec 32 := 1#32
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v227 : BitVec 32 := Scalar.subi c1_i32_101 v72
  let c0_i32_103 : BitVec 32 := 0#32
  let c0_i32_104 : BitVec 32 := 0#32
  ![v227.toNat, 0, 0]
def k0_off6 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_26 : BitVec 32 := 1#32
  let arg15 : BitVec 32 := Scf.iv c0_i32_24 c1_i32_26 k0_t1
  let c1_i32_100 : BitVec 32 := 1#32
  let v226 : BitVec 32 := Scalar.addi arg15 c1_i32_100
  let v228 : BitVec 32 := Scalar.addi v19 v226
  let c32_i32_102 : BitVec 32 := 32#32
  let v229 : BitVec 32 := Scalar.muli v228 c32_i32_102
  let c0_i32_105 : BitVec 32 := 0#32
  ![v229.toNat, 0]
def k0_off7 (i : grid0.Coords) (k0_t1 : Fin (k0_t1_loop i).trips) : Fin 1 → Nat :=
  let c1_i32_101 : BitVec 32 := 1#32
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v227 : BitVec 32 := Scalar.subi c1_i32_101 v72
  ![v227.toNat]
def k0_off8 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_26 : BitVec 32 := 1#32
  let arg15 : BitVec 32 := Scf.iv c0_i32_24 c1_i32_26 k0_t1
  let v73 : BitVec 32 := Scalar.addi v19 arg15
  let c4_i32 : BitVec 32 := 4#32
  let v78 : BitVec 32 := Scalar.shrsi v73 c4_i32
  let c4_i32_43 : BitVec 32 := 4#32
  let v79 : BitVec 32 := Scalar.shli v78 c4_i32_43
  let v80 : Index := Scalar.indexCast v79
  ![v80.toNat]
def k0_off9 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_26 : BitVec 32 := 1#32
  let arg15 : BitVec 32 := Scf.iv c0_i32_24 c1_i32_26 k0_t1
  let v73 : BitVec 32 := Scalar.addi v19 arg15
  let c1_i32_45 : BitVec 32 := 1#32
  let v90 : BitVec 32 := Scalar.addi v73 c1_i32_45
  let c4_i32_46 : BitVec 32 := 4#32
  let v91 : BitVec 32 := Scalar.shrsi v90 c4_i32_46
  let c4_i32_47 : BitVec 32 := 4#32
  let v92 : BitVec 32 := Scalar.shli v91 c4_i32_47
  let v93 : Index := Scalar.indexCast v92
  ![v93.toNat]
def k0_off10 (v89 : BitVec 32) : Fin 1 → Nat :=
  let v123 : Index := Scalar.indexCast v89
  ![v123.toNat]

def k0_chk1 (v89 : BitVec 32) : Prop :=
  (∀ a, (k0_off10 v89) a + S16.size a ≤ S16400.size a)
theorem k0_off10_inb : ∀ (v89 : BitVec 32) (k0_hw1 : k0_chk1 v89), ∀ a, (k0_off10 v89) a + S16.size a ≤ S16400.size a := fun v89 k0_hw1 => k0_hw1

def k0_off11 (i : grid0.Coords) (k0_t1 : Fin (k0_t1_loop i).trips) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let c0_i32_80 : BitVec 32 := 0#32
  let c0_i32_81 : BitVec 32 := 0#32
  ![v72.toNat, 0, 0]
def k0_off12 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_26 : BitVec 32 := 1#32
  let arg15 : BitVec 32 := Scf.iv c0_i32_24 c1_i32_26 k0_t1
  let v198 : BitVec 32 := Scalar.addi v19 arg15
  let c32_i32_79 : BitVec 32 := 32#32
  let v199 : BitVec 32 := Scalar.muli v198 c32_i32_79
  let c0_i32_82 : BitVec 32 := 0#32
  ![v199.toNat, 0]
def k0_off13 (i : grid0.Coords) (k0_t1 : Fin (k0_t1_loop i).trips) : Fin 1 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  ![v72.toNat]
@[reducible] def k0_t2_loop (v89 : BitVec 32) (v102 : BitVec 32) : Scf.Loop 32 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_89 : BitVec 32 := 1#32
  ⟨c0_i32_87, v212, c1_i32_89⟩

def k0_off14 (v89 : BitVec 32) (v102 : BitVec 32) (k0_t2 : Fin (k0_t2_loop v89 v102).trips) : Fin 1 → Nat :=
  let c0_i32_87 : BitVec 32 := 0#32
  let c1_i32_89 : BitVec 32 := 1#32
  let arg16 : BitVec 32 := Scf.iv c0_i32_87 c1_i32_89 k0_t2
  let c16_i32_100 : BitVec 32 := 16#32
  let v224 : BitVec 32 := Scalar.muli arg16 c16_i32_100
  let v225 : BitVec 32 := Scalar.addi v89 v224
  let v226 : Index := Scalar.indexCast v225
  ![v226.toNat]
@[reducible] def k0_t3_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off15 (i : grid0.Coords) (k0_t1 : Fin (k0_t1_loop i).trips) (v323 : BitVec 32) (k0_t3 : Fin k0_t3_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t3
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond4 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_102 : BitVec 32 := 16#32
  let v233 : BitVec 32 := Scalar.muli arg16 c16_i32_102
  let c0_i32_103 : BitVec 32 := 0#32
  let v234 : BitVec 32 := Scalar.addi v233 c0_i32_103
  let v103 : BitVec 32 := Scalar.subi v102 v89
  let v235 : BitVec 1 := Scalar.cmpi .slt v234 v103
  let v236 : BitVec 32 := Scalar.extui v235
  let c0_i32_104 : BitVec 32 := 0#32
  let v237 : BitVec 1 := Scalar.cmpi .ne v236 c0_i32_104
  v237

def k0_chk3 (i : grid0.Coords) (k0_t1 : Fin (k0_t1_loop i).trips) (v89 : BitVec 32) (v102 : BitVec 32) (k0_t2 : Fin (k0_t2_loop v89 v102).trips) (v323 : BitVec 32) : Prop :=
  (∀ k0_t3 : Fin k0_t3_loop.trips, ∀ (k0_h4 : k0_cond4 v89 v102 k0_t2 = 1#1), ∀ (r : Fin 8), ∀ a, (k0_off15 i k0_t1 v323 k0_t3 (BitVec.ofNat 32 (16 * r.val))) a + S1x1x16.size a ≤ S2x32x1024.size a)
theorem k0_off15_inb : ∀ (i : grid0.Coords) (k0_t1 : Fin (k0_t1_loop i).trips) (v89 : BitVec 32) (v102 : BitVec 32) (k0_t2 : Fin (k0_t2_loop v89 v102).trips) (v323 : BitVec 32) (k0_hw3 : k0_chk3 i k0_t1 v89 v102 k0_t2 v323) (k0_t3 : Fin k0_t3_loop.trips), ∀ (k0_h4 : k0_cond4 v89 v102 k0_t2 = 1#1), ∀ (r : Fin 8), ∀ a, (k0_off15 i k0_t1 v323 k0_t3 (BitVec.ofNat 32 (16 * r.val))) a + S1x1x16.size a ≤ S2x32x1024.size a := fun i k0_t1 v89 v102 k0_t2 v323 k0_hw3 k0_t3 k0_h4 r => k0_hw3 k0_t3 k0_h4 r

def k0_off16 (k0_t3 : Fin k0_t3_loop.trips) : Fin 2 → Nat :=
  let c0_i32_151 : BitVec 32 := 0#32
  let c1_i32_153 : BitVec 32 := 1#32
  let arg17 : BitVec 32 := Scf.iv c0_i32_151 c1_i32_153 k0_t3
  let c16_i32_156 : BitVec 32 := 16#32
  let v331 : BitVec 32 := Scalar.muli arg17 c16_i32_156
  let c0_i32_157 : BitVec 32 := 0#32
  let v332 : BitVec 32 := Scalar.addi v331 c0_i32_157
  let v333 : Index := Scalar.indexCast v332
  let c0_158 : Index := 0#32
  ![v333.toNat, 0]
def k0_off17 (k0_t3 : Fin k0_t3_loop.trips) : Fin 2 → Nat :=
  let c0_i32_151 : BitVec 32 := 0#32
  let c1_i32_153 : BitVec 32 := 1#32
  let arg17 : BitVec 32 := Scf.iv c0_i32_151 c1_i32_153 k0_t3
  let c16_i32_161 : BitVec 32 := 16#32
  let v346 : BitVec 32 := Scalar.muli arg17 c16_i32_161
  let c0_i32_162 : BitVec 32 := 0#32
  let v347 : BitVec 32 := Scalar.addi v346 c0_i32_162
  let v348 : Index := Scalar.indexCast v347
  let c16_163 : Index := 16#32
  ![v348.toNat, 16]
def k0_off18 (k0_t3 : Fin k0_t3_loop.trips) : Fin 2 → Nat :=
  let c0_i32_151 : BitVec 32 := 0#32
  let c1_i32_153 : BitVec 32 := 1#32
  let arg17 : BitVec 32 := Scf.iv c0_i32_151 c1_i32_153 k0_t3
  let c16_i32_166 : BitVec 32 := 16#32
  let v361 : BitVec 32 := Scalar.muli arg17 c16_i32_166
  let c0_i32_167 : BitVec 32 := 0#32
  let v362 : BitVec 32 := Scalar.addi v361 c0_i32_167
  let v363 : Index := Scalar.indexCast v362
  let c32_168 : Index := 32#32
  ![v363.toNat, 32]
def k0_off19 (k0_t3 : Fin k0_t3_loop.trips) : Fin 2 → Nat :=
  let c0_i32_151 : BitVec 32 := 0#32
  let c1_i32_153 : BitVec 32 := 1#32
  let arg17 : BitVec 32 := Scf.iv c0_i32_151 c1_i32_153 k0_t3
  let c16_i32_170 : BitVec 32 := 16#32
  let v376 : BitVec 32 := Scalar.muli arg17 c16_i32_170
  let c0_i32_171 : BitVec 32 := 0#32
  let v377 : BitVec 32 := Scalar.addi v376 c0_i32_171
  let v378 : Index := Scalar.indexCast v377
  let c48_172 : Index := 48#32
  ![v378.toNat, 48]
def k0_off20 (k0_t3 : Fin k0_t3_loop.trips) : Fin 2 → Nat :=
  let c0_i32_151 : BitVec 32 := 0#32
  let c1_i32_153 : BitVec 32 := 1#32
  let arg17 : BitVec 32 := Scf.iv c0_i32_151 c1_i32_153 k0_t3
  let c16_i32_174 : BitVec 32 := 16#32
  let v391 : BitVec 32 := Scalar.muli arg17 c16_i32_174
  let c0_i32_175 : BitVec 32 := 0#32
  let v392 : BitVec 32 := Scalar.addi v391 c0_i32_175
  let v393 : Index := Scalar.indexCast v392
  let c64_176 : Index := 64#32
  ![v393.toNat, 64]
def k0_off21 (k0_t3 : Fin k0_t3_loop.trips) : Fin 2 → Nat :=
  let c0_i32_151 : BitVec 32 := 0#32
  let c1_i32_153 : BitVec 32 := 1#32
  let arg17 : BitVec 32 := Scf.iv c0_i32_151 c1_i32_153 k0_t3
  let c16_i32_178 : BitVec 32 := 16#32
  let v406 : BitVec 32 := Scalar.muli arg17 c16_i32_178
  let c0_i32_179 : BitVec 32 := 0#32
  let v407 : BitVec 32 := Scalar.addi v406 c0_i32_179
  let v408 : Index := Scalar.indexCast v407
  let c80_180 : Index := 80#32
  ![v408.toNat, 80]
def k0_off22 (k0_t3 : Fin k0_t3_loop.trips) : Fin 2 → Nat :=
  let c0_i32_151 : BitVec 32 := 0#32
  let c1_i32_153 : BitVec 32 := 1#32
  let arg17 : BitVec 32 := Scf.iv c0_i32_151 c1_i32_153 k0_t3
  let c16_i32_182 : BitVec 32 := 16#32
  let v421 : BitVec 32 := Scalar.muli arg17 c16_i32_182
  let c0_i32_183 : BitVec 32 := 0#32
  let v422 : BitVec 32 := Scalar.addi v421 c0_i32_183
  let v423 : Index := Scalar.indexCast v422
  let c96_184 : Index := 96#32
  ![v423.toNat, 96]
def k0_off23 (k0_t3 : Fin k0_t3_loop.trips) : Fin 2 → Nat :=
  let c0_i32_151 : BitVec 32 := 0#32
  let c1_i32_153 : BitVec 32 := 1#32
  let arg17 : BitVec 32 := Scf.iv c0_i32_151 c1_i32_153 k0_t3
  let c16_i32_186 : BitVec 32 := 16#32
  let v436 : BitVec 32 := Scalar.muli arg17 c16_i32_186
  let c0_i32_187 : BitVec 32 := 0#32
  let v437 : BitVec 32 := Scalar.addi v436 c0_i32_187
  let v438 : Index := Scalar.indexCast v437
  let c112_188 : Index := 112#32
  ![v438.toNat, 112]
@[reducible] def k0_t4_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off24 (i : grid0.Coords) (k0_t1 : Fin (k0_t1_loop i).trips) (v323 : BitVec 32) (k0_t4 : Fin k0_t4_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t4
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond5 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_105 : BitVec 32 := 16#32
  let v238 : BitVec 32 := Scalar.muli arg16 c16_i32_105
  let c1_i32_106 : BitVec 32 := 1#32
  let v239 : BitVec 32 := Scalar.addi v238 c1_i32_106
  let v103 : BitVec 32 := Scalar.subi v102 v89
  let v240 : BitVec 1 := Scalar.cmpi .slt v239 v103
  let v241 : BitVec 32 := Scalar.extui v240
  let c0_i32_107 : BitVec 32 := 0#32
  let v242 : BitVec 1 := Scalar.cmpi .ne v241 c0_i32_107
  v242

def k0_chk4 (i : grid0.Coords) (k0_t1 : Fin (k0_t1_loop i).trips) (v89 : BitVec 32) (v102 : BitVec 32) (k0_t2 : Fin (k0_t2_loop v89 v102).trips) (v323 : BitVec 32) : Prop :=
  (∀ k0_t4 : Fin k0_t4_loop.trips, ∀ (k0_h5 : k0_cond5 v89 v102 k0_t2 = 1#1), ∀ (r : Fin 8), ∀ a, (k0_off24 i k0_t1 v323 k0_t4 (BitVec.ofNat 32 (16 * r.val))) a + S1x1x16.size a ≤ S2x32x1024.size a)
theorem k0_off24_inb : ∀ (i : grid0.Coords) (k0_t1 : Fin (k0_t1_loop i).trips) (v89 : BitVec 32) (v102 : BitVec 32) (k0_t2 : Fin (k0_t2_loop v89 v102).trips) (v323 : BitVec 32) (k0_hw4 : k0_chk4 i k0_t1 v89 v102 k0_t2 v323) (k0_t4 : Fin k0_t4_loop.trips), ∀ (k0_h5 : k0_cond5 v89 v102 k0_t2 = 1#1), ∀ (r : Fin 8), ∀ a, (k0_off24 i k0_t1 v323 k0_t4 (BitVec.ofNat 32 (16 * r.val))) a + S1x1x16.size a ≤ S2x32x1024.size a := fun i k0_t1 v89 v102 k0_t2 v323 k0_hw4 k0_t4 k0_h5 r => k0_hw4 k0_t4 k0_h5 r

def k0_off25 (k0_t4 : Fin k0_t4_loop.trips) : Fin 2 → Nat :=
  let c0_i32_151 : BitVec 32 := 0#32
  let c1_i32_153 : BitVec 32 := 1#32
  let arg17 : BitVec 32 := Scf.iv c0_i32_151 c1_i32_153 k0_t4
  let c16_i32_156 : BitVec 32 := 16#32
  let v331 : BitVec 32 := Scalar.muli arg17 c16_i32_156
  let c1_i32_157 : BitVec 32 := 1#32
  let v332 : BitVec 32 := Scalar.addi v331 c1_i32_157
  let v333 : Index := Scalar.indexCast v332
  let c0_158 : Index := 0#32
  ![v333.toNat, 0]
def k0_off26 (k0_t4 : Fin k0_t4_loop.trips) : Fin 2 → Nat :=
  let c0_i32_151 : BitVec 32 := 0#32
  let c1_i32_153 : BitVec 32 := 1#32
  let arg17 : BitVec 32 := Scf.iv c0_i32_151 c1_i32_153 k0_t4
  let c16_i32_161 : BitVec 32 := 16#32
  let v346 : BitVec 32 := Scalar.muli arg17 c16_i32_161
  let c1_i32_162 : BitVec 32 := 1#32
  let v347 : BitVec 32 := Scalar.addi v346 c1_i32_162
  let v348 : Index := Scalar.indexCast v347
  let c16_163 : Index := 16#32
  ![v348.toNat, 16]
def k0_off27 (k0_t4 : Fin k0_t4_loop.trips) : Fin 2 → Nat :=
  let c0_i32_151 : BitVec 32 := 0#32
  let c1_i32_153 : BitVec 32 := 1#32
  let arg17 : BitVec 32 := Scf.iv c0_i32_151 c1_i32_153 k0_t4
  let c16_i32_166 : BitVec 32 := 16#32
  let v361 : BitVec 32 := Scalar.muli arg17 c16_i32_166
  let c1_i32_167 : BitVec 32 := 1#32
  let v362 : BitVec 32 := Scalar.addi v361 c1_i32_167
  let v363 : Index := Scalar.indexCast v362
  let c32_168 : Index := 32#32
  ![v363.toNat, 32]
def k0_off28 (k0_t4 : Fin k0_t4_loop.trips) : Fin 2 → Nat :=
  let c0_i32_151 : BitVec 32 := 0#32
  let c1_i32_153 : BitVec 32 := 1#32
  let arg17 : BitVec 32 := Scf.iv c0_i32_151 c1_i32_153 k0_t4
  let c16_i32_170 : BitVec 32 := 16#32
  let v376 : BitVec 32 := Scalar.muli arg17 c16_i32_170
  let c1_i32_171 : BitVec 32 := 1#32
  let v377 : BitVec 32 := Scalar.addi v376 c1_i32_171
  let v378 : Index := Scalar.indexCast v377
  let c48_172 : Index := 48#32
  ![v378.toNat, 48]
def k0_off29 (k0_t4 : Fin k0_t4_loop.trips) : Fin 2 → Nat :=
  let c0_i32_151 : BitVec 32 := 0#32
  let c1_i32_153 : BitVec 32 := 1#32
  let arg17 : BitVec 32 := Scf.iv c0_i32_151 c1_i32_153 k0_t4
  let c16_i32_174 : BitVec 32 := 16#32
  let v391 : BitVec 32 := Scalar.muli arg17 c16_i32_174
  let c1_i32_175 : BitVec 32 := 1#32
  let v392 : BitVec 32 := Scalar.addi v391 c1_i32_175
  let v393 : Index := Scalar.indexCast v392
  let c64_176 : Index := 64#32
  ![v393.toNat, 64]
def k0_off30 (k0_t4 : Fin k0_t4_loop.trips) : Fin 2 → Nat :=
  let c0_i32_151 : BitVec 32 := 0#32
  let c1_i32_153 : BitVec 32 := 1#32
  let arg17 : BitVec 32 := Scf.iv c0_i32_151 c1_i32_153 k0_t4
  let c16_i32_178 : BitVec 32 := 16#32
  let v406 : BitVec 32 := Scalar.muli arg17 c16_i32_178
  let c1_i32_179 : BitVec 32 := 1#32
  let v407 : BitVec 32 := Scalar.addi v406 c1_i32_179
  let v408 : Index := Scalar.indexCast v407
  let c80_180 : Index := 80#32
  ![v408.toNat, 80]
def k0_off31 (k0_t4 : Fin k0_t4_loop.trips) : Fin 2 → Nat :=
  let c0_i32_151 : BitVec 32 := 0#32
  let c1_i32_153 : BitVec 32 := 1#32
  let arg17 : BitVec 32 := Scf.iv c0_i32_151 c1_i32_153 k0_t4
  let c16_i32_182 : BitVec 32 := 16#32
  let v421 : BitVec 32 := Scalar.muli arg17 c16_i32_182
  let c1_i32_183 : BitVec 32 := 1#32
  let v422 : BitVec 32 := Scalar.addi v421 c1_i32_183
  let v423 : Index := Scalar.indexCast v422
  let c96_184 : Index := 96#32
  ![v423.toNat, 96]
def k0_off32 (k0_t4 : Fin k0_t4_loop.trips) : Fin 2 → Nat :=
  let c0_i32_151 : BitVec 32 := 0#32
  let c1_i32_153 : BitVec 32 := 1#32
  let arg17 : BitVec 32 := Scf.iv c0_i32_151 c1_i32_153 k0_t4
  let c16_i32_186 : BitVec 32 := 16#32
  let v436 : BitVec 32 := Scalar.muli arg17 c16_i32_186
  let c1_i32_187 : BitVec 32 := 1#32
  let v437 : BitVec 32 := Scalar.addi v436 c1_i32_187
  let v438 : Index := Scalar.indexCast v437
  let c112_188 : Index := 112#32
  ![v438.toNat, 112]
@[reducible] def k0_t5_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off33 (i : grid0.Coords) (k0_t1 : Fin (k0_t1_loop i).trips) (v323 : BitVec 32) (k0_t5 : Fin k0_t5_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t5
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond6 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_108 : BitVec 32 := 16#32
  let v243 : BitVec 32 := Scalar.muli arg16 c16_i32_108
  let c2_i32_109 : BitVec 32 := 2#32
  let v244 : BitVec 32 := Scalar.addi v243 c2_i32_109
  let v103 : BitVec 32 := Scalar.subi v102 v89
  let v245 : BitVec 1 := Scalar.cmpi .slt v244 v103
  let v246 : BitVec 32 := Scalar.extui v245
  let c0_i32_110 : BitVec 32 := 0#32
  let v247 : BitVec 1 := Scalar.cmpi .ne v246 c0_i32_110
  v247

def k0_chk5 (i : grid0.Coords) (k0_t1 : Fin (k0_t1_loop i).trips) (v89 : BitVec 32) (v102 : BitVec 32) (k0_t2 : Fin (k0_t2_loop v89 v102).trips) (v323 : BitVec 32) : Prop :=
  (∀ k0_t5 : Fin k0_t5_loop.trips, ∀ (k0_h6 : k0_cond6 v89 v102 k0_t2 = 1#1), ∀ (r : Fin 8), ∀ a, (k0_off33 i k0_t1 v323 k0_t5 (BitVec.ofNat 32 (16 * r.val))) a + S1x1x16.size a ≤ S2x32x1024.size a)
theorem k0_off33_inb : ∀ (i : grid0.Coords) (k0_t1 : Fin (k0_t1_loop i).trips) (v89 : BitVec 32) (v102 : BitVec 32) (k0_t2 : Fin (k0_t2_loop v89 v102).trips) (v323 : BitVec 32) (k0_hw5 : k0_chk5 i k0_t1 v89 v102 k0_t2 v323) (k0_t5 : Fin k0_t5_loop.trips), ∀ (k0_h6 : k0_cond6 v89 v102 k0_t2 = 1#1), ∀ (r : Fin 8), ∀ a, (k0_off33 i k0_t1 v323 k0_t5 (BitVec.ofNat 32 (16 * r.val))) a + S1x1x16.size a ≤ S2x32x1024.size a := fun i k0_t1 v89 v102 k0_t2 v323 k0_hw5 k0_t5 k0_h6 r => k0_hw5 k0_t5 k0_h6 r

def k0_off34 (k0_t5 : Fin k0_t5_loop.trips) : Fin 2 → Nat :=
  let c0_i32_151 : BitVec 32 := 0#32
  let c1_i32_153 : BitVec 32 := 1#32
  let arg17 : BitVec 32 := Scf.iv c0_i32_151 c1_i32_153 k0_t5
  let c16_i32_156 : BitVec 32 := 16#32
  let v331 : BitVec 32 := Scalar.muli arg17 c16_i32_156
  let c2_i32_157 : BitVec 32 := 2#32
  let v332 : BitVec 32 := Scalar.addi v331 c2_i32_157
  let v333 : Index := Scalar.indexCast v332
  let c0_158 : Index := 0#32
  ![v333.toNat, 0]
def k0_off35 (k0_t5 : Fin k0_t5_loop.trips) : Fin 2 → Nat :=
  let c0_i32_151 : BitVec 32 := 0#32
  let c1_i32_153 : BitVec 32 := 1#32
  let arg17 : BitVec 32 := Scf.iv c0_i32_151 c1_i32_153 k0_t5
  let c16_i32_161 : BitVec 32 := 16#32
  let v346 : BitVec 32 := Scalar.muli arg17 c16_i32_161
  let c2_i32_162 : BitVec 32 := 2#32
  let v347 : BitVec 32 := Scalar.addi v346 c2_i32_162
  let v348 : Index := Scalar.indexCast v347
  let c16_163 : Index := 16#32
  ![v348.toNat, 16]
def k0_off36 (k0_t5 : Fin k0_t5_loop.trips) : Fin 2 → Nat :=
  let c0_i32_151 : BitVec 32 := 0#32
  let c1_i32_153 : BitVec 32 := 1#32
  let arg17 : BitVec 32 := Scf.iv c0_i32_151 c1_i32_153 k0_t5
  let c16_i32_166 : BitVec 32 := 16#32
  let v361 : BitVec 32 := Scalar.muli arg17 c16_i32_166
  let c2_i32_167 : BitVec 32 := 2#32
  let v362 : BitVec 32 := Scalar.addi v361 c2_i32_167
  let v363 : Index := Scalar.indexCast v362
  let c32_168 : Index := 32#32
  ![v363.toNat, 32]
def k0_off37 (k0_t5 : Fin k0_t5_loop.trips) : Fin 2 → Nat :=
  let c0_i32_151 : BitVec 32 := 0#32
  let c1_i32_153 : BitVec 32 := 1#32
  let arg17 : BitVec 32 := Scf.iv c0_i32_151 c1_i32_153 k0_t5
  let c16_i32_170 : BitVec 32 := 16#32
  let v376 : BitVec 32 := Scalar.muli arg17 c16_i32_170
  let c2_i32_171 : BitVec 32 := 2#32
  let v377 : BitVec 32 := Scalar.addi v376 c2_i32_171
  let v378 : Index := Scalar.indexCast v377
  let c48_172 : Index := 48#32
  ![v378.toNat, 48]
def k0_off38 (k0_t5 : Fin k0_t5_loop.trips) : Fin 2 → Nat :=
  let c0_i32_151 : BitVec 32 := 0#32
  let c1_i32_153 : BitVec 32 := 1#32
  let arg17 : BitVec 32 := Scf.iv c0_i32_151 c1_i32_153 k0_t5
  let c16_i32_174 : BitVec 32 := 16#32
  let v391 : BitVec 32 := Scalar.muli arg17 c16_i32_174
  let c2_i32_175 : BitVec 32 := 2#32
  let v392 : BitVec 32 := Scalar.addi v391 c2_i32_175
  let v393 : Index := Scalar.indexCast v392
  let c64_176 : Index := 64#32
  ![v393.toNat, 64]
def k0_off39 (k0_t5 : Fin k0_t5_loop.trips) : Fin 2 → Nat :=
  let c0_i32_151 : BitVec 32 := 0#32
  let c1_i32_153 : BitVec 32 := 1#32
  let arg17 : BitVec 32 := Scf.iv c0_i32_151 c1_i32_153 k0_t5
  let c16_i32_178 : BitVec 32 := 16#32
  let v406 : BitVec 32 := Scalar.muli arg17 c16_i32_178
  let c2_i32_179 : BitVec 32 := 2#32
  let v407 : BitVec 32 := Scalar.addi v406 c2_i32_179
  let v408 : Index := Scalar.indexCast v407
  let c80_180 : Index := 80#32
  ![v408.toNat, 80]
def k0_off40 (k0_t5 : Fin k0_t5_loop.trips) : Fin 2 → Nat :=
  let c0_i32_151 : BitVec 32 := 0#32
  let c1_i32_153 : BitVec 32 := 1#32
  let arg17 : BitVec 32 := Scf.iv c0_i32_151 c1_i32_153 k0_t5
  let c16_i32_182 : BitVec 32 := 16#32
  let v421 : BitVec 32 := Scalar.muli arg17 c16_i32_182
  let c2_i32_183 : BitVec 32 := 2#32
  let v422 : BitVec 32 := Scalar.addi v421 c2_i32_183
  let v423 : Index := Scalar.indexCast v422
  let c96_184 : Index := 96#32
  ![v423.toNat, 96]
def k0_off41 (k0_t5 : Fin k0_t5_loop.trips) : Fin 2 → Nat :=
  let c0_i32_151 : BitVec 32 := 0#32
  let c1_i32_153 : BitVec 32 := 1#32
  let arg17 : BitVec 32 := Scf.iv c0_i32_151 c1_i32_153 k0_t5
  let c16_i32_186 : BitVec 32 := 16#32
  let v436 : BitVec 32 := Scalar.muli arg17 c16_i32_186
  let c2_i32_187 : BitVec 32 := 2#32
  let v437 : BitVec 32 := Scalar.addi v436 c2_i32_187
  let v438 : Index := Scalar.indexCast v437
  let c112_188 : Index := 112#32
  ![v438.toNat, 112]
@[reducible] def k0_t6_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off42 (i : grid0.Coords) (k0_t1 : Fin (k0_t1_loop i).trips) (v323 : BitVec 32) (k0_t6 : Fin k0_t6_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t6
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond7 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_111 : BitVec 32 := 16#32
  let v248 : BitVec 32 := Scalar.muli arg16 c16_i32_111
  let c3_i32_112 : BitVec 32 := 3#32
  let v249 : BitVec 32 := Scalar.addi v248 c3_i32_112
  let v103 : BitVec 32 := Scalar.subi v102 v89
  let v250 : BitVec 1 := Scalar.cmpi .slt v249 v103
  let v251 : BitVec 32 := Scalar.extui v250
  let c0_i32_113 : BitVec 32 := 0#32
  let v252 : BitVec 1 := Scalar.cmpi .ne v251 c0_i32_113
  v252

def k0_chk6 (i : grid0.Coords) (k0_t1 : Fin (k0_t1_loop i).trips) (v89 : BitVec 32) (v102 : BitVec 32) (k0_t2 : Fin (k0_t2_loop v89 v102).trips) (v323 : BitVec 32) : Prop :=
  (∀ k0_t6 : Fin k0_t6_loop.trips, ∀ (k0_h7 : k0_cond7 v89 v102 k0_t2 = 1#1), ∀ (r : Fin 8), ∀ a, (k0_off42 i k0_t1 v323 k0_t6 (BitVec.ofNat 32 (16 * r.val))) a + S1x1x16.size a ≤ S2x32x1024.size a)
theorem k0_off42_inb : ∀ (i : grid0.Coords) (k0_t1 : Fin (k0_t1_loop i).trips) (v89 : BitVec 32) (v102 : BitVec 32) (k0_t2 : Fin (k0_t2_loop v89 v102).trips) (v323 : BitVec 32) (k0_hw6 : k0_chk6 i k0_t1 v89 v102 k0_t2 v323) (k0_t6 : Fin k0_t6_loop.trips), ∀ (k0_h7 : k0_cond7 v89 v102 k0_t2 = 1#1), ∀ (r : Fin 8), ∀ a, (k0_off42 i k0_t1 v323 k0_t6 (BitVec.ofNat 32 (16 * r.val))) a + S1x1x16.size a ≤ S2x32x1024.size a := fun i k0_t1 v89 v102 k0_t2 v323 k0_hw6 k0_t6 k0_h7 r => k0_hw6 k0_t6 k0_h7 r

def k0_off43 (k0_t6 : Fin k0_t6_loop.trips) : Fin 2 → Nat :=
  let c0_i32_151 : BitVec 32 := 0#32
  let c1_i32_153 : BitVec 32 := 1#32
  let arg17 : BitVec 32 := Scf.iv c0_i32_151 c1_i32_153 k0_t6
  let c16_i32_156 : BitVec 32 := 16#32
  let v331 : BitVec 32 := Scalar.muli arg17 c16_i32_156
  let c3_i32_157 : BitVec 32 := 3#32
  let v332 : BitVec 32 := Scalar.addi v331 c3_i32_157
  let v333 : Index := Scalar.indexCast v332
  let c0_158 : Index := 0#32
  ![v333.toNat, 0]
def k0_off44 (k0_t6 : Fin k0_t6_loop.trips) : Fin 2 → Nat :=
  let c0_i32_151 : BitVec 32 := 0#32
  let c1_i32_153 : BitVec 32 := 1#32
  let arg17 : BitVec 32 := Scf.iv c0_i32_151 c1_i32_153 k0_t6
  let c16_i32_161 : BitVec 32 := 16#32
  let v346 : BitVec 32 := Scalar.muli arg17 c16_i32_161
  let c3_i32_162 : BitVec 32 := 3#32
  let v347 : BitVec 32 := Scalar.addi v346 c3_i32_162
  let v348 : Index := Scalar.indexCast v347
  let c16_163 : Index := 16#32
  ![v348.toNat, 16]
def k0_off45 (k0_t6 : Fin k0_t6_loop.trips) : Fin 2 → Nat :=
  let c0_i32_151 : BitVec 32 := 0#32
  let c1_i32_153 : BitVec 32 := 1#32
  let arg17 : BitVec 32 := Scf.iv c0_i32_151 c1_i32_153 k0_t6
  let c16_i32_166 : BitVec 32 := 16#32
  let v361 : BitVec 32 := Scalar.muli arg17 c16_i32_166
  let c3_i32_167 : BitVec 32 := 3#32
  let v362 : BitVec 32 := Scalar.addi v361 c3_i32_167
  let v363 : Index := Scalar.indexCast v362
  let c32_168 : Index := 32#32
  ![v363.toNat, 32]
def k0_off46 (k0_t6 : Fin k0_t6_loop.trips) : Fin 2 → Nat :=
  let c0_i32_151 : BitVec 32 := 0#32
  let c1_i32_153 : BitVec 32 := 1#32
  let arg17 : BitVec 32 := Scf.iv c0_i32_151 c1_i32_153 k0_t6
  let c16_i32_170 : BitVec 32 := 16#32
  let v376 : BitVec 32 := Scalar.muli arg17 c16_i32_170
  let c3_i32_171 : BitVec 32 := 3#32
  let v377 : BitVec 32 := Scalar.addi v376 c3_i32_171
  let v378 : Index := Scalar.indexCast v377
  let c48_172 : Index := 48#32
  ![v378.toNat, 48]
def k0_off47 (k0_t6 : Fin k0_t6_loop.trips) : Fin 2 → Nat :=
  let c0_i32_151 : BitVec 32 := 0#32
  let c1_i32_153 : BitVec 32 := 1#32
  let arg17 : BitVec 32 := Scf.iv c0_i32_151 c1_i32_153 k0_t6
  let c16_i32_174 : BitVec 32 := 16#32
  let v391 : BitVec 32 := Scalar.muli arg17 c16_i32_174
  let c3_i32_175 : BitVec 32 := 3#32
  let v392 : BitVec 32 := Scalar.addi v391 c3_i32_175
  let v393 : Index := Scalar.indexCast v392
  let c64_176 : Index := 64#32
  ![v393.toNat, 64]
def k0_off48 (k0_t6 : Fin k0_t6_loop.trips) : Fin 2 → Nat :=
  let c0_i32_151 : BitVec 32 := 0#32
  let c1_i32_153 : BitVec 32 := 1#32
  let arg17 : BitVec 32 := Scf.iv c0_i32_151 c1_i32_153 k0_t6
  let c16_i32_178 : BitVec 32 := 16#32
  let v406 : BitVec 32 := Scalar.muli arg17 c16_i32_178
  let c3_i32_179 : BitVec 32 := 3#32
  let v407 : BitVec 32 := Scalar.addi v406 c3_i32_179
  let v408 : Index := Scalar.indexCast v407
  let c80_180 : Index := 80#32
  ![v408.toNat, 80]
def k0_off49 (k0_t6 : Fin k0_t6_loop.trips) : Fin 2 → Nat :=
  let c0_i32_151 : BitVec 32 := 0#32
  let c1_i32_153 : BitVec 32 := 1#32
  let arg17 : BitVec 32 := Scf.iv c0_i32_151 c1_i32_153 k0_t6
  let c16_i32_182 : BitVec 32 := 16#32
  let v421 : BitVec 32 := Scalar.muli arg17 c16_i32_182
  let c3_i32_183 : BitVec 32 := 3#32
  let v422 : BitVec 32 := Scalar.addi v421 c3_i32_183
  let v423 : Index := Scalar.indexCast v422
  let c96_184 : Index := 96#32
  ![v423.toNat, 96]
def k0_off50 (k0_t6 : Fin k0_t6_loop.trips) : Fin 2 → Nat :=
  let c0_i32_151 : BitVec 32 := 0#32
  let c1_i32_153 : BitVec 32 := 1#32
  let arg17 : BitVec 32 := Scf.iv c0_i32_151 c1_i32_153 k0_t6
  let c16_i32_186 : BitVec 32 := 16#32
  let v436 : BitVec 32 := Scalar.muli arg17 c16_i32_186
  let c3_i32_187 : BitVec 32 := 3#32
  let v437 : BitVec 32 := Scalar.addi v436 c3_i32_187
  let v438 : Index := Scalar.indexCast v437
  let c112_188 : Index := 112#32
  ![v438.toNat, 112]
@[reducible] def k0_t7_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off51 (i : grid0.Coords) (k0_t1 : Fin (k0_t1_loop i).trips) (v323 : BitVec 32) (k0_t7 : Fin k0_t7_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t7
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond8 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_114 : BitVec 32 := 16#32
  let v253 : BitVec 32 := Scalar.muli arg16 c16_i32_114
  let c4_i32_115 : BitVec 32 := 4#32
  let v254 : BitVec 32 := Scalar.addi v253 c4_i32_115
  let v103 : BitVec 32 := Scalar.subi v102 v89
  let v255 : BitVec 1 := Scalar.cmpi .slt v254 v103
  let v256 : BitVec 32 := Scalar.extui v255
  let c0_i32_116 : BitVec 32 := 0#32
  let v257 : BitVec 1 := Scalar.cmpi .ne v256 c0_i32_116
  v257

def k0_chk7 (i : grid0.Coords) (k0_t1 : Fin (k0_t1_loop i).trips) (v89 : BitVec 32) (v102 : BitVec 32) (k0_t2 : Fin (k0_t2_loop v89 v102).trips) (v323 : BitVec 32) : Prop :=
  (∀ k0_t7 : Fin k0_t7_loop.trips, ∀ (k0_h8 : k0_cond8 v89 v102 k0_t2 = 1#1), ∀ (r : Fin 8), ∀ a, (k0_off51 i k0_t1 v323 k0_t7 (BitVec.ofNat 32 (16 * r.val))) a + S1x1x16.size a ≤ S2x32x1024.size a)
theorem k0_off51_inb : ∀ (i : grid0.Coords) (k0_t1 : Fin (k0_t1_loop i).trips) (v89 : BitVec 32) (v102 : BitVec 32) (k0_t2 : Fin (k0_t2_loop v89 v102).trips) (v323 : BitVec 32) (k0_hw7 : k0_chk7 i k0_t1 v89 v102 k0_t2 v323) (k0_t7 : Fin k0_t7_loop.trips), ∀ (k0_h8 : k0_cond8 v89 v102 k0_t2 = 1#1), ∀ (r : Fin 8), ∀ a, (k0_off51 i k0_t1 v323 k0_t7 (BitVec.ofNat 32 (16 * r.val))) a + S1x1x16.size a ≤ S2x32x1024.size a := fun i k0_t1 v89 v102 k0_t2 v323 k0_hw7 k0_t7 k0_h8 r => k0_hw7 k0_t7 k0_h8 r

def k0_off52 (k0_t7 : Fin k0_t7_loop.trips) : Fin 2 → Nat :=
  let c0_i32_151 : BitVec 32 := 0#32
  let c1_i32_153 : BitVec 32 := 1#32
  let arg17 : BitVec 32 := Scf.iv c0_i32_151 c1_i32_153 k0_t7
  let c16_i32_156 : BitVec 32 := 16#32
  let v331 : BitVec 32 := Scalar.muli arg17 c16_i32_156
  let c4_i32_157 : BitVec 32 := 4#32
  let v332 : BitVec 32 := Scalar.addi v331 c4_i32_157
  let v333 : Index := Scalar.indexCast v332
  let c0_158 : Index := 0#32
  ![v333.toNat, 0]
def k0_off53 (k0_t7 : Fin k0_t7_loop.trips) : Fin 2 → Nat :=
  let c0_i32_151 : BitVec 32 := 0#32
  let c1_i32_153 : BitVec 32 := 1#32
  let arg17 : BitVec 32 := Scf.iv c0_i32_151 c1_i32_153 k0_t7
  let c16_i32_161 : BitVec 32 := 16#32
  let v346 : BitVec 32 := Scalar.muli arg17 c16_i32_161
  let c4_i32_162 : BitVec 32 := 4#32
  let v347 : BitVec 32 := Scalar.addi v346 c4_i32_162
  let v348 : Index := Scalar.indexCast v347
  let c16_163 : Index := 16#32
  ![v348.toNat, 16]
def k0_off54 (k0_t7 : Fin k0_t7_loop.trips) : Fin 2 → Nat :=
  let c0_i32_151 : BitVec 32 := 0#32
  let c1_i32_153 : BitVec 32 := 1#32
  let arg17 : BitVec 32 := Scf.iv c0_i32_151 c1_i32_153 k0_t7
  let c16_i32_166 : BitVec 32 := 16#32
  let v361 : BitVec 32 := Scalar.muli arg17 c16_i32_166
  let c4_i32_167 : BitVec 32 := 4#32
  let v362 : BitVec 32 := Scalar.addi v361 c4_i32_167
  let v363 : Index := Scalar.indexCast v362
  let c32_168 : Index := 32#32
  ![v363.toNat, 32]
def k0_off55 (k0_t7 : Fin k0_t7_loop.trips) : Fin 2 → Nat :=
  let c0_i32_151 : BitVec 32 := 0#32
  let c1_i32_153 : BitVec 32 := 1#32
  let arg17 : BitVec 32 := Scf.iv c0_i32_151 c1_i32_153 k0_t7
  let c16_i32_170 : BitVec 32 := 16#32
  let v376 : BitVec 32 := Scalar.muli arg17 c16_i32_170
  let c4_i32_171 : BitVec 32 := 4#32
  let v377 : BitVec 32 := Scalar.addi v376 c4_i32_171
  let v378 : Index := Scalar.indexCast v377
  let c48_172 : Index := 48#32
  ![v378.toNat, 48]
def k0_off56 (k0_t7 : Fin k0_t7_loop.trips) : Fin 2 → Nat :=
  let c0_i32_151 : BitVec 32 := 0#32
  let c1_i32_153 : BitVec 32 := 1#32
  let arg17 : BitVec 32 := Scf.iv c0_i32_151 c1_i32_153 k0_t7
  let c16_i32_174 : BitVec 32 := 16#32
  let v391 : BitVec 32 := Scalar.muli arg17 c16_i32_174
  let c4_i32_175 : BitVec 32 := 4#32
  let v392 : BitVec 32 := Scalar.addi v391 c4_i32_175
  let v393 : Index := Scalar.indexCast v392
  let c64_176 : Index := 64#32
  ![v393.toNat, 64]
def k0_off57 (k0_t7 : Fin k0_t7_loop.trips) : Fin 2 → Nat :=
  let c0_i32_151 : BitVec 32 := 0#32
  let c1_i32_153 : BitVec 32 := 1#32
  let arg17 : BitVec 32 := Scf.iv c0_i32_151 c1_i32_153 k0_t7
  let c16_i32_178 : BitVec 32 := 16#32
  let v406 : BitVec 32 := Scalar.muli arg17 c16_i32_178
  let c4_i32_179 : BitVec 32 := 4#32
  let v407 : BitVec 32 := Scalar.addi v406 c4_i32_179
  let v408 : Index := Scalar.indexCast v407
  let c80_180 : Index := 80#32
  ![v408.toNat, 80]
def k0_off58 (k0_t7 : Fin k0_t7_loop.trips) : Fin 2 → Nat :=
  let c0_i32_151 : BitVec 32 := 0#32
  let c1_i32_153 : BitVec 32 := 1#32
  let arg17 : BitVec 32 := Scf.iv c0_i32_151 c1_i32_153 k0_t7
  let c16_i32_182 : BitVec 32 := 16#32
  let v421 : BitVec 32 := Scalar.muli arg17 c16_i32_182
  let c4_i32_183 : BitVec 32 := 4#32
  let v422 : BitVec 32 := Scalar.addi v421 c4_i32_183
  let v423 : Index := Scalar.indexCast v422
  let c96_184 : Index := 96#32
  ![v423.toNat, 96]
def k0_off59 (k0_t7 : Fin k0_t7_loop.trips) : Fin 2 → Nat :=
  let c0_i32_151 : BitVec 32 := 0#32
  let c1_i32_153 : BitVec 32 := 1#32
  let arg17 : BitVec 32 := Scf.iv c0_i32_151 c1_i32_153 k0_t7
  let c16_i32_186 : BitVec 32 := 16#32
  let v436 : BitVec 32 := Scalar.muli arg17 c16_i32_186
  let c4_i32_187 : BitVec 32 := 4#32
  let v437 : BitVec 32 := Scalar.addi v436 c4_i32_187
  let v438 : Index := Scalar.indexCast v437
  let c112_188 : Index := 112#32
  ![v438.toNat, 112]
@[reducible] def k0_t8_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off60 (i : grid0.Coords) (k0_t1 : Fin (k0_t1_loop i).trips) (v323 : BitVec 32) (k0_t8 : Fin k0_t8_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t8
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond9 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_117 : BitVec 32 := 16#32
  let v258 : BitVec 32 := Scalar.muli arg16 c16_i32_117
  let c5_i32_118 : BitVec 32 := 5#32
  let v259 : BitVec 32 := Scalar.addi v258 c5_i32_118
  let v103 : BitVec 32 := Scalar.subi v102 v89
  let v260 : BitVec 1 := Scalar.cmpi .slt v259 v103
  let v261 : BitVec 32 := Scalar.extui v260
  let c0_i32_119 : BitVec 32 := 0#32
  let v262 : BitVec 1 := Scalar.cmpi .ne v261 c0_i32_119
  v262

def k0_chk8 (i : grid0.Coords) (k0_t1 : Fin (k0_t1_loop i).trips) (v89 : BitVec 32) (v102 : BitVec 32) (k0_t2 : Fin (k0_t2_loop v89 v102).trips) (v323 : BitVec 32) : Prop :=
  (∀ k0_t8 : Fin k0_t8_loop.trips, ∀ (k0_h9 : k0_cond9 v89 v102 k0_t2 = 1#1), ∀ (r : Fin 8), ∀ a, (k0_off60 i k0_t1 v323 k0_t8 (BitVec.ofNat 32 (16 * r.val))) a + S1x1x16.size a ≤ S2x32x1024.size a)
theorem k0_off60_inb : ∀ (i : grid0.Coords) (k0_t1 : Fin (k0_t1_loop i).trips) (v89 : BitVec 32) (v102 : BitVec 32) (k0_t2 : Fin (k0_t2_loop v89 v102).trips) (v323 : BitVec 32) (k0_hw8 : k0_chk8 i k0_t1 v89 v102 k0_t2 v323) (k0_t8 : Fin k0_t8_loop.trips), ∀ (k0_h9 : k0_cond9 v89 v102 k0_t2 = 1#1), ∀ (r : Fin 8), ∀ a, (k0_off60 i k0_t1 v323 k0_t8 (BitVec.ofNat 32 (16 * r.val))) a + S1x1x16.size a ≤ S2x32x1024.size a := fun i k0_t1 v89 v102 k0_t2 v323 k0_hw8 k0_t8 k0_h9 r => k0_hw8 k0_t8 k0_h9 r

def k0_off61 (k0_t8 : Fin k0_t8_loop.trips) : Fin 2 → Nat :=
  let c0_i32_151 : BitVec 32 := 0#32
  let c1_i32_153 : BitVec 32 := 1#32
  let arg17 : BitVec 32 := Scf.iv c0_i32_151 c1_i32_153 k0_t8
  let c16_i32_156 : BitVec 32 := 16#32
  let v331 : BitVec 32 := Scalar.muli arg17 c16_i32_156
  let c5_i32_157 : BitVec 32 := 5#32
  let v332 : BitVec 32 := Scalar.addi v331 c5_i32_157
  let v333 : Index := Scalar.indexCast v332
  let c0_158 : Index := 0#32
  ![v333.toNat, 0]
def k0_off62 (k0_t8 : Fin k0_t8_loop.trips) : Fin 2 → Nat :=
  let c0_i32_151 : BitVec 32 := 0#32
  let c1_i32_153 : BitVec 32 := 1#32
  let arg17 : BitVec 32 := Scf.iv c0_i32_151 c1_i32_153 k0_t8
  let c16_i32_161 : BitVec 32 := 16#32
  let v346 : BitVec 32 := Scalar.muli arg17 c16_i32_161
  let c5_i32_162 : BitVec 32 := 5#32
  let v347 : BitVec 32 := Scalar.addi v346 c5_i32_162
  let v348 : Index := Scalar.indexCast v347
  let c16_163 : Index := 16#32
  ![v348.toNat, 16]
def k0_off63 (k0_t8 : Fin k0_t8_loop.trips) : Fin 2 → Nat :=
  let c0_i32_151 : BitVec 32 := 0#32
  let c1_i32_153 : BitVec 32 := 1#32
  let arg17 : BitVec 32 := Scf.iv c0_i32_151 c1_i32_153 k0_t8
  let c16_i32_166 : BitVec 32 := 16#32
  let v361 : BitVec 32 := Scalar.muli arg17 c16_i32_166
  let c5_i32_167 : BitVec 32 := 5#32
  let v362 : BitVec 32 := Scalar.addi v361 c5_i32_167
  let v363 : Index := Scalar.indexCast v362
  let c32_168 : Index := 32#32
  ![v363.toNat, 32]
def k0_off64 (k0_t8 : Fin k0_t8_loop.trips) : Fin 2 → Nat :=
  let c0_i32_151 : BitVec 32 := 0#32
  let c1_i32_153 : BitVec 32 := 1#32
  let arg17 : BitVec 32 := Scf.iv c0_i32_151 c1_i32_153 k0_t8
  let c16_i32_170 : BitVec 32 := 16#32
  let v376 : BitVec 32 := Scalar.muli arg17 c16_i32_170
  let c5_i32_171 : BitVec 32 := 5#32
  let v377 : BitVec 32 := Scalar.addi v376 c5_i32_171
  let v378 : Index := Scalar.indexCast v377
  let c48_172 : Index := 48#32
  ![v378.toNat, 48]
def k0_off65 (k0_t8 : Fin k0_t8_loop.trips) : Fin 2 → Nat :=
  let c0_i32_151 : BitVec 32 := 0#32
  let c1_i32_153 : BitVec 32 := 1#32
  let arg17 : BitVec 32 := Scf.iv c0_i32_151 c1_i32_153 k0_t8
  let c16_i32_174 : BitVec 32 := 16#32
  let v391 : BitVec 32 := Scalar.muli arg17 c16_i32_174
  let c5_i32_175 : BitVec 32 := 5#32
  let v392 : BitVec 32 := Scalar.addi v391 c5_i32_175
  let v393 : Index := Scalar.indexCast v392
  let c64_176 : Index := 64#32
  ![v393.toNat, 64]
def k0_off66 (k0_t8 : Fin k0_t8_loop.trips) : Fin 2 → Nat :=
  let c0_i32_151 : BitVec 32 := 0#32
  let c1_i32_153 : BitVec 32 := 1#32
  let arg17 : BitVec 32 := Scf.iv c0_i32_151 c1_i32_153 k0_t8
  let c16_i32_178 : BitVec 32 := 16#32
  let v406 : BitVec 32 := Scalar.muli arg17 c16_i32_178
  let c5_i32_179 : BitVec 32 := 5#32
  let v407 : BitVec 32 := Scalar.addi v406 c5_i32_179
  let v408 : Index := Scalar.indexCast v407
  let c80_180 : Index := 80#32
  ![v408.toNat, 80]
def k0_off67 (k0_t8 : Fin k0_t8_loop.trips) : Fin 2 → Nat :=
  let c0_i32_151 : BitVec 32 := 0#32
  let c1_i32_153 : BitVec 32 := 1#32
  let arg17 : BitVec 32 := Scf.iv c0_i32_151 c1_i32_153 k0_t8
  let c16_i32_182 : BitVec 32 := 16#32
  let v421 : BitVec 32 := Scalar.muli arg17 c16_i32_182
  let c5_i32_183 : BitVec 32 := 5#32
  let v422 : BitVec 32 := Scalar.addi v421 c5_i32_183
  let v423 : Index := Scalar.indexCast v422
  let c96_184 : Index := 96#32
  ![v423.toNat, 96]
def k0_off68 (k0_t8 : Fin k0_t8_loop.trips) : Fin 2 → Nat :=
  let c0_i32_151 : BitVec 32 := 0#32
  let c1_i32_153 : BitVec 32 := 1#32
  let arg17 : BitVec 32 := Scf.iv c0_i32_151 c1_i32_153 k0_t8
  let c16_i32_186 : BitVec 32 := 16#32
  let v436 : BitVec 32 := Scalar.muli arg17 c16_i32_186
  let c5_i32_187 : BitVec 32 := 5#32
  let v437 : BitVec 32 := Scalar.addi v436 c5_i32_187
  let v438 : Index := Scalar.indexCast v437
  let c112_188 : Index := 112#32
  ![v438.toNat, 112]
@[reducible] def k0_t9_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off69 (i : grid0.Coords) (k0_t1 : Fin (k0_t1_loop i).trips) (v323 : BitVec 32) (k0_t9 : Fin k0_t9_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t9
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond10 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_120 : BitVec 32 := 16#32
  let v263 : BitVec 32 := Scalar.muli arg16 c16_i32_120
  let c6_i32_121 : BitVec 32 := 6#32
  let v264 : BitVec 32 := Scalar.addi v263 c6_i32_121
  let v103 : BitVec 32 := Scalar.subi v102 v89
  let v265 : BitVec 1 := Scalar.cmpi .slt v264 v103
  let v266 : BitVec 32 := Scalar.extui v265
  let c0_i32_122 : BitVec 32 := 0#32
  let v267 : BitVec 1 := Scalar.cmpi .ne v266 c0_i32_122
  v267

def k0_chk9 (i : grid0.Coords) (k0_t1 : Fin (k0_t1_loop i).trips) (v89 : BitVec 32) (v102 : BitVec 32) (k0_t2 : Fin (k0_t2_loop v89 v102).trips) (v323 : BitVec 32) : Prop :=
  (∀ k0_t9 : Fin k0_t9_loop.trips, ∀ (k0_h10 : k0_cond10 v89 v102 k0_t2 = 1#1), ∀ (r : Fin 8), ∀ a, (k0_off69 i k0_t1 v323 k0_t9 (BitVec.ofNat 32 (16 * r.val))) a + S1x1x16.size a ≤ S2x32x1024.size a)
theorem k0_off69_inb : ∀ (i : grid0.Coords) (k0_t1 : Fin (k0_t1_loop i).trips) (v89 : BitVec 32) (v102 : BitVec 32) (k0_t2 : Fin (k0_t2_loop v89 v102).trips) (v323 : BitVec 32) (k0_hw9 : k0_chk9 i k0_t1 v89 v102 k0_t2 v323) (k0_t9 : Fin k0_t9_loop.trips), ∀ (k0_h10 : k0_cond10 v89 v102 k0_t2 = 1#1), ∀ (r : Fin 8), ∀ a, (k0_off69 i k0_t1 v323 k0_t9 (BitVec.ofNat 32 (16 * r.val))) a + S1x1x16.size a ≤ S2x32x1024.size a := fun i k0_t1 v89 v102 k0_t2 v323 k0_hw9 k0_t9 k0_h10 r => k0_hw9 k0_t9 k0_h10 r

def k0_off70 (k0_t9 : Fin k0_t9_loop.trips) : Fin 2 → Nat :=
  let c0_i32_151 : BitVec 32 := 0#32
  let c1_i32_153 : BitVec 32 := 1#32
  let arg17 : BitVec 32 := Scf.iv c0_i32_151 c1_i32_153 k0_t9
  let c16_i32_156 : BitVec 32 := 16#32
  let v331 : BitVec 32 := Scalar.muli arg17 c16_i32_156
  let c6_i32_157 : BitVec 32 := 6#32
  let v332 : BitVec 32 := Scalar.addi v331 c6_i32_157
  let v333 : Index := Scalar.indexCast v332
  let c0_158 : Index := 0#32
  ![v333.toNat, 0]
def k0_off71 (k0_t9 : Fin k0_t9_loop.trips) : Fin 2 → Nat :=
  let c0_i32_151 : BitVec 32 := 0#32
  let c1_i32_153 : BitVec 32 := 1#32
  let arg17 : BitVec 32 := Scf.iv c0_i32_151 c1_i32_153 k0_t9
  let c16_i32_161 : BitVec 32 := 16#32
  let v346 : BitVec 32 := Scalar.muli arg17 c16_i32_161
  let c6_i32_162 : BitVec 32 := 6#32
  let v347 : BitVec 32 := Scalar.addi v346 c6_i32_162
  let v348 : Index := Scalar.indexCast v347
  let c16_163 : Index := 16#32
  ![v348.toNat, 16]
def k0_off72 (k0_t9 : Fin k0_t9_loop.trips) : Fin 2 → Nat :=
  let c0_i32_151 : BitVec 32 := 0#32
  let c1_i32_153 : BitVec 32 := 1#32
  let arg17 : BitVec 32 := Scf.iv c0_i32_151 c1_i32_153 k0_t9
  let c16_i32_166 : BitVec 32 := 16#32
  let v361 : BitVec 32 := Scalar.muli arg17 c16_i32_166
  let c6_i32_167 : BitVec 32 := 6#32
  let v362 : BitVec 32 := Scalar.addi v361 c6_i32_167
  let v363 : Index := Scalar.indexCast v362
  let c32_168 : Index := 32#32
  ![v363.toNat, 32]
def k0_off73 (k0_t9 : Fin k0_t9_loop.trips) : Fin 2 → Nat :=
  let c0_i32_151 : BitVec 32 := 0#32
  let c1_i32_153 : BitVec 32 := 1#32
  let arg17 : BitVec 32 := Scf.iv c0_i32_151 c1_i32_153 k0_t9
  let c16_i32_170 : BitVec 32 := 16#32
  let v376 : BitVec 32 := Scalar.muli arg17 c16_i32_170
  let c6_i32_171 : BitVec 32 := 6#32
  let v377 : BitVec 32 := Scalar.addi v376 c6_i32_171
  let v378 : Index := Scalar.indexCast v377
  let c48_172 : Index := 48#32
  ![v378.toNat, 48]
def k0_off74 (k0_t9 : Fin k0_t9_loop.trips) : Fin 2 → Nat :=
  let c0_i32_151 : BitVec 32 := 0#32
  let c1_i32_153 : BitVec 32 := 1#32
  let arg17 : BitVec 32 := Scf.iv c0_i32_151 c1_i32_153 k0_t9
  let c16_i32_174 : BitVec 32 := 16#32
  let v391 : BitVec 32 := Scalar.muli arg17 c16_i32_174
  let c6_i32_175 : BitVec 32 := 6#32
  let v392 : BitVec 32 := Scalar.addi v391 c6_i32_175
  let v393 : Index := Scalar.indexCast v392
  let c64_176 : Index := 64#32
  ![v393.toNat, 64]
def k0_off75 (k0_t9 : Fin k0_t9_loop.trips) : Fin 2 → Nat :=
  let c0_i32_151 : BitVec 32 := 0#32
  let c1_i32_153 : BitVec 32 := 1#32
  let arg17 : BitVec 32 := Scf.iv c0_i32_151 c1_i32_153 k0_t9
  let c16_i32_178 : BitVec 32 := 16#32
  let v406 : BitVec 32 := Scalar.muli arg17 c16_i32_178
  let c6_i32_179 : BitVec 32 := 6#32
  let v407 : BitVec 32 := Scalar.addi v406 c6_i32_179
  let v408 : Index := Scalar.indexCast v407
  let c80_180 : Index := 80#32
  ![v408.toNat, 80]
def k0_off76 (k0_t9 : Fin k0_t9_loop.trips) : Fin 2 → Nat :=
  let c0_i32_151 : BitVec 32 := 0#32
  let c1_i32_153 : BitVec 32 := 1#32
  let arg17 : BitVec 32 := Scf.iv c0_i32_151 c1_i32_153 k0_t9
  let c16_i32_182 : BitVec 32 := 16#32
  let v421 : BitVec 32 := Scalar.muli arg17 c16_i32_182
  let c6_i32_183 : BitVec 32 := 6#32
  let v422 : BitVec 32 := Scalar.addi v421 c6_i32_183
  let v423 : Index := Scalar.indexCast v422
  let c96_184 : Index := 96#32
  ![v423.toNat, 96]
def k0_off77 (k0_t9 : Fin k0_t9_loop.trips) : Fin 2 → Nat :=
  let c0_i32_151 : BitVec 32 := 0#32
  let c1_i32_153 : BitVec 32 := 1#32
  let arg17 : BitVec 32 := Scf.iv c0_i32_151 c1_i32_153 k0_t9
  let c16_i32_186 : BitVec 32 := 16#32
  let v436 : BitVec 32 := Scalar.muli arg17 c16_i32_186
  let c6_i32_187 : BitVec 32 := 6#32
  let v437 : BitVec 32 := Scalar.addi v436 c6_i32_187
  let v438 : Index := Scalar.indexCast v437
  let c112_188 : Index := 112#32
  ![v438.toNat, 112]
@[reducible] def k0_t10_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off78 (i : grid0.Coords) (k0_t1 : Fin (k0_t1_loop i).trips) (v323 : BitVec 32) (k0_t10 : Fin k0_t10_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t10
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond11 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_123 : BitVec 32 := 16#32
  let v268 : BitVec 32 := Scalar.muli arg16 c16_i32_123
  let c7_i32_124 : BitVec 32 := 7#32
  let v269 : BitVec 32 := Scalar.addi v268 c7_i32_124
  let v103 : BitVec 32 := Scalar.subi v102 v89
  let v270 : BitVec 1 := Scalar.cmpi .slt v269 v103
  let v271 : BitVec 32 := Scalar.extui v270
  let c0_i32_125 : BitVec 32 := 0#32
  let v272 : BitVec 1 := Scalar.cmpi .ne v271 c0_i32_125
  v272

def k0_chk10 (i : grid0.Coords) (k0_t1 : Fin (k0_t1_loop i).trips) (v89 : BitVec 32) (v102 : BitVec 32) (k0_t2 : Fin (k0_t2_loop v89 v102).trips) (v323 : BitVec 32) : Prop :=
  (∀ k0_t10 : Fin k0_t10_loop.trips, ∀ (k0_h11 : k0_cond11 v89 v102 k0_t2 = 1#1), ∀ (r : Fin 8), ∀ a, (k0_off78 i k0_t1 v323 k0_t10 (BitVec.ofNat 32 (16 * r.val))) a + S1x1x16.size a ≤ S2x32x1024.size a)
theorem k0_off78_inb : ∀ (i : grid0.Coords) (k0_t1 : Fin (k0_t1_loop i).trips) (v89 : BitVec 32) (v102 : BitVec 32) (k0_t2 : Fin (k0_t2_loop v89 v102).trips) (v323 : BitVec 32) (k0_hw10 : k0_chk10 i k0_t1 v89 v102 k0_t2 v323) (k0_t10 : Fin k0_t10_loop.trips), ∀ (k0_h11 : k0_cond11 v89 v102 k0_t2 = 1#1), ∀ (r : Fin 8), ∀ a, (k0_off78 i k0_t1 v323 k0_t10 (BitVec.ofNat 32 (16 * r.val))) a + S1x1x16.size a ≤ S2x32x1024.size a := fun i k0_t1 v89 v102 k0_t2 v323 k0_hw10 k0_t10 k0_h11 r => k0_hw10 k0_t10 k0_h11 r

def k0_off79 (k0_t10 : Fin k0_t10_loop.trips) : Fin 2 → Nat :=
  let c0_i32_151 : BitVec 32 := 0#32
  let c1_i32_153 : BitVec 32 := 1#32
  let arg17 : BitVec 32 := Scf.iv c0_i32_151 c1_i32_153 k0_t10
  let c16_i32_156 : BitVec 32 := 16#32
  let v331 : BitVec 32 := Scalar.muli arg17 c16_i32_156
  let c7_i32_157 : BitVec 32 := 7#32
  let v332 : BitVec 32 := Scalar.addi v331 c7_i32_157
  let v333 : Index := Scalar.indexCast v332
  let c0_158 : Index := 0#32
  ![v333.toNat, 0]
def k0_off80 (k0_t10 : Fin k0_t10_loop.trips) : Fin 2 → Nat :=
  let c0_i32_151 : BitVec 32 := 0#32
  let c1_i32_153 : BitVec 32 := 1#32
  let arg17 : BitVec 32 := Scf.iv c0_i32_151 c1_i32_153 k0_t10
  let c16_i32_161 : BitVec 32 := 16#32
  let v346 : BitVec 32 := Scalar.muli arg17 c16_i32_161
  let c7_i32_162 : BitVec 32 := 7#32
  let v347 : BitVec 32 := Scalar.addi v346 c7_i32_162
  let v348 : Index := Scalar.indexCast v347
  let c16_163 : Index := 16#32
  ![v348.toNat, 16]
def k0_off81 (k0_t10 : Fin k0_t10_loop.trips) : Fin 2 → Nat :=
  let c0_i32_151 : BitVec 32 := 0#32
  let c1_i32_153 : BitVec 32 := 1#32
  let arg17 : BitVec 32 := Scf.iv c0_i32_151 c1_i32_153 k0_t10
  let c16_i32_166 : BitVec 32 := 16#32
  let v361 : BitVec 32 := Scalar.muli arg17 c16_i32_166
  let c7_i32_167 : BitVec 32 := 7#32
  let v362 : BitVec 32 := Scalar.addi v361 c7_i32_167
  let v363 : Index := Scalar.indexCast v362
  let c32_168 : Index := 32#32
  ![v363.toNat, 32]
def k0_off82 (k0_t10 : Fin k0_t10_loop.trips) : Fin 2 → Nat :=
  let c0_i32_151 : BitVec 32 := 0#32
  let c1_i32_153 : BitVec 32 := 1#32
  let arg17 : BitVec 32 := Scf.iv c0_i32_151 c1_i32_153 k0_t10
  let c16_i32_170 : BitVec 32 := 16#32
  let v376 : BitVec 32 := Scalar.muli arg17 c16_i32_170
  let c7_i32_171 : BitVec 32 := 7#32
  let v377 : BitVec 32 := Scalar.addi v376 c7_i32_171
  let v378 : Index := Scalar.indexCast v377
  let c48_172 : Index := 48#32
  ![v378.toNat, 48]
def k0_off83 (k0_t10 : Fin k0_t10_loop.trips) : Fin 2 → Nat :=
  let c0_i32_151 : BitVec 32 := 0#32
  let c1_i32_153 : BitVec 32 := 1#32
  let arg17 : BitVec 32 := Scf.iv c0_i32_151 c1_i32_153 k0_t10
  let c16_i32_174 : BitVec 32 := 16#32
  let v391 : BitVec 32 := Scalar.muli arg17 c16_i32_174
  let c7_i32_175 : BitVec 32 := 7#32
  let v392 : BitVec 32 := Scalar.addi v391 c7_i32_175
  let v393 : Index := Scalar.indexCast v392
  let c64_176 : Index := 64#32
  ![v393.toNat, 64]
def k0_off84 (k0_t10 : Fin k0_t10_loop.trips) : Fin 2 → Nat :=
  let c0_i32_151 : BitVec 32 := 0#32
  let c1_i32_153 : BitVec 32 := 1#32
  let arg17 : BitVec 32 := Scf.iv c0_i32_151 c1_i32_153 k0_t10
  let c16_i32_178 : BitVec 32 := 16#32
  let v406 : BitVec 32 := Scalar.muli arg17 c16_i32_178
  let c7_i32_179 : BitVec 32 := 7#32
  let v407 : BitVec 32 := Scalar.addi v406 c7_i32_179
  let v408 : Index := Scalar.indexCast v407
  let c80_180 : Index := 80#32
  ![v408.toNat, 80]
def k0_off85 (k0_t10 : Fin k0_t10_loop.trips) : Fin 2 → Nat :=
  let c0_i32_151 : BitVec 32 := 0#32
  let c1_i32_153 : BitVec 32 := 1#32
  let arg17 : BitVec 32 := Scf.iv c0_i32_151 c1_i32_153 k0_t10
  let c16_i32_182 : BitVec 32 := 16#32
  let v421 : BitVec 32 := Scalar.muli arg17 c16_i32_182
  let c7_i32_183 : BitVec 32 := 7#32
  let v422 : BitVec 32 := Scalar.addi v421 c7_i32_183
  let v423 : Index := Scalar.indexCast v422
  let c96_184 : Index := 96#32
  ![v423.toNat, 96]
def k0_off86 (k0_t10 : Fin k0_t10_loop.trips) : Fin 2 → Nat :=
  let c0_i32_151 : BitVec 32 := 0#32
  let c1_i32_153 : BitVec 32 := 1#32
  let arg17 : BitVec 32 := Scf.iv c0_i32_151 c1_i32_153 k0_t10
  let c16_i32_186 : BitVec 32 := 16#32
  let v436 : BitVec 32 := Scalar.muli arg17 c16_i32_186
  let c7_i32_187 : BitVec 32 := 7#32
  let v437 : BitVec 32 := Scalar.addi v436 c7_i32_187
  let v438 : Index := Scalar.indexCast v437
  let c112_188 : Index := 112#32
  ![v438.toNat, 112]
@[reducible] def k0_t11_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off87 (i : grid0.Coords) (k0_t1 : Fin (k0_t1_loop i).trips) (v323 : BitVec 32) (k0_t11 : Fin k0_t11_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t11
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond12 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_126 : BitVec 32 := 16#32
  let v273 : BitVec 32 := Scalar.muli arg16 c16_i32_126
  let c8_i32_127 : BitVec 32 := 8#32
  let v274 : BitVec 32 := Scalar.addi v273 c8_i32_127
  let v103 : BitVec 32 := Scalar.subi v102 v89
  let v275 : BitVec 1 := Scalar.cmpi .slt v274 v103
  let v276 : BitVec 32 := Scalar.extui v275
  let c0_i32_128 : BitVec 32 := 0#32
  let v277 : BitVec 1 := Scalar.cmpi .ne v276 c0_i32_128
  v277

def k0_chk11 (i : grid0.Coords) (k0_t1 : Fin (k0_t1_loop i).trips) (v89 : BitVec 32) (v102 : BitVec 32) (k0_t2 : Fin (k0_t2_loop v89 v102).trips) (v323 : BitVec 32) : Prop :=
  (∀ k0_t11 : Fin k0_t11_loop.trips, ∀ (k0_h12 : k0_cond12 v89 v102 k0_t2 = 1#1), ∀ (r : Fin 8), ∀ a, (k0_off87 i k0_t1 v323 k0_t11 (BitVec.ofNat 32 (16 * r.val))) a + S1x1x16.size a ≤ S2x32x1024.size a)
theorem k0_off87_inb : ∀ (i : grid0.Coords) (k0_t1 : Fin (k0_t1_loop i).trips) (v89 : BitVec 32) (v102 : BitVec 32) (k0_t2 : Fin (k0_t2_loop v89 v102).trips) (v323 : BitVec 32) (k0_hw11 : k0_chk11 i k0_t1 v89 v102 k0_t2 v323) (k0_t11 : Fin k0_t11_loop.trips), ∀ (k0_h12 : k0_cond12 v89 v102 k0_t2 = 1#1), ∀ (r : Fin 8), ∀ a, (k0_off87 i k0_t1 v323 k0_t11 (BitVec.ofNat 32 (16 * r.val))) a + S1x1x16.size a ≤ S2x32x1024.size a := fun i k0_t1 v89 v102 k0_t2 v323 k0_hw11 k0_t11 k0_h12 r => k0_hw11 k0_t11 k0_h12 r

def k0_off88 (k0_t11 : Fin k0_t11_loop.trips) : Fin 2 → Nat :=
  let c0_i32_151 : BitVec 32 := 0#32
  let c1_i32_153 : BitVec 32 := 1#32
  let arg17 : BitVec 32 := Scf.iv c0_i32_151 c1_i32_153 k0_t11
  let c16_i32_156 : BitVec 32 := 16#32
  let v331 : BitVec 32 := Scalar.muli arg17 c16_i32_156
  let c8_i32_157 : BitVec 32 := 8#32
  let v332 : BitVec 32 := Scalar.addi v331 c8_i32_157
  let v333 : Index := Scalar.indexCast v332
  let c0_158 : Index := 0#32
  ![v333.toNat, 0]
def k0_off89 (k0_t11 : Fin k0_t11_loop.trips) : Fin 2 → Nat :=
  let c0_i32_151 : BitVec 32 := 0#32
  let c1_i32_153 : BitVec 32 := 1#32
  let arg17 : BitVec 32 := Scf.iv c0_i32_151 c1_i32_153 k0_t11
  let c16_i32_161 : BitVec 32 := 16#32
  let v346 : BitVec 32 := Scalar.muli arg17 c16_i32_161
  let c8_i32_162 : BitVec 32 := 8#32
  let v347 : BitVec 32 := Scalar.addi v346 c8_i32_162
  let v348 : Index := Scalar.indexCast v347
  let c16_163 : Index := 16#32
  ![v348.toNat, 16]
def k0_off90 (k0_t11 : Fin k0_t11_loop.trips) : Fin 2 → Nat :=
  let c0_i32_151 : BitVec 32 := 0#32
  let c1_i32_153 : BitVec 32 := 1#32
  let arg17 : BitVec 32 := Scf.iv c0_i32_151 c1_i32_153 k0_t11
  let c16_i32_166 : BitVec 32 := 16#32
  let v361 : BitVec 32 := Scalar.muli arg17 c16_i32_166
  let c8_i32_167 : BitVec 32 := 8#32
  let v362 : BitVec 32 := Scalar.addi v361 c8_i32_167
  let v363 : Index := Scalar.indexCast v362
  let c32_168 : Index := 32#32
  ![v363.toNat, 32]
def k0_off91 (k0_t11 : Fin k0_t11_loop.trips) : Fin 2 → Nat :=
  let c0_i32_151 : BitVec 32 := 0#32
  let c1_i32_153 : BitVec 32 := 1#32
  let arg17 : BitVec 32 := Scf.iv c0_i32_151 c1_i32_153 k0_t11
  let c16_i32_170 : BitVec 32 := 16#32
  let v376 : BitVec 32 := Scalar.muli arg17 c16_i32_170
  let c8_i32_171 : BitVec 32 := 8#32
  let v377 : BitVec 32 := Scalar.addi v376 c8_i32_171
  let v378 : Index := Scalar.indexCast v377
  let c48_172 : Index := 48#32
  ![v378.toNat, 48]
def k0_off92 (k0_t11 : Fin k0_t11_loop.trips) : Fin 2 → Nat :=
  let c0_i32_151 : BitVec 32 := 0#32
  let c1_i32_153 : BitVec 32 := 1#32
  let arg17 : BitVec 32 := Scf.iv c0_i32_151 c1_i32_153 k0_t11
  let c16_i32_174 : BitVec 32 := 16#32
  let v391 : BitVec 32 := Scalar.muli arg17 c16_i32_174
  let c8_i32_175 : BitVec 32 := 8#32
  let v392 : BitVec 32 := Scalar.addi v391 c8_i32_175
  let v393 : Index := Scalar.indexCast v392
  let c64_176 : Index := 64#32
  ![v393.toNat, 64]
def k0_off93 (k0_t11 : Fin k0_t11_loop.trips) : Fin 2 → Nat :=
  let c0_i32_151 : BitVec 32 := 0#32
  let c1_i32_153 : BitVec 32 := 1#32
  let arg17 : BitVec 32 := Scf.iv c0_i32_151 c1_i32_153 k0_t11
  let c16_i32_178 : BitVec 32 := 16#32
  let v406 : BitVec 32 := Scalar.muli arg17 c16_i32_178
  let c8_i32_179 : BitVec 32 := 8#32
  let v407 : BitVec 32 := Scalar.addi v406 c8_i32_179
  let v408 : Index := Scalar.indexCast v407
  let c80_180 : Index := 80#32
  ![v408.toNat, 80]
def k0_off94 (k0_t11 : Fin k0_t11_loop.trips) : Fin 2 → Nat :=
  let c0_i32_151 : BitVec 32 := 0#32
  let c1_i32_153 : BitVec 32 := 1#32
  let arg17 : BitVec 32 := Scf.iv c0_i32_151 c1_i32_153 k0_t11
  let c16_i32_182 : BitVec 32 := 16#32
  let v421 : BitVec 32 := Scalar.muli arg17 c16_i32_182
  let c8_i32_183 : BitVec 32 := 8#32
  let v422 : BitVec 32 := Scalar.addi v421 c8_i32_183
  let v423 : Index := Scalar.indexCast v422
  let c96_184 : Index := 96#32
  ![v423.toNat, 96]
def k0_off95 (k0_t11 : Fin k0_t11_loop.trips) : Fin 2 → Nat :=
  let c0_i32_151 : BitVec 32 := 0#32
  let c1_i32_153 : BitVec 32 := 1#32
  let arg17 : BitVec 32 := Scf.iv c0_i32_151 c1_i32_153 k0_t11
  let c16_i32_186 : BitVec 32 := 16#32
  let v436 : BitVec 32 := Scalar.muli arg17 c16_i32_186
  let c8_i32_187 : BitVec 32 := 8#32
  let v437 : BitVec 32 := Scalar.addi v436 c8_i32_187
  let v438 : Index := Scalar.indexCast v437
  let c112_188 : Index := 112#32
  ![v438.toNat, 112]
@[reducible] def k0_t12_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off96 (i : grid0.Coords) (k0_t1 : Fin (k0_t1_loop i).trips) (v323 : BitVec 32) (k0_t12 : Fin k0_t12_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t12
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond13 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_129 : BitVec 32 := 16#32
  let v278 : BitVec 32 := Scalar.muli arg16 c16_i32_129
  let c9_i32 : BitVec 32 := 9#32
  let v279 : BitVec 32 := Scalar.addi v278 c9_i32
  let v103 : BitVec 32 := Scalar.subi v102 v89
  let v280 : BitVec 1 := Scalar.cmpi .slt v279 v103
  let v281 : BitVec 32 := Scalar.extui v280
  let c0_i32_130 : BitVec 32 := 0#32
  let v282 : BitVec 1 := Scalar.cmpi .ne v281 c0_i32_130
  v282

def k0_chk12 (i : grid0.Coords) (k0_t1 : Fin (k0_t1_loop i).trips) (v89 : BitVec 32) (v102 : BitVec 32) (k0_t2 : Fin (k0_t2_loop v89 v102).trips) (v323 : BitVec 32) : Prop :=
  (∀ k0_t12 : Fin k0_t12_loop.trips, ∀ (k0_h13 : k0_cond13 v89 v102 k0_t2 = 1#1), ∀ (r : Fin 8), ∀ a, (k0_off96 i k0_t1 v323 k0_t12 (BitVec.ofNat 32 (16 * r.val))) a + S1x1x16.size a ≤ S2x32x1024.size a)
theorem k0_off96_inb : ∀ (i : grid0.Coords) (k0_t1 : Fin (k0_t1_loop i).trips) (v89 : BitVec 32) (v102 : BitVec 32) (k0_t2 : Fin (k0_t2_loop v89 v102).trips) (v323 : BitVec 32) (k0_hw12 : k0_chk12 i k0_t1 v89 v102 k0_t2 v323) (k0_t12 : Fin k0_t12_loop.trips), ∀ (k0_h13 : k0_cond13 v89 v102 k0_t2 = 1#1), ∀ (r : Fin 8), ∀ a, (k0_off96 i k0_t1 v323 k0_t12 (BitVec.ofNat 32 (16 * r.val))) a + S1x1x16.size a ≤ S2x32x1024.size a := fun i k0_t1 v89 v102 k0_t2 v323 k0_hw12 k0_t12 k0_h13 r => k0_hw12 k0_t12 k0_h13 r

def k0_off97 (k0_t12 : Fin k0_t12_loop.trips) : Fin 2 → Nat :=
  let c0_i32_151 : BitVec 32 := 0#32
  let c1_i32_153 : BitVec 32 := 1#32
  let arg17 : BitVec 32 := Scf.iv c0_i32_151 c1_i32_153 k0_t12
  let c16_i32_156 : BitVec 32 := 16#32
  let v331 : BitVec 32 := Scalar.muli arg17 c16_i32_156
  let c9_i32_157 : BitVec 32 := 9#32
  let v332 : BitVec 32 := Scalar.addi v331 c9_i32_157
  let v333 : Index := Scalar.indexCast v332
  let c0_158 : Index := 0#32
  ![v333.toNat, 0]
def k0_off98 (k0_t12 : Fin k0_t12_loop.trips) : Fin 2 → Nat :=
  let c0_i32_151 : BitVec 32 := 0#32
  let c1_i32_153 : BitVec 32 := 1#32
  let arg17 : BitVec 32 := Scf.iv c0_i32_151 c1_i32_153 k0_t12
  let c16_i32_161 : BitVec 32 := 16#32
  let v346 : BitVec 32 := Scalar.muli arg17 c16_i32_161
  let c9_i32_162 : BitVec 32 := 9#32
  let v347 : BitVec 32 := Scalar.addi v346 c9_i32_162
  let v348 : Index := Scalar.indexCast v347
  let c16_163 : Index := 16#32
  ![v348.toNat, 16]
def k0_off99 (k0_t12 : Fin k0_t12_loop.trips) : Fin 2 → Nat :=
  let c0_i32_151 : BitVec 32 := 0#32
  let c1_i32_153 : BitVec 32 := 1#32
  let arg17 : BitVec 32 := Scf.iv c0_i32_151 c1_i32_153 k0_t12
  let c16_i32_166 : BitVec 32 := 16#32
  let v361 : BitVec 32 := Scalar.muli arg17 c16_i32_166
  let c9_i32_167 : BitVec 32 := 9#32
  let v362 : BitVec 32 := Scalar.addi v361 c9_i32_167
  let v363 : Index := Scalar.indexCast v362
  let c32_168 : Index := 32#32
  ![v363.toNat, 32]
def k0_off100 (k0_t12 : Fin k0_t12_loop.trips) : Fin 2 → Nat :=
  let c0_i32_151 : BitVec 32 := 0#32
  let c1_i32_153 : BitVec 32 := 1#32
  let arg17 : BitVec 32 := Scf.iv c0_i32_151 c1_i32_153 k0_t12
  let c16_i32_170 : BitVec 32 := 16#32
  let v376 : BitVec 32 := Scalar.muli arg17 c16_i32_170
  let c9_i32_171 : BitVec 32 := 9#32
  let v377 : BitVec 32 := Scalar.addi v376 c9_i32_171
  let v378 : Index := Scalar.indexCast v377
  let c48_172 : Index := 48#32
  ![v378.toNat, 48]
def k0_off101 (k0_t12 : Fin k0_t12_loop.trips) : Fin 2 → Nat :=
  let c0_i32_151 : BitVec 32 := 0#32
  let c1_i32_153 : BitVec 32 := 1#32
  let arg17 : BitVec 32 := Scf.iv c0_i32_151 c1_i32_153 k0_t12
  let c16_i32_174 : BitVec 32 := 16#32
  let v391 : BitVec 32 := Scalar.muli arg17 c16_i32_174
  let c9_i32_175 : BitVec 32 := 9#32
  let v392 : BitVec 32 := Scalar.addi v391 c9_i32_175
  let v393 : Index := Scalar.indexCast v392
  let c64_176 : Index := 64#32
  ![v393.toNat, 64]
def k0_off102 (k0_t12 : Fin k0_t12_loop.trips) : Fin 2 → Nat :=
  let c0_i32_151 : BitVec 32 := 0#32
  let c1_i32_153 : BitVec 32 := 1#32
  let arg17 : BitVec 32 := Scf.iv c0_i32_151 c1_i32_153 k0_t12
  let c16_i32_178 : BitVec 32 := 16#32
  let v406 : BitVec 32 := Scalar.muli arg17 c16_i32_178
  let c9_i32_179 : BitVec 32 := 9#32
  let v407 : BitVec 32 := Scalar.addi v406 c9_i32_179
  let v408 : Index := Scalar.indexCast v407
  let c80_180 : Index := 80#32
  ![v408.toNat, 80]
def k0_off103 (k0_t12 : Fin k0_t12_loop.trips) : Fin 2 → Nat :=
  let c0_i32_151 : BitVec 32 := 0#32
  let c1_i32_153 : BitVec 32 := 1#32
  let arg17 : BitVec 32 := Scf.iv c0_i32_151 c1_i32_153 k0_t12
  let c16_i32_182 : BitVec 32 := 16#32
  let v421 : BitVec 32 := Scalar.muli arg17 c16_i32_182
  let c9_i32_183 : BitVec 32 := 9#32
  let v422 : BitVec 32 := Scalar.addi v421 c9_i32_183
  let v423 : Index := Scalar.indexCast v422
  let c96_184 : Index := 96#32
  ![v423.toNat, 96]
def k0_off104 (k0_t12 : Fin k0_t12_loop.trips) : Fin 2 → Nat :=
  let c0_i32_151 : BitVec 32 := 0#32
  let c1_i32_153 : BitVec 32 := 1#32
  let arg17 : BitVec 32 := Scf.iv c0_i32_151 c1_i32_153 k0_t12
  let c16_i32_186 : BitVec 32 := 16#32
  let v436 : BitVec 32 := Scalar.muli arg17 c16_i32_186
  let c9_i32_187 : BitVec 32 := 9#32
  let v437 : BitVec 32 := Scalar.addi v436 c9_i32_187
  let v438 : Index := Scalar.indexCast v437
  let c112_188 : Index := 112#32
  ![v438.toNat, 112]
@[reducible] def k0_t13_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off105 (i : grid0.Coords) (k0_t1 : Fin (k0_t1_loop i).trips) (v323 : BitVec 32) (k0_t13 : Fin k0_t13_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t13
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond14 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_131 : BitVec 32 := 16#32
  let v283 : BitVec 32 := Scalar.muli arg16 c16_i32_131
  let c10_i32 : BitVec 32 := 10#32
  let v284 : BitVec 32 := Scalar.addi v283 c10_i32
  let v103 : BitVec 32 := Scalar.subi v102 v89
  let v285 : BitVec 1 := Scalar.cmpi .slt v284 v103
  let v286 : BitVec 32 := Scalar.extui v285
  let c0_i32_132 : BitVec 32 := 0#32
  let v287 : BitVec 1 := Scalar.cmpi .ne v286 c0_i32_132
  v287

def k0_chk13 (i : grid0.Coords) (k0_t1 : Fin (k0_t1_loop i).trips) (v89 : BitVec 32) (v102 : BitVec 32) (k0_t2 : Fin (k0_t2_loop v89 v102).trips) (v323 : BitVec 32) : Prop :=
  (∀ k0_t13 : Fin k0_t13_loop.trips, ∀ (k0_h14 : k0_cond14 v89 v102 k0_t2 = 1#1), ∀ (r : Fin 8), ∀ a, (k0_off105 i k0_t1 v323 k0_t13 (BitVec.ofNat 32 (16 * r.val))) a + S1x1x16.size a ≤ S2x32x1024.size a)
theorem k0_off105_inb : ∀ (i : grid0.Coords) (k0_t1 : Fin (k0_t1_loop i).trips) (v89 : BitVec 32) (v102 : BitVec 32) (k0_t2 : Fin (k0_t2_loop v89 v102).trips) (v323 : BitVec 32) (k0_hw13 : k0_chk13 i k0_t1 v89 v102 k0_t2 v323) (k0_t13 : Fin k0_t13_loop.trips), ∀ (k0_h14 : k0_cond14 v89 v102 k0_t2 = 1#1), ∀ (r : Fin 8), ∀ a, (k0_off105 i k0_t1 v323 k0_t13 (BitVec.ofNat 32 (16 * r.val))) a + S1x1x16.size a ≤ S2x32x1024.size a := fun i k0_t1 v89 v102 k0_t2 v323 k0_hw13 k0_t13 k0_h14 r => k0_hw13 k0_t13 k0_h14 r

def k0_off106 (k0_t13 : Fin k0_t13_loop.trips) : Fin 2 → Nat :=
  let c0_i32_151 : BitVec 32 := 0#32
  let c1_i32_153 : BitVec 32 := 1#32
  let arg17 : BitVec 32 := Scf.iv c0_i32_151 c1_i32_153 k0_t13
  let c16_i32_156 : BitVec 32 := 16#32
  let v331 : BitVec 32 := Scalar.muli arg17 c16_i32_156
  let c10_i32_157 : BitVec 32 := 10#32
  let v332 : BitVec 32 := Scalar.addi v331 c10_i32_157
  let v333 : Index := Scalar.indexCast v332
  let c0_158 : Index := 0#32
  ![v333.toNat, 0]
def k0_off107 (k0_t13 : Fin k0_t13_loop.trips) : Fin 2 → Nat :=
  let c0_i32_151 : BitVec 32 := 0#32
  let c1_i32_153 : BitVec 32 := 1#32
  let arg17 : BitVec 32 := Scf.iv c0_i32_151 c1_i32_153 k0_t13
  let c16_i32_161 : BitVec 32 := 16#32
  let v346 : BitVec 32 := Scalar.muli arg17 c16_i32_161
  let c10_i32_162 : BitVec 32 := 10#32
  let v347 : BitVec 32 := Scalar.addi v346 c10_i32_162
  let v348 : Index := Scalar.indexCast v347
  let c16_163 : Index := 16#32
  ![v348.toNat, 16]
def k0_off108 (k0_t13 : Fin k0_t13_loop.trips) : Fin 2 → Nat :=
  let c0_i32_151 : BitVec 32 := 0#32
  let c1_i32_153 : BitVec 32 := 1#32
  let arg17 : BitVec 32 := Scf.iv c0_i32_151 c1_i32_153 k0_t13
  let c16_i32_166 : BitVec 32 := 16#32
  let v361 : BitVec 32 := Scalar.muli arg17 c16_i32_166
  let c10_i32_167 : BitVec 32 := 10#32
  let v362 : BitVec 32 := Scalar.addi v361 c10_i32_167
  let v363 : Index := Scalar.indexCast v362
  let c32_168 : Index := 32#32
  ![v363.toNat, 32]
def k0_off109 (k0_t13 : Fin k0_t13_loop.trips) : Fin 2 → Nat :=
  let c0_i32_151 : BitVec 32 := 0#32
  let c1_i32_153 : BitVec 32 := 1#32
  let arg17 : BitVec 32 := Scf.iv c0_i32_151 c1_i32_153 k0_t13
  let c16_i32_170 : BitVec 32 := 16#32
  let v376 : BitVec 32 := Scalar.muli arg17 c16_i32_170
  let c10_i32_171 : BitVec 32 := 10#32
  let v377 : BitVec 32 := Scalar.addi v376 c10_i32_171
  let v378 : Index := Scalar.indexCast v377
  let c48_172 : Index := 48#32
  ![v378.toNat, 48]
def k0_off110 (k0_t13 : Fin k0_t13_loop.trips) : Fin 2 → Nat :=
  let c0_i32_151 : BitVec 32 := 0#32
  let c1_i32_153 : BitVec 32 := 1#32
  let arg17 : BitVec 32 := Scf.iv c0_i32_151 c1_i32_153 k0_t13
  let c16_i32_174 : BitVec 32 := 16#32
  let v391 : BitVec 32 := Scalar.muli arg17 c16_i32_174
  let c10_i32_175 : BitVec 32 := 10#32
  let v392 : BitVec 32 := Scalar.addi v391 c10_i32_175
  let v393 : Index := Scalar.indexCast v392
  let c64_176 : Index := 64#32
  ![v393.toNat, 64]
def k0_off111 (k0_t13 : Fin k0_t13_loop.trips) : Fin 2 → Nat :=
  let c0_i32_151 : BitVec 32 := 0#32
  let c1_i32_153 : BitVec 32 := 1#32
  let arg17 : BitVec 32 := Scf.iv c0_i32_151 c1_i32_153 k0_t13
  let c16_i32_178 : BitVec 32 := 16#32
  let v406 : BitVec 32 := Scalar.muli arg17 c16_i32_178
  let c10_i32_179 : BitVec 32 := 10#32
  let v407 : BitVec 32 := Scalar.addi v406 c10_i32_179
  let v408 : Index := Scalar.indexCast v407
  let c80_180 : Index := 80#32
  ![v408.toNat, 80]
def k0_off112 (k0_t13 : Fin k0_t13_loop.trips) : Fin 2 → Nat :=
  let c0_i32_151 : BitVec 32 := 0#32
  let c1_i32_153 : BitVec 32 := 1#32
  let arg17 : BitVec 32 := Scf.iv c0_i32_151 c1_i32_153 k0_t13
  let c16_i32_182 : BitVec 32 := 16#32
  let v421 : BitVec 32 := Scalar.muli arg17 c16_i32_182
  let c10_i32_183 : BitVec 32 := 10#32
  let v422 : BitVec 32 := Scalar.addi v421 c10_i32_183
  let v423 : Index := Scalar.indexCast v422
  let c96_184 : Index := 96#32
  ![v423.toNat, 96]
def k0_off113 (k0_t13 : Fin k0_t13_loop.trips) : Fin 2 → Nat :=
  let c0_i32_151 : BitVec 32 := 0#32
  let c1_i32_153 : BitVec 32 := 1#32
  let arg17 : BitVec 32 := Scf.iv c0_i32_151 c1_i32_153 k0_t13
  let c16_i32_186 : BitVec 32 := 16#32
  let v436 : BitVec 32 := Scalar.muli arg17 c16_i32_186
  let c10_i32_187 : BitVec 32 := 10#32
  let v437 : BitVec 32 := Scalar.addi v436 c10_i32_187
  let v438 : Index := Scalar.indexCast v437
  let c112_188 : Index := 112#32
  ![v438.toNat, 112]
@[reducible] def k0_t14_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off114 (i : grid0.Coords) (k0_t1 : Fin (k0_t1_loop i).trips) (v323 : BitVec 32) (k0_t14 : Fin k0_t14_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t14
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond15 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_133 : BitVec 32 := 16#32
  let v288 : BitVec 32 := Scalar.muli arg16 c16_i32_133
  let c11_i32 : BitVec 32 := 11#32
  let v289 : BitVec 32 := Scalar.addi v288 c11_i32
  let v103 : BitVec 32 := Scalar.subi v102 v89
  let v290 : BitVec 1 := Scalar.cmpi .slt v289 v103
  let v291 : BitVec 32 := Scalar.extui v290
  let c0_i32_134 : BitVec 32 := 0#32
  let v292 : BitVec 1 := Scalar.cmpi .ne v291 c0_i32_134
  v292

def k0_chk14 (i : grid0.Coords) (k0_t1 : Fin (k0_t1_loop i).trips) (v89 : BitVec 32) (v102 : BitVec 32) (k0_t2 : Fin (k0_t2_loop v89 v102).trips) (v323 : BitVec 32) : Prop :=
  (∀ k0_t14 : Fin k0_t14_loop.trips, ∀ (k0_h15 : k0_cond15 v89 v102 k0_t2 = 1#1), ∀ (r : Fin 8), ∀ a, (k0_off114 i k0_t1 v323 k0_t14 (BitVec.ofNat 32 (16 * r.val))) a + S1x1x16.size a ≤ S2x32x1024.size a)
theorem k0_off114_inb : ∀ (i : grid0.Coords) (k0_t1 : Fin (k0_t1_loop i).trips) (v89 : BitVec 32) (v102 : BitVec 32) (k0_t2 : Fin (k0_t2_loop v89 v102).trips) (v323 : BitVec 32) (k0_hw14 : k0_chk14 i k0_t1 v89 v102 k0_t2 v323) (k0_t14 : Fin k0_t14_loop.trips), ∀ (k0_h15 : k0_cond15 v89 v102 k0_t2 = 1#1), ∀ (r : Fin 8), ∀ a, (k0_off114 i k0_t1 v323 k0_t14 (BitVec.ofNat 32 (16 * r.val))) a + S1x1x16.size a ≤ S2x32x1024.size a := fun i k0_t1 v89 v102 k0_t2 v323 k0_hw14 k0_t14 k0_h15 r => k0_hw14 k0_t14 k0_h15 r

def k0_off115 (k0_t14 : Fin k0_t14_loop.trips) : Fin 2 → Nat :=
  let c0_i32_151 : BitVec 32 := 0#32
  let c1_i32_153 : BitVec 32 := 1#32
  let arg17 : BitVec 32 := Scf.iv c0_i32_151 c1_i32_153 k0_t14
  let c16_i32_156 : BitVec 32 := 16#32
  let v331 : BitVec 32 := Scalar.muli arg17 c16_i32_156
  let c11_i32_157 : BitVec 32 := 11#32
  let v332 : BitVec 32 := Scalar.addi v331 c11_i32_157
  let v333 : Index := Scalar.indexCast v332
  let c0_158 : Index := 0#32
  ![v333.toNat, 0]
def k0_off116 (k0_t14 : Fin k0_t14_loop.trips) : Fin 2 → Nat :=
  let c0_i32_151 : BitVec 32 := 0#32
  let c1_i32_153 : BitVec 32 := 1#32
  let arg17 : BitVec 32 := Scf.iv c0_i32_151 c1_i32_153 k0_t14
  let c16_i32_161 : BitVec 32 := 16#32
  let v346 : BitVec 32 := Scalar.muli arg17 c16_i32_161
  let c11_i32_162 : BitVec 32 := 11#32
  let v347 : BitVec 32 := Scalar.addi v346 c11_i32_162
  let v348 : Index := Scalar.indexCast v347
  let c16_163 : Index := 16#32
  ![v348.toNat, 16]
def k0_off117 (k0_t14 : Fin k0_t14_loop.trips) : Fin 2 → Nat :=
  let c0_i32_151 : BitVec 32 := 0#32
  let c1_i32_153 : BitVec 32 := 1#32
  let arg17 : BitVec 32 := Scf.iv c0_i32_151 c1_i32_153 k0_t14
  let c16_i32_166 : BitVec 32 := 16#32
  let v361 : BitVec 32 := Scalar.muli arg17 c16_i32_166
  let c11_i32_167 : BitVec 32 := 11#32
  let v362 : BitVec 32 := Scalar.addi v361 c11_i32_167
  let v363 : Index := Scalar.indexCast v362
  let c32_168 : Index := 32#32
  ![v363.toNat, 32]
def k0_off118 (k0_t14 : Fin k0_t14_loop.trips) : Fin 2 → Nat :=
  let c0_i32_151 : BitVec 32 := 0#32
  let c1_i32_153 : BitVec 32 := 1#32
  let arg17 : BitVec 32 := Scf.iv c0_i32_151 c1_i32_153 k0_t14
  let c16_i32_170 : BitVec 32 := 16#32
  let v376 : BitVec 32 := Scalar.muli arg17 c16_i32_170
  let c11_i32_171 : BitVec 32 := 11#32
  let v377 : BitVec 32 := Scalar.addi v376 c11_i32_171
  let v378 : Index := Scalar.indexCast v377
  let c48_172 : Index := 48#32
  ![v378.toNat, 48]
def k0_off119 (k0_t14 : Fin k0_t14_loop.trips) : Fin 2 → Nat :=
  let c0_i32_151 : BitVec 32 := 0#32
  let c1_i32_153 : BitVec 32 := 1#32
  let arg17 : BitVec 32 := Scf.iv c0_i32_151 c1_i32_153 k0_t14
  let c16_i32_174 : BitVec 32 := 16#32
  let v391 : BitVec 32 := Scalar.muli arg17 c16_i32_174
  let c11_i32_175 : BitVec 32 := 11#32
  let v392 : BitVec 32 := Scalar.addi v391 c11_i32_175
  let v393 : Index := Scalar.indexCast v392
  let c64_176 : Index := 64#32
  ![v393.toNat, 64]
def k0_off120 (k0_t14 : Fin k0_t14_loop.trips) : Fin 2 → Nat :=
  let c0_i32_151 : BitVec 32 := 0#32
  let c1_i32_153 : BitVec 32 := 1#32
  let arg17 : BitVec 32 := Scf.iv c0_i32_151 c1_i32_153 k0_t14
  let c16_i32_178 : BitVec 32 := 16#32
  let v406 : BitVec 32 := Scalar.muli arg17 c16_i32_178
  let c11_i32_179 : BitVec 32 := 11#32
  let v407 : BitVec 32 := Scalar.addi v406 c11_i32_179
  let v408 : Index := Scalar.indexCast v407
  let c80_180 : Index := 80#32
  ![v408.toNat, 80]
def k0_off121 (k0_t14 : Fin k0_t14_loop.trips) : Fin 2 → Nat :=
  let c0_i32_151 : BitVec 32 := 0#32
  let c1_i32_153 : BitVec 32 := 1#32
  let arg17 : BitVec 32 := Scf.iv c0_i32_151 c1_i32_153 k0_t14
  let c16_i32_182 : BitVec 32 := 16#32
  let v421 : BitVec 32 := Scalar.muli arg17 c16_i32_182
  let c11_i32_183 : BitVec 32 := 11#32
  let v422 : BitVec 32 := Scalar.addi v421 c11_i32_183
  let v423 : Index := Scalar.indexCast v422
  let c96_184 : Index := 96#32
  ![v423.toNat, 96]
def k0_off122 (k0_t14 : Fin k0_t14_loop.trips) : Fin 2 → Nat :=
  let c0_i32_151 : BitVec 32 := 0#32
  let c1_i32_153 : BitVec 32 := 1#32
  let arg17 : BitVec 32 := Scf.iv c0_i32_151 c1_i32_153 k0_t14
  let c16_i32_186 : BitVec 32 := 16#32
  let v436 : BitVec 32 := Scalar.muli arg17 c16_i32_186
  let c11_i32_187 : BitVec 32 := 11#32
  let v437 : BitVec 32 := Scalar.addi v436 c11_i32_187
  let v438 : Index := Scalar.indexCast v437
  let c112_188 : Index := 112#32
  ![v438.toNat, 112]
@[reducible] def k0_t15_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off123 (i : grid0.Coords) (k0_t1 : Fin (k0_t1_loop i).trips) (v323 : BitVec 32) (k0_t15 : Fin k0_t15_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t15
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond16 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_135 : BitVec 32 := 16#32
  let v293 : BitVec 32 := Scalar.muli arg16 c16_i32_135
  let c12_i32 : BitVec 32 := 12#32
  let v294 : BitVec 32 := Scalar.addi v293 c12_i32
  let v103 : BitVec 32 := Scalar.subi v102 v89
  let v295 : BitVec 1 := Scalar.cmpi .slt v294 v103
  let v296 : BitVec 32 := Scalar.extui v295
  let c0_i32_136 : BitVec 32 := 0#32
  let v297 : BitVec 1 := Scalar.cmpi .ne v296 c0_i32_136
  v297

def k0_chk15 (i : grid0.Coords) (k0_t1 : Fin (k0_t1_loop i).trips) (v89 : BitVec 32) (v102 : BitVec 32) (k0_t2 : Fin (k0_t2_loop v89 v102).trips) (v323 : BitVec 32) : Prop :=
  (∀ k0_t15 : Fin k0_t15_loop.trips, ∀ (k0_h16 : k0_cond16 v89 v102 k0_t2 = 1#1), ∀ (r : Fin 8), ∀ a, (k0_off123 i k0_t1 v323 k0_t15 (BitVec.ofNat 32 (16 * r.val))) a + S1x1x16.size a ≤ S2x32x1024.size a)
theorem k0_off123_inb : ∀ (i : grid0.Coords) (k0_t1 : Fin (k0_t1_loop i).trips) (v89 : BitVec 32) (v102 : BitVec 32) (k0_t2 : Fin (k0_t2_loop v89 v102).trips) (v323 : BitVec 32) (k0_hw15 : k0_chk15 i k0_t1 v89 v102 k0_t2 v323) (k0_t15 : Fin k0_t15_loop.trips), ∀ (k0_h16 : k0_cond16 v89 v102 k0_t2 = 1#1), ∀ (r : Fin 8), ∀ a, (k0_off123 i k0_t1 v323 k0_t15 (BitVec.ofNat 32 (16 * r.val))) a + S1x1x16.size a ≤ S2x32x1024.size a := fun i k0_t1 v89 v102 k0_t2 v323 k0_hw15 k0_t15 k0_h16 r => k0_hw15 k0_t15 k0_h16 r

def k0_off124 (k0_t15 : Fin k0_t15_loop.trips) : Fin 2 → Nat :=
  let c0_i32_151 : BitVec 32 := 0#32
  let c1_i32_153 : BitVec 32 := 1#32
  let arg17 : BitVec 32 := Scf.iv c0_i32_151 c1_i32_153 k0_t15
  let c16_i32_156 : BitVec 32 := 16#32
  let v331 : BitVec 32 := Scalar.muli arg17 c16_i32_156
  let c12_i32_157 : BitVec 32 := 12#32
  let v332 : BitVec 32 := Scalar.addi v331 c12_i32_157
  let v333 : Index := Scalar.indexCast v332
  let c0_158 : Index := 0#32
  ![v333.toNat, 0]
def k0_off125 (k0_t15 : Fin k0_t15_loop.trips) : Fin 2 → Nat :=
  let c0_i32_151 : BitVec 32 := 0#32
  let c1_i32_153 : BitVec 32 := 1#32
  let arg17 : BitVec 32 := Scf.iv c0_i32_151 c1_i32_153 k0_t15
  let c16_i32_161 : BitVec 32 := 16#32
  let v346 : BitVec 32 := Scalar.muli arg17 c16_i32_161
  let c12_i32_162 : BitVec 32 := 12#32
  let v347 : BitVec 32 := Scalar.addi v346 c12_i32_162
  let v348 : Index := Scalar.indexCast v347
  let c16_163 : Index := 16#32
  ![v348.toNat, 16]
def k0_off126 (k0_t15 : Fin k0_t15_loop.trips) : Fin 2 → Nat :=
  let c0_i32_151 : BitVec 32 := 0#32
  let c1_i32_153 : BitVec 32 := 1#32
  let arg17 : BitVec 32 := Scf.iv c0_i32_151 c1_i32_153 k0_t15
  let c16_i32_166 : BitVec 32 := 16#32
  let v361 : BitVec 32 := Scalar.muli arg17 c16_i32_166
  let c12_i32_167 : BitVec 32 := 12#32
  let v362 : BitVec 32 := Scalar.addi v361 c12_i32_167
  let v363 : Index := Scalar.indexCast v362
  let c32_168 : Index := 32#32
  ![v363.toNat, 32]
def k0_off127 (k0_t15 : Fin k0_t15_loop.trips) : Fin 2 → Nat :=
  let c0_i32_151 : BitVec 32 := 0#32
  let c1_i32_153 : BitVec 32 := 1#32
  let arg17 : BitVec 32 := Scf.iv c0_i32_151 c1_i32_153 k0_t15
  let c16_i32_170 : BitVec 32 := 16#32
  let v376 : BitVec 32 := Scalar.muli arg17 c16_i32_170
  let c12_i32_171 : BitVec 32 := 12#32
  let v377 : BitVec 32 := Scalar.addi v376 c12_i32_171
  let v378 : Index := Scalar.indexCast v377
  let c48_172 : Index := 48#32
  ![v378.toNat, 48]
def k0_off128 (k0_t15 : Fin k0_t15_loop.trips) : Fin 2 → Nat :=
  let c0_i32_151 : BitVec 32 := 0#32
  let c1_i32_153 : BitVec 32 := 1#32
  let arg17 : BitVec 32 := Scf.iv c0_i32_151 c1_i32_153 k0_t15
  let c16_i32_174 : BitVec 32 := 16#32
  let v391 : BitVec 32 := Scalar.muli arg17 c16_i32_174
  let c12_i32_175 : BitVec 32 := 12#32
  let v392 : BitVec 32 := Scalar.addi v391 c12_i32_175
  let v393 : Index := Scalar.indexCast v392
  let c64_176 : Index := 64#32
  ![v393.toNat, 64]
def k0_off129 (k0_t15 : Fin k0_t15_loop.trips) : Fin 2 → Nat :=
  let c0_i32_151 : BitVec 32 := 0#32
  let c1_i32_153 : BitVec 32 := 1#32
  let arg17 : BitVec 32 := Scf.iv c0_i32_151 c1_i32_153 k0_t15
  let c16_i32_178 : BitVec 32 := 16#32
  let v406 : BitVec 32 := Scalar.muli arg17 c16_i32_178
  let c12_i32_179 : BitVec 32 := 12#32
  let v407 : BitVec 32 := Scalar.addi v406 c12_i32_179
  let v408 : Index := Scalar.indexCast v407
  let c80_180 : Index := 80#32
  ![v408.toNat, 80]
def k0_off130 (k0_t15 : Fin k0_t15_loop.trips) : Fin 2 → Nat :=
  let c0_i32_151 : BitVec 32 := 0#32
  let c1_i32_153 : BitVec 32 := 1#32
  let arg17 : BitVec 32 := Scf.iv c0_i32_151 c1_i32_153 k0_t15
  let c16_i32_182 : BitVec 32 := 16#32
  let v421 : BitVec 32 := Scalar.muli arg17 c16_i32_182
  let c12_i32_183 : BitVec 32 := 12#32
  let v422 : BitVec 32 := Scalar.addi v421 c12_i32_183
  let v423 : Index := Scalar.indexCast v422
  let c96_184 : Index := 96#32
  ![v423.toNat, 96]
def k0_off131 (k0_t15 : Fin k0_t15_loop.trips) : Fin 2 → Nat :=
  let c0_i32_151 : BitVec 32 := 0#32
  let c1_i32_153 : BitVec 32 := 1#32
  let arg17 : BitVec 32 := Scf.iv c0_i32_151 c1_i32_153 k0_t15
  let c16_i32_186 : BitVec 32 := 16#32
  let v436 : BitVec 32 := Scalar.muli arg17 c16_i32_186
  let c12_i32_187 : BitVec 32 := 12#32
  let v437 : BitVec 32 := Scalar.addi v436 c12_i32_187
  let v438 : Index := Scalar.indexCast v437
  let c112_188 : Index := 112#32
  ![v438.toNat, 112]
@[reducible] def k0_t16_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off132 (i : grid0.Coords) (k0_t1 : Fin (k0_t1_loop i).trips) (v323 : BitVec 32) (k0_t16 : Fin k0_t16_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t16
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond17 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_137 : BitVec 32 := 16#32
  let v298 : BitVec 32 := Scalar.muli arg16 c16_i32_137
  let c13_i32 : BitVec 32 := 13#32
  let v299 : BitVec 32 := Scalar.addi v298 c13_i32
  let v103 : BitVec 32 := Scalar.subi v102 v89
  let v300 : BitVec 1 := Scalar.cmpi .slt v299 v103
  let v301 : BitVec 32 := Scalar.extui v300
  let c0_i32_138 : BitVec 32 := 0#32
  let v302 : BitVec 1 := Scalar.cmpi .ne v301 c0_i32_138
  v302

def k0_chk16 (i : grid0.Coords) (k0_t1 : Fin (k0_t1_loop i).trips) (v89 : BitVec 32) (v102 : BitVec 32) (k0_t2 : Fin (k0_t2_loop v89 v102).trips) (v323 : BitVec 32) : Prop :=
  (∀ k0_t16 : Fin k0_t16_loop.trips, ∀ (k0_h17 : k0_cond17 v89 v102 k0_t2 = 1#1), ∀ (r : Fin 8), ∀ a, (k0_off132 i k0_t1 v323 k0_t16 (BitVec.ofNat 32 (16 * r.val))) a + S1x1x16.size a ≤ S2x32x1024.size a)
theorem k0_off132_inb : ∀ (i : grid0.Coords) (k0_t1 : Fin (k0_t1_loop i).trips) (v89 : BitVec 32) (v102 : BitVec 32) (k0_t2 : Fin (k0_t2_loop v89 v102).trips) (v323 : BitVec 32) (k0_hw16 : k0_chk16 i k0_t1 v89 v102 k0_t2 v323) (k0_t16 : Fin k0_t16_loop.trips), ∀ (k0_h17 : k0_cond17 v89 v102 k0_t2 = 1#1), ∀ (r : Fin 8), ∀ a, (k0_off132 i k0_t1 v323 k0_t16 (BitVec.ofNat 32 (16 * r.val))) a + S1x1x16.size a ≤ S2x32x1024.size a := fun i k0_t1 v89 v102 k0_t2 v323 k0_hw16 k0_t16 k0_h17 r => k0_hw16 k0_t16 k0_h17 r

def k0_off133 (k0_t16 : Fin k0_t16_loop.trips) : Fin 2 → Nat :=
  let c0_i32_151 : BitVec 32 := 0#32
  let c1_i32_153 : BitVec 32 := 1#32
  let arg17 : BitVec 32 := Scf.iv c0_i32_151 c1_i32_153 k0_t16
  let c16_i32_156 : BitVec 32 := 16#32
  let v331 : BitVec 32 := Scalar.muli arg17 c16_i32_156
  let c13_i32_157 : BitVec 32 := 13#32
  let v332 : BitVec 32 := Scalar.addi v331 c13_i32_157
  let v333 : Index := Scalar.indexCast v332
  let c0_158 : Index := 0#32
  ![v333.toNat, 0]
def k0_off134 (k0_t16 : Fin k0_t16_loop.trips) : Fin 2 → Nat :=
  let c0_i32_151 : BitVec 32 := 0#32
  let c1_i32_153 : BitVec 32 := 1#32
  let arg17 : BitVec 32 := Scf.iv c0_i32_151 c1_i32_153 k0_t16
  let c16_i32_161 : BitVec 32 := 16#32
  let v346 : BitVec 32 := Scalar.muli arg17 c16_i32_161
  let c13_i32_162 : BitVec 32 := 13#32
  let v347 : BitVec 32 := Scalar.addi v346 c13_i32_162
  let v348 : Index := Scalar.indexCast v347
  let c16_163 : Index := 16#32
  ![v348.toNat, 16]
def k0_off135 (k0_t16 : Fin k0_t16_loop.trips) : Fin 2 → Nat :=
  let c0_i32_151 : BitVec 32 := 0#32
  let c1_i32_153 : BitVec 32 := 1#32
  let arg17 : BitVec 32 := Scf.iv c0_i32_151 c1_i32_153 k0_t16
  let c16_i32_166 : BitVec 32 := 16#32
  let v361 : BitVec 32 := Scalar.muli arg17 c16_i32_166
  let c13_i32_167 : BitVec 32 := 13#32
  let v362 : BitVec 32 := Scalar.addi v361 c13_i32_167
  let v363 : Index := Scalar.indexCast v362
  let c32_168 : Index := 32#32
  ![v363.toNat, 32]
def k0_off136 (k0_t16 : Fin k0_t16_loop.trips) : Fin 2 → Nat :=
  let c0_i32_151 : BitVec 32 := 0#32
  let c1_i32_153 : BitVec 32 := 1#32
  let arg17 : BitVec 32 := Scf.iv c0_i32_151 c1_i32_153 k0_t16
  let c16_i32_170 : BitVec 32 := 16#32
  let v376 : BitVec 32 := Scalar.muli arg17 c16_i32_170
  let c13_i32_171 : BitVec 32 := 13#32
  let v377 : BitVec 32 := Scalar.addi v376 c13_i32_171
  let v378 : Index := Scalar.indexCast v377
  let c48_172 : Index := 48#32
  ![v378.toNat, 48]
def k0_off137 (k0_t16 : Fin k0_t16_loop.trips) : Fin 2 → Nat :=
  let c0_i32_151 : BitVec 32 := 0#32
  let c1_i32_153 : BitVec 32 := 1#32
  let arg17 : BitVec 32 := Scf.iv c0_i32_151 c1_i32_153 k0_t16
  let c16_i32_174 : BitVec 32 := 16#32
  let v391 : BitVec 32 := Scalar.muli arg17 c16_i32_174
  let c13_i32_175 : BitVec 32 := 13#32
  let v392 : BitVec 32 := Scalar.addi v391 c13_i32_175
  let v393 : Index := Scalar.indexCast v392
  let c64_176 : Index := 64#32
  ![v393.toNat, 64]
def k0_off138 (k0_t16 : Fin k0_t16_loop.trips) : Fin 2 → Nat :=
  let c0_i32_151 : BitVec 32 := 0#32
  let c1_i32_153 : BitVec 32 := 1#32
  let arg17 : BitVec 32 := Scf.iv c0_i32_151 c1_i32_153 k0_t16
  let c16_i32_178 : BitVec 32 := 16#32
  let v406 : BitVec 32 := Scalar.muli arg17 c16_i32_178
  let c13_i32_179 : BitVec 32 := 13#32
  let v407 : BitVec 32 := Scalar.addi v406 c13_i32_179
  let v408 : Index := Scalar.indexCast v407
  let c80_180 : Index := 80#32
  ![v408.toNat, 80]
def k0_off139 (k0_t16 : Fin k0_t16_loop.trips) : Fin 2 → Nat :=
  let c0_i32_151 : BitVec 32 := 0#32
  let c1_i32_153 : BitVec 32 := 1#32
  let arg17 : BitVec 32 := Scf.iv c0_i32_151 c1_i32_153 k0_t16
  let c16_i32_182 : BitVec 32 := 16#32
  let v421 : BitVec 32 := Scalar.muli arg17 c16_i32_182
  let c13_i32_183 : BitVec 32 := 13#32
  let v422 : BitVec 32 := Scalar.addi v421 c13_i32_183
  let v423 : Index := Scalar.indexCast v422
  let c96_184 : Index := 96#32
  ![v423.toNat, 96]
def k0_off140 (k0_t16 : Fin k0_t16_loop.trips) : Fin 2 → Nat :=
  let c0_i32_151 : BitVec 32 := 0#32
  let c1_i32_153 : BitVec 32 := 1#32
  let arg17 : BitVec 32 := Scf.iv c0_i32_151 c1_i32_153 k0_t16
  let c16_i32_186 : BitVec 32 := 16#32
  let v436 : BitVec 32 := Scalar.muli arg17 c16_i32_186
  let c13_i32_187 : BitVec 32 := 13#32
  let v437 : BitVec 32 := Scalar.addi v436 c13_i32_187
  let v438 : Index := Scalar.indexCast v437
  let c112_188 : Index := 112#32
  ![v438.toNat, 112]
@[reducible] def k0_t17_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off141 (i : grid0.Coords) (k0_t1 : Fin (k0_t1_loop i).trips) (v323 : BitVec 32) (k0_t17 : Fin k0_t17_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t17
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond18 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_139 : BitVec 32 := 16#32
  let v303 : BitVec 32 := Scalar.muli arg16 c16_i32_139
  let c14_i32_140 : BitVec 32 := 14#32
  let v304 : BitVec 32 := Scalar.addi v303 c14_i32_140
  let v103 : BitVec 32 := Scalar.subi v102 v89
  let v305 : BitVec 1 := Scalar.cmpi .slt v304 v103
  let v306 : BitVec 32 := Scalar.extui v305
  let c0_i32_141 : BitVec 32 := 0#32
  let v307 : BitVec 1 := Scalar.cmpi .ne v306 c0_i32_141
  v307

def k0_chk17 (i : grid0.Coords) (k0_t1 : Fin (k0_t1_loop i).trips) (v89 : BitVec 32) (v102 : BitVec 32) (k0_t2 : Fin (k0_t2_loop v89 v102).trips) (v323 : BitVec 32) : Prop :=
  (∀ k0_t17 : Fin k0_t17_loop.trips, ∀ (k0_h18 : k0_cond18 v89 v102 k0_t2 = 1#1), ∀ (r : Fin 8), ∀ a, (k0_off141 i k0_t1 v323 k0_t17 (BitVec.ofNat 32 (16 * r.val))) a + S1x1x16.size a ≤ S2x32x1024.size a)
theorem k0_off141_inb : ∀ (i : grid0.Coords) (k0_t1 : Fin (k0_t1_loop i).trips) (v89 : BitVec 32) (v102 : BitVec 32) (k0_t2 : Fin (k0_t2_loop v89 v102).trips) (v323 : BitVec 32) (k0_hw17 : k0_chk17 i k0_t1 v89 v102 k0_t2 v323) (k0_t17 : Fin k0_t17_loop.trips), ∀ (k0_h18 : k0_cond18 v89 v102 k0_t2 = 1#1), ∀ (r : Fin 8), ∀ a, (k0_off141 i k0_t1 v323 k0_t17 (BitVec.ofNat 32 (16 * r.val))) a + S1x1x16.size a ≤ S2x32x1024.size a := fun i k0_t1 v89 v102 k0_t2 v323 k0_hw17 k0_t17 k0_h18 r => k0_hw17 k0_t17 k0_h18 r

def k0_off142 (k0_t17 : Fin k0_t17_loop.trips) : Fin 2 → Nat :=
  let c0_i32_151 : BitVec 32 := 0#32
  let c1_i32_153 : BitVec 32 := 1#32
  let arg17 : BitVec 32 := Scf.iv c0_i32_151 c1_i32_153 k0_t17
  let c16_i32_156 : BitVec 32 := 16#32
  let v331 : BitVec 32 := Scalar.muli arg17 c16_i32_156
  let c14_i32_157 : BitVec 32 := 14#32
  let v332 : BitVec 32 := Scalar.addi v331 c14_i32_157
  let v333 : Index := Scalar.indexCast v332
  let c0_158 : Index := 0#32
  ![v333.toNat, 0]
def k0_off143 (k0_t17 : Fin k0_t17_loop.trips) : Fin 2 → Nat :=
  let c0_i32_151 : BitVec 32 := 0#32
  let c1_i32_153 : BitVec 32 := 1#32
  let arg17 : BitVec 32 := Scf.iv c0_i32_151 c1_i32_153 k0_t17
  let c16_i32_161 : BitVec 32 := 16#32
  let v346 : BitVec 32 := Scalar.muli arg17 c16_i32_161
  let c14_i32_162 : BitVec 32 := 14#32
  let v347 : BitVec 32 := Scalar.addi v346 c14_i32_162
  let v348 : Index := Scalar.indexCast v347
  let c16_163 : Index := 16#32
  ![v348.toNat, 16]
def k0_off144 (k0_t17 : Fin k0_t17_loop.trips) : Fin 2 → Nat :=
  let c0_i32_151 : BitVec 32 := 0#32
  let c1_i32_153 : BitVec 32 := 1#32
  let arg17 : BitVec 32 := Scf.iv c0_i32_151 c1_i32_153 k0_t17
  let c16_i32_166 : BitVec 32 := 16#32
  let v361 : BitVec 32 := Scalar.muli arg17 c16_i32_166
  let c14_i32_167 : BitVec 32 := 14#32
  let v362 : BitVec 32 := Scalar.addi v361 c14_i32_167
  let v363 : Index := Scalar.indexCast v362
  let c32_168 : Index := 32#32
  ![v363.toNat, 32]
def k0_off145 (k0_t17 : Fin k0_t17_loop.trips) : Fin 2 → Nat :=
  let c0_i32_151 : BitVec 32 := 0#32
  let c1_i32_153 : BitVec 32 := 1#32
  let arg17 : BitVec 32 := Scf.iv c0_i32_151 c1_i32_153 k0_t17
  let c16_i32_170 : BitVec 32 := 16#32
  let v376 : BitVec 32 := Scalar.muli arg17 c16_i32_170
  let c14_i32_171 : BitVec 32 := 14#32
  let v377 : BitVec 32 := Scalar.addi v376 c14_i32_171
  let v378 : Index := Scalar.indexCast v377
  let c48_172 : Index := 48#32
  ![v378.toNat, 48]
def k0_off146 (k0_t17 : Fin k0_t17_loop.trips) : Fin 2 → Nat :=
  let c0_i32_151 : BitVec 32 := 0#32
  let c1_i32_153 : BitVec 32 := 1#32
  let arg17 : BitVec 32 := Scf.iv c0_i32_151 c1_i32_153 k0_t17
  let c16_i32_174 : BitVec 32 := 16#32
  let v391 : BitVec 32 := Scalar.muli arg17 c16_i32_174
  let c14_i32_175 : BitVec 32 := 14#32
  let v392 : BitVec 32 := Scalar.addi v391 c14_i32_175
  let v393 : Index := Scalar.indexCast v392
  let c64_176 : Index := 64#32
  ![v393.toNat, 64]
def k0_off147 (k0_t17 : Fin k0_t17_loop.trips) : Fin 2 → Nat :=
  let c0_i32_151 : BitVec 32 := 0#32
  let c1_i32_153 : BitVec 32 := 1#32
  let arg17 : BitVec 32 := Scf.iv c0_i32_151 c1_i32_153 k0_t17
  let c16_i32_178 : BitVec 32 := 16#32
  let v406 : BitVec 32 := Scalar.muli arg17 c16_i32_178
  let c14_i32_179 : BitVec 32 := 14#32
  let v407 : BitVec 32 := Scalar.addi v406 c14_i32_179
  let v408 : Index := Scalar.indexCast v407
  let c80_180 : Index := 80#32
  ![v408.toNat, 80]
def k0_off148 (k0_t17 : Fin k0_t17_loop.trips) : Fin 2 → Nat :=
  let c0_i32_151 : BitVec 32 := 0#32
  let c1_i32_153 : BitVec 32 := 1#32
  let arg17 : BitVec 32 := Scf.iv c0_i32_151 c1_i32_153 k0_t17
  let c16_i32_182 : BitVec 32 := 16#32
  let v421 : BitVec 32 := Scalar.muli arg17 c16_i32_182
  let c14_i32_183 : BitVec 32 := 14#32
  let v422 : BitVec 32 := Scalar.addi v421 c14_i32_183
  let v423 : Index := Scalar.indexCast v422
  let c96_184 : Index := 96#32
  ![v423.toNat, 96]
def k0_off149 (k0_t17 : Fin k0_t17_loop.trips) : Fin 2 → Nat :=
  let c0_i32_151 : BitVec 32 := 0#32
  let c1_i32_153 : BitVec 32 := 1#32
  let arg17 : BitVec 32 := Scf.iv c0_i32_151 c1_i32_153 k0_t17
  let c16_i32_186 : BitVec 32 := 16#32
  let v436 : BitVec 32 := Scalar.muli arg17 c16_i32_186
  let c14_i32_187 : BitVec 32 := 14#32
  let v437 : BitVec 32 := Scalar.addi v436 c14_i32_187
  let v438 : Index := Scalar.indexCast v437
  let c112_188 : Index := 112#32
  ![v438.toNat, 112]
@[reducible] def k0_t18_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off150 (i : grid0.Coords) (k0_t1 : Fin (k0_t1_loop i).trips) (v323 : BitVec 32) (k0_t18 : Fin k0_t18_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t18
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond19 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c16_i32_142 : BitVec 32 := 16#32
  let v308 : BitVec 32 := Scalar.muli arg16 c16_i32_142
  let c15_i32_143 : BitVec 32 := 15#32
  let v309 : BitVec 32 := Scalar.addi v308 c15_i32_143
  let v103 : BitVec 32 := Scalar.subi v102 v89
  let v310 : BitVec 1 := Scalar.cmpi .slt v309 v103
  let v311 : BitVec 32 := Scalar.extui v310
  let c0_i32_144 : BitVec 32 := 0#32
  let v312 : BitVec 1 := Scalar.cmpi .ne v311 c0_i32_144
  v312

def k0_chk18 (i : grid0.Coords) (k0_t1 : Fin (k0_t1_loop i).trips) (v89 : BitVec 32) (v102 : BitVec 32) (k0_t2 : Fin (k0_t2_loop v89 v102).trips) (v323 : BitVec 32) : Prop :=
  (∀ k0_t18 : Fin k0_t18_loop.trips, ∀ (k0_h19 : k0_cond19 v89 v102 k0_t2 = 1#1), ∀ (r : Fin 8), ∀ a, (k0_off150 i k0_t1 v323 k0_t18 (BitVec.ofNat 32 (16 * r.val))) a + S1x1x16.size a ≤ S2x32x1024.size a)
theorem k0_off150_inb : ∀ (i : grid0.Coords) (k0_t1 : Fin (k0_t1_loop i).trips) (v89 : BitVec 32) (v102 : BitVec 32) (k0_t2 : Fin (k0_t2_loop v89 v102).trips) (v323 : BitVec 32) (k0_hw18 : k0_chk18 i k0_t1 v89 v102 k0_t2 v323) (k0_t18 : Fin k0_t18_loop.trips), ∀ (k0_h19 : k0_cond19 v89 v102 k0_t2 = 1#1), ∀ (r : Fin 8), ∀ a, (k0_off150 i k0_t1 v323 k0_t18 (BitVec.ofNat 32 (16 * r.val))) a + S1x1x16.size a ≤ S2x32x1024.size a := fun i k0_t1 v89 v102 k0_t2 v323 k0_hw18 k0_t18 k0_h19 r => k0_hw18 k0_t18 k0_h19 r

def k0_off151 (k0_t18 : Fin k0_t18_loop.trips) : Fin 2 → Nat :=
  let c0_i32_151 : BitVec 32 := 0#32
  let c1_i32_153 : BitVec 32 := 1#32
  let arg17 : BitVec 32 := Scf.iv c0_i32_151 c1_i32_153 k0_t18
  let c16_i32_156 : BitVec 32 := 16#32
  let v331 : BitVec 32 := Scalar.muli arg17 c16_i32_156
  let c15_i32_157 : BitVec 32 := 15#32
  let v332 : BitVec 32 := Scalar.addi v331 c15_i32_157
  let v333 : Index := Scalar.indexCast v332
  let c0_158 : Index := 0#32
  ![v333.toNat, 0]
def k0_off152 (k0_t18 : Fin k0_t18_loop.trips) : Fin 2 → Nat :=
  let c0_i32_151 : BitVec 32 := 0#32
  let c1_i32_153 : BitVec 32 := 1#32
  let arg17 : BitVec 32 := Scf.iv c0_i32_151 c1_i32_153 k0_t18
  let c16_i32_161 : BitVec 32 := 16#32
  let v346 : BitVec 32 := Scalar.muli arg17 c16_i32_161
  let c15_i32_162 : BitVec 32 := 15#32
  let v347 : BitVec 32 := Scalar.addi v346 c15_i32_162
  let v348 : Index := Scalar.indexCast v347
  let c16_163 : Index := 16#32
  ![v348.toNat, 16]
def k0_off153 (k0_t18 : Fin k0_t18_loop.trips) : Fin 2 → Nat :=
  let c0_i32_151 : BitVec 32 := 0#32
  let c1_i32_153 : BitVec 32 := 1#32
  let arg17 : BitVec 32 := Scf.iv c0_i32_151 c1_i32_153 k0_t18
  let c16_i32_166 : BitVec 32 := 16#32
  let v361 : BitVec 32 := Scalar.muli arg17 c16_i32_166
  let c15_i32_167 : BitVec 32 := 15#32
  let v362 : BitVec 32 := Scalar.addi v361 c15_i32_167
  let v363 : Index := Scalar.indexCast v362
  let c32_168 : Index := 32#32
  ![v363.toNat, 32]
def k0_off154 (k0_t18 : Fin k0_t18_loop.trips) : Fin 2 → Nat :=
  let c0_i32_151 : BitVec 32 := 0#32
  let c1_i32_153 : BitVec 32 := 1#32
  let arg17 : BitVec 32 := Scf.iv c0_i32_151 c1_i32_153 k0_t18
  let c16_i32_170 : BitVec 32 := 16#32
  let v376 : BitVec 32 := Scalar.muli arg17 c16_i32_170
  let c15_i32_171 : BitVec 32 := 15#32
  let v377 : BitVec 32 := Scalar.addi v376 c15_i32_171
  let v378 : Index := Scalar.indexCast v377
  let c48_172 : Index := 48#32
  ![v378.toNat, 48]
def k0_off155 (k0_t18 : Fin k0_t18_loop.trips) : Fin 2 → Nat :=
  let c0_i32_151 : BitVec 32 := 0#32
  let c1_i32_153 : BitVec 32 := 1#32
  let arg17 : BitVec 32 := Scf.iv c0_i32_151 c1_i32_153 k0_t18
  let c16_i32_174 : BitVec 32 := 16#32
  let v391 : BitVec 32 := Scalar.muli arg17 c16_i32_174
  let c15_i32_175 : BitVec 32 := 15#32
  let v392 : BitVec 32 := Scalar.addi v391 c15_i32_175
  let v393 : Index := Scalar.indexCast v392
  let c64_176 : Index := 64#32
  ![v393.toNat, 64]
def k0_off156 (k0_t18 : Fin k0_t18_loop.trips) : Fin 2 → Nat :=
  let c0_i32_151 : BitVec 32 := 0#32
  let c1_i32_153 : BitVec 32 := 1#32
  let arg17 : BitVec 32 := Scf.iv c0_i32_151 c1_i32_153 k0_t18
  let c16_i32_178 : BitVec 32 := 16#32
  let v406 : BitVec 32 := Scalar.muli arg17 c16_i32_178
  let c15_i32_179 : BitVec 32 := 15#32
  let v407 : BitVec 32 := Scalar.addi v406 c15_i32_179
  let v408 : Index := Scalar.indexCast v407
  let c80_180 : Index := 80#32
  ![v408.toNat, 80]
def k0_off157 (k0_t18 : Fin k0_t18_loop.trips) : Fin 2 → Nat :=
  let c0_i32_151 : BitVec 32 := 0#32
  let c1_i32_153 : BitVec 32 := 1#32
  let arg17 : BitVec 32 := Scf.iv c0_i32_151 c1_i32_153 k0_t18
  let c16_i32_182 : BitVec 32 := 16#32
  let v421 : BitVec 32 := Scalar.muli arg17 c16_i32_182
  let c15_i32_183 : BitVec 32 := 15#32
  let v422 : BitVec 32 := Scalar.addi v421 c15_i32_183
  let v423 : Index := Scalar.indexCast v422
  let c96_184 : Index := 96#32
  ![v423.toNat, 96]
def k0_off158 (k0_t18 : Fin k0_t18_loop.trips) : Fin 2 → Nat :=
  let c0_i32_151 : BitVec 32 := 0#32
  let c1_i32_153 : BitVec 32 := 1#32
  let arg17 : BitVec 32 := Scf.iv c0_i32_151 c1_i32_153 k0_t18
  let c16_i32_186 : BitVec 32 := 16#32
  let v436 : BitVec 32 := Scalar.muli arg17 c16_i32_186
  let c15_i32_187 : BitVec 32 := 15#32
  let v437 : BitVec 32 := Scalar.addi v436 c15_i32_187
  let v438 : Index := Scalar.indexCast v437
  let c112_188 : Index := 112#32
  ![v438.toNat, 112]
def k0_off159 (v89 : BitVec 32) (v102 : BitVec 32) (k0_t2 : Fin (k0_t2_loop v89 v102).trips) : Fin 1 → Nat :=
  let c0_i32_87 : BitVec 32 := 0#32
  let c1_i32_89 : BitVec 32 := 1#32
  let arg16 : BitVec 32 := Scf.iv c0_i32_87 c1_i32_89 k0_t2
  let c1_i32_147 : BitVec 32 := 1#32
  let v317 : BitVec 32 := Scalar.addi arg16 c1_i32_147
  let c16_i32_148 : BitVec 32 := 16#32
  let v318 : BitVec 32 := Scalar.muli v317 c16_i32_148
  let v319 : BitVec 32 := Scalar.addi v89 v318
  let v320 : Index := Scalar.indexCast v319
  ![v320.toNat]
def k0_cond20 (v89 : BitVec 32) (v102 : BitVec 32) (k0_t2 : Fin (k0_t2_loop v89 v102).trips) : BitVec 1 :=
  let c0_i32_87 : BitVec 32 := 0#32
  let c1_i32_89 : BitVec 32 := 1#32
  let arg16 : BitVec 32 := Scf.iv c0_i32_87 c1_i32_89 k0_t2
  let c1_i32_145 : BitVec 32 := 1#32
  let v313 : BitVec 32 := Scalar.addi arg16 c1_i32_145
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v314 : BitVec 1 := Scalar.cmpi .slt v313 v122
  let v315 : BitVec 32 := Scalar.extui v314
  let c0_i32_146 : BitVec 32 := 0#32
  let v316 : BitVec 1 := Scalar.cmpi .ne v315 c0_i32_146
  v316

@[reducible] def k0_t19_loop (v89 : BitVec 32) (v102 : BitVec 32) : Scf.Loop 32 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let v209 : BitVec 32 := Scalar.addi c0_i32_87 v208
  let c1_i32_90 : BitVec 32 := 1#32
  ⟨v212, v209, c1_i32_90⟩
def k0_off160 (v89 : BitVec 32) (v102 : BitVec 32) (k0_t19 : Fin (k0_t19_loop v89 v102).trips) : Fin 1 → Nat :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_100 : BitVec 32 := 16#32
  let v224 : BitVec 32 := Scalar.muli arg16 c16_i32_100
  let v225 : BitVec 32 := Scalar.addi v89 v224
  let v226 : Index := Scalar.indexCast v225
  ![v226.toNat]
@[reducible] def k0_t20_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off161 (i : grid0.Coords) (k0_t1 : Fin (k0_t1_loop i).trips) (v323 : BitVec 32) (k0_t20 : Fin k0_t20_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t20
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond21 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_102 : BitVec 32 := 16#32
  let v233 : BitVec 32 := Scalar.muli arg16 c16_i32_102
  let c0_i32_103 : BitVec 32 := 0#32
  let v234 : BitVec 32 := Scalar.addi v233 c0_i32_103
  let v235 : BitVec 1 := Scalar.cmpi .slt v234 v103
  let v236 : BitVec 32 := Scalar.extui v235
  let c0_i32_104 : BitVec 32 := 0#32
  let v237 : BitVec 1 := Scalar.cmpi .ne v236 c0_i32_104
  v237

def k0_chk19 (i : grid0.Coords) (k0_t1 : Fin (k0_t1_loop i).trips) (v89 : BitVec 32) (v102 : BitVec 32) (k0_t19 : Fin (k0_t19_loop v89 v102).trips) (v323 : BitVec 32) : Prop :=
  (∀ k0_t20 : Fin k0_t20_loop.trips, ∀ (k0_h21 : k0_cond21 v89 v102 k0_t19 = 1#1), ∀ (r : Fin 8), ∀ a, (k0_off161 i k0_t1 v323 k0_t20 (BitVec.ofNat 32 (16 * r.val))) a + S1x1x16.size a ≤ S2x32x1024.size a)
theorem k0_off161_inb : ∀ (i : grid0.Coords) (k0_t1 : Fin (k0_t1_loop i).trips) (v89 : BitVec 32) (v102 : BitVec 32) (k0_t19 : Fin (k0_t19_loop v89 v102).trips) (v323 : BitVec 32) (k0_hw19 : k0_chk19 i k0_t1 v89 v102 k0_t19 v323) (k0_t20 : Fin k0_t20_loop.trips), ∀ (k0_h21 : k0_cond21 v89 v102 k0_t19 = 1#1), ∀ (r : Fin 8), ∀ a, (k0_off161 i k0_t1 v323 k0_t20 (BitVec.ofNat 32 (16 * r.val))) a + S1x1x16.size a ≤ S2x32x1024.size a := fun i k0_t1 v89 v102 k0_t19 v323 k0_hw19 k0_t20 k0_h21 r => k0_hw19 k0_t20 k0_h21 r

def k0_off162 (k0_t20 : Fin k0_t20_loop.trips) : Fin 2 → Nat :=
  let c0_i32_151 : BitVec 32 := 0#32
  let c1_i32_153 : BitVec 32 := 1#32
  let arg17 : BitVec 32 := Scf.iv c0_i32_151 c1_i32_153 k0_t20
  let c16_i32_156 : BitVec 32 := 16#32
  let v331 : BitVec 32 := Scalar.muli arg17 c16_i32_156
  let c0_i32_157 : BitVec 32 := 0#32
  let v332 : BitVec 32 := Scalar.addi v331 c0_i32_157
  let v333 : Index := Scalar.indexCast v332
  let c0_158 : Index := 0#32
  ![v333.toNat, 0]
def k0_off163 (k0_t20 : Fin k0_t20_loop.trips) : Fin 2 → Nat :=
  let c0_i32_151 : BitVec 32 := 0#32
  let c1_i32_153 : BitVec 32 := 1#32
  let arg17 : BitVec 32 := Scf.iv c0_i32_151 c1_i32_153 k0_t20
  let c16_i32_161 : BitVec 32 := 16#32
  let v346 : BitVec 32 := Scalar.muli arg17 c16_i32_161
  let c0_i32_162 : BitVec 32 := 0#32
  let v347 : BitVec 32 := Scalar.addi v346 c0_i32_162
  let v348 : Index := Scalar.indexCast v347
  let c16_163 : Index := 16#32
  ![v348.toNat, 16]
def k0_off164 (k0_t20 : Fin k0_t20_loop.trips) : Fin 2 → Nat :=
  let c0_i32_151 : BitVec 32 := 0#32
  let c1_i32_153 : BitVec 32 := 1#32
  let arg17 : BitVec 32 := Scf.iv c0_i32_151 c1_i32_153 k0_t20
  let c16_i32_166 : BitVec 32 := 16#32
  let v361 : BitVec 32 := Scalar.muli arg17 c16_i32_166
  let c0_i32_167 : BitVec 32 := 0#32
  let v362 : BitVec 32 := Scalar.addi v361 c0_i32_167
  let v363 : Index := Scalar.indexCast v362
  let c32_168 : Index := 32#32
  ![v363.toNat, 32]
def k0_off165 (k0_t20 : Fin k0_t20_loop.trips) : Fin 2 → Nat :=
  let c0_i32_151 : BitVec 32 := 0#32
  let c1_i32_153 : BitVec 32 := 1#32
  let arg17 : BitVec 32 := Scf.iv c0_i32_151 c1_i32_153 k0_t20
  let c16_i32_170 : BitVec 32 := 16#32
  let v376 : BitVec 32 := Scalar.muli arg17 c16_i32_170
  let c0_i32_171 : BitVec 32 := 0#32
  let v377 : BitVec 32 := Scalar.addi v376 c0_i32_171
  let v378 : Index := Scalar.indexCast v377
  let c48_172 : Index := 48#32
  ![v378.toNat, 48]
def k0_off166 (k0_t20 : Fin k0_t20_loop.trips) : Fin 2 → Nat :=
  let c0_i32_151 : BitVec 32 := 0#32
  let c1_i32_153 : BitVec 32 := 1#32
  let arg17 : BitVec 32 := Scf.iv c0_i32_151 c1_i32_153 k0_t20
  let c16_i32_174 : BitVec 32 := 16#32
  let v391 : BitVec 32 := Scalar.muli arg17 c16_i32_174
  let c0_i32_175 : BitVec 32 := 0#32
  let v392 : BitVec 32 := Scalar.addi v391 c0_i32_175
  let v393 : Index := Scalar.indexCast v392
  let c64_176 : Index := 64#32
  ![v393.toNat, 64]
def k0_off167 (k0_t20 : Fin k0_t20_loop.trips) : Fin 2 → Nat :=
  let c0_i32_151 : BitVec 32 := 0#32
  let c1_i32_153 : BitVec 32 := 1#32
  let arg17 : BitVec 32 := Scf.iv c0_i32_151 c1_i32_153 k0_t20
  let c16_i32_178 : BitVec 32 := 16#32
  let v406 : BitVec 32 := Scalar.muli arg17 c16_i32_178
  let c0_i32_179 : BitVec 32 := 0#32
  let v407 : BitVec 32 := Scalar.addi v406 c0_i32_179
  let v408 : Index := Scalar.indexCast v407
  let c80_180 : Index := 80#32
  ![v408.toNat, 80]
def k0_off168 (k0_t20 : Fin k0_t20_loop.trips) : Fin 2 → Nat :=
  let c0_i32_151 : BitVec 32 := 0#32
  let c1_i32_153 : BitVec 32 := 1#32
  let arg17 : BitVec 32 := Scf.iv c0_i32_151 c1_i32_153 k0_t20
  let c16_i32_182 : BitVec 32 := 16#32
  let v421 : BitVec 32 := Scalar.muli arg17 c16_i32_182
  let c0_i32_183 : BitVec 32 := 0#32
  let v422 : BitVec 32 := Scalar.addi v421 c0_i32_183
  let v423 : Index := Scalar.indexCast v422
  let c96_184 : Index := 96#32
  ![v423.toNat, 96]
def k0_off169 (k0_t20 : Fin k0_t20_loop.trips) : Fin 2 → Nat :=
  let c0_i32_151 : BitVec 32 := 0#32
  let c1_i32_153 : BitVec 32 := 1#32
  let arg17 : BitVec 32 := Scf.iv c0_i32_151 c1_i32_153 k0_t20
  let c16_i32_186 : BitVec 32 := 16#32
  let v436 : BitVec 32 := Scalar.muli arg17 c16_i32_186
  let c0_i32_187 : BitVec 32 := 0#32
  let v437 : BitVec 32 := Scalar.addi v436 c0_i32_187
  let v438 : Index := Scalar.indexCast v437
  let c112_188 : Index := 112#32
  ![v438.toNat, 112]
@[reducible] def k0_t21_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off170 (i : grid0.Coords) (k0_t1 : Fin (k0_t1_loop i).trips) (v323 : BitVec 32) (k0_t21 : Fin k0_t21_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t21
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond22 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_105 : BitVec 32 := 16#32
  let v238 : BitVec 32 := Scalar.muli arg16 c16_i32_105
  let c1_i32_106 : BitVec 32 := 1#32
  let v239 : BitVec 32 := Scalar.addi v238 c1_i32_106
  let v240 : BitVec 1 := Scalar.cmpi .slt v239 v103
  let v241 : BitVec 32 := Scalar.extui v240
  let c0_i32_107 : BitVec 32 := 0#32
  let v242 : BitVec 1 := Scalar.cmpi .ne v241 c0_i32_107
  v242

def k0_chk20 (i : grid0.Coords) (k0_t1 : Fin (k0_t1_loop i).trips) (v89 : BitVec 32) (v102 : BitVec 32) (k0_t19 : Fin (k0_t19_loop v89 v102).trips) (v323 : BitVec 32) : Prop :=
  (∀ k0_t21 : Fin k0_t21_loop.trips, ∀ (k0_h22 : k0_cond22 v89 v102 k0_t19 = 1#1), ∀ (r : Fin 8), ∀ a, (k0_off170 i k0_t1 v323 k0_t21 (BitVec.ofNat 32 (16 * r.val))) a + S1x1x16.size a ≤ S2x32x1024.size a)
theorem k0_off170_inb : ∀ (i : grid0.Coords) (k0_t1 : Fin (k0_t1_loop i).trips) (v89 : BitVec 32) (v102 : BitVec 32) (k0_t19 : Fin (k0_t19_loop v89 v102).trips) (v323 : BitVec 32) (k0_hw20 : k0_chk20 i k0_t1 v89 v102 k0_t19 v323) (k0_t21 : Fin k0_t21_loop.trips), ∀ (k0_h22 : k0_cond22 v89 v102 k0_t19 = 1#1), ∀ (r : Fin 8), ∀ a, (k0_off170 i k0_t1 v323 k0_t21 (BitVec.ofNat 32 (16 * r.val))) a + S1x1x16.size a ≤ S2x32x1024.size a := fun i k0_t1 v89 v102 k0_t19 v323 k0_hw20 k0_t21 k0_h22 r => k0_hw20 k0_t21 k0_h22 r

def k0_off171 (k0_t21 : Fin k0_t21_loop.trips) : Fin 2 → Nat :=
  let c0_i32_151 : BitVec 32 := 0#32
  let c1_i32_153 : BitVec 32 := 1#32
  let arg17 : BitVec 32 := Scf.iv c0_i32_151 c1_i32_153 k0_t21
  let c16_i32_156 : BitVec 32 := 16#32
  let v331 : BitVec 32 := Scalar.muli arg17 c16_i32_156
  let c1_i32_157 : BitVec 32 := 1#32
  let v332 : BitVec 32 := Scalar.addi v331 c1_i32_157
  let v333 : Index := Scalar.indexCast v332
  let c0_158 : Index := 0#32
  ![v333.toNat, 0]
def k0_off172 (k0_t21 : Fin k0_t21_loop.trips) : Fin 2 → Nat :=
  let c0_i32_151 : BitVec 32 := 0#32
  let c1_i32_153 : BitVec 32 := 1#32
  let arg17 : BitVec 32 := Scf.iv c0_i32_151 c1_i32_153 k0_t21
  let c16_i32_161 : BitVec 32 := 16#32
  let v346 : BitVec 32 := Scalar.muli arg17 c16_i32_161
  let c1_i32_162 : BitVec 32 := 1#32
  let v347 : BitVec 32 := Scalar.addi v346 c1_i32_162
  let v348 : Index := Scalar.indexCast v347
  let c16_163 : Index := 16#32
  ![v348.toNat, 16]
def k0_off173 (k0_t21 : Fin k0_t21_loop.trips) : Fin 2 → Nat :=
  let c0_i32_151 : BitVec 32 := 0#32
  let c1_i32_153 : BitVec 32 := 1#32
  let arg17 : BitVec 32 := Scf.iv c0_i32_151 c1_i32_153 k0_t21
  let c16_i32_166 : BitVec 32 := 16#32
  let v361 : BitVec 32 := Scalar.muli arg17 c16_i32_166
  let c1_i32_167 : BitVec 32 := 1#32
  let v362 : BitVec 32 := Scalar.addi v361 c1_i32_167
  let v363 : Index := Scalar.indexCast v362
  let c32_168 : Index := 32#32
  ![v363.toNat, 32]
def k0_off174 (k0_t21 : Fin k0_t21_loop.trips) : Fin 2 → Nat :=
  let c0_i32_151 : BitVec 32 := 0#32
  let c1_i32_153 : BitVec 32 := 1#32
  let arg17 : BitVec 32 := Scf.iv c0_i32_151 c1_i32_153 k0_t21
  let c16_i32_170 : BitVec 32 := 16#32
  let v376 : BitVec 32 := Scalar.muli arg17 c16_i32_170
  let c1_i32_171 : BitVec 32 := 1#32
  let v377 : BitVec 32 := Scalar.addi v376 c1_i32_171
  let v378 : Index := Scalar.indexCast v377
  let c48_172 : Index := 48#32
  ![v378.toNat, 48]
def k0_off175 (k0_t21 : Fin k0_t21_loop.trips) : Fin 2 → Nat :=
  let c0_i32_151 : BitVec 32 := 0#32
  let c1_i32_153 : BitVec 32 := 1#32
  let arg17 : BitVec 32 := Scf.iv c0_i32_151 c1_i32_153 k0_t21
  let c16_i32_174 : BitVec 32 := 16#32
  let v391 : BitVec 32 := Scalar.muli arg17 c16_i32_174
  let c1_i32_175 : BitVec 32 := 1#32
  let v392 : BitVec 32 := Scalar.addi v391 c1_i32_175
  let v393 : Index := Scalar.indexCast v392
  let c64_176 : Index := 64#32
  ![v393.toNat, 64]
def k0_off176 (k0_t21 : Fin k0_t21_loop.trips) : Fin 2 → Nat :=
  let c0_i32_151 : BitVec 32 := 0#32
  let c1_i32_153 : BitVec 32 := 1#32
  let arg17 : BitVec 32 := Scf.iv c0_i32_151 c1_i32_153 k0_t21
  let c16_i32_178 : BitVec 32 := 16#32
  let v406 : BitVec 32 := Scalar.muli arg17 c16_i32_178
  let c1_i32_179 : BitVec 32 := 1#32
  let v407 : BitVec 32 := Scalar.addi v406 c1_i32_179
  let v408 : Index := Scalar.indexCast v407
  let c80_180 : Index := 80#32
  ![v408.toNat, 80]
def k0_off177 (k0_t21 : Fin k0_t21_loop.trips) : Fin 2 → Nat :=
  let c0_i32_151 : BitVec 32 := 0#32
  let c1_i32_153 : BitVec 32 := 1#32
  let arg17 : BitVec 32 := Scf.iv c0_i32_151 c1_i32_153 k0_t21
  let c16_i32_182 : BitVec 32 := 16#32
  let v421 : BitVec 32 := Scalar.muli arg17 c16_i32_182
  let c1_i32_183 : BitVec 32 := 1#32
  let v422 : BitVec 32 := Scalar.addi v421 c1_i32_183
  let v423 : Index := Scalar.indexCast v422
  let c96_184 : Index := 96#32
  ![v423.toNat, 96]
def k0_off178 (k0_t21 : Fin k0_t21_loop.trips) : Fin 2 → Nat :=
  let c0_i32_151 : BitVec 32 := 0#32
  let c1_i32_153 : BitVec 32 := 1#32
  let arg17 : BitVec 32 := Scf.iv c0_i32_151 c1_i32_153 k0_t21
  let c16_i32_186 : BitVec 32 := 16#32
  let v436 : BitVec 32 := Scalar.muli arg17 c16_i32_186
  let c1_i32_187 : BitVec 32 := 1#32
  let v437 : BitVec 32 := Scalar.addi v436 c1_i32_187
  let v438 : Index := Scalar.indexCast v437
  let c112_188 : Index := 112#32
  ![v438.toNat, 112]
@[reducible] def k0_t22_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off179 (i : grid0.Coords) (k0_t1 : Fin (k0_t1_loop i).trips) (v323 : BitVec 32) (k0_t22 : Fin k0_t22_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t22
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond23 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_108 : BitVec 32 := 16#32
  let v243 : BitVec 32 := Scalar.muli arg16 c16_i32_108
  let c2_i32_109 : BitVec 32 := 2#32
  let v244 : BitVec 32 := Scalar.addi v243 c2_i32_109
  let v245 : BitVec 1 := Scalar.cmpi .slt v244 v103
  let v246 : BitVec 32 := Scalar.extui v245
  let c0_i32_110 : BitVec 32 := 0#32
  let v247 : BitVec 1 := Scalar.cmpi .ne v246 c0_i32_110
  v247

def k0_chk21 (i : grid0.Coords) (k0_t1 : Fin (k0_t1_loop i).trips) (v89 : BitVec 32) (v102 : BitVec 32) (k0_t19 : Fin (k0_t19_loop v89 v102).trips) (v323 : BitVec 32) : Prop :=
  (∀ k0_t22 : Fin k0_t22_loop.trips, ∀ (k0_h23 : k0_cond23 v89 v102 k0_t19 = 1#1), ∀ (r : Fin 8), ∀ a, (k0_off179 i k0_t1 v323 k0_t22 (BitVec.ofNat 32 (16 * r.val))) a + S1x1x16.size a ≤ S2x32x1024.size a)
theorem k0_off179_inb : ∀ (i : grid0.Coords) (k0_t1 : Fin (k0_t1_loop i).trips) (v89 : BitVec 32) (v102 : BitVec 32) (k0_t19 : Fin (k0_t19_loop v89 v102).trips) (v323 : BitVec 32) (k0_hw21 : k0_chk21 i k0_t1 v89 v102 k0_t19 v323) (k0_t22 : Fin k0_t22_loop.trips), ∀ (k0_h23 : k0_cond23 v89 v102 k0_t19 = 1#1), ∀ (r : Fin 8), ∀ a, (k0_off179 i k0_t1 v323 k0_t22 (BitVec.ofNat 32 (16 * r.val))) a + S1x1x16.size a ≤ S2x32x1024.size a := fun i k0_t1 v89 v102 k0_t19 v323 k0_hw21 k0_t22 k0_h23 r => k0_hw21 k0_t22 k0_h23 r

def k0_off180 (k0_t22 : Fin k0_t22_loop.trips) : Fin 2 → Nat :=
  let c0_i32_151 : BitVec 32 := 0#32
  let c1_i32_153 : BitVec 32 := 1#32
  let arg17 : BitVec 32 := Scf.iv c0_i32_151 c1_i32_153 k0_t22
  let c16_i32_156 : BitVec 32 := 16#32
  let v331 : BitVec 32 := Scalar.muli arg17 c16_i32_156
  let c2_i32_157 : BitVec 32 := 2#32
  let v332 : BitVec 32 := Scalar.addi v331 c2_i32_157
  let v333 : Index := Scalar.indexCast v332
  let c0_158 : Index := 0#32
  ![v333.toNat, 0]
def k0_off181 (k0_t22 : Fin k0_t22_loop.trips) : Fin 2 → Nat :=
  let c0_i32_151 : BitVec 32 := 0#32
  let c1_i32_153 : BitVec 32 := 1#32
  let arg17 : BitVec 32 := Scf.iv c0_i32_151 c1_i32_153 k0_t22
  let c16_i32_161 : BitVec 32 := 16#32
  let v346 : BitVec 32 := Scalar.muli arg17 c16_i32_161
  let c2_i32_162 : BitVec 32 := 2#32
  let v347 : BitVec 32 := Scalar.addi v346 c2_i32_162
  let v348 : Index := Scalar.indexCast v347
  let c16_163 : Index := 16#32
  ![v348.toNat, 16]
def k0_off182 (k0_t22 : Fin k0_t22_loop.trips) : Fin 2 → Nat :=
  let c0_i32_151 : BitVec 32 := 0#32
  let c1_i32_153 : BitVec 32 := 1#32
  let arg17 : BitVec 32 := Scf.iv c0_i32_151 c1_i32_153 k0_t22
  let c16_i32_166 : BitVec 32 := 16#32
  let v361 : BitVec 32 := Scalar.muli arg17 c16_i32_166
  let c2_i32_167 : BitVec 32 := 2#32
  let v362 : BitVec 32 := Scalar.addi v361 c2_i32_167
  let v363 : Index := Scalar.indexCast v362
  let c32_168 : Index := 32#32
  ![v363.toNat, 32]
def k0_off183 (k0_t22 : Fin k0_t22_loop.trips) : Fin 2 → Nat :=
  let c0_i32_151 : BitVec 32 := 0#32
  let c1_i32_153 : BitVec 32 := 1#32
  let arg17 : BitVec 32 := Scf.iv c0_i32_151 c1_i32_153 k0_t22
  let c16_i32_170 : BitVec 32 := 16#32
  let v376 : BitVec 32 := Scalar.muli arg17 c16_i32_170
  let c2_i32_171 : BitVec 32 := 2#32
  let v377 : BitVec 32 := Scalar.addi v376 c2_i32_171
  let v378 : Index := Scalar.indexCast v377
  let c48_172 : Index := 48#32
  ![v378.toNat, 48]
def k0_off184 (k0_t22 : Fin k0_t22_loop.trips) : Fin 2 → Nat :=
  let c0_i32_151 : BitVec 32 := 0#32
  let c1_i32_153 : BitVec 32 := 1#32
  let arg17 : BitVec 32 := Scf.iv c0_i32_151 c1_i32_153 k0_t22
  let c16_i32_174 : BitVec 32 := 16#32
  let v391 : BitVec 32 := Scalar.muli arg17 c16_i32_174
  let c2_i32_175 : BitVec 32 := 2#32
  let v392 : BitVec 32 := Scalar.addi v391 c2_i32_175
  let v393 : Index := Scalar.indexCast v392
  let c64_176 : Index := 64#32
  ![v393.toNat, 64]
def k0_off185 (k0_t22 : Fin k0_t22_loop.trips) : Fin 2 → Nat :=
  let c0_i32_151 : BitVec 32 := 0#32
  let c1_i32_153 : BitVec 32 := 1#32
  let arg17 : BitVec 32 := Scf.iv c0_i32_151 c1_i32_153 k0_t22
  let c16_i32_178 : BitVec 32 := 16#32
  let v406 : BitVec 32 := Scalar.muli arg17 c16_i32_178
  let c2_i32_179 : BitVec 32 := 2#32
  let v407 : BitVec 32 := Scalar.addi v406 c2_i32_179
  let v408 : Index := Scalar.indexCast v407
  let c80_180 : Index := 80#32
  ![v408.toNat, 80]
def k0_off186 (k0_t22 : Fin k0_t22_loop.trips) : Fin 2 → Nat :=
  let c0_i32_151 : BitVec 32 := 0#32
  let c1_i32_153 : BitVec 32 := 1#32
  let arg17 : BitVec 32 := Scf.iv c0_i32_151 c1_i32_153 k0_t22
  let c16_i32_182 : BitVec 32 := 16#32
  let v421 : BitVec 32 := Scalar.muli arg17 c16_i32_182
  let c2_i32_183 : BitVec 32 := 2#32
  let v422 : BitVec 32 := Scalar.addi v421 c2_i32_183
  let v423 : Index := Scalar.indexCast v422
  let c96_184 : Index := 96#32
  ![v423.toNat, 96]
def k0_off187 (k0_t22 : Fin k0_t22_loop.trips) : Fin 2 → Nat :=
  let c0_i32_151 : BitVec 32 := 0#32
  let c1_i32_153 : BitVec 32 := 1#32
  let arg17 : BitVec 32 := Scf.iv c0_i32_151 c1_i32_153 k0_t22
  let c16_i32_186 : BitVec 32 := 16#32
  let v436 : BitVec 32 := Scalar.muli arg17 c16_i32_186
  let c2_i32_187 : BitVec 32 := 2#32
  let v437 : BitVec 32 := Scalar.addi v436 c2_i32_187
  let v438 : Index := Scalar.indexCast v437
  let c112_188 : Index := 112#32
  ![v438.toNat, 112]
@[reducible] def k0_t23_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off188 (i : grid0.Coords) (k0_t1 : Fin (k0_t1_loop i).trips) (v323 : BitVec 32) (k0_t23 : Fin k0_t23_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t23
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond24 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_111 : BitVec 32 := 16#32
  let v248 : BitVec 32 := Scalar.muli arg16 c16_i32_111
  let c3_i32_112 : BitVec 32 := 3#32
  let v249 : BitVec 32 := Scalar.addi v248 c3_i32_112
  let v250 : BitVec 1 := Scalar.cmpi .slt v249 v103
  let v251 : BitVec 32 := Scalar.extui v250
  let c0_i32_113 : BitVec 32 := 0#32
  let v252 : BitVec 1 := Scalar.cmpi .ne v251 c0_i32_113
  v252

def k0_chk22 (i : grid0.Coords) (k0_t1 : Fin (k0_t1_loop i).trips) (v89 : BitVec 32) (v102 : BitVec 32) (k0_t19 : Fin (k0_t19_loop v89 v102).trips) (v323 : BitVec 32) : Prop :=
  (∀ k0_t23 : Fin k0_t23_loop.trips, ∀ (k0_h24 : k0_cond24 v89 v102 k0_t19 = 1#1), ∀ (r : Fin 8), ∀ a, (k0_off188 i k0_t1 v323 k0_t23 (BitVec.ofNat 32 (16 * r.val))) a + S1x1x16.size a ≤ S2x32x1024.size a)
theorem k0_off188_inb : ∀ (i : grid0.Coords) (k0_t1 : Fin (k0_t1_loop i).trips) (v89 : BitVec 32) (v102 : BitVec 32) (k0_t19 : Fin (k0_t19_loop v89 v102).trips) (v323 : BitVec 32) (k0_hw22 : k0_chk22 i k0_t1 v89 v102 k0_t19 v323) (k0_t23 : Fin k0_t23_loop.trips), ∀ (k0_h24 : k0_cond24 v89 v102 k0_t19 = 1#1), ∀ (r : Fin 8), ∀ a, (k0_off188 i k0_t1 v323 k0_t23 (BitVec.ofNat 32 (16 * r.val))) a + S1x1x16.size a ≤ S2x32x1024.size a := fun i k0_t1 v89 v102 k0_t19 v323 k0_hw22 k0_t23 k0_h24 r => k0_hw22 k0_t23 k0_h24 r

def k0_off189 (k0_t23 : Fin k0_t23_loop.trips) : Fin 2 → Nat :=
  let c0_i32_151 : BitVec 32 := 0#32
  let c1_i32_153 : BitVec 32 := 1#32
  let arg17 : BitVec 32 := Scf.iv c0_i32_151 c1_i32_153 k0_t23
  let c16_i32_156 : BitVec 32 := 16#32
  let v331 : BitVec 32 := Scalar.muli arg17 c16_i32_156
  let c3_i32_157 : BitVec 32 := 3#32
  let v332 : BitVec 32 := Scalar.addi v331 c3_i32_157
  let v333 : Index := Scalar.indexCast v332
  let c0_158 : Index := 0#32
  ![v333.toNat, 0]
def k0_off190 (k0_t23 : Fin k0_t23_loop.trips) : Fin 2 → Nat :=
  let c0_i32_151 : BitVec 32 := 0#32
  let c1_i32_153 : BitVec 32 := 1#32
  let arg17 : BitVec 32 := Scf.iv c0_i32_151 c1_i32_153 k0_t23
  let c16_i32_161 : BitVec 32 := 16#32
  let v346 : BitVec 32 := Scalar.muli arg17 c16_i32_161
  let c3_i32_162 : BitVec 32 := 3#32
  let v347 : BitVec 32 := Scalar.addi v346 c3_i32_162
  let v348 : Index := Scalar.indexCast v347
  let c16_163 : Index := 16#32
  ![v348.toNat, 16]
def k0_off191 (k0_t23 : Fin k0_t23_loop.trips) : Fin 2 → Nat :=
  let c0_i32_151 : BitVec 32 := 0#32
  let c1_i32_153 : BitVec 32 := 1#32
  let arg17 : BitVec 32 := Scf.iv c0_i32_151 c1_i32_153 k0_t23
  let c16_i32_166 : BitVec 32 := 16#32
  let v361 : BitVec 32 := Scalar.muli arg17 c16_i32_166
  let c3_i32_167 : BitVec 32 := 3#32
  let v362 : BitVec 32 := Scalar.addi v361 c3_i32_167
  let v363 : Index := Scalar.indexCast v362
  let c32_168 : Index := 32#32
  ![v363.toNat, 32]
def k0_off192 (k0_t23 : Fin k0_t23_loop.trips) : Fin 2 → Nat :=
  let c0_i32_151 : BitVec 32 := 0#32
  let c1_i32_153 : BitVec 32 := 1#32
  let arg17 : BitVec 32 := Scf.iv c0_i32_151 c1_i32_153 k0_t23
  let c16_i32_170 : BitVec 32 := 16#32
  let v376 : BitVec 32 := Scalar.muli arg17 c16_i32_170
  let c3_i32_171 : BitVec 32 := 3#32
  let v377 : BitVec 32 := Scalar.addi v376 c3_i32_171
  let v378 : Index := Scalar.indexCast v377
  let c48_172 : Index := 48#32
  ![v378.toNat, 48]
def k0_off193 (k0_t23 : Fin k0_t23_loop.trips) : Fin 2 → Nat :=
  let c0_i32_151 : BitVec 32 := 0#32
  let c1_i32_153 : BitVec 32 := 1#32
  let arg17 : BitVec 32 := Scf.iv c0_i32_151 c1_i32_153 k0_t23
  let c16_i32_174 : BitVec 32 := 16#32
  let v391 : BitVec 32 := Scalar.muli arg17 c16_i32_174
  let c3_i32_175 : BitVec 32 := 3#32
  let v392 : BitVec 32 := Scalar.addi v391 c3_i32_175
  let v393 : Index := Scalar.indexCast v392
  let c64_176 : Index := 64#32
  ![v393.toNat, 64]
def k0_off194 (k0_t23 : Fin k0_t23_loop.trips) : Fin 2 → Nat :=
  let c0_i32_151 : BitVec 32 := 0#32
  let c1_i32_153 : BitVec 32 := 1#32
  let arg17 : BitVec 32 := Scf.iv c0_i32_151 c1_i32_153 k0_t23
  let c16_i32_178 : BitVec 32 := 16#32
  let v406 : BitVec 32 := Scalar.muli arg17 c16_i32_178
  let c3_i32_179 : BitVec 32 := 3#32
  let v407 : BitVec 32 := Scalar.addi v406 c3_i32_179
  let v408 : Index := Scalar.indexCast v407
  let c80_180 : Index := 80#32
  ![v408.toNat, 80]
def k0_off195 (k0_t23 : Fin k0_t23_loop.trips) : Fin 2 → Nat :=
  let c0_i32_151 : BitVec 32 := 0#32
  let c1_i32_153 : BitVec 32 := 1#32
  let arg17 : BitVec 32 := Scf.iv c0_i32_151 c1_i32_153 k0_t23
  let c16_i32_182 : BitVec 32 := 16#32
  let v421 : BitVec 32 := Scalar.muli arg17 c16_i32_182
  let c3_i32_183 : BitVec 32 := 3#32
  let v422 : BitVec 32 := Scalar.addi v421 c3_i32_183
  let v423 : Index := Scalar.indexCast v422
  let c96_184 : Index := 96#32
  ![v423.toNat, 96]
def k0_off196 (k0_t23 : Fin k0_t23_loop.trips) : Fin 2 → Nat :=
  let c0_i32_151 : BitVec 32 := 0#32
  let c1_i32_153 : BitVec 32 := 1#32
  let arg17 : BitVec 32 := Scf.iv c0_i32_151 c1_i32_153 k0_t23
  let c16_i32_186 : BitVec 32 := 16#32
  let v436 : BitVec 32 := Scalar.muli arg17 c16_i32_186
  let c3_i32_187 : BitVec 32 := 3#32
  let v437 : BitVec 32 := Scalar.addi v436 c3_i32_187
  let v438 : Index := Scalar.indexCast v437
  let c112_188 : Index := 112#32
  ![v438.toNat, 112]
@[reducible] def k0_t24_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off197 (i : grid0.Coords) (k0_t1 : Fin (k0_t1_loop i).trips) (v323 : BitVec 32) (k0_t24 : Fin k0_t24_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t24
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond25 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_114 : BitVec 32 := 16#32
  let v253 : BitVec 32 := Scalar.muli arg16 c16_i32_114
  let c4_i32_115 : BitVec 32 := 4#32
  let v254 : BitVec 32 := Scalar.addi v253 c4_i32_115
  let v255 : BitVec 1 := Scalar.cmpi .slt v254 v103
  let v256 : BitVec 32 := Scalar.extui v255
  let c0_i32_116 : BitVec 32 := 0#32
  let v257 : BitVec 1 := Scalar.cmpi .ne v256 c0_i32_116
  v257

def k0_chk23 (i : grid0.Coords) (k0_t1 : Fin (k0_t1_loop i).trips) (v89 : BitVec 32) (v102 : BitVec 32) (k0_t19 : Fin (k0_t19_loop v89 v102).trips) (v323 : BitVec 32) : Prop :=
  (∀ k0_t24 : Fin k0_t24_loop.trips, ∀ (k0_h25 : k0_cond25 v89 v102 k0_t19 = 1#1), ∀ (r : Fin 8), ∀ a, (k0_off197 i k0_t1 v323 k0_t24 (BitVec.ofNat 32 (16 * r.val))) a + S1x1x16.size a ≤ S2x32x1024.size a)
theorem k0_off197_inb : ∀ (i : grid0.Coords) (k0_t1 : Fin (k0_t1_loop i).trips) (v89 : BitVec 32) (v102 : BitVec 32) (k0_t19 : Fin (k0_t19_loop v89 v102).trips) (v323 : BitVec 32) (k0_hw23 : k0_chk23 i k0_t1 v89 v102 k0_t19 v323) (k0_t24 : Fin k0_t24_loop.trips), ∀ (k0_h25 : k0_cond25 v89 v102 k0_t19 = 1#1), ∀ (r : Fin 8), ∀ a, (k0_off197 i k0_t1 v323 k0_t24 (BitVec.ofNat 32 (16 * r.val))) a + S1x1x16.size a ≤ S2x32x1024.size a := fun i k0_t1 v89 v102 k0_t19 v323 k0_hw23 k0_t24 k0_h25 r => k0_hw23 k0_t24 k0_h25 r

def k0_off198 (k0_t24 : Fin k0_t24_loop.trips) : Fin 2 → Nat :=
  let c0_i32_151 : BitVec 32 := 0#32
  let c1_i32_153 : BitVec 32 := 1#32
  let arg17 : BitVec 32 := Scf.iv c0_i32_151 c1_i32_153 k0_t24
  let c16_i32_156 : BitVec 32 := 16#32
  let v331 : BitVec 32 := Scalar.muli arg17 c16_i32_156
  let c4_i32_157 : BitVec 32 := 4#32
  let v332 : BitVec 32 := Scalar.addi v331 c4_i32_157
  let v333 : Index := Scalar.indexCast v332
  let c0_158 : Index := 0#32
  ![v333.toNat, 0]
def k0_off199 (k0_t24 : Fin k0_t24_loop.trips) : Fin 2 → Nat :=
  let c0_i32_151 : BitVec 32 := 0#32
  let c1_i32_153 : BitVec 32 := 1#32
  let arg17 : BitVec 32 := Scf.iv c0_i32_151 c1_i32_153 k0_t24
  let c16_i32_161 : BitVec 32 := 16#32
  let v346 : BitVec 32 := Scalar.muli arg17 c16_i32_161
  let c4_i32_162 : BitVec 32 := 4#32
  let v347 : BitVec 32 := Scalar.addi v346 c4_i32_162
  let v348 : Index := Scalar.indexCast v347
  let c16_163 : Index := 16#32
  ![v348.toNat, 16]
def k0_off200 (k0_t24 : Fin k0_t24_loop.trips) : Fin 2 → Nat :=
  let c0_i32_151 : BitVec 32 := 0#32
  let c1_i32_153 : BitVec 32 := 1#32
  let arg17 : BitVec 32 := Scf.iv c0_i32_151 c1_i32_153 k0_t24
  let c16_i32_166 : BitVec 32 := 16#32
  let v361 : BitVec 32 := Scalar.muli arg17 c16_i32_166
  let c4_i32_167 : BitVec 32 := 4#32
  let v362 : BitVec 32 := Scalar.addi v361 c4_i32_167
  let v363 : Index := Scalar.indexCast v362
  let c32_168 : Index := 32#32
  ![v363.toNat, 32]
def k0_off201 (k0_t24 : Fin k0_t24_loop.trips) : Fin 2 → Nat :=
  let c0_i32_151 : BitVec 32 := 0#32
  let c1_i32_153 : BitVec 32 := 1#32
  let arg17 : BitVec 32 := Scf.iv c0_i32_151 c1_i32_153 k0_t24
  let c16_i32_170 : BitVec 32 := 16#32
  let v376 : BitVec 32 := Scalar.muli arg17 c16_i32_170
  let c4_i32_171 : BitVec 32 := 4#32
  let v377 : BitVec 32 := Scalar.addi v376 c4_i32_171
  let v378 : Index := Scalar.indexCast v377
  let c48_172 : Index := 48#32
  ![v378.toNat, 48]
def k0_off202 (k0_t24 : Fin k0_t24_loop.trips) : Fin 2 → Nat :=
  let c0_i32_151 : BitVec 32 := 0#32
  let c1_i32_153 : BitVec 32 := 1#32
  let arg17 : BitVec 32 := Scf.iv c0_i32_151 c1_i32_153 k0_t24
  let c16_i32_174 : BitVec 32 := 16#32
  let v391 : BitVec 32 := Scalar.muli arg17 c16_i32_174
  let c4_i32_175 : BitVec 32 := 4#32
  let v392 : BitVec 32 := Scalar.addi v391 c4_i32_175
  let v393 : Index := Scalar.indexCast v392
  let c64_176 : Index := 64#32
  ![v393.toNat, 64]
def k0_off203 (k0_t24 : Fin k0_t24_loop.trips) : Fin 2 → Nat :=
  let c0_i32_151 : BitVec 32 := 0#32
  let c1_i32_153 : BitVec 32 := 1#32
  let arg17 : BitVec 32 := Scf.iv c0_i32_151 c1_i32_153 k0_t24
  let c16_i32_178 : BitVec 32 := 16#32
  let v406 : BitVec 32 := Scalar.muli arg17 c16_i32_178
  let c4_i32_179 : BitVec 32 := 4#32
  let v407 : BitVec 32 := Scalar.addi v406 c4_i32_179
  let v408 : Index := Scalar.indexCast v407
  let c80_180 : Index := 80#32
  ![v408.toNat, 80]
def k0_off204 (k0_t24 : Fin k0_t24_loop.trips) : Fin 2 → Nat :=
  let c0_i32_151 : BitVec 32 := 0#32
  let c1_i32_153 : BitVec 32 := 1#32
  let arg17 : BitVec 32 := Scf.iv c0_i32_151 c1_i32_153 k0_t24
  let c16_i32_182 : BitVec 32 := 16#32
  let v421 : BitVec 32 := Scalar.muli arg17 c16_i32_182
  let c4_i32_183 : BitVec 32 := 4#32
  let v422 : BitVec 32 := Scalar.addi v421 c4_i32_183
  let v423 : Index := Scalar.indexCast v422
  let c96_184 : Index := 96#32
  ![v423.toNat, 96]
def k0_off205 (k0_t24 : Fin k0_t24_loop.trips) : Fin 2 → Nat :=
  let c0_i32_151 : BitVec 32 := 0#32
  let c1_i32_153 : BitVec 32 := 1#32
  let arg17 : BitVec 32 := Scf.iv c0_i32_151 c1_i32_153 k0_t24
  let c16_i32_186 : BitVec 32 := 16#32
  let v436 : BitVec 32 := Scalar.muli arg17 c16_i32_186
  let c4_i32_187 : BitVec 32 := 4#32
  let v437 : BitVec 32 := Scalar.addi v436 c4_i32_187
  let v438 : Index := Scalar.indexCast v437
  let c112_188 : Index := 112#32
  ![v438.toNat, 112]
@[reducible] def k0_t25_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off206 (i : grid0.Coords) (k0_t1 : Fin (k0_t1_loop i).trips) (v323 : BitVec 32) (k0_t25 : Fin k0_t25_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t25
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond26 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_117 : BitVec 32 := 16#32
  let v258 : BitVec 32 := Scalar.muli arg16 c16_i32_117
  let c5_i32_118 : BitVec 32 := 5#32
  let v259 : BitVec 32 := Scalar.addi v258 c5_i32_118
  let v260 : BitVec 1 := Scalar.cmpi .slt v259 v103
  let v261 : BitVec 32 := Scalar.extui v260
  let c0_i32_119 : BitVec 32 := 0#32
  let v262 : BitVec 1 := Scalar.cmpi .ne v261 c0_i32_119
  v262

def k0_chk24 (i : grid0.Coords) (k0_t1 : Fin (k0_t1_loop i).trips) (v89 : BitVec 32) (v102 : BitVec 32) (k0_t19 : Fin (k0_t19_loop v89 v102).trips) (v323 : BitVec 32) : Prop :=
  (∀ k0_t25 : Fin k0_t25_loop.trips, ∀ (k0_h26 : k0_cond26 v89 v102 k0_t19 = 1#1), ∀ (r : Fin 8), ∀ a, (k0_off206 i k0_t1 v323 k0_t25 (BitVec.ofNat 32 (16 * r.val))) a + S1x1x16.size a ≤ S2x32x1024.size a)
theorem k0_off206_inb : ∀ (i : grid0.Coords) (k0_t1 : Fin (k0_t1_loop i).trips) (v89 : BitVec 32) (v102 : BitVec 32) (k0_t19 : Fin (k0_t19_loop v89 v102).trips) (v323 : BitVec 32) (k0_hw24 : k0_chk24 i k0_t1 v89 v102 k0_t19 v323) (k0_t25 : Fin k0_t25_loop.trips), ∀ (k0_h26 : k0_cond26 v89 v102 k0_t19 = 1#1), ∀ (r : Fin 8), ∀ a, (k0_off206 i k0_t1 v323 k0_t25 (BitVec.ofNat 32 (16 * r.val))) a + S1x1x16.size a ≤ S2x32x1024.size a := fun i k0_t1 v89 v102 k0_t19 v323 k0_hw24 k0_t25 k0_h26 r => k0_hw24 k0_t25 k0_h26 r

def k0_off207 (k0_t25 : Fin k0_t25_loop.trips) : Fin 2 → Nat :=
  let c0_i32_151 : BitVec 32 := 0#32
  let c1_i32_153 : BitVec 32 := 1#32
  let arg17 : BitVec 32 := Scf.iv c0_i32_151 c1_i32_153 k0_t25
  let c16_i32_156 : BitVec 32 := 16#32
  let v331 : BitVec 32 := Scalar.muli arg17 c16_i32_156
  let c5_i32_157 : BitVec 32 := 5#32
  let v332 : BitVec 32 := Scalar.addi v331 c5_i32_157
  let v333 : Index := Scalar.indexCast v332
  let c0_158 : Index := 0#32
  ![v333.toNat, 0]
def k0_off208 (k0_t25 : Fin k0_t25_loop.trips) : Fin 2 → Nat :=
  let c0_i32_151 : BitVec 32 := 0#32
  let c1_i32_153 : BitVec 32 := 1#32
  let arg17 : BitVec 32 := Scf.iv c0_i32_151 c1_i32_153 k0_t25
  let c16_i32_161 : BitVec 32 := 16#32
  let v346 : BitVec 32 := Scalar.muli arg17 c16_i32_161
  let c5_i32_162 : BitVec 32 := 5#32
  let v347 : BitVec 32 := Scalar.addi v346 c5_i32_162
  let v348 : Index := Scalar.indexCast v347
  let c16_163 : Index := 16#32
  ![v348.toNat, 16]
def k0_off209 (k0_t25 : Fin k0_t25_loop.trips) : Fin 2 → Nat :=
  let c0_i32_151 : BitVec 32 := 0#32
  let c1_i32_153 : BitVec 32 := 1#32
  let arg17 : BitVec 32 := Scf.iv c0_i32_151 c1_i32_153 k0_t25
  let c16_i32_166 : BitVec 32 := 16#32
  let v361 : BitVec 32 := Scalar.muli arg17 c16_i32_166
  let c5_i32_167 : BitVec 32 := 5#32
  let v362 : BitVec 32 := Scalar.addi v361 c5_i32_167
  let v363 : Index := Scalar.indexCast v362
  let c32_168 : Index := 32#32
  ![v363.toNat, 32]
def k0_off210 (k0_t25 : Fin k0_t25_loop.trips) : Fin 2 → Nat :=
  let c0_i32_151 : BitVec 32 := 0#32
  let c1_i32_153 : BitVec 32 := 1#32
  let arg17 : BitVec 32 := Scf.iv c0_i32_151 c1_i32_153 k0_t25
  let c16_i32_170 : BitVec 32 := 16#32
  let v376 : BitVec 32 := Scalar.muli arg17 c16_i32_170
  let c5_i32_171 : BitVec 32 := 5#32
  let v377 : BitVec 32 := Scalar.addi v376 c5_i32_171
  let v378 : Index := Scalar.indexCast v377
  let c48_172 : Index := 48#32
  ![v378.toNat, 48]
def k0_off211 (k0_t25 : Fin k0_t25_loop.trips) : Fin 2 → Nat :=
  let c0_i32_151 : BitVec 32 := 0#32
  let c1_i32_153 : BitVec 32 := 1#32
  let arg17 : BitVec 32 := Scf.iv c0_i32_151 c1_i32_153 k0_t25
  let c16_i32_174 : BitVec 32 := 16#32
  let v391 : BitVec 32 := Scalar.muli arg17 c16_i32_174
  let c5_i32_175 : BitVec 32 := 5#32
  let v392 : BitVec 32 := Scalar.addi v391 c5_i32_175
  let v393 : Index := Scalar.indexCast v392
  let c64_176 : Index := 64#32
  ![v393.toNat, 64]
def k0_off212 (k0_t25 : Fin k0_t25_loop.trips) : Fin 2 → Nat :=
  let c0_i32_151 : BitVec 32 := 0#32
  let c1_i32_153 : BitVec 32 := 1#32
  let arg17 : BitVec 32 := Scf.iv c0_i32_151 c1_i32_153 k0_t25
  let c16_i32_178 : BitVec 32 := 16#32
  let v406 : BitVec 32 := Scalar.muli arg17 c16_i32_178
  let c5_i32_179 : BitVec 32 := 5#32
  let v407 : BitVec 32 := Scalar.addi v406 c5_i32_179
  let v408 : Index := Scalar.indexCast v407
  let c80_180 : Index := 80#32
  ![v408.toNat, 80]
def k0_off213 (k0_t25 : Fin k0_t25_loop.trips) : Fin 2 → Nat :=
  let c0_i32_151 : BitVec 32 := 0#32
  let c1_i32_153 : BitVec 32 := 1#32
  let arg17 : BitVec 32 := Scf.iv c0_i32_151 c1_i32_153 k0_t25
  let c16_i32_182 : BitVec 32 := 16#32
  let v421 : BitVec 32 := Scalar.muli arg17 c16_i32_182
  let c5_i32_183 : BitVec 32 := 5#32
  let v422 : BitVec 32 := Scalar.addi v421 c5_i32_183
  let v423 : Index := Scalar.indexCast v422
  let c96_184 : Index := 96#32
  ![v423.toNat, 96]
def k0_off214 (k0_t25 : Fin k0_t25_loop.trips) : Fin 2 → Nat :=
  let c0_i32_151 : BitVec 32 := 0#32
  let c1_i32_153 : BitVec 32 := 1#32
  let arg17 : BitVec 32 := Scf.iv c0_i32_151 c1_i32_153 k0_t25
  let c16_i32_186 : BitVec 32 := 16#32
  let v436 : BitVec 32 := Scalar.muli arg17 c16_i32_186
  let c5_i32_187 : BitVec 32 := 5#32
  let v437 : BitVec 32 := Scalar.addi v436 c5_i32_187
  let v438 : Index := Scalar.indexCast v437
  let c112_188 : Index := 112#32
  ![v438.toNat, 112]
@[reducible] def k0_t26_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off215 (i : grid0.Coords) (k0_t1 : Fin (k0_t1_loop i).trips) (v323 : BitVec 32) (k0_t26 : Fin k0_t26_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t26
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond27 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_120 : BitVec 32 := 16#32
  let v263 : BitVec 32 := Scalar.muli arg16 c16_i32_120
  let c6_i32_121 : BitVec 32 := 6#32
  let v264 : BitVec 32 := Scalar.addi v263 c6_i32_121
  let v265 : BitVec 1 := Scalar.cmpi .slt v264 v103
  let v266 : BitVec 32 := Scalar.extui v265
  let c0_i32_122 : BitVec 32 := 0#32
  let v267 : BitVec 1 := Scalar.cmpi .ne v266 c0_i32_122
  v267

def k0_chk25 (i : grid0.Coords) (k0_t1 : Fin (k0_t1_loop i).trips) (v89 : BitVec 32) (v102 : BitVec 32) (k0_t19 : Fin (k0_t19_loop v89 v102).trips) (v323 : BitVec 32) : Prop :=
  (∀ k0_t26 : Fin k0_t26_loop.trips, ∀ (k0_h27 : k0_cond27 v89 v102 k0_t19 = 1#1), ∀ (r : Fin 8), ∀ a, (k0_off215 i k0_t1 v323 k0_t26 (BitVec.ofNat 32 (16 * r.val))) a + S1x1x16.size a ≤ S2x32x1024.size a)
theorem k0_off215_inb : ∀ (i : grid0.Coords) (k0_t1 : Fin (k0_t1_loop i).trips) (v89 : BitVec 32) (v102 : BitVec 32) (k0_t19 : Fin (k0_t19_loop v89 v102).trips) (v323 : BitVec 32) (k0_hw25 : k0_chk25 i k0_t1 v89 v102 k0_t19 v323) (k0_t26 : Fin k0_t26_loop.trips), ∀ (k0_h27 : k0_cond27 v89 v102 k0_t19 = 1#1), ∀ (r : Fin 8), ∀ a, (k0_off215 i k0_t1 v323 k0_t26 (BitVec.ofNat 32 (16 * r.val))) a + S1x1x16.size a ≤ S2x32x1024.size a := fun i k0_t1 v89 v102 k0_t19 v323 k0_hw25 k0_t26 k0_h27 r => k0_hw25 k0_t26 k0_h27 r

def k0_off216 (k0_t26 : Fin k0_t26_loop.trips) : Fin 2 → Nat :=
  let c0_i32_151 : BitVec 32 := 0#32
  let c1_i32_153 : BitVec 32 := 1#32
  let arg17 : BitVec 32 := Scf.iv c0_i32_151 c1_i32_153 k0_t26
  let c16_i32_156 : BitVec 32 := 16#32
  let v331 : BitVec 32 := Scalar.muli arg17 c16_i32_156
  let c6_i32_157 : BitVec 32 := 6#32
  let v332 : BitVec 32 := Scalar.addi v331 c6_i32_157
  let v333 : Index := Scalar.indexCast v332
  let c0_158 : Index := 0#32
  ![v333.toNat, 0]
def k0_off217 (k0_t26 : Fin k0_t26_loop.trips) : Fin 2 → Nat :=
  let c0_i32_151 : BitVec 32 := 0#32
  let c1_i32_153 : BitVec 32 := 1#32
  let arg17 : BitVec 32 := Scf.iv c0_i32_151 c1_i32_153 k0_t26
  let c16_i32_161 : BitVec 32 := 16#32
  let v346 : BitVec 32 := Scalar.muli arg17 c16_i32_161
  let c6_i32_162 : BitVec 32 := 6#32
  let v347 : BitVec 32 := Scalar.addi v346 c6_i32_162
  let v348 : Index := Scalar.indexCast v347
  let c16_163 : Index := 16#32
  ![v348.toNat, 16]
def k0_off218 (k0_t26 : Fin k0_t26_loop.trips) : Fin 2 → Nat :=
  let c0_i32_151 : BitVec 32 := 0#32
  let c1_i32_153 : BitVec 32 := 1#32
  let arg17 : BitVec 32 := Scf.iv c0_i32_151 c1_i32_153 k0_t26
  let c16_i32_166 : BitVec 32 := 16#32
  let v361 : BitVec 32 := Scalar.muli arg17 c16_i32_166
  let c6_i32_167 : BitVec 32 := 6#32
  let v362 : BitVec 32 := Scalar.addi v361 c6_i32_167
  let v363 : Index := Scalar.indexCast v362
  let c32_168 : Index := 32#32
  ![v363.toNat, 32]
def k0_off219 (k0_t26 : Fin k0_t26_loop.trips) : Fin 2 → Nat :=
  let c0_i32_151 : BitVec 32 := 0#32
  let c1_i32_153 : BitVec 32 := 1#32
  let arg17 : BitVec 32 := Scf.iv c0_i32_151 c1_i32_153 k0_t26
  let c16_i32_170 : BitVec 32 := 16#32
  let v376 : BitVec 32 := Scalar.muli arg17 c16_i32_170
  let c6_i32_171 : BitVec 32 := 6#32
  let v377 : BitVec 32 := Scalar.addi v376 c6_i32_171
  let v378 : Index := Scalar.indexCast v377
  let c48_172 : Index := 48#32
  ![v378.toNat, 48]
def k0_off220 (k0_t26 : Fin k0_t26_loop.trips) : Fin 2 → Nat :=
  let c0_i32_151 : BitVec 32 := 0#32
  let c1_i32_153 : BitVec 32 := 1#32
  let arg17 : BitVec 32 := Scf.iv c0_i32_151 c1_i32_153 k0_t26
  let c16_i32_174 : BitVec 32 := 16#32
  let v391 : BitVec 32 := Scalar.muli arg17 c16_i32_174
  let c6_i32_175 : BitVec 32 := 6#32
  let v392 : BitVec 32 := Scalar.addi v391 c6_i32_175
  let v393 : Index := Scalar.indexCast v392
  let c64_176 : Index := 64#32
  ![v393.toNat, 64]
def k0_off221 (k0_t26 : Fin k0_t26_loop.trips) : Fin 2 → Nat :=
  let c0_i32_151 : BitVec 32 := 0#32
  let c1_i32_153 : BitVec 32 := 1#32
  let arg17 : BitVec 32 := Scf.iv c0_i32_151 c1_i32_153 k0_t26
  let c16_i32_178 : BitVec 32 := 16#32
  let v406 : BitVec 32 := Scalar.muli arg17 c16_i32_178
  let c6_i32_179 : BitVec 32 := 6#32
  let v407 : BitVec 32 := Scalar.addi v406 c6_i32_179
  let v408 : Index := Scalar.indexCast v407
  let c80_180 : Index := 80#32
  ![v408.toNat, 80]
def k0_off222 (k0_t26 : Fin k0_t26_loop.trips) : Fin 2 → Nat :=
  let c0_i32_151 : BitVec 32 := 0#32
  let c1_i32_153 : BitVec 32 := 1#32
  let arg17 : BitVec 32 := Scf.iv c0_i32_151 c1_i32_153 k0_t26
  let c16_i32_182 : BitVec 32 := 16#32
  let v421 : BitVec 32 := Scalar.muli arg17 c16_i32_182
  let c6_i32_183 : BitVec 32 := 6#32
  let v422 : BitVec 32 := Scalar.addi v421 c6_i32_183
  let v423 : Index := Scalar.indexCast v422
  let c96_184 : Index := 96#32
  ![v423.toNat, 96]
def k0_off223 (k0_t26 : Fin k0_t26_loop.trips) : Fin 2 → Nat :=
  let c0_i32_151 : BitVec 32 := 0#32
  let c1_i32_153 : BitVec 32 := 1#32
  let arg17 : BitVec 32 := Scf.iv c0_i32_151 c1_i32_153 k0_t26
  let c16_i32_186 : BitVec 32 := 16#32
  let v436 : BitVec 32 := Scalar.muli arg17 c16_i32_186
  let c6_i32_187 : BitVec 32 := 6#32
  let v437 : BitVec 32 := Scalar.addi v436 c6_i32_187
  let v438 : Index := Scalar.indexCast v437
  let c112_188 : Index := 112#32
  ![v438.toNat, 112]
@[reducible] def k0_t27_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off224 (i : grid0.Coords) (k0_t1 : Fin (k0_t1_loop i).trips) (v323 : BitVec 32) (k0_t27 : Fin k0_t27_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t27
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond28 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_123 : BitVec 32 := 16#32
  let v268 : BitVec 32 := Scalar.muli arg16 c16_i32_123
  let c7_i32_124 : BitVec 32 := 7#32
  let v269 : BitVec 32 := Scalar.addi v268 c7_i32_124
  let v270 : BitVec 1 := Scalar.cmpi .slt v269 v103
  let v271 : BitVec 32 := Scalar.extui v270
  let c0_i32_125 : BitVec 32 := 0#32
  let v272 : BitVec 1 := Scalar.cmpi .ne v271 c0_i32_125
  v272

def k0_chk26 (i : grid0.Coords) (k0_t1 : Fin (k0_t1_loop i).trips) (v89 : BitVec 32) (v102 : BitVec 32) (k0_t19 : Fin (k0_t19_loop v89 v102).trips) (v323 : BitVec 32) : Prop :=
  (∀ k0_t27 : Fin k0_t27_loop.trips, ∀ (k0_h28 : k0_cond28 v89 v102 k0_t19 = 1#1), ∀ (r : Fin 8), ∀ a, (k0_off224 i k0_t1 v323 k0_t27 (BitVec.ofNat 32 (16 * r.val))) a + S1x1x16.size a ≤ S2x32x1024.size a)
theorem k0_off224_inb : ∀ (i : grid0.Coords) (k0_t1 : Fin (k0_t1_loop i).trips) (v89 : BitVec 32) (v102 : BitVec 32) (k0_t19 : Fin (k0_t19_loop v89 v102).trips) (v323 : BitVec 32) (k0_hw26 : k0_chk26 i k0_t1 v89 v102 k0_t19 v323) (k0_t27 : Fin k0_t27_loop.trips), ∀ (k0_h28 : k0_cond28 v89 v102 k0_t19 = 1#1), ∀ (r : Fin 8), ∀ a, (k0_off224 i k0_t1 v323 k0_t27 (BitVec.ofNat 32 (16 * r.val))) a + S1x1x16.size a ≤ S2x32x1024.size a := fun i k0_t1 v89 v102 k0_t19 v323 k0_hw26 k0_t27 k0_h28 r => k0_hw26 k0_t27 k0_h28 r

def k0_off225 (k0_t27 : Fin k0_t27_loop.trips) : Fin 2 → Nat :=
  let c0_i32_151 : BitVec 32 := 0#32
  let c1_i32_153 : BitVec 32 := 1#32
  let arg17 : BitVec 32 := Scf.iv c0_i32_151 c1_i32_153 k0_t27
  let c16_i32_156 : BitVec 32 := 16#32
  let v331 : BitVec 32 := Scalar.muli arg17 c16_i32_156
  let c7_i32_157 : BitVec 32 := 7#32
  let v332 : BitVec 32 := Scalar.addi v331 c7_i32_157
  let v333 : Index := Scalar.indexCast v332
  let c0_158 : Index := 0#32
  ![v333.toNat, 0]
def k0_off226 (k0_t27 : Fin k0_t27_loop.trips) : Fin 2 → Nat :=
  let c0_i32_151 : BitVec 32 := 0#32
  let c1_i32_153 : BitVec 32 := 1#32
  let arg17 : BitVec 32 := Scf.iv c0_i32_151 c1_i32_153 k0_t27
  let c16_i32_161 : BitVec 32 := 16#32
  let v346 : BitVec 32 := Scalar.muli arg17 c16_i32_161
  let c7_i32_162 : BitVec 32 := 7#32
  let v347 : BitVec 32 := Scalar.addi v346 c7_i32_162
  let v348 : Index := Scalar.indexCast v347
  let c16_163 : Index := 16#32
  ![v348.toNat, 16]
def k0_off227 (k0_t27 : Fin k0_t27_loop.trips) : Fin 2 → Nat :=
  let c0_i32_151 : BitVec 32 := 0#32
  let c1_i32_153 : BitVec 32 := 1#32
  let arg17 : BitVec 32 := Scf.iv c0_i32_151 c1_i32_153 k0_t27
  let c16_i32_166 : BitVec 32 := 16#32
  let v361 : BitVec 32 := Scalar.muli arg17 c16_i32_166
  let c7_i32_167 : BitVec 32 := 7#32
  let v362 : BitVec 32 := Scalar.addi v361 c7_i32_167
  let v363 : Index := Scalar.indexCast v362
  let c32_168 : Index := 32#32
  ![v363.toNat, 32]
def k0_off228 (k0_t27 : Fin k0_t27_loop.trips) : Fin 2 → Nat :=
  let c0_i32_151 : BitVec 32 := 0#32
  let c1_i32_153 : BitVec 32 := 1#32
  let arg17 : BitVec 32 := Scf.iv c0_i32_151 c1_i32_153 k0_t27
  let c16_i32_170 : BitVec 32 := 16#32
  let v376 : BitVec 32 := Scalar.muli arg17 c16_i32_170
  let c7_i32_171 : BitVec 32 := 7#32
  let v377 : BitVec 32 := Scalar.addi v376 c7_i32_171
  let v378 : Index := Scalar.indexCast v377
  let c48_172 : Index := 48#32
  ![v378.toNat, 48]
def k0_off229 (k0_t27 : Fin k0_t27_loop.trips) : Fin 2 → Nat :=
  let c0_i32_151 : BitVec 32 := 0#32
  let c1_i32_153 : BitVec 32 := 1#32
  let arg17 : BitVec 32 := Scf.iv c0_i32_151 c1_i32_153 k0_t27
  let c16_i32_174 : BitVec 32 := 16#32
  let v391 : BitVec 32 := Scalar.muli arg17 c16_i32_174
  let c7_i32_175 : BitVec 32 := 7#32
  let v392 : BitVec 32 := Scalar.addi v391 c7_i32_175
  let v393 : Index := Scalar.indexCast v392
  let c64_176 : Index := 64#32
  ![v393.toNat, 64]
def k0_off230 (k0_t27 : Fin k0_t27_loop.trips) : Fin 2 → Nat :=
  let c0_i32_151 : BitVec 32 := 0#32
  let c1_i32_153 : BitVec 32 := 1#32
  let arg17 : BitVec 32 := Scf.iv c0_i32_151 c1_i32_153 k0_t27
  let c16_i32_178 : BitVec 32 := 16#32
  let v406 : BitVec 32 := Scalar.muli arg17 c16_i32_178
  let c7_i32_179 : BitVec 32 := 7#32
  let v407 : BitVec 32 := Scalar.addi v406 c7_i32_179
  let v408 : Index := Scalar.indexCast v407
  let c80_180 : Index := 80#32
  ![v408.toNat, 80]
def k0_off231 (k0_t27 : Fin k0_t27_loop.trips) : Fin 2 → Nat :=
  let c0_i32_151 : BitVec 32 := 0#32
  let c1_i32_153 : BitVec 32 := 1#32
  let arg17 : BitVec 32 := Scf.iv c0_i32_151 c1_i32_153 k0_t27
  let c16_i32_182 : BitVec 32 := 16#32
  let v421 : BitVec 32 := Scalar.muli arg17 c16_i32_182
  let c7_i32_183 : BitVec 32 := 7#32
  let v422 : BitVec 32 := Scalar.addi v421 c7_i32_183
  let v423 : Index := Scalar.indexCast v422
  let c96_184 : Index := 96#32
  ![v423.toNat, 96]
def k0_off232 (k0_t27 : Fin k0_t27_loop.trips) : Fin 2 → Nat :=
  let c0_i32_151 : BitVec 32 := 0#32
  let c1_i32_153 : BitVec 32 := 1#32
  let arg17 : BitVec 32 := Scf.iv c0_i32_151 c1_i32_153 k0_t27
  let c16_i32_186 : BitVec 32 := 16#32
  let v436 : BitVec 32 := Scalar.muli arg17 c16_i32_186
  let c7_i32_187 : BitVec 32 := 7#32
  let v437 : BitVec 32 := Scalar.addi v436 c7_i32_187
  let v438 : Index := Scalar.indexCast v437
  let c112_188 : Index := 112#32
  ![v438.toNat, 112]
@[reducible] def k0_t28_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off233 (i : grid0.Coords) (k0_t1 : Fin (k0_t1_loop i).trips) (v323 : BitVec 32) (k0_t28 : Fin k0_t28_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t28
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond29 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_126 : BitVec 32 := 16#32
  let v273 : BitVec 32 := Scalar.muli arg16 c16_i32_126
  let c8_i32_127 : BitVec 32 := 8#32
  let v274 : BitVec 32 := Scalar.addi v273 c8_i32_127
  let v275 : BitVec 1 := Scalar.cmpi .slt v274 v103
  let v276 : BitVec 32 := Scalar.extui v275
  let c0_i32_128 : BitVec 32 := 0#32
  let v277 : BitVec 1 := Scalar.cmpi .ne v276 c0_i32_128
  v277

def k0_chk27 (i : grid0.Coords) (k0_t1 : Fin (k0_t1_loop i).trips) (v89 : BitVec 32) (v102 : BitVec 32) (k0_t19 : Fin (k0_t19_loop v89 v102).trips) (v323 : BitVec 32) : Prop :=
  (∀ k0_t28 : Fin k0_t28_loop.trips, ∀ (k0_h29 : k0_cond29 v89 v102 k0_t19 = 1#1), ∀ (r : Fin 8), ∀ a, (k0_off233 i k0_t1 v323 k0_t28 (BitVec.ofNat 32 (16 * r.val))) a + S1x1x16.size a ≤ S2x32x1024.size a)
theorem k0_off233_inb : ∀ (i : grid0.Coords) (k0_t1 : Fin (k0_t1_loop i).trips) (v89 : BitVec 32) (v102 : BitVec 32) (k0_t19 : Fin (k0_t19_loop v89 v102).trips) (v323 : BitVec 32) (k0_hw27 : k0_chk27 i k0_t1 v89 v102 k0_t19 v323) (k0_t28 : Fin k0_t28_loop.trips), ∀ (k0_h29 : k0_cond29 v89 v102 k0_t19 = 1#1), ∀ (r : Fin 8), ∀ a, (k0_off233 i k0_t1 v323 k0_t28 (BitVec.ofNat 32 (16 * r.val))) a + S1x1x16.size a ≤ S2x32x1024.size a := fun i k0_t1 v89 v102 k0_t19 v323 k0_hw27 k0_t28 k0_h29 r => k0_hw27 k0_t28 k0_h29 r

def k0_off234 (k0_t28 : Fin k0_t28_loop.trips) : Fin 2 → Nat :=
  let c0_i32_151 : BitVec 32 := 0#32
  let c1_i32_153 : BitVec 32 := 1#32
  let arg17 : BitVec 32 := Scf.iv c0_i32_151 c1_i32_153 k0_t28
  let c16_i32_156 : BitVec 32 := 16#32
  let v331 : BitVec 32 := Scalar.muli arg17 c16_i32_156
  let c8_i32_157 : BitVec 32 := 8#32
  let v332 : BitVec 32 := Scalar.addi v331 c8_i32_157
  let v333 : Index := Scalar.indexCast v332
  let c0_158 : Index := 0#32
  ![v333.toNat, 0]
def k0_off235 (k0_t28 : Fin k0_t28_loop.trips) : Fin 2 → Nat :=
  let c0_i32_151 : BitVec 32 := 0#32
  let c1_i32_153 : BitVec 32 := 1#32
  let arg17 : BitVec 32 := Scf.iv c0_i32_151 c1_i32_153 k0_t28
  let c16_i32_161 : BitVec 32 := 16#32
  let v346 : BitVec 32 := Scalar.muli arg17 c16_i32_161
  let c8_i32_162 : BitVec 32 := 8#32
  let v347 : BitVec 32 := Scalar.addi v346 c8_i32_162
  let v348 : Index := Scalar.indexCast v347
  let c16_163 : Index := 16#32
  ![v348.toNat, 16]
def k0_off236 (k0_t28 : Fin k0_t28_loop.trips) : Fin 2 → Nat :=
  let c0_i32_151 : BitVec 32 := 0#32
  let c1_i32_153 : BitVec 32 := 1#32
  let arg17 : BitVec 32 := Scf.iv c0_i32_151 c1_i32_153 k0_t28
  let c16_i32_166 : BitVec 32 := 16#32
  let v361 : BitVec 32 := Scalar.muli arg17 c16_i32_166
  let c8_i32_167 : BitVec 32 := 8#32
  let v362 : BitVec 32 := Scalar.addi v361 c8_i32_167
  let v363 : Index := Scalar.indexCast v362
  let c32_168 : Index := 32#32
  ![v363.toNat, 32]
def k0_off237 (k0_t28 : Fin k0_t28_loop.trips) : Fin 2 → Nat :=
  let c0_i32_151 : BitVec 32 := 0#32
  let c1_i32_153 : BitVec 32 := 1#32
  let arg17 : BitVec 32 := Scf.iv c0_i32_151 c1_i32_153 k0_t28
  let c16_i32_170 : BitVec 32 := 16#32
  let v376 : BitVec 32 := Scalar.muli arg17 c16_i32_170
  let c8_i32_171 : BitVec 32 := 8#32
  let v377 : BitVec 32 := Scalar.addi v376 c8_i32_171
  let v378 : Index := Scalar.indexCast v377
  let c48_172 : Index := 48#32
  ![v378.toNat, 48]
def k0_off238 (k0_t28 : Fin k0_t28_loop.trips) : Fin 2 → Nat :=
  let c0_i32_151 : BitVec 32 := 0#32
  let c1_i32_153 : BitVec 32 := 1#32
  let arg17 : BitVec 32 := Scf.iv c0_i32_151 c1_i32_153 k0_t28
  let c16_i32_174 : BitVec 32 := 16#32
  let v391 : BitVec 32 := Scalar.muli arg17 c16_i32_174
  let c8_i32_175 : BitVec 32 := 8#32
  let v392 : BitVec 32 := Scalar.addi v391 c8_i32_175
  let v393 : Index := Scalar.indexCast v392
  let c64_176 : Index := 64#32
  ![v393.toNat, 64]
def k0_off239 (k0_t28 : Fin k0_t28_loop.trips) : Fin 2 → Nat :=
  let c0_i32_151 : BitVec 32 := 0#32
  let c1_i32_153 : BitVec 32 := 1#32
  let arg17 : BitVec 32 := Scf.iv c0_i32_151 c1_i32_153 k0_t28
  let c16_i32_178 : BitVec 32 := 16#32
  let v406 : BitVec 32 := Scalar.muli arg17 c16_i32_178
  let c8_i32_179 : BitVec 32 := 8#32
  let v407 : BitVec 32 := Scalar.addi v406 c8_i32_179
  let v408 : Index := Scalar.indexCast v407
  let c80_180 : Index := 80#32
  ![v408.toNat, 80]
def k0_off240 (k0_t28 : Fin k0_t28_loop.trips) : Fin 2 → Nat :=
  let c0_i32_151 : BitVec 32 := 0#32
  let c1_i32_153 : BitVec 32 := 1#32
  let arg17 : BitVec 32 := Scf.iv c0_i32_151 c1_i32_153 k0_t28
  let c16_i32_182 : BitVec 32 := 16#32
  let v421 : BitVec 32 := Scalar.muli arg17 c16_i32_182
  let c8_i32_183 : BitVec 32 := 8#32
  let v422 : BitVec 32 := Scalar.addi v421 c8_i32_183
  let v423 : Index := Scalar.indexCast v422
  let c96_184 : Index := 96#32
  ![v423.toNat, 96]
def k0_off241 (k0_t28 : Fin k0_t28_loop.trips) : Fin 2 → Nat :=
  let c0_i32_151 : BitVec 32 := 0#32
  let c1_i32_153 : BitVec 32 := 1#32
  let arg17 : BitVec 32 := Scf.iv c0_i32_151 c1_i32_153 k0_t28
  let c16_i32_186 : BitVec 32 := 16#32
  let v436 : BitVec 32 := Scalar.muli arg17 c16_i32_186
  let c8_i32_187 : BitVec 32 := 8#32
  let v437 : BitVec 32 := Scalar.addi v436 c8_i32_187
  let v438 : Index := Scalar.indexCast v437
  let c112_188 : Index := 112#32
  ![v438.toNat, 112]
@[reducible] def k0_t29_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off242 (i : grid0.Coords) (k0_t1 : Fin (k0_t1_loop i).trips) (v323 : BitVec 32) (k0_t29 : Fin k0_t29_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t29
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond30 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_129 : BitVec 32 := 16#32
  let v278 : BitVec 32 := Scalar.muli arg16 c16_i32_129
  let c9_i32 : BitVec 32 := 9#32
  let v279 : BitVec 32 := Scalar.addi v278 c9_i32
  let v280 : BitVec 1 := Scalar.cmpi .slt v279 v103
  let v281 : BitVec 32 := Scalar.extui v280
  let c0_i32_130 : BitVec 32 := 0#32
  let v282 : BitVec 1 := Scalar.cmpi .ne v281 c0_i32_130
  v282

def k0_chk28 (i : grid0.Coords) (k0_t1 : Fin (k0_t1_loop i).trips) (v89 : BitVec 32) (v102 : BitVec 32) (k0_t19 : Fin (k0_t19_loop v89 v102).trips) (v323 : BitVec 32) : Prop :=
  (∀ k0_t29 : Fin k0_t29_loop.trips, ∀ (k0_h30 : k0_cond30 v89 v102 k0_t19 = 1#1), ∀ (r : Fin 8), ∀ a, (k0_off242 i k0_t1 v323 k0_t29 (BitVec.ofNat 32 (16 * r.val))) a + S1x1x16.size a ≤ S2x32x1024.size a)
theorem k0_off242_inb : ∀ (i : grid0.Coords) (k0_t1 : Fin (k0_t1_loop i).trips) (v89 : BitVec 32) (v102 : BitVec 32) (k0_t19 : Fin (k0_t19_loop v89 v102).trips) (v323 : BitVec 32) (k0_hw28 : k0_chk28 i k0_t1 v89 v102 k0_t19 v323) (k0_t29 : Fin k0_t29_loop.trips), ∀ (k0_h30 : k0_cond30 v89 v102 k0_t19 = 1#1), ∀ (r : Fin 8), ∀ a, (k0_off242 i k0_t1 v323 k0_t29 (BitVec.ofNat 32 (16 * r.val))) a + S1x1x16.size a ≤ S2x32x1024.size a := fun i k0_t1 v89 v102 k0_t19 v323 k0_hw28 k0_t29 k0_h30 r => k0_hw28 k0_t29 k0_h30 r

def k0_off243 (k0_t29 : Fin k0_t29_loop.trips) : Fin 2 → Nat :=
  let c0_i32_151 : BitVec 32 := 0#32
  let c1_i32_153 : BitVec 32 := 1#32
  let arg17 : BitVec 32 := Scf.iv c0_i32_151 c1_i32_153 k0_t29
  let c16_i32_156 : BitVec 32 := 16#32
  let v331 : BitVec 32 := Scalar.muli arg17 c16_i32_156
  let c9_i32_157 : BitVec 32 := 9#32
  let v332 : BitVec 32 := Scalar.addi v331 c9_i32_157
  let v333 : Index := Scalar.indexCast v332
  let c0_158 : Index := 0#32
  ![v333.toNat, 0]
def k0_off244 (k0_t29 : Fin k0_t29_loop.trips) : Fin 2 → Nat :=
  let c0_i32_151 : BitVec 32 := 0#32
  let c1_i32_153 : BitVec 32 := 1#32
  let arg17 : BitVec 32 := Scf.iv c0_i32_151 c1_i32_153 k0_t29
  let c16_i32_161 : BitVec 32 := 16#32
  let v346 : BitVec 32 := Scalar.muli arg17 c16_i32_161
  let c9_i32_162 : BitVec 32 := 9#32
  let v347 : BitVec 32 := Scalar.addi v346 c9_i32_162
  let v348 : Index := Scalar.indexCast v347
  let c16_163 : Index := 16#32
  ![v348.toNat, 16]
def k0_off245 (k0_t29 : Fin k0_t29_loop.trips) : Fin 2 → Nat :=
  let c0_i32_151 : BitVec 32 := 0#32
  let c1_i32_153 : BitVec 32 := 1#32
  let arg17 : BitVec 32 := Scf.iv c0_i32_151 c1_i32_153 k0_t29
  let c16_i32_166 : BitVec 32 := 16#32
  let v361 : BitVec 32 := Scalar.muli arg17 c16_i32_166
  let c9_i32_167 : BitVec 32 := 9#32
  let v362 : BitVec 32 := Scalar.addi v361 c9_i32_167
  let v363 : Index := Scalar.indexCast v362
  let c32_168 : Index := 32#32
  ![v363.toNat, 32]
def k0_off246 (k0_t29 : Fin k0_t29_loop.trips) : Fin 2 → Nat :=
  let c0_i32_151 : BitVec 32 := 0#32
  let c1_i32_153 : BitVec 32 := 1#32
  let arg17 : BitVec 32 := Scf.iv c0_i32_151 c1_i32_153 k0_t29
  let c16_i32_170 : BitVec 32 := 16#32
  let v376 : BitVec 32 := Scalar.muli arg17 c16_i32_170
  let c9_i32_171 : BitVec 32 := 9#32
  let v377 : BitVec 32 := Scalar.addi v376 c9_i32_171
  let v378 : Index := Scalar.indexCast v377
  let c48_172 : Index := 48#32
  ![v378.toNat, 48]
def k0_off247 (k0_t29 : Fin k0_t29_loop.trips) : Fin 2 → Nat :=
  let c0_i32_151 : BitVec 32 := 0#32
  let c1_i32_153 : BitVec 32 := 1#32
  let arg17 : BitVec 32 := Scf.iv c0_i32_151 c1_i32_153 k0_t29
  let c16_i32_174 : BitVec 32 := 16#32
  let v391 : BitVec 32 := Scalar.muli arg17 c16_i32_174
  let c9_i32_175 : BitVec 32 := 9#32
  let v392 : BitVec 32 := Scalar.addi v391 c9_i32_175
  let v393 : Index := Scalar.indexCast v392
  let c64_176 : Index := 64#32
  ![v393.toNat, 64]
def k0_off248 (k0_t29 : Fin k0_t29_loop.trips) : Fin 2 → Nat :=
  let c0_i32_151 : BitVec 32 := 0#32
  let c1_i32_153 : BitVec 32 := 1#32
  let arg17 : BitVec 32 := Scf.iv c0_i32_151 c1_i32_153 k0_t29
  let c16_i32_178 : BitVec 32 := 16#32
  let v406 : BitVec 32 := Scalar.muli arg17 c16_i32_178
  let c9_i32_179 : BitVec 32 := 9#32
  let v407 : BitVec 32 := Scalar.addi v406 c9_i32_179
  let v408 : Index := Scalar.indexCast v407
  let c80_180 : Index := 80#32
  ![v408.toNat, 80]
def k0_off249 (k0_t29 : Fin k0_t29_loop.trips) : Fin 2 → Nat :=
  let c0_i32_151 : BitVec 32 := 0#32
  let c1_i32_153 : BitVec 32 := 1#32
  let arg17 : BitVec 32 := Scf.iv c0_i32_151 c1_i32_153 k0_t29
  let c16_i32_182 : BitVec 32 := 16#32
  let v421 : BitVec 32 := Scalar.muli arg17 c16_i32_182
  let c9_i32_183 : BitVec 32 := 9#32
  let v422 : BitVec 32 := Scalar.addi v421 c9_i32_183
  let v423 : Index := Scalar.indexCast v422
  let c96_184 : Index := 96#32
  ![v423.toNat, 96]
def k0_off250 (k0_t29 : Fin k0_t29_loop.trips) : Fin 2 → Nat :=
  let c0_i32_151 : BitVec 32 := 0#32
  let c1_i32_153 : BitVec 32 := 1#32
  let arg17 : BitVec 32 := Scf.iv c0_i32_151 c1_i32_153 k0_t29
  let c16_i32_186 : BitVec 32 := 16#32
  let v436 : BitVec 32 := Scalar.muli arg17 c16_i32_186
  let c9_i32_187 : BitVec 32 := 9#32
  let v437 : BitVec 32 := Scalar.addi v436 c9_i32_187
  let v438 : Index := Scalar.indexCast v437
  let c112_188 : Index := 112#32
  ![v438.toNat, 112]
@[reducible] def k0_t30_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off251 (i : grid0.Coords) (k0_t1 : Fin (k0_t1_loop i).trips) (v323 : BitVec 32) (k0_t30 : Fin k0_t30_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t30
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond31 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_131 : BitVec 32 := 16#32
  let v283 : BitVec 32 := Scalar.muli arg16 c16_i32_131
  let c10_i32 : BitVec 32 := 10#32
  let v284 : BitVec 32 := Scalar.addi v283 c10_i32
  let v285 : BitVec 1 := Scalar.cmpi .slt v284 v103
  let v286 : BitVec 32 := Scalar.extui v285
  let c0_i32_132 : BitVec 32 := 0#32
  let v287 : BitVec 1 := Scalar.cmpi .ne v286 c0_i32_132
  v287

def k0_chk29 (i : grid0.Coords) (k0_t1 : Fin (k0_t1_loop i).trips) (v89 : BitVec 32) (v102 : BitVec 32) (k0_t19 : Fin (k0_t19_loop v89 v102).trips) (v323 : BitVec 32) : Prop :=
  (∀ k0_t30 : Fin k0_t30_loop.trips, ∀ (k0_h31 : k0_cond31 v89 v102 k0_t19 = 1#1), ∀ (r : Fin 8), ∀ a, (k0_off251 i k0_t1 v323 k0_t30 (BitVec.ofNat 32 (16 * r.val))) a + S1x1x16.size a ≤ S2x32x1024.size a)
theorem k0_off251_inb : ∀ (i : grid0.Coords) (k0_t1 : Fin (k0_t1_loop i).trips) (v89 : BitVec 32) (v102 : BitVec 32) (k0_t19 : Fin (k0_t19_loop v89 v102).trips) (v323 : BitVec 32) (k0_hw29 : k0_chk29 i k0_t1 v89 v102 k0_t19 v323) (k0_t30 : Fin k0_t30_loop.trips), ∀ (k0_h31 : k0_cond31 v89 v102 k0_t19 = 1#1), ∀ (r : Fin 8), ∀ a, (k0_off251 i k0_t1 v323 k0_t30 (BitVec.ofNat 32 (16 * r.val))) a + S1x1x16.size a ≤ S2x32x1024.size a := fun i k0_t1 v89 v102 k0_t19 v323 k0_hw29 k0_t30 k0_h31 r => k0_hw29 k0_t30 k0_h31 r

def k0_off252 (k0_t30 : Fin k0_t30_loop.trips) : Fin 2 → Nat :=
  let c0_i32_151 : BitVec 32 := 0#32
  let c1_i32_153 : BitVec 32 := 1#32
  let arg17 : BitVec 32 := Scf.iv c0_i32_151 c1_i32_153 k0_t30
  let c16_i32_156 : BitVec 32 := 16#32
  let v331 : BitVec 32 := Scalar.muli arg17 c16_i32_156
  let c10_i32_157 : BitVec 32 := 10#32
  let v332 : BitVec 32 := Scalar.addi v331 c10_i32_157
  let v333 : Index := Scalar.indexCast v332
  let c0_158 : Index := 0#32
  ![v333.toNat, 0]
def k0_off253 (k0_t30 : Fin k0_t30_loop.trips) : Fin 2 → Nat :=
  let c0_i32_151 : BitVec 32 := 0#32
  let c1_i32_153 : BitVec 32 := 1#32
  let arg17 : BitVec 32 := Scf.iv c0_i32_151 c1_i32_153 k0_t30
  let c16_i32_161 : BitVec 32 := 16#32
  let v346 : BitVec 32 := Scalar.muli arg17 c16_i32_161
  let c10_i32_162 : BitVec 32 := 10#32
  let v347 : BitVec 32 := Scalar.addi v346 c10_i32_162
  let v348 : Index := Scalar.indexCast v347
  let c16_163 : Index := 16#32
  ![v348.toNat, 16]
def k0_off254 (k0_t30 : Fin k0_t30_loop.trips) : Fin 2 → Nat :=
  let c0_i32_151 : BitVec 32 := 0#32
  let c1_i32_153 : BitVec 32 := 1#32
  let arg17 : BitVec 32 := Scf.iv c0_i32_151 c1_i32_153 k0_t30
  let c16_i32_166 : BitVec 32 := 16#32
  let v361 : BitVec 32 := Scalar.muli arg17 c16_i32_166
  let c10_i32_167 : BitVec 32 := 10#32
  let v362 : BitVec 32 := Scalar.addi v361 c10_i32_167
  let v363 : Index := Scalar.indexCast v362
  let c32_168 : Index := 32#32
  ![v363.toNat, 32]
def k0_off255 (k0_t30 : Fin k0_t30_loop.trips) : Fin 2 → Nat :=
  let c0_i32_151 : BitVec 32 := 0#32
  let c1_i32_153 : BitVec 32 := 1#32
  let arg17 : BitVec 32 := Scf.iv c0_i32_151 c1_i32_153 k0_t30
  let c16_i32_170 : BitVec 32 := 16#32
  let v376 : BitVec 32 := Scalar.muli arg17 c16_i32_170
  let c10_i32_171 : BitVec 32 := 10#32
  let v377 : BitVec 32 := Scalar.addi v376 c10_i32_171
  let v378 : Index := Scalar.indexCast v377
  let c48_172 : Index := 48#32
  ![v378.toNat, 48]
def k0_off256 (k0_t30 : Fin k0_t30_loop.trips) : Fin 2 → Nat :=
  let c0_i32_151 : BitVec 32 := 0#32
  let c1_i32_153 : BitVec 32 := 1#32
  let arg17 : BitVec 32 := Scf.iv c0_i32_151 c1_i32_153 k0_t30
  let c16_i32_174 : BitVec 32 := 16#32
  let v391 : BitVec 32 := Scalar.muli arg17 c16_i32_174
  let c10_i32_175 : BitVec 32 := 10#32
  let v392 : BitVec 32 := Scalar.addi v391 c10_i32_175
  let v393 : Index := Scalar.indexCast v392
  let c64_176 : Index := 64#32
  ![v393.toNat, 64]
def k0_off257 (k0_t30 : Fin k0_t30_loop.trips) : Fin 2 → Nat :=
  let c0_i32_151 : BitVec 32 := 0#32
  let c1_i32_153 : BitVec 32 := 1#32
  let arg17 : BitVec 32 := Scf.iv c0_i32_151 c1_i32_153 k0_t30
  let c16_i32_178 : BitVec 32 := 16#32
  let v406 : BitVec 32 := Scalar.muli arg17 c16_i32_178
  let c10_i32_179 : BitVec 32 := 10#32
  let v407 : BitVec 32 := Scalar.addi v406 c10_i32_179
  let v408 : Index := Scalar.indexCast v407
  let c80_180 : Index := 80#32
  ![v408.toNat, 80]
def k0_off258 (k0_t30 : Fin k0_t30_loop.trips) : Fin 2 → Nat :=
  let c0_i32_151 : BitVec 32 := 0#32
  let c1_i32_153 : BitVec 32 := 1#32
  let arg17 : BitVec 32 := Scf.iv c0_i32_151 c1_i32_153 k0_t30
  let c16_i32_182 : BitVec 32 := 16#32
  let v421 : BitVec 32 := Scalar.muli arg17 c16_i32_182
  let c10_i32_183 : BitVec 32 := 10#32
  let v422 : BitVec 32 := Scalar.addi v421 c10_i32_183
  let v423 : Index := Scalar.indexCast v422
  let c96_184 : Index := 96#32
  ![v423.toNat, 96]
def k0_off259 (k0_t30 : Fin k0_t30_loop.trips) : Fin 2 → Nat :=
  let c0_i32_151 : BitVec 32 := 0#32
  let c1_i32_153 : BitVec 32 := 1#32
  let arg17 : BitVec 32 := Scf.iv c0_i32_151 c1_i32_153 k0_t30
  let c16_i32_186 : BitVec 32 := 16#32
  let v436 : BitVec 32 := Scalar.muli arg17 c16_i32_186
  let c10_i32_187 : BitVec 32 := 10#32
  let v437 : BitVec 32 := Scalar.addi v436 c10_i32_187
  let v438 : Index := Scalar.indexCast v437
  let c112_188 : Index := 112#32
  ![v438.toNat, 112]
@[reducible] def k0_t31_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off260 (i : grid0.Coords) (k0_t1 : Fin (k0_t1_loop i).trips) (v323 : BitVec 32) (k0_t31 : Fin k0_t31_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t31
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond32 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_133 : BitVec 32 := 16#32
  let v288 : BitVec 32 := Scalar.muli arg16 c16_i32_133
  let c11_i32 : BitVec 32 := 11#32
  let v289 : BitVec 32 := Scalar.addi v288 c11_i32
  let v290 : BitVec 1 := Scalar.cmpi .slt v289 v103
  let v291 : BitVec 32 := Scalar.extui v290
  let c0_i32_134 : BitVec 32 := 0#32
  let v292 : BitVec 1 := Scalar.cmpi .ne v291 c0_i32_134
  v292

def k0_chk30 (i : grid0.Coords) (k0_t1 : Fin (k0_t1_loop i).trips) (v89 : BitVec 32) (v102 : BitVec 32) (k0_t19 : Fin (k0_t19_loop v89 v102).trips) (v323 : BitVec 32) : Prop :=
  (∀ k0_t31 : Fin k0_t31_loop.trips, ∀ (k0_h32 : k0_cond32 v89 v102 k0_t19 = 1#1), ∀ (r : Fin 8), ∀ a, (k0_off260 i k0_t1 v323 k0_t31 (BitVec.ofNat 32 (16 * r.val))) a + S1x1x16.size a ≤ S2x32x1024.size a)
theorem k0_off260_inb : ∀ (i : grid0.Coords) (k0_t1 : Fin (k0_t1_loop i).trips) (v89 : BitVec 32) (v102 : BitVec 32) (k0_t19 : Fin (k0_t19_loop v89 v102).trips) (v323 : BitVec 32) (k0_hw30 : k0_chk30 i k0_t1 v89 v102 k0_t19 v323) (k0_t31 : Fin k0_t31_loop.trips), ∀ (k0_h32 : k0_cond32 v89 v102 k0_t19 = 1#1), ∀ (r : Fin 8), ∀ a, (k0_off260 i k0_t1 v323 k0_t31 (BitVec.ofNat 32 (16 * r.val))) a + S1x1x16.size a ≤ S2x32x1024.size a := fun i k0_t1 v89 v102 k0_t19 v323 k0_hw30 k0_t31 k0_h32 r => k0_hw30 k0_t31 k0_h32 r

def k0_off261 (k0_t31 : Fin k0_t31_loop.trips) : Fin 2 → Nat :=
  let c0_i32_151 : BitVec 32 := 0#32
  let c1_i32_153 : BitVec 32 := 1#32
  let arg17 : BitVec 32 := Scf.iv c0_i32_151 c1_i32_153 k0_t31
  let c16_i32_156 : BitVec 32 := 16#32
  let v331 : BitVec 32 := Scalar.muli arg17 c16_i32_156
  let c11_i32_157 : BitVec 32 := 11#32
  let v332 : BitVec 32 := Scalar.addi v331 c11_i32_157
  let v333 : Index := Scalar.indexCast v332
  let c0_158 : Index := 0#32
  ![v333.toNat, 0]
def k0_off262 (k0_t31 : Fin k0_t31_loop.trips) : Fin 2 → Nat :=
  let c0_i32_151 : BitVec 32 := 0#32
  let c1_i32_153 : BitVec 32 := 1#32
  let arg17 : BitVec 32 := Scf.iv c0_i32_151 c1_i32_153 k0_t31
  let c16_i32_161 : BitVec 32 := 16#32
  let v346 : BitVec 32 := Scalar.muli arg17 c16_i32_161
  let c11_i32_162 : BitVec 32 := 11#32
  let v347 : BitVec 32 := Scalar.addi v346 c11_i32_162
  let v348 : Index := Scalar.indexCast v347
  let c16_163 : Index := 16#32
  ![v348.toNat, 16]
def k0_off263 (k0_t31 : Fin k0_t31_loop.trips) : Fin 2 → Nat :=
  let c0_i32_151 : BitVec 32 := 0#32
  let c1_i32_153 : BitVec 32 := 1#32
  let arg17 : BitVec 32 := Scf.iv c0_i32_151 c1_i32_153 k0_t31
  let c16_i32_166 : BitVec 32 := 16#32
  let v361 : BitVec 32 := Scalar.muli arg17 c16_i32_166
  let c11_i32_167 : BitVec 32 := 11#32
  let v362 : BitVec 32 := Scalar.addi v361 c11_i32_167
  let v363 : Index := Scalar.indexCast v362
  let c32_168 : Index := 32#32
  ![v363.toNat, 32]
def k0_off264 (k0_t31 : Fin k0_t31_loop.trips) : Fin 2 → Nat :=
  let c0_i32_151 : BitVec 32 := 0#32
  let c1_i32_153 : BitVec 32 := 1#32
  let arg17 : BitVec 32 := Scf.iv c0_i32_151 c1_i32_153 k0_t31
  let c16_i32_170 : BitVec 32 := 16#32
  let v376 : BitVec 32 := Scalar.muli arg17 c16_i32_170
  let c11_i32_171 : BitVec 32 := 11#32
  let v377 : BitVec 32 := Scalar.addi v376 c11_i32_171
  let v378 : Index := Scalar.indexCast v377
  let c48_172 : Index := 48#32
  ![v378.toNat, 48]
def k0_off265 (k0_t31 : Fin k0_t31_loop.trips) : Fin 2 → Nat :=
  let c0_i32_151 : BitVec 32 := 0#32
  let c1_i32_153 : BitVec 32 := 1#32
  let arg17 : BitVec 32 := Scf.iv c0_i32_151 c1_i32_153 k0_t31
  let c16_i32_174 : BitVec 32 := 16#32
  let v391 : BitVec 32 := Scalar.muli arg17 c16_i32_174
  let c11_i32_175 : BitVec 32 := 11#32
  let v392 : BitVec 32 := Scalar.addi v391 c11_i32_175
  let v393 : Index := Scalar.indexCast v392
  let c64_176 : Index := 64#32
  ![v393.toNat, 64]
def k0_off266 (k0_t31 : Fin k0_t31_loop.trips) : Fin 2 → Nat :=
  let c0_i32_151 : BitVec 32 := 0#32
  let c1_i32_153 : BitVec 32 := 1#32
  let arg17 : BitVec 32 := Scf.iv c0_i32_151 c1_i32_153 k0_t31
  let c16_i32_178 : BitVec 32 := 16#32
  let v406 : BitVec 32 := Scalar.muli arg17 c16_i32_178
  let c11_i32_179 : BitVec 32 := 11#32
  let v407 : BitVec 32 := Scalar.addi v406 c11_i32_179
  let v408 : Index := Scalar.indexCast v407
  let c80_180 : Index := 80#32
  ![v408.toNat, 80]
def k0_off267 (k0_t31 : Fin k0_t31_loop.trips) : Fin 2 → Nat :=
  let c0_i32_151 : BitVec 32 := 0#32
  let c1_i32_153 : BitVec 32 := 1#32
  let arg17 : BitVec 32 := Scf.iv c0_i32_151 c1_i32_153 k0_t31
  let c16_i32_182 : BitVec 32 := 16#32
  let v421 : BitVec 32 := Scalar.muli arg17 c16_i32_182
  let c11_i32_183 : BitVec 32 := 11#32
  let v422 : BitVec 32 := Scalar.addi v421 c11_i32_183
  let v423 : Index := Scalar.indexCast v422
  let c96_184 : Index := 96#32
  ![v423.toNat, 96]
def k0_off268 (k0_t31 : Fin k0_t31_loop.trips) : Fin 2 → Nat :=
  let c0_i32_151 : BitVec 32 := 0#32
  let c1_i32_153 : BitVec 32 := 1#32
  let arg17 : BitVec 32 := Scf.iv c0_i32_151 c1_i32_153 k0_t31
  let c16_i32_186 : BitVec 32 := 16#32
  let v436 : BitVec 32 := Scalar.muli arg17 c16_i32_186
  let c11_i32_187 : BitVec 32 := 11#32
  let v437 : BitVec 32 := Scalar.addi v436 c11_i32_187
  let v438 : Index := Scalar.indexCast v437
  let c112_188 : Index := 112#32
  ![v438.toNat, 112]
@[reducible] def k0_t32_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off269 (i : grid0.Coords) (k0_t1 : Fin (k0_t1_loop i).trips) (v323 : BitVec 32) (k0_t32 : Fin k0_t32_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t32
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond33 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_135 : BitVec 32 := 16#32
  let v293 : BitVec 32 := Scalar.muli arg16 c16_i32_135
  let c12_i32 : BitVec 32 := 12#32
  let v294 : BitVec 32 := Scalar.addi v293 c12_i32
  let v295 : BitVec 1 := Scalar.cmpi .slt v294 v103
  let v296 : BitVec 32 := Scalar.extui v295
  let c0_i32_136 : BitVec 32 := 0#32
  let v297 : BitVec 1 := Scalar.cmpi .ne v296 c0_i32_136
  v297

def k0_chk31 (i : grid0.Coords) (k0_t1 : Fin (k0_t1_loop i).trips) (v89 : BitVec 32) (v102 : BitVec 32) (k0_t19 : Fin (k0_t19_loop v89 v102).trips) (v323 : BitVec 32) : Prop :=
  (∀ k0_t32 : Fin k0_t32_loop.trips, ∀ (k0_h33 : k0_cond33 v89 v102 k0_t19 = 1#1), ∀ (r : Fin 8), ∀ a, (k0_off269 i k0_t1 v323 k0_t32 (BitVec.ofNat 32 (16 * r.val))) a + S1x1x16.size a ≤ S2x32x1024.size a)
theorem k0_off269_inb : ∀ (i : grid0.Coords) (k0_t1 : Fin (k0_t1_loop i).trips) (v89 : BitVec 32) (v102 : BitVec 32) (k0_t19 : Fin (k0_t19_loop v89 v102).trips) (v323 : BitVec 32) (k0_hw31 : k0_chk31 i k0_t1 v89 v102 k0_t19 v323) (k0_t32 : Fin k0_t32_loop.trips), ∀ (k0_h33 : k0_cond33 v89 v102 k0_t19 = 1#1), ∀ (r : Fin 8), ∀ a, (k0_off269 i k0_t1 v323 k0_t32 (BitVec.ofNat 32 (16 * r.val))) a + S1x1x16.size a ≤ S2x32x1024.size a := fun i k0_t1 v89 v102 k0_t19 v323 k0_hw31 k0_t32 k0_h33 r => k0_hw31 k0_t32 k0_h33 r

def k0_off270 (k0_t32 : Fin k0_t32_loop.trips) : Fin 2 → Nat :=
  let c0_i32_151 : BitVec 32 := 0#32
  let c1_i32_153 : BitVec 32 := 1#32
  let arg17 : BitVec 32 := Scf.iv c0_i32_151 c1_i32_153 k0_t32
  let c16_i32_156 : BitVec 32 := 16#32
  let v331 : BitVec 32 := Scalar.muli arg17 c16_i32_156
  let c12_i32_157 : BitVec 32 := 12#32
  let v332 : BitVec 32 := Scalar.addi v331 c12_i32_157
  let v333 : Index := Scalar.indexCast v332
  let c0_158 : Index := 0#32
  ![v333.toNat, 0]
def k0_off271 (k0_t32 : Fin k0_t32_loop.trips) : Fin 2 → Nat :=
  let c0_i32_151 : BitVec 32 := 0#32
  let c1_i32_153 : BitVec 32 := 1#32
  let arg17 : BitVec 32 := Scf.iv c0_i32_151 c1_i32_153 k0_t32
  let c16_i32_161 : BitVec 32 := 16#32
  let v346 : BitVec 32 := Scalar.muli arg17 c16_i32_161
  let c12_i32_162 : BitVec 32 := 12#32
  let v347 : BitVec 32 := Scalar.addi v346 c12_i32_162
  let v348 : Index := Scalar.indexCast v347
  let c16_163 : Index := 16#32
  ![v348.toNat, 16]
def k0_off272 (k0_t32 : Fin k0_t32_loop.trips) : Fin 2 → Nat :=
  let c0_i32_151 : BitVec 32 := 0#32
  let c1_i32_153 : BitVec 32 := 1#32
  let arg17 : BitVec 32 := Scf.iv c0_i32_151 c1_i32_153 k0_t32
  let c16_i32_166 : BitVec 32 := 16#32
  let v361 : BitVec 32 := Scalar.muli arg17 c16_i32_166
  let c12_i32_167 : BitVec 32 := 12#32
  let v362 : BitVec 32 := Scalar.addi v361 c12_i32_167
  let v363 : Index := Scalar.indexCast v362
  let c32_168 : Index := 32#32
  ![v363.toNat, 32]
def k0_off273 (k0_t32 : Fin k0_t32_loop.trips) : Fin 2 → Nat :=
  let c0_i32_151 : BitVec 32 := 0#32
  let c1_i32_153 : BitVec 32 := 1#32
  let arg17 : BitVec 32 := Scf.iv c0_i32_151 c1_i32_153 k0_t32
  let c16_i32_170 : BitVec 32 := 16#32
  let v376 : BitVec 32 := Scalar.muli arg17 c16_i32_170
  let c12_i32_171 : BitVec 32 := 12#32
  let v377 : BitVec 32 := Scalar.addi v376 c12_i32_171
  let v378 : Index := Scalar.indexCast v377
  let c48_172 : Index := 48#32
  ![v378.toNat, 48]
def k0_off274 (k0_t32 : Fin k0_t32_loop.trips) : Fin 2 → Nat :=
  let c0_i32_151 : BitVec 32 := 0#32
  let c1_i32_153 : BitVec 32 := 1#32
  let arg17 : BitVec 32 := Scf.iv c0_i32_151 c1_i32_153 k0_t32
  let c16_i32_174 : BitVec 32 := 16#32
  let v391 : BitVec 32 := Scalar.muli arg17 c16_i32_174
  let c12_i32_175 : BitVec 32 := 12#32
  let v392 : BitVec 32 := Scalar.addi v391 c12_i32_175
  let v393 : Index := Scalar.indexCast v392
  let c64_176 : Index := 64#32
  ![v393.toNat, 64]
def k0_off275 (k0_t32 : Fin k0_t32_loop.trips) : Fin 2 → Nat :=
  let c0_i32_151 : BitVec 32 := 0#32
  let c1_i32_153 : BitVec 32 := 1#32
  let arg17 : BitVec 32 := Scf.iv c0_i32_151 c1_i32_153 k0_t32
  let c16_i32_178 : BitVec 32 := 16#32
  let v406 : BitVec 32 := Scalar.muli arg17 c16_i32_178
  let c12_i32_179 : BitVec 32 := 12#32
  let v407 : BitVec 32 := Scalar.addi v406 c12_i32_179
  let v408 : Index := Scalar.indexCast v407
  let c80_180 : Index := 80#32
  ![v408.toNat, 80]
def k0_off276 (k0_t32 : Fin k0_t32_loop.trips) : Fin 2 → Nat :=
  let c0_i32_151 : BitVec 32 := 0#32
  let c1_i32_153 : BitVec 32 := 1#32
  let arg17 : BitVec 32 := Scf.iv c0_i32_151 c1_i32_153 k0_t32
  let c16_i32_182 : BitVec 32 := 16#32
  let v421 : BitVec 32 := Scalar.muli arg17 c16_i32_182
  let c12_i32_183 : BitVec 32 := 12#32
  let v422 : BitVec 32 := Scalar.addi v421 c12_i32_183
  let v423 : Index := Scalar.indexCast v422
  let c96_184 : Index := 96#32
  ![v423.toNat, 96]
def k0_off277 (k0_t32 : Fin k0_t32_loop.trips) : Fin 2 → Nat :=
  let c0_i32_151 : BitVec 32 := 0#32
  let c1_i32_153 : BitVec 32 := 1#32
  let arg17 : BitVec 32 := Scf.iv c0_i32_151 c1_i32_153 k0_t32
  let c16_i32_186 : BitVec 32 := 16#32
  let v436 : BitVec 32 := Scalar.muli arg17 c16_i32_186
  let c12_i32_187 : BitVec 32 := 12#32
  let v437 : BitVec 32 := Scalar.addi v436 c12_i32_187
  let v438 : Index := Scalar.indexCast v437
  let c112_188 : Index := 112#32
  ![v438.toNat, 112]
@[reducible] def k0_t33_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off278 (i : grid0.Coords) (k0_t1 : Fin (k0_t1_loop i).trips) (v323 : BitVec 32) (k0_t33 : Fin k0_t33_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t33
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond34 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_137 : BitVec 32 := 16#32
  let v298 : BitVec 32 := Scalar.muli arg16 c16_i32_137
  let c13_i32 : BitVec 32 := 13#32
  let v299 : BitVec 32 := Scalar.addi v298 c13_i32
  let v300 : BitVec 1 := Scalar.cmpi .slt v299 v103
  let v301 : BitVec 32 := Scalar.extui v300
  let c0_i32_138 : BitVec 32 := 0#32
  let v302 : BitVec 1 := Scalar.cmpi .ne v301 c0_i32_138
  v302

def k0_chk32 (i : grid0.Coords) (k0_t1 : Fin (k0_t1_loop i).trips) (v89 : BitVec 32) (v102 : BitVec 32) (k0_t19 : Fin (k0_t19_loop v89 v102).trips) (v323 : BitVec 32) : Prop :=
  (∀ k0_t33 : Fin k0_t33_loop.trips, ∀ (k0_h34 : k0_cond34 v89 v102 k0_t19 = 1#1), ∀ (r : Fin 8), ∀ a, (k0_off278 i k0_t1 v323 k0_t33 (BitVec.ofNat 32 (16 * r.val))) a + S1x1x16.size a ≤ S2x32x1024.size a)
theorem k0_off278_inb : ∀ (i : grid0.Coords) (k0_t1 : Fin (k0_t1_loop i).trips) (v89 : BitVec 32) (v102 : BitVec 32) (k0_t19 : Fin (k0_t19_loop v89 v102).trips) (v323 : BitVec 32) (k0_hw32 : k0_chk32 i k0_t1 v89 v102 k0_t19 v323) (k0_t33 : Fin k0_t33_loop.trips), ∀ (k0_h34 : k0_cond34 v89 v102 k0_t19 = 1#1), ∀ (r : Fin 8), ∀ a, (k0_off278 i k0_t1 v323 k0_t33 (BitVec.ofNat 32 (16 * r.val))) a + S1x1x16.size a ≤ S2x32x1024.size a := fun i k0_t1 v89 v102 k0_t19 v323 k0_hw32 k0_t33 k0_h34 r => k0_hw32 k0_t33 k0_h34 r

def k0_off279 (k0_t33 : Fin k0_t33_loop.trips) : Fin 2 → Nat :=
  let c0_i32_151 : BitVec 32 := 0#32
  let c1_i32_153 : BitVec 32 := 1#32
  let arg17 : BitVec 32 := Scf.iv c0_i32_151 c1_i32_153 k0_t33
  let c16_i32_156 : BitVec 32 := 16#32
  let v331 : BitVec 32 := Scalar.muli arg17 c16_i32_156
  let c13_i32_157 : BitVec 32 := 13#32
  let v332 : BitVec 32 := Scalar.addi v331 c13_i32_157
  let v333 : Index := Scalar.indexCast v332
  let c0_158 : Index := 0#32
  ![v333.toNat, 0]
def k0_off280 (k0_t33 : Fin k0_t33_loop.trips) : Fin 2 → Nat :=
  let c0_i32_151 : BitVec 32 := 0#32
  let c1_i32_153 : BitVec 32 := 1#32
  let arg17 : BitVec 32 := Scf.iv c0_i32_151 c1_i32_153 k0_t33
  let c16_i32_161 : BitVec 32 := 16#32
  let v346 : BitVec 32 := Scalar.muli arg17 c16_i32_161
  let c13_i32_162 : BitVec 32 := 13#32
  let v347 : BitVec 32 := Scalar.addi v346 c13_i32_162
  let v348 : Index := Scalar.indexCast v347
  let c16_163 : Index := 16#32
  ![v348.toNat, 16]
def k0_off281 (k0_t33 : Fin k0_t33_loop.trips) : Fin 2 → Nat :=
  let c0_i32_151 : BitVec 32 := 0#32
  let c1_i32_153 : BitVec 32 := 1#32
  let arg17 : BitVec 32 := Scf.iv c0_i32_151 c1_i32_153 k0_t33
  let c16_i32_166 : BitVec 32 := 16#32
  let v361 : BitVec 32 := Scalar.muli arg17 c16_i32_166
  let c13_i32_167 : BitVec 32 := 13#32
  let v362 : BitVec 32 := Scalar.addi v361 c13_i32_167
  let v363 : Index := Scalar.indexCast v362
  let c32_168 : Index := 32#32
  ![v363.toNat, 32]
def k0_off282 (k0_t33 : Fin k0_t33_loop.trips) : Fin 2 → Nat :=
  let c0_i32_151 : BitVec 32 := 0#32
  let c1_i32_153 : BitVec 32 := 1#32
  let arg17 : BitVec 32 := Scf.iv c0_i32_151 c1_i32_153 k0_t33
  let c16_i32_170 : BitVec 32 := 16#32
  let v376 : BitVec 32 := Scalar.muli arg17 c16_i32_170
  let c13_i32_171 : BitVec 32 := 13#32
  let v377 : BitVec 32 := Scalar.addi v376 c13_i32_171
  let v378 : Index := Scalar.indexCast v377
  let c48_172 : Index := 48#32
  ![v378.toNat, 48]
def k0_off283 (k0_t33 : Fin k0_t33_loop.trips) : Fin 2 → Nat :=
  let c0_i32_151 : BitVec 32 := 0#32
  let c1_i32_153 : BitVec 32 := 1#32
  let arg17 : BitVec 32 := Scf.iv c0_i32_151 c1_i32_153 k0_t33
  let c16_i32_174 : BitVec 32 := 16#32
  let v391 : BitVec 32 := Scalar.muli arg17 c16_i32_174
  let c13_i32_175 : BitVec 32 := 13#32
  let v392 : BitVec 32 := Scalar.addi v391 c13_i32_175
  let v393 : Index := Scalar.indexCast v392
  let c64_176 : Index := 64#32
  ![v393.toNat, 64]
def k0_off284 (k0_t33 : Fin k0_t33_loop.trips) : Fin 2 → Nat :=
  let c0_i32_151 : BitVec 32 := 0#32
  let c1_i32_153 : BitVec 32 := 1#32
  let arg17 : BitVec 32 := Scf.iv c0_i32_151 c1_i32_153 k0_t33
  let c16_i32_178 : BitVec 32 := 16#32
  let v406 : BitVec 32 := Scalar.muli arg17 c16_i32_178
  let c13_i32_179 : BitVec 32 := 13#32
  let v407 : BitVec 32 := Scalar.addi v406 c13_i32_179
  let v408 : Index := Scalar.indexCast v407
  let c80_180 : Index := 80#32
  ![v408.toNat, 80]
def k0_off285 (k0_t33 : Fin k0_t33_loop.trips) : Fin 2 → Nat :=
  let c0_i32_151 : BitVec 32 := 0#32
  let c1_i32_153 : BitVec 32 := 1#32
  let arg17 : BitVec 32 := Scf.iv c0_i32_151 c1_i32_153 k0_t33
  let c16_i32_182 : BitVec 32 := 16#32
  let v421 : BitVec 32 := Scalar.muli arg17 c16_i32_182
  let c13_i32_183 : BitVec 32 := 13#32
  let v422 : BitVec 32 := Scalar.addi v421 c13_i32_183
  let v423 : Index := Scalar.indexCast v422
  let c96_184 : Index := 96#32
  ![v423.toNat, 96]
def k0_off286 (k0_t33 : Fin k0_t33_loop.trips) : Fin 2 → Nat :=
  let c0_i32_151 : BitVec 32 := 0#32
  let c1_i32_153 : BitVec 32 := 1#32
  let arg17 : BitVec 32 := Scf.iv c0_i32_151 c1_i32_153 k0_t33
  let c16_i32_186 : BitVec 32 := 16#32
  let v436 : BitVec 32 := Scalar.muli arg17 c16_i32_186
  let c13_i32_187 : BitVec 32 := 13#32
  let v437 : BitVec 32 := Scalar.addi v436 c13_i32_187
  let v438 : Index := Scalar.indexCast v437
  let c112_188 : Index := 112#32
  ![v438.toNat, 112]
@[reducible] def k0_t34_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off287 (i : grid0.Coords) (k0_t1 : Fin (k0_t1_loop i).trips) (v323 : BitVec 32) (k0_t34 : Fin k0_t34_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t34
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond35 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_139 : BitVec 32 := 16#32
  let v303 : BitVec 32 := Scalar.muli arg16 c16_i32_139
  let c14_i32_140 : BitVec 32 := 14#32
  let v304 : BitVec 32 := Scalar.addi v303 c14_i32_140
  let v305 : BitVec 1 := Scalar.cmpi .slt v304 v103
  let v306 : BitVec 32 := Scalar.extui v305
  let c0_i32_141 : BitVec 32 := 0#32
  let v307 : BitVec 1 := Scalar.cmpi .ne v306 c0_i32_141
  v307

def k0_chk33 (i : grid0.Coords) (k0_t1 : Fin (k0_t1_loop i).trips) (v89 : BitVec 32) (v102 : BitVec 32) (k0_t19 : Fin (k0_t19_loop v89 v102).trips) (v323 : BitVec 32) : Prop :=
  (∀ k0_t34 : Fin k0_t34_loop.trips, ∀ (k0_h35 : k0_cond35 v89 v102 k0_t19 = 1#1), ∀ (r : Fin 8), ∀ a, (k0_off287 i k0_t1 v323 k0_t34 (BitVec.ofNat 32 (16 * r.val))) a + S1x1x16.size a ≤ S2x32x1024.size a)
theorem k0_off287_inb : ∀ (i : grid0.Coords) (k0_t1 : Fin (k0_t1_loop i).trips) (v89 : BitVec 32) (v102 : BitVec 32) (k0_t19 : Fin (k0_t19_loop v89 v102).trips) (v323 : BitVec 32) (k0_hw33 : k0_chk33 i k0_t1 v89 v102 k0_t19 v323) (k0_t34 : Fin k0_t34_loop.trips), ∀ (k0_h35 : k0_cond35 v89 v102 k0_t19 = 1#1), ∀ (r : Fin 8), ∀ a, (k0_off287 i k0_t1 v323 k0_t34 (BitVec.ofNat 32 (16 * r.val))) a + S1x1x16.size a ≤ S2x32x1024.size a := fun i k0_t1 v89 v102 k0_t19 v323 k0_hw33 k0_t34 k0_h35 r => k0_hw33 k0_t34 k0_h35 r

def k0_off288 (k0_t34 : Fin k0_t34_loop.trips) : Fin 2 → Nat :=
  let c0_i32_151 : BitVec 32 := 0#32
  let c1_i32_153 : BitVec 32 := 1#32
  let arg17 : BitVec 32 := Scf.iv c0_i32_151 c1_i32_153 k0_t34
  let c16_i32_156 : BitVec 32 := 16#32
  let v331 : BitVec 32 := Scalar.muli arg17 c16_i32_156
  let c14_i32_157 : BitVec 32 := 14#32
  let v332 : BitVec 32 := Scalar.addi v331 c14_i32_157
  let v333 : Index := Scalar.indexCast v332
  let c0_158 : Index := 0#32
  ![v333.toNat, 0]
def k0_off289 (k0_t34 : Fin k0_t34_loop.trips) : Fin 2 → Nat :=
  let c0_i32_151 : BitVec 32 := 0#32
  let c1_i32_153 : BitVec 32 := 1#32
  let arg17 : BitVec 32 := Scf.iv c0_i32_151 c1_i32_153 k0_t34
  let c16_i32_161 : BitVec 32 := 16#32
  let v346 : BitVec 32 := Scalar.muli arg17 c16_i32_161
  let c14_i32_162 : BitVec 32 := 14#32
  let v347 : BitVec 32 := Scalar.addi v346 c14_i32_162
  let v348 : Index := Scalar.indexCast v347
  let c16_163 : Index := 16#32
  ![v348.toNat, 16]
def k0_off290 (k0_t34 : Fin k0_t34_loop.trips) : Fin 2 → Nat :=
  let c0_i32_151 : BitVec 32 := 0#32
  let c1_i32_153 : BitVec 32 := 1#32
  let arg17 : BitVec 32 := Scf.iv c0_i32_151 c1_i32_153 k0_t34
  let c16_i32_166 : BitVec 32 := 16#32
  let v361 : BitVec 32 := Scalar.muli arg17 c16_i32_166
  let c14_i32_167 : BitVec 32 := 14#32
  let v362 : BitVec 32 := Scalar.addi v361 c14_i32_167
  let v363 : Index := Scalar.indexCast v362
  let c32_168 : Index := 32#32
  ![v363.toNat, 32]
def k0_off291 (k0_t34 : Fin k0_t34_loop.trips) : Fin 2 → Nat :=
  let c0_i32_151 : BitVec 32 := 0#32
  let c1_i32_153 : BitVec 32 := 1#32
  let arg17 : BitVec 32 := Scf.iv c0_i32_151 c1_i32_153 k0_t34
  let c16_i32_170 : BitVec 32 := 16#32
  let v376 : BitVec 32 := Scalar.muli arg17 c16_i32_170
  let c14_i32_171 : BitVec 32 := 14#32
  let v377 : BitVec 32 := Scalar.addi v376 c14_i32_171
  let v378 : Index := Scalar.indexCast v377
  let c48_172 : Index := 48#32
  ![v378.toNat, 48]
def k0_off292 (k0_t34 : Fin k0_t34_loop.trips) : Fin 2 → Nat :=
  let c0_i32_151 : BitVec 32 := 0#32
  let c1_i32_153 : BitVec 32 := 1#32
  let arg17 : BitVec 32 := Scf.iv c0_i32_151 c1_i32_153 k0_t34
  let c16_i32_174 : BitVec 32 := 16#32
  let v391 : BitVec 32 := Scalar.muli arg17 c16_i32_174
  let c14_i32_175 : BitVec 32 := 14#32
  let v392 : BitVec 32 := Scalar.addi v391 c14_i32_175
  let v393 : Index := Scalar.indexCast v392
  let c64_176 : Index := 64#32
  ![v393.toNat, 64]
def k0_off293 (k0_t34 : Fin k0_t34_loop.trips) : Fin 2 → Nat :=
  let c0_i32_151 : BitVec 32 := 0#32
  let c1_i32_153 : BitVec 32 := 1#32
  let arg17 : BitVec 32 := Scf.iv c0_i32_151 c1_i32_153 k0_t34
  let c16_i32_178 : BitVec 32 := 16#32
  let v406 : BitVec 32 := Scalar.muli arg17 c16_i32_178
  let c14_i32_179 : BitVec 32 := 14#32
  let v407 : BitVec 32 := Scalar.addi v406 c14_i32_179
  let v408 : Index := Scalar.indexCast v407
  let c80_180 : Index := 80#32
  ![v408.toNat, 80]
def k0_off294 (k0_t34 : Fin k0_t34_loop.trips) : Fin 2 → Nat :=
  let c0_i32_151 : BitVec 32 := 0#32
  let c1_i32_153 : BitVec 32 := 1#32
  let arg17 : BitVec 32 := Scf.iv c0_i32_151 c1_i32_153 k0_t34
  let c16_i32_182 : BitVec 32 := 16#32
  let v421 : BitVec 32 := Scalar.muli arg17 c16_i32_182
  let c14_i32_183 : BitVec 32 := 14#32
  let v422 : BitVec 32 := Scalar.addi v421 c14_i32_183
  let v423 : Index := Scalar.indexCast v422
  let c96_184 : Index := 96#32
  ![v423.toNat, 96]
def k0_off295 (k0_t34 : Fin k0_t34_loop.trips) : Fin 2 → Nat :=
  let c0_i32_151 : BitVec 32 := 0#32
  let c1_i32_153 : BitVec 32 := 1#32
  let arg17 : BitVec 32 := Scf.iv c0_i32_151 c1_i32_153 k0_t34
  let c16_i32_186 : BitVec 32 := 16#32
  let v436 : BitVec 32 := Scalar.muli arg17 c16_i32_186
  let c14_i32_187 : BitVec 32 := 14#32
  let v437 : BitVec 32 := Scalar.addi v436 c14_i32_187
  let v438 : Index := Scalar.indexCast v437
  let c112_188 : Index := 112#32
  ![v438.toNat, 112]
@[reducible] def k0_t35_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off296 (i : grid0.Coords) (k0_t1 : Fin (k0_t1_loop i).trips) (v323 : BitVec 32) (k0_t35 : Fin k0_t35_loop.trips) (c0_i32_155 : BitVec 32) : Fin 3 → Nat :=
  let c0_i32_24 : BitVec 32 := 0#32
  let c1_i32_26 : BitVec 32 := 1#32
  let arg15 : BitVec 32 := Scf.iv c0_i32_24 c1_i32_26 k0_t1
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t35
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond36 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c16_i32_142 : BitVec 32 := 16#32
  let v308 : BitVec 32 := Scalar.muli arg16 c16_i32_142
  let c15_i32_143 : BitVec 32 := 15#32
  let v309 : BitVec 32 := Scalar.addi v308 c15_i32_143
  let v310 : BitVec 1 := Scalar.cmpi .slt v309 v103
  let v311 : BitVec 32 := Scalar.extui v310
  let c0_i32_144 : BitVec 32 := 0#32
  let v312 : BitVec 1 := Scalar.cmpi .ne v311 c0_i32_144
  v312

def k0_chk34 (i : grid0.Coords) (k0_t1 : Fin (k0_t1_loop i).trips) (v89 : BitVec 32) (v102 : BitVec 32) (k0_t19 : Fin (k0_t19_loop v89 v102).trips) (v323 : BitVec 32) : Prop :=
  (∀ k0_t35 : Fin k0_t35_loop.trips, ∀ (k0_h36 : k0_cond36 v89 v102 k0_t19 = 1#1), ∀ (r : Fin 8), ∀ a, (k0_off296 i k0_t1 v323 k0_t35 (BitVec.ofNat 32 (16 * r.val))) a + S1x1x16.size a ≤ S2x32x1024.size a)
theorem k0_off296_inb : ∀ (i : grid0.Coords) (k0_t1 : Fin (k0_t1_loop i).trips) (v89 : BitVec 32) (v102 : BitVec 32) (k0_t19 : Fin (k0_t19_loop v89 v102).trips) (v323 : BitVec 32) (k0_hw34 : k0_chk34 i k0_t1 v89 v102 k0_t19 v323) (k0_t35 : Fin k0_t35_loop.trips), ∀ (k0_h36 : k0_cond36 v89 v102 k0_t19 = 1#1), ∀ (r : Fin 8), ∀ a, (k0_off296 i k0_t1 v323 k0_t35 (BitVec.ofNat 32 (16 * r.val))) a + S1x1x16.size a ≤ S2x32x1024.size a := fun i k0_t1 v89 v102 k0_t19 v323 k0_hw34 k0_t35 k0_h36 r => k0_hw34 k0_t35 k0_h36 r

def k0_off297 (k0_t35 : Fin k0_t35_loop.trips) : Fin 2 → Nat :=
  let c0_i32_151 : BitVec 32 := 0#32
  let c1_i32_153 : BitVec 32 := 1#32
  let arg17 : BitVec 32 := Scf.iv c0_i32_151 c1_i32_153 k0_t35
  let c16_i32_156 : BitVec 32 := 16#32
  let v331 : BitVec 32 := Scalar.muli arg17 c16_i32_156
  let c15_i32_157 : BitVec 32 := 15#32
  let v332 : BitVec 32 := Scalar.addi v331 c15_i32_157
  let v333 : Index := Scalar.indexCast v332
  let c0_158 : Index := 0#32
  ![v333.toNat, 0]
def k0_off298 (k0_t35 : Fin k0_t35_loop.trips) : Fin 2 → Nat :=
  let c0_i32_151 : BitVec 32 := 0#32
  let c1_i32_153 : BitVec 32 := 1#32
  let arg17 : BitVec 32 := Scf.iv c0_i32_151 c1_i32_153 k0_t35
  let c16_i32_161 : BitVec 32 := 16#32
  let v346 : BitVec 32 := Scalar.muli arg17 c16_i32_161
  let c15_i32_162 : BitVec 32 := 15#32
  let v347 : BitVec 32 := Scalar.addi v346 c15_i32_162
  let v348 : Index := Scalar.indexCast v347
  let c16_163 : Index := 16#32
  ![v348.toNat, 16]
def k0_off299 (k0_t35 : Fin k0_t35_loop.trips) : Fin 2 → Nat :=
  let c0_i32_151 : BitVec 32 := 0#32
  let c1_i32_153 : BitVec 32 := 1#32
  let arg17 : BitVec 32 := Scf.iv c0_i32_151 c1_i32_153 k0_t35
  let c16_i32_166 : BitVec 32 := 16#32
  let v361 : BitVec 32 := Scalar.muli arg17 c16_i32_166
  let c15_i32_167 : BitVec 32 := 15#32
  let v362 : BitVec 32 := Scalar.addi v361 c15_i32_167
  let v363 : Index := Scalar.indexCast v362
  let c32_168 : Index := 32#32
  ![v363.toNat, 32]
def k0_off300 (k0_t35 : Fin k0_t35_loop.trips) : Fin 2 → Nat :=
  let c0_i32_151 : BitVec 32 := 0#32
  let c1_i32_153 : BitVec 32 := 1#32
  let arg17 : BitVec 32 := Scf.iv c0_i32_151 c1_i32_153 k0_t35
  let c16_i32_170 : BitVec 32 := 16#32
  let v376 : BitVec 32 := Scalar.muli arg17 c16_i32_170
  let c15_i32_171 : BitVec 32 := 15#32
  let v377 : BitVec 32 := Scalar.addi v376 c15_i32_171
  let v378 : Index := Scalar.indexCast v377
  let c48_172 : Index := 48#32
  ![v378.toNat, 48]
def k0_off301 (k0_t35 : Fin k0_t35_loop.trips) : Fin 2 → Nat :=
  let c0_i32_151 : BitVec 32 := 0#32
  let c1_i32_153 : BitVec 32 := 1#32
  let arg17 : BitVec 32 := Scf.iv c0_i32_151 c1_i32_153 k0_t35
  let c16_i32_174 : BitVec 32 := 16#32
  let v391 : BitVec 32 := Scalar.muli arg17 c16_i32_174
  let c15_i32_175 : BitVec 32 := 15#32
  let v392 : BitVec 32 := Scalar.addi v391 c15_i32_175
  let v393 : Index := Scalar.indexCast v392
  let c64_176 : Index := 64#32
  ![v393.toNat, 64]
def k0_off302 (k0_t35 : Fin k0_t35_loop.trips) : Fin 2 → Nat :=
  let c0_i32_151 : BitVec 32 := 0#32
  let c1_i32_153 : BitVec 32 := 1#32
  let arg17 : BitVec 32 := Scf.iv c0_i32_151 c1_i32_153 k0_t35
  let c16_i32_178 : BitVec 32 := 16#32
  let v406 : BitVec 32 := Scalar.muli arg17 c16_i32_178
  let c15_i32_179 : BitVec 32 := 15#32
  let v407 : BitVec 32 := Scalar.addi v406 c15_i32_179
  let v408 : Index := Scalar.indexCast v407
  let c80_180 : Index := 80#32
  ![v408.toNat, 80]
def k0_off303 (k0_t35 : Fin k0_t35_loop.trips) : Fin 2 → Nat :=
  let c0_i32_151 : BitVec 32 := 0#32
  let c1_i32_153 : BitVec 32 := 1#32
  let arg17 : BitVec 32 := Scf.iv c0_i32_151 c1_i32_153 k0_t35
  let c16_i32_182 : BitVec 32 := 16#32
  let v421 : BitVec 32 := Scalar.muli arg17 c16_i32_182
  let c15_i32_183 : BitVec 32 := 15#32
  let v422 : BitVec 32 := Scalar.addi v421 c15_i32_183
  let v423 : Index := Scalar.indexCast v422
  let c96_184 : Index := 96#32
  ![v423.toNat, 96]
def k0_off304 (k0_t35 : Fin k0_t35_loop.trips) : Fin 2 → Nat :=
  let c0_i32_151 : BitVec 32 := 0#32
  let c1_i32_153 : BitVec 32 := 1#32
  let arg17 : BitVec 32 := Scf.iv c0_i32_151 c1_i32_153 k0_t35
  let c16_i32_186 : BitVec 32 := 16#32
  let v436 : BitVec 32 := Scalar.muli arg17 c16_i32_186
  let c15_i32_187 : BitVec 32 := 15#32
  let v437 : BitVec 32 := Scalar.addi v436 c15_i32_187
  let v438 : Index := Scalar.indexCast v437
  let c112_188 : Index := 112#32
  ![v438.toNat, 112]
def k0_off305 (v89 : BitVec 32) (v102 : BitVec 32) (k0_t19 : Fin (k0_t19_loop v89 v102).trips) : Fin 1 → Nat :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c1_i32_147 : BitVec 32 := 1#32
  let v317 : BitVec 32 := Scalar.addi arg16 c1_i32_147
  let c16_i32_148 : BitVec 32 := 16#32
  let v318 : BitVec 32 := Scalar.muli v317 c16_i32_148
  let v319 : BitVec 32 := Scalar.addi v89 v318
  let v320 : Index := Scalar.indexCast v319
  ![v320.toNat]
def k0_cond37 (v89 : BitVec 32) (v102 : BitVec 32) (k0_t19 : Fin (k0_t19_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t19
  let c1_i32_145 : BitVec 32 := 1#32
  let v313 : BitVec 32 := Scalar.addi arg16 c1_i32_145
  let v314 : BitVec 1 := Scalar.cmpi .slt v313 v122
  let v315 : BitVec 32 := Scalar.extui v314
  let c0_i32_146 : BitVec 32 := 0#32
  let v316 : BitVec 1 := Scalar.cmpi .ne v315 c0_i32_146
  v316

def k0_chk2 (v89 : BitVec 32) (v102 : BitVec 32) : Prop :=
  ((k0_t2_loop v89 v102).OK) ∧
  (∀ k0_t2 : Fin (k0_t2_loop v89 v102).trips, ∀ a, (k0_off14 v89 v102 k0_t2) a + S16.size a ≤ S16400.size a) ∧
  (∀ k0_t2 : Fin (k0_t2_loop v89 v102).trips, ∀ (k0_h20 : k0_cond20 v89 v102 k0_t2 = 1#1), ∀ a, (k0_off159 v89 v102 k0_t2) a + S16.size a ≤ S16400.size a) ∧
  ((k0_t19_loop v89 v102).OK) ∧
  (∀ k0_t19 : Fin (k0_t19_loop v89 v102).trips, ∀ a, (k0_off160 v89 v102 k0_t19) a + S16.size a ≤ S16400.size a) ∧
  (∀ k0_t19 : Fin (k0_t19_loop v89 v102).trips, ∀ (k0_h37 : k0_cond37 v89 v102 k0_t19 = 1#1), ∀ a, (k0_off305 v89 v102 k0_t19) a + S16.size a ≤ S16400.size a)
theorem k0_t2_ok : ∀ (v89 : BitVec 32) (v102 : BitVec 32) (k0_hw2 : k0_chk2 v89 v102), (k0_t2_loop v89 v102).OK := fun v89 v102 k0_hw2 => k0_hw2.1
theorem k0_off14_inb : ∀ (v89 : BitVec 32) (v102 : BitVec 32) (k0_hw2 : k0_chk2 v89 v102) (k0_t2 : Fin (k0_t2_loop v89 v102).trips), ∀ a, (k0_off14 v89 v102 k0_t2) a + S16.size a ≤ S16400.size a := fun v89 v102 k0_hw2 k0_t2 => k0_hw2.2.1 k0_t2
theorem k0_off159_inb : ∀ (v89 : BitVec 32) (v102 : BitVec 32) (k0_hw2 : k0_chk2 v89 v102) (k0_t2 : Fin (k0_t2_loop v89 v102).trips), ∀ (k0_h20 : k0_cond20 v89 v102 k0_t2 = 1#1), ∀ a, (k0_off159 v89 v102 k0_t2) a + S16.size a ≤ S16400.size a := fun v89 v102 k0_hw2 k0_t2 k0_h20 => k0_hw2.2.2.1 k0_t2 k0_h20
theorem k0_t19_ok : ∀ (v89 : BitVec 32) (v102 : BitVec 32) (k0_hw2 : k0_chk2 v89 v102), (k0_t19_loop v89 v102).OK := fun v89 v102 k0_hw2 => k0_hw2.2.2.2.1
theorem k0_off160_inb : ∀ (v89 : BitVec 32) (v102 : BitVec 32) (k0_hw2 : k0_chk2 v89 v102) (k0_t19 : Fin (k0_t19_loop v89 v102).trips), ∀ a, (k0_off160 v89 v102 k0_t19) a + S16.size a ≤ S16400.size a := fun v89 v102 k0_hw2 k0_t19 => k0_hw2.2.2.2.2.1 k0_t19
theorem k0_off305_inb : ∀ (v89 : BitVec 32) (v102 : BitVec 32) (k0_hw2 : k0_chk2 v89 v102) (k0_t19 : Fin (k0_t19_loop v89 v102).trips), ∀ (k0_h37 : k0_cond37 v89 v102 k0_t19 = 1#1), ∀ a, (k0_off305 v89 v102 k0_t19) a + S16.size a ≤ S16400.size a := fun v89 v102 k0_hw2 k0_t19 k0_h37 => k0_hw2.2.2.2.2.2 k0_t19 k0_h37

@[reducible] def k0_t36_loop (i : grid0.Coords) : Scf.Loop 32 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let v52 : BitVec 32 := Scalar.addi c0_i32_24 v51
  let c1_i32_27 : BitVec 32 := 1#32
  ⟨v55, v52, c1_i32_27⟩
def k0_cond38 (i : grid0.Coords) (k0_t36 : Fin (k0_t36_loop i).trips) : BitVec 1 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_41 : BitVec 32 := 1#32
  let v74 : BitVec 32 := Scalar.addi arg15 c1_i32_41
  let v75 : BitVec 1 := Scalar.cmpi .slt v74 v39
  let v76 : BitVec 32 := Scalar.extui v75
  let c0_i32_42 : BitVec 32 := 0#32
  let v77 : BitVec 1 := Scalar.cmpi .ne v76 c0_i32_42
  v77

def k0_cond39 (i : grid0.Coords) (k0_t36 : Fin (k0_t36_loop i).trips) : BitVec 1 :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_98 : BitVec 32 := 1#32
  let v223 : BitVec 1 := Scalar.cmpi .sge arg15 c1_i32_98
  let v224 : BitVec 32 := Scalar.extui v223
  let c0_i32_99 : BitVec 32 := 0#32
  let v225 : BitVec 1 := Scalar.cmpi .ne v224 c0_i32_99
  v225

def k0_off306 (i : grid0.Coords) (k0_t36 : Fin (k0_t36_loop i).trips) : Fin 3 → Nat :=
  let c1_i32_110 : BitVec 32 := 1#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v239 : BitVec 32 := Scalar.subi c1_i32_110 v72
  let c0_i32_112 : BitVec 32 := 0#32
  let c0_i32_113 : BitVec 32 := 0#32
  ![v239.toNat, 0, 0]
def k0_off307 (i : grid0.Coords) (k0_t36 : Fin (k0_t36_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_109 : BitVec 32 := 1#32
  let v238 : BitVec 32 := Scalar.subi arg15 c1_i32_109
  let v240 : BitVec 32 := Scalar.addi v19 v238
  let c32_i32_111 : BitVec 32 := 32#32
  let v241 : BitVec 32 := Scalar.muli v240 c32_i32_111
  let c0_i32_114 : BitVec 32 := 0#32
  ![v241.toNat, 0]
def k0_off308 (i : grid0.Coords) (k0_t36 : Fin (k0_t36_loop i).trips) : Fin 1 → Nat :=
  let c1_i32_110 : BitVec 32 := 1#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v239 : BitVec 32 := Scalar.subi c1_i32_110 v72
  ![v239.toNat]
def k0_off309 (i : grid0.Coords) (k0_t36 : Fin (k0_t36_loop i).trips) : Fin 3 → Nat :=
  let c1_i32_101 : BitVec 32 := 1#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v227 : BitVec 32 := Scalar.subi c1_i32_101 v72
  let c0_i32_103 : BitVec 32 := 0#32
  let c0_i32_104 : BitVec 32 := 0#32
  ![v227.toNat, 0, 0]
def k0_off310 (i : grid0.Coords) (k0_t36 : Fin (k0_t36_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_100 : BitVec 32 := 1#32
  let v226 : BitVec 32 := Scalar.addi arg15 c1_i32_100
  let v228 : BitVec 32 := Scalar.addi v19 v226
  let c32_i32_102 : BitVec 32 := 32#32
  let v229 : BitVec 32 := Scalar.muli v228 c32_i32_102
  let c0_i32_105 : BitVec 32 := 0#32
  ![v229.toNat, 0]
def k0_off311 (i : grid0.Coords) (k0_t36 : Fin (k0_t36_loop i).trips) : Fin 1 → Nat :=
  let c1_i32_101 : BitVec 32 := 1#32
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v227 : BitVec 32 := Scalar.subi c1_i32_101 v72
  ![v227.toNat]
def k0_off312 (i : grid0.Coords) (k0_t36 : Fin (k0_t36_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let v73 : BitVec 32 := Scalar.addi v19 arg15
  let c4_i32 : BitVec 32 := 4#32
  let v78 : BitVec 32 := Scalar.shrsi v73 c4_i32
  let c4_i32_43 : BitVec 32 := 4#32
  let v79 : BitVec 32 := Scalar.shli v78 c4_i32_43
  let v80 : Index := Scalar.indexCast v79
  ![v80.toNat]
def k0_off313 (i : grid0.Coords) (k0_t36 : Fin (k0_t36_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let v73 : BitVec 32 := Scalar.addi v19 arg15
  let c1_i32_45 : BitVec 32 := 1#32
  let v90 : BitVec 32 := Scalar.addi v73 c1_i32_45
  let c4_i32_46 : BitVec 32 := 4#32
  let v91 : BitVec 32 := Scalar.shrsi v90 c4_i32_46
  let c4_i32_47 : BitVec 32 := 4#32
  let v92 : BitVec 32 := Scalar.shli v91 c4_i32_47
  let v93 : Index := Scalar.indexCast v92
  ![v93.toNat]
def k0_off314 (v89 : BitVec 32) : Fin 1 → Nat :=
  let v123 : Index := Scalar.indexCast v89
  ![v123.toNat]

def k0_chk35 (i : grid0.Coords) (k0_t36 : Fin (k0_t36_loop i).trips) (v89 : BitVec 32) : Prop :=
  (∀ a, (k0_off314 v89) a + S16.size a ≤ S16400.size a)
theorem k0_off314_inb : ∀ (i : grid0.Coords) (k0_t36 : Fin (k0_t36_loop i).trips) (v89 : BitVec 32) (k0_hw35 : k0_chk35 i k0_t36 v89), ∀ a, (k0_off314 v89) a + S16.size a ≤ S16400.size a := fun i k0_t36 v89 k0_hw35 => k0_hw35

def k0_off315 (i : grid0.Coords) (k0_t36 : Fin (k0_t36_loop i).trips) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let c0_i32_80 : BitVec 32 := 0#32
  let c0_i32_81 : BitVec 32 := 0#32
  ![v72.toNat, 0, 0]
def k0_off316 (i : grid0.Coords) (k0_t36 : Fin (k0_t36_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c0_i32_24 : BitVec 32 := 0#32
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let v198 : BitVec 32 := Scalar.addi v19 arg15
  let c32_i32_79 : BitVec 32 := 32#32
  let v199 : BitVec 32 := Scalar.muli v198 c32_i32_79
  let c0_i32_82 : BitVec 32 := 0#32
  ![v199.toNat, 0]
def k0_off317 (i : grid0.Coords) (k0_t36 : Fin (k0_t36_loop i).trips) : Fin 1 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  ![v72.toNat]
@[reducible] def k0_t37_loop (v89 : BitVec 32) (v102 : BitVec 32) : Scf.Loop 32 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_89 : BitVec 32 := 1#32
  ⟨c0_i32_87, v212, c1_i32_89⟩

def k0_off318 (v89 : BitVec 32) (v102 : BitVec 32) (k0_t37 : Fin (k0_t37_loop v89 v102).trips) : Fin 1 → Nat :=
  let c0_i32_87 : BitVec 32 := 0#32
  let c1_i32_89 : BitVec 32 := 1#32
  let arg16 : BitVec 32 := Scf.iv c0_i32_87 c1_i32_89 k0_t37
  let c16_i32_100 : BitVec 32 := 16#32
  let v224 : BitVec 32 := Scalar.muli arg16 c16_i32_100
  let v225 : BitVec 32 := Scalar.addi v89 v224
  let v226 : Index := Scalar.indexCast v225
  ![v226.toNat]
@[reducible] def k0_t38_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off319 (i : grid0.Coords) (k0_t36 : Fin (k0_t36_loop i).trips) (v323 : BitVec 32) (k0_t38 : Fin k0_t38_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t38
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond41 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_102 : BitVec 32 := 16#32
  let v233 : BitVec 32 := Scalar.muli arg16 c16_i32_102
  let c0_i32_103 : BitVec 32 := 0#32
  let v234 : BitVec 32 := Scalar.addi v233 c0_i32_103
  let v103 : BitVec 32 := Scalar.subi v102 v89
  let v235 : BitVec 1 := Scalar.cmpi .slt v234 v103
  let v236 : BitVec 32 := Scalar.extui v235
  let c0_i32_104 : BitVec 32 := 0#32
  let v237 : BitVec 1 := Scalar.cmpi .ne v236 c0_i32_104
  v237

def k0_chk37 (i : grid0.Coords) (k0_t36 : Fin (k0_t36_loop i).trips) (v89 : BitVec 32) (v102 : BitVec 32) (k0_t37 : Fin (k0_t37_loop v89 v102).trips) (v323 : BitVec 32) : Prop :=
  (∀ k0_t38 : Fin k0_t38_loop.trips, ∀ (k0_h41 : k0_cond41 v89 v102 k0_t37 = 1#1), ∀ (r : Fin 8), ∀ a, (k0_off319 i k0_t36 v323 k0_t38 (BitVec.ofNat 32 (16 * r.val))) a + S1x1x16.size a ≤ S2x32x1024.size a)
theorem k0_off319_inb : ∀ (i : grid0.Coords) (k0_t36 : Fin (k0_t36_loop i).trips) (v89 : BitVec 32) (v102 : BitVec 32) (k0_t37 : Fin (k0_t37_loop v89 v102).trips) (v323 : BitVec 32) (k0_hw37 : k0_chk37 i k0_t36 v89 v102 k0_t37 v323) (k0_t38 : Fin k0_t38_loop.trips), ∀ (k0_h41 : k0_cond41 v89 v102 k0_t37 = 1#1), ∀ (r : Fin 8), ∀ a, (k0_off319 i k0_t36 v323 k0_t38 (BitVec.ofNat 32 (16 * r.val))) a + S1x1x16.size a ≤ S2x32x1024.size a := fun i k0_t36 v89 v102 k0_t37 v323 k0_hw37 k0_t38 k0_h41 r => k0_hw37 k0_t38 k0_h41 r

def k0_off320 (k0_t38 : Fin k0_t38_loop.trips) : Fin 2 → Nat :=
  let c0_i32_151 : BitVec 32 := 0#32
  let c1_i32_153 : BitVec 32 := 1#32
  let arg17 : BitVec 32 := Scf.iv c0_i32_151 c1_i32_153 k0_t38
  let c16_i32_156 : BitVec 32 := 16#32
  let v331 : BitVec 32 := Scalar.muli arg17 c16_i32_156
  let c0_i32_157 : BitVec 32 := 0#32
  let v332 : BitVec 32 := Scalar.addi v331 c0_i32_157
  let v333 : Index := Scalar.indexCast v332
  let c0_158 : Index := 0#32
  ![v333.toNat, 0]
def k0_off321 (k0_t38 : Fin k0_t38_loop.trips) : Fin 2 → Nat :=
  let c0_i32_151 : BitVec 32 := 0#32
  let c1_i32_153 : BitVec 32 := 1#32
  let arg17 : BitVec 32 := Scf.iv c0_i32_151 c1_i32_153 k0_t38
  let c16_i32_161 : BitVec 32 := 16#32
  let v346 : BitVec 32 := Scalar.muli arg17 c16_i32_161
  let c0_i32_162 : BitVec 32 := 0#32
  let v347 : BitVec 32 := Scalar.addi v346 c0_i32_162
  let v348 : Index := Scalar.indexCast v347
  let c16_163 : Index := 16#32
  ![v348.toNat, 16]
def k0_off322 (k0_t38 : Fin k0_t38_loop.trips) : Fin 2 → Nat :=
  let c0_i32_151 : BitVec 32 := 0#32
  let c1_i32_153 : BitVec 32 := 1#32
  let arg17 : BitVec 32 := Scf.iv c0_i32_151 c1_i32_153 k0_t38
  let c16_i32_166 : BitVec 32 := 16#32
  let v361 : BitVec 32 := Scalar.muli arg17 c16_i32_166
  let c0_i32_167 : BitVec 32 := 0#32
  let v362 : BitVec 32 := Scalar.addi v361 c0_i32_167
  let v363 : Index := Scalar.indexCast v362
  let c32_168 : Index := 32#32
  ![v363.toNat, 32]
def k0_off323 (k0_t38 : Fin k0_t38_loop.trips) : Fin 2 → Nat :=
  let c0_i32_151 : BitVec 32 := 0#32
  let c1_i32_153 : BitVec 32 := 1#32
  let arg17 : BitVec 32 := Scf.iv c0_i32_151 c1_i32_153 k0_t38
  let c16_i32_170 : BitVec 32 := 16#32
  let v376 : BitVec 32 := Scalar.muli arg17 c16_i32_170
  let c0_i32_171 : BitVec 32 := 0#32
  let v377 : BitVec 32 := Scalar.addi v376 c0_i32_171
  let v378 : Index := Scalar.indexCast v377
  let c48_172 : Index := 48#32
  ![v378.toNat, 48]
def k0_off324 (k0_t38 : Fin k0_t38_loop.trips) : Fin 2 → Nat :=
  let c0_i32_151 : BitVec 32 := 0#32
  let c1_i32_153 : BitVec 32 := 1#32
  let arg17 : BitVec 32 := Scf.iv c0_i32_151 c1_i32_153 k0_t38
  let c16_i32_174 : BitVec 32 := 16#32
  let v391 : BitVec 32 := Scalar.muli arg17 c16_i32_174
  let c0_i32_175 : BitVec 32 := 0#32
  let v392 : BitVec 32 := Scalar.addi v391 c0_i32_175
  let v393 : Index := Scalar.indexCast v392
  let c64_176 : Index := 64#32
  ![v393.toNat, 64]
def k0_off325 (k0_t38 : Fin k0_t38_loop.trips) : Fin 2 → Nat :=
  let c0_i32_151 : BitVec 32 := 0#32
  let c1_i32_153 : BitVec 32 := 1#32
  let arg17 : BitVec 32 := Scf.iv c0_i32_151 c1_i32_153 k0_t38
  let c16_i32_178 : BitVec 32 := 16#32
  let v406 : BitVec 32 := Scalar.muli arg17 c16_i32_178
  let c0_i32_179 : BitVec 32 := 0#32
  let v407 : BitVec 32 := Scalar.addi v406 c0_i32_179
  let v408 : Index := Scalar.indexCast v407
  let c80_180 : Index := 80#32
  ![v408.toNat, 80]
def k0_off326 (k0_t38 : Fin k0_t38_loop.trips) : Fin 2 → Nat :=
  let c0_i32_151 : BitVec 32 := 0#32
  let c1_i32_153 : BitVec 32 := 1#32
  let arg17 : BitVec 32 := Scf.iv c0_i32_151 c1_i32_153 k0_t38
  let c16_i32_182 : BitVec 32 := 16#32
  let v421 : BitVec 32 := Scalar.muli arg17 c16_i32_182
  let c0_i32_183 : BitVec 32 := 0#32
  let v422 : BitVec 32 := Scalar.addi v421 c0_i32_183
  let v423 : Index := Scalar.indexCast v422
  let c96_184 : Index := 96#32
  ![v423.toNat, 96]
def k0_off327 (k0_t38 : Fin k0_t38_loop.trips) : Fin 2 → Nat :=
  let c0_i32_151 : BitVec 32 := 0#32
  let c1_i32_153 : BitVec 32 := 1#32
  let arg17 : BitVec 32 := Scf.iv c0_i32_151 c1_i32_153 k0_t38
  let c16_i32_186 : BitVec 32 := 16#32
  let v436 : BitVec 32 := Scalar.muli arg17 c16_i32_186
  let c0_i32_187 : BitVec 32 := 0#32
  let v437 : BitVec 32 := Scalar.addi v436 c0_i32_187
  let v438 : Index := Scalar.indexCast v437
  let c112_188 : Index := 112#32
  ![v438.toNat, 112]
@[reducible] def k0_t39_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off328 (i : grid0.Coords) (k0_t36 : Fin (k0_t36_loop i).trips) (v323 : BitVec 32) (k0_t39 : Fin k0_t39_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t39
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond42 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_105 : BitVec 32 := 16#32
  let v238 : BitVec 32 := Scalar.muli arg16 c16_i32_105
  let c1_i32_106 : BitVec 32 := 1#32
  let v239 : BitVec 32 := Scalar.addi v238 c1_i32_106
  let v103 : BitVec 32 := Scalar.subi v102 v89
  let v240 : BitVec 1 := Scalar.cmpi .slt v239 v103
  let v241 : BitVec 32 := Scalar.extui v240
  let c0_i32_107 : BitVec 32 := 0#32
  let v242 : BitVec 1 := Scalar.cmpi .ne v241 c0_i32_107
  v242

def k0_chk38 (i : grid0.Coords) (k0_t36 : Fin (k0_t36_loop i).trips) (v89 : BitVec 32) (v102 : BitVec 32) (k0_t37 : Fin (k0_t37_loop v89 v102).trips) (v323 : BitVec 32) : Prop :=
  (∀ k0_t39 : Fin k0_t39_loop.trips, ∀ (k0_h42 : k0_cond42 v89 v102 k0_t37 = 1#1), ∀ (r : Fin 8), ∀ a, (k0_off328 i k0_t36 v323 k0_t39 (BitVec.ofNat 32 (16 * r.val))) a + S1x1x16.size a ≤ S2x32x1024.size a)
theorem k0_off328_inb : ∀ (i : grid0.Coords) (k0_t36 : Fin (k0_t36_loop i).trips) (v89 : BitVec 32) (v102 : BitVec 32) (k0_t37 : Fin (k0_t37_loop v89 v102).trips) (v323 : BitVec 32) (k0_hw38 : k0_chk38 i k0_t36 v89 v102 k0_t37 v323) (k0_t39 : Fin k0_t39_loop.trips), ∀ (k0_h42 : k0_cond42 v89 v102 k0_t37 = 1#1), ∀ (r : Fin 8), ∀ a, (k0_off328 i k0_t36 v323 k0_t39 (BitVec.ofNat 32 (16 * r.val))) a + S1x1x16.size a ≤ S2x32x1024.size a := fun i k0_t36 v89 v102 k0_t37 v323 k0_hw38 k0_t39 k0_h42 r => k0_hw38 k0_t39 k0_h42 r

def k0_off329 (k0_t39 : Fin k0_t39_loop.trips) : Fin 2 → Nat :=
  let c0_i32_151 : BitVec 32 := 0#32
  let c1_i32_153 : BitVec 32 := 1#32
  let arg17 : BitVec 32 := Scf.iv c0_i32_151 c1_i32_153 k0_t39
  let c16_i32_156 : BitVec 32 := 16#32
  let v331 : BitVec 32 := Scalar.muli arg17 c16_i32_156
  let c1_i32_157 : BitVec 32 := 1#32
  let v332 : BitVec 32 := Scalar.addi v331 c1_i32_157
  let v333 : Index := Scalar.indexCast v332
  let c0_158 : Index := 0#32
  ![v333.toNat, 0]
def k0_off330 (k0_t39 : Fin k0_t39_loop.trips) : Fin 2 → Nat :=
  let c0_i32_151 : BitVec 32 := 0#32
  let c1_i32_153 : BitVec 32 := 1#32
  let arg17 : BitVec 32 := Scf.iv c0_i32_151 c1_i32_153 k0_t39
  let c16_i32_161 : BitVec 32 := 16#32
  let v346 : BitVec 32 := Scalar.muli arg17 c16_i32_161
  let c1_i32_162 : BitVec 32 := 1#32
  let v347 : BitVec 32 := Scalar.addi v346 c1_i32_162
  let v348 : Index := Scalar.indexCast v347
  let c16_163 : Index := 16#32
  ![v348.toNat, 16]
def k0_off331 (k0_t39 : Fin k0_t39_loop.trips) : Fin 2 → Nat :=
  let c0_i32_151 : BitVec 32 := 0#32
  let c1_i32_153 : BitVec 32 := 1#32
  let arg17 : BitVec 32 := Scf.iv c0_i32_151 c1_i32_153 k0_t39
  let c16_i32_166 : BitVec 32 := 16#32
  let v361 : BitVec 32 := Scalar.muli arg17 c16_i32_166
  let c1_i32_167 : BitVec 32 := 1#32
  let v362 : BitVec 32 := Scalar.addi v361 c1_i32_167
  let v363 : Index := Scalar.indexCast v362
  let c32_168 : Index := 32#32
  ![v363.toNat, 32]
def k0_off332 (k0_t39 : Fin k0_t39_loop.trips) : Fin 2 → Nat :=
  let c0_i32_151 : BitVec 32 := 0#32
  let c1_i32_153 : BitVec 32 := 1#32
  let arg17 : BitVec 32 := Scf.iv c0_i32_151 c1_i32_153 k0_t39
  let c16_i32_170 : BitVec 32 := 16#32
  let v376 : BitVec 32 := Scalar.muli arg17 c16_i32_170
  let c1_i32_171 : BitVec 32 := 1#32
  let v377 : BitVec 32 := Scalar.addi v376 c1_i32_171
  let v378 : Index := Scalar.indexCast v377
  let c48_172 : Index := 48#32
  ![v378.toNat, 48]
def k0_off333 (k0_t39 : Fin k0_t39_loop.trips) : Fin 2 → Nat :=
  let c0_i32_151 : BitVec 32 := 0#32
  let c1_i32_153 : BitVec 32 := 1#32
  let arg17 : BitVec 32 := Scf.iv c0_i32_151 c1_i32_153 k0_t39
  let c16_i32_174 : BitVec 32 := 16#32
  let v391 : BitVec 32 := Scalar.muli arg17 c16_i32_174
  let c1_i32_175 : BitVec 32 := 1#32
  let v392 : BitVec 32 := Scalar.addi v391 c1_i32_175
  let v393 : Index := Scalar.indexCast v392
  let c64_176 : Index := 64#32
  ![v393.toNat, 64]
def k0_off334 (k0_t39 : Fin k0_t39_loop.trips) : Fin 2 → Nat :=
  let c0_i32_151 : BitVec 32 := 0#32
  let c1_i32_153 : BitVec 32 := 1#32
  let arg17 : BitVec 32 := Scf.iv c0_i32_151 c1_i32_153 k0_t39
  let c16_i32_178 : BitVec 32 := 16#32
  let v406 : BitVec 32 := Scalar.muli arg17 c16_i32_178
  let c1_i32_179 : BitVec 32 := 1#32
  let v407 : BitVec 32 := Scalar.addi v406 c1_i32_179
  let v408 : Index := Scalar.indexCast v407
  let c80_180 : Index := 80#32
  ![v408.toNat, 80]
def k0_off335 (k0_t39 : Fin k0_t39_loop.trips) : Fin 2 → Nat :=
  let c0_i32_151 : BitVec 32 := 0#32
  let c1_i32_153 : BitVec 32 := 1#32
  let arg17 : BitVec 32 := Scf.iv c0_i32_151 c1_i32_153 k0_t39
  let c16_i32_182 : BitVec 32 := 16#32
  let v421 : BitVec 32 := Scalar.muli arg17 c16_i32_182
  let c1_i32_183 : BitVec 32 := 1#32
  let v422 : BitVec 32 := Scalar.addi v421 c1_i32_183
  let v423 : Index := Scalar.indexCast v422
  let c96_184 : Index := 96#32
  ![v423.toNat, 96]
def k0_off336 (k0_t39 : Fin k0_t39_loop.trips) : Fin 2 → Nat :=
  let c0_i32_151 : BitVec 32 := 0#32
  let c1_i32_153 : BitVec 32 := 1#32
  let arg17 : BitVec 32 := Scf.iv c0_i32_151 c1_i32_153 k0_t39
  let c16_i32_186 : BitVec 32 := 16#32
  let v436 : BitVec 32 := Scalar.muli arg17 c16_i32_186
  let c1_i32_187 : BitVec 32 := 1#32
  let v437 : BitVec 32 := Scalar.addi v436 c1_i32_187
  let v438 : Index := Scalar.indexCast v437
  let c112_188 : Index := 112#32
  ![v438.toNat, 112]
@[reducible] def k0_t40_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off337 (i : grid0.Coords) (k0_t36 : Fin (k0_t36_loop i).trips) (v323 : BitVec 32) (k0_t40 : Fin k0_t40_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t40
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond43 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_108 : BitVec 32 := 16#32
  let v243 : BitVec 32 := Scalar.muli arg16 c16_i32_108
  let c2_i32_109 : BitVec 32 := 2#32
  let v244 : BitVec 32 := Scalar.addi v243 c2_i32_109
  let v103 : BitVec 32 := Scalar.subi v102 v89
  let v245 : BitVec 1 := Scalar.cmpi .slt v244 v103
  let v246 : BitVec 32 := Scalar.extui v245
  let c0_i32_110 : BitVec 32 := 0#32
  let v247 : BitVec 1 := Scalar.cmpi .ne v246 c0_i32_110
  v247

def k0_chk39 (i : grid0.Coords) (k0_t36 : Fin (k0_t36_loop i).trips) (v89 : BitVec 32) (v102 : BitVec 32) (k0_t37 : Fin (k0_t37_loop v89 v102).trips) (v323 : BitVec 32) : Prop :=
  (∀ k0_t40 : Fin k0_t40_loop.trips, ∀ (k0_h43 : k0_cond43 v89 v102 k0_t37 = 1#1), ∀ (r : Fin 8), ∀ a, (k0_off337 i k0_t36 v323 k0_t40 (BitVec.ofNat 32 (16 * r.val))) a + S1x1x16.size a ≤ S2x32x1024.size a)
theorem k0_off337_inb : ∀ (i : grid0.Coords) (k0_t36 : Fin (k0_t36_loop i).trips) (v89 : BitVec 32) (v102 : BitVec 32) (k0_t37 : Fin (k0_t37_loop v89 v102).trips) (v323 : BitVec 32) (k0_hw39 : k0_chk39 i k0_t36 v89 v102 k0_t37 v323) (k0_t40 : Fin k0_t40_loop.trips), ∀ (k0_h43 : k0_cond43 v89 v102 k0_t37 = 1#1), ∀ (r : Fin 8), ∀ a, (k0_off337 i k0_t36 v323 k0_t40 (BitVec.ofNat 32 (16 * r.val))) a + S1x1x16.size a ≤ S2x32x1024.size a := fun i k0_t36 v89 v102 k0_t37 v323 k0_hw39 k0_t40 k0_h43 r => k0_hw39 k0_t40 k0_h43 r

def k0_off338 (k0_t40 : Fin k0_t40_loop.trips) : Fin 2 → Nat :=
  let c0_i32_151 : BitVec 32 := 0#32
  let c1_i32_153 : BitVec 32 := 1#32
  let arg17 : BitVec 32 := Scf.iv c0_i32_151 c1_i32_153 k0_t40
  let c16_i32_156 : BitVec 32 := 16#32
  let v331 : BitVec 32 := Scalar.muli arg17 c16_i32_156
  let c2_i32_157 : BitVec 32 := 2#32
  let v332 : BitVec 32 := Scalar.addi v331 c2_i32_157
  let v333 : Index := Scalar.indexCast v332
  let c0_158 : Index := 0#32
  ![v333.toNat, 0]
def k0_off339 (k0_t40 : Fin k0_t40_loop.trips) : Fin 2 → Nat :=
  let c0_i32_151 : BitVec 32 := 0#32
  let c1_i32_153 : BitVec 32 := 1#32
  let arg17 : BitVec 32 := Scf.iv c0_i32_151 c1_i32_153 k0_t40
  let c16_i32_161 : BitVec 32 := 16#32
  let v346 : BitVec 32 := Scalar.muli arg17 c16_i32_161
  let c2_i32_162 : BitVec 32 := 2#32
  let v347 : BitVec 32 := Scalar.addi v346 c2_i32_162
  let v348 : Index := Scalar.indexCast v347
  let c16_163 : Index := 16#32
  ![v348.toNat, 16]
def k0_off340 (k0_t40 : Fin k0_t40_loop.trips) : Fin 2 → Nat :=
  let c0_i32_151 : BitVec 32 := 0#32
  let c1_i32_153 : BitVec 32 := 1#32
  let arg17 : BitVec 32 := Scf.iv c0_i32_151 c1_i32_153 k0_t40
  let c16_i32_166 : BitVec 32 := 16#32
  let v361 : BitVec 32 := Scalar.muli arg17 c16_i32_166
  let c2_i32_167 : BitVec 32 := 2#32
  let v362 : BitVec 32 := Scalar.addi v361 c2_i32_167
  let v363 : Index := Scalar.indexCast v362
  let c32_168 : Index := 32#32
  ![v363.toNat, 32]
def k0_off341 (k0_t40 : Fin k0_t40_loop.trips) : Fin 2 → Nat :=
  let c0_i32_151 : BitVec 32 := 0#32
  let c1_i32_153 : BitVec 32 := 1#32
  let arg17 : BitVec 32 := Scf.iv c0_i32_151 c1_i32_153 k0_t40
  let c16_i32_170 : BitVec 32 := 16#32
  let v376 : BitVec 32 := Scalar.muli arg17 c16_i32_170
  let c2_i32_171 : BitVec 32 := 2#32
  let v377 : BitVec 32 := Scalar.addi v376 c2_i32_171
  let v378 : Index := Scalar.indexCast v377
  let c48_172 : Index := 48#32
  ![v378.toNat, 48]
def k0_off342 (k0_t40 : Fin k0_t40_loop.trips) : Fin 2 → Nat :=
  let c0_i32_151 : BitVec 32 := 0#32
  let c1_i32_153 : BitVec 32 := 1#32
  let arg17 : BitVec 32 := Scf.iv c0_i32_151 c1_i32_153 k0_t40
  let c16_i32_174 : BitVec 32 := 16#32
  let v391 : BitVec 32 := Scalar.muli arg17 c16_i32_174
  let c2_i32_175 : BitVec 32 := 2#32
  let v392 : BitVec 32 := Scalar.addi v391 c2_i32_175
  let v393 : Index := Scalar.indexCast v392
  let c64_176 : Index := 64#32
  ![v393.toNat, 64]
def k0_off343 (k0_t40 : Fin k0_t40_loop.trips) : Fin 2 → Nat :=
  let c0_i32_151 : BitVec 32 := 0#32
  let c1_i32_153 : BitVec 32 := 1#32
  let arg17 : BitVec 32 := Scf.iv c0_i32_151 c1_i32_153 k0_t40
  let c16_i32_178 : BitVec 32 := 16#32
  let v406 : BitVec 32 := Scalar.muli arg17 c16_i32_178
  let c2_i32_179 : BitVec 32 := 2#32
  let v407 : BitVec 32 := Scalar.addi v406 c2_i32_179
  let v408 : Index := Scalar.indexCast v407
  let c80_180 : Index := 80#32
  ![v408.toNat, 80]
def k0_off344 (k0_t40 : Fin k0_t40_loop.trips) : Fin 2 → Nat :=
  let c0_i32_151 : BitVec 32 := 0#32
  let c1_i32_153 : BitVec 32 := 1#32
  let arg17 : BitVec 32 := Scf.iv c0_i32_151 c1_i32_153 k0_t40
  let c16_i32_182 : BitVec 32 := 16#32
  let v421 : BitVec 32 := Scalar.muli arg17 c16_i32_182
  let c2_i32_183 : BitVec 32 := 2#32
  let v422 : BitVec 32 := Scalar.addi v421 c2_i32_183
  let v423 : Index := Scalar.indexCast v422
  let c96_184 : Index := 96#32
  ![v423.toNat, 96]
def k0_off345 (k0_t40 : Fin k0_t40_loop.trips) : Fin 2 → Nat :=
  let c0_i32_151 : BitVec 32 := 0#32
  let c1_i32_153 : BitVec 32 := 1#32
  let arg17 : BitVec 32 := Scf.iv c0_i32_151 c1_i32_153 k0_t40
  let c16_i32_186 : BitVec 32 := 16#32
  let v436 : BitVec 32 := Scalar.muli arg17 c16_i32_186
  let c2_i32_187 : BitVec 32 := 2#32
  let v437 : BitVec 32 := Scalar.addi v436 c2_i32_187
  let v438 : Index := Scalar.indexCast v437
  let c112_188 : Index := 112#32
  ![v438.toNat, 112]
@[reducible] def k0_t41_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off346 (i : grid0.Coords) (k0_t36 : Fin (k0_t36_loop i).trips) (v323 : BitVec 32) (k0_t41 : Fin k0_t41_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t41
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond44 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_111 : BitVec 32 := 16#32
  let v248 : BitVec 32 := Scalar.muli arg16 c16_i32_111
  let c3_i32_112 : BitVec 32 := 3#32
  let v249 : BitVec 32 := Scalar.addi v248 c3_i32_112
  let v103 : BitVec 32 := Scalar.subi v102 v89
  let v250 : BitVec 1 := Scalar.cmpi .slt v249 v103
  let v251 : BitVec 32 := Scalar.extui v250
  let c0_i32_113 : BitVec 32 := 0#32
  let v252 : BitVec 1 := Scalar.cmpi .ne v251 c0_i32_113
  v252

def k0_chk40 (i : grid0.Coords) (k0_t36 : Fin (k0_t36_loop i).trips) (v89 : BitVec 32) (v102 : BitVec 32) (k0_t37 : Fin (k0_t37_loop v89 v102).trips) (v323 : BitVec 32) : Prop :=
  (∀ k0_t41 : Fin k0_t41_loop.trips, ∀ (k0_h44 : k0_cond44 v89 v102 k0_t37 = 1#1), ∀ (r : Fin 8), ∀ a, (k0_off346 i k0_t36 v323 k0_t41 (BitVec.ofNat 32 (16 * r.val))) a + S1x1x16.size a ≤ S2x32x1024.size a)
theorem k0_off346_inb : ∀ (i : grid0.Coords) (k0_t36 : Fin (k0_t36_loop i).trips) (v89 : BitVec 32) (v102 : BitVec 32) (k0_t37 : Fin (k0_t37_loop v89 v102).trips) (v323 : BitVec 32) (k0_hw40 : k0_chk40 i k0_t36 v89 v102 k0_t37 v323) (k0_t41 : Fin k0_t41_loop.trips), ∀ (k0_h44 : k0_cond44 v89 v102 k0_t37 = 1#1), ∀ (r : Fin 8), ∀ a, (k0_off346 i k0_t36 v323 k0_t41 (BitVec.ofNat 32 (16 * r.val))) a + S1x1x16.size a ≤ S2x32x1024.size a := fun i k0_t36 v89 v102 k0_t37 v323 k0_hw40 k0_t41 k0_h44 r => k0_hw40 k0_t41 k0_h44 r

def k0_off347 (k0_t41 : Fin k0_t41_loop.trips) : Fin 2 → Nat :=
  let c0_i32_151 : BitVec 32 := 0#32
  let c1_i32_153 : BitVec 32 := 1#32
  let arg17 : BitVec 32 := Scf.iv c0_i32_151 c1_i32_153 k0_t41
  let c16_i32_156 : BitVec 32 := 16#32
  let v331 : BitVec 32 := Scalar.muli arg17 c16_i32_156
  let c3_i32_157 : BitVec 32 := 3#32
  let v332 : BitVec 32 := Scalar.addi v331 c3_i32_157
  let v333 : Index := Scalar.indexCast v332
  let c0_158 : Index := 0#32
  ![v333.toNat, 0]
def k0_off348 (k0_t41 : Fin k0_t41_loop.trips) : Fin 2 → Nat :=
  let c0_i32_151 : BitVec 32 := 0#32
  let c1_i32_153 : BitVec 32 := 1#32
  let arg17 : BitVec 32 := Scf.iv c0_i32_151 c1_i32_153 k0_t41
  let c16_i32_161 : BitVec 32 := 16#32
  let v346 : BitVec 32 := Scalar.muli arg17 c16_i32_161
  let c3_i32_162 : BitVec 32 := 3#32
  let v347 : BitVec 32 := Scalar.addi v346 c3_i32_162
  let v348 : Index := Scalar.indexCast v347
  let c16_163 : Index := 16#32
  ![v348.toNat, 16]
def k0_off349 (k0_t41 : Fin k0_t41_loop.trips) : Fin 2 → Nat :=
  let c0_i32_151 : BitVec 32 := 0#32
  let c1_i32_153 : BitVec 32 := 1#32
  let arg17 : BitVec 32 := Scf.iv c0_i32_151 c1_i32_153 k0_t41
  let c16_i32_166 : BitVec 32 := 16#32
  let v361 : BitVec 32 := Scalar.muli arg17 c16_i32_166
  let c3_i32_167 : BitVec 32 := 3#32
  let v362 : BitVec 32 := Scalar.addi v361 c3_i32_167
  let v363 : Index := Scalar.indexCast v362
  let c32_168 : Index := 32#32
  ![v363.toNat, 32]
def k0_off350 (k0_t41 : Fin k0_t41_loop.trips) : Fin 2 → Nat :=
  let c0_i32_151 : BitVec 32 := 0#32
  let c1_i32_153 : BitVec 32 := 1#32
  let arg17 : BitVec 32 := Scf.iv c0_i32_151 c1_i32_153 k0_t41
  let c16_i32_170 : BitVec 32 := 16#32
  let v376 : BitVec 32 := Scalar.muli arg17 c16_i32_170
  let c3_i32_171 : BitVec 32 := 3#32
  let v377 : BitVec 32 := Scalar.addi v376 c3_i32_171
  let v378 : Index := Scalar.indexCast v377
  let c48_172 : Index := 48#32
  ![v378.toNat, 48]
def k0_off351 (k0_t41 : Fin k0_t41_loop.trips) : Fin 2 → Nat :=
  let c0_i32_151 : BitVec 32 := 0#32
  let c1_i32_153 : BitVec 32 := 1#32
  let arg17 : BitVec 32 := Scf.iv c0_i32_151 c1_i32_153 k0_t41
  let c16_i32_174 : BitVec 32 := 16#32
  let v391 : BitVec 32 := Scalar.muli arg17 c16_i32_174
  let c3_i32_175 : BitVec 32 := 3#32
  let v392 : BitVec 32 := Scalar.addi v391 c3_i32_175
  let v393 : Index := Scalar.indexCast v392
  let c64_176 : Index := 64#32
  ![v393.toNat, 64]
def k0_off352 (k0_t41 : Fin k0_t41_loop.trips) : Fin 2 → Nat :=
  let c0_i32_151 : BitVec 32 := 0#32
  let c1_i32_153 : BitVec 32 := 1#32
  let arg17 : BitVec 32 := Scf.iv c0_i32_151 c1_i32_153 k0_t41
  let c16_i32_178 : BitVec 32 := 16#32
  let v406 : BitVec 32 := Scalar.muli arg17 c16_i32_178
  let c3_i32_179 : BitVec 32 := 3#32
  let v407 : BitVec 32 := Scalar.addi v406 c3_i32_179
  let v408 : Index := Scalar.indexCast v407
  let c80_180 : Index := 80#32
  ![v408.toNat, 80]
def k0_off353 (k0_t41 : Fin k0_t41_loop.trips) : Fin 2 → Nat :=
  let c0_i32_151 : BitVec 32 := 0#32
  let c1_i32_153 : BitVec 32 := 1#32
  let arg17 : BitVec 32 := Scf.iv c0_i32_151 c1_i32_153 k0_t41
  let c16_i32_182 : BitVec 32 := 16#32
  let v421 : BitVec 32 := Scalar.muli arg17 c16_i32_182
  let c3_i32_183 : BitVec 32 := 3#32
  let v422 : BitVec 32 := Scalar.addi v421 c3_i32_183
  let v423 : Index := Scalar.indexCast v422
  let c96_184 : Index := 96#32
  ![v423.toNat, 96]
def k0_off354 (k0_t41 : Fin k0_t41_loop.trips) : Fin 2 → Nat :=
  let c0_i32_151 : BitVec 32 := 0#32
  let c1_i32_153 : BitVec 32 := 1#32
  let arg17 : BitVec 32 := Scf.iv c0_i32_151 c1_i32_153 k0_t41
  let c16_i32_186 : BitVec 32 := 16#32
  let v436 : BitVec 32 := Scalar.muli arg17 c16_i32_186
  let c3_i32_187 : BitVec 32 := 3#32
  let v437 : BitVec 32 := Scalar.addi v436 c3_i32_187
  let v438 : Index := Scalar.indexCast v437
  let c112_188 : Index := 112#32
  ![v438.toNat, 112]
@[reducible] def k0_t42_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off355 (i : grid0.Coords) (k0_t36 : Fin (k0_t36_loop i).trips) (v323 : BitVec 32) (k0_t42 : Fin k0_t42_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t42
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond45 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_114 : BitVec 32 := 16#32
  let v253 : BitVec 32 := Scalar.muli arg16 c16_i32_114
  let c4_i32_115 : BitVec 32 := 4#32
  let v254 : BitVec 32 := Scalar.addi v253 c4_i32_115
  let v103 : BitVec 32 := Scalar.subi v102 v89
  let v255 : BitVec 1 := Scalar.cmpi .slt v254 v103
  let v256 : BitVec 32 := Scalar.extui v255
  let c0_i32_116 : BitVec 32 := 0#32
  let v257 : BitVec 1 := Scalar.cmpi .ne v256 c0_i32_116
  v257

def k0_chk41 (i : grid0.Coords) (k0_t36 : Fin (k0_t36_loop i).trips) (v89 : BitVec 32) (v102 : BitVec 32) (k0_t37 : Fin (k0_t37_loop v89 v102).trips) (v323 : BitVec 32) : Prop :=
  (∀ k0_t42 : Fin k0_t42_loop.trips, ∀ (k0_h45 : k0_cond45 v89 v102 k0_t37 = 1#1), ∀ (r : Fin 8), ∀ a, (k0_off355 i k0_t36 v323 k0_t42 (BitVec.ofNat 32 (16 * r.val))) a + S1x1x16.size a ≤ S2x32x1024.size a)
theorem k0_off355_inb : ∀ (i : grid0.Coords) (k0_t36 : Fin (k0_t36_loop i).trips) (v89 : BitVec 32) (v102 : BitVec 32) (k0_t37 : Fin (k0_t37_loop v89 v102).trips) (v323 : BitVec 32) (k0_hw41 : k0_chk41 i k0_t36 v89 v102 k0_t37 v323) (k0_t42 : Fin k0_t42_loop.trips), ∀ (k0_h45 : k0_cond45 v89 v102 k0_t37 = 1#1), ∀ (r : Fin 8), ∀ a, (k0_off355 i k0_t36 v323 k0_t42 (BitVec.ofNat 32 (16 * r.val))) a + S1x1x16.size a ≤ S2x32x1024.size a := fun i k0_t36 v89 v102 k0_t37 v323 k0_hw41 k0_t42 k0_h45 r => k0_hw41 k0_t42 k0_h45 r

def k0_off356 (k0_t42 : Fin k0_t42_loop.trips) : Fin 2 → Nat :=
  let c0_i32_151 : BitVec 32 := 0#32
  let c1_i32_153 : BitVec 32 := 1#32
  let arg17 : BitVec 32 := Scf.iv c0_i32_151 c1_i32_153 k0_t42
  let c16_i32_156 : BitVec 32 := 16#32
  let v331 : BitVec 32 := Scalar.muli arg17 c16_i32_156
  let c4_i32_157 : BitVec 32 := 4#32
  let v332 : BitVec 32 := Scalar.addi v331 c4_i32_157
  let v333 : Index := Scalar.indexCast v332
  let c0_158 : Index := 0#32
  ![v333.toNat, 0]
def k0_off357 (k0_t42 : Fin k0_t42_loop.trips) : Fin 2 → Nat :=
  let c0_i32_151 : BitVec 32 := 0#32
  let c1_i32_153 : BitVec 32 := 1#32
  let arg17 : BitVec 32 := Scf.iv c0_i32_151 c1_i32_153 k0_t42
  let c16_i32_161 : BitVec 32 := 16#32
  let v346 : BitVec 32 := Scalar.muli arg17 c16_i32_161
  let c4_i32_162 : BitVec 32 := 4#32
  let v347 : BitVec 32 := Scalar.addi v346 c4_i32_162
  let v348 : Index := Scalar.indexCast v347
  let c16_163 : Index := 16#32
  ![v348.toNat, 16]
def k0_off358 (k0_t42 : Fin k0_t42_loop.trips) : Fin 2 → Nat :=
  let c0_i32_151 : BitVec 32 := 0#32
  let c1_i32_153 : BitVec 32 := 1#32
  let arg17 : BitVec 32 := Scf.iv c0_i32_151 c1_i32_153 k0_t42
  let c16_i32_166 : BitVec 32 := 16#32
  let v361 : BitVec 32 := Scalar.muli arg17 c16_i32_166
  let c4_i32_167 : BitVec 32 := 4#32
  let v362 : BitVec 32 := Scalar.addi v361 c4_i32_167
  let v363 : Index := Scalar.indexCast v362
  let c32_168 : Index := 32#32
  ![v363.toNat, 32]
def k0_off359 (k0_t42 : Fin k0_t42_loop.trips) : Fin 2 → Nat :=
  let c0_i32_151 : BitVec 32 := 0#32
  let c1_i32_153 : BitVec 32 := 1#32
  let arg17 : BitVec 32 := Scf.iv c0_i32_151 c1_i32_153 k0_t42
  let c16_i32_170 : BitVec 32 := 16#32
  let v376 : BitVec 32 := Scalar.muli arg17 c16_i32_170
  let c4_i32_171 : BitVec 32 := 4#32
  let v377 : BitVec 32 := Scalar.addi v376 c4_i32_171
  let v378 : Index := Scalar.indexCast v377
  let c48_172 : Index := 48#32
  ![v378.toNat, 48]
def k0_off360 (k0_t42 : Fin k0_t42_loop.trips) : Fin 2 → Nat :=
  let c0_i32_151 : BitVec 32 := 0#32
  let c1_i32_153 : BitVec 32 := 1#32
  let arg17 : BitVec 32 := Scf.iv c0_i32_151 c1_i32_153 k0_t42
  let c16_i32_174 : BitVec 32 := 16#32
  let v391 : BitVec 32 := Scalar.muli arg17 c16_i32_174
  let c4_i32_175 : BitVec 32 := 4#32
  let v392 : BitVec 32 := Scalar.addi v391 c4_i32_175
  let v393 : Index := Scalar.indexCast v392
  let c64_176 : Index := 64#32
  ![v393.toNat, 64]
def k0_off361 (k0_t42 : Fin k0_t42_loop.trips) : Fin 2 → Nat :=
  let c0_i32_151 : BitVec 32 := 0#32
  let c1_i32_153 : BitVec 32 := 1#32
  let arg17 : BitVec 32 := Scf.iv c0_i32_151 c1_i32_153 k0_t42
  let c16_i32_178 : BitVec 32 := 16#32
  let v406 : BitVec 32 := Scalar.muli arg17 c16_i32_178
  let c4_i32_179 : BitVec 32 := 4#32
  let v407 : BitVec 32 := Scalar.addi v406 c4_i32_179
  let v408 : Index := Scalar.indexCast v407
  let c80_180 : Index := 80#32
  ![v408.toNat, 80]
def k0_off362 (k0_t42 : Fin k0_t42_loop.trips) : Fin 2 → Nat :=
  let c0_i32_151 : BitVec 32 := 0#32
  let c1_i32_153 : BitVec 32 := 1#32
  let arg17 : BitVec 32 := Scf.iv c0_i32_151 c1_i32_153 k0_t42
  let c16_i32_182 : BitVec 32 := 16#32
  let v421 : BitVec 32 := Scalar.muli arg17 c16_i32_182
  let c4_i32_183 : BitVec 32 := 4#32
  let v422 : BitVec 32 := Scalar.addi v421 c4_i32_183
  let v423 : Index := Scalar.indexCast v422
  let c96_184 : Index := 96#32
  ![v423.toNat, 96]
def k0_off363 (k0_t42 : Fin k0_t42_loop.trips) : Fin 2 → Nat :=
  let c0_i32_151 : BitVec 32 := 0#32
  let c1_i32_153 : BitVec 32 := 1#32
  let arg17 : BitVec 32 := Scf.iv c0_i32_151 c1_i32_153 k0_t42
  let c16_i32_186 : BitVec 32 := 16#32
  let v436 : BitVec 32 := Scalar.muli arg17 c16_i32_186
  let c4_i32_187 : BitVec 32 := 4#32
  let v437 : BitVec 32 := Scalar.addi v436 c4_i32_187
  let v438 : Index := Scalar.indexCast v437
  let c112_188 : Index := 112#32
  ![v438.toNat, 112]
@[reducible] def k0_t43_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off364 (i : grid0.Coords) (k0_t36 : Fin (k0_t36_loop i).trips) (v323 : BitVec 32) (k0_t43 : Fin k0_t43_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t43
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond46 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_117 : BitVec 32 := 16#32
  let v258 : BitVec 32 := Scalar.muli arg16 c16_i32_117
  let c5_i32_118 : BitVec 32 := 5#32
  let v259 : BitVec 32 := Scalar.addi v258 c5_i32_118
  let v103 : BitVec 32 := Scalar.subi v102 v89
  let v260 : BitVec 1 := Scalar.cmpi .slt v259 v103
  let v261 : BitVec 32 := Scalar.extui v260
  let c0_i32_119 : BitVec 32 := 0#32
  let v262 : BitVec 1 := Scalar.cmpi .ne v261 c0_i32_119
  v262

def k0_chk42 (i : grid0.Coords) (k0_t36 : Fin (k0_t36_loop i).trips) (v89 : BitVec 32) (v102 : BitVec 32) (k0_t37 : Fin (k0_t37_loop v89 v102).trips) (v323 : BitVec 32) : Prop :=
  (∀ k0_t43 : Fin k0_t43_loop.trips, ∀ (k0_h46 : k0_cond46 v89 v102 k0_t37 = 1#1), ∀ (r : Fin 8), ∀ a, (k0_off364 i k0_t36 v323 k0_t43 (BitVec.ofNat 32 (16 * r.val))) a + S1x1x16.size a ≤ S2x32x1024.size a)
theorem k0_off364_inb : ∀ (i : grid0.Coords) (k0_t36 : Fin (k0_t36_loop i).trips) (v89 : BitVec 32) (v102 : BitVec 32) (k0_t37 : Fin (k0_t37_loop v89 v102).trips) (v323 : BitVec 32) (k0_hw42 : k0_chk42 i k0_t36 v89 v102 k0_t37 v323) (k0_t43 : Fin k0_t43_loop.trips), ∀ (k0_h46 : k0_cond46 v89 v102 k0_t37 = 1#1), ∀ (r : Fin 8), ∀ a, (k0_off364 i k0_t36 v323 k0_t43 (BitVec.ofNat 32 (16 * r.val))) a + S1x1x16.size a ≤ S2x32x1024.size a := fun i k0_t36 v89 v102 k0_t37 v323 k0_hw42 k0_t43 k0_h46 r => k0_hw42 k0_t43 k0_h46 r

def k0_off365 (k0_t43 : Fin k0_t43_loop.trips) : Fin 2 → Nat :=
  let c0_i32_151 : BitVec 32 := 0#32
  let c1_i32_153 : BitVec 32 := 1#32
  let arg17 : BitVec 32 := Scf.iv c0_i32_151 c1_i32_153 k0_t43
  let c16_i32_156 : BitVec 32 := 16#32
  let v331 : BitVec 32 := Scalar.muli arg17 c16_i32_156
  let c5_i32_157 : BitVec 32 := 5#32
  let v332 : BitVec 32 := Scalar.addi v331 c5_i32_157
  let v333 : Index := Scalar.indexCast v332
  let c0_158 : Index := 0#32
  ![v333.toNat, 0]
def k0_off366 (k0_t43 : Fin k0_t43_loop.trips) : Fin 2 → Nat :=
  let c0_i32_151 : BitVec 32 := 0#32
  let c1_i32_153 : BitVec 32 := 1#32
  let arg17 : BitVec 32 := Scf.iv c0_i32_151 c1_i32_153 k0_t43
  let c16_i32_161 : BitVec 32 := 16#32
  let v346 : BitVec 32 := Scalar.muli arg17 c16_i32_161
  let c5_i32_162 : BitVec 32 := 5#32
  let v347 : BitVec 32 := Scalar.addi v346 c5_i32_162
  let v348 : Index := Scalar.indexCast v347
  let c16_163 : Index := 16#32
  ![v348.toNat, 16]
def k0_off367 (k0_t43 : Fin k0_t43_loop.trips) : Fin 2 → Nat :=
  let c0_i32_151 : BitVec 32 := 0#32
  let c1_i32_153 : BitVec 32 := 1#32
  let arg17 : BitVec 32 := Scf.iv c0_i32_151 c1_i32_153 k0_t43
  let c16_i32_166 : BitVec 32 := 16#32
  let v361 : BitVec 32 := Scalar.muli arg17 c16_i32_166
  let c5_i32_167 : BitVec 32 := 5#32
  let v362 : BitVec 32 := Scalar.addi v361 c5_i32_167
  let v363 : Index := Scalar.indexCast v362
  let c32_168 : Index := 32#32
  ![v363.toNat, 32]
def k0_off368 (k0_t43 : Fin k0_t43_loop.trips) : Fin 2 → Nat :=
  let c0_i32_151 : BitVec 32 := 0#32
  let c1_i32_153 : BitVec 32 := 1#32
  let arg17 : BitVec 32 := Scf.iv c0_i32_151 c1_i32_153 k0_t43
  let c16_i32_170 : BitVec 32 := 16#32
  let v376 : BitVec 32 := Scalar.muli arg17 c16_i32_170
  let c5_i32_171 : BitVec 32 := 5#32
  let v377 : BitVec 32 := Scalar.addi v376 c5_i32_171
  let v378 : Index := Scalar.indexCast v377
  let c48_172 : Index := 48#32
  ![v378.toNat, 48]
def k0_off369 (k0_t43 : Fin k0_t43_loop.trips) : Fin 2 → Nat :=
  let c0_i32_151 : BitVec 32 := 0#32
  let c1_i32_153 : BitVec 32 := 1#32
  let arg17 : BitVec 32 := Scf.iv c0_i32_151 c1_i32_153 k0_t43
  let c16_i32_174 : BitVec 32 := 16#32
  let v391 : BitVec 32 := Scalar.muli arg17 c16_i32_174
  let c5_i32_175 : BitVec 32 := 5#32
  let v392 : BitVec 32 := Scalar.addi v391 c5_i32_175
  let v393 : Index := Scalar.indexCast v392
  let c64_176 : Index := 64#32
  ![v393.toNat, 64]
def k0_off370 (k0_t43 : Fin k0_t43_loop.trips) : Fin 2 → Nat :=
  let c0_i32_151 : BitVec 32 := 0#32
  let c1_i32_153 : BitVec 32 := 1#32
  let arg17 : BitVec 32 := Scf.iv c0_i32_151 c1_i32_153 k0_t43
  let c16_i32_178 : BitVec 32 := 16#32
  let v406 : BitVec 32 := Scalar.muli arg17 c16_i32_178
  let c5_i32_179 : BitVec 32 := 5#32
  let v407 : BitVec 32 := Scalar.addi v406 c5_i32_179
  let v408 : Index := Scalar.indexCast v407
  let c80_180 : Index := 80#32
  ![v408.toNat, 80]
def k0_off371 (k0_t43 : Fin k0_t43_loop.trips) : Fin 2 → Nat :=
  let c0_i32_151 : BitVec 32 := 0#32
  let c1_i32_153 : BitVec 32 := 1#32
  let arg17 : BitVec 32 := Scf.iv c0_i32_151 c1_i32_153 k0_t43
  let c16_i32_182 : BitVec 32 := 16#32
  let v421 : BitVec 32 := Scalar.muli arg17 c16_i32_182
  let c5_i32_183 : BitVec 32 := 5#32
  let v422 : BitVec 32 := Scalar.addi v421 c5_i32_183
  let v423 : Index := Scalar.indexCast v422
  let c96_184 : Index := 96#32
  ![v423.toNat, 96]
def k0_off372 (k0_t43 : Fin k0_t43_loop.trips) : Fin 2 → Nat :=
  let c0_i32_151 : BitVec 32 := 0#32
  let c1_i32_153 : BitVec 32 := 1#32
  let arg17 : BitVec 32 := Scf.iv c0_i32_151 c1_i32_153 k0_t43
  let c16_i32_186 : BitVec 32 := 16#32
  let v436 : BitVec 32 := Scalar.muli arg17 c16_i32_186
  let c5_i32_187 : BitVec 32 := 5#32
  let v437 : BitVec 32 := Scalar.addi v436 c5_i32_187
  let v438 : Index := Scalar.indexCast v437
  let c112_188 : Index := 112#32
  ![v438.toNat, 112]
@[reducible] def k0_t44_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off373 (i : grid0.Coords) (k0_t36 : Fin (k0_t36_loop i).trips) (v323 : BitVec 32) (k0_t44 : Fin k0_t44_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t44
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond47 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_120 : BitVec 32 := 16#32
  let v263 : BitVec 32 := Scalar.muli arg16 c16_i32_120
  let c6_i32_121 : BitVec 32 := 6#32
  let v264 : BitVec 32 := Scalar.addi v263 c6_i32_121
  let v103 : BitVec 32 := Scalar.subi v102 v89
  let v265 : BitVec 1 := Scalar.cmpi .slt v264 v103
  let v266 : BitVec 32 := Scalar.extui v265
  let c0_i32_122 : BitVec 32 := 0#32
  let v267 : BitVec 1 := Scalar.cmpi .ne v266 c0_i32_122
  v267

def k0_chk43 (i : grid0.Coords) (k0_t36 : Fin (k0_t36_loop i).trips) (v89 : BitVec 32) (v102 : BitVec 32) (k0_t37 : Fin (k0_t37_loop v89 v102).trips) (v323 : BitVec 32) : Prop :=
  (∀ k0_t44 : Fin k0_t44_loop.trips, ∀ (k0_h47 : k0_cond47 v89 v102 k0_t37 = 1#1), ∀ (r : Fin 8), ∀ a, (k0_off373 i k0_t36 v323 k0_t44 (BitVec.ofNat 32 (16 * r.val))) a + S1x1x16.size a ≤ S2x32x1024.size a)
theorem k0_off373_inb : ∀ (i : grid0.Coords) (k0_t36 : Fin (k0_t36_loop i).trips) (v89 : BitVec 32) (v102 : BitVec 32) (k0_t37 : Fin (k0_t37_loop v89 v102).trips) (v323 : BitVec 32) (k0_hw43 : k0_chk43 i k0_t36 v89 v102 k0_t37 v323) (k0_t44 : Fin k0_t44_loop.trips), ∀ (k0_h47 : k0_cond47 v89 v102 k0_t37 = 1#1), ∀ (r : Fin 8), ∀ a, (k0_off373 i k0_t36 v323 k0_t44 (BitVec.ofNat 32 (16 * r.val))) a + S1x1x16.size a ≤ S2x32x1024.size a := fun i k0_t36 v89 v102 k0_t37 v323 k0_hw43 k0_t44 k0_h47 r => k0_hw43 k0_t44 k0_h47 r

def k0_off374 (k0_t44 : Fin k0_t44_loop.trips) : Fin 2 → Nat :=
  let c0_i32_151 : BitVec 32 := 0#32
  let c1_i32_153 : BitVec 32 := 1#32
  let arg17 : BitVec 32 := Scf.iv c0_i32_151 c1_i32_153 k0_t44
  let c16_i32_156 : BitVec 32 := 16#32
  let v331 : BitVec 32 := Scalar.muli arg17 c16_i32_156
  let c6_i32_157 : BitVec 32 := 6#32
  let v332 : BitVec 32 := Scalar.addi v331 c6_i32_157
  let v333 : Index := Scalar.indexCast v332
  let c0_158 : Index := 0#32
  ![v333.toNat, 0]
def k0_off375 (k0_t44 : Fin k0_t44_loop.trips) : Fin 2 → Nat :=
  let c0_i32_151 : BitVec 32 := 0#32
  let c1_i32_153 : BitVec 32 := 1#32
  let arg17 : BitVec 32 := Scf.iv c0_i32_151 c1_i32_153 k0_t44
  let c16_i32_161 : BitVec 32 := 16#32
  let v346 : BitVec 32 := Scalar.muli arg17 c16_i32_161
  let c6_i32_162 : BitVec 32 := 6#32
  let v347 : BitVec 32 := Scalar.addi v346 c6_i32_162
  let v348 : Index := Scalar.indexCast v347
  let c16_163 : Index := 16#32
  ![v348.toNat, 16]
def k0_off376 (k0_t44 : Fin k0_t44_loop.trips) : Fin 2 → Nat :=
  let c0_i32_151 : BitVec 32 := 0#32
  let c1_i32_153 : BitVec 32 := 1#32
  let arg17 : BitVec 32 := Scf.iv c0_i32_151 c1_i32_153 k0_t44
  let c16_i32_166 : BitVec 32 := 16#32
  let v361 : BitVec 32 := Scalar.muli arg17 c16_i32_166
  let c6_i32_167 : BitVec 32 := 6#32
  let v362 : BitVec 32 := Scalar.addi v361 c6_i32_167
  let v363 : Index := Scalar.indexCast v362
  let c32_168 : Index := 32#32
  ![v363.toNat, 32]
def k0_off377 (k0_t44 : Fin k0_t44_loop.trips) : Fin 2 → Nat :=
  let c0_i32_151 : BitVec 32 := 0#32
  let c1_i32_153 : BitVec 32 := 1#32
  let arg17 : BitVec 32 := Scf.iv c0_i32_151 c1_i32_153 k0_t44
  let c16_i32_170 : BitVec 32 := 16#32
  let v376 : BitVec 32 := Scalar.muli arg17 c16_i32_170
  let c6_i32_171 : BitVec 32 := 6#32
  let v377 : BitVec 32 := Scalar.addi v376 c6_i32_171
  let v378 : Index := Scalar.indexCast v377
  let c48_172 : Index := 48#32
  ![v378.toNat, 48]
def k0_off378 (k0_t44 : Fin k0_t44_loop.trips) : Fin 2 → Nat :=
  let c0_i32_151 : BitVec 32 := 0#32
  let c1_i32_153 : BitVec 32 := 1#32
  let arg17 : BitVec 32 := Scf.iv c0_i32_151 c1_i32_153 k0_t44
  let c16_i32_174 : BitVec 32 := 16#32
  let v391 : BitVec 32 := Scalar.muli arg17 c16_i32_174
  let c6_i32_175 : BitVec 32 := 6#32
  let v392 : BitVec 32 := Scalar.addi v391 c6_i32_175
  let v393 : Index := Scalar.indexCast v392
  let c64_176 : Index := 64#32
  ![v393.toNat, 64]
def k0_off379 (k0_t44 : Fin k0_t44_loop.trips) : Fin 2 → Nat :=
  let c0_i32_151 : BitVec 32 := 0#32
  let c1_i32_153 : BitVec 32 := 1#32
  let arg17 : BitVec 32 := Scf.iv c0_i32_151 c1_i32_153 k0_t44
  let c16_i32_178 : BitVec 32 := 16#32
  let v406 : BitVec 32 := Scalar.muli arg17 c16_i32_178
  let c6_i32_179 : BitVec 32 := 6#32
  let v407 : BitVec 32 := Scalar.addi v406 c6_i32_179
  let v408 : Index := Scalar.indexCast v407
  let c80_180 : Index := 80#32
  ![v408.toNat, 80]
def k0_off380 (k0_t44 : Fin k0_t44_loop.trips) : Fin 2 → Nat :=
  let c0_i32_151 : BitVec 32 := 0#32
  let c1_i32_153 : BitVec 32 := 1#32
  let arg17 : BitVec 32 := Scf.iv c0_i32_151 c1_i32_153 k0_t44
  let c16_i32_182 : BitVec 32 := 16#32
  let v421 : BitVec 32 := Scalar.muli arg17 c16_i32_182
  let c6_i32_183 : BitVec 32 := 6#32
  let v422 : BitVec 32 := Scalar.addi v421 c6_i32_183
  let v423 : Index := Scalar.indexCast v422
  let c96_184 : Index := 96#32
  ![v423.toNat, 96]
def k0_off381 (k0_t44 : Fin k0_t44_loop.trips) : Fin 2 → Nat :=
  let c0_i32_151 : BitVec 32 := 0#32
  let c1_i32_153 : BitVec 32 := 1#32
  let arg17 : BitVec 32 := Scf.iv c0_i32_151 c1_i32_153 k0_t44
  let c16_i32_186 : BitVec 32 := 16#32
  let v436 : BitVec 32 := Scalar.muli arg17 c16_i32_186
  let c6_i32_187 : BitVec 32 := 6#32
  let v437 : BitVec 32 := Scalar.addi v436 c6_i32_187
  let v438 : Index := Scalar.indexCast v437
  let c112_188 : Index := 112#32
  ![v438.toNat, 112]
@[reducible] def k0_t45_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off382 (i : grid0.Coords) (k0_t36 : Fin (k0_t36_loop i).trips) (v323 : BitVec 32) (k0_t45 : Fin k0_t45_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t45
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond48 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_123 : BitVec 32 := 16#32
  let v268 : BitVec 32 := Scalar.muli arg16 c16_i32_123
  let c7_i32_124 : BitVec 32 := 7#32
  let v269 : BitVec 32 := Scalar.addi v268 c7_i32_124
  let v103 : BitVec 32 := Scalar.subi v102 v89
  let v270 : BitVec 1 := Scalar.cmpi .slt v269 v103
  let v271 : BitVec 32 := Scalar.extui v270
  let c0_i32_125 : BitVec 32 := 0#32
  let v272 : BitVec 1 := Scalar.cmpi .ne v271 c0_i32_125
  v272

def k0_chk44 (i : grid0.Coords) (k0_t36 : Fin (k0_t36_loop i).trips) (v89 : BitVec 32) (v102 : BitVec 32) (k0_t37 : Fin (k0_t37_loop v89 v102).trips) (v323 : BitVec 32) : Prop :=
  (∀ k0_t45 : Fin k0_t45_loop.trips, ∀ (k0_h48 : k0_cond48 v89 v102 k0_t37 = 1#1), ∀ (r : Fin 8), ∀ a, (k0_off382 i k0_t36 v323 k0_t45 (BitVec.ofNat 32 (16 * r.val))) a + S1x1x16.size a ≤ S2x32x1024.size a)
theorem k0_off382_inb : ∀ (i : grid0.Coords) (k0_t36 : Fin (k0_t36_loop i).trips) (v89 : BitVec 32) (v102 : BitVec 32) (k0_t37 : Fin (k0_t37_loop v89 v102).trips) (v323 : BitVec 32) (k0_hw44 : k0_chk44 i k0_t36 v89 v102 k0_t37 v323) (k0_t45 : Fin k0_t45_loop.trips), ∀ (k0_h48 : k0_cond48 v89 v102 k0_t37 = 1#1), ∀ (r : Fin 8), ∀ a, (k0_off382 i k0_t36 v323 k0_t45 (BitVec.ofNat 32 (16 * r.val))) a + S1x1x16.size a ≤ S2x32x1024.size a := fun i k0_t36 v89 v102 k0_t37 v323 k0_hw44 k0_t45 k0_h48 r => k0_hw44 k0_t45 k0_h48 r

def k0_off383 (k0_t45 : Fin k0_t45_loop.trips) : Fin 2 → Nat :=
  let c0_i32_151 : BitVec 32 := 0#32
  let c1_i32_153 : BitVec 32 := 1#32
  let arg17 : BitVec 32 := Scf.iv c0_i32_151 c1_i32_153 k0_t45
  let c16_i32_156 : BitVec 32 := 16#32
  let v331 : BitVec 32 := Scalar.muli arg17 c16_i32_156
  let c7_i32_157 : BitVec 32 := 7#32
  let v332 : BitVec 32 := Scalar.addi v331 c7_i32_157
  let v333 : Index := Scalar.indexCast v332
  let c0_158 : Index := 0#32
  ![v333.toNat, 0]
def k0_off384 (k0_t45 : Fin k0_t45_loop.trips) : Fin 2 → Nat :=
  let c0_i32_151 : BitVec 32 := 0#32
  let c1_i32_153 : BitVec 32 := 1#32
  let arg17 : BitVec 32 := Scf.iv c0_i32_151 c1_i32_153 k0_t45
  let c16_i32_161 : BitVec 32 := 16#32
  let v346 : BitVec 32 := Scalar.muli arg17 c16_i32_161
  let c7_i32_162 : BitVec 32 := 7#32
  let v347 : BitVec 32 := Scalar.addi v346 c7_i32_162
  let v348 : Index := Scalar.indexCast v347
  let c16_163 : Index := 16#32
  ![v348.toNat, 16]
def k0_off385 (k0_t45 : Fin k0_t45_loop.trips) : Fin 2 → Nat :=
  let c0_i32_151 : BitVec 32 := 0#32
  let c1_i32_153 : BitVec 32 := 1#32
  let arg17 : BitVec 32 := Scf.iv c0_i32_151 c1_i32_153 k0_t45
  let c16_i32_166 : BitVec 32 := 16#32
  let v361 : BitVec 32 := Scalar.muli arg17 c16_i32_166
  let c7_i32_167 : BitVec 32 := 7#32
  let v362 : BitVec 32 := Scalar.addi v361 c7_i32_167
  let v363 : Index := Scalar.indexCast v362
  let c32_168 : Index := 32#32
  ![v363.toNat, 32]
def k0_off386 (k0_t45 : Fin k0_t45_loop.trips) : Fin 2 → Nat :=
  let c0_i32_151 : BitVec 32 := 0#32
  let c1_i32_153 : BitVec 32 := 1#32
  let arg17 : BitVec 32 := Scf.iv c0_i32_151 c1_i32_153 k0_t45
  let c16_i32_170 : BitVec 32 := 16#32
  let v376 : BitVec 32 := Scalar.muli arg17 c16_i32_170
  let c7_i32_171 : BitVec 32 := 7#32
  let v377 : BitVec 32 := Scalar.addi v376 c7_i32_171
  let v378 : Index := Scalar.indexCast v377
  let c48_172 : Index := 48#32
  ![v378.toNat, 48]
def k0_off387 (k0_t45 : Fin k0_t45_loop.trips) : Fin 2 → Nat :=
  let c0_i32_151 : BitVec 32 := 0#32
  let c1_i32_153 : BitVec 32 := 1#32
  let arg17 : BitVec 32 := Scf.iv c0_i32_151 c1_i32_153 k0_t45
  let c16_i32_174 : BitVec 32 := 16#32
  let v391 : BitVec 32 := Scalar.muli arg17 c16_i32_174
  let c7_i32_175 : BitVec 32 := 7#32
  let v392 : BitVec 32 := Scalar.addi v391 c7_i32_175
  let v393 : Index := Scalar.indexCast v392
  let c64_176 : Index := 64#32
  ![v393.toNat, 64]
def k0_off388 (k0_t45 : Fin k0_t45_loop.trips) : Fin 2 → Nat :=
  let c0_i32_151 : BitVec 32 := 0#32
  let c1_i32_153 : BitVec 32 := 1#32
  let arg17 : BitVec 32 := Scf.iv c0_i32_151 c1_i32_153 k0_t45
  let c16_i32_178 : BitVec 32 := 16#32
  let v406 : BitVec 32 := Scalar.muli arg17 c16_i32_178
  let c7_i32_179 : BitVec 32 := 7#32
  let v407 : BitVec 32 := Scalar.addi v406 c7_i32_179
  let v408 : Index := Scalar.indexCast v407
  let c80_180 : Index := 80#32
  ![v408.toNat, 80]
def k0_off389 (k0_t45 : Fin k0_t45_loop.trips) : Fin 2 → Nat :=
  let c0_i32_151 : BitVec 32 := 0#32
  let c1_i32_153 : BitVec 32 := 1#32
  let arg17 : BitVec 32 := Scf.iv c0_i32_151 c1_i32_153 k0_t45
  let c16_i32_182 : BitVec 32 := 16#32
  let v421 : BitVec 32 := Scalar.muli arg17 c16_i32_182
  let c7_i32_183 : BitVec 32 := 7#32
  let v422 : BitVec 32 := Scalar.addi v421 c7_i32_183
  let v423 : Index := Scalar.indexCast v422
  let c96_184 : Index := 96#32
  ![v423.toNat, 96]
def k0_off390 (k0_t45 : Fin k0_t45_loop.trips) : Fin 2 → Nat :=
  let c0_i32_151 : BitVec 32 := 0#32
  let c1_i32_153 : BitVec 32 := 1#32
  let arg17 : BitVec 32 := Scf.iv c0_i32_151 c1_i32_153 k0_t45
  let c16_i32_186 : BitVec 32 := 16#32
  let v436 : BitVec 32 := Scalar.muli arg17 c16_i32_186
  let c7_i32_187 : BitVec 32 := 7#32
  let v437 : BitVec 32 := Scalar.addi v436 c7_i32_187
  let v438 : Index := Scalar.indexCast v437
  let c112_188 : Index := 112#32
  ![v438.toNat, 112]
@[reducible] def k0_t46_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off391 (i : grid0.Coords) (k0_t36 : Fin (k0_t36_loop i).trips) (v323 : BitVec 32) (k0_t46 : Fin k0_t46_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t46
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond49 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_126 : BitVec 32 := 16#32
  let v273 : BitVec 32 := Scalar.muli arg16 c16_i32_126
  let c8_i32_127 : BitVec 32 := 8#32
  let v274 : BitVec 32 := Scalar.addi v273 c8_i32_127
  let v103 : BitVec 32 := Scalar.subi v102 v89
  let v275 : BitVec 1 := Scalar.cmpi .slt v274 v103
  let v276 : BitVec 32 := Scalar.extui v275
  let c0_i32_128 : BitVec 32 := 0#32
  let v277 : BitVec 1 := Scalar.cmpi .ne v276 c0_i32_128
  v277

def k0_chk45 (i : grid0.Coords) (k0_t36 : Fin (k0_t36_loop i).trips) (v89 : BitVec 32) (v102 : BitVec 32) (k0_t37 : Fin (k0_t37_loop v89 v102).trips) (v323 : BitVec 32) : Prop :=
  (∀ k0_t46 : Fin k0_t46_loop.trips, ∀ (k0_h49 : k0_cond49 v89 v102 k0_t37 = 1#1), ∀ (r : Fin 8), ∀ a, (k0_off391 i k0_t36 v323 k0_t46 (BitVec.ofNat 32 (16 * r.val))) a + S1x1x16.size a ≤ S2x32x1024.size a)
theorem k0_off391_inb : ∀ (i : grid0.Coords) (k0_t36 : Fin (k0_t36_loop i).trips) (v89 : BitVec 32) (v102 : BitVec 32) (k0_t37 : Fin (k0_t37_loop v89 v102).trips) (v323 : BitVec 32) (k0_hw45 : k0_chk45 i k0_t36 v89 v102 k0_t37 v323) (k0_t46 : Fin k0_t46_loop.trips), ∀ (k0_h49 : k0_cond49 v89 v102 k0_t37 = 1#1), ∀ (r : Fin 8), ∀ a, (k0_off391 i k0_t36 v323 k0_t46 (BitVec.ofNat 32 (16 * r.val))) a + S1x1x16.size a ≤ S2x32x1024.size a := fun i k0_t36 v89 v102 k0_t37 v323 k0_hw45 k0_t46 k0_h49 r => k0_hw45 k0_t46 k0_h49 r

def k0_off392 (k0_t46 : Fin k0_t46_loop.trips) : Fin 2 → Nat :=
  let c0_i32_151 : BitVec 32 := 0#32
  let c1_i32_153 : BitVec 32 := 1#32
  let arg17 : BitVec 32 := Scf.iv c0_i32_151 c1_i32_153 k0_t46
  let c16_i32_156 : BitVec 32 := 16#32
  let v331 : BitVec 32 := Scalar.muli arg17 c16_i32_156
  let c8_i32_157 : BitVec 32 := 8#32
  let v332 : BitVec 32 := Scalar.addi v331 c8_i32_157
  let v333 : Index := Scalar.indexCast v332
  let c0_158 : Index := 0#32
  ![v333.toNat, 0]
def k0_off393 (k0_t46 : Fin k0_t46_loop.trips) : Fin 2 → Nat :=
  let c0_i32_151 : BitVec 32 := 0#32
  let c1_i32_153 : BitVec 32 := 1#32
  let arg17 : BitVec 32 := Scf.iv c0_i32_151 c1_i32_153 k0_t46
  let c16_i32_161 : BitVec 32 := 16#32
  let v346 : BitVec 32 := Scalar.muli arg17 c16_i32_161
  let c8_i32_162 : BitVec 32 := 8#32
  let v347 : BitVec 32 := Scalar.addi v346 c8_i32_162
  let v348 : Index := Scalar.indexCast v347
  let c16_163 : Index := 16#32
  ![v348.toNat, 16]
def k0_off394 (k0_t46 : Fin k0_t46_loop.trips) : Fin 2 → Nat :=
  let c0_i32_151 : BitVec 32 := 0#32
  let c1_i32_153 : BitVec 32 := 1#32
  let arg17 : BitVec 32 := Scf.iv c0_i32_151 c1_i32_153 k0_t46
  let c16_i32_166 : BitVec 32 := 16#32
  let v361 : BitVec 32 := Scalar.muli arg17 c16_i32_166
  let c8_i32_167 : BitVec 32 := 8#32
  let v362 : BitVec 32 := Scalar.addi v361 c8_i32_167
  let v363 : Index := Scalar.indexCast v362
  let c32_168 : Index := 32#32
  ![v363.toNat, 32]
def k0_off395 (k0_t46 : Fin k0_t46_loop.trips) : Fin 2 → Nat :=
  let c0_i32_151 : BitVec 32 := 0#32
  let c1_i32_153 : BitVec 32 := 1#32
  let arg17 : BitVec 32 := Scf.iv c0_i32_151 c1_i32_153 k0_t46
  let c16_i32_170 : BitVec 32 := 16#32
  let v376 : BitVec 32 := Scalar.muli arg17 c16_i32_170
  let c8_i32_171 : BitVec 32 := 8#32
  let v377 : BitVec 32 := Scalar.addi v376 c8_i32_171
  let v378 : Index := Scalar.indexCast v377
  let c48_172 : Index := 48#32
  ![v378.toNat, 48]
def k0_off396 (k0_t46 : Fin k0_t46_loop.trips) : Fin 2 → Nat :=
  let c0_i32_151 : BitVec 32 := 0#32
  let c1_i32_153 : BitVec 32 := 1#32
  let arg17 : BitVec 32 := Scf.iv c0_i32_151 c1_i32_153 k0_t46
  let c16_i32_174 : BitVec 32 := 16#32
  let v391 : BitVec 32 := Scalar.muli arg17 c16_i32_174
  let c8_i32_175 : BitVec 32 := 8#32
  let v392 : BitVec 32 := Scalar.addi v391 c8_i32_175
  let v393 : Index := Scalar.indexCast v392
  let c64_176 : Index := 64#32
  ![v393.toNat, 64]
def k0_off397 (k0_t46 : Fin k0_t46_loop.trips) : Fin 2 → Nat :=
  let c0_i32_151 : BitVec 32 := 0#32
  let c1_i32_153 : BitVec 32 := 1#32
  let arg17 : BitVec 32 := Scf.iv c0_i32_151 c1_i32_153 k0_t46
  let c16_i32_178 : BitVec 32 := 16#32
  let v406 : BitVec 32 := Scalar.muli arg17 c16_i32_178
  let c8_i32_179 : BitVec 32 := 8#32
  let v407 : BitVec 32 := Scalar.addi v406 c8_i32_179
  let v408 : Index := Scalar.indexCast v407
  let c80_180 : Index := 80#32
  ![v408.toNat, 80]
def k0_off398 (k0_t46 : Fin k0_t46_loop.trips) : Fin 2 → Nat :=
  let c0_i32_151 : BitVec 32 := 0#32
  let c1_i32_153 : BitVec 32 := 1#32
  let arg17 : BitVec 32 := Scf.iv c0_i32_151 c1_i32_153 k0_t46
  let c16_i32_182 : BitVec 32 := 16#32
  let v421 : BitVec 32 := Scalar.muli arg17 c16_i32_182
  let c8_i32_183 : BitVec 32 := 8#32
  let v422 : BitVec 32 := Scalar.addi v421 c8_i32_183
  let v423 : Index := Scalar.indexCast v422
  let c96_184 : Index := 96#32
  ![v423.toNat, 96]
def k0_off399 (k0_t46 : Fin k0_t46_loop.trips) : Fin 2 → Nat :=
  let c0_i32_151 : BitVec 32 := 0#32
  let c1_i32_153 : BitVec 32 := 1#32
  let arg17 : BitVec 32 := Scf.iv c0_i32_151 c1_i32_153 k0_t46
  let c16_i32_186 : BitVec 32 := 16#32
  let v436 : BitVec 32 := Scalar.muli arg17 c16_i32_186
  let c8_i32_187 : BitVec 32 := 8#32
  let v437 : BitVec 32 := Scalar.addi v436 c8_i32_187
  let v438 : Index := Scalar.indexCast v437
  let c112_188 : Index := 112#32
  ![v438.toNat, 112]
@[reducible] def k0_t47_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off400 (i : grid0.Coords) (k0_t36 : Fin (k0_t36_loop i).trips) (v323 : BitVec 32) (k0_t47 : Fin k0_t47_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t47
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond50 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_129 : BitVec 32 := 16#32
  let v278 : BitVec 32 := Scalar.muli arg16 c16_i32_129
  let c9_i32 : BitVec 32 := 9#32
  let v279 : BitVec 32 := Scalar.addi v278 c9_i32
  let v103 : BitVec 32 := Scalar.subi v102 v89
  let v280 : BitVec 1 := Scalar.cmpi .slt v279 v103
  let v281 : BitVec 32 := Scalar.extui v280
  let c0_i32_130 : BitVec 32 := 0#32
  let v282 : BitVec 1 := Scalar.cmpi .ne v281 c0_i32_130
  v282

def k0_chk46 (i : grid0.Coords) (k0_t36 : Fin (k0_t36_loop i).trips) (v89 : BitVec 32) (v102 : BitVec 32) (k0_t37 : Fin (k0_t37_loop v89 v102).trips) (v323 : BitVec 32) : Prop :=
  (∀ k0_t47 : Fin k0_t47_loop.trips, ∀ (k0_h50 : k0_cond50 v89 v102 k0_t37 = 1#1), ∀ (r : Fin 8), ∀ a, (k0_off400 i k0_t36 v323 k0_t47 (BitVec.ofNat 32 (16 * r.val))) a + S1x1x16.size a ≤ S2x32x1024.size a)
theorem k0_off400_inb : ∀ (i : grid0.Coords) (k0_t36 : Fin (k0_t36_loop i).trips) (v89 : BitVec 32) (v102 : BitVec 32) (k0_t37 : Fin (k0_t37_loop v89 v102).trips) (v323 : BitVec 32) (k0_hw46 : k0_chk46 i k0_t36 v89 v102 k0_t37 v323) (k0_t47 : Fin k0_t47_loop.trips), ∀ (k0_h50 : k0_cond50 v89 v102 k0_t37 = 1#1), ∀ (r : Fin 8), ∀ a, (k0_off400 i k0_t36 v323 k0_t47 (BitVec.ofNat 32 (16 * r.val))) a + S1x1x16.size a ≤ S2x32x1024.size a := fun i k0_t36 v89 v102 k0_t37 v323 k0_hw46 k0_t47 k0_h50 r => k0_hw46 k0_t47 k0_h50 r

def k0_off401 (k0_t47 : Fin k0_t47_loop.trips) : Fin 2 → Nat :=
  let c0_i32_151 : BitVec 32 := 0#32
  let c1_i32_153 : BitVec 32 := 1#32
  let arg17 : BitVec 32 := Scf.iv c0_i32_151 c1_i32_153 k0_t47
  let c16_i32_156 : BitVec 32 := 16#32
  let v331 : BitVec 32 := Scalar.muli arg17 c16_i32_156
  let c9_i32_157 : BitVec 32 := 9#32
  let v332 : BitVec 32 := Scalar.addi v331 c9_i32_157
  let v333 : Index := Scalar.indexCast v332
  let c0_158 : Index := 0#32
  ![v333.toNat, 0]
def k0_off402 (k0_t47 : Fin k0_t47_loop.trips) : Fin 2 → Nat :=
  let c0_i32_151 : BitVec 32 := 0#32
  let c1_i32_153 : BitVec 32 := 1#32
  let arg17 : BitVec 32 := Scf.iv c0_i32_151 c1_i32_153 k0_t47
  let c16_i32_161 : BitVec 32 := 16#32
  let v346 : BitVec 32 := Scalar.muli arg17 c16_i32_161
  let c9_i32_162 : BitVec 32 := 9#32
  let v347 : BitVec 32 := Scalar.addi v346 c9_i32_162
  let v348 : Index := Scalar.indexCast v347
  let c16_163 : Index := 16#32
  ![v348.toNat, 16]
def k0_off403 (k0_t47 : Fin k0_t47_loop.trips) : Fin 2 → Nat :=
  let c0_i32_151 : BitVec 32 := 0#32
  let c1_i32_153 : BitVec 32 := 1#32
  let arg17 : BitVec 32 := Scf.iv c0_i32_151 c1_i32_153 k0_t47
  let c16_i32_166 : BitVec 32 := 16#32
  let v361 : BitVec 32 := Scalar.muli arg17 c16_i32_166
  let c9_i32_167 : BitVec 32 := 9#32
  let v362 : BitVec 32 := Scalar.addi v361 c9_i32_167
  let v363 : Index := Scalar.indexCast v362
  let c32_168 : Index := 32#32
  ![v363.toNat, 32]
def k0_off404 (k0_t47 : Fin k0_t47_loop.trips) : Fin 2 → Nat :=
  let c0_i32_151 : BitVec 32 := 0#32
  let c1_i32_153 : BitVec 32 := 1#32
  let arg17 : BitVec 32 := Scf.iv c0_i32_151 c1_i32_153 k0_t47
  let c16_i32_170 : BitVec 32 := 16#32
  let v376 : BitVec 32 := Scalar.muli arg17 c16_i32_170
  let c9_i32_171 : BitVec 32 := 9#32
  let v377 : BitVec 32 := Scalar.addi v376 c9_i32_171
  let v378 : Index := Scalar.indexCast v377
  let c48_172 : Index := 48#32
  ![v378.toNat, 48]
def k0_off405 (k0_t47 : Fin k0_t47_loop.trips) : Fin 2 → Nat :=
  let c0_i32_151 : BitVec 32 := 0#32
  let c1_i32_153 : BitVec 32 := 1#32
  let arg17 : BitVec 32 := Scf.iv c0_i32_151 c1_i32_153 k0_t47
  let c16_i32_174 : BitVec 32 := 16#32
  let v391 : BitVec 32 := Scalar.muli arg17 c16_i32_174
  let c9_i32_175 : BitVec 32 := 9#32
  let v392 : BitVec 32 := Scalar.addi v391 c9_i32_175
  let v393 : Index := Scalar.indexCast v392
  let c64_176 : Index := 64#32
  ![v393.toNat, 64]
def k0_off406 (k0_t47 : Fin k0_t47_loop.trips) : Fin 2 → Nat :=
  let c0_i32_151 : BitVec 32 := 0#32
  let c1_i32_153 : BitVec 32 := 1#32
  let arg17 : BitVec 32 := Scf.iv c0_i32_151 c1_i32_153 k0_t47
  let c16_i32_178 : BitVec 32 := 16#32
  let v406 : BitVec 32 := Scalar.muli arg17 c16_i32_178
  let c9_i32_179 : BitVec 32 := 9#32
  let v407 : BitVec 32 := Scalar.addi v406 c9_i32_179
  let v408 : Index := Scalar.indexCast v407
  let c80_180 : Index := 80#32
  ![v408.toNat, 80]
def k0_off407 (k0_t47 : Fin k0_t47_loop.trips) : Fin 2 → Nat :=
  let c0_i32_151 : BitVec 32 := 0#32
  let c1_i32_153 : BitVec 32 := 1#32
  let arg17 : BitVec 32 := Scf.iv c0_i32_151 c1_i32_153 k0_t47
  let c16_i32_182 : BitVec 32 := 16#32
  let v421 : BitVec 32 := Scalar.muli arg17 c16_i32_182
  let c9_i32_183 : BitVec 32 := 9#32
  let v422 : BitVec 32 := Scalar.addi v421 c9_i32_183
  let v423 : Index := Scalar.indexCast v422
  let c96_184 : Index := 96#32
  ![v423.toNat, 96]
def k0_off408 (k0_t47 : Fin k0_t47_loop.trips) : Fin 2 → Nat :=
  let c0_i32_151 : BitVec 32 := 0#32
  let c1_i32_153 : BitVec 32 := 1#32
  let arg17 : BitVec 32 := Scf.iv c0_i32_151 c1_i32_153 k0_t47
  let c16_i32_186 : BitVec 32 := 16#32
  let v436 : BitVec 32 := Scalar.muli arg17 c16_i32_186
  let c9_i32_187 : BitVec 32 := 9#32
  let v437 : BitVec 32 := Scalar.addi v436 c9_i32_187
  let v438 : Index := Scalar.indexCast v437
  let c112_188 : Index := 112#32
  ![v438.toNat, 112]
@[reducible] def k0_t48_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off409 (i : grid0.Coords) (k0_t36 : Fin (k0_t36_loop i).trips) (v323 : BitVec 32) (k0_t48 : Fin k0_t48_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t48
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond51 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_131 : BitVec 32 := 16#32
  let v283 : BitVec 32 := Scalar.muli arg16 c16_i32_131
  let c10_i32 : BitVec 32 := 10#32
  let v284 : BitVec 32 := Scalar.addi v283 c10_i32
  let v103 : BitVec 32 := Scalar.subi v102 v89
  let v285 : BitVec 1 := Scalar.cmpi .slt v284 v103
  let v286 : BitVec 32 := Scalar.extui v285
  let c0_i32_132 : BitVec 32 := 0#32
  let v287 : BitVec 1 := Scalar.cmpi .ne v286 c0_i32_132
  v287

def k0_chk47 (i : grid0.Coords) (k0_t36 : Fin (k0_t36_loop i).trips) (v89 : BitVec 32) (v102 : BitVec 32) (k0_t37 : Fin (k0_t37_loop v89 v102).trips) (v323 : BitVec 32) : Prop :=
  (∀ k0_t48 : Fin k0_t48_loop.trips, ∀ (k0_h51 : k0_cond51 v89 v102 k0_t37 = 1#1), ∀ (r : Fin 8), ∀ a, (k0_off409 i k0_t36 v323 k0_t48 (BitVec.ofNat 32 (16 * r.val))) a + S1x1x16.size a ≤ S2x32x1024.size a)
theorem k0_off409_inb : ∀ (i : grid0.Coords) (k0_t36 : Fin (k0_t36_loop i).trips) (v89 : BitVec 32) (v102 : BitVec 32) (k0_t37 : Fin (k0_t37_loop v89 v102).trips) (v323 : BitVec 32) (k0_hw47 : k0_chk47 i k0_t36 v89 v102 k0_t37 v323) (k0_t48 : Fin k0_t48_loop.trips), ∀ (k0_h51 : k0_cond51 v89 v102 k0_t37 = 1#1), ∀ (r : Fin 8), ∀ a, (k0_off409 i k0_t36 v323 k0_t48 (BitVec.ofNat 32 (16 * r.val))) a + S1x1x16.size a ≤ S2x32x1024.size a := fun i k0_t36 v89 v102 k0_t37 v323 k0_hw47 k0_t48 k0_h51 r => k0_hw47 k0_t48 k0_h51 r

def k0_off410 (k0_t48 : Fin k0_t48_loop.trips) : Fin 2 → Nat :=
  let c0_i32_151 : BitVec 32 := 0#32
  let c1_i32_153 : BitVec 32 := 1#32
  let arg17 : BitVec 32 := Scf.iv c0_i32_151 c1_i32_153 k0_t48
  let c16_i32_156 : BitVec 32 := 16#32
  let v331 : BitVec 32 := Scalar.muli arg17 c16_i32_156
  let c10_i32_157 : BitVec 32 := 10#32
  let v332 : BitVec 32 := Scalar.addi v331 c10_i32_157
  let v333 : Index := Scalar.indexCast v332
  let c0_158 : Index := 0#32
  ![v333.toNat, 0]
def k0_off411 (k0_t48 : Fin k0_t48_loop.trips) : Fin 2 → Nat :=
  let c0_i32_151 : BitVec 32 := 0#32
  let c1_i32_153 : BitVec 32 := 1#32
  let arg17 : BitVec 32 := Scf.iv c0_i32_151 c1_i32_153 k0_t48
  let c16_i32_161 : BitVec 32 := 16#32
  let v346 : BitVec 32 := Scalar.muli arg17 c16_i32_161
  let c10_i32_162 : BitVec 32 := 10#32
  let v347 : BitVec 32 := Scalar.addi v346 c10_i32_162
  let v348 : Index := Scalar.indexCast v347
  let c16_163 : Index := 16#32
  ![v348.toNat, 16]
def k0_off412 (k0_t48 : Fin k0_t48_loop.trips) : Fin 2 → Nat :=
  let c0_i32_151 : BitVec 32 := 0#32
  let c1_i32_153 : BitVec 32 := 1#32
  let arg17 : BitVec 32 := Scf.iv c0_i32_151 c1_i32_153 k0_t48
  let c16_i32_166 : BitVec 32 := 16#32
  let v361 : BitVec 32 := Scalar.muli arg17 c16_i32_166
  let c10_i32_167 : BitVec 32 := 10#32
  let v362 : BitVec 32 := Scalar.addi v361 c10_i32_167
  let v363 : Index := Scalar.indexCast v362
  let c32_168 : Index := 32#32
  ![v363.toNat, 32]
def k0_off413 (k0_t48 : Fin k0_t48_loop.trips) : Fin 2 → Nat :=
  let c0_i32_151 : BitVec 32 := 0#32
  let c1_i32_153 : BitVec 32 := 1#32
  let arg17 : BitVec 32 := Scf.iv c0_i32_151 c1_i32_153 k0_t48
  let c16_i32_170 : BitVec 32 := 16#32
  let v376 : BitVec 32 := Scalar.muli arg17 c16_i32_170
  let c10_i32_171 : BitVec 32 := 10#32
  let v377 : BitVec 32 := Scalar.addi v376 c10_i32_171
  let v378 : Index := Scalar.indexCast v377
  let c48_172 : Index := 48#32
  ![v378.toNat, 48]
def k0_off414 (k0_t48 : Fin k0_t48_loop.trips) : Fin 2 → Nat :=
  let c0_i32_151 : BitVec 32 := 0#32
  let c1_i32_153 : BitVec 32 := 1#32
  let arg17 : BitVec 32 := Scf.iv c0_i32_151 c1_i32_153 k0_t48
  let c16_i32_174 : BitVec 32 := 16#32
  let v391 : BitVec 32 := Scalar.muli arg17 c16_i32_174
  let c10_i32_175 : BitVec 32 := 10#32
  let v392 : BitVec 32 := Scalar.addi v391 c10_i32_175
  let v393 : Index := Scalar.indexCast v392
  let c64_176 : Index := 64#32
  ![v393.toNat, 64]
def k0_off415 (k0_t48 : Fin k0_t48_loop.trips) : Fin 2 → Nat :=
  let c0_i32_151 : BitVec 32 := 0#32
  let c1_i32_153 : BitVec 32 := 1#32
  let arg17 : BitVec 32 := Scf.iv c0_i32_151 c1_i32_153 k0_t48
  let c16_i32_178 : BitVec 32 := 16#32
  let v406 : BitVec 32 := Scalar.muli arg17 c16_i32_178
  let c10_i32_179 : BitVec 32 := 10#32
  let v407 : BitVec 32 := Scalar.addi v406 c10_i32_179
  let v408 : Index := Scalar.indexCast v407
  let c80_180 : Index := 80#32
  ![v408.toNat, 80]
def k0_off416 (k0_t48 : Fin k0_t48_loop.trips) : Fin 2 → Nat :=
  let c0_i32_151 : BitVec 32 := 0#32
  let c1_i32_153 : BitVec 32 := 1#32
  let arg17 : BitVec 32 := Scf.iv c0_i32_151 c1_i32_153 k0_t48
  let c16_i32_182 : BitVec 32 := 16#32
  let v421 : BitVec 32 := Scalar.muli arg17 c16_i32_182
  let c10_i32_183 : BitVec 32 := 10#32
  let v422 : BitVec 32 := Scalar.addi v421 c10_i32_183
  let v423 : Index := Scalar.indexCast v422
  let c96_184 : Index := 96#32
  ![v423.toNat, 96]
def k0_off417 (k0_t48 : Fin k0_t48_loop.trips) : Fin 2 → Nat :=
  let c0_i32_151 : BitVec 32 := 0#32
  let c1_i32_153 : BitVec 32 := 1#32
  let arg17 : BitVec 32 := Scf.iv c0_i32_151 c1_i32_153 k0_t48
  let c16_i32_186 : BitVec 32 := 16#32
  let v436 : BitVec 32 := Scalar.muli arg17 c16_i32_186
  let c10_i32_187 : BitVec 32 := 10#32
  let v437 : BitVec 32 := Scalar.addi v436 c10_i32_187
  let v438 : Index := Scalar.indexCast v437
  let c112_188 : Index := 112#32
  ![v438.toNat, 112]
@[reducible] def k0_t49_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off418 (i : grid0.Coords) (k0_t36 : Fin (k0_t36_loop i).trips) (v323 : BitVec 32) (k0_t49 : Fin k0_t49_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t49
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond52 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_133 : BitVec 32 := 16#32
  let v288 : BitVec 32 := Scalar.muli arg16 c16_i32_133
  let c11_i32 : BitVec 32 := 11#32
  let v289 : BitVec 32 := Scalar.addi v288 c11_i32
  let v103 : BitVec 32 := Scalar.subi v102 v89
  let v290 : BitVec 1 := Scalar.cmpi .slt v289 v103
  let v291 : BitVec 32 := Scalar.extui v290
  let c0_i32_134 : BitVec 32 := 0#32
  let v292 : BitVec 1 := Scalar.cmpi .ne v291 c0_i32_134
  v292

def k0_chk48 (i : grid0.Coords) (k0_t36 : Fin (k0_t36_loop i).trips) (v89 : BitVec 32) (v102 : BitVec 32) (k0_t37 : Fin (k0_t37_loop v89 v102).trips) (v323 : BitVec 32) : Prop :=
  (∀ k0_t49 : Fin k0_t49_loop.trips, ∀ (k0_h52 : k0_cond52 v89 v102 k0_t37 = 1#1), ∀ (r : Fin 8), ∀ a, (k0_off418 i k0_t36 v323 k0_t49 (BitVec.ofNat 32 (16 * r.val))) a + S1x1x16.size a ≤ S2x32x1024.size a)
theorem k0_off418_inb : ∀ (i : grid0.Coords) (k0_t36 : Fin (k0_t36_loop i).trips) (v89 : BitVec 32) (v102 : BitVec 32) (k0_t37 : Fin (k0_t37_loop v89 v102).trips) (v323 : BitVec 32) (k0_hw48 : k0_chk48 i k0_t36 v89 v102 k0_t37 v323) (k0_t49 : Fin k0_t49_loop.trips), ∀ (k0_h52 : k0_cond52 v89 v102 k0_t37 = 1#1), ∀ (r : Fin 8), ∀ a, (k0_off418 i k0_t36 v323 k0_t49 (BitVec.ofNat 32 (16 * r.val))) a + S1x1x16.size a ≤ S2x32x1024.size a := fun i k0_t36 v89 v102 k0_t37 v323 k0_hw48 k0_t49 k0_h52 r => k0_hw48 k0_t49 k0_h52 r

def k0_off419 (k0_t49 : Fin k0_t49_loop.trips) : Fin 2 → Nat :=
  let c0_i32_151 : BitVec 32 := 0#32
  let c1_i32_153 : BitVec 32 := 1#32
  let arg17 : BitVec 32 := Scf.iv c0_i32_151 c1_i32_153 k0_t49
  let c16_i32_156 : BitVec 32 := 16#32
  let v331 : BitVec 32 := Scalar.muli arg17 c16_i32_156
  let c11_i32_157 : BitVec 32 := 11#32
  let v332 : BitVec 32 := Scalar.addi v331 c11_i32_157
  let v333 : Index := Scalar.indexCast v332
  let c0_158 : Index := 0#32
  ![v333.toNat, 0]
def k0_off420 (k0_t49 : Fin k0_t49_loop.trips) : Fin 2 → Nat :=
  let c0_i32_151 : BitVec 32 := 0#32
  let c1_i32_153 : BitVec 32 := 1#32
  let arg17 : BitVec 32 := Scf.iv c0_i32_151 c1_i32_153 k0_t49
  let c16_i32_161 : BitVec 32 := 16#32
  let v346 : BitVec 32 := Scalar.muli arg17 c16_i32_161
  let c11_i32_162 : BitVec 32 := 11#32
  let v347 : BitVec 32 := Scalar.addi v346 c11_i32_162
  let v348 : Index := Scalar.indexCast v347
  let c16_163 : Index := 16#32
  ![v348.toNat, 16]
def k0_off421 (k0_t49 : Fin k0_t49_loop.trips) : Fin 2 → Nat :=
  let c0_i32_151 : BitVec 32 := 0#32
  let c1_i32_153 : BitVec 32 := 1#32
  let arg17 : BitVec 32 := Scf.iv c0_i32_151 c1_i32_153 k0_t49
  let c16_i32_166 : BitVec 32 := 16#32
  let v361 : BitVec 32 := Scalar.muli arg17 c16_i32_166
  let c11_i32_167 : BitVec 32 := 11#32
  let v362 : BitVec 32 := Scalar.addi v361 c11_i32_167
  let v363 : Index := Scalar.indexCast v362
  let c32_168 : Index := 32#32
  ![v363.toNat, 32]
def k0_off422 (k0_t49 : Fin k0_t49_loop.trips) : Fin 2 → Nat :=
  let c0_i32_151 : BitVec 32 := 0#32
  let c1_i32_153 : BitVec 32 := 1#32
  let arg17 : BitVec 32 := Scf.iv c0_i32_151 c1_i32_153 k0_t49
  let c16_i32_170 : BitVec 32 := 16#32
  let v376 : BitVec 32 := Scalar.muli arg17 c16_i32_170
  let c11_i32_171 : BitVec 32 := 11#32
  let v377 : BitVec 32 := Scalar.addi v376 c11_i32_171
  let v378 : Index := Scalar.indexCast v377
  let c48_172 : Index := 48#32
  ![v378.toNat, 48]
def k0_off423 (k0_t49 : Fin k0_t49_loop.trips) : Fin 2 → Nat :=
  let c0_i32_151 : BitVec 32 := 0#32
  let c1_i32_153 : BitVec 32 := 1#32
  let arg17 : BitVec 32 := Scf.iv c0_i32_151 c1_i32_153 k0_t49
  let c16_i32_174 : BitVec 32 := 16#32
  let v391 : BitVec 32 := Scalar.muli arg17 c16_i32_174
  let c11_i32_175 : BitVec 32 := 11#32
  let v392 : BitVec 32 := Scalar.addi v391 c11_i32_175
  let v393 : Index := Scalar.indexCast v392
  let c64_176 : Index := 64#32
  ![v393.toNat, 64]
def k0_off424 (k0_t49 : Fin k0_t49_loop.trips) : Fin 2 → Nat :=
  let c0_i32_151 : BitVec 32 := 0#32
  let c1_i32_153 : BitVec 32 := 1#32
  let arg17 : BitVec 32 := Scf.iv c0_i32_151 c1_i32_153 k0_t49
  let c16_i32_178 : BitVec 32 := 16#32
  let v406 : BitVec 32 := Scalar.muli arg17 c16_i32_178
  let c11_i32_179 : BitVec 32 := 11#32
  let v407 : BitVec 32 := Scalar.addi v406 c11_i32_179
  let v408 : Index := Scalar.indexCast v407
  let c80_180 : Index := 80#32
  ![v408.toNat, 80]
def k0_off425 (k0_t49 : Fin k0_t49_loop.trips) : Fin 2 → Nat :=
  let c0_i32_151 : BitVec 32 := 0#32
  let c1_i32_153 : BitVec 32 := 1#32
  let arg17 : BitVec 32 := Scf.iv c0_i32_151 c1_i32_153 k0_t49
  let c16_i32_182 : BitVec 32 := 16#32
  let v421 : BitVec 32 := Scalar.muli arg17 c16_i32_182
  let c11_i32_183 : BitVec 32 := 11#32
  let v422 : BitVec 32 := Scalar.addi v421 c11_i32_183
  let v423 : Index := Scalar.indexCast v422
  let c96_184 : Index := 96#32
  ![v423.toNat, 96]
def k0_off426 (k0_t49 : Fin k0_t49_loop.trips) : Fin 2 → Nat :=
  let c0_i32_151 : BitVec 32 := 0#32
  let c1_i32_153 : BitVec 32 := 1#32
  let arg17 : BitVec 32 := Scf.iv c0_i32_151 c1_i32_153 k0_t49
  let c16_i32_186 : BitVec 32 := 16#32
  let v436 : BitVec 32 := Scalar.muli arg17 c16_i32_186
  let c11_i32_187 : BitVec 32 := 11#32
  let v437 : BitVec 32 := Scalar.addi v436 c11_i32_187
  let v438 : Index := Scalar.indexCast v437
  let c112_188 : Index := 112#32
  ![v438.toNat, 112]
@[reducible] def k0_t50_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off427 (i : grid0.Coords) (k0_t36 : Fin (k0_t36_loop i).trips) (v323 : BitVec 32) (k0_t50 : Fin k0_t50_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t50
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond53 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_135 : BitVec 32 := 16#32
  let v293 : BitVec 32 := Scalar.muli arg16 c16_i32_135
  let c12_i32 : BitVec 32 := 12#32
  let v294 : BitVec 32 := Scalar.addi v293 c12_i32
  let v103 : BitVec 32 := Scalar.subi v102 v89
  let v295 : BitVec 1 := Scalar.cmpi .slt v294 v103
  let v296 : BitVec 32 := Scalar.extui v295
  let c0_i32_136 : BitVec 32 := 0#32
  let v297 : BitVec 1 := Scalar.cmpi .ne v296 c0_i32_136
  v297

def k0_chk49 (i : grid0.Coords) (k0_t36 : Fin (k0_t36_loop i).trips) (v89 : BitVec 32) (v102 : BitVec 32) (k0_t37 : Fin (k0_t37_loop v89 v102).trips) (v323 : BitVec 32) : Prop :=
  (∀ k0_t50 : Fin k0_t50_loop.trips, ∀ (k0_h53 : k0_cond53 v89 v102 k0_t37 = 1#1), ∀ (r : Fin 8), ∀ a, (k0_off427 i k0_t36 v323 k0_t50 (BitVec.ofNat 32 (16 * r.val))) a + S1x1x16.size a ≤ S2x32x1024.size a)
theorem k0_off427_inb : ∀ (i : grid0.Coords) (k0_t36 : Fin (k0_t36_loop i).trips) (v89 : BitVec 32) (v102 : BitVec 32) (k0_t37 : Fin (k0_t37_loop v89 v102).trips) (v323 : BitVec 32) (k0_hw49 : k0_chk49 i k0_t36 v89 v102 k0_t37 v323) (k0_t50 : Fin k0_t50_loop.trips), ∀ (k0_h53 : k0_cond53 v89 v102 k0_t37 = 1#1), ∀ (r : Fin 8), ∀ a, (k0_off427 i k0_t36 v323 k0_t50 (BitVec.ofNat 32 (16 * r.val))) a + S1x1x16.size a ≤ S2x32x1024.size a := fun i k0_t36 v89 v102 k0_t37 v323 k0_hw49 k0_t50 k0_h53 r => k0_hw49 k0_t50 k0_h53 r

def k0_off428 (k0_t50 : Fin k0_t50_loop.trips) : Fin 2 → Nat :=
  let c0_i32_151 : BitVec 32 := 0#32
  let c1_i32_153 : BitVec 32 := 1#32
  let arg17 : BitVec 32 := Scf.iv c0_i32_151 c1_i32_153 k0_t50
  let c16_i32_156 : BitVec 32 := 16#32
  let v331 : BitVec 32 := Scalar.muli arg17 c16_i32_156
  let c12_i32_157 : BitVec 32 := 12#32
  let v332 : BitVec 32 := Scalar.addi v331 c12_i32_157
  let v333 : Index := Scalar.indexCast v332
  let c0_158 : Index := 0#32
  ![v333.toNat, 0]
def k0_off429 (k0_t50 : Fin k0_t50_loop.trips) : Fin 2 → Nat :=
  let c0_i32_151 : BitVec 32 := 0#32
  let c1_i32_153 : BitVec 32 := 1#32
  let arg17 : BitVec 32 := Scf.iv c0_i32_151 c1_i32_153 k0_t50
  let c16_i32_161 : BitVec 32 := 16#32
  let v346 : BitVec 32 := Scalar.muli arg17 c16_i32_161
  let c12_i32_162 : BitVec 32 := 12#32
  let v347 : BitVec 32 := Scalar.addi v346 c12_i32_162
  let v348 : Index := Scalar.indexCast v347
  let c16_163 : Index := 16#32
  ![v348.toNat, 16]
def k0_off430 (k0_t50 : Fin k0_t50_loop.trips) : Fin 2 → Nat :=
  let c0_i32_151 : BitVec 32 := 0#32
  let c1_i32_153 : BitVec 32 := 1#32
  let arg17 : BitVec 32 := Scf.iv c0_i32_151 c1_i32_153 k0_t50
  let c16_i32_166 : BitVec 32 := 16#32
  let v361 : BitVec 32 := Scalar.muli arg17 c16_i32_166
  let c12_i32_167 : BitVec 32 := 12#32
  let v362 : BitVec 32 := Scalar.addi v361 c12_i32_167
  let v363 : Index := Scalar.indexCast v362
  let c32_168 : Index := 32#32
  ![v363.toNat, 32]
def k0_off431 (k0_t50 : Fin k0_t50_loop.trips) : Fin 2 → Nat :=
  let c0_i32_151 : BitVec 32 := 0#32
  let c1_i32_153 : BitVec 32 := 1#32
  let arg17 : BitVec 32 := Scf.iv c0_i32_151 c1_i32_153 k0_t50
  let c16_i32_170 : BitVec 32 := 16#32
  let v376 : BitVec 32 := Scalar.muli arg17 c16_i32_170
  let c12_i32_171 : BitVec 32 := 12#32
  let v377 : BitVec 32 := Scalar.addi v376 c12_i32_171
  let v378 : Index := Scalar.indexCast v377
  let c48_172 : Index := 48#32
  ![v378.toNat, 48]
def k0_off432 (k0_t50 : Fin k0_t50_loop.trips) : Fin 2 → Nat :=
  let c0_i32_151 : BitVec 32 := 0#32
  let c1_i32_153 : BitVec 32 := 1#32
  let arg17 : BitVec 32 := Scf.iv c0_i32_151 c1_i32_153 k0_t50
  let c16_i32_174 : BitVec 32 := 16#32
  let v391 : BitVec 32 := Scalar.muli arg17 c16_i32_174
  let c12_i32_175 : BitVec 32 := 12#32
  let v392 : BitVec 32 := Scalar.addi v391 c12_i32_175
  let v393 : Index := Scalar.indexCast v392
  let c64_176 : Index := 64#32
  ![v393.toNat, 64]
def k0_off433 (k0_t50 : Fin k0_t50_loop.trips) : Fin 2 → Nat :=
  let c0_i32_151 : BitVec 32 := 0#32
  let c1_i32_153 : BitVec 32 := 1#32
  let arg17 : BitVec 32 := Scf.iv c0_i32_151 c1_i32_153 k0_t50
  let c16_i32_178 : BitVec 32 := 16#32
  let v406 : BitVec 32 := Scalar.muli arg17 c16_i32_178
  let c12_i32_179 : BitVec 32 := 12#32
  let v407 : BitVec 32 := Scalar.addi v406 c12_i32_179
  let v408 : Index := Scalar.indexCast v407
  let c80_180 : Index := 80#32
  ![v408.toNat, 80]
def k0_off434 (k0_t50 : Fin k0_t50_loop.trips) : Fin 2 → Nat :=
  let c0_i32_151 : BitVec 32 := 0#32
  let c1_i32_153 : BitVec 32 := 1#32
  let arg17 : BitVec 32 := Scf.iv c0_i32_151 c1_i32_153 k0_t50
  let c16_i32_182 : BitVec 32 := 16#32
  let v421 : BitVec 32 := Scalar.muli arg17 c16_i32_182
  let c12_i32_183 : BitVec 32 := 12#32
  let v422 : BitVec 32 := Scalar.addi v421 c12_i32_183
  let v423 : Index := Scalar.indexCast v422
  let c96_184 : Index := 96#32
  ![v423.toNat, 96]
def k0_off435 (k0_t50 : Fin k0_t50_loop.trips) : Fin 2 → Nat :=
  let c0_i32_151 : BitVec 32 := 0#32
  let c1_i32_153 : BitVec 32 := 1#32
  let arg17 : BitVec 32 := Scf.iv c0_i32_151 c1_i32_153 k0_t50
  let c16_i32_186 : BitVec 32 := 16#32
  let v436 : BitVec 32 := Scalar.muli arg17 c16_i32_186
  let c12_i32_187 : BitVec 32 := 12#32
  let v437 : BitVec 32 := Scalar.addi v436 c12_i32_187
  let v438 : Index := Scalar.indexCast v437
  let c112_188 : Index := 112#32
  ![v438.toNat, 112]
@[reducible] def k0_t51_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off436 (i : grid0.Coords) (k0_t36 : Fin (k0_t36_loop i).trips) (v323 : BitVec 32) (k0_t51 : Fin k0_t51_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t51
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond54 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_137 : BitVec 32 := 16#32
  let v298 : BitVec 32 := Scalar.muli arg16 c16_i32_137
  let c13_i32 : BitVec 32 := 13#32
  let v299 : BitVec 32 := Scalar.addi v298 c13_i32
  let v103 : BitVec 32 := Scalar.subi v102 v89
  let v300 : BitVec 1 := Scalar.cmpi .slt v299 v103
  let v301 : BitVec 32 := Scalar.extui v300
  let c0_i32_138 : BitVec 32 := 0#32
  let v302 : BitVec 1 := Scalar.cmpi .ne v301 c0_i32_138
  v302

def k0_chk50 (i : grid0.Coords) (k0_t36 : Fin (k0_t36_loop i).trips) (v89 : BitVec 32) (v102 : BitVec 32) (k0_t37 : Fin (k0_t37_loop v89 v102).trips) (v323 : BitVec 32) : Prop :=
  (∀ k0_t51 : Fin k0_t51_loop.trips, ∀ (k0_h54 : k0_cond54 v89 v102 k0_t37 = 1#1), ∀ (r : Fin 8), ∀ a, (k0_off436 i k0_t36 v323 k0_t51 (BitVec.ofNat 32 (16 * r.val))) a + S1x1x16.size a ≤ S2x32x1024.size a)
theorem k0_off436_inb : ∀ (i : grid0.Coords) (k0_t36 : Fin (k0_t36_loop i).trips) (v89 : BitVec 32) (v102 : BitVec 32) (k0_t37 : Fin (k0_t37_loop v89 v102).trips) (v323 : BitVec 32) (k0_hw50 : k0_chk50 i k0_t36 v89 v102 k0_t37 v323) (k0_t51 : Fin k0_t51_loop.trips), ∀ (k0_h54 : k0_cond54 v89 v102 k0_t37 = 1#1), ∀ (r : Fin 8), ∀ a, (k0_off436 i k0_t36 v323 k0_t51 (BitVec.ofNat 32 (16 * r.val))) a + S1x1x16.size a ≤ S2x32x1024.size a := fun i k0_t36 v89 v102 k0_t37 v323 k0_hw50 k0_t51 k0_h54 r => k0_hw50 k0_t51 k0_h54 r

def k0_off437 (k0_t51 : Fin k0_t51_loop.trips) : Fin 2 → Nat :=
  let c0_i32_151 : BitVec 32 := 0#32
  let c1_i32_153 : BitVec 32 := 1#32
  let arg17 : BitVec 32 := Scf.iv c0_i32_151 c1_i32_153 k0_t51
  let c16_i32_156 : BitVec 32 := 16#32
  let v331 : BitVec 32 := Scalar.muli arg17 c16_i32_156
  let c13_i32_157 : BitVec 32 := 13#32
  let v332 : BitVec 32 := Scalar.addi v331 c13_i32_157
  let v333 : Index := Scalar.indexCast v332
  let c0_158 : Index := 0#32
  ![v333.toNat, 0]
def k0_off438 (k0_t51 : Fin k0_t51_loop.trips) : Fin 2 → Nat :=
  let c0_i32_151 : BitVec 32 := 0#32
  let c1_i32_153 : BitVec 32 := 1#32
  let arg17 : BitVec 32 := Scf.iv c0_i32_151 c1_i32_153 k0_t51
  let c16_i32_161 : BitVec 32 := 16#32
  let v346 : BitVec 32 := Scalar.muli arg17 c16_i32_161
  let c13_i32_162 : BitVec 32 := 13#32
  let v347 : BitVec 32 := Scalar.addi v346 c13_i32_162
  let v348 : Index := Scalar.indexCast v347
  let c16_163 : Index := 16#32
  ![v348.toNat, 16]
def k0_off439 (k0_t51 : Fin k0_t51_loop.trips) : Fin 2 → Nat :=
  let c0_i32_151 : BitVec 32 := 0#32
  let c1_i32_153 : BitVec 32 := 1#32
  let arg17 : BitVec 32 := Scf.iv c0_i32_151 c1_i32_153 k0_t51
  let c16_i32_166 : BitVec 32 := 16#32
  let v361 : BitVec 32 := Scalar.muli arg17 c16_i32_166
  let c13_i32_167 : BitVec 32 := 13#32
  let v362 : BitVec 32 := Scalar.addi v361 c13_i32_167
  let v363 : Index := Scalar.indexCast v362
  let c32_168 : Index := 32#32
  ![v363.toNat, 32]
def k0_off440 (k0_t51 : Fin k0_t51_loop.trips) : Fin 2 → Nat :=
  let c0_i32_151 : BitVec 32 := 0#32
  let c1_i32_153 : BitVec 32 := 1#32
  let arg17 : BitVec 32 := Scf.iv c0_i32_151 c1_i32_153 k0_t51
  let c16_i32_170 : BitVec 32 := 16#32
  let v376 : BitVec 32 := Scalar.muli arg17 c16_i32_170
  let c13_i32_171 : BitVec 32 := 13#32
  let v377 : BitVec 32 := Scalar.addi v376 c13_i32_171
  let v378 : Index := Scalar.indexCast v377
  let c48_172 : Index := 48#32
  ![v378.toNat, 48]
def k0_off441 (k0_t51 : Fin k0_t51_loop.trips) : Fin 2 → Nat :=
  let c0_i32_151 : BitVec 32 := 0#32
  let c1_i32_153 : BitVec 32 := 1#32
  let arg17 : BitVec 32 := Scf.iv c0_i32_151 c1_i32_153 k0_t51
  let c16_i32_174 : BitVec 32 := 16#32
  let v391 : BitVec 32 := Scalar.muli arg17 c16_i32_174
  let c13_i32_175 : BitVec 32 := 13#32
  let v392 : BitVec 32 := Scalar.addi v391 c13_i32_175
  let v393 : Index := Scalar.indexCast v392
  let c64_176 : Index := 64#32
  ![v393.toNat, 64]
def k0_off442 (k0_t51 : Fin k0_t51_loop.trips) : Fin 2 → Nat :=
  let c0_i32_151 : BitVec 32 := 0#32
  let c1_i32_153 : BitVec 32 := 1#32
  let arg17 : BitVec 32 := Scf.iv c0_i32_151 c1_i32_153 k0_t51
  let c16_i32_178 : BitVec 32 := 16#32
  let v406 : BitVec 32 := Scalar.muli arg17 c16_i32_178
  let c13_i32_179 : BitVec 32 := 13#32
  let v407 : BitVec 32 := Scalar.addi v406 c13_i32_179
  let v408 : Index := Scalar.indexCast v407
  let c80_180 : Index := 80#32
  ![v408.toNat, 80]
def k0_off443 (k0_t51 : Fin k0_t51_loop.trips) : Fin 2 → Nat :=
  let c0_i32_151 : BitVec 32 := 0#32
  let c1_i32_153 : BitVec 32 := 1#32
  let arg17 : BitVec 32 := Scf.iv c0_i32_151 c1_i32_153 k0_t51
  let c16_i32_182 : BitVec 32 := 16#32
  let v421 : BitVec 32 := Scalar.muli arg17 c16_i32_182
  let c13_i32_183 : BitVec 32 := 13#32
  let v422 : BitVec 32 := Scalar.addi v421 c13_i32_183
  let v423 : Index := Scalar.indexCast v422
  let c96_184 : Index := 96#32
  ![v423.toNat, 96]
def k0_off444 (k0_t51 : Fin k0_t51_loop.trips) : Fin 2 → Nat :=
  let c0_i32_151 : BitVec 32 := 0#32
  let c1_i32_153 : BitVec 32 := 1#32
  let arg17 : BitVec 32 := Scf.iv c0_i32_151 c1_i32_153 k0_t51
  let c16_i32_186 : BitVec 32 := 16#32
  let v436 : BitVec 32 := Scalar.muli arg17 c16_i32_186
  let c13_i32_187 : BitVec 32 := 13#32
  let v437 : BitVec 32 := Scalar.addi v436 c13_i32_187
  let v438 : Index := Scalar.indexCast v437
  let c112_188 : Index := 112#32
  ![v438.toNat, 112]
@[reducible] def k0_t52_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off445 (i : grid0.Coords) (k0_t36 : Fin (k0_t36_loop i).trips) (v323 : BitVec 32) (k0_t52 : Fin k0_t52_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t52
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond55 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_139 : BitVec 32 := 16#32
  let v303 : BitVec 32 := Scalar.muli arg16 c16_i32_139
  let c14_i32_140 : BitVec 32 := 14#32
  let v304 : BitVec 32 := Scalar.addi v303 c14_i32_140
  let v103 : BitVec 32 := Scalar.subi v102 v89
  let v305 : BitVec 1 := Scalar.cmpi .slt v304 v103
  let v306 : BitVec 32 := Scalar.extui v305
  let c0_i32_141 : BitVec 32 := 0#32
  let v307 : BitVec 1 := Scalar.cmpi .ne v306 c0_i32_141
  v307

def k0_chk51 (i : grid0.Coords) (k0_t36 : Fin (k0_t36_loop i).trips) (v89 : BitVec 32) (v102 : BitVec 32) (k0_t37 : Fin (k0_t37_loop v89 v102).trips) (v323 : BitVec 32) : Prop :=
  (∀ k0_t52 : Fin k0_t52_loop.trips, ∀ (k0_h55 : k0_cond55 v89 v102 k0_t37 = 1#1), ∀ (r : Fin 8), ∀ a, (k0_off445 i k0_t36 v323 k0_t52 (BitVec.ofNat 32 (16 * r.val))) a + S1x1x16.size a ≤ S2x32x1024.size a)
theorem k0_off445_inb : ∀ (i : grid0.Coords) (k0_t36 : Fin (k0_t36_loop i).trips) (v89 : BitVec 32) (v102 : BitVec 32) (k0_t37 : Fin (k0_t37_loop v89 v102).trips) (v323 : BitVec 32) (k0_hw51 : k0_chk51 i k0_t36 v89 v102 k0_t37 v323) (k0_t52 : Fin k0_t52_loop.trips), ∀ (k0_h55 : k0_cond55 v89 v102 k0_t37 = 1#1), ∀ (r : Fin 8), ∀ a, (k0_off445 i k0_t36 v323 k0_t52 (BitVec.ofNat 32 (16 * r.val))) a + S1x1x16.size a ≤ S2x32x1024.size a := fun i k0_t36 v89 v102 k0_t37 v323 k0_hw51 k0_t52 k0_h55 r => k0_hw51 k0_t52 k0_h55 r

def k0_off446 (k0_t52 : Fin k0_t52_loop.trips) : Fin 2 → Nat :=
  let c0_i32_151 : BitVec 32 := 0#32
  let c1_i32_153 : BitVec 32 := 1#32
  let arg17 : BitVec 32 := Scf.iv c0_i32_151 c1_i32_153 k0_t52
  let c16_i32_156 : BitVec 32 := 16#32
  let v331 : BitVec 32 := Scalar.muli arg17 c16_i32_156
  let c14_i32_157 : BitVec 32 := 14#32
  let v332 : BitVec 32 := Scalar.addi v331 c14_i32_157
  let v333 : Index := Scalar.indexCast v332
  let c0_158 : Index := 0#32
  ![v333.toNat, 0]
def k0_off447 (k0_t52 : Fin k0_t52_loop.trips) : Fin 2 → Nat :=
  let c0_i32_151 : BitVec 32 := 0#32
  let c1_i32_153 : BitVec 32 := 1#32
  let arg17 : BitVec 32 := Scf.iv c0_i32_151 c1_i32_153 k0_t52
  let c16_i32_161 : BitVec 32 := 16#32
  let v346 : BitVec 32 := Scalar.muli arg17 c16_i32_161
  let c14_i32_162 : BitVec 32 := 14#32
  let v347 : BitVec 32 := Scalar.addi v346 c14_i32_162
  let v348 : Index := Scalar.indexCast v347
  let c16_163 : Index := 16#32
  ![v348.toNat, 16]
def k0_off448 (k0_t52 : Fin k0_t52_loop.trips) : Fin 2 → Nat :=
  let c0_i32_151 : BitVec 32 := 0#32
  let c1_i32_153 : BitVec 32 := 1#32
  let arg17 : BitVec 32 := Scf.iv c0_i32_151 c1_i32_153 k0_t52
  let c16_i32_166 : BitVec 32 := 16#32
  let v361 : BitVec 32 := Scalar.muli arg17 c16_i32_166
  let c14_i32_167 : BitVec 32 := 14#32
  let v362 : BitVec 32 := Scalar.addi v361 c14_i32_167
  let v363 : Index := Scalar.indexCast v362
  let c32_168 : Index := 32#32
  ![v363.toNat, 32]
def k0_off449 (k0_t52 : Fin k0_t52_loop.trips) : Fin 2 → Nat :=
  let c0_i32_151 : BitVec 32 := 0#32
  let c1_i32_153 : BitVec 32 := 1#32
  let arg17 : BitVec 32 := Scf.iv c0_i32_151 c1_i32_153 k0_t52
  let c16_i32_170 : BitVec 32 := 16#32
  let v376 : BitVec 32 := Scalar.muli arg17 c16_i32_170
  let c14_i32_171 : BitVec 32 := 14#32
  let v377 : BitVec 32 := Scalar.addi v376 c14_i32_171
  let v378 : Index := Scalar.indexCast v377
  let c48_172 : Index := 48#32
  ![v378.toNat, 48]
def k0_off450 (k0_t52 : Fin k0_t52_loop.trips) : Fin 2 → Nat :=
  let c0_i32_151 : BitVec 32 := 0#32
  let c1_i32_153 : BitVec 32 := 1#32
  let arg17 : BitVec 32 := Scf.iv c0_i32_151 c1_i32_153 k0_t52
  let c16_i32_174 : BitVec 32 := 16#32
  let v391 : BitVec 32 := Scalar.muli arg17 c16_i32_174
  let c14_i32_175 : BitVec 32 := 14#32
  let v392 : BitVec 32 := Scalar.addi v391 c14_i32_175
  let v393 : Index := Scalar.indexCast v392
  let c64_176 : Index := 64#32
  ![v393.toNat, 64]
def k0_off451 (k0_t52 : Fin k0_t52_loop.trips) : Fin 2 → Nat :=
  let c0_i32_151 : BitVec 32 := 0#32
  let c1_i32_153 : BitVec 32 := 1#32
  let arg17 : BitVec 32 := Scf.iv c0_i32_151 c1_i32_153 k0_t52
  let c16_i32_178 : BitVec 32 := 16#32
  let v406 : BitVec 32 := Scalar.muli arg17 c16_i32_178
  let c14_i32_179 : BitVec 32 := 14#32
  let v407 : BitVec 32 := Scalar.addi v406 c14_i32_179
  let v408 : Index := Scalar.indexCast v407
  let c80_180 : Index := 80#32
  ![v408.toNat, 80]
def k0_off452 (k0_t52 : Fin k0_t52_loop.trips) : Fin 2 → Nat :=
  let c0_i32_151 : BitVec 32 := 0#32
  let c1_i32_153 : BitVec 32 := 1#32
  let arg17 : BitVec 32 := Scf.iv c0_i32_151 c1_i32_153 k0_t52
  let c16_i32_182 : BitVec 32 := 16#32
  let v421 : BitVec 32 := Scalar.muli arg17 c16_i32_182
  let c14_i32_183 : BitVec 32 := 14#32
  let v422 : BitVec 32 := Scalar.addi v421 c14_i32_183
  let v423 : Index := Scalar.indexCast v422
  let c96_184 : Index := 96#32
  ![v423.toNat, 96]
def k0_off453 (k0_t52 : Fin k0_t52_loop.trips) : Fin 2 → Nat :=
  let c0_i32_151 : BitVec 32 := 0#32
  let c1_i32_153 : BitVec 32 := 1#32
  let arg17 : BitVec 32 := Scf.iv c0_i32_151 c1_i32_153 k0_t52
  let c16_i32_186 : BitVec 32 := 16#32
  let v436 : BitVec 32 := Scalar.muli arg17 c16_i32_186
  let c14_i32_187 : BitVec 32 := 14#32
  let v437 : BitVec 32 := Scalar.addi v436 c14_i32_187
  let v438 : Index := Scalar.indexCast v437
  let c112_188 : Index := 112#32
  ![v438.toNat, 112]
@[reducible] def k0_t53_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off454 (i : grid0.Coords) (k0_t36 : Fin (k0_t36_loop i).trips) (v323 : BitVec 32) (k0_t53 : Fin k0_t53_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t53
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond56 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c16_i32_142 : BitVec 32 := 16#32
  let v308 : BitVec 32 := Scalar.muli arg16 c16_i32_142
  let c15_i32_143 : BitVec 32 := 15#32
  let v309 : BitVec 32 := Scalar.addi v308 c15_i32_143
  let v103 : BitVec 32 := Scalar.subi v102 v89
  let v310 : BitVec 1 := Scalar.cmpi .slt v309 v103
  let v311 : BitVec 32 := Scalar.extui v310
  let c0_i32_144 : BitVec 32 := 0#32
  let v312 : BitVec 1 := Scalar.cmpi .ne v311 c0_i32_144
  v312

def k0_chk52 (i : grid0.Coords) (k0_t36 : Fin (k0_t36_loop i).trips) (v89 : BitVec 32) (v102 : BitVec 32) (k0_t37 : Fin (k0_t37_loop v89 v102).trips) (v323 : BitVec 32) : Prop :=
  (∀ k0_t53 : Fin k0_t53_loop.trips, ∀ (k0_h56 : k0_cond56 v89 v102 k0_t37 = 1#1), ∀ (r : Fin 8), ∀ a, (k0_off454 i k0_t36 v323 k0_t53 (BitVec.ofNat 32 (16 * r.val))) a + S1x1x16.size a ≤ S2x32x1024.size a)
theorem k0_off454_inb : ∀ (i : grid0.Coords) (k0_t36 : Fin (k0_t36_loop i).trips) (v89 : BitVec 32) (v102 : BitVec 32) (k0_t37 : Fin (k0_t37_loop v89 v102).trips) (v323 : BitVec 32) (k0_hw52 : k0_chk52 i k0_t36 v89 v102 k0_t37 v323) (k0_t53 : Fin k0_t53_loop.trips), ∀ (k0_h56 : k0_cond56 v89 v102 k0_t37 = 1#1), ∀ (r : Fin 8), ∀ a, (k0_off454 i k0_t36 v323 k0_t53 (BitVec.ofNat 32 (16 * r.val))) a + S1x1x16.size a ≤ S2x32x1024.size a := fun i k0_t36 v89 v102 k0_t37 v323 k0_hw52 k0_t53 k0_h56 r => k0_hw52 k0_t53 k0_h56 r

def k0_off455 (k0_t53 : Fin k0_t53_loop.trips) : Fin 2 → Nat :=
  let c0_i32_151 : BitVec 32 := 0#32
  let c1_i32_153 : BitVec 32 := 1#32
  let arg17 : BitVec 32 := Scf.iv c0_i32_151 c1_i32_153 k0_t53
  let c16_i32_156 : BitVec 32 := 16#32
  let v331 : BitVec 32 := Scalar.muli arg17 c16_i32_156
  let c15_i32_157 : BitVec 32 := 15#32
  let v332 : BitVec 32 := Scalar.addi v331 c15_i32_157
  let v333 : Index := Scalar.indexCast v332
  let c0_158 : Index := 0#32
  ![v333.toNat, 0]
def k0_off456 (k0_t53 : Fin k0_t53_loop.trips) : Fin 2 → Nat :=
  let c0_i32_151 : BitVec 32 := 0#32
  let c1_i32_153 : BitVec 32 := 1#32
  let arg17 : BitVec 32 := Scf.iv c0_i32_151 c1_i32_153 k0_t53
  let c16_i32_161 : BitVec 32 := 16#32
  let v346 : BitVec 32 := Scalar.muli arg17 c16_i32_161
  let c15_i32_162 : BitVec 32 := 15#32
  let v347 : BitVec 32 := Scalar.addi v346 c15_i32_162
  let v348 : Index := Scalar.indexCast v347
  let c16_163 : Index := 16#32
  ![v348.toNat, 16]
def k0_off457 (k0_t53 : Fin k0_t53_loop.trips) : Fin 2 → Nat :=
  let c0_i32_151 : BitVec 32 := 0#32
  let c1_i32_153 : BitVec 32 := 1#32
  let arg17 : BitVec 32 := Scf.iv c0_i32_151 c1_i32_153 k0_t53
  let c16_i32_166 : BitVec 32 := 16#32
  let v361 : BitVec 32 := Scalar.muli arg17 c16_i32_166
  let c15_i32_167 : BitVec 32 := 15#32
  let v362 : BitVec 32 := Scalar.addi v361 c15_i32_167
  let v363 : Index := Scalar.indexCast v362
  let c32_168 : Index := 32#32
  ![v363.toNat, 32]
def k0_off458 (k0_t53 : Fin k0_t53_loop.trips) : Fin 2 → Nat :=
  let c0_i32_151 : BitVec 32 := 0#32
  let c1_i32_153 : BitVec 32 := 1#32
  let arg17 : BitVec 32 := Scf.iv c0_i32_151 c1_i32_153 k0_t53
  let c16_i32_170 : BitVec 32 := 16#32
  let v376 : BitVec 32 := Scalar.muli arg17 c16_i32_170
  let c15_i32_171 : BitVec 32 := 15#32
  let v377 : BitVec 32 := Scalar.addi v376 c15_i32_171
  let v378 : Index := Scalar.indexCast v377
  let c48_172 : Index := 48#32
  ![v378.toNat, 48]
def k0_off459 (k0_t53 : Fin k0_t53_loop.trips) : Fin 2 → Nat :=
  let c0_i32_151 : BitVec 32 := 0#32
  let c1_i32_153 : BitVec 32 := 1#32
  let arg17 : BitVec 32 := Scf.iv c0_i32_151 c1_i32_153 k0_t53
  let c16_i32_174 : BitVec 32 := 16#32
  let v391 : BitVec 32 := Scalar.muli arg17 c16_i32_174
  let c15_i32_175 : BitVec 32 := 15#32
  let v392 : BitVec 32 := Scalar.addi v391 c15_i32_175
  let v393 : Index := Scalar.indexCast v392
  let c64_176 : Index := 64#32
  ![v393.toNat, 64]
def k0_off460 (k0_t53 : Fin k0_t53_loop.trips) : Fin 2 → Nat :=
  let c0_i32_151 : BitVec 32 := 0#32
  let c1_i32_153 : BitVec 32 := 1#32
  let arg17 : BitVec 32 := Scf.iv c0_i32_151 c1_i32_153 k0_t53
  let c16_i32_178 : BitVec 32 := 16#32
  let v406 : BitVec 32 := Scalar.muli arg17 c16_i32_178
  let c15_i32_179 : BitVec 32 := 15#32
  let v407 : BitVec 32 := Scalar.addi v406 c15_i32_179
  let v408 : Index := Scalar.indexCast v407
  let c80_180 : Index := 80#32
  ![v408.toNat, 80]
def k0_off461 (k0_t53 : Fin k0_t53_loop.trips) : Fin 2 → Nat :=
  let c0_i32_151 : BitVec 32 := 0#32
  let c1_i32_153 : BitVec 32 := 1#32
  let arg17 : BitVec 32 := Scf.iv c0_i32_151 c1_i32_153 k0_t53
  let c16_i32_182 : BitVec 32 := 16#32
  let v421 : BitVec 32 := Scalar.muli arg17 c16_i32_182
  let c15_i32_183 : BitVec 32 := 15#32
  let v422 : BitVec 32 := Scalar.addi v421 c15_i32_183
  let v423 : Index := Scalar.indexCast v422
  let c96_184 : Index := 96#32
  ![v423.toNat, 96]
def k0_off462 (k0_t53 : Fin k0_t53_loop.trips) : Fin 2 → Nat :=
  let c0_i32_151 : BitVec 32 := 0#32
  let c1_i32_153 : BitVec 32 := 1#32
  let arg17 : BitVec 32 := Scf.iv c0_i32_151 c1_i32_153 k0_t53
  let c16_i32_186 : BitVec 32 := 16#32
  let v436 : BitVec 32 := Scalar.muli arg17 c16_i32_186
  let c15_i32_187 : BitVec 32 := 15#32
  let v437 : BitVec 32 := Scalar.addi v436 c15_i32_187
  let v438 : Index := Scalar.indexCast v437
  let c112_188 : Index := 112#32
  ![v438.toNat, 112]
def k0_off463 (v89 : BitVec 32) (v102 : BitVec 32) (k0_t37 : Fin (k0_t37_loop v89 v102).trips) : Fin 1 → Nat :=
  let c0_i32_87 : BitVec 32 := 0#32
  let c1_i32_89 : BitVec 32 := 1#32
  let arg16 : BitVec 32 := Scf.iv c0_i32_87 c1_i32_89 k0_t37
  let c1_i32_147 : BitVec 32 := 1#32
  let v317 : BitVec 32 := Scalar.addi arg16 c1_i32_147
  let c16_i32_148 : BitVec 32 := 16#32
  let v318 : BitVec 32 := Scalar.muli v317 c16_i32_148
  let v319 : BitVec 32 := Scalar.addi v89 v318
  let v320 : Index := Scalar.indexCast v319
  ![v320.toNat]
def k0_cond57 (v89 : BitVec 32) (v102 : BitVec 32) (k0_t37 : Fin (k0_t37_loop v89 v102).trips) : BitVec 1 :=
  let c0_i32_87 : BitVec 32 := 0#32
  let c1_i32_89 : BitVec 32 := 1#32
  let arg16 : BitVec 32 := Scf.iv c0_i32_87 c1_i32_89 k0_t37
  let c1_i32_145 : BitVec 32 := 1#32
  let v313 : BitVec 32 := Scalar.addi arg16 c1_i32_145
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v314 : BitVec 1 := Scalar.cmpi .slt v313 v122
  let v315 : BitVec 32 := Scalar.extui v314
  let c0_i32_146 : BitVec 32 := 0#32
  let v316 : BitVec 1 := Scalar.cmpi .ne v315 c0_i32_146
  v316

@[reducible] def k0_t54_loop (v89 : BitVec 32) (v102 : BitVec 32) : Scf.Loop 32 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let v209 : BitVec 32 := Scalar.addi c0_i32_87 v208
  let c1_i32_90 : BitVec 32 := 1#32
  ⟨v212, v209, c1_i32_90⟩
def k0_off464 (v89 : BitVec 32) (v102 : BitVec 32) (k0_t54 : Fin (k0_t54_loop v89 v102).trips) : Fin 1 → Nat :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_100 : BitVec 32 := 16#32
  let v224 : BitVec 32 := Scalar.muli arg16 c16_i32_100
  let v225 : BitVec 32 := Scalar.addi v89 v224
  let v226 : Index := Scalar.indexCast v225
  ![v226.toNat]
@[reducible] def k0_t55_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off465 (i : grid0.Coords) (k0_t36 : Fin (k0_t36_loop i).trips) (v323 : BitVec 32) (k0_t55 : Fin k0_t55_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t55
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond58 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_102 : BitVec 32 := 16#32
  let v233 : BitVec 32 := Scalar.muli arg16 c16_i32_102
  let c0_i32_103 : BitVec 32 := 0#32
  let v234 : BitVec 32 := Scalar.addi v233 c0_i32_103
  let v235 : BitVec 1 := Scalar.cmpi .slt v234 v103
  let v236 : BitVec 32 := Scalar.extui v235
  let c0_i32_104 : BitVec 32 := 0#32
  let v237 : BitVec 1 := Scalar.cmpi .ne v236 c0_i32_104
  v237

def k0_chk53 (i : grid0.Coords) (k0_t36 : Fin (k0_t36_loop i).trips) (v89 : BitVec 32) (v102 : BitVec 32) (k0_t54 : Fin (k0_t54_loop v89 v102).trips) (v323 : BitVec 32) : Prop :=
  (∀ k0_t55 : Fin k0_t55_loop.trips, ∀ (k0_h58 : k0_cond58 v89 v102 k0_t54 = 1#1), ∀ (r : Fin 8), ∀ a, (k0_off465 i k0_t36 v323 k0_t55 (BitVec.ofNat 32 (16 * r.val))) a + S1x1x16.size a ≤ S2x32x1024.size a)
theorem k0_off465_inb : ∀ (i : grid0.Coords) (k0_t36 : Fin (k0_t36_loop i).trips) (v89 : BitVec 32) (v102 : BitVec 32) (k0_t54 : Fin (k0_t54_loop v89 v102).trips) (v323 : BitVec 32) (k0_hw53 : k0_chk53 i k0_t36 v89 v102 k0_t54 v323) (k0_t55 : Fin k0_t55_loop.trips), ∀ (k0_h58 : k0_cond58 v89 v102 k0_t54 = 1#1), ∀ (r : Fin 8), ∀ a, (k0_off465 i k0_t36 v323 k0_t55 (BitVec.ofNat 32 (16 * r.val))) a + S1x1x16.size a ≤ S2x32x1024.size a := fun i k0_t36 v89 v102 k0_t54 v323 k0_hw53 k0_t55 k0_h58 r => k0_hw53 k0_t55 k0_h58 r

def k0_off466 (k0_t55 : Fin k0_t55_loop.trips) : Fin 2 → Nat :=
  let c0_i32_151 : BitVec 32 := 0#32
  let c1_i32_153 : BitVec 32 := 1#32
  let arg17 : BitVec 32 := Scf.iv c0_i32_151 c1_i32_153 k0_t55
  let c16_i32_156 : BitVec 32 := 16#32
  let v331 : BitVec 32 := Scalar.muli arg17 c16_i32_156
  let c0_i32_157 : BitVec 32 := 0#32
  let v332 : BitVec 32 := Scalar.addi v331 c0_i32_157
  let v333 : Index := Scalar.indexCast v332
  let c0_158 : Index := 0#32
  ![v333.toNat, 0]
def k0_off467 (k0_t55 : Fin k0_t55_loop.trips) : Fin 2 → Nat :=
  let c0_i32_151 : BitVec 32 := 0#32
  let c1_i32_153 : BitVec 32 := 1#32
  let arg17 : BitVec 32 := Scf.iv c0_i32_151 c1_i32_153 k0_t55
  let c16_i32_161 : BitVec 32 := 16#32
  let v346 : BitVec 32 := Scalar.muli arg17 c16_i32_161
  let c0_i32_162 : BitVec 32 := 0#32
  let v347 : BitVec 32 := Scalar.addi v346 c0_i32_162
  let v348 : Index := Scalar.indexCast v347
  let c16_163 : Index := 16#32
  ![v348.toNat, 16]
def k0_off468 (k0_t55 : Fin k0_t55_loop.trips) : Fin 2 → Nat :=
  let c0_i32_151 : BitVec 32 := 0#32
  let c1_i32_153 : BitVec 32 := 1#32
  let arg17 : BitVec 32 := Scf.iv c0_i32_151 c1_i32_153 k0_t55
  let c16_i32_166 : BitVec 32 := 16#32
  let v361 : BitVec 32 := Scalar.muli arg17 c16_i32_166
  let c0_i32_167 : BitVec 32 := 0#32
  let v362 : BitVec 32 := Scalar.addi v361 c0_i32_167
  let v363 : Index := Scalar.indexCast v362
  let c32_168 : Index := 32#32
  ![v363.toNat, 32]
def k0_off469 (k0_t55 : Fin k0_t55_loop.trips) : Fin 2 → Nat :=
  let c0_i32_151 : BitVec 32 := 0#32
  let c1_i32_153 : BitVec 32 := 1#32
  let arg17 : BitVec 32 := Scf.iv c0_i32_151 c1_i32_153 k0_t55
  let c16_i32_170 : BitVec 32 := 16#32
  let v376 : BitVec 32 := Scalar.muli arg17 c16_i32_170
  let c0_i32_171 : BitVec 32 := 0#32
  let v377 : BitVec 32 := Scalar.addi v376 c0_i32_171
  let v378 : Index := Scalar.indexCast v377
  let c48_172 : Index := 48#32
  ![v378.toNat, 48]
def k0_off470 (k0_t55 : Fin k0_t55_loop.trips) : Fin 2 → Nat :=
  let c0_i32_151 : BitVec 32 := 0#32
  let c1_i32_153 : BitVec 32 := 1#32
  let arg17 : BitVec 32 := Scf.iv c0_i32_151 c1_i32_153 k0_t55
  let c16_i32_174 : BitVec 32 := 16#32
  let v391 : BitVec 32 := Scalar.muli arg17 c16_i32_174
  let c0_i32_175 : BitVec 32 := 0#32
  let v392 : BitVec 32 := Scalar.addi v391 c0_i32_175
  let v393 : Index := Scalar.indexCast v392
  let c64_176 : Index := 64#32
  ![v393.toNat, 64]
def k0_off471 (k0_t55 : Fin k0_t55_loop.trips) : Fin 2 → Nat :=
  let c0_i32_151 : BitVec 32 := 0#32
  let c1_i32_153 : BitVec 32 := 1#32
  let arg17 : BitVec 32 := Scf.iv c0_i32_151 c1_i32_153 k0_t55
  let c16_i32_178 : BitVec 32 := 16#32
  let v406 : BitVec 32 := Scalar.muli arg17 c16_i32_178
  let c0_i32_179 : BitVec 32 := 0#32
  let v407 : BitVec 32 := Scalar.addi v406 c0_i32_179
  let v408 : Index := Scalar.indexCast v407
  let c80_180 : Index := 80#32
  ![v408.toNat, 80]
def k0_off472 (k0_t55 : Fin k0_t55_loop.trips) : Fin 2 → Nat :=
  let c0_i32_151 : BitVec 32 := 0#32
  let c1_i32_153 : BitVec 32 := 1#32
  let arg17 : BitVec 32 := Scf.iv c0_i32_151 c1_i32_153 k0_t55
  let c16_i32_182 : BitVec 32 := 16#32
  let v421 : BitVec 32 := Scalar.muli arg17 c16_i32_182
  let c0_i32_183 : BitVec 32 := 0#32
  let v422 : BitVec 32 := Scalar.addi v421 c0_i32_183
  let v423 : Index := Scalar.indexCast v422
  let c96_184 : Index := 96#32
  ![v423.toNat, 96]
def k0_off473 (k0_t55 : Fin k0_t55_loop.trips) : Fin 2 → Nat :=
  let c0_i32_151 : BitVec 32 := 0#32
  let c1_i32_153 : BitVec 32 := 1#32
  let arg17 : BitVec 32 := Scf.iv c0_i32_151 c1_i32_153 k0_t55
  let c16_i32_186 : BitVec 32 := 16#32
  let v436 : BitVec 32 := Scalar.muli arg17 c16_i32_186
  let c0_i32_187 : BitVec 32 := 0#32
  let v437 : BitVec 32 := Scalar.addi v436 c0_i32_187
  let v438 : Index := Scalar.indexCast v437
  let c112_188 : Index := 112#32
  ![v438.toNat, 112]
@[reducible] def k0_t56_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off474 (i : grid0.Coords) (k0_t36 : Fin (k0_t36_loop i).trips) (v323 : BitVec 32) (k0_t56 : Fin k0_t56_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t56
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond59 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_105 : BitVec 32 := 16#32
  let v238 : BitVec 32 := Scalar.muli arg16 c16_i32_105
  let c1_i32_106 : BitVec 32 := 1#32
  let v239 : BitVec 32 := Scalar.addi v238 c1_i32_106
  let v240 : BitVec 1 := Scalar.cmpi .slt v239 v103
  let v241 : BitVec 32 := Scalar.extui v240
  let c0_i32_107 : BitVec 32 := 0#32
  let v242 : BitVec 1 := Scalar.cmpi .ne v241 c0_i32_107
  v242

def k0_chk54 (i : grid0.Coords) (k0_t36 : Fin (k0_t36_loop i).trips) (v89 : BitVec 32) (v102 : BitVec 32) (k0_t54 : Fin (k0_t54_loop v89 v102).trips) (v323 : BitVec 32) : Prop :=
  (∀ k0_t56 : Fin k0_t56_loop.trips, ∀ (k0_h59 : k0_cond59 v89 v102 k0_t54 = 1#1), ∀ (r : Fin 8), ∀ a, (k0_off474 i k0_t36 v323 k0_t56 (BitVec.ofNat 32 (16 * r.val))) a + S1x1x16.size a ≤ S2x32x1024.size a)
theorem k0_off474_inb : ∀ (i : grid0.Coords) (k0_t36 : Fin (k0_t36_loop i).trips) (v89 : BitVec 32) (v102 : BitVec 32) (k0_t54 : Fin (k0_t54_loop v89 v102).trips) (v323 : BitVec 32) (k0_hw54 : k0_chk54 i k0_t36 v89 v102 k0_t54 v323) (k0_t56 : Fin k0_t56_loop.trips), ∀ (k0_h59 : k0_cond59 v89 v102 k0_t54 = 1#1), ∀ (r : Fin 8), ∀ a, (k0_off474 i k0_t36 v323 k0_t56 (BitVec.ofNat 32 (16 * r.val))) a + S1x1x16.size a ≤ S2x32x1024.size a := fun i k0_t36 v89 v102 k0_t54 v323 k0_hw54 k0_t56 k0_h59 r => k0_hw54 k0_t56 k0_h59 r

def k0_off475 (k0_t56 : Fin k0_t56_loop.trips) : Fin 2 → Nat :=
  let c0_i32_151 : BitVec 32 := 0#32
  let c1_i32_153 : BitVec 32 := 1#32
  let arg17 : BitVec 32 := Scf.iv c0_i32_151 c1_i32_153 k0_t56
  let c16_i32_156 : BitVec 32 := 16#32
  let v331 : BitVec 32 := Scalar.muli arg17 c16_i32_156
  let c1_i32_157 : BitVec 32 := 1#32
  let v332 : BitVec 32 := Scalar.addi v331 c1_i32_157
  let v333 : Index := Scalar.indexCast v332
  let c0_158 : Index := 0#32
  ![v333.toNat, 0]
def k0_off476 (k0_t56 : Fin k0_t56_loop.trips) : Fin 2 → Nat :=
  let c0_i32_151 : BitVec 32 := 0#32
  let c1_i32_153 : BitVec 32 := 1#32
  let arg17 : BitVec 32 := Scf.iv c0_i32_151 c1_i32_153 k0_t56
  let c16_i32_161 : BitVec 32 := 16#32
  let v346 : BitVec 32 := Scalar.muli arg17 c16_i32_161
  let c1_i32_162 : BitVec 32 := 1#32
  let v347 : BitVec 32 := Scalar.addi v346 c1_i32_162
  let v348 : Index := Scalar.indexCast v347
  let c16_163 : Index := 16#32
  ![v348.toNat, 16]
def k0_off477 (k0_t56 : Fin k0_t56_loop.trips) : Fin 2 → Nat :=
  let c0_i32_151 : BitVec 32 := 0#32
  let c1_i32_153 : BitVec 32 := 1#32
  let arg17 : BitVec 32 := Scf.iv c0_i32_151 c1_i32_153 k0_t56
  let c16_i32_166 : BitVec 32 := 16#32
  let v361 : BitVec 32 := Scalar.muli arg17 c16_i32_166
  let c1_i32_167 : BitVec 32 := 1#32
  let v362 : BitVec 32 := Scalar.addi v361 c1_i32_167
  let v363 : Index := Scalar.indexCast v362
  let c32_168 : Index := 32#32
  ![v363.toNat, 32]
def k0_off478 (k0_t56 : Fin k0_t56_loop.trips) : Fin 2 → Nat :=
  let c0_i32_151 : BitVec 32 := 0#32
  let c1_i32_153 : BitVec 32 := 1#32
  let arg17 : BitVec 32 := Scf.iv c0_i32_151 c1_i32_153 k0_t56
  let c16_i32_170 : BitVec 32 := 16#32
  let v376 : BitVec 32 := Scalar.muli arg17 c16_i32_170
  let c1_i32_171 : BitVec 32 := 1#32
  let v377 : BitVec 32 := Scalar.addi v376 c1_i32_171
  let v378 : Index := Scalar.indexCast v377
  let c48_172 : Index := 48#32
  ![v378.toNat, 48]
def k0_off479 (k0_t56 : Fin k0_t56_loop.trips) : Fin 2 → Nat :=
  let c0_i32_151 : BitVec 32 := 0#32
  let c1_i32_153 : BitVec 32 := 1#32
  let arg17 : BitVec 32 := Scf.iv c0_i32_151 c1_i32_153 k0_t56
  let c16_i32_174 : BitVec 32 := 16#32
  let v391 : BitVec 32 := Scalar.muli arg17 c16_i32_174
  let c1_i32_175 : BitVec 32 := 1#32
  let v392 : BitVec 32 := Scalar.addi v391 c1_i32_175
  let v393 : Index := Scalar.indexCast v392
  let c64_176 : Index := 64#32
  ![v393.toNat, 64]
def k0_off480 (k0_t56 : Fin k0_t56_loop.trips) : Fin 2 → Nat :=
  let c0_i32_151 : BitVec 32 := 0#32
  let c1_i32_153 : BitVec 32 := 1#32
  let arg17 : BitVec 32 := Scf.iv c0_i32_151 c1_i32_153 k0_t56
  let c16_i32_178 : BitVec 32 := 16#32
  let v406 : BitVec 32 := Scalar.muli arg17 c16_i32_178
  let c1_i32_179 : BitVec 32 := 1#32
  let v407 : BitVec 32 := Scalar.addi v406 c1_i32_179
  let v408 : Index := Scalar.indexCast v407
  let c80_180 : Index := 80#32
  ![v408.toNat, 80]
def k0_off481 (k0_t56 : Fin k0_t56_loop.trips) : Fin 2 → Nat :=
  let c0_i32_151 : BitVec 32 := 0#32
  let c1_i32_153 : BitVec 32 := 1#32
  let arg17 : BitVec 32 := Scf.iv c0_i32_151 c1_i32_153 k0_t56
  let c16_i32_182 : BitVec 32 := 16#32
  let v421 : BitVec 32 := Scalar.muli arg17 c16_i32_182
  let c1_i32_183 : BitVec 32 := 1#32
  let v422 : BitVec 32 := Scalar.addi v421 c1_i32_183
  let v423 : Index := Scalar.indexCast v422
  let c96_184 : Index := 96#32
  ![v423.toNat, 96]
def k0_off482 (k0_t56 : Fin k0_t56_loop.trips) : Fin 2 → Nat :=
  let c0_i32_151 : BitVec 32 := 0#32
  let c1_i32_153 : BitVec 32 := 1#32
  let arg17 : BitVec 32 := Scf.iv c0_i32_151 c1_i32_153 k0_t56
  let c16_i32_186 : BitVec 32 := 16#32
  let v436 : BitVec 32 := Scalar.muli arg17 c16_i32_186
  let c1_i32_187 : BitVec 32 := 1#32
  let v437 : BitVec 32 := Scalar.addi v436 c1_i32_187
  let v438 : Index := Scalar.indexCast v437
  let c112_188 : Index := 112#32
  ![v438.toNat, 112]
@[reducible] def k0_t57_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off483 (i : grid0.Coords) (k0_t36 : Fin (k0_t36_loop i).trips) (v323 : BitVec 32) (k0_t57 : Fin k0_t57_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t57
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond60 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_108 : BitVec 32 := 16#32
  let v243 : BitVec 32 := Scalar.muli arg16 c16_i32_108
  let c2_i32_109 : BitVec 32 := 2#32
  let v244 : BitVec 32 := Scalar.addi v243 c2_i32_109
  let v245 : BitVec 1 := Scalar.cmpi .slt v244 v103
  let v246 : BitVec 32 := Scalar.extui v245
  let c0_i32_110 : BitVec 32 := 0#32
  let v247 : BitVec 1 := Scalar.cmpi .ne v246 c0_i32_110
  v247

def k0_chk55 (i : grid0.Coords) (k0_t36 : Fin (k0_t36_loop i).trips) (v89 : BitVec 32) (v102 : BitVec 32) (k0_t54 : Fin (k0_t54_loop v89 v102).trips) (v323 : BitVec 32) : Prop :=
  (∀ k0_t57 : Fin k0_t57_loop.trips, ∀ (k0_h60 : k0_cond60 v89 v102 k0_t54 = 1#1), ∀ (r : Fin 8), ∀ a, (k0_off483 i k0_t36 v323 k0_t57 (BitVec.ofNat 32 (16 * r.val))) a + S1x1x16.size a ≤ S2x32x1024.size a)
theorem k0_off483_inb : ∀ (i : grid0.Coords) (k0_t36 : Fin (k0_t36_loop i).trips) (v89 : BitVec 32) (v102 : BitVec 32) (k0_t54 : Fin (k0_t54_loop v89 v102).trips) (v323 : BitVec 32) (k0_hw55 : k0_chk55 i k0_t36 v89 v102 k0_t54 v323) (k0_t57 : Fin k0_t57_loop.trips), ∀ (k0_h60 : k0_cond60 v89 v102 k0_t54 = 1#1), ∀ (r : Fin 8), ∀ a, (k0_off483 i k0_t36 v323 k0_t57 (BitVec.ofNat 32 (16 * r.val))) a + S1x1x16.size a ≤ S2x32x1024.size a := fun i k0_t36 v89 v102 k0_t54 v323 k0_hw55 k0_t57 k0_h60 r => k0_hw55 k0_t57 k0_h60 r

def k0_off484 (k0_t57 : Fin k0_t57_loop.trips) : Fin 2 → Nat :=
  let c0_i32_151 : BitVec 32 := 0#32
  let c1_i32_153 : BitVec 32 := 1#32
  let arg17 : BitVec 32 := Scf.iv c0_i32_151 c1_i32_153 k0_t57
  let c16_i32_156 : BitVec 32 := 16#32
  let v331 : BitVec 32 := Scalar.muli arg17 c16_i32_156
  let c2_i32_157 : BitVec 32 := 2#32
  let v332 : BitVec 32 := Scalar.addi v331 c2_i32_157
  let v333 : Index := Scalar.indexCast v332
  let c0_158 : Index := 0#32
  ![v333.toNat, 0]
def k0_off485 (k0_t57 : Fin k0_t57_loop.trips) : Fin 2 → Nat :=
  let c0_i32_151 : BitVec 32 := 0#32
  let c1_i32_153 : BitVec 32 := 1#32
  let arg17 : BitVec 32 := Scf.iv c0_i32_151 c1_i32_153 k0_t57
  let c16_i32_161 : BitVec 32 := 16#32
  let v346 : BitVec 32 := Scalar.muli arg17 c16_i32_161
  let c2_i32_162 : BitVec 32 := 2#32
  let v347 : BitVec 32 := Scalar.addi v346 c2_i32_162
  let v348 : Index := Scalar.indexCast v347
  let c16_163 : Index := 16#32
  ![v348.toNat, 16]
def k0_off486 (k0_t57 : Fin k0_t57_loop.trips) : Fin 2 → Nat :=
  let c0_i32_151 : BitVec 32 := 0#32
  let c1_i32_153 : BitVec 32 := 1#32
  let arg17 : BitVec 32 := Scf.iv c0_i32_151 c1_i32_153 k0_t57
  let c16_i32_166 : BitVec 32 := 16#32
  let v361 : BitVec 32 := Scalar.muli arg17 c16_i32_166
  let c2_i32_167 : BitVec 32 := 2#32
  let v362 : BitVec 32 := Scalar.addi v361 c2_i32_167
  let v363 : Index := Scalar.indexCast v362
  let c32_168 : Index := 32#32
  ![v363.toNat, 32]
def k0_off487 (k0_t57 : Fin k0_t57_loop.trips) : Fin 2 → Nat :=
  let c0_i32_151 : BitVec 32 := 0#32
  let c1_i32_153 : BitVec 32 := 1#32
  let arg17 : BitVec 32 := Scf.iv c0_i32_151 c1_i32_153 k0_t57
  let c16_i32_170 : BitVec 32 := 16#32
  let v376 : BitVec 32 := Scalar.muli arg17 c16_i32_170
  let c2_i32_171 : BitVec 32 := 2#32
  let v377 : BitVec 32 := Scalar.addi v376 c2_i32_171
  let v378 : Index := Scalar.indexCast v377
  let c48_172 : Index := 48#32
  ![v378.toNat, 48]
def k0_off488 (k0_t57 : Fin k0_t57_loop.trips) : Fin 2 → Nat :=
  let c0_i32_151 : BitVec 32 := 0#32
  let c1_i32_153 : BitVec 32 := 1#32
  let arg17 : BitVec 32 := Scf.iv c0_i32_151 c1_i32_153 k0_t57
  let c16_i32_174 : BitVec 32 := 16#32
  let v391 : BitVec 32 := Scalar.muli arg17 c16_i32_174
  let c2_i32_175 : BitVec 32 := 2#32
  let v392 : BitVec 32 := Scalar.addi v391 c2_i32_175
  let v393 : Index := Scalar.indexCast v392
  let c64_176 : Index := 64#32
  ![v393.toNat, 64]
def k0_off489 (k0_t57 : Fin k0_t57_loop.trips) : Fin 2 → Nat :=
  let c0_i32_151 : BitVec 32 := 0#32
  let c1_i32_153 : BitVec 32 := 1#32
  let arg17 : BitVec 32 := Scf.iv c0_i32_151 c1_i32_153 k0_t57
  let c16_i32_178 : BitVec 32 := 16#32
  let v406 : BitVec 32 := Scalar.muli arg17 c16_i32_178
  let c2_i32_179 : BitVec 32 := 2#32
  let v407 : BitVec 32 := Scalar.addi v406 c2_i32_179
  let v408 : Index := Scalar.indexCast v407
  let c80_180 : Index := 80#32
  ![v408.toNat, 80]
def k0_off490 (k0_t57 : Fin k0_t57_loop.trips) : Fin 2 → Nat :=
  let c0_i32_151 : BitVec 32 := 0#32
  let c1_i32_153 : BitVec 32 := 1#32
  let arg17 : BitVec 32 := Scf.iv c0_i32_151 c1_i32_153 k0_t57
  let c16_i32_182 : BitVec 32 := 16#32
  let v421 : BitVec 32 := Scalar.muli arg17 c16_i32_182
  let c2_i32_183 : BitVec 32 := 2#32
  let v422 : BitVec 32 := Scalar.addi v421 c2_i32_183
  let v423 : Index := Scalar.indexCast v422
  let c96_184 : Index := 96#32
  ![v423.toNat, 96]
def k0_off491 (k0_t57 : Fin k0_t57_loop.trips) : Fin 2 → Nat :=
  let c0_i32_151 : BitVec 32 := 0#32
  let c1_i32_153 : BitVec 32 := 1#32
  let arg17 : BitVec 32 := Scf.iv c0_i32_151 c1_i32_153 k0_t57
  let c16_i32_186 : BitVec 32 := 16#32
  let v436 : BitVec 32 := Scalar.muli arg17 c16_i32_186
  let c2_i32_187 : BitVec 32 := 2#32
  let v437 : BitVec 32 := Scalar.addi v436 c2_i32_187
  let v438 : Index := Scalar.indexCast v437
  let c112_188 : Index := 112#32
  ![v438.toNat, 112]
@[reducible] def k0_t58_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off492 (i : grid0.Coords) (k0_t36 : Fin (k0_t36_loop i).trips) (v323 : BitVec 32) (k0_t58 : Fin k0_t58_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t58
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond61 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_111 : BitVec 32 := 16#32
  let v248 : BitVec 32 := Scalar.muli arg16 c16_i32_111
  let c3_i32_112 : BitVec 32 := 3#32
  let v249 : BitVec 32 := Scalar.addi v248 c3_i32_112
  let v250 : BitVec 1 := Scalar.cmpi .slt v249 v103
  let v251 : BitVec 32 := Scalar.extui v250
  let c0_i32_113 : BitVec 32 := 0#32
  let v252 : BitVec 1 := Scalar.cmpi .ne v251 c0_i32_113
  v252

def k0_chk56 (i : grid0.Coords) (k0_t36 : Fin (k0_t36_loop i).trips) (v89 : BitVec 32) (v102 : BitVec 32) (k0_t54 : Fin (k0_t54_loop v89 v102).trips) (v323 : BitVec 32) : Prop :=
  (∀ k0_t58 : Fin k0_t58_loop.trips, ∀ (k0_h61 : k0_cond61 v89 v102 k0_t54 = 1#1), ∀ (r : Fin 8), ∀ a, (k0_off492 i k0_t36 v323 k0_t58 (BitVec.ofNat 32 (16 * r.val))) a + S1x1x16.size a ≤ S2x32x1024.size a)
theorem k0_off492_inb : ∀ (i : grid0.Coords) (k0_t36 : Fin (k0_t36_loop i).trips) (v89 : BitVec 32) (v102 : BitVec 32) (k0_t54 : Fin (k0_t54_loop v89 v102).trips) (v323 : BitVec 32) (k0_hw56 : k0_chk56 i k0_t36 v89 v102 k0_t54 v323) (k0_t58 : Fin k0_t58_loop.trips), ∀ (k0_h61 : k0_cond61 v89 v102 k0_t54 = 1#1), ∀ (r : Fin 8), ∀ a, (k0_off492 i k0_t36 v323 k0_t58 (BitVec.ofNat 32 (16 * r.val))) a + S1x1x16.size a ≤ S2x32x1024.size a := fun i k0_t36 v89 v102 k0_t54 v323 k0_hw56 k0_t58 k0_h61 r => k0_hw56 k0_t58 k0_h61 r

def k0_off493 (k0_t58 : Fin k0_t58_loop.trips) : Fin 2 → Nat :=
  let c0_i32_151 : BitVec 32 := 0#32
  let c1_i32_153 : BitVec 32 := 1#32
  let arg17 : BitVec 32 := Scf.iv c0_i32_151 c1_i32_153 k0_t58
  let c16_i32_156 : BitVec 32 := 16#32
  let v331 : BitVec 32 := Scalar.muli arg17 c16_i32_156
  let c3_i32_157 : BitVec 32 := 3#32
  let v332 : BitVec 32 := Scalar.addi v331 c3_i32_157
  let v333 : Index := Scalar.indexCast v332
  let c0_158 : Index := 0#32
  ![v333.toNat, 0]
def k0_off494 (k0_t58 : Fin k0_t58_loop.trips) : Fin 2 → Nat :=
  let c0_i32_151 : BitVec 32 := 0#32
  let c1_i32_153 : BitVec 32 := 1#32
  let arg17 : BitVec 32 := Scf.iv c0_i32_151 c1_i32_153 k0_t58
  let c16_i32_161 : BitVec 32 := 16#32
  let v346 : BitVec 32 := Scalar.muli arg17 c16_i32_161
  let c3_i32_162 : BitVec 32 := 3#32
  let v347 : BitVec 32 := Scalar.addi v346 c3_i32_162
  let v348 : Index := Scalar.indexCast v347
  let c16_163 : Index := 16#32
  ![v348.toNat, 16]
def k0_off495 (k0_t58 : Fin k0_t58_loop.trips) : Fin 2 → Nat :=
  let c0_i32_151 : BitVec 32 := 0#32
  let c1_i32_153 : BitVec 32 := 1#32
  let arg17 : BitVec 32 := Scf.iv c0_i32_151 c1_i32_153 k0_t58
  let c16_i32_166 : BitVec 32 := 16#32
  let v361 : BitVec 32 := Scalar.muli arg17 c16_i32_166
  let c3_i32_167 : BitVec 32 := 3#32
  let v362 : BitVec 32 := Scalar.addi v361 c3_i32_167
  let v363 : Index := Scalar.indexCast v362
  let c32_168 : Index := 32#32
  ![v363.toNat, 32]
def k0_off496 (k0_t58 : Fin k0_t58_loop.trips) : Fin 2 → Nat :=
  let c0_i32_151 : BitVec 32 := 0#32
  let c1_i32_153 : BitVec 32 := 1#32
  let arg17 : BitVec 32 := Scf.iv c0_i32_151 c1_i32_153 k0_t58
  let c16_i32_170 : BitVec 32 := 16#32
  let v376 : BitVec 32 := Scalar.muli arg17 c16_i32_170
  let c3_i32_171 : BitVec 32 := 3#32
  let v377 : BitVec 32 := Scalar.addi v376 c3_i32_171
  let v378 : Index := Scalar.indexCast v377
  let c48_172 : Index := 48#32
  ![v378.toNat, 48]
def k0_off497 (k0_t58 : Fin k0_t58_loop.trips) : Fin 2 → Nat :=
  let c0_i32_151 : BitVec 32 := 0#32
  let c1_i32_153 : BitVec 32 := 1#32
  let arg17 : BitVec 32 := Scf.iv c0_i32_151 c1_i32_153 k0_t58
  let c16_i32_174 : BitVec 32 := 16#32
  let v391 : BitVec 32 := Scalar.muli arg17 c16_i32_174
  let c3_i32_175 : BitVec 32 := 3#32
  let v392 : BitVec 32 := Scalar.addi v391 c3_i32_175
  let v393 : Index := Scalar.indexCast v392
  let c64_176 : Index := 64#32
  ![v393.toNat, 64]
def k0_off498 (k0_t58 : Fin k0_t58_loop.trips) : Fin 2 → Nat :=
  let c0_i32_151 : BitVec 32 := 0#32
  let c1_i32_153 : BitVec 32 := 1#32
  let arg17 : BitVec 32 := Scf.iv c0_i32_151 c1_i32_153 k0_t58
  let c16_i32_178 : BitVec 32 := 16#32
  let v406 : BitVec 32 := Scalar.muli arg17 c16_i32_178
  let c3_i32_179 : BitVec 32 := 3#32
  let v407 : BitVec 32 := Scalar.addi v406 c3_i32_179
  let v408 : Index := Scalar.indexCast v407
  let c80_180 : Index := 80#32
  ![v408.toNat, 80]
def k0_off499 (k0_t58 : Fin k0_t58_loop.trips) : Fin 2 → Nat :=
  let c0_i32_151 : BitVec 32 := 0#32
  let c1_i32_153 : BitVec 32 := 1#32
  let arg17 : BitVec 32 := Scf.iv c0_i32_151 c1_i32_153 k0_t58
  let c16_i32_182 : BitVec 32 := 16#32
  let v421 : BitVec 32 := Scalar.muli arg17 c16_i32_182
  let c3_i32_183 : BitVec 32 := 3#32
  let v422 : BitVec 32 := Scalar.addi v421 c3_i32_183
  let v423 : Index := Scalar.indexCast v422
  let c96_184 : Index := 96#32
  ![v423.toNat, 96]
def k0_off500 (k0_t58 : Fin k0_t58_loop.trips) : Fin 2 → Nat :=
  let c0_i32_151 : BitVec 32 := 0#32
  let c1_i32_153 : BitVec 32 := 1#32
  let arg17 : BitVec 32 := Scf.iv c0_i32_151 c1_i32_153 k0_t58
  let c16_i32_186 : BitVec 32 := 16#32
  let v436 : BitVec 32 := Scalar.muli arg17 c16_i32_186
  let c3_i32_187 : BitVec 32 := 3#32
  let v437 : BitVec 32 := Scalar.addi v436 c3_i32_187
  let v438 : Index := Scalar.indexCast v437
  let c112_188 : Index := 112#32
  ![v438.toNat, 112]
@[reducible] def k0_t59_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off501 (i : grid0.Coords) (k0_t36 : Fin (k0_t36_loop i).trips) (v323 : BitVec 32) (k0_t59 : Fin k0_t59_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t59
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond62 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_114 : BitVec 32 := 16#32
  let v253 : BitVec 32 := Scalar.muli arg16 c16_i32_114
  let c4_i32_115 : BitVec 32 := 4#32
  let v254 : BitVec 32 := Scalar.addi v253 c4_i32_115
  let v255 : BitVec 1 := Scalar.cmpi .slt v254 v103
  let v256 : BitVec 32 := Scalar.extui v255
  let c0_i32_116 : BitVec 32 := 0#32
  let v257 : BitVec 1 := Scalar.cmpi .ne v256 c0_i32_116
  v257

def k0_chk57 (i : grid0.Coords) (k0_t36 : Fin (k0_t36_loop i).trips) (v89 : BitVec 32) (v102 : BitVec 32) (k0_t54 : Fin (k0_t54_loop v89 v102).trips) (v323 : BitVec 32) : Prop :=
  (∀ k0_t59 : Fin k0_t59_loop.trips, ∀ (k0_h62 : k0_cond62 v89 v102 k0_t54 = 1#1), ∀ (r : Fin 8), ∀ a, (k0_off501 i k0_t36 v323 k0_t59 (BitVec.ofNat 32 (16 * r.val))) a + S1x1x16.size a ≤ S2x32x1024.size a)
theorem k0_off501_inb : ∀ (i : grid0.Coords) (k0_t36 : Fin (k0_t36_loop i).trips) (v89 : BitVec 32) (v102 : BitVec 32) (k0_t54 : Fin (k0_t54_loop v89 v102).trips) (v323 : BitVec 32) (k0_hw57 : k0_chk57 i k0_t36 v89 v102 k0_t54 v323) (k0_t59 : Fin k0_t59_loop.trips), ∀ (k0_h62 : k0_cond62 v89 v102 k0_t54 = 1#1), ∀ (r : Fin 8), ∀ a, (k0_off501 i k0_t36 v323 k0_t59 (BitVec.ofNat 32 (16 * r.val))) a + S1x1x16.size a ≤ S2x32x1024.size a := fun i k0_t36 v89 v102 k0_t54 v323 k0_hw57 k0_t59 k0_h62 r => k0_hw57 k0_t59 k0_h62 r

def k0_off502 (k0_t59 : Fin k0_t59_loop.trips) : Fin 2 → Nat :=
  let c0_i32_151 : BitVec 32 := 0#32
  let c1_i32_153 : BitVec 32 := 1#32
  let arg17 : BitVec 32 := Scf.iv c0_i32_151 c1_i32_153 k0_t59
  let c16_i32_156 : BitVec 32 := 16#32
  let v331 : BitVec 32 := Scalar.muli arg17 c16_i32_156
  let c4_i32_157 : BitVec 32 := 4#32
  let v332 : BitVec 32 := Scalar.addi v331 c4_i32_157
  let v333 : Index := Scalar.indexCast v332
  let c0_158 : Index := 0#32
  ![v333.toNat, 0]
def k0_off503 (k0_t59 : Fin k0_t59_loop.trips) : Fin 2 → Nat :=
  let c0_i32_151 : BitVec 32 := 0#32
  let c1_i32_153 : BitVec 32 := 1#32
  let arg17 : BitVec 32 := Scf.iv c0_i32_151 c1_i32_153 k0_t59
  let c16_i32_161 : BitVec 32 := 16#32
  let v346 : BitVec 32 := Scalar.muli arg17 c16_i32_161
  let c4_i32_162 : BitVec 32 := 4#32
  let v347 : BitVec 32 := Scalar.addi v346 c4_i32_162
  let v348 : Index := Scalar.indexCast v347
  let c16_163 : Index := 16#32
  ![v348.toNat, 16]
def k0_off504 (k0_t59 : Fin k0_t59_loop.trips) : Fin 2 → Nat :=
  let c0_i32_151 : BitVec 32 := 0#32
  let c1_i32_153 : BitVec 32 := 1#32
  let arg17 : BitVec 32 := Scf.iv c0_i32_151 c1_i32_153 k0_t59
  let c16_i32_166 : BitVec 32 := 16#32
  let v361 : BitVec 32 := Scalar.muli arg17 c16_i32_166
  let c4_i32_167 : BitVec 32 := 4#32
  let v362 : BitVec 32 := Scalar.addi v361 c4_i32_167
  let v363 : Index := Scalar.indexCast v362
  let c32_168 : Index := 32#32
  ![v363.toNat, 32]
def k0_off505 (k0_t59 : Fin k0_t59_loop.trips) : Fin 2 → Nat :=
  let c0_i32_151 : BitVec 32 := 0#32
  let c1_i32_153 : BitVec 32 := 1#32
  let arg17 : BitVec 32 := Scf.iv c0_i32_151 c1_i32_153 k0_t59
  let c16_i32_170 : BitVec 32 := 16#32
  let v376 : BitVec 32 := Scalar.muli arg17 c16_i32_170
  let c4_i32_171 : BitVec 32 := 4#32
  let v377 : BitVec 32 := Scalar.addi v376 c4_i32_171
  let v378 : Index := Scalar.indexCast v377
  let c48_172 : Index := 48#32
  ![v378.toNat, 48]
def k0_off506 (k0_t59 : Fin k0_t59_loop.trips) : Fin 2 → Nat :=
  let c0_i32_151 : BitVec 32 := 0#32
  let c1_i32_153 : BitVec 32 := 1#32
  let arg17 : BitVec 32 := Scf.iv c0_i32_151 c1_i32_153 k0_t59
  let c16_i32_174 : BitVec 32 := 16#32
  let v391 : BitVec 32 := Scalar.muli arg17 c16_i32_174
  let c4_i32_175 : BitVec 32 := 4#32
  let v392 : BitVec 32 := Scalar.addi v391 c4_i32_175
  let v393 : Index := Scalar.indexCast v392
  let c64_176 : Index := 64#32
  ![v393.toNat, 64]
def k0_off507 (k0_t59 : Fin k0_t59_loop.trips) : Fin 2 → Nat :=
  let c0_i32_151 : BitVec 32 := 0#32
  let c1_i32_153 : BitVec 32 := 1#32
  let arg17 : BitVec 32 := Scf.iv c0_i32_151 c1_i32_153 k0_t59
  let c16_i32_178 : BitVec 32 := 16#32
  let v406 : BitVec 32 := Scalar.muli arg17 c16_i32_178
  let c4_i32_179 : BitVec 32 := 4#32
  let v407 : BitVec 32 := Scalar.addi v406 c4_i32_179
  let v408 : Index := Scalar.indexCast v407
  let c80_180 : Index := 80#32
  ![v408.toNat, 80]
def k0_off508 (k0_t59 : Fin k0_t59_loop.trips) : Fin 2 → Nat :=
  let c0_i32_151 : BitVec 32 := 0#32
  let c1_i32_153 : BitVec 32 := 1#32
  let arg17 : BitVec 32 := Scf.iv c0_i32_151 c1_i32_153 k0_t59
  let c16_i32_182 : BitVec 32 := 16#32
  let v421 : BitVec 32 := Scalar.muli arg17 c16_i32_182
  let c4_i32_183 : BitVec 32 := 4#32
  let v422 : BitVec 32 := Scalar.addi v421 c4_i32_183
  let v423 : Index := Scalar.indexCast v422
  let c96_184 : Index := 96#32
  ![v423.toNat, 96]
def k0_off509 (k0_t59 : Fin k0_t59_loop.trips) : Fin 2 → Nat :=
  let c0_i32_151 : BitVec 32 := 0#32
  let c1_i32_153 : BitVec 32 := 1#32
  let arg17 : BitVec 32 := Scf.iv c0_i32_151 c1_i32_153 k0_t59
  let c16_i32_186 : BitVec 32 := 16#32
  let v436 : BitVec 32 := Scalar.muli arg17 c16_i32_186
  let c4_i32_187 : BitVec 32 := 4#32
  let v437 : BitVec 32 := Scalar.addi v436 c4_i32_187
  let v438 : Index := Scalar.indexCast v437
  let c112_188 : Index := 112#32
  ![v438.toNat, 112]
@[reducible] def k0_t60_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off510 (i : grid0.Coords) (k0_t36 : Fin (k0_t36_loop i).trips) (v323 : BitVec 32) (k0_t60 : Fin k0_t60_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t60
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond63 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_117 : BitVec 32 := 16#32
  let v258 : BitVec 32 := Scalar.muli arg16 c16_i32_117
  let c5_i32_118 : BitVec 32 := 5#32
  let v259 : BitVec 32 := Scalar.addi v258 c5_i32_118
  let v260 : BitVec 1 := Scalar.cmpi .slt v259 v103
  let v261 : BitVec 32 := Scalar.extui v260
  let c0_i32_119 : BitVec 32 := 0#32
  let v262 : BitVec 1 := Scalar.cmpi .ne v261 c0_i32_119
  v262

def k0_chk58 (i : grid0.Coords) (k0_t36 : Fin (k0_t36_loop i).trips) (v89 : BitVec 32) (v102 : BitVec 32) (k0_t54 : Fin (k0_t54_loop v89 v102).trips) (v323 : BitVec 32) : Prop :=
  (∀ k0_t60 : Fin k0_t60_loop.trips, ∀ (k0_h63 : k0_cond63 v89 v102 k0_t54 = 1#1), ∀ (r : Fin 8), ∀ a, (k0_off510 i k0_t36 v323 k0_t60 (BitVec.ofNat 32 (16 * r.val))) a + S1x1x16.size a ≤ S2x32x1024.size a)
theorem k0_off510_inb : ∀ (i : grid0.Coords) (k0_t36 : Fin (k0_t36_loop i).trips) (v89 : BitVec 32) (v102 : BitVec 32) (k0_t54 : Fin (k0_t54_loop v89 v102).trips) (v323 : BitVec 32) (k0_hw58 : k0_chk58 i k0_t36 v89 v102 k0_t54 v323) (k0_t60 : Fin k0_t60_loop.trips), ∀ (k0_h63 : k0_cond63 v89 v102 k0_t54 = 1#1), ∀ (r : Fin 8), ∀ a, (k0_off510 i k0_t36 v323 k0_t60 (BitVec.ofNat 32 (16 * r.val))) a + S1x1x16.size a ≤ S2x32x1024.size a := fun i k0_t36 v89 v102 k0_t54 v323 k0_hw58 k0_t60 k0_h63 r => k0_hw58 k0_t60 k0_h63 r

def k0_off511 (k0_t60 : Fin k0_t60_loop.trips) : Fin 2 → Nat :=
  let c0_i32_151 : BitVec 32 := 0#32
  let c1_i32_153 : BitVec 32 := 1#32
  let arg17 : BitVec 32 := Scf.iv c0_i32_151 c1_i32_153 k0_t60
  let c16_i32_156 : BitVec 32 := 16#32
  let v331 : BitVec 32 := Scalar.muli arg17 c16_i32_156
  let c5_i32_157 : BitVec 32 := 5#32
  let v332 : BitVec 32 := Scalar.addi v331 c5_i32_157
  let v333 : Index := Scalar.indexCast v332
  let c0_158 : Index := 0#32
  ![v333.toNat, 0]
def k0_off512 (k0_t60 : Fin k0_t60_loop.trips) : Fin 2 → Nat :=
  let c0_i32_151 : BitVec 32 := 0#32
  let c1_i32_153 : BitVec 32 := 1#32
  let arg17 : BitVec 32 := Scf.iv c0_i32_151 c1_i32_153 k0_t60
  let c16_i32_161 : BitVec 32 := 16#32
  let v346 : BitVec 32 := Scalar.muli arg17 c16_i32_161
  let c5_i32_162 : BitVec 32 := 5#32
  let v347 : BitVec 32 := Scalar.addi v346 c5_i32_162
  let v348 : Index := Scalar.indexCast v347
  let c16_163 : Index := 16#32
  ![v348.toNat, 16]
def k0_off513 (k0_t60 : Fin k0_t60_loop.trips) : Fin 2 → Nat :=
  let c0_i32_151 : BitVec 32 := 0#32
  let c1_i32_153 : BitVec 32 := 1#32
  let arg17 : BitVec 32 := Scf.iv c0_i32_151 c1_i32_153 k0_t60
  let c16_i32_166 : BitVec 32 := 16#32
  let v361 : BitVec 32 := Scalar.muli arg17 c16_i32_166
  let c5_i32_167 : BitVec 32 := 5#32
  let v362 : BitVec 32 := Scalar.addi v361 c5_i32_167
  let v363 : Index := Scalar.indexCast v362
  let c32_168 : Index := 32#32
  ![v363.toNat, 32]
def k0_off514 (k0_t60 : Fin k0_t60_loop.trips) : Fin 2 → Nat :=
  let c0_i32_151 : BitVec 32 := 0#32
  let c1_i32_153 : BitVec 32 := 1#32
  let arg17 : BitVec 32 := Scf.iv c0_i32_151 c1_i32_153 k0_t60
  let c16_i32_170 : BitVec 32 := 16#32
  let v376 : BitVec 32 := Scalar.muli arg17 c16_i32_170
  let c5_i32_171 : BitVec 32 := 5#32
  let v377 : BitVec 32 := Scalar.addi v376 c5_i32_171
  let v378 : Index := Scalar.indexCast v377
  let c48_172 : Index := 48#32
  ![v378.toNat, 48]
def k0_off515 (k0_t60 : Fin k0_t60_loop.trips) : Fin 2 → Nat :=
  let c0_i32_151 : BitVec 32 := 0#32
  let c1_i32_153 : BitVec 32 := 1#32
  let arg17 : BitVec 32 := Scf.iv c0_i32_151 c1_i32_153 k0_t60
  let c16_i32_174 : BitVec 32 := 16#32
  let v391 : BitVec 32 := Scalar.muli arg17 c16_i32_174
  let c5_i32_175 : BitVec 32 := 5#32
  let v392 : BitVec 32 := Scalar.addi v391 c5_i32_175
  let v393 : Index := Scalar.indexCast v392
  let c64_176 : Index := 64#32
  ![v393.toNat, 64]
def k0_off516 (k0_t60 : Fin k0_t60_loop.trips) : Fin 2 → Nat :=
  let c0_i32_151 : BitVec 32 := 0#32
  let c1_i32_153 : BitVec 32 := 1#32
  let arg17 : BitVec 32 := Scf.iv c0_i32_151 c1_i32_153 k0_t60
  let c16_i32_178 : BitVec 32 := 16#32
  let v406 : BitVec 32 := Scalar.muli arg17 c16_i32_178
  let c5_i32_179 : BitVec 32 := 5#32
  let v407 : BitVec 32 := Scalar.addi v406 c5_i32_179
  let v408 : Index := Scalar.indexCast v407
  let c80_180 : Index := 80#32
  ![v408.toNat, 80]
def k0_off517 (k0_t60 : Fin k0_t60_loop.trips) : Fin 2 → Nat :=
  let c0_i32_151 : BitVec 32 := 0#32
  let c1_i32_153 : BitVec 32 := 1#32
  let arg17 : BitVec 32 := Scf.iv c0_i32_151 c1_i32_153 k0_t60
  let c16_i32_182 : BitVec 32 := 16#32
  let v421 : BitVec 32 := Scalar.muli arg17 c16_i32_182
  let c5_i32_183 : BitVec 32 := 5#32
  let v422 : BitVec 32 := Scalar.addi v421 c5_i32_183
  let v423 : Index := Scalar.indexCast v422
  let c96_184 : Index := 96#32
  ![v423.toNat, 96]
def k0_off518 (k0_t60 : Fin k0_t60_loop.trips) : Fin 2 → Nat :=
  let c0_i32_151 : BitVec 32 := 0#32
  let c1_i32_153 : BitVec 32 := 1#32
  let arg17 : BitVec 32 := Scf.iv c0_i32_151 c1_i32_153 k0_t60
  let c16_i32_186 : BitVec 32 := 16#32
  let v436 : BitVec 32 := Scalar.muli arg17 c16_i32_186
  let c5_i32_187 : BitVec 32 := 5#32
  let v437 : BitVec 32 := Scalar.addi v436 c5_i32_187
  let v438 : Index := Scalar.indexCast v437
  let c112_188 : Index := 112#32
  ![v438.toNat, 112]
@[reducible] def k0_t61_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off519 (i : grid0.Coords) (k0_t36 : Fin (k0_t36_loop i).trips) (v323 : BitVec 32) (k0_t61 : Fin k0_t61_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t61
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond64 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_120 : BitVec 32 := 16#32
  let v263 : BitVec 32 := Scalar.muli arg16 c16_i32_120
  let c6_i32_121 : BitVec 32 := 6#32
  let v264 : BitVec 32 := Scalar.addi v263 c6_i32_121
  let v265 : BitVec 1 := Scalar.cmpi .slt v264 v103
  let v266 : BitVec 32 := Scalar.extui v265
  let c0_i32_122 : BitVec 32 := 0#32
  let v267 : BitVec 1 := Scalar.cmpi .ne v266 c0_i32_122
  v267

def k0_chk59 (i : grid0.Coords) (k0_t36 : Fin (k0_t36_loop i).trips) (v89 : BitVec 32) (v102 : BitVec 32) (k0_t54 : Fin (k0_t54_loop v89 v102).trips) (v323 : BitVec 32) : Prop :=
  (∀ k0_t61 : Fin k0_t61_loop.trips, ∀ (k0_h64 : k0_cond64 v89 v102 k0_t54 = 1#1), ∀ (r : Fin 8), ∀ a, (k0_off519 i k0_t36 v323 k0_t61 (BitVec.ofNat 32 (16 * r.val))) a + S1x1x16.size a ≤ S2x32x1024.size a)
theorem k0_off519_inb : ∀ (i : grid0.Coords) (k0_t36 : Fin (k0_t36_loop i).trips) (v89 : BitVec 32) (v102 : BitVec 32) (k0_t54 : Fin (k0_t54_loop v89 v102).trips) (v323 : BitVec 32) (k0_hw59 : k0_chk59 i k0_t36 v89 v102 k0_t54 v323) (k0_t61 : Fin k0_t61_loop.trips), ∀ (k0_h64 : k0_cond64 v89 v102 k0_t54 = 1#1), ∀ (r : Fin 8), ∀ a, (k0_off519 i k0_t36 v323 k0_t61 (BitVec.ofNat 32 (16 * r.val))) a + S1x1x16.size a ≤ S2x32x1024.size a := fun i k0_t36 v89 v102 k0_t54 v323 k0_hw59 k0_t61 k0_h64 r => k0_hw59 k0_t61 k0_h64 r

def k0_off520 (k0_t61 : Fin k0_t61_loop.trips) : Fin 2 → Nat :=
  let c0_i32_151 : BitVec 32 := 0#32
  let c1_i32_153 : BitVec 32 := 1#32
  let arg17 : BitVec 32 := Scf.iv c0_i32_151 c1_i32_153 k0_t61
  let c16_i32_156 : BitVec 32 := 16#32
  let v331 : BitVec 32 := Scalar.muli arg17 c16_i32_156
  let c6_i32_157 : BitVec 32 := 6#32
  let v332 : BitVec 32 := Scalar.addi v331 c6_i32_157
  let v333 : Index := Scalar.indexCast v332
  let c0_158 : Index := 0#32
  ![v333.toNat, 0]
def k0_off521 (k0_t61 : Fin k0_t61_loop.trips) : Fin 2 → Nat :=
  let c0_i32_151 : BitVec 32 := 0#32
  let c1_i32_153 : BitVec 32 := 1#32
  let arg17 : BitVec 32 := Scf.iv c0_i32_151 c1_i32_153 k0_t61
  let c16_i32_161 : BitVec 32 := 16#32
  let v346 : BitVec 32 := Scalar.muli arg17 c16_i32_161
  let c6_i32_162 : BitVec 32 := 6#32
  let v347 : BitVec 32 := Scalar.addi v346 c6_i32_162
  let v348 : Index := Scalar.indexCast v347
  let c16_163 : Index := 16#32
  ![v348.toNat, 16]
def k0_off522 (k0_t61 : Fin k0_t61_loop.trips) : Fin 2 → Nat :=
  let c0_i32_151 : BitVec 32 := 0#32
  let c1_i32_153 : BitVec 32 := 1#32
  let arg17 : BitVec 32 := Scf.iv c0_i32_151 c1_i32_153 k0_t61
  let c16_i32_166 : BitVec 32 := 16#32
  let v361 : BitVec 32 := Scalar.muli arg17 c16_i32_166
  let c6_i32_167 : BitVec 32 := 6#32
  let v362 : BitVec 32 := Scalar.addi v361 c6_i32_167
  let v363 : Index := Scalar.indexCast v362
  let c32_168 : Index := 32#32
  ![v363.toNat, 32]
def k0_off523 (k0_t61 : Fin k0_t61_loop.trips) : Fin 2 → Nat :=
  let c0_i32_151 : BitVec 32 := 0#32
  let c1_i32_153 : BitVec 32 := 1#32
  let arg17 : BitVec 32 := Scf.iv c0_i32_151 c1_i32_153 k0_t61
  let c16_i32_170 : BitVec 32 := 16#32
  let v376 : BitVec 32 := Scalar.muli arg17 c16_i32_170
  let c6_i32_171 : BitVec 32 := 6#32
  let v377 : BitVec 32 := Scalar.addi v376 c6_i32_171
  let v378 : Index := Scalar.indexCast v377
  let c48_172 : Index := 48#32
  ![v378.toNat, 48]
def k0_off524 (k0_t61 : Fin k0_t61_loop.trips) : Fin 2 → Nat :=
  let c0_i32_151 : BitVec 32 := 0#32
  let c1_i32_153 : BitVec 32 := 1#32
  let arg17 : BitVec 32 := Scf.iv c0_i32_151 c1_i32_153 k0_t61
  let c16_i32_174 : BitVec 32 := 16#32
  let v391 : BitVec 32 := Scalar.muli arg17 c16_i32_174
  let c6_i32_175 : BitVec 32 := 6#32
  let v392 : BitVec 32 := Scalar.addi v391 c6_i32_175
  let v393 : Index := Scalar.indexCast v392
  let c64_176 : Index := 64#32
  ![v393.toNat, 64]
def k0_off525 (k0_t61 : Fin k0_t61_loop.trips) : Fin 2 → Nat :=
  let c0_i32_151 : BitVec 32 := 0#32
  let c1_i32_153 : BitVec 32 := 1#32
  let arg17 : BitVec 32 := Scf.iv c0_i32_151 c1_i32_153 k0_t61
  let c16_i32_178 : BitVec 32 := 16#32
  let v406 : BitVec 32 := Scalar.muli arg17 c16_i32_178
  let c6_i32_179 : BitVec 32 := 6#32
  let v407 : BitVec 32 := Scalar.addi v406 c6_i32_179
  let v408 : Index := Scalar.indexCast v407
  let c80_180 : Index := 80#32
  ![v408.toNat, 80]
def k0_off526 (k0_t61 : Fin k0_t61_loop.trips) : Fin 2 → Nat :=
  let c0_i32_151 : BitVec 32 := 0#32
  let c1_i32_153 : BitVec 32 := 1#32
  let arg17 : BitVec 32 := Scf.iv c0_i32_151 c1_i32_153 k0_t61
  let c16_i32_182 : BitVec 32 := 16#32
  let v421 : BitVec 32 := Scalar.muli arg17 c16_i32_182
  let c6_i32_183 : BitVec 32 := 6#32
  let v422 : BitVec 32 := Scalar.addi v421 c6_i32_183
  let v423 : Index := Scalar.indexCast v422
  let c96_184 : Index := 96#32
  ![v423.toNat, 96]
def k0_off527 (k0_t61 : Fin k0_t61_loop.trips) : Fin 2 → Nat :=
  let c0_i32_151 : BitVec 32 := 0#32
  let c1_i32_153 : BitVec 32 := 1#32
  let arg17 : BitVec 32 := Scf.iv c0_i32_151 c1_i32_153 k0_t61
  let c16_i32_186 : BitVec 32 := 16#32
  let v436 : BitVec 32 := Scalar.muli arg17 c16_i32_186
  let c6_i32_187 : BitVec 32 := 6#32
  let v437 : BitVec 32 := Scalar.addi v436 c6_i32_187
  let v438 : Index := Scalar.indexCast v437
  let c112_188 : Index := 112#32
  ![v438.toNat, 112]
@[reducible] def k0_t62_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off528 (i : grid0.Coords) (k0_t36 : Fin (k0_t36_loop i).trips) (v323 : BitVec 32) (k0_t62 : Fin k0_t62_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t62
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond65 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_123 : BitVec 32 := 16#32
  let v268 : BitVec 32 := Scalar.muli arg16 c16_i32_123
  let c7_i32_124 : BitVec 32 := 7#32
  let v269 : BitVec 32 := Scalar.addi v268 c7_i32_124
  let v270 : BitVec 1 := Scalar.cmpi .slt v269 v103
  let v271 : BitVec 32 := Scalar.extui v270
  let c0_i32_125 : BitVec 32 := 0#32
  let v272 : BitVec 1 := Scalar.cmpi .ne v271 c0_i32_125
  v272

def k0_chk60 (i : grid0.Coords) (k0_t36 : Fin (k0_t36_loop i).trips) (v89 : BitVec 32) (v102 : BitVec 32) (k0_t54 : Fin (k0_t54_loop v89 v102).trips) (v323 : BitVec 32) : Prop :=
  (∀ k0_t62 : Fin k0_t62_loop.trips, ∀ (k0_h65 : k0_cond65 v89 v102 k0_t54 = 1#1), ∀ (r : Fin 8), ∀ a, (k0_off528 i k0_t36 v323 k0_t62 (BitVec.ofNat 32 (16 * r.val))) a + S1x1x16.size a ≤ S2x32x1024.size a)
theorem k0_off528_inb : ∀ (i : grid0.Coords) (k0_t36 : Fin (k0_t36_loop i).trips) (v89 : BitVec 32) (v102 : BitVec 32) (k0_t54 : Fin (k0_t54_loop v89 v102).trips) (v323 : BitVec 32) (k0_hw60 : k0_chk60 i k0_t36 v89 v102 k0_t54 v323) (k0_t62 : Fin k0_t62_loop.trips), ∀ (k0_h65 : k0_cond65 v89 v102 k0_t54 = 1#1), ∀ (r : Fin 8), ∀ a, (k0_off528 i k0_t36 v323 k0_t62 (BitVec.ofNat 32 (16 * r.val))) a + S1x1x16.size a ≤ S2x32x1024.size a := fun i k0_t36 v89 v102 k0_t54 v323 k0_hw60 k0_t62 k0_h65 r => k0_hw60 k0_t62 k0_h65 r

def k0_off529 (k0_t62 : Fin k0_t62_loop.trips) : Fin 2 → Nat :=
  let c0_i32_151 : BitVec 32 := 0#32
  let c1_i32_153 : BitVec 32 := 1#32
  let arg17 : BitVec 32 := Scf.iv c0_i32_151 c1_i32_153 k0_t62
  let c16_i32_156 : BitVec 32 := 16#32
  let v331 : BitVec 32 := Scalar.muli arg17 c16_i32_156
  let c7_i32_157 : BitVec 32 := 7#32
  let v332 : BitVec 32 := Scalar.addi v331 c7_i32_157
  let v333 : Index := Scalar.indexCast v332
  let c0_158 : Index := 0#32
  ![v333.toNat, 0]
def k0_off530 (k0_t62 : Fin k0_t62_loop.trips) : Fin 2 → Nat :=
  let c0_i32_151 : BitVec 32 := 0#32
  let c1_i32_153 : BitVec 32 := 1#32
  let arg17 : BitVec 32 := Scf.iv c0_i32_151 c1_i32_153 k0_t62
  let c16_i32_161 : BitVec 32 := 16#32
  let v346 : BitVec 32 := Scalar.muli arg17 c16_i32_161
  let c7_i32_162 : BitVec 32 := 7#32
  let v347 : BitVec 32 := Scalar.addi v346 c7_i32_162
  let v348 : Index := Scalar.indexCast v347
  let c16_163 : Index := 16#32
  ![v348.toNat, 16]
def k0_off531 (k0_t62 : Fin k0_t62_loop.trips) : Fin 2 → Nat :=
  let c0_i32_151 : BitVec 32 := 0#32
  let c1_i32_153 : BitVec 32 := 1#32
  let arg17 : BitVec 32 := Scf.iv c0_i32_151 c1_i32_153 k0_t62
  let c16_i32_166 : BitVec 32 := 16#32
  let v361 : BitVec 32 := Scalar.muli arg17 c16_i32_166
  let c7_i32_167 : BitVec 32 := 7#32
  let v362 : BitVec 32 := Scalar.addi v361 c7_i32_167
  let v363 : Index := Scalar.indexCast v362
  let c32_168 : Index := 32#32
  ![v363.toNat, 32]
def k0_off532 (k0_t62 : Fin k0_t62_loop.trips) : Fin 2 → Nat :=
  let c0_i32_151 : BitVec 32 := 0#32
  let c1_i32_153 : BitVec 32 := 1#32
  let arg17 : BitVec 32 := Scf.iv c0_i32_151 c1_i32_153 k0_t62
  let c16_i32_170 : BitVec 32 := 16#32
  let v376 : BitVec 32 := Scalar.muli arg17 c16_i32_170
  let c7_i32_171 : BitVec 32 := 7#32
  let v377 : BitVec 32 := Scalar.addi v376 c7_i32_171
  let v378 : Index := Scalar.indexCast v377
  let c48_172 : Index := 48#32
  ![v378.toNat, 48]
def k0_off533 (k0_t62 : Fin k0_t62_loop.trips) : Fin 2 → Nat :=
  let c0_i32_151 : BitVec 32 := 0#32
  let c1_i32_153 : BitVec 32 := 1#32
  let arg17 : BitVec 32 := Scf.iv c0_i32_151 c1_i32_153 k0_t62
  let c16_i32_174 : BitVec 32 := 16#32
  let v391 : BitVec 32 := Scalar.muli arg17 c16_i32_174
  let c7_i32_175 : BitVec 32 := 7#32
  let v392 : BitVec 32 := Scalar.addi v391 c7_i32_175
  let v393 : Index := Scalar.indexCast v392
  let c64_176 : Index := 64#32
  ![v393.toNat, 64]
def k0_off534 (k0_t62 : Fin k0_t62_loop.trips) : Fin 2 → Nat :=
  let c0_i32_151 : BitVec 32 := 0#32
  let c1_i32_153 : BitVec 32 := 1#32
  let arg17 : BitVec 32 := Scf.iv c0_i32_151 c1_i32_153 k0_t62
  let c16_i32_178 : BitVec 32 := 16#32
  let v406 : BitVec 32 := Scalar.muli arg17 c16_i32_178
  let c7_i32_179 : BitVec 32 := 7#32
  let v407 : BitVec 32 := Scalar.addi v406 c7_i32_179
  let v408 : Index := Scalar.indexCast v407
  let c80_180 : Index := 80#32
  ![v408.toNat, 80]
def k0_off535 (k0_t62 : Fin k0_t62_loop.trips) : Fin 2 → Nat :=
  let c0_i32_151 : BitVec 32 := 0#32
  let c1_i32_153 : BitVec 32 := 1#32
  let arg17 : BitVec 32 := Scf.iv c0_i32_151 c1_i32_153 k0_t62
  let c16_i32_182 : BitVec 32 := 16#32
  let v421 : BitVec 32 := Scalar.muli arg17 c16_i32_182
  let c7_i32_183 : BitVec 32 := 7#32
  let v422 : BitVec 32 := Scalar.addi v421 c7_i32_183
  let v423 : Index := Scalar.indexCast v422
  let c96_184 : Index := 96#32
  ![v423.toNat, 96]
def k0_off536 (k0_t62 : Fin k0_t62_loop.trips) : Fin 2 → Nat :=
  let c0_i32_151 : BitVec 32 := 0#32
  let c1_i32_153 : BitVec 32 := 1#32
  let arg17 : BitVec 32 := Scf.iv c0_i32_151 c1_i32_153 k0_t62
  let c16_i32_186 : BitVec 32 := 16#32
  let v436 : BitVec 32 := Scalar.muli arg17 c16_i32_186
  let c7_i32_187 : BitVec 32 := 7#32
  let v437 : BitVec 32 := Scalar.addi v436 c7_i32_187
  let v438 : Index := Scalar.indexCast v437
  let c112_188 : Index := 112#32
  ![v438.toNat, 112]
@[reducible] def k0_t63_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off537 (i : grid0.Coords) (k0_t36 : Fin (k0_t36_loop i).trips) (v323 : BitVec 32) (k0_t63 : Fin k0_t63_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t63
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond66 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_126 : BitVec 32 := 16#32
  let v273 : BitVec 32 := Scalar.muli arg16 c16_i32_126
  let c8_i32_127 : BitVec 32 := 8#32
  let v274 : BitVec 32 := Scalar.addi v273 c8_i32_127
  let v275 : BitVec 1 := Scalar.cmpi .slt v274 v103
  let v276 : BitVec 32 := Scalar.extui v275
  let c0_i32_128 : BitVec 32 := 0#32
  let v277 : BitVec 1 := Scalar.cmpi .ne v276 c0_i32_128
  v277

def k0_chk61 (i : grid0.Coords) (k0_t36 : Fin (k0_t36_loop i).trips) (v89 : BitVec 32) (v102 : BitVec 32) (k0_t54 : Fin (k0_t54_loop v89 v102).trips) (v323 : BitVec 32) : Prop :=
  (∀ k0_t63 : Fin k0_t63_loop.trips, ∀ (k0_h66 : k0_cond66 v89 v102 k0_t54 = 1#1), ∀ (r : Fin 8), ∀ a, (k0_off537 i k0_t36 v323 k0_t63 (BitVec.ofNat 32 (16 * r.val))) a + S1x1x16.size a ≤ S2x32x1024.size a)
theorem k0_off537_inb : ∀ (i : grid0.Coords) (k0_t36 : Fin (k0_t36_loop i).trips) (v89 : BitVec 32) (v102 : BitVec 32) (k0_t54 : Fin (k0_t54_loop v89 v102).trips) (v323 : BitVec 32) (k0_hw61 : k0_chk61 i k0_t36 v89 v102 k0_t54 v323) (k0_t63 : Fin k0_t63_loop.trips), ∀ (k0_h66 : k0_cond66 v89 v102 k0_t54 = 1#1), ∀ (r : Fin 8), ∀ a, (k0_off537 i k0_t36 v323 k0_t63 (BitVec.ofNat 32 (16 * r.val))) a + S1x1x16.size a ≤ S2x32x1024.size a := fun i k0_t36 v89 v102 k0_t54 v323 k0_hw61 k0_t63 k0_h66 r => k0_hw61 k0_t63 k0_h66 r

def k0_off538 (k0_t63 : Fin k0_t63_loop.trips) : Fin 2 → Nat :=
  let c0_i32_151 : BitVec 32 := 0#32
  let c1_i32_153 : BitVec 32 := 1#32
  let arg17 : BitVec 32 := Scf.iv c0_i32_151 c1_i32_153 k0_t63
  let c16_i32_156 : BitVec 32 := 16#32
  let v331 : BitVec 32 := Scalar.muli arg17 c16_i32_156
  let c8_i32_157 : BitVec 32 := 8#32
  let v332 : BitVec 32 := Scalar.addi v331 c8_i32_157
  let v333 : Index := Scalar.indexCast v332
  let c0_158 : Index := 0#32
  ![v333.toNat, 0]
def k0_off539 (k0_t63 : Fin k0_t63_loop.trips) : Fin 2 → Nat :=
  let c0_i32_151 : BitVec 32 := 0#32
  let c1_i32_153 : BitVec 32 := 1#32
  let arg17 : BitVec 32 := Scf.iv c0_i32_151 c1_i32_153 k0_t63
  let c16_i32_161 : BitVec 32 := 16#32
  let v346 : BitVec 32 := Scalar.muli arg17 c16_i32_161
  let c8_i32_162 : BitVec 32 := 8#32
  let v347 : BitVec 32 := Scalar.addi v346 c8_i32_162
  let v348 : Index := Scalar.indexCast v347
  let c16_163 : Index := 16#32
  ![v348.toNat, 16]
def k0_off540 (k0_t63 : Fin k0_t63_loop.trips) : Fin 2 → Nat :=
  let c0_i32_151 : BitVec 32 := 0#32
  let c1_i32_153 : BitVec 32 := 1#32
  let arg17 : BitVec 32 := Scf.iv c0_i32_151 c1_i32_153 k0_t63
  let c16_i32_166 : BitVec 32 := 16#32
  let v361 : BitVec 32 := Scalar.muli arg17 c16_i32_166
  let c8_i32_167 : BitVec 32 := 8#32
  let v362 : BitVec 32 := Scalar.addi v361 c8_i32_167
  let v363 : Index := Scalar.indexCast v362
  let c32_168 : Index := 32#32
  ![v363.toNat, 32]
def k0_off541 (k0_t63 : Fin k0_t63_loop.trips) : Fin 2 → Nat :=
  let c0_i32_151 : BitVec 32 := 0#32
  let c1_i32_153 : BitVec 32 := 1#32
  let arg17 : BitVec 32 := Scf.iv c0_i32_151 c1_i32_153 k0_t63
  let c16_i32_170 : BitVec 32 := 16#32
  let v376 : BitVec 32 := Scalar.muli arg17 c16_i32_170
  let c8_i32_171 : BitVec 32 := 8#32
  let v377 : BitVec 32 := Scalar.addi v376 c8_i32_171
  let v378 : Index := Scalar.indexCast v377
  let c48_172 : Index := 48#32
  ![v378.toNat, 48]
def k0_off542 (k0_t63 : Fin k0_t63_loop.trips) : Fin 2 → Nat :=
  let c0_i32_151 : BitVec 32 := 0#32
  let c1_i32_153 : BitVec 32 := 1#32
  let arg17 : BitVec 32 := Scf.iv c0_i32_151 c1_i32_153 k0_t63
  let c16_i32_174 : BitVec 32 := 16#32
  let v391 : BitVec 32 := Scalar.muli arg17 c16_i32_174
  let c8_i32_175 : BitVec 32 := 8#32
  let v392 : BitVec 32 := Scalar.addi v391 c8_i32_175
  let v393 : Index := Scalar.indexCast v392
  let c64_176 : Index := 64#32
  ![v393.toNat, 64]
def k0_off543 (k0_t63 : Fin k0_t63_loop.trips) : Fin 2 → Nat :=
  let c0_i32_151 : BitVec 32 := 0#32
  let c1_i32_153 : BitVec 32 := 1#32
  let arg17 : BitVec 32 := Scf.iv c0_i32_151 c1_i32_153 k0_t63
  let c16_i32_178 : BitVec 32 := 16#32
  let v406 : BitVec 32 := Scalar.muli arg17 c16_i32_178
  let c8_i32_179 : BitVec 32 := 8#32
  let v407 : BitVec 32 := Scalar.addi v406 c8_i32_179
  let v408 : Index := Scalar.indexCast v407
  let c80_180 : Index := 80#32
  ![v408.toNat, 80]
def k0_off544 (k0_t63 : Fin k0_t63_loop.trips) : Fin 2 → Nat :=
  let c0_i32_151 : BitVec 32 := 0#32
  let c1_i32_153 : BitVec 32 := 1#32
  let arg17 : BitVec 32 := Scf.iv c0_i32_151 c1_i32_153 k0_t63
  let c16_i32_182 : BitVec 32 := 16#32
  let v421 : BitVec 32 := Scalar.muli arg17 c16_i32_182
  let c8_i32_183 : BitVec 32 := 8#32
  let v422 : BitVec 32 := Scalar.addi v421 c8_i32_183
  let v423 : Index := Scalar.indexCast v422
  let c96_184 : Index := 96#32
  ![v423.toNat, 96]
def k0_off545 (k0_t63 : Fin k0_t63_loop.trips) : Fin 2 → Nat :=
  let c0_i32_151 : BitVec 32 := 0#32
  let c1_i32_153 : BitVec 32 := 1#32
  let arg17 : BitVec 32 := Scf.iv c0_i32_151 c1_i32_153 k0_t63
  let c16_i32_186 : BitVec 32 := 16#32
  let v436 : BitVec 32 := Scalar.muli arg17 c16_i32_186
  let c8_i32_187 : BitVec 32 := 8#32
  let v437 : BitVec 32 := Scalar.addi v436 c8_i32_187
  let v438 : Index := Scalar.indexCast v437
  let c112_188 : Index := 112#32
  ![v438.toNat, 112]
@[reducible] def k0_t64_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off546 (i : grid0.Coords) (k0_t36 : Fin (k0_t36_loop i).trips) (v323 : BitVec 32) (k0_t64 : Fin k0_t64_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t64
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond67 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_129 : BitVec 32 := 16#32
  let v278 : BitVec 32 := Scalar.muli arg16 c16_i32_129
  let c9_i32 : BitVec 32 := 9#32
  let v279 : BitVec 32 := Scalar.addi v278 c9_i32
  let v280 : BitVec 1 := Scalar.cmpi .slt v279 v103
  let v281 : BitVec 32 := Scalar.extui v280
  let c0_i32_130 : BitVec 32 := 0#32
  let v282 : BitVec 1 := Scalar.cmpi .ne v281 c0_i32_130
  v282

def k0_chk62 (i : grid0.Coords) (k0_t36 : Fin (k0_t36_loop i).trips) (v89 : BitVec 32) (v102 : BitVec 32) (k0_t54 : Fin (k0_t54_loop v89 v102).trips) (v323 : BitVec 32) : Prop :=
  (∀ k0_t64 : Fin k0_t64_loop.trips, ∀ (k0_h67 : k0_cond67 v89 v102 k0_t54 = 1#1), ∀ (r : Fin 8), ∀ a, (k0_off546 i k0_t36 v323 k0_t64 (BitVec.ofNat 32 (16 * r.val))) a + S1x1x16.size a ≤ S2x32x1024.size a)
theorem k0_off546_inb : ∀ (i : grid0.Coords) (k0_t36 : Fin (k0_t36_loop i).trips) (v89 : BitVec 32) (v102 : BitVec 32) (k0_t54 : Fin (k0_t54_loop v89 v102).trips) (v323 : BitVec 32) (k0_hw62 : k0_chk62 i k0_t36 v89 v102 k0_t54 v323) (k0_t64 : Fin k0_t64_loop.trips), ∀ (k0_h67 : k0_cond67 v89 v102 k0_t54 = 1#1), ∀ (r : Fin 8), ∀ a, (k0_off546 i k0_t36 v323 k0_t64 (BitVec.ofNat 32 (16 * r.val))) a + S1x1x16.size a ≤ S2x32x1024.size a := fun i k0_t36 v89 v102 k0_t54 v323 k0_hw62 k0_t64 k0_h67 r => k0_hw62 k0_t64 k0_h67 r

def k0_off547 (k0_t64 : Fin k0_t64_loop.trips) : Fin 2 → Nat :=
  let c0_i32_151 : BitVec 32 := 0#32
  let c1_i32_153 : BitVec 32 := 1#32
  let arg17 : BitVec 32 := Scf.iv c0_i32_151 c1_i32_153 k0_t64
  let c16_i32_156 : BitVec 32 := 16#32
  let v331 : BitVec 32 := Scalar.muli arg17 c16_i32_156
  let c9_i32_157 : BitVec 32 := 9#32
  let v332 : BitVec 32 := Scalar.addi v331 c9_i32_157
  let v333 : Index := Scalar.indexCast v332
  let c0_158 : Index := 0#32
  ![v333.toNat, 0]
def k0_off548 (k0_t64 : Fin k0_t64_loop.trips) : Fin 2 → Nat :=
  let c0_i32_151 : BitVec 32 := 0#32
  let c1_i32_153 : BitVec 32 := 1#32
  let arg17 : BitVec 32 := Scf.iv c0_i32_151 c1_i32_153 k0_t64
  let c16_i32_161 : BitVec 32 := 16#32
  let v346 : BitVec 32 := Scalar.muli arg17 c16_i32_161
  let c9_i32_162 : BitVec 32 := 9#32
  let v347 : BitVec 32 := Scalar.addi v346 c9_i32_162
  let v348 : Index := Scalar.indexCast v347
  let c16_163 : Index := 16#32
  ![v348.toNat, 16]
def k0_off549 (k0_t64 : Fin k0_t64_loop.trips) : Fin 2 → Nat :=
  let c0_i32_151 : BitVec 32 := 0#32
  let c1_i32_153 : BitVec 32 := 1#32
  let arg17 : BitVec 32 := Scf.iv c0_i32_151 c1_i32_153 k0_t64
  let c16_i32_166 : BitVec 32 := 16#32
  let v361 : BitVec 32 := Scalar.muli arg17 c16_i32_166
  let c9_i32_167 : BitVec 32 := 9#32
  let v362 : BitVec 32 := Scalar.addi v361 c9_i32_167
  let v363 : Index := Scalar.indexCast v362
  let c32_168 : Index := 32#32
  ![v363.toNat, 32]
def k0_off550 (k0_t64 : Fin k0_t64_loop.trips) : Fin 2 → Nat :=
  let c0_i32_151 : BitVec 32 := 0#32
  let c1_i32_153 : BitVec 32 := 1#32
  let arg17 : BitVec 32 := Scf.iv c0_i32_151 c1_i32_153 k0_t64
  let c16_i32_170 : BitVec 32 := 16#32
  let v376 : BitVec 32 := Scalar.muli arg17 c16_i32_170
  let c9_i32_171 : BitVec 32 := 9#32
  let v377 : BitVec 32 := Scalar.addi v376 c9_i32_171
  let v378 : Index := Scalar.indexCast v377
  let c48_172 : Index := 48#32
  ![v378.toNat, 48]
def k0_off551 (k0_t64 : Fin k0_t64_loop.trips) : Fin 2 → Nat :=
  let c0_i32_151 : BitVec 32 := 0#32
  let c1_i32_153 : BitVec 32 := 1#32
  let arg17 : BitVec 32 := Scf.iv c0_i32_151 c1_i32_153 k0_t64
  let c16_i32_174 : BitVec 32 := 16#32
  let v391 : BitVec 32 := Scalar.muli arg17 c16_i32_174
  let c9_i32_175 : BitVec 32 := 9#32
  let v392 : BitVec 32 := Scalar.addi v391 c9_i32_175
  let v393 : Index := Scalar.indexCast v392
  let c64_176 : Index := 64#32
  ![v393.toNat, 64]
def k0_off552 (k0_t64 : Fin k0_t64_loop.trips) : Fin 2 → Nat :=
  let c0_i32_151 : BitVec 32 := 0#32
  let c1_i32_153 : BitVec 32 := 1#32
  let arg17 : BitVec 32 := Scf.iv c0_i32_151 c1_i32_153 k0_t64
  let c16_i32_178 : BitVec 32 := 16#32
  let v406 : BitVec 32 := Scalar.muli arg17 c16_i32_178
  let c9_i32_179 : BitVec 32 := 9#32
  let v407 : BitVec 32 := Scalar.addi v406 c9_i32_179
  let v408 : Index := Scalar.indexCast v407
  let c80_180 : Index := 80#32
  ![v408.toNat, 80]
def k0_off553 (k0_t64 : Fin k0_t64_loop.trips) : Fin 2 → Nat :=
  let c0_i32_151 : BitVec 32 := 0#32
  let c1_i32_153 : BitVec 32 := 1#32
  let arg17 : BitVec 32 := Scf.iv c0_i32_151 c1_i32_153 k0_t64
  let c16_i32_182 : BitVec 32 := 16#32
  let v421 : BitVec 32 := Scalar.muli arg17 c16_i32_182
  let c9_i32_183 : BitVec 32 := 9#32
  let v422 : BitVec 32 := Scalar.addi v421 c9_i32_183
  let v423 : Index := Scalar.indexCast v422
  let c96_184 : Index := 96#32
  ![v423.toNat, 96]
def k0_off554 (k0_t64 : Fin k0_t64_loop.trips) : Fin 2 → Nat :=
  let c0_i32_151 : BitVec 32 := 0#32
  let c1_i32_153 : BitVec 32 := 1#32
  let arg17 : BitVec 32 := Scf.iv c0_i32_151 c1_i32_153 k0_t64
  let c16_i32_186 : BitVec 32 := 16#32
  let v436 : BitVec 32 := Scalar.muli arg17 c16_i32_186
  let c9_i32_187 : BitVec 32 := 9#32
  let v437 : BitVec 32 := Scalar.addi v436 c9_i32_187
  let v438 : Index := Scalar.indexCast v437
  let c112_188 : Index := 112#32
  ![v438.toNat, 112]
@[reducible] def k0_t65_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off555 (i : grid0.Coords) (k0_t36 : Fin (k0_t36_loop i).trips) (v323 : BitVec 32) (k0_t65 : Fin k0_t65_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t65
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond68 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_131 : BitVec 32 := 16#32
  let v283 : BitVec 32 := Scalar.muli arg16 c16_i32_131
  let c10_i32 : BitVec 32 := 10#32
  let v284 : BitVec 32 := Scalar.addi v283 c10_i32
  let v285 : BitVec 1 := Scalar.cmpi .slt v284 v103
  let v286 : BitVec 32 := Scalar.extui v285
  let c0_i32_132 : BitVec 32 := 0#32
  let v287 : BitVec 1 := Scalar.cmpi .ne v286 c0_i32_132
  v287

def k0_chk63 (i : grid0.Coords) (k0_t36 : Fin (k0_t36_loop i).trips) (v89 : BitVec 32) (v102 : BitVec 32) (k0_t54 : Fin (k0_t54_loop v89 v102).trips) (v323 : BitVec 32) : Prop :=
  (∀ k0_t65 : Fin k0_t65_loop.trips, ∀ (k0_h68 : k0_cond68 v89 v102 k0_t54 = 1#1), ∀ (r : Fin 8), ∀ a, (k0_off555 i k0_t36 v323 k0_t65 (BitVec.ofNat 32 (16 * r.val))) a + S1x1x16.size a ≤ S2x32x1024.size a)
theorem k0_off555_inb : ∀ (i : grid0.Coords) (k0_t36 : Fin (k0_t36_loop i).trips) (v89 : BitVec 32) (v102 : BitVec 32) (k0_t54 : Fin (k0_t54_loop v89 v102).trips) (v323 : BitVec 32) (k0_hw63 : k0_chk63 i k0_t36 v89 v102 k0_t54 v323) (k0_t65 : Fin k0_t65_loop.trips), ∀ (k0_h68 : k0_cond68 v89 v102 k0_t54 = 1#1), ∀ (r : Fin 8), ∀ a, (k0_off555 i k0_t36 v323 k0_t65 (BitVec.ofNat 32 (16 * r.val))) a + S1x1x16.size a ≤ S2x32x1024.size a := fun i k0_t36 v89 v102 k0_t54 v323 k0_hw63 k0_t65 k0_h68 r => k0_hw63 k0_t65 k0_h68 r

def k0_off556 (k0_t65 : Fin k0_t65_loop.trips) : Fin 2 → Nat :=
  let c0_i32_151 : BitVec 32 := 0#32
  let c1_i32_153 : BitVec 32 := 1#32
  let arg17 : BitVec 32 := Scf.iv c0_i32_151 c1_i32_153 k0_t65
  let c16_i32_156 : BitVec 32 := 16#32
  let v331 : BitVec 32 := Scalar.muli arg17 c16_i32_156
  let c10_i32_157 : BitVec 32 := 10#32
  let v332 : BitVec 32 := Scalar.addi v331 c10_i32_157
  let v333 : Index := Scalar.indexCast v332
  let c0_158 : Index := 0#32
  ![v333.toNat, 0]
def k0_off557 (k0_t65 : Fin k0_t65_loop.trips) : Fin 2 → Nat :=
  let c0_i32_151 : BitVec 32 := 0#32
  let c1_i32_153 : BitVec 32 := 1#32
  let arg17 : BitVec 32 := Scf.iv c0_i32_151 c1_i32_153 k0_t65
  let c16_i32_161 : BitVec 32 := 16#32
  let v346 : BitVec 32 := Scalar.muli arg17 c16_i32_161
  let c10_i32_162 : BitVec 32 := 10#32
  let v347 : BitVec 32 := Scalar.addi v346 c10_i32_162
  let v348 : Index := Scalar.indexCast v347
  let c16_163 : Index := 16#32
  ![v348.toNat, 16]
def k0_off558 (k0_t65 : Fin k0_t65_loop.trips) : Fin 2 → Nat :=
  let c0_i32_151 : BitVec 32 := 0#32
  let c1_i32_153 : BitVec 32 := 1#32
  let arg17 : BitVec 32 := Scf.iv c0_i32_151 c1_i32_153 k0_t65
  let c16_i32_166 : BitVec 32 := 16#32
  let v361 : BitVec 32 := Scalar.muli arg17 c16_i32_166
  let c10_i32_167 : BitVec 32 := 10#32
  let v362 : BitVec 32 := Scalar.addi v361 c10_i32_167
  let v363 : Index := Scalar.indexCast v362
  let c32_168 : Index := 32#32
  ![v363.toNat, 32]
def k0_off559 (k0_t65 : Fin k0_t65_loop.trips) : Fin 2 → Nat :=
  let c0_i32_151 : BitVec 32 := 0#32
  let c1_i32_153 : BitVec 32 := 1#32
  let arg17 : BitVec 32 := Scf.iv c0_i32_151 c1_i32_153 k0_t65
  let c16_i32_170 : BitVec 32 := 16#32
  let v376 : BitVec 32 := Scalar.muli arg17 c16_i32_170
  let c10_i32_171 : BitVec 32 := 10#32
  let v377 : BitVec 32 := Scalar.addi v376 c10_i32_171
  let v378 : Index := Scalar.indexCast v377
  let c48_172 : Index := 48#32
  ![v378.toNat, 48]
def k0_off560 (k0_t65 : Fin k0_t65_loop.trips) : Fin 2 → Nat :=
  let c0_i32_151 : BitVec 32 := 0#32
  let c1_i32_153 : BitVec 32 := 1#32
  let arg17 : BitVec 32 := Scf.iv c0_i32_151 c1_i32_153 k0_t65
  let c16_i32_174 : BitVec 32 := 16#32
  let v391 : BitVec 32 := Scalar.muli arg17 c16_i32_174
  let c10_i32_175 : BitVec 32 := 10#32
  let v392 : BitVec 32 := Scalar.addi v391 c10_i32_175
  let v393 : Index := Scalar.indexCast v392
  let c64_176 : Index := 64#32
  ![v393.toNat, 64]
def k0_off561 (k0_t65 : Fin k0_t65_loop.trips) : Fin 2 → Nat :=
  let c0_i32_151 : BitVec 32 := 0#32
  let c1_i32_153 : BitVec 32 := 1#32
  let arg17 : BitVec 32 := Scf.iv c0_i32_151 c1_i32_153 k0_t65
  let c16_i32_178 : BitVec 32 := 16#32
  let v406 : BitVec 32 := Scalar.muli arg17 c16_i32_178
  let c10_i32_179 : BitVec 32 := 10#32
  let v407 : BitVec 32 := Scalar.addi v406 c10_i32_179
  let v408 : Index := Scalar.indexCast v407
  let c80_180 : Index := 80#32
  ![v408.toNat, 80]
def k0_off562 (k0_t65 : Fin k0_t65_loop.trips) : Fin 2 → Nat :=
  let c0_i32_151 : BitVec 32 := 0#32
  let c1_i32_153 : BitVec 32 := 1#32
  let arg17 : BitVec 32 := Scf.iv c0_i32_151 c1_i32_153 k0_t65
  let c16_i32_182 : BitVec 32 := 16#32
  let v421 : BitVec 32 := Scalar.muli arg17 c16_i32_182
  let c10_i32_183 : BitVec 32 := 10#32
  let v422 : BitVec 32 := Scalar.addi v421 c10_i32_183
  let v423 : Index := Scalar.indexCast v422
  let c96_184 : Index := 96#32
  ![v423.toNat, 96]
def k0_off563 (k0_t65 : Fin k0_t65_loop.trips) : Fin 2 → Nat :=
  let c0_i32_151 : BitVec 32 := 0#32
  let c1_i32_153 : BitVec 32 := 1#32
  let arg17 : BitVec 32 := Scf.iv c0_i32_151 c1_i32_153 k0_t65
  let c16_i32_186 : BitVec 32 := 16#32
  let v436 : BitVec 32 := Scalar.muli arg17 c16_i32_186
  let c10_i32_187 : BitVec 32 := 10#32
  let v437 : BitVec 32 := Scalar.addi v436 c10_i32_187
  let v438 : Index := Scalar.indexCast v437
  let c112_188 : Index := 112#32
  ![v438.toNat, 112]
@[reducible] def k0_t66_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off564 (i : grid0.Coords) (k0_t36 : Fin (k0_t36_loop i).trips) (v323 : BitVec 32) (k0_t66 : Fin k0_t66_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t66
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond69 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_133 : BitVec 32 := 16#32
  let v288 : BitVec 32 := Scalar.muli arg16 c16_i32_133
  let c11_i32 : BitVec 32 := 11#32
  let v289 : BitVec 32 := Scalar.addi v288 c11_i32
  let v290 : BitVec 1 := Scalar.cmpi .slt v289 v103
  let v291 : BitVec 32 := Scalar.extui v290
  let c0_i32_134 : BitVec 32 := 0#32
  let v292 : BitVec 1 := Scalar.cmpi .ne v291 c0_i32_134
  v292

def k0_chk64 (i : grid0.Coords) (k0_t36 : Fin (k0_t36_loop i).trips) (v89 : BitVec 32) (v102 : BitVec 32) (k0_t54 : Fin (k0_t54_loop v89 v102).trips) (v323 : BitVec 32) : Prop :=
  (∀ k0_t66 : Fin k0_t66_loop.trips, ∀ (k0_h69 : k0_cond69 v89 v102 k0_t54 = 1#1), ∀ (r : Fin 8), ∀ a, (k0_off564 i k0_t36 v323 k0_t66 (BitVec.ofNat 32 (16 * r.val))) a + S1x1x16.size a ≤ S2x32x1024.size a)
theorem k0_off564_inb : ∀ (i : grid0.Coords) (k0_t36 : Fin (k0_t36_loop i).trips) (v89 : BitVec 32) (v102 : BitVec 32) (k0_t54 : Fin (k0_t54_loop v89 v102).trips) (v323 : BitVec 32) (k0_hw64 : k0_chk64 i k0_t36 v89 v102 k0_t54 v323) (k0_t66 : Fin k0_t66_loop.trips), ∀ (k0_h69 : k0_cond69 v89 v102 k0_t54 = 1#1), ∀ (r : Fin 8), ∀ a, (k0_off564 i k0_t36 v323 k0_t66 (BitVec.ofNat 32 (16 * r.val))) a + S1x1x16.size a ≤ S2x32x1024.size a := fun i k0_t36 v89 v102 k0_t54 v323 k0_hw64 k0_t66 k0_h69 r => k0_hw64 k0_t66 k0_h69 r

def k0_off565 (k0_t66 : Fin k0_t66_loop.trips) : Fin 2 → Nat :=
  let c0_i32_151 : BitVec 32 := 0#32
  let c1_i32_153 : BitVec 32 := 1#32
  let arg17 : BitVec 32 := Scf.iv c0_i32_151 c1_i32_153 k0_t66
  let c16_i32_156 : BitVec 32 := 16#32
  let v331 : BitVec 32 := Scalar.muli arg17 c16_i32_156
  let c11_i32_157 : BitVec 32 := 11#32
  let v332 : BitVec 32 := Scalar.addi v331 c11_i32_157
  let v333 : Index := Scalar.indexCast v332
  let c0_158 : Index := 0#32
  ![v333.toNat, 0]
def k0_off566 (k0_t66 : Fin k0_t66_loop.trips) : Fin 2 → Nat :=
  let c0_i32_151 : BitVec 32 := 0#32
  let c1_i32_153 : BitVec 32 := 1#32
  let arg17 : BitVec 32 := Scf.iv c0_i32_151 c1_i32_153 k0_t66
  let c16_i32_161 : BitVec 32 := 16#32
  let v346 : BitVec 32 := Scalar.muli arg17 c16_i32_161
  let c11_i32_162 : BitVec 32 := 11#32
  let v347 : BitVec 32 := Scalar.addi v346 c11_i32_162
  let v348 : Index := Scalar.indexCast v347
  let c16_163 : Index := 16#32
  ![v348.toNat, 16]
def k0_off567 (k0_t66 : Fin k0_t66_loop.trips) : Fin 2 → Nat :=
  let c0_i32_151 : BitVec 32 := 0#32
  let c1_i32_153 : BitVec 32 := 1#32
  let arg17 : BitVec 32 := Scf.iv c0_i32_151 c1_i32_153 k0_t66
  let c16_i32_166 : BitVec 32 := 16#32
  let v361 : BitVec 32 := Scalar.muli arg17 c16_i32_166
  let c11_i32_167 : BitVec 32 := 11#32
  let v362 : BitVec 32 := Scalar.addi v361 c11_i32_167
  let v363 : Index := Scalar.indexCast v362
  let c32_168 : Index := 32#32
  ![v363.toNat, 32]
def k0_off568 (k0_t66 : Fin k0_t66_loop.trips) : Fin 2 → Nat :=
  let c0_i32_151 : BitVec 32 := 0#32
  let c1_i32_153 : BitVec 32 := 1#32
  let arg17 : BitVec 32 := Scf.iv c0_i32_151 c1_i32_153 k0_t66
  let c16_i32_170 : BitVec 32 := 16#32
  let v376 : BitVec 32 := Scalar.muli arg17 c16_i32_170
  let c11_i32_171 : BitVec 32 := 11#32
  let v377 : BitVec 32 := Scalar.addi v376 c11_i32_171
  let v378 : Index := Scalar.indexCast v377
  let c48_172 : Index := 48#32
  ![v378.toNat, 48]
def k0_off569 (k0_t66 : Fin k0_t66_loop.trips) : Fin 2 → Nat :=
  let c0_i32_151 : BitVec 32 := 0#32
  let c1_i32_153 : BitVec 32 := 1#32
  let arg17 : BitVec 32 := Scf.iv c0_i32_151 c1_i32_153 k0_t66
  let c16_i32_174 : BitVec 32 := 16#32
  let v391 : BitVec 32 := Scalar.muli arg17 c16_i32_174
  let c11_i32_175 : BitVec 32 := 11#32
  let v392 : BitVec 32 := Scalar.addi v391 c11_i32_175
  let v393 : Index := Scalar.indexCast v392
  let c64_176 : Index := 64#32
  ![v393.toNat, 64]
def k0_off570 (k0_t66 : Fin k0_t66_loop.trips) : Fin 2 → Nat :=
  let c0_i32_151 : BitVec 32 := 0#32
  let c1_i32_153 : BitVec 32 := 1#32
  let arg17 : BitVec 32 := Scf.iv c0_i32_151 c1_i32_153 k0_t66
  let c16_i32_178 : BitVec 32 := 16#32
  let v406 : BitVec 32 := Scalar.muli arg17 c16_i32_178
  let c11_i32_179 : BitVec 32 := 11#32
  let v407 : BitVec 32 := Scalar.addi v406 c11_i32_179
  let v408 : Index := Scalar.indexCast v407
  let c80_180 : Index := 80#32
  ![v408.toNat, 80]
def k0_off571 (k0_t66 : Fin k0_t66_loop.trips) : Fin 2 → Nat :=
  let c0_i32_151 : BitVec 32 := 0#32
  let c1_i32_153 : BitVec 32 := 1#32
  let arg17 : BitVec 32 := Scf.iv c0_i32_151 c1_i32_153 k0_t66
  let c16_i32_182 : BitVec 32 := 16#32
  let v421 : BitVec 32 := Scalar.muli arg17 c16_i32_182
  let c11_i32_183 : BitVec 32 := 11#32
  let v422 : BitVec 32 := Scalar.addi v421 c11_i32_183
  let v423 : Index := Scalar.indexCast v422
  let c96_184 : Index := 96#32
  ![v423.toNat, 96]
def k0_off572 (k0_t66 : Fin k0_t66_loop.trips) : Fin 2 → Nat :=
  let c0_i32_151 : BitVec 32 := 0#32
  let c1_i32_153 : BitVec 32 := 1#32
  let arg17 : BitVec 32 := Scf.iv c0_i32_151 c1_i32_153 k0_t66
  let c16_i32_186 : BitVec 32 := 16#32
  let v436 : BitVec 32 := Scalar.muli arg17 c16_i32_186
  let c11_i32_187 : BitVec 32 := 11#32
  let v437 : BitVec 32 := Scalar.addi v436 c11_i32_187
  let v438 : Index := Scalar.indexCast v437
  let c112_188 : Index := 112#32
  ![v438.toNat, 112]
@[reducible] def k0_t67_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off573 (i : grid0.Coords) (k0_t36 : Fin (k0_t36_loop i).trips) (v323 : BitVec 32) (k0_t67 : Fin k0_t67_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t67
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond70 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_135 : BitVec 32 := 16#32
  let v293 : BitVec 32 := Scalar.muli arg16 c16_i32_135
  let c12_i32 : BitVec 32 := 12#32
  let v294 : BitVec 32 := Scalar.addi v293 c12_i32
  let v295 : BitVec 1 := Scalar.cmpi .slt v294 v103
  let v296 : BitVec 32 := Scalar.extui v295
  let c0_i32_136 : BitVec 32 := 0#32
  let v297 : BitVec 1 := Scalar.cmpi .ne v296 c0_i32_136
  v297

def k0_chk65 (i : grid0.Coords) (k0_t36 : Fin (k0_t36_loop i).trips) (v89 : BitVec 32) (v102 : BitVec 32) (k0_t54 : Fin (k0_t54_loop v89 v102).trips) (v323 : BitVec 32) : Prop :=
  (∀ k0_t67 : Fin k0_t67_loop.trips, ∀ (k0_h70 : k0_cond70 v89 v102 k0_t54 = 1#1), ∀ (r : Fin 8), ∀ a, (k0_off573 i k0_t36 v323 k0_t67 (BitVec.ofNat 32 (16 * r.val))) a + S1x1x16.size a ≤ S2x32x1024.size a)
theorem k0_off573_inb : ∀ (i : grid0.Coords) (k0_t36 : Fin (k0_t36_loop i).trips) (v89 : BitVec 32) (v102 : BitVec 32) (k0_t54 : Fin (k0_t54_loop v89 v102).trips) (v323 : BitVec 32) (k0_hw65 : k0_chk65 i k0_t36 v89 v102 k0_t54 v323) (k0_t67 : Fin k0_t67_loop.trips), ∀ (k0_h70 : k0_cond70 v89 v102 k0_t54 = 1#1), ∀ (r : Fin 8), ∀ a, (k0_off573 i k0_t36 v323 k0_t67 (BitVec.ofNat 32 (16 * r.val))) a + S1x1x16.size a ≤ S2x32x1024.size a := fun i k0_t36 v89 v102 k0_t54 v323 k0_hw65 k0_t67 k0_h70 r => k0_hw65 k0_t67 k0_h70 r

def k0_off574 (k0_t67 : Fin k0_t67_loop.trips) : Fin 2 → Nat :=
  let c0_i32_151 : BitVec 32 := 0#32
  let c1_i32_153 : BitVec 32 := 1#32
  let arg17 : BitVec 32 := Scf.iv c0_i32_151 c1_i32_153 k0_t67
  let c16_i32_156 : BitVec 32 := 16#32
  let v331 : BitVec 32 := Scalar.muli arg17 c16_i32_156
  let c12_i32_157 : BitVec 32 := 12#32
  let v332 : BitVec 32 := Scalar.addi v331 c12_i32_157
  let v333 : Index := Scalar.indexCast v332
  let c0_158 : Index := 0#32
  ![v333.toNat, 0]
def k0_off575 (k0_t67 : Fin k0_t67_loop.trips) : Fin 2 → Nat :=
  let c0_i32_151 : BitVec 32 := 0#32
  let c1_i32_153 : BitVec 32 := 1#32
  let arg17 : BitVec 32 := Scf.iv c0_i32_151 c1_i32_153 k0_t67
  let c16_i32_161 : BitVec 32 := 16#32
  let v346 : BitVec 32 := Scalar.muli arg17 c16_i32_161
  let c12_i32_162 : BitVec 32 := 12#32
  let v347 : BitVec 32 := Scalar.addi v346 c12_i32_162
  let v348 : Index := Scalar.indexCast v347
  let c16_163 : Index := 16#32
  ![v348.toNat, 16]
def k0_off576 (k0_t67 : Fin k0_t67_loop.trips) : Fin 2 → Nat :=
  let c0_i32_151 : BitVec 32 := 0#32
  let c1_i32_153 : BitVec 32 := 1#32
  let arg17 : BitVec 32 := Scf.iv c0_i32_151 c1_i32_153 k0_t67
  let c16_i32_166 : BitVec 32 := 16#32
  let v361 : BitVec 32 := Scalar.muli arg17 c16_i32_166
  let c12_i32_167 : BitVec 32 := 12#32
  let v362 : BitVec 32 := Scalar.addi v361 c12_i32_167
  let v363 : Index := Scalar.indexCast v362
  let c32_168 : Index := 32#32
  ![v363.toNat, 32]
def k0_off577 (k0_t67 : Fin k0_t67_loop.trips) : Fin 2 → Nat :=
  let c0_i32_151 : BitVec 32 := 0#32
  let c1_i32_153 : BitVec 32 := 1#32
  let arg17 : BitVec 32 := Scf.iv c0_i32_151 c1_i32_153 k0_t67
  let c16_i32_170 : BitVec 32 := 16#32
  let v376 : BitVec 32 := Scalar.muli arg17 c16_i32_170
  let c12_i32_171 : BitVec 32 := 12#32
  let v377 : BitVec 32 := Scalar.addi v376 c12_i32_171
  let v378 : Index := Scalar.indexCast v377
  let c48_172 : Index := 48#32
  ![v378.toNat, 48]
def k0_off578 (k0_t67 : Fin k0_t67_loop.trips) : Fin 2 → Nat :=
  let c0_i32_151 : BitVec 32 := 0#32
  let c1_i32_153 : BitVec 32 := 1#32
  let arg17 : BitVec 32 := Scf.iv c0_i32_151 c1_i32_153 k0_t67
  let c16_i32_174 : BitVec 32 := 16#32
  let v391 : BitVec 32 := Scalar.muli arg17 c16_i32_174
  let c12_i32_175 : BitVec 32 := 12#32
  let v392 : BitVec 32 := Scalar.addi v391 c12_i32_175
  let v393 : Index := Scalar.indexCast v392
  let c64_176 : Index := 64#32
  ![v393.toNat, 64]
def k0_off579 (k0_t67 : Fin k0_t67_loop.trips) : Fin 2 → Nat :=
  let c0_i32_151 : BitVec 32 := 0#32
  let c1_i32_153 : BitVec 32 := 1#32
  let arg17 : BitVec 32 := Scf.iv c0_i32_151 c1_i32_153 k0_t67
  let c16_i32_178 : BitVec 32 := 16#32
  let v406 : BitVec 32 := Scalar.muli arg17 c16_i32_178
  let c12_i32_179 : BitVec 32 := 12#32
  let v407 : BitVec 32 := Scalar.addi v406 c12_i32_179
  let v408 : Index := Scalar.indexCast v407
  let c80_180 : Index := 80#32
  ![v408.toNat, 80]
def k0_off580 (k0_t67 : Fin k0_t67_loop.trips) : Fin 2 → Nat :=
  let c0_i32_151 : BitVec 32 := 0#32
  let c1_i32_153 : BitVec 32 := 1#32
  let arg17 : BitVec 32 := Scf.iv c0_i32_151 c1_i32_153 k0_t67
  let c16_i32_182 : BitVec 32 := 16#32
  let v421 : BitVec 32 := Scalar.muli arg17 c16_i32_182
  let c12_i32_183 : BitVec 32 := 12#32
  let v422 : BitVec 32 := Scalar.addi v421 c12_i32_183
  let v423 : Index := Scalar.indexCast v422
  let c96_184 : Index := 96#32
  ![v423.toNat, 96]
def k0_off581 (k0_t67 : Fin k0_t67_loop.trips) : Fin 2 → Nat :=
  let c0_i32_151 : BitVec 32 := 0#32
  let c1_i32_153 : BitVec 32 := 1#32
  let arg17 : BitVec 32 := Scf.iv c0_i32_151 c1_i32_153 k0_t67
  let c16_i32_186 : BitVec 32 := 16#32
  let v436 : BitVec 32 := Scalar.muli arg17 c16_i32_186
  let c12_i32_187 : BitVec 32 := 12#32
  let v437 : BitVec 32 := Scalar.addi v436 c12_i32_187
  let v438 : Index := Scalar.indexCast v437
  let c112_188 : Index := 112#32
  ![v438.toNat, 112]
@[reducible] def k0_t68_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off582 (i : grid0.Coords) (k0_t36 : Fin (k0_t36_loop i).trips) (v323 : BitVec 32) (k0_t68 : Fin k0_t68_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t68
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond71 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_137 : BitVec 32 := 16#32
  let v298 : BitVec 32 := Scalar.muli arg16 c16_i32_137
  let c13_i32 : BitVec 32 := 13#32
  let v299 : BitVec 32 := Scalar.addi v298 c13_i32
  let v300 : BitVec 1 := Scalar.cmpi .slt v299 v103
  let v301 : BitVec 32 := Scalar.extui v300
  let c0_i32_138 : BitVec 32 := 0#32
  let v302 : BitVec 1 := Scalar.cmpi .ne v301 c0_i32_138
  v302

def k0_chk66 (i : grid0.Coords) (k0_t36 : Fin (k0_t36_loop i).trips) (v89 : BitVec 32) (v102 : BitVec 32) (k0_t54 : Fin (k0_t54_loop v89 v102).trips) (v323 : BitVec 32) : Prop :=
  (∀ k0_t68 : Fin k0_t68_loop.trips, ∀ (k0_h71 : k0_cond71 v89 v102 k0_t54 = 1#1), ∀ (r : Fin 8), ∀ a, (k0_off582 i k0_t36 v323 k0_t68 (BitVec.ofNat 32 (16 * r.val))) a + S1x1x16.size a ≤ S2x32x1024.size a)
theorem k0_off582_inb : ∀ (i : grid0.Coords) (k0_t36 : Fin (k0_t36_loop i).trips) (v89 : BitVec 32) (v102 : BitVec 32) (k0_t54 : Fin (k0_t54_loop v89 v102).trips) (v323 : BitVec 32) (k0_hw66 : k0_chk66 i k0_t36 v89 v102 k0_t54 v323) (k0_t68 : Fin k0_t68_loop.trips), ∀ (k0_h71 : k0_cond71 v89 v102 k0_t54 = 1#1), ∀ (r : Fin 8), ∀ a, (k0_off582 i k0_t36 v323 k0_t68 (BitVec.ofNat 32 (16 * r.val))) a + S1x1x16.size a ≤ S2x32x1024.size a := fun i k0_t36 v89 v102 k0_t54 v323 k0_hw66 k0_t68 k0_h71 r => k0_hw66 k0_t68 k0_h71 r

def k0_off583 (k0_t68 : Fin k0_t68_loop.trips) : Fin 2 → Nat :=
  let c0_i32_151 : BitVec 32 := 0#32
  let c1_i32_153 : BitVec 32 := 1#32
  let arg17 : BitVec 32 := Scf.iv c0_i32_151 c1_i32_153 k0_t68
  let c16_i32_156 : BitVec 32 := 16#32
  let v331 : BitVec 32 := Scalar.muli arg17 c16_i32_156
  let c13_i32_157 : BitVec 32 := 13#32
  let v332 : BitVec 32 := Scalar.addi v331 c13_i32_157
  let v333 : Index := Scalar.indexCast v332
  let c0_158 : Index := 0#32
  ![v333.toNat, 0]
def k0_off584 (k0_t68 : Fin k0_t68_loop.trips) : Fin 2 → Nat :=
  let c0_i32_151 : BitVec 32 := 0#32
  let c1_i32_153 : BitVec 32 := 1#32
  let arg17 : BitVec 32 := Scf.iv c0_i32_151 c1_i32_153 k0_t68
  let c16_i32_161 : BitVec 32 := 16#32
  let v346 : BitVec 32 := Scalar.muli arg17 c16_i32_161
  let c13_i32_162 : BitVec 32 := 13#32
  let v347 : BitVec 32 := Scalar.addi v346 c13_i32_162
  let v348 : Index := Scalar.indexCast v347
  let c16_163 : Index := 16#32
  ![v348.toNat, 16]
def k0_off585 (k0_t68 : Fin k0_t68_loop.trips) : Fin 2 → Nat :=
  let c0_i32_151 : BitVec 32 := 0#32
  let c1_i32_153 : BitVec 32 := 1#32
  let arg17 : BitVec 32 := Scf.iv c0_i32_151 c1_i32_153 k0_t68
  let c16_i32_166 : BitVec 32 := 16#32
  let v361 : BitVec 32 := Scalar.muli arg17 c16_i32_166
  let c13_i32_167 : BitVec 32 := 13#32
  let v362 : BitVec 32 := Scalar.addi v361 c13_i32_167
  let v363 : Index := Scalar.indexCast v362
  let c32_168 : Index := 32#32
  ![v363.toNat, 32]
def k0_off586 (k0_t68 : Fin k0_t68_loop.trips) : Fin 2 → Nat :=
  let c0_i32_151 : BitVec 32 := 0#32
  let c1_i32_153 : BitVec 32 := 1#32
  let arg17 : BitVec 32 := Scf.iv c0_i32_151 c1_i32_153 k0_t68
  let c16_i32_170 : BitVec 32 := 16#32
  let v376 : BitVec 32 := Scalar.muli arg17 c16_i32_170
  let c13_i32_171 : BitVec 32 := 13#32
  let v377 : BitVec 32 := Scalar.addi v376 c13_i32_171
  let v378 : Index := Scalar.indexCast v377
  let c48_172 : Index := 48#32
  ![v378.toNat, 48]
def k0_off587 (k0_t68 : Fin k0_t68_loop.trips) : Fin 2 → Nat :=
  let c0_i32_151 : BitVec 32 := 0#32
  let c1_i32_153 : BitVec 32 := 1#32
  let arg17 : BitVec 32 := Scf.iv c0_i32_151 c1_i32_153 k0_t68
  let c16_i32_174 : BitVec 32 := 16#32
  let v391 : BitVec 32 := Scalar.muli arg17 c16_i32_174
  let c13_i32_175 : BitVec 32 := 13#32
  let v392 : BitVec 32 := Scalar.addi v391 c13_i32_175
  let v393 : Index := Scalar.indexCast v392
  let c64_176 : Index := 64#32
  ![v393.toNat, 64]
def k0_off588 (k0_t68 : Fin k0_t68_loop.trips) : Fin 2 → Nat :=
  let c0_i32_151 : BitVec 32 := 0#32
  let c1_i32_153 : BitVec 32 := 1#32
  let arg17 : BitVec 32 := Scf.iv c0_i32_151 c1_i32_153 k0_t68
  let c16_i32_178 : BitVec 32 := 16#32
  let v406 : BitVec 32 := Scalar.muli arg17 c16_i32_178
  let c13_i32_179 : BitVec 32 := 13#32
  let v407 : BitVec 32 := Scalar.addi v406 c13_i32_179
  let v408 : Index := Scalar.indexCast v407
  let c80_180 : Index := 80#32
  ![v408.toNat, 80]
def k0_off589 (k0_t68 : Fin k0_t68_loop.trips) : Fin 2 → Nat :=
  let c0_i32_151 : BitVec 32 := 0#32
  let c1_i32_153 : BitVec 32 := 1#32
  let arg17 : BitVec 32 := Scf.iv c0_i32_151 c1_i32_153 k0_t68
  let c16_i32_182 : BitVec 32 := 16#32
  let v421 : BitVec 32 := Scalar.muli arg17 c16_i32_182
  let c13_i32_183 : BitVec 32 := 13#32
  let v422 : BitVec 32 := Scalar.addi v421 c13_i32_183
  let v423 : Index := Scalar.indexCast v422
  let c96_184 : Index := 96#32
  ![v423.toNat, 96]
def k0_off590 (k0_t68 : Fin k0_t68_loop.trips) : Fin 2 → Nat :=
  let c0_i32_151 : BitVec 32 := 0#32
  let c1_i32_153 : BitVec 32 := 1#32
  let arg17 : BitVec 32 := Scf.iv c0_i32_151 c1_i32_153 k0_t68
  let c16_i32_186 : BitVec 32 := 16#32
  let v436 : BitVec 32 := Scalar.muli arg17 c16_i32_186
  let c13_i32_187 : BitVec 32 := 13#32
  let v437 : BitVec 32 := Scalar.addi v436 c13_i32_187
  let v438 : Index := Scalar.indexCast v437
  let c112_188 : Index := 112#32
  ![v438.toNat, 112]
@[reducible] def k0_t69_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off591 (i : grid0.Coords) (k0_t36 : Fin (k0_t36_loop i).trips) (v323 : BitVec 32) (k0_t69 : Fin k0_t69_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t69
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond72 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_139 : BitVec 32 := 16#32
  let v303 : BitVec 32 := Scalar.muli arg16 c16_i32_139
  let c14_i32_140 : BitVec 32 := 14#32
  let v304 : BitVec 32 := Scalar.addi v303 c14_i32_140
  let v305 : BitVec 1 := Scalar.cmpi .slt v304 v103
  let v306 : BitVec 32 := Scalar.extui v305
  let c0_i32_141 : BitVec 32 := 0#32
  let v307 : BitVec 1 := Scalar.cmpi .ne v306 c0_i32_141
  v307

def k0_chk67 (i : grid0.Coords) (k0_t36 : Fin (k0_t36_loop i).trips) (v89 : BitVec 32) (v102 : BitVec 32) (k0_t54 : Fin (k0_t54_loop v89 v102).trips) (v323 : BitVec 32) : Prop :=
  (∀ k0_t69 : Fin k0_t69_loop.trips, ∀ (k0_h72 : k0_cond72 v89 v102 k0_t54 = 1#1), ∀ (r : Fin 8), ∀ a, (k0_off591 i k0_t36 v323 k0_t69 (BitVec.ofNat 32 (16 * r.val))) a + S1x1x16.size a ≤ S2x32x1024.size a)
theorem k0_off591_inb : ∀ (i : grid0.Coords) (k0_t36 : Fin (k0_t36_loop i).trips) (v89 : BitVec 32) (v102 : BitVec 32) (k0_t54 : Fin (k0_t54_loop v89 v102).trips) (v323 : BitVec 32) (k0_hw67 : k0_chk67 i k0_t36 v89 v102 k0_t54 v323) (k0_t69 : Fin k0_t69_loop.trips), ∀ (k0_h72 : k0_cond72 v89 v102 k0_t54 = 1#1), ∀ (r : Fin 8), ∀ a, (k0_off591 i k0_t36 v323 k0_t69 (BitVec.ofNat 32 (16 * r.val))) a + S1x1x16.size a ≤ S2x32x1024.size a := fun i k0_t36 v89 v102 k0_t54 v323 k0_hw67 k0_t69 k0_h72 r => k0_hw67 k0_t69 k0_h72 r

def k0_off592 (k0_t69 : Fin k0_t69_loop.trips) : Fin 2 → Nat :=
  let c0_i32_151 : BitVec 32 := 0#32
  let c1_i32_153 : BitVec 32 := 1#32
  let arg17 : BitVec 32 := Scf.iv c0_i32_151 c1_i32_153 k0_t69
  let c16_i32_156 : BitVec 32 := 16#32
  let v331 : BitVec 32 := Scalar.muli arg17 c16_i32_156
  let c14_i32_157 : BitVec 32 := 14#32
  let v332 : BitVec 32 := Scalar.addi v331 c14_i32_157
  let v333 : Index := Scalar.indexCast v332
  let c0_158 : Index := 0#32
  ![v333.toNat, 0]
def k0_off593 (k0_t69 : Fin k0_t69_loop.trips) : Fin 2 → Nat :=
  let c0_i32_151 : BitVec 32 := 0#32
  let c1_i32_153 : BitVec 32 := 1#32
  let arg17 : BitVec 32 := Scf.iv c0_i32_151 c1_i32_153 k0_t69
  let c16_i32_161 : BitVec 32 := 16#32
  let v346 : BitVec 32 := Scalar.muli arg17 c16_i32_161
  let c14_i32_162 : BitVec 32 := 14#32
  let v347 : BitVec 32 := Scalar.addi v346 c14_i32_162
  let v348 : Index := Scalar.indexCast v347
  let c16_163 : Index := 16#32
  ![v348.toNat, 16]
def k0_off594 (k0_t69 : Fin k0_t69_loop.trips) : Fin 2 → Nat :=
  let c0_i32_151 : BitVec 32 := 0#32
  let c1_i32_153 : BitVec 32 := 1#32
  let arg17 : BitVec 32 := Scf.iv c0_i32_151 c1_i32_153 k0_t69
  let c16_i32_166 : BitVec 32 := 16#32
  let v361 : BitVec 32 := Scalar.muli arg17 c16_i32_166
  let c14_i32_167 : BitVec 32 := 14#32
  let v362 : BitVec 32 := Scalar.addi v361 c14_i32_167
  let v363 : Index := Scalar.indexCast v362
  let c32_168 : Index := 32#32
  ![v363.toNat, 32]
def k0_off595 (k0_t69 : Fin k0_t69_loop.trips) : Fin 2 → Nat :=
  let c0_i32_151 : BitVec 32 := 0#32
  let c1_i32_153 : BitVec 32 := 1#32
  let arg17 : BitVec 32 := Scf.iv c0_i32_151 c1_i32_153 k0_t69
  let c16_i32_170 : BitVec 32 := 16#32
  let v376 : BitVec 32 := Scalar.muli arg17 c16_i32_170
  let c14_i32_171 : BitVec 32 := 14#32
  let v377 : BitVec 32 := Scalar.addi v376 c14_i32_171
  let v378 : Index := Scalar.indexCast v377
  let c48_172 : Index := 48#32
  ![v378.toNat, 48]
def k0_off596 (k0_t69 : Fin k0_t69_loop.trips) : Fin 2 → Nat :=
  let c0_i32_151 : BitVec 32 := 0#32
  let c1_i32_153 : BitVec 32 := 1#32
  let arg17 : BitVec 32 := Scf.iv c0_i32_151 c1_i32_153 k0_t69
  let c16_i32_174 : BitVec 32 := 16#32
  let v391 : BitVec 32 := Scalar.muli arg17 c16_i32_174
  let c14_i32_175 : BitVec 32 := 14#32
  let v392 : BitVec 32 := Scalar.addi v391 c14_i32_175
  let v393 : Index := Scalar.indexCast v392
  let c64_176 : Index := 64#32
  ![v393.toNat, 64]
def k0_off597 (k0_t69 : Fin k0_t69_loop.trips) : Fin 2 → Nat :=
  let c0_i32_151 : BitVec 32 := 0#32
  let c1_i32_153 : BitVec 32 := 1#32
  let arg17 : BitVec 32 := Scf.iv c0_i32_151 c1_i32_153 k0_t69
  let c16_i32_178 : BitVec 32 := 16#32
  let v406 : BitVec 32 := Scalar.muli arg17 c16_i32_178
  let c14_i32_179 : BitVec 32 := 14#32
  let v407 : BitVec 32 := Scalar.addi v406 c14_i32_179
  let v408 : Index := Scalar.indexCast v407
  let c80_180 : Index := 80#32
  ![v408.toNat, 80]
def k0_off598 (k0_t69 : Fin k0_t69_loop.trips) : Fin 2 → Nat :=
  let c0_i32_151 : BitVec 32 := 0#32
  let c1_i32_153 : BitVec 32 := 1#32
  let arg17 : BitVec 32 := Scf.iv c0_i32_151 c1_i32_153 k0_t69
  let c16_i32_182 : BitVec 32 := 16#32
  let v421 : BitVec 32 := Scalar.muli arg17 c16_i32_182
  let c14_i32_183 : BitVec 32 := 14#32
  let v422 : BitVec 32 := Scalar.addi v421 c14_i32_183
  let v423 : Index := Scalar.indexCast v422
  let c96_184 : Index := 96#32
  ![v423.toNat, 96]
def k0_off599 (k0_t69 : Fin k0_t69_loop.trips) : Fin 2 → Nat :=
  let c0_i32_151 : BitVec 32 := 0#32
  let c1_i32_153 : BitVec 32 := 1#32
  let arg17 : BitVec 32 := Scf.iv c0_i32_151 c1_i32_153 k0_t69
  let c16_i32_186 : BitVec 32 := 16#32
  let v436 : BitVec 32 := Scalar.muli arg17 c16_i32_186
  let c14_i32_187 : BitVec 32 := 14#32
  let v437 : BitVec 32 := Scalar.addi v436 c14_i32_187
  let v438 : Index := Scalar.indexCast v437
  let c112_188 : Index := 112#32
  ![v438.toNat, 112]
@[reducible] def k0_t70_loop : Scf.Loop 32 :=
  let c0_i32_151 : BitVec 32 := 0#32
  let c8_i32_152 : BitVec 32 := 8#32
  let v324 : BitVec 32 := Scalar.addi c0_i32_151 c8_i32_152
  let c1_i32_153 : BitVec 32 := 1#32
  ⟨c0_i32_151, v324, c1_i32_153⟩
def k0_off600 (i : grid0.Coords) (k0_t36 : Fin (k0_t36_loop i).trips) (v323 : BitVec 32) (k0_t70 : Fin k0_t70_loop.trips) (c0_i32_155 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let v51 : BitVec 32 := Scalar.subi v39 c0_i32_24
  let c1_i32_25 : BitVec 32 := 1#32
  let v53 : BitVec 32 := Scalar.divsi v51 c1_i32_25
  let v54 : BitVec 32 := Scalar.muli v53 c1_i32_25
  let v55 : BitVec 32 := Scalar.addi c0_i32_24 v54
  let c1_i32_27 : BitVec 32 := 1#32
  let arg15 : BitVec 32 := Scf.iv v55 c1_i32_27 k0_t36
  let c1_i32_40 : BitVec 32 := 1#32
  let v72 : BitVec 32 := Scalar.andi arg15 c1_i32_40
  let v327 : Index := Scalar.indexCast v72
  let v328 : Index := Scalar.indexCast v323
  let c0_i32_151 : BitVec 32 := 0#32
  let c1_i32_153 : BitVec 32 := 1#32
  let arg17 : BitVec 32 := Scf.iv c0_i32_151 c1_i32_153 k0_t70
  let c128_i32 : BitVec 32 := 128#32
  let v325 : BitVec 32 := Scalar.muli arg17 c128_i32
  let v326 : BitVec 32 := Scalar.addi v325 c0_i32_155
  let v329 : Index := Scalar.indexCast v326
  ![v327.toNat, v328.toNat, v329.toNat]
def k0_cond73 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c16_i32_142 : BitVec 32 := 16#32
  let v308 : BitVec 32 := Scalar.muli arg16 c16_i32_142
  let c15_i32_143 : BitVec 32 := 15#32
  let v309 : BitVec 32 := Scalar.addi v308 c15_i32_143
  let v310 : BitVec 1 := Scalar.cmpi .slt v309 v103
  let v311 : BitVec 32 := Scalar.extui v310
  let c0_i32_144 : BitVec 32 := 0#32
  let v312 : BitVec 1 := Scalar.cmpi .ne v311 c0_i32_144
  v312

def k0_chk68 (i : grid0.Coords) (k0_t36 : Fin (k0_t36_loop i).trips) (v89 : BitVec 32) (v102 : BitVec 32) (k0_t54 : Fin (k0_t54_loop v89 v102).trips) (v323 : BitVec 32) : Prop :=
  (∀ k0_t70 : Fin k0_t70_loop.trips, ∀ (k0_h73 : k0_cond73 v89 v102 k0_t54 = 1#1), ∀ (r : Fin 8), ∀ a, (k0_off600 i k0_t36 v323 k0_t70 (BitVec.ofNat 32 (16 * r.val))) a + S1x1x16.size a ≤ S2x32x1024.size a)
theorem k0_off600_inb : ∀ (i : grid0.Coords) (k0_t36 : Fin (k0_t36_loop i).trips) (v89 : BitVec 32) (v102 : BitVec 32) (k0_t54 : Fin (k0_t54_loop v89 v102).trips) (v323 : BitVec 32) (k0_hw68 : k0_chk68 i k0_t36 v89 v102 k0_t54 v323) (k0_t70 : Fin k0_t70_loop.trips), ∀ (k0_h73 : k0_cond73 v89 v102 k0_t54 = 1#1), ∀ (r : Fin 8), ∀ a, (k0_off600 i k0_t36 v323 k0_t70 (BitVec.ofNat 32 (16 * r.val))) a + S1x1x16.size a ≤ S2x32x1024.size a := fun i k0_t36 v89 v102 k0_t54 v323 k0_hw68 k0_t70 k0_h73 r => k0_hw68 k0_t70 k0_h73 r

def k0_off601 (k0_t70 : Fin k0_t70_loop.trips) : Fin 2 → Nat :=
  let c0_i32_151 : BitVec 32 := 0#32
  let c1_i32_153 : BitVec 32 := 1#32
  let arg17 : BitVec 32 := Scf.iv c0_i32_151 c1_i32_153 k0_t70
  let c16_i32_156 : BitVec 32 := 16#32
  let v331 : BitVec 32 := Scalar.muli arg17 c16_i32_156
  let c15_i32_157 : BitVec 32 := 15#32
  let v332 : BitVec 32 := Scalar.addi v331 c15_i32_157
  let v333 : Index := Scalar.indexCast v332
  let c0_158 : Index := 0#32
  ![v333.toNat, 0]
def k0_off602 (k0_t70 : Fin k0_t70_loop.trips) : Fin 2 → Nat :=
  let c0_i32_151 : BitVec 32 := 0#32
  let c1_i32_153 : BitVec 32 := 1#32
  let arg17 : BitVec 32 := Scf.iv c0_i32_151 c1_i32_153 k0_t70
  let c16_i32_161 : BitVec 32 := 16#32
  let v346 : BitVec 32 := Scalar.muli arg17 c16_i32_161
  let c15_i32_162 : BitVec 32 := 15#32
  let v347 : BitVec 32 := Scalar.addi v346 c15_i32_162
  let v348 : Index := Scalar.indexCast v347
  let c16_163 : Index := 16#32
  ![v348.toNat, 16]
def k0_off603 (k0_t70 : Fin k0_t70_loop.trips) : Fin 2 → Nat :=
  let c0_i32_151 : BitVec 32 := 0#32
  let c1_i32_153 : BitVec 32 := 1#32
  let arg17 : BitVec 32 := Scf.iv c0_i32_151 c1_i32_153 k0_t70
  let c16_i32_166 : BitVec 32 := 16#32
  let v361 : BitVec 32 := Scalar.muli arg17 c16_i32_166
  let c15_i32_167 : BitVec 32 := 15#32
  let v362 : BitVec 32 := Scalar.addi v361 c15_i32_167
  let v363 : Index := Scalar.indexCast v362
  let c32_168 : Index := 32#32
  ![v363.toNat, 32]
def k0_off604 (k0_t70 : Fin k0_t70_loop.trips) : Fin 2 → Nat :=
  let c0_i32_151 : BitVec 32 := 0#32
  let c1_i32_153 : BitVec 32 := 1#32
  let arg17 : BitVec 32 := Scf.iv c0_i32_151 c1_i32_153 k0_t70
  let c16_i32_170 : BitVec 32 := 16#32
  let v376 : BitVec 32 := Scalar.muli arg17 c16_i32_170
  let c15_i32_171 : BitVec 32 := 15#32
  let v377 : BitVec 32 := Scalar.addi v376 c15_i32_171
  let v378 : Index := Scalar.indexCast v377
  let c48_172 : Index := 48#32
  ![v378.toNat, 48]
def k0_off605 (k0_t70 : Fin k0_t70_loop.trips) : Fin 2 → Nat :=
  let c0_i32_151 : BitVec 32 := 0#32
  let c1_i32_153 : BitVec 32 := 1#32
  let arg17 : BitVec 32 := Scf.iv c0_i32_151 c1_i32_153 k0_t70
  let c16_i32_174 : BitVec 32 := 16#32
  let v391 : BitVec 32 := Scalar.muli arg17 c16_i32_174
  let c15_i32_175 : BitVec 32 := 15#32
  let v392 : BitVec 32 := Scalar.addi v391 c15_i32_175
  let v393 : Index := Scalar.indexCast v392
  let c64_176 : Index := 64#32
  ![v393.toNat, 64]
def k0_off606 (k0_t70 : Fin k0_t70_loop.trips) : Fin 2 → Nat :=
  let c0_i32_151 : BitVec 32 := 0#32
  let c1_i32_153 : BitVec 32 := 1#32
  let arg17 : BitVec 32 := Scf.iv c0_i32_151 c1_i32_153 k0_t70
  let c16_i32_178 : BitVec 32 := 16#32
  let v406 : BitVec 32 := Scalar.muli arg17 c16_i32_178
  let c15_i32_179 : BitVec 32 := 15#32
  let v407 : BitVec 32 := Scalar.addi v406 c15_i32_179
  let v408 : Index := Scalar.indexCast v407
  let c80_180 : Index := 80#32
  ![v408.toNat, 80]
def k0_off607 (k0_t70 : Fin k0_t70_loop.trips) : Fin 2 → Nat :=
  let c0_i32_151 : BitVec 32 := 0#32
  let c1_i32_153 : BitVec 32 := 1#32
  let arg17 : BitVec 32 := Scf.iv c0_i32_151 c1_i32_153 k0_t70
  let c16_i32_182 : BitVec 32 := 16#32
  let v421 : BitVec 32 := Scalar.muli arg17 c16_i32_182
  let c15_i32_183 : BitVec 32 := 15#32
  let v422 : BitVec 32 := Scalar.addi v421 c15_i32_183
  let v423 : Index := Scalar.indexCast v422
  let c96_184 : Index := 96#32
  ![v423.toNat, 96]
def k0_off608 (k0_t70 : Fin k0_t70_loop.trips) : Fin 2 → Nat :=
  let c0_i32_151 : BitVec 32 := 0#32
  let c1_i32_153 : BitVec 32 := 1#32
  let arg17 : BitVec 32 := Scf.iv c0_i32_151 c1_i32_153 k0_t70
  let c16_i32_186 : BitVec 32 := 16#32
  let v436 : BitVec 32 := Scalar.muli arg17 c16_i32_186
  let c15_i32_187 : BitVec 32 := 15#32
  let v437 : BitVec 32 := Scalar.addi v436 c15_i32_187
  let v438 : Index := Scalar.indexCast v437
  let c112_188 : Index := 112#32
  ![v438.toNat, 112]
def k0_off609 (v89 : BitVec 32) (v102 : BitVec 32) (k0_t54 : Fin (k0_t54_loop v89 v102).trips) : Fin 1 → Nat :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c1_i32_147 : BitVec 32 := 1#32
  let v317 : BitVec 32 := Scalar.addi arg16 c1_i32_147
  let c16_i32_148 : BitVec 32 := 16#32
  let v318 : BitVec 32 := Scalar.muli v317 c16_i32_148
  let v319 : BitVec 32 := Scalar.addi v89 v318
  let v320 : Index := Scalar.indexCast v319
  ![v320.toNat]
def k0_cond74 (v89 : BitVec 32) (v102 : BitVec 32) (k0_t54 : Fin (k0_t54_loop v89 v102).trips) : BitVec 1 :=
  let c0_i32_87 : BitVec 32 := 0#32
  let v103 : BitVec 32 := Scalar.subi v102 v89
  let c16_i32 : BitVec 32 := 16#32
  let v104 : BitVec 32 := Scalar.addi v103 c16_i32
  let c1_i32_51 : BitVec 32 := 1#32
  let v105 : BitVec 32 := Scalar.subi v104 c1_i32_51
  let c0_i32_53 : BitVec 32 := 0#32
  let v107 : BitVec 1 := Scalar.cmpi .sgt v105 c0_i32_53
  let v108 : BitVec 32 := Scalar.extui v107
  let c0_i32_54 : BitVec 32 := 0#32
  let v109 : BitVec 1 := Scalar.cmpi .slt v105 c0_i32_54
  let v110 : BitVec 32 := Scalar.extui v109
  let v111 : BitVec 32 := Scalar.subi v108 v110
  let c16_i32_52 : BitVec 32 := 16#32
  let c0_i32_55 : BitVec 32 := 0#32
  let v112 : BitVec 1 := Scalar.cmpi .sgt c16_i32_52 c0_i32_55
  let v113 : BitVec 32 := Scalar.extui v112
  let c0_i32_56 : BitVec 32 := 0#32
  let v114 : BitVec 1 := Scalar.cmpi .slt c16_i32_52 c0_i32_56
  let v115 : BitVec 32 := Scalar.extui v114
  let v116 : BitVec 32 := Scalar.subi v113 v115
  let v117 : BitVec 1 := Scalar.cmpi .ne v111 v116
  let v118 : BitVec 32 := Scalar.remsi v105 c16_i32_52
  let c0_i32_57 : BitVec 32 := 0#32
  let v119 : BitVec 1 := Scalar.cmpi .ne v118 c0_i32_57
  let v120 : BitVec 1 := Scalar.andi v117 v119
  let v106 : BitVec 32 := Scalar.divsi v105 c16_i32_52
  let c1_i32_58 : BitVec 32 := 1#32
  let v121 : BitVec 32 := Scalar.subi v106 c1_i32_58
  let v122 : BitVec 32 := Scalar.select v120 v121 v106
  let v208 : BitVec 32 := Scalar.subi v122 c0_i32_87
  let c1_i32_88 : BitVec 32 := 1#32
  let v210 : BitVec 32 := Scalar.divsi v208 c1_i32_88
  let v211 : BitVec 32 := Scalar.muli v210 c1_i32_88
  let v212 : BitVec 32 := Scalar.addi c0_i32_87 v211
  let c1_i32_90 : BitVec 32 := 1#32
  let arg16 : BitVec 32 := Scf.iv v212 c1_i32_90 k0_t54
  let c1_i32_145 : BitVec 32 := 1#32
  let v313 : BitVec 32 := Scalar.addi arg16 c1_i32_145
  let v314 : BitVec 1 := Scalar.cmpi .slt v313 v122
  let v315 : BitVec 32 := Scalar.extui v314
  let c0_i32_146 : BitVec 32 := 0#32
  let v316 : BitVec 1 := Scalar.cmpi .ne v315 c0_i32_146
  v316

def k0_chk36 (i : grid0.Coords) (k0_t36 : Fin (k0_t36_loop i).trips) (v89 : BitVec 32) (v102 : BitVec 32) : Prop :=
  ((k0_t37_loop v89 v102).OK) ∧
  (∀ k0_t37 : Fin (k0_t37_loop v89 v102).trips, ∀ a, (k0_off318 v89 v102 k0_t37) a + S16.size a ≤ S16400.size a) ∧
  (∀ k0_t37 : Fin (k0_t37_loop v89 v102).trips, ∀ (k0_h57 : k0_cond57 v89 v102 k0_t37 = 1#1), ∀ a, (k0_off463 v89 v102 k0_t37) a + S16.size a ≤ S16400.size a) ∧
  ((k0_t54_loop v89 v102).OK) ∧
  (∀ k0_t54 : Fin (k0_t54_loop v89 v102).trips, ∀ a, (k0_off464 v89 v102 k0_t54) a + S16.size a ≤ S16400.size a) ∧
  (∀ k0_t54 : Fin (k0_t54_loop v89 v102).trips, ∀ (k0_h74 : k0_cond74 v89 v102 k0_t54 = 1#1), ∀ a, (k0_off609 v89 v102 k0_t54) a + S16.size a ≤ S16400.size a)
theorem k0_t37_ok : ∀ (i : grid0.Coords) (k0_t36 : Fin (k0_t36_loop i).trips) (v89 : BitVec 32) (v102 : BitVec 32) (k0_hw36 : k0_chk36 i k0_t36 v89 v102), (k0_t37_loop v89 v102).OK := fun i k0_t36 v89 v102 k0_hw36 => k0_hw36.1
theorem k0_off318_inb : ∀ (i : grid0.Coords) (k0_t36 : Fin (k0_t36_loop i).trips) (v89 : BitVec 32) (v102 : BitVec 32) (k0_hw36 : k0_chk36 i k0_t36 v89 v102) (k0_t37 : Fin (k0_t37_loop v89 v102).trips), ∀ a, (k0_off318 v89 v102 k0_t37) a + S16.size a ≤ S16400.size a := fun i k0_t36 v89 v102 k0_hw36 k0_t37 => k0_hw36.2.1 k0_t37
theorem k0_off463_inb : ∀ (i : grid0.Coords) (k0_t36 : Fin (k0_t36_loop i).trips) (v89 : BitVec 32) (v102 : BitVec 32) (k0_hw36 : k0_chk36 i k0_t36 v89 v102) (k0_t37 : Fin (k0_t37_loop v89 v102).trips), ∀ (k0_h57 : k0_cond57 v89 v102 k0_t37 = 1#1), ∀ a, (k0_off463 v89 v102 k0_t37) a + S16.size a ≤ S16400.size a := fun i k0_t36 v89 v102 k0_hw36 k0_t37 k0_h57 => k0_hw36.2.2.1 k0_t37 k0_h57
theorem k0_t54_ok : ∀ (i : grid0.Coords) (k0_t36 : Fin (k0_t36_loop i).trips) (v89 : BitVec 32) (v102 : BitVec 32) (k0_hw36 : k0_chk36 i k0_t36 v89 v102), (k0_t54_loop v89 v102).OK := fun i k0_t36 v89 v102 k0_hw36 => k0_hw36.2.2.2.1
theorem k0_off464_inb : ∀ (i : grid0.Coords) (k0_t36 : Fin (k0_t36_loop i).trips) (v89 : BitVec 32) (v102 : BitVec 32) (k0_hw36 : k0_chk36 i k0_t36 v89 v102) (k0_t54 : Fin (k0_t54_loop v89 v102).trips), ∀ a, (k0_off464 v89 v102 k0_t54) a + S16.size a ≤ S16400.size a := fun i k0_t36 v89 v102 k0_hw36 k0_t54 => k0_hw36.2.2.2.2.1 k0_t54
theorem k0_off609_inb : ∀ (i : grid0.Coords) (k0_t36 : Fin (k0_t36_loop i).trips) (v89 : BitVec 32) (v102 : BitVec 32) (k0_hw36 : k0_chk36 i k0_t36 v89 v102) (k0_t54 : Fin (k0_t54_loop v89 v102).trips), ∀ (k0_h74 : k0_cond74 v89 v102 k0_t54 = 1#1), ∀ a, (k0_off609 v89 v102 k0_t54) a + S16.size a ≤ S16400.size a := fun i k0_t36 v89 v102 k0_hw36 k0_t54 k0_h74 => k0_hw36.2.2.2.2.2 k0_t54 k0_h74

def k0_cond75 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let c2_i32_28 : BitVec 32 := 2#32
  let v56 : BitVec 1 := Scalar.cmpi .sge v39 c2_i32_28
  let v57 : BitVec 32 := Scalar.extui v56
  let c0_i32_29 : BitVec 32 := 0#32
  let v58 : BitVec 1 := Scalar.cmpi .ne v57 c0_i32_29
  v58

def k0_off610 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let c1_i32_41 : BitVec 32 := 1#32
  let v73 : BitVec 32 := Scalar.andi v39 c1_i32_41
  let c0_i32_43 : BitVec 32 := 0#32
  let c0_i32_44 : BitVec 32 := 0#32
  ![v73.toNat, 0, 0]
def k0_off611 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let c2_i32_40 : BitVec 32 := 2#32
  let v72 : BitVec 32 := Scalar.subi v39 c2_i32_40
  let v74 : BitVec 32 := Scalar.addi v19 v72
  let c32_i32_42 : BitVec 32 := 32#32
  let v75 : BitVec 32 := Scalar.muli v74 c32_i32_42
  let c0_i32_45 : BitVec 32 := 0#32
  ![v75.toNat, 0]
def k0_off612 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let c1_i32_41 : BitVec 32 := 1#32
  let v73 : BitVec 32 := Scalar.andi v39 c1_i32_41
  ![v73.toNat]
def k0_off613 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let c1_i32_31 : BitVec 32 := 1#32
  let v60 : BitVec 32 := Scalar.subi v39 c1_i32_31
  let c1_i32_32 : BitVec 32 := 1#32
  let v61 : BitVec 32 := Scalar.andi v60 c1_i32_32
  let c0_i32_34 : BitVec 32 := 0#32
  let c0_i32_35 : BitVec 32 := 0#32
  ![v61.toNat, 0, 0]
def k0_off614 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v39 : BitVec 32 := Scalar.subi v38 v19
  let c1_i32_30 : BitVec 32 := 1#32
  let v59 : BitVec 32 := Scalar.subi v39 c1_i32_30
  let v62 : BitVec 32 := Scalar.addi v19 v59
  let c32_i32_33 : BitVec 32 := 32#32
  let v63 : BitVec 32 := Scalar.muli v62 c32_i32_33
  let c0_i32_36 : BitVec 32 := 0#32
  ![v63.toNat, 0]
def k0_off615 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v20 : BitVec 32 := Scalar.addi v1 c1_i32_4
  let c3125_i32_5 : BitVec 32 := 3125#32
  let v21 : BitVec 32 := Scalar.muli v20 c3125_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let c3125_i32 : BitVec 32 := 3125#32
  let v2 : BitVec 32 := Scalar.muli v1 c3125_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let v39 : BitVec 32 := Scalar.subi v38 v19
  let c1_i32_31 : BitVec 32 := 1#32
  let v60 : BitVec 32 := Scalar.subi v39 c1_i32_31
  let c1_i32_32 : BitVec 32 := 1#32
  let v61 : BitVec 32 := Scalar.andi v60 c1_i32_32
  ![v61.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024x16384 : Shape := ⟨2, ![1024, 16384]⟩
abbrev S16384 : Shape := ⟨1, ![16384]⟩
abbrev S_ : Shape := ⟨0, ![]⟩
abbrev S16384x1 : Shape := ⟨2, ![16384, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x16384, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Offs.lean ====
/-
  The numbers the program computes from a subcore's coordinates and from the chunk it is at, in closed form: which
  chunks a subcore owns, and the offsets of every slice it takes.
-/
module

public import proofs.«01_k».proof.Defs
public import proofs.«01_k».proof.Proof.Gen.KernelIdeal

@[expose] public section

namespace Cert.Proof.Scatter

open Cert.KernelIdeal Cert.KernelIdeal.Gen
open Idealize.ShloMosaic

/-- The subcore's number among the thirty-two. -/
abbrev wid (i : grid0.Coords) : ℕ := (i 1).val * 2 + (i 0).val

/-- The first chunk the subcore owns. -/
abbrev cLo (i : grid0.Coords) : ℕ := wid i * 3125 / 32

/-- How many chunks the subcore owns. -/
abbrev nck (i : grid0.Coords) : ℕ := (wid i + 1) * 3125 / 32 - wid i * 3125 / 32

theorem t1_trips : ∀ i : grid0.Coords, (k0_t1_loop i).trips = nck i := by decide +kernel
theorem t36_trips : ∀ i : grid0.Coords, (k0_t36_loop i).trips = 0 := by decide +kernel
theorem nck_two : ∀ i : grid0.Coords, 2 ≤ nck i := by decide +kernel
theorem chunks_le : ∀ i : grid0.Coords, cLo i + nck i ≤ 3125 := by decide +kernel

theorem off1_eq : ∀ i : grid0.Coords, k0_off1 i = ![32 * cLo i, 0] := by decide +kernel
theorem cond1_iff : ∀ (i : grid0.Coords) (k : Fin (k0_t1_loop i).trips), k0_cond1 i k = 1#1 ↔ k.val + 1 < nck i := by decide +kernel
theorem cond2_iff : ∀ (i : grid0.Coords) (k : Fin (k0_t1_loop i).trips), k0_cond2 i k = 1#1 ↔ 1 ≤ k.val := by decide +kernel
theorem off2_eq : ∀ (i : grid0.Coords) (k : Fin (k0_t1_loop i).trips), k0_off2 i k = ![(k.val + 1) % 2, 0, 0] := by decide +kernel
theorem off3_eq : ∀ (i : grid0.Coords) (k : Fin (k0_t1_loop i).trips), 1 ≤ k.val → k0_off3 i k = ![32 * (cLo i + (k.val - 1)), 0] := by decide +kernel
theorem off4_eq : ∀ (i : grid0.Coords) (k : Fin (k0_t1_loop i).trips), k0_off4 i k = ![(k.val + 1) % 2] := by decide +kernel
theorem off5_eq : ∀ (i : grid0.Coords) (k : Fin (k0_t1_loop i).trips), k0_off5 i k = ![(k.val + 1) % 2, 0, 0] := by decide +kernel
theorem off6_eq : ∀ (i : grid0.Coords) (k : Fin (k0_t1_loop i).trips), k0_off6 i k = ![32 * (cLo i + (k.val + 1)), 0] := by decide +kernel
theorem off7_eq : ∀ (i : grid0.Coords) (k : Fin (k0_t1_loop i).trips), k0_off7 i k = ![(k.val + 1) % 2] := by decide +kernel
theorem off8_eq : ∀ (i : grid0.Coords) (k : Fin (k0_t1_loop i).trips), k0_off8 i k = ![(cLo i + k.val) / 16 * 16] := by decide +kernel
theorem off9_eq : ∀ (i : grid0.Coords) (k : Fin (k0_t1_loop i).trips), k0_off9 i k = ![(cLo i + k.val + 1) / 16 * 16] := by decide +kernel
theorem off11_eq : ∀ (i : grid0.Coords) (k : Fin (k0_t1_loop i).trips), k0_off11 i k = ![k.val % 2, 0, 0] := by decide +kernel
theorem off12_eq : ∀ (i : grid0.Coords) (k : Fin (k0_t1_loop i).trips), k0_off12 i k = ![32 * (cLo i + k.val), 0] := by decide +kernel
theorem off13_eq : ∀ (i : grid0.Coords) (k : Fin (k0_t1_loop i).trips), k0_off13 i k = ![k.val % 2] := by decide +kernel
theorem cond75_eq : ∀ i : grid0.Coords, k0_cond75 i = 1#1 := by decide +kernel
theorem off610_eq : ∀ i : grid0.Coords, k0_off610 i = ![nck i % 2, 0, 0] := by decide +kernel
theorem off611_eq : ∀ i : grid0.Coords, k0_off611 i = ![32 * (cLo i + (nck i - 2)), 0] := by decide +kernel
theorem off612_eq : ∀ i : grid0.Coords, k0_off612 i = ![nck i % 2] := by decide +kernel
theorem off613_eq : ∀ i : grid0.Coords, k0_off613 i = ![(nck i - 1) % 2, 0, 0] := by decide +kernel
theorem off614_eq : ∀ i : grid0.Coords, k0_off614 i = ![32 * (cLo i + (nck i - 1)), 0] := by decide +kernel
theorem off615_eq : ∀ i : grid0.Coords, k0_off615 i = ![(nck i - 1) % 2] := by decide +kernel

end Cert.Proof.Scatter

end
-- ==== Proof.Base.lean ====
/-
  The program as the launch theorem sees it, the buffers a subcore works on, and the words for what it leaves: a row of
  the table with the first `n` of its entries added one after another.
-/
module

public import proofs.«01_k».proof.Proof.Offs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import Idealize.ShloMosaic.Lib.Pipeline.Value
public import proofs.«01_k».proof.Proof.Gen.KernelIdeal.Skeleton

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

/-- The thread of the vector subcore at coordinates `L`. -/
abbrev thr (d : Dev nD) (L : grid0.Coords) : Thread nD τ := V d (cV L) (jV L)

/-- The effects a subcore's program has. -/
abbrev Eff (F : FTy → Type) (L : grid0.Coords) := TpuEff nD τ sig (Elt F) Λ₀ (.scVector (cV L) (jV L))

/-! ## The buffers -/

abbrev tabM : Memref sig .scVector .hbm S100000x1024 .f32 := Memref.whole main_v0_scv
abbrev xM : Memref sig .scVector .hbm S131072x128 .f32 := Memref.whole main_v2_scv
abbrev pkM : Memref sig .scVector .hbm S16384 .i32 := Memref.whole main_v7_scv
abbrev stM : Memref sig .scVector .hbm S3126 .i32 := Memref.whole main_v15_scv
abbrev resM : Memref sig .scVector .hbm S100000x1024 .f32 := Memref.whole main_v16_scv
abbrev cM : Memref sig .scVector .vmem S2x32x1024 .f32 := Memref.whole cc0_scratch0
abbrev gM : Memref sig .scVector .vmem S128x128 .f32 := Memref.whole cc0_scratch1
abbrev pM : Memref sig .scVector .vmem S16400 .i32 := Memref.whole cc0_scratch2
abbrev sM : Memref sig .scVector .vmem S3141 .i32 := Memref.whole cc0_scratch3
abbrev jM : Memref sig .scVector .vmem S128 .i32 := Memref.whole cc0_scratch4

/-! ## Reading arrays by numbers -/

/-- A table's element at row `r`, column `j`. -/
def rd (T : S100000x1024.Idx → Elt F .f32) (r j : ℕ) : Elt F .f32 :=
  T (ix2 (⟨r % 100000, Nat.mod_lt _ (by omega)⟩ : Fin 100000) (⟨j % 1024, Nat.mod_lt _ (by omega)⟩ : Fin 1024))

/-- A row of the long list of rows, by number. -/
def rx (X : S131072x128.Idx → Elt F .f32) (r j : ℕ) : Elt F .f32 :=
  X (ix2 (⟨r % 131072, Nat.mod_lt _ (by omega)⟩ : Fin 131072) (⟨j % 128, Nat.mod_lt _ (by omega)⟩ : Fin 128))

/-- Entry `e` of the sorted list, as a number. -/
def pk (P : S16384.Idx → Elt F .i32) (e : ℕ) : ℕ := BitVec.toNat (w := 32) (P (ix1 (⟨e % 16384, Nat.mod_lt _ (by omega)⟩ : Fin 16384)))

/-- Where chunk `c` begins in the sorted list. -/
def st (S : S3126.Idx → Elt F .i32) (c : ℕ) : ℕ := BitVec.toNat (w := 32) (S (ix1 (⟨c % 3126, Nat.mod_lt _ (by omega)⟩ : Fin 3126)))

/-- What the program relies on: the chunks' beginnings go up, within the list, and the entries of a chunk are of its rows. -/
def Good (P : S16384.Idx → Elt F .i32) (S : S3126.Idx → Elt F .i32) : Prop :=
  ∀ c < 3125, st S c ≤ st S (c + 1) ∧ st S (c + 1) ≤ 16384 ∧ ∀ e, st S c ≤ e → e < st S (c + 1) → pk P e / 16384 / 32 = c

variable [FloatOps F]

/-- Row `r`, column `j` of the table after the first `n` entries from `e₀` on were looked at in turn, each of this row
    added. -/
def part (T : S100000x1024.Idx → Elt F .f32) (X : S131072x128.Idx → Elt F .f32) (P : S16384.Idx → Elt F .i32) (e₀ : ℕ) :
    ℕ → ℕ → ℕ → Elt F .f32
  | 0, r, j => rd T r j
  | n + 1, r, j => if pk P (e₀ + n) / 16384 = r
      then FloatOps.addf (part T X P e₀ n r j) (rx X (pk P (e₀ + n) % 16384 * 8 + j / 128) (j % 128))
      else part T X P e₀ n r j

/-- What the program leaves at row `r`, column `j`. -/
def G (T : S100000x1024.Idx → Elt F .f32) (X : S131072x128.Idx → Elt F .f32) (P : S16384.Idx → Elt F .i32) (S : S3126.Idx → Elt F .i32)
    (r j : ℕ) : Elt F .f32 :=
  part T X P (st S (r / 32)) (st S (r / 32 + 1) - st S (r / 32)) r j

end Cert.Proof.Scatter

end
-- ==== Proof.Words.lean ====
/-
  The words the program computes with: how many batches a chunk's entries make, where each batch is read, and the word picked out of sixteen.
-/
module

public import proofs.«01_k».proof.Proof.Base

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The numbers of a chunk's batches -/

/-- The number of batches of sixteen that `n` entries make, as the program computes it. -/
def nbW (n : BitVec 32) : BitVec 32 :=
  let a := Scalar.subi (Scalar.addi n 16#32) 1#32
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt 16#32 0#32)) (Scalar.extui (Scalar.cmpi .slt 16#32 0#32))))
      (Scalar.cmpi .ne (Scalar.remsi a 16#32) 0#32))
    (Scalar.subi (Scalar.divsi a 16#32) 1#32) (Scalar.divsi a 16#32)

theorem nbW_eq : ∀ n : Fin 16385, nbW (BitVec.ofNat 32 n.val) = BitVec.ofNat 32 ((n.val + 15) / 16) := by decide +kernel

theorem ub_eq : ∀ m : Fin 1025, Scalar.addi 0#32 (Scalar.muli (Scalar.divsi (Scalar.subi (BitVec.ofNat 32 m.val) 0#32) 1#32) 1#32)
    = BitVec.ofNat 32 m.val := by decide +kernel
theorem ub_eq' : ∀ m : Fin 1025, Scalar.addi 0#32 (Scalar.subi (BitVec.ofNat 32 m.val) 0#32) = BitVec.ofNat 32 m.val := by decide +kernel
theorem trips_eq : ∀ m : Fin 1025, Scf.trips 0#32 (BitVec.ofNat 32 m.val) 1#32 = m.val := by decide +kernel
theorem ok_eq : ∀ m : Fin 1025, Scf.OK 0#32 (BitVec.ofNat 32 m.val) 1#32 := by decide +kernel
theorem trips_nil : ∀ m : Fin 1025, Scf.trips (BitVec.ofNat 32 m.val) (BitVec.ofNat 32 m.val) 1#32 = 0 := by decide +kernel
theorem ok_nil : ∀ m : Fin 1025, Scf.OK (BitVec.ofNat 32 m.val) (BitVec.ofNat 32 m.val) 1#32 := by decide +kernel

/-- `v89` and `v102` are the first entry `e₀` and the entry past the last of a chunk with `n` entries. -/
structure Rng (v89 v102 : BitVec 32) (e₀ n : ℕ) : Prop where
  lo : v89.toNat = e₀
  hi : v102.toNat = e₀ + n
  le : e₀ + n ≤ 16384

variable {v89 v102 : BitVec 32} {e₀ n : ℕ}

theorem Rng.sub (h : Rng v89 v102 e₀ n) : Scalar.subi v102 v89 = BitVec.ofNat 32 n := by
  have := h.lo; have := h.hi; have := h.le
  show v102 - v89 = _
  apply BitVec.eq_of_toNat_eq
  rw [BitVec.toNat_sub, BitVec.toNat_ofNat]
  omega

theorem Rng.nb (h : Rng v89 v102 e₀ n) : nbW (Scalar.subi v102 v89) = BitVec.ofNat 32 ((n + 15) / 16) := by
  rw [h.sub]; exact nbW_eq ⟨n, by have := h.le; omega⟩

theorem Rng.t2_loop (h : Rng v89 v102 e₀ n) : k0_t2_loop v89 v102 = ⟨0#32, BitVec.ofNat 32 ((n + 15) / 16), 1#32⟩ := by
  show (⟨0#32, Scalar.addi 0#32 (Scalar.muli (Scalar.divsi (Scalar.subi (nbW (Scalar.subi v102 v89)) 0#32) 1#32) 1#32), 1#32⟩ : Scf.Loop 32) = _
  rw [h.nb, ub_eq ⟨(n + 15) / 16, by have := h.le; omega⟩]

theorem Rng.t19_loop (h : Rng v89 v102 e₀ n) : k0_t19_loop v89 v102 = ⟨BitVec.ofNat 32 ((n + 15) / 16), BitVec.ofNat 32 ((n + 15) / 16), 1#32⟩ := by
  show (⟨Scalar.addi 0#32 (Scalar.muli (Scalar.divsi (Scalar.subi (nbW (Scalar.subi v102 v89)) 0#32) 1#32) 1#32),
    Scalar.addi 0#32 (Scalar.subi (nbW (Scalar.subi v102 v89)) 0#32), 1#32⟩ : Scf.Loop 32) = _
  rw [h.nb, ub_eq ⟨(n + 15) / 16, by have := h.le; omega⟩, ub_eq' ⟨(n + 15) / 16, by have := h.le; omega⟩]

theorem Rng.t2_trips (h : Rng v89 v102 e₀ n) : (k0_t2_loop v89 v102).trips = (n + 15) / 16 := by
  rw [h.t2_loop]; exact trips_eq ⟨(n + 15) / 16, by have := h.le; omega⟩

theorem Rng.t19_trips (h : Rng v89 v102 e₀ n) : (k0_t19_loop v89 v102).trips = 0 := by
  rw [h.t19_loop]; exact trips_nil ⟨(n + 15) / 16, by have := h.le; omega⟩

/-- The counter of a loop from zero in steps of one. -/
theorem iv_eq (k : ℕ) : Scf.iv 0#32 1#32 k = BitVec.ofNat 32 k := by simp [Scf.iv]

theorem cmpi_slt_iff (a b : BitVec 32) (ha : a.toNat < 2 ^ 31) (hb : b.toNat < 2 ^ 31) :
    Scalar.cmpi .ne (Scalar.extui (Scalar.cmpi .slt a b) : BitVec 32) 0#32 = 1#1 ↔ a.toNat < b.toNat := by
  have hs : a.slt b = decide (a.toNat < b.toNat) := by
    rw [BitVec.slt_eq_decide, BitVec.toInt_eq_toNat_cond, BitVec.toInt_eq_toNat_cond, if_pos (by omega), if_pos (by omega)]
    simp
  have e : Scalar.cmpi .slt a b = BitVec.ofBool (a.slt b) := rfl
  have key : ∀ p : Bool, Scalar.cmpi .ne (Scalar.extui (BitVec.ofBool p) : BitVec 32) 0#32 = 1#1 ↔ p = true := by decide
  rw [e, key, hs, decide_eq_true_eq]

/-- Whether batch `b` has an entry number `r`. -/
def condW (v89 v102 : BitVec 32) (b : ℕ) (r : BitVec 32) : BitVec 1 :=
  Scalar.cmpi .ne (Scalar.extui (Scalar.cmpi .slt (Scalar.addi (Scalar.muli (Scf.iv 0#32 1#32 b) 16#32) r) (Scalar.subi v102 v89)) : BitVec 32) 0#32

theorem Rng.cond_iff (h : Rng v89 v102 e₀ n) (b : ℕ) (hb : b < 1025) (r : BitVec 32) (hr : r.toNat < 16) :
    condW v89 v102 b r = 1#1 ↔ 16 * b + r.toNat < n := by
  have := h.le
  have e1 : (Scalar.addi (Scalar.muli (Scf.iv 0#32 1#32 b) 16#32) r).toNat = 16 * b + r.toNat := by
    show (Scf.iv 0#32 1#32 b * 16#32 + r).toNat = _
    rw [iv_eq, BitVec.toNat_add, BitVec.toNat_mul, BitVec.toNat_ofNat, BitVec.toNat_ofNat]
    omega
  have e2 : (Scalar.subi v102 v89).toNat = n := by rw [h.sub, BitVec.toNat_ofNat]; omega
  unfold condW
  rw [cmpi_slt_iff _ _ (by omega) (by omega), e1, e2]

theorem Rng.cond20_iff (h : Rng v89 v102 e₀ n) (b : Fin (k0_t2_loop v89 v102).trips) :
    k0_cond20 v89 v102 b = 1#1 ↔ b.val + 1 < (n + 15) / 16 := by
  have hle := h.le
  have hb : b.val < (n + 15) / 16 := lt_of_lt_of_eq b.isLt h.t2_trips
  have e1 : (Scalar.addi (Scf.iv 0#32 1#32 b.val) 1#32).toNat = b.val + 1 := by
    show (Scf.iv 0#32 1#32 b.val + 1#32).toNat = _
    rw [iv_eq, BitVec.toNat_add, BitVec.toNat_ofNat, BitVec.toNat_ofNat]
    omega
  have e2 : (nbW (Scalar.subi v102 v89)).toNat = (n + 15) / 16 := by rw [h.nb, BitVec.toNat_ofNat]; omega
  show Scalar.cmpi .ne (Scalar.extui (Scalar.cmpi .slt (Scalar.addi (Scf.iv 0#32 1#32 b.val) 1#32) (nbW (Scalar.subi v102 v89))) : BitVec 32) 0#32 = 1#1 ↔ _
  rw [cmpi_slt_iff _ _ (by omega) (by omega), e1, e2]

theorem off10_eq (v : BitVec 32) : k0_off10 v = ![v.toNat] := rfl

theorem Rng.off14_eq (h : Rng v89 v102 e₀ n) (b : Fin (k0_t2_loop v89 v102).trips) : k0_off14 v89 v102 b = ![e₀ + 16 * b.val] := by
  have hle := h.le; have hlo := h.lo
  have hb : b.val < (n + 15) / 16 := lt_of_lt_of_eq b.isLt h.t2_trips
  show ![(v89 + Scf.iv 0#32 1#32 b.val * 16#32).toNat] = _
  rw [iv_eq, BitVec.toNat_add, BitVec.toNat_mul, BitVec.toNat_ofNat, BitVec.toNat_ofNat]
  congr 1
  omega

theorem Rng.off159_eq (h : Rng v89 v102 e₀ n) (b : Fin (k0_t2_loop v89 v102).trips) : k0_off159 v89 v102 b = ![e₀ + 16 * (b.val + 1)] := by
  have hle := h.le; have hlo := h.lo
  have hb : b.val < (n + 15) / 16 := lt_of_lt_of_eq b.isLt h.t2_trips
  show ![(v89 + (Scf.iv 0#32 1#32 b.val + 1#32) * 16#32).toNat] = _
  rw [iv_eq, BitVec.toNat_add, BitVec.toNat_mul, BitVec.toNat_add, BitVec.toNat_ofNat, BitVec.toNat_ofNat, BitVec.toNat_ofNat]
  congr 1
  omega

theorem Rng.chk1 (h : Rng v89 v102 e₀ n) : k0_chk1 v89 := by
  have hle := h.le; have hlo := h.lo
  unfold k0_chk1
  rw [off10_eq]
  intro a; fin_cases a
  show v89.toNat + 16 ≤ 16400
  omega

theorem Rng.chk2 (h : Rng v89 v102 e₀ n) : k0_chk2 v89 v102 := by
  have hle := h.le
  have h19 := h.t19_trips
  unfold k0_chk2
  refine ⟨?_, fun b => ?_, fun b hb => ?_, ?_, fun k => absurd k.isLt (by omega), fun k => absurd k.isLt (by omega)⟩
  · rw [h.t2_loop]; exact ok_eq ⟨(n + 15) / 16, by omega⟩
  · rw [h.off14_eq]
    have hb : b.val < (n + 15) / 16 := lt_of_lt_of_eq b.isLt h.t2_trips
    intro a; fin_cases a
    show e₀ + 16 * b.val + 16 ≤ 16400
    omega
  · rw [h.off159_eq]
    rw [h.cond20_iff] at hb
    intro a; fin_cases a
    show e₀ + 16 * (b.val + 1) + 16 ≤ 16400
    omega
  · rw [h.t19_loop]; exact ok_nil ⟨(n + 15) / 16, by omega⟩

/-! ## Picking one word out of sixteen -/

theorem tail16 : ((List.finRange 16).filter fun k : Fin 16 => decide (0 < k.val ∧ k.val ≤ 15)) = [1, 2, 3, 4, 5, 6, 7, 8, 9, 10, 11, 12, 13, 14, 15] := by decide

/-- The sum of sixteen words of which all but one were put to zero is that one. -/
theorem pick (x : IVec S16 32) (r : Fin 16) (rw' : BitVec 32) (hr : rw' = BitVec.ofNat 32 r.val) :
    extractAt ![15] (scan .sum (select (cmpi .eq (iota .scVector S16 32 [0] iota_S16_d0_w32_scVector) (broadcast S16 rw')) x (broadcast S16 0#32)))
      inpos_S16_p15 = x (ix1 r) := by
  subst hr
  have key : ∀ y : S16.Idx → BitVec 32, extractAt ![15] (scan .sum y) inpos_S16_p15
      = [1, 2, 3, 4, 5, 6, 7, 8, 9, 10, 11, 12, 13, 14, 15].foldl (fun a (k : Fin 16) => a + y (ix1 k)) (y (ix1 0)) := by
    intro y
    rw [← tail16]
    show List.foldl _ _ _ = List.foldl _ _ _
    congr 1
    · funext a k
      show a + y _ = a + y _
      congr 2
      funext d; match d with | ⟨0, _⟩ => rfl
    · congr 1
      funext d; match d with | ⟨0, _⟩ => rfl
  rw [key]
  have one : ∀ k : Fin 16, select (cmpi .eq (iota .scVector S16 32 [0] iota_S16_d0_w32_scVector) (broadcast S16 (BitVec.ofNat 32 r.val))) x (broadcast S16 0#32) (ix1 k)
      = if k = r then x (ix1 r) else 0#32 := by
    intro k
    show (if BitVec.ofBool (BitVec.ofNat 32 (0 * 16 + k.val) == BitVec.ofNat 32 r.val) = 1#1 then x (ix1 k) else 0#32) = _
    by_cases hk : k = r
    · subst hk; simp
    · have : ¬ BitVec.ofNat 32 (0 * 16 + k.val) = BitVec.ofNat 32 r.val := by
        intro e
        have := congrArg BitVec.toNat e
        simp at this
        apply hk; apply Fin.ext; omega
      rw [beq_eq_false_iff_ne.mpr this]; simp [hk]
  simp only [one]
  fin_cases r <;> simp

end Cert.Proof.Scatter

end
-- ==== Proof.Unit.lean ====
/-
  The innermost work: sixteen columns of one row of a chunk get the gathered row's sixteen columns added, eight such steps a block.
-/
module

public import proofs.«01_k».proof.Proof.Base

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- One half of the chunk buffer. -/
def slotSet (b : ℕ) : Finset S2x32x1024.Idx := Finset.univ.filter fun x => (x 0).val = b

theorem mem_slotSet {b : ℕ} {x : S2x32x1024.Idx} : x ∈ slotSet b ↔ (x 0).val = b := by simp [slotSet]

/-- A row of the gathered block, by number. -/
def rg (g : S128x128.Idx → Elt F .f32) (r j : ℕ) : Elt F .f32 :=
  g (ix2 (⟨r % 128, Nat.mod_lt _ (by omega)⟩ : Fin 128) (⟨j % 128, Nat.mod_lt _ (by omega)⟩ : Fin 128))

/-- The chunk buffer after the first `16 n` columns of `h` were added to its row `lrow`. -/
def colAdd (f : S2x32x1024.Idx → Elt F .f32) (h : ℕ → Elt F .f32) (lrow n : ℕ) : S2x32x1024.Idx → Elt F .f32 :=
  fun x => if (x 1).val = lrow ∧ (x 2).val < 16 * n then FloatOps.addf (f x) (h (x 2).val) else f x

theorem colAdd_zero (f : S2x32x1024.Idx → Elt F .f32) (h : ℕ → Elt F .f32) (lrow : ℕ) : colAdd f h lrow 0 = f := by
  funext x; simp [colAdd]

/-- One sixteen-column step: the piece is read, the gathered piece is read, and their sum is put back. -/
def unitP (L : grid0.Coords) (oc : Fin 3 → ℕ) (hc : ∀ a, oc a + S1x1x16.size a ≤ S2x32x1024.size a)
    (os : Fin 2 → ℕ) (hs : ∀ a, os a + S1x16.size a ≤ S128x128.size a) : Prog (Eff F L) PUnit := do
  let c : Vec F S1x1x16 .f32 ← Prog.lift (.load cM (Rect.unit (s := S2x32x1024) oc S1x1x16.size hc).toLoadRect (View.loadsAt_vmem h_S1x1x16))
  let g : Vec F S1x16 .f32 ← Prog.lift (.load gM (Rect.unit (s := S128x128) os S1x16.size hs).toLoadRect (View.loadsAt_vmem h_S1x16))
  let _ : Vec F S1x1x16 .f32 ← Prog.lift (.load cM (Rect.unit (s := S2x32x1024) oc S1x1x16.size hc).toLoadRect (View.loadsAt_vmem h_S1x1x16))
  Prog.lift (.store cM (Rect.unit (s := S2x32x1024) oc S1x1x16.size hc)
    (shapeCast S1x1x16 (addf (shapeCast S16 c shapeCasts_S1x1x16_S16) (shapeCast S16 g shapeCasts_S1x16_S16)) shapeCasts_S16_S1x1x16)
    Finset.univ (View.stores_vmem_bits_univ h_S1x1x16 rfl) (.inl rfl))

theorem cast_up (v : S16.Idx → Elt F .f32) (y : S1x1x16.Idx) : shapeCast S1x1x16 v shapeCasts_S16_S1x1x16 y = v (ix1 (y 2)) := by
  refine shapeCast_apply _ _ _ _ ?_
  rw [Shape.rowMajor_val_one, Shape.rowMajor_val_three]
  have h0 : (y 0).val = 0 := by have := (y 0).isLt; simp only [S1x1x16] at this; simpa using this
  have h1 : (y 1).val = 0 := by have := (y 1).isLt; simp only [S1x1x16] at this; simpa using this
  simp [h0, h1, ix1]

theorem cast_c (v : S1x1x16.Idx → Elt F .f32) (y : S16.Idx) : shapeCast S16 v shapeCasts_S1x1x16_S16 y = v (ix3 (0 : Fin 1) (0 : Fin 1) (y 0)) := by
  refine shapeCast_apply _ _ _ _ ?_
  rw [Shape.rowMajor_val_one, Shape.rowMajor_val_three]
  simp [ix3]

theorem cast_g (v : S1x16.Idx → Elt F .f32) (y : S16.Idx) : shapeCast S16 v shapeCasts_S1x16_S16 y = v (ix2 (0 : Fin 1) (y 0)) := by
  refine shapeCast_apply _ _ _ _ ?_
  rw [Shape.rowMajor_val_one, Shape.rowMajor_val_two]
  simp [ix2]

/-- What a sixteen-column step leaves, on the half it works on. -/
theorem unit_write (s lrow n r : ℕ) (f : S2x32x1024.Idx → Elt F .f32) (g : S128x128.Idx → Elt F .f32)
    (hc : ∀ a, (![s, lrow, 16 * n] : Fin 3 → ℕ) a + S1x1x16.size a ≤ S2x32x1024.size a)
    (hs : ∀ a, (![16 * (n / 8) + r, 16 * (n % 8)] : Fin 2 → ℕ) a + S1x16.size a ≤ S128x128.size a)
    (x : S2x32x1024.Idx) (hx : x ∈ slotSet s) :
    (cM.access (Rect.unit (s := S2x32x1024) ![s, lrow, 16 * n] S1x1x16.size hc)).write (Elt F)
        (colAdd f (fun j => rg g (16 * (j / 128) + r) (j % 128)) lrow n)
        (shapeCast S1x1x16 (addf (shapeCast S16 ((cM.access (Rect.unit (s := S2x32x1024) ![s, lrow, 16 * n] S1x1x16.size hc)).read (Elt F)
              (colAdd f (fun j => rg g (16 * (j / 128) + r) (j % 128)) lrow n)) shapeCasts_S1x1x16_S16)
            (shapeCast S16 ((gM.access (Rect.unit (s := S128x128) ![16 * (n / 8) + r, 16 * (n % 8)] S1x16.size hs)).read (Elt F) g) shapeCasts_S1x16_S16))
          shapeCasts_S16_S1x1x16) Finset.univ x
      = colAdd f (fun j => rg g (16 * (j / 128) + r) (j % 128)) lrow (n + 1) x := by
  have hs0 := hs 0; have hs1 := hs 1
  have hc2 := hc 2
  simp [S1x16, S128x128] at hs0 hs1
  simp [S1x1x16, S2x32x1024] at hc2
  rw [mem_slotSet] at hx
  by_cases hin : (x 1).val = lrow ∧ 16 * n ≤ (x 2).val ∧ (x 2).val < 16 * n + 16
  · obtain ⟨h1, h2, h3⟩ := hin
    obtain ⟨y, hy⟩ : ∃ y : Fin 16, x = (cM.access (Rect.unit (s := S2x32x1024) ![s, lrow, 16 * n] S1x1x16.size hc)).emb (ix3 (0 : Fin 1) (0 : Fin 1) y) := by
      refine ⟨⟨(x 2).val - 16 * n, by omega⟩, ?_⟩
      funext a
      fin_cases a <;> apply Fin.ext
      · show (x 0).val = s + 1 * 0; omega
      · show (x 1).val = lrow + 1 * 0; omega
      · show (x 2).val = 16 * n + 1 * ((x 2).val - 16 * n); omega
    have hyv : y.val = (x 2).val - 16 * n := by
      have : (x 2).val = 16 * n + 1 * y.val := by rw [hy]; rfl
      omega
    conv_lhs => rw [hy]
    rw [View.write_emb_of_mem _ _ (Finset.mem_univ _), cast_eq, cast_up]
    show FloatOps.addf (shapeCast S16 _ _ _) (shapeCast S16 _ _ _) = _
    rw [cast_c, cast_g, View.read_apply, View.read_apply, cast_eq, cast_eq]
    rw [show (cM.access (Rect.unit (s := S2x32x1024) ![s, lrow, 16 * n] S1x1x16.size hc)).emb (ix3 (0 : Fin 1) (0 : Fin 1) ((ix1 ((ix3 (0 : Fin 1) (0 : Fin 1) y : S1x1x16.Idx) 2) : S16.Idx) 0)) = x from hy.symm]
    rw [colAdd, if_neg (by omega), colAdd, if_pos (by omega)]
    congr 1
    show g _ = g _
    congr 1
    funext a
    fin_cases a <;> apply Fin.ext
    · show 16 * (n / 8) + r + 1 * 0 = (16 * ((x 2).val / 128) + r) % 128; omega
    · show 16 * (n % 8) + 1 * y.val = (x 2).val % 128 % 128; omega
  · rw [View.write_of_not_mem]
    · unfold colAdd
      by_cases hl : (x 1).val = lrow ∧ (x 2).val < 16 * n
      · rw [if_pos hl, if_pos (by omega)]
      · rw [if_neg hl, if_neg (by omega)]
    · intro hm
      obtain ⟨y, -, hy⟩ := Finset.mem_map.mp hm
      have hy1 : lrow + 1 * (y 1).val = (x 1).val := congrArg (fun z : S2x32x1024.Idx => (z 1).val) hy
      have hy2 : 16 * n + 1 * (y 2).val = (x 2).val := congrArg (fun z : S2x32x1024.Idx => (z 2).val) hy
      have b1 : (y 1).val < 1 := (y 1).isLt
      have b2 : (y 2).val < 16 := (y 2).isLt
      omega

theorem acc_sub (s lrow n : ℕ) (hc : ∀ a, (![s, lrow, 16 * n] : Fin 3 → ℕ) a + S1x1x16.size a ≤ S2x32x1024.size a) :
    (cM.access (Rect.unit (s := S2x32x1024) ![s, lrow, 16 * n] S1x1x16.size hc)).set ⊆ slotSet s := by
  intro x hx
  obtain ⟨y, -, rfl⟩ := Finset.mem_map.mp hx
  rw [mem_slotSet]
  have b0 : (y 0).val < 1 := (y 0).isLt
  show s + 1 * (y 0).val = s
  omega

/-- One half of the chunk buffer, held with contents `f`. -/
abbrev slotPts (d : Dev nD) (L : grid0.Coords) (b : ℕ) (f : S2x32x1024.Idx → Elt F .f32) : sProp 𝕄 :=
  cM.view.loc (thr d L) ↦[slotSet b]{fullShare} f

/-- The gathered block, held with contents `g`. -/
abbrev stgPts (d : Dev nD) (L : grid0.Coords) (g : S128x128.Idx → Elt F .f32) : sProp 𝕄 :=
  gM.view.loc (thr d L) ↦{fullShare} g

/-- The sixteen-column step, from `n` columns done to `n + 1`. -/
theorem unit_step {α : Type} (d : Dev nD) (L : grid0.Coords) (s lrow n r : ℕ) (f : S2x32x1024.Idx → Elt F .f32) (g : S128x128.Idx → Elt F .f32)
    (oc : Fin 3 → ℕ) (hc : ∀ a, oc a + S1x1x16.size a ≤ S2x32x1024.size a)
    (os : Fin 2 → ℕ) (hs : ∀ a, os a + S1x16.size a ≤ S128x128.size a)
    (hoc : oc = ![s, lrow, 16 * n]) (hos : os = ![16 * (n / 8) + r, 16 * (n % 8)])
    (kk : PUnit → Prog (Eff F L) α) (Q : α → sProp 𝕄) :
    iprop(slotPts d L s (colAdd f (fun j => rg g (16 * (j / 128) + r) (j % 128)) lrow n) ∗ stgPts d L g)
      ⊢ iprop((slotPts d L s (colAdd f (fun j => rg g (16 * (j / 128) + r) (j % 128)) lrow (n + 1)) ∗ stgPts d L g
          -∗ wp frame (wpE (defs₀ (F := F)) 𝒱₀ (thr d L) none) Set.univ (kk ⟨⟩) Q)
        -∗ wp frame (wpE (defs₀ (F := F)) 𝒱₀ (thr d L) none) Set.univ (unitP L oc hc os hs >>= kk) Q) := by
  subst hoc hos
  unfold unitP
  iintro ⟨Hc, Hg⟩ HK
  iapply (wp_load_rect 𝒱₀ (thr d L) none Set.univ (m := cM) (acc_sub s lrow n hc)) $$ Hc
  iintro Hc
  iapply (wp_load_rect 𝒱₀ (thr d L) none Set.univ (m := gM) (r := Rect.unit (s := S128x128) _ S1x16.size hs) (Finset.subset_univ _)) $$ Hg
  iintro Hg
  iapply (wp_load_rect 𝒱₀ (thr d L) none Set.univ (m := cM) (acc_sub s lrow n hc)) $$ Hc
  iintro Hc
  iapply (wp_store 𝒱₀ (thr d L) none Set.univ (m := cM) (Mk := Finset.univ) (acc_sub s lrow n hc)) $$ Hc
  iintro Hc
  iapply HK
  isplitl [Hc]
  · iapply (Entails.of_eq (pointsTo_congr (unit_write s lrow n r f g hc hs))); iexact Hc
  · iexact Hg

/-- Eight sixteen-column steps. -/
def tripP (L : grid0.Coords) (oc : Fin 8 → Fin 3 → ℕ) (hc : ∀ u a, oc u a + S1x1x16.size a ≤ S2x32x1024.size a)
    (os : Fin 8 → Fin 2 → ℕ) (hs : ∀ u a, os u a + S1x16.size a ≤ S128x128.size a) : Prog (Eff F L) PUnit := do
  unitP L (oc 0) (hc 0) (os 0) (hs 0)
  unitP L (oc 1) (hc 1) (os 1) (hs 1)
  unitP L (oc 2) (hc 2) (os 2) (hs 2)
  unitP L (oc 3) (hc 3) (os 3) (hs 3)
  unitP L (oc 4) (hc 4) (os 4) (hs 4)
  unitP L (oc 5) (hc 5) (os 5) (hs 5)
  unitP L (oc 6) (hc 6) (os 6) (hs 6)
  unitP L (oc 7) (hc 7) (os 7) (hs 7)
  pure ⟨⟩

/-- Eight steps take one block of 128 columns. -/
theorem trip_step (d : Dev nD) (L : grid0.Coords) (s lrow t r : ℕ) (f : S2x32x1024.Idx → Elt F .f32) (g : S128x128.Idx → Elt F .f32)
    (oc : Fin 8 → Fin 3 → ℕ) (hc : ∀ u a, oc u a + S1x1x16.size a ≤ S2x32x1024.size a)
    (os : Fin 8 → Fin 2 → ℕ) (hs : ∀ u a, os u a + S1x16.size a ≤ S128x128.size a)
    (hoc : ∀ u, oc u = ![s, lrow, 16 * (8 * t + u.val)]) (hos : ∀ u : Fin 8, os u = ![16 * t + r, 16 * u.val]) :
    iprop(slotPts d L s (colAdd f (fun j => rg g (16 * (j / 128) + r) (j % 128)) lrow (8 * t)) ∗ stgPts d L g)
      ⊢ wp frame (wpE (defs₀ (F := F)) 𝒱₀ (thr d L) none) Set.univ (tripP L oc hc os hs) fun _ =>
          iprop(slotPts d L s (colAdd f (fun j => rg g (16 * (j / 128) + r) (j % 128)) lrow (8 * (t + 1))) ∗ stgPts d L g) := by
  have key : ∀ u : Fin 8, os u = ![16 * ((8 * t + u.val) / 8) + r, 16 * ((8 * t + u.val) % 8)] := fun u => by
    rw [hos u]; congr 2 <;> omega
  unfold tripP
  iintro H
  iapply (unit_step d L s lrow (8 * t + 0) r f g (oc 0) (hc 0) (os 0) (hs 0) (hoc 0) (key 0)) $$ H
  iintro H
  iapply (unit_step d L s lrow (8 * t + 1) r f g (oc 1) (hc 1) (os 1) (hs 1) (hoc 1) (key 1)) $$ H
  iintro H
  iapply (unit_step d L s lrow (8 * t + 2) r f g (oc 2) (hc 2) (os 2) (hs 2) (hoc 2) (key 2)) $$ H
  iintro H
  iapply (unit_step d L s lrow (8 * t + 3) r f g (oc 3) (hc 3) (os 3) (hs 3) (hoc 3) (key 3)) $$ H
  iintro H
  iapply (unit_step d L s lrow (8 * t + 4) r f g (oc 4) (hc 4) (os 4) (hs 4) (hoc 4) (key 4)) $$ H
  iintro H
  iapply (unit_step d L s lrow (8 * t + 5) r f g (oc 5) (hc 5) (os 5) (hs 5) (hoc 5) (key 5)) $$ H
  iintro H
  iapply (unit_step d L s lrow (8 * t + 6) r f g (oc 6) (hc 6) (os 6) (hs 6) (hoc 6) (key 6)) $$ H
  iintro H
  iapply (unit_step d L s lrow (8 * t + 7) r f g (oc 7) (hc 7) (os 7) (hs 7) (hoc 7) (key 7)) $$ H
  iintro H
  rw [wp_pure]
  imodintro
  iexact H

end Cert.Proof.Scatter

end
-- ==== Proof.Rows.lean ====
/-
  The printed program's batch in one form: sixteen rows, each added if it is there, and the next gather's list.
-/
module

public import proofs.«01_k».proof.Proof.Words
public import proofs.«01_k».proof.Proof.Unit

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program's rows in one form -/

/-- The offsets at which a row's lanes are read from the stage, as the program computes them. -/
def osW (t : ℕ) (r : BitVec 32) (u : ℕ) : Fin 2 → ℕ :=
  ![(Scalar.indexCast (Scalar.addi (Scalar.muli (Scf.iv 0#32 1#32 t) 16#32) r) : Index).toNat, 16 * u]

theorem osW_eq : ∀ (t : Fin 8) (r : Fin 16) (u : Fin 8), osW t.val (BitVec.ofNat 32 r.val) u.val = ![16 * t.val + r.val, 16 * u.val] := by
  decide +kernel

theorem t3_trips : k0_t3_loop.trips = 8 := by decide +kernel

theorem osW_inb (t : Fin k0_t3_loop.trips) (r : Fin 16) (u : Fin 8) (a) :
    osW t.val (BitVec.ofNat 32 r.val) u.val a + S1x16.size a ≤ S128x128.size a := by
  have ht : t.val < 8 := lt_of_lt_of_eq t.isLt t3_trips
  rw [osW_eq ⟨t.val, ht⟩ r u]
  fin_cases a
  · show 16 * t.val + r.val + 1 ≤ 128; omega
  · show 16 * u.val + 16 ≤ 128; omega

/-- The check the program makes of a row's place in its chunk. -/
def chkW (i : grid0.Coords) (k : Fin (k0_t1_loop i).trips) (v89 v102 : BitVec 32) (b : Fin (k0_t2_loop v89 v102).trips) (r : Fin 16)
    (v : BitVec 32) : Prop :=
  ∀ t : Fin k0_t3_loop.trips, ∀ _ : condW v89 v102 b.val (BitVec.ofNat 32 r.val) = 1#1, ∀ (u : Fin 8), ∀ a,
    (k0_off15 i k v t (BitVec.ofNat 32 (16 * u.val))) a + S1x1x16.size a ≤ S2x32x1024.size a

/-- One row added: the columns by hundreds and twenty-eights. -/
def rowBody [FloatOps F] (i : grid0.Coords) (k : Fin (k0_t1_loop i).trips) (v89 v102 : BitVec 32) (b : Fin (k0_t2_loop v89 v102).trips) (r : Fin 16)
    (v : BitVec 32) (h : condW v89 v102 b.val (BitVec.ofNat 32 r.val) = 1#1) (hw : chkW i k v89 v102 b r v) :
    Fin k0_t3_loop.trips → Unit → Prog (Eff F i) Unit :=
  fun t _ => tripP i (fun u => k0_off15 i k v t (BitVec.ofNat 32 (16 * u.val))) (hw t h)
    (fun u => osW t.val (BitVec.ofNat 32 r.val) u.val) (osW_inb t r)

/-- Row `r` of batch `b`, added if there is one, and what comes after. -/
def rowP [FloatOps F] {α : Type} (i : grid0.Coords) (k : Fin (k0_t1_loop i).trips) (v89 v102 : BitVec 32) (b : Fin (k0_t2_loop v89 v102).trips) (r : Fin 16)
    (v : BitVec 32) (dec : Decidable (chkW i k v89 v102 b r v)) (kk : Prog (Eff F i) α) : Prog (Eff F i) α :=
  if h : condW v89 v102 b.val (BitVec.ofNat 32 r.val) = 1#1 then
    Prog.lift (TpuEff.assume (chkW i k v89 v102 b r v) dec) >>= fun x =>
      Scf.Loop.for k0_t3_loop k0_t3_ok ⟨⟩ (rowBody i k v89 v102 b r v h x.down) >>= fun _ => kk
  else kk

variable [FloatOps F]

abbrev part51' (i : grid0.Coords) := k0_part51_skel (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1
abbrev part52' (i : grid0.Coords) := k0_part52_skel (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1

/-- The list of rows as the gather names it. -/
abbrev xS : Memref sig .scVector .hbm S131072x128 .f32 :=
  xM.slice (Rect.unit (s := S131072x128) ![0, 0] S131072x128.size inb_S131072x128_S131072x128_0_0) (fun _ => rfl)

/-- The sixteen words of which the `r`-th alone is kept, summed up. -/
def pickW (v40 rows : IVec S16 32) (r : BitVec 32) : BitVec 32 :=
  extractAt ![15] (scan .sum (select (cmpi .eq v40 (broadcast S16 r)) rows (broadcast S16 0#32))) inpos_S16_p15

set_option maxHeartbeats 4000000 in
theorem part51_eq (i : grid0.Coords) (v40 : IVec S16 32) (k : Fin (k0_t1_loop i).trips) (v72 v73 v89 v102 : BitVec 32) (hw2 : k0_chk2 v89 v102)
    (v103 : BitVec 32) (b : Fin (k0_t2_loop v89 v102).trips) :
    part51' (F := F) i v40 k v72 v73 v89 v102 hw2 v103 0#32 1#32 b
      = (do
        SparseCore.waitIndirectGather cc0_scratch7.sem (xS) gM (View.wordExact_bits rfl) (Memref.isWhole_whole _).wordExact
        let v227 : Vec F S16 .i32 ← Prog.lift (.load pM (Rect.unit (s := S16400) (k0_off14 v89 v102 b) S16.size (k0_off14_inb v89 v102 hw2 b)).toLoadRect (View.loadsAt_vmem h_S16))
        rowP i k v89 v102 b 0 (pickW v40 (k0_pay151 v73 v227) 0#32) (k0_chk3.dec _ _ _ _ _ _)
          (rowP i k v89 v102 b 1 (pickW v40 (k0_pay151 v73 v227) 1#32) (k0_chk4.dec _ _ _ _ _ _)
          (rowP i k v89 v102 b 2 (pickW v40 (k0_pay151 v73 v227) 2#32) (k0_chk5.dec _ _ _ _ _ _)
          (rowP i k v89 v102 b 3 (pickW v40 (k0_pay151 v73 v227) 3#32) (k0_chk6.dec _ _ _ _ _ _)
          (pure ⟨Scf.iv 0#32 1#32 b, k0_pay151 v73 v227, Scalar.extui (Scalar.cmpi .slt (Scalar.addi (Scalar.muli (Scf.iv 0#32 1#32 b) 16#32) 4#32) v103), 0#32⟩))))) := rfl

abbrev batch' (i : grid0.Coords) := k0_t2_body (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1
abbrev part49' (i : grid0.Coords) := k0_part49_skel (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1
abbrev part50' (i : grid0.Coords) := k0_part50_skel (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1
abbrev part106' (i : grid0.Coords) := k0_part106_skel (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1
abbrev part107' (i : grid0.Coords) := k0_part107_skel (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1
abbrev part108' (i : grid0.Coords) := k0_part108_skel (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1
abbrev part105' (i : grid0.Coords) := k0_part105_skel (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1
abbrev rest' (i : grid0.Coords) := k0_t19_body (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1

/-- What the gather's list gets for sixteen entries: each entry's row, and which eighth of it. -/
def payW (x : IVec S16 32) (q : BitVec 32) : IVec S16 32 :=
  addi (muli (andi x (broadcast S16 16383#32)) (broadcast S16 8#32)) (broadcast S16 q)

theorem jInb (q : Fin 8) (a) : (![16 * q.val] : Fin 1 → ℕ) a + S16.size a ≤ S128.size a := by
  fin_cases a; show 16 * q.val + 16 ≤ 128; omega

/-- Sixteen words of the gather's list are written. -/
def jP {α : Type} (i : grid0.Coords) (o : Fin 1 → ℕ) (ho : ∀ a, o a + S16.size a ≤ S16400.size a) (q : Fin 8) (kk : Prog (Eff F i) α) : Prog (Eff F i) α := do
  let x : Vec F S16 .i32 ← Prog.lift (.load pM (Rect.unit (s := S16400) o S16.size ho).toLoadRect (View.loadsAt_vmem h_S16))
  let _ : Vec F S16 .i32 ← Prog.lift (.load jM (Rect.unit (s := S128) ![16 * q.val] S16.size (jInb q)).toLoadRect (View.loadsAt_vmem h_S16))
  Prog.lift (.store jM (Rect.unit (s := S128) ![16 * q.val] S16.size (jInb q)) (payW x (BitVec.ofNat 32 q.val)) Finset.univ (View.stores_vmem_bits_univ h_S16 rfl) (.inl rfl))
  kk

/-- The gather is set going. -/
abbrev gatherP (i : grid0.Coords) : Prog (Eff F i) PUnit :=
  SparseCore.enqueueIndirectGather rfl xS gM gathers_S131072x128_S128x128 jM rfl cc0_scratch7.sem (View.wordExact_bits rfl) rfl (Or.inl rfl)

set_option maxHeartbeats 4000000 in
theorem part52_eq (i : grid0.Coords) (v40 : IVec S16 32) (k : Fin (k0_t1_loop i).trips) (v72 v89 v102 v103 : BitVec 32)
    (b : Fin (k0_t2_loop v89 v102).trips) (a16 : BitVec 32) (rows : IVec S16 32) (v256 z : BitVec 32) :
    part52' (F := F) i v40 k v72 v89 v102 v103 b a16 rows v256 z
      = rowP i k v89 v102 b 4 (pickW v40 rows 4#32) (k0_chk7.dec _ _ _ _ _ _)
          (rowP i k v89 v102 b 5 (pickW v40 rows 5#32) (k0_chk8.dec _ _ _ _ _ _)
          (rowP i k v89 v102 b 6 (pickW v40 rows 6#32) (k0_chk9.dec _ _ _ _ _ _)
          (rowP i k v89 v102 b 7 (pickW v40 rows 7#32) (k0_chk10.dec _ _ _ _ _ _)
          (rowP i k v89 v102 b 8 (pickW v40 rows 8#32) (k0_chk11.dec _ _ _ _ _ _)
          (rowP i k v89 v102 b 9 (pickW v40 rows 9#32) (k0_chk12.dec _ _ _ _ _ _)
          (rowP i k v89 v102 b 10 (pickW v40 rows 10#32) (k0_chk13.dec _ _ _ _ _ _)
          (pure (Scalar.addi (Scalar.muli a16 16#32) 11#32)))))))) := rfl

set_option maxHeartbeats 4000000 in
theorem batch_eq (i : grid0.Coords) (v19 : BitVec 32) (v40 : IVec S16 32) (k : Fin (k0_t1_loop i).trips) (v15 v72 v73 v89 v102 : BitVec 32)
    (hw2 : k0_chk2 v89 v102) (v103 v122 : BitVec 32) (v187 : Vec F S16 .i32) (v188 : IVec S16 32) (b : Fin (k0_t2_loop v89 v102).trips) :
    batch' (F := F) i v19 v40 k v15 v72 v73 v89 v102 hw2 v103 v122 v187 v188 b ⟨⟩ = (do
      let r ← part51' (F := F) i v40 k v72 v73 v89 v102 hw2 v103 0#32 1#32 b
      let _ ← part52' (F := F) i v40 k v72 v89 v102 v103 b r.1 r.2.1 r.2.2.1 r.2.2.2
      rowP i k v89 v102 b 11 (pickW v40 r.2.1 11#32) (k0_chk14.dec _ _ _ _ _ _)
          (rowP i k v89 v102 b 12 (pickW v40 r.2.1 12#32) (k0_chk15.dec _ _ _ _ _ _)
          (rowP i k v89 v102 b 13 (pickW v40 r.2.1 13#32) (k0_chk16.dec _ _ _ _ _ _)
          (rowP i k v89 v102 b 14 (pickW v40 r.2.1 14#32) (k0_chk17.dec _ _ _ _ _ _)
          (rowP i k v89 v102 b 15 (pickW v40 r.2.1 15#32) (k0_chk18.dec _ _ _ _ _ _)
          (if h : k0_cond20 v89 v102 b = 1#1 then do
            let r' ← part49' (F := F) i v89 v102 hw2 b r.1 h
            part50' (F := F) i v89 v102 hw2 b r.1 h r'.1 r'.2
            jP i (k0_off159 v89 v102 b) (k0_off159_inb v89 v102 hw2 b h) 6 (jP i (k0_off159 v89 v102 b) (k0_off159_inb v89 v102 hw2 b h) 7 (do
              gatherP i
              pure ⟨⟩))
          else pure ⟨⟩))))) ) := by
  show k0_t2_body (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1 v19 v40 k v15 v72 v73 v89 v102 hw2 v103 v122 v187 v188 b ⟨⟩ = _
  unfold k0_t2_body
  simp only [k0_part51_eq_skeleton, k0_part52_eq_skeleton, k0_part49_eq_skeleton, k0_part50_eq_skeleton]
  rfl

theorem part49_eq (i : grid0.Coords) (v89 v102 : BitVec 32) (hw2 : k0_chk2 v89 v102) (b : Fin (k0_t2_loop v89 v102).trips) (a16 : BitVec 32)
    (h : k0_cond20 v89 v102 b = 1#1) :
    part49' (F := F) i v89 v102 hw2 b a16 h = jP i (k0_off159 v89 v102 b) (k0_off159_inb v89 v102 hw2 b h) 0
      (jP i (k0_off159 v89 v102 b) (k0_off159_inb v89 v102 hw2 b h) 1 (jP i (k0_off159 v89 v102 b) (k0_off159_inb v89 v102 hw2 b h) 2
        (pure ⟨Scalar.addi a16 1#32, 16#32⟩))) := rfl

theorem part50_eq (i : grid0.Coords) (v89 v102 : BitVec 32) (hw2 : k0_chk2 v89 v102) (b : Fin (k0_t2_loop v89 v102).trips) (a16 : BitVec 32)
    (h : k0_cond20 v89 v102 b = 1#1) (x y : BitVec 32) :
    part50' (F := F) i v89 v102 hw2 b a16 h x y = jP i (k0_off159 v89 v102 b) (k0_off159_inb v89 v102 hw2 b h) 3
      (jP i (k0_off159 v89 v102 b) (k0_off159_inb v89 v102 hw2 b h) 4 (jP i (k0_off159 v89 v102 b) (k0_off159_inb v89 v102 hw2 b h) 5
        (pure ⟨⟩))) := rfl

theorem part106_eq (i : grid0.Coords) (v89 : BitVec 32) (hw1 : k0_chk1 v89) (a b c d e : BitVec 32) :
    ∃ z, part106' (F := F) i v89 hw1 a b c d e = jP i (k0_off10 v89) (k0_off10_inb v89 hw1) 0
      (jP i (k0_off10 v89) (k0_off10_inb v89 hw1) 1 (jP i (k0_off10 v89) (k0_off10_inb v89 hw1) 2 (pure z))) := ⟨_, rfl⟩

end Cert.Proof.Scatter

end
-- ==== Proof.RowStep.lean ====
/-
  x.
-/
module

public import proofs.«01_k».proof.Proof.Rows

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem off15_eq (i : grid0.Coords) (k : Fin (k0_t1_loop i).trips) (v : BitVec 32) (t : Fin k0_t3_loop.trips) (u : Fin 8) :
    k0_off15 i k v t (BitVec.ofNat 32 (16 * u.val)) = ![k.val % 2, v.toNat, 16 * (8 * t.val + u.val)] := by
  have ht : t.val < 8 := lt_of_lt_of_eq t.isLt t3_trips
  have h0 : k0_off15 i k v t (BitVec.ofNat 32 (16 * u.val)) 0 = k.val % 2 := congrFun (off11_eq i k) 0
  have key : ∀ (t u : Fin 8), (Scf.iv 0#32 1#32 t.val * 128#32 + BitVec.ofNat 32 (16 * u.val)).toNat = 16 * (8 * t.val + u.val) := by decide +kernel
  funext a
  match a with
  | ⟨0, _⟩ => exact h0
  | ⟨1, _⟩ => rfl
  | ⟨2, _⟩ => exact key ⟨t.val, ht⟩ u

theorem chkW_of (i : grid0.Coords) (k : Fin (k0_t1_loop i).trips) (v89 v102 : BitVec 32) (b : Fin (k0_t2_loop v89 v102).trips) (r : Fin 16)
    (v : BitVec 32) (hv : v.toNat < 32) : chkW i k v89 v102 b r v := by
  intro t _ u a
  have ht : t.val < 8 := lt_of_lt_of_eq t.isLt t3_trips
  rw [off15_eq]
  fin_cases a
  · show k.val % 2 + 1 ≤ 2; omega
  · show v.toNat + 1 ≤ 32; omega
  · show 16 * (8 * t.val + u.val) + 16 ≤ 1024; omega

/-- The chunk buffer's contents when `n` entries of chunk `c`, which begins at entry `e₀`, have been added. -/
def cont (T : S100000x1024.Idx → Elt F .f32) (X : S131072x128.Idx → Elt F .f32) (P : S16384.Idx → Elt F .i32) (e₀ c n : ℕ) :
    S2x32x1024.Idx → Elt F .f32 :=
  fun x => part T X P e₀ n (32 * c + (x 1).val) (x 2).val

theorem colAdd_cont (T : S100000x1024.Idx → Elt F .f32) (X : S131072x128.Idx → Elt F .f32) (P : S16384.Idx → Elt F .i32) (e₀ c n lrow : ℕ)
    (h : ℕ → Elt F .f32) (hp : pk P (e₀ + n) / 16384 = 32 * c + lrow)
    (hh : ∀ j < 1024, h j = rx X (pk P (e₀ + n) % 16384 * 8 + j / 128) (j % 128)) :
    colAdd (cont T X P e₀ c n) h lrow 64 = cont T X P e₀ c (n + 1) := by
  funext x
  have h2 : (x 2).val < 1024 := (x 2).isLt
  unfold colAdd cont
  rw [part, hp]
  by_cases he : (x 1).val = lrow
  · rw [if_pos ⟨he, by omega⟩, if_pos (by omega), hh _ h2]
  · rw [if_neg (fun q => he q.1), if_neg (by omega)]

/-- Row `r` of batch `b`: the chunk buffer goes on by one entry, if the chunk has it. -/
theorem row_wp {α : Type} (d : Dev nD) (i : grid0.Coords) (k : Fin (k0_t1_loop i).trips) {v89 v102 : BitVec 32} {e₀ n c : ℕ}
    (hR : Rng v89 v102 e₀ n) (b : Fin (k0_t2_loop v89 v102).trips) (r : Fin 16) (v : BitVec 32) (dec : Decidable (chkW i k v89 v102 b r v))
    (T : S100000x1024.Idx → Elt F .f32) (X : S131072x128.Idx → Elt F .f32) (P : S16384.Idx → Elt F .i32) (g : S128x128.Idx → Elt F .f32)
    (m m' : ℕ) (hm : m = min (16 * b.val + r.val) n) (hm' : m' = min (16 * b.val + r.val + 1) n)
    (hv : 16 * b.val + r.val < n → v.toNat < 32 ∧ pk P (e₀ + (16 * b.val + r.val)) / 16384 = 32 * c + v.toNat)
    (hg : 16 * b.val + r.val < n → ∀ j < 1024, rg g (16 * (j / 128) + r.val) (j % 128)
      = rx X (pk P (e₀ + (16 * b.val + r.val)) % 16384 * 8 + j / 128) (j % 128))
    (kk : Prog (Eff F i) α) (Q : α → sProp 𝕄) :
    iprop(slotPts d i (k.val % 2) (cont T X P e₀ c m) ∗ stgPts d i g)
      ⊢ iprop((slotPts d i (k.val % 2) (cont T X P e₀ c m') ∗ stgPts d i g
          -∗ wp frame (wpE (defs₀ (F := F)) 𝒱₀ (thr d i) none) Set.univ kk Q)
        -∗ wp frame (wpE (defs₀ (F := F)) 𝒱₀ (thr d i) none) Set.univ (rowP i k v89 v102 b r v dec kk) Q) := by
  have hb : b.val < 1025 := by have := b.isLt; have := hR.t2_trips; have := hR.le; omega
  have hr : (BitVec.ofNat 32 r.val).toNat = r.val := by rw [BitVec.toNat_ofNat]; omega
  have hc := hR.cond_iff b.val hb (BitVec.ofNat 32 r.val) (by omega)
  rw [hr] at hc
  unfold rowP
  by_cases h : 16 * b.val + r.val < n
  · rw [dif_pos (hc.mpr h)]
    obtain ⟨hv1, hv2⟩ := hv h
    obtain rfl : m = 16 * b.val + r.val := by omega
    obtain rfl : m' = 16 * b.val + r.val + 1 := by omega
    have hw := chkW_of i k v89 v102 b r v hv1
    iintro H HK
    iapply (wp_assume 𝒱₀ (thr d i) none Set.univ hw)
    iapply (Scf.wp_for_bind frame (wpE (defs₀ (F := F)) 𝒱₀ (thr d i) none) Set.univ k0_t3_loop.lb k0_t3_loop.ub k0_t3_loop.st k0_t3_ok ⟨⟩ (rowBody i k v89 v102 b r v (hc.mpr h) hw)
      (fun t _ => iprop(slotPts d i (k.val % 2) (colAdd (cont T X P e₀ c (16 * b.val + r.val))
        (fun j => rg g (16 * (j / 128) + r.val) (j % 128)) v.toNat (8 * t)) ∗ stgPts d i g))
      (fun t _ => trip_step d i (k.val % 2) v.toNat t.val r.val (cont T X P e₀ c (16 * b.val + r.val)) g _ _ _ _
        (fun u => off15_eq i k v t u) (fun u => osW_eq ⟨t.val, lt_of_lt_of_eq t.isLt t3_trips⟩ r u))) $$ [H]
    · rw [Nat.mul_zero, colAdd_zero]
      iexact H
    iintro %acc
    rw [show Scf.trips k0_t3_loop.lb k0_t3_loop.ub k0_t3_loop.st = 8 from t3_trips, colAdd_cont T X P e₀ c _ v.toNat _ hv2 (hg h)]
    iexact HK
  · rw [dif_neg (fun q => h (hc.mp q))]
    obtain rfl : m = n := by omega
    obtain rfl : m' = m := by omega
    iintro H HK
    iapply HK $$ H

end Cert.Proof.Scatter

end
-- ==== Proof.Gather.lean ====
/-
  The gather's list, and the gather.
-/
module

public import proofs.«01_k».proof.Proof.RowStep

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A word of the fetched list. -/
def pvW (pV : S16400.Idx → Elt F .i32) (e : ℕ) : BitVec 32 := pV (ix1 (⟨e % 16400, Nat.mod_lt _ (by omega)⟩ : Fin 16400))

/-- The row the gather reads for entry `w`'s eighth `q`. -/
def wordW (w q : BitVec 32) : BitVec 32 := (w &&& 16383#32) * 8#32 + q

/-- The gather's list when its first `n` sixteens were written, from entry `e` on. -/
def jbf (pV : S16400.Idx → Elt F .i32) (e : ℕ) (f : S128.Idx → Elt F .i32) (n : ℕ) : S128.Idx → Elt F .i32 :=
  fun x => if (x 0).val < 16 * n then wordW (pvW pV (e + (x 0).val % 16)) (BitVec.ofNat 32 ((x 0).val / 16)) else f x

theorem jbf_zero (pV : S16400.Idx → Elt F .i32) (e : ℕ) (f : S128.Idx → Elt F .i32) : jbf pV e f 0 = f := by
  funext x; simp [jbf]

/-- What the gather brings. -/
def gat (X : S131072x128.Idx → Elt F .f32) (pV : S16400.Idx → Elt F .i32) (e : ℕ) : S128x128.Idx → Elt F .f32 :=
  fun x => rx X (wordW (pvW pV (e + (x 0).val % 16)) (BitVec.ofNat 32 ((x 0).val / 16))).toNat (x 1).val

abbrev pvPts (d : Dev nD) (L : grid0.Coords) (pV : S16400.Idx → Elt F .i32) : sProp 𝕄 := pM.view.loc (thr d L) ↦{fullShare} pV
abbrev jbPts (d : Dev nD) (L : grid0.Coords) (f : S128.Idx → Elt F .i32) : sProp 𝕄 := jM.view.loc (thr d L) ↦{fullShare} f
abbrev xPts (d : Dev nD) (L : grid0.Coords) (q : PosShare TreeShare) (X : S131072x128.Idx → Elt F .f32) : sProp 𝕄 :=
  xS.view.loc (thr d L) ↦[xS.view.set]{q} X

theorem jb_write (pV : S16400.Idx → Elt F .i32) (e : ℕ) (f : S128.Idx → Elt F .i32) (q : Fin 8)
    (he : ∀ a, (![e] : Fin 1 → ℕ) a + S16.size a ≤ S16400.size a) :
    (jM.access (Rect.unit (s := S128) ![16 * q.val] S16.size (jInb q))).write (Elt F) (jbf pV e f q.val)
        (payW ((pM.access (Rect.unit (s := S16400) ![e] S16.size he)).read (Elt F) pV) (BitVec.ofNat 32 q.val)) Finset.univ
      = jbf pV e f (q.val + 1) := by
  have he0 : e + 16 ≤ 16400 := he 0
  funext x
  have hx : (x 0).val < 128 := (x 0).isLt
  by_cases hin : 16 * q.val ≤ (x 0).val ∧ (x 0).val < 16 * q.val + 16
  · obtain ⟨y, hy⟩ : ∃ y : Fin 16, x = (jM.access (Rect.unit (s := S128) ![16 * q.val] S16.size (jInb q))).emb (ix1 y) := by
      refine ⟨⟨(x 0).val - 16 * q.val, by omega⟩, ?_⟩
      funext a
      fin_cases a; apply Fin.ext
      show (x 0).val = 16 * q.val + 1 * ((x 0).val - 16 * q.val); omega
    have hyv : (x 0).val = 16 * q.val + 1 * y.val := by rw [hy]; rfl
    have hy16 := y.isLt
    conv_lhs => rw [hy]
    rw [View.write_emb_of_mem _ _ (Finset.mem_univ _), cast_eq, jbf, if_pos (by omega)]
    show ((pM.access (Rect.unit (s := S16400) ![e] S16.size he)).read (Elt F) pV (ix1 y) &&& 16383#32) * 8#32 + BitVec.ofNat 32 q.val = _
    rw [View.read_apply, cast_eq, wordW, show (x 0).val / 16 = q.val by omega]
    congr 3
    show pV _ = pV _
    congr 1
    funext a
    fin_cases a; apply Fin.ext
    show e + 1 * y.val = (e + (x 0).val % 16) % 16400; omega
  · rw [View.write_of_not_mem]
    · unfold jbf
      by_cases hl : (x 0).val < 16 * q.val
      · rw [if_pos hl, if_pos (by omega)]
      · rw [if_neg hl, if_neg (by omega)]
    · intro hm
      obtain ⟨y, -, hy⟩ := Finset.mem_map.mp hm
      have hy1 : 16 * q.val + 1 * (y 0).val = (x 0).val := congrArg (fun z : S128.Idx => (z 0).val) hy
      have b1 : (y 0).val < 16 := (y 0).isLt
      omega

/-- Sixteen words of the gather's list are written. -/
theorem jP_wp {α : Type} (d : Dev nD) (L : grid0.Coords) (o : Fin 1 → ℕ) (ho : ∀ a, o a + S16.size a ≤ S16400.size a) (q : Fin 8)
    (pV : S16400.Idx → Elt F .i32) (e : ℕ) (f : S128.Idx → Elt F .i32) (hoe : o = ![e]) (n : ℕ) (hn : n = q.val)
    (kk : Prog (Eff F L) α) (Q : α → sProp 𝕄) :
    iprop(pvPts d L pV ∗ jbPts d L (jbf pV e f n))
      ⊢ iprop((pvPts d L pV ∗ jbPts d L (jbf pV e f (n + 1)) -∗ wp frame (wpE (defs₀ (F := F)) 𝒱₀ (thr d L) none) Set.univ kk Q)
        -∗ wp frame (wpE (defs₀ (F := F)) 𝒱₀ (thr d L) none) Set.univ (jP L o ho q kk) Q) := by
  subst hoe hn
  unfold jP
  iintro ⟨Hp, Hj⟩ HK
  iapply (wp_load_rect 𝒱₀ (thr d L) none Set.univ (m := pM) (r := Rect.unit (s := S16400) _ S16.size ho) (Finset.subset_univ _)) $$ Hp
  iintro Hp
  iapply (wp_load_rect 𝒱₀ (thr d L) none Set.univ (m := jM) (r := Rect.unit (s := S128) _ S16.size (jInb q)) (Finset.subset_univ _)) $$ Hj
  iintro Hj
  iapply (wp_store 𝒱₀ (thr d L) none Set.univ (m := jM) (Mk := Finset.univ) (Finset.subset_univ _)) $$ Hj
  iintro Hj
  iapply HK
  isplitl [Hp]
  · iexact Hp
  · rw [← jb_write pV e f q ho]
    iexact Hj

theorem wordW_toNat (w : BitVec 32) (q : ℕ) (hq : q < 8) : (wordW w (BitVec.ofNat 32 q)).toNat = w.toNat % 16384 * 8 + q := by
  have h1 : (w &&& 16383#32).toNat = w.toNat % 16384 := by
    rw [BitVec.toNat_and]; exact Nat.and_two_pow_sub_one_eq_mod w.toNat 14
  unfold wordW
  rw [BitVec.toNat_add, BitVec.toNat_mul, h1, BitVec.toNat_ofNat, BitVec.toNat_ofNat]
  omega

theorem jb_inb (pV : S16400.Idx → Elt F .i32) (e : ℕ) (f : S128.Idx → Elt F .i32) :
    ∀ x, (jM.view.read (Elt F) (jbf pV e f 8) x).toNat < S131072x128.size gathers_S131072x128_S128x128.axis := by
  intro x
  have hx : (x 0).val < 128 := (x 0).isLt
  simp only [Memref.view_whole, View.read_whole]
  rw [jbf, if_pos (by omega), wordW_toNat _ _ (by omega)]
  show _ < 131072
  omega

theorem gat_eq (X : S131072x128.Idx → Elt F .f32) (pV : S16400.Idx → Elt F .i32) (e : ℕ) (f : S128.Idx → Elt F .i32) (g : S128x128.Idx → Elt F .f32)
    (hn : S128.numel = S128x128.size gathers_S131072x128_S128x128.axis') (hin) :
    gM.view.write (Elt F) g (SparseCore.gatherPayload gathers_S131072x128_S128x128 (xS.view.read (Elt F) X)
        (SparseCore.rows (jM.view.read (Elt F) (jbf pV e f 8)) hn hin)) Finset.univ
      = gat X pV e := by
  rw [View.write_whole_univ]
  funext x
  have hx0 : (x 0).val < 128 := (x 0).isLt
  show xS.view.read (Elt F) X _ = X _
  rw [View.read_apply, cast_eq]
  congr 1
  have key : ∀ k : Fin S128.numel, ((S128.rowMajor.symm k) 0).val = k.val := fun k => by
    have := Shape.rowMajor_val_one (S128.rowMajor.symm k)
    rw [Equiv.apply_symm_apply] at this; exact this.symm
  funext a
  fin_cases a <;> apply Fin.ext
  · show 0 + 1 * (jbf pV e f 8 (S128.rowMajor.symm _)).toNat = _
    rw [jbf, if_pos (by rw [key]; exact hx0), key]
    show 0 + 1 * (wordW (pvW pV (e + (x 0).val % 16)) (BitVec.ofNat 32 ((x 0).val / 16))).toNat = (wordW _ _).toNat % 131072
    rw [wordW_toNat _ _ (by omega)]
    omega
  · show 0 + 1 * (x 1).val = (x 1).val % 128
    have := (x 1).isLt
    have h : (x 1).val < 128 := (x 1).isLt
    omega

/-- The gather under way, with what it will have brought. -/
abbrev gFlight (d : Dev nD) (L : grid0.Coords) (q : PosShare TreeShare) (X : S131072x128.Idx → Elt F .f32) (pV : S16400.Idx → Elt F .i32) (e : ℕ)
    (f : S128.Idx → Elt F .i32) : sProp 𝕄 :=
  Transfers.Flight countersEmb (thr d L) (SemLoc.dma cc0_scratch7.sem) (default : HIx 1) gM.view.dmaCredit
    iprop(stgPts d L (gat X pV e) ∗ xPts d L q X ∗ jbPts d L (jbf pV e f 8))

/-- The gather is set going. -/
theorem gather_wp {α : Type} (d : Dev nD) (L : grid0.Coords) (q : PosShare TreeShare) (X : S131072x128.Idx → Elt F .f32) (pV : S16400.Idx → Elt F .i32) (e : ℕ)
    (f : S128.Idx → Elt F .i32) (g : S128x128.Idx → Elt F .f32) (kk : PUnit → Prog (Eff F L) α) (Q : α → sProp 𝕄) :
    iprop(xPts d L q X ∗ stgPts d L g ∗ jbPts d L (jbf pV e f 8) ∗ semVal (thr d L, SemLoc.dma cc0_scratch7.sem) 0)
      ⊢ iprop((gFlight d L q X pV e f -∗ wp frame (wpE (defs₀ (F := F)) 𝒱₀ (thr d L) none) Set.univ (kk ⟨⟩) Q)
        -∗ wp frame (wpE (defs₀ (F := F)) 𝒱₀ (thr d L) none) Set.univ (gatherP L >>= kk) Q) := by
  have hN : ∀ h : S131072x128.Gathers 0 S128x128, ∑ j, (gM.slice (S128x128.rowRect h.axis' j) (S128x128.stride_rowRect h.axis' j)).view.dmaCredit
      = gM.view.dmaCredit := by decide
  have hg : gM.view.set = Finset.univ := View.set_whole _
  have hj : jM.view.set = Finset.univ := View.set_whole _
  iintro ⟨Hx, Hg, Hj, Hs⟩ HK
  ihave Hg := (Entails.of_eq (show stgPts d L g = (gM.view.loc (thr d L) ↦[gM.view.set]{fullShare} g : sProp 𝕄) by rw [hg])) $$ Hg
  ihave Hj := (Entails.of_eq (show jbPts d L (jbf pV e f 8) = (jM.view.loc (thr d L) ↦[jM.view.set]{fullShare} (jbf pV e f 8) : sProp 𝕄) by rw [hj])) $$ Hj
  iapply (SparseCore.wp_indirectGatherLocal countersEmb 𝒱₀ (thr d L) none (hg := gathers_S131072x128_S128x128) (default : HIx 1)
      gM.view.dmaCredit (hN _) (by decide) (jb_inb pV e f)) $$ [Hx Hg Hj Hs]
  · isplitl [Hx]; · iexact Hx
    isplitl [Hg]; · iexact Hg
    isplitl [Hj]; · iexact Hj
    iexact Hs
  iintro Hfl
  iapply HK
  iapply (Transfers.Flight_mono countersEmb (thr d L) (D' := iprop(stgPts d L (gat X pV e) ∗ xPts d L q X ∗ jbPts d L (jbf pV e f 8))) (by
    refine BIBase.Entails.trans (Entails.of_eq (congrArg (fun z => iprop((gM.view.loc (thr d L) ↦[gM.view.set]{fullShare} z) ∗ xPts d L q X
      ∗ (jM.view.loc (thr d L) ↦[jM.view.set]{fullShare} (jbf pV e f 8)))) (gat_eq X pV e f g rfl (jb_inb pV e f)))) ?_
    rw [hg, hj])) $$ Hfl

/-- The gather is waited for. -/
theorem gwait_wp {α : Type} (d : Dev nD) (L : grid0.Coords) (q : PosShare TreeShare) (X : S131072x128.Idx → Elt F .f32) (pV : S16400.Idx → Elt F .i32) (e : ℕ)
    (f : S128.Idx → Elt F .i32) (O : CellTallies nD τ sig (HIx 1)) (W : Waits sig (HIx 1)) (kk : PUnit → Prog (Eff F L) α) (Q : α → sProp 𝕄) :
    iprop(gFlight d L q X pV e f ∗ owes (thr d L) O W ∗ Transfers.MayWaits (thr d L) (default : HIx 1) O)
      ⊢ iprop((stgPts d L (gat X pV e) ∗ xPts d L q X ∗ jbPts d L (jbf pV e f 8) ∗ semVal (thr d L, SemLoc.dma cc0_scratch7.sem) 0
            ∗ owes (thr d L) O (insert (SemLoc.dma cc0_scratch7.sem, (default : HIx 1)) W)
          -∗ wp frame (wpE (defs₀ (F := F)) 𝒱₀ (thr d L) none) Set.univ (kk ⟨⟩) Q)
        -∗ wp frame (wpE (defs₀ (F := F)) 𝒱₀ (thr d L) none) Set.univ
          (SparseCore.waitIndirectGather cc0_scratch7.sem xS gM (View.wordExact_bits rfl) (Memref.isWhole_whole _).wordExact >>= kk) Q) := by
  iintro ⟨Hfl, HO, Hmw⟩ HK
  iapply (Transfers.wp_waitLocalO countersEmb 𝒱₀ (thr d L) none (default : HIx 1) (rfl : gM.view.dmaCredit = _)) $$ [Hfl HO Hmw]
  · isplitl [Hfl]; · iexact Hfl
    isplitl [HO]; · iexact HO
    iapply (Transfers.MayWaits.elim (SemLoc.dma cc0_scratch7.sem)) $$ Hmw
  iintro ⟨⟨Hr, Hx, Hj⟩, Hs, HO⟩
  iapply HK
  isplitl [Hr]; · iexact Hr
  isplitl [Hx]; · iexact Hx
  isplitl [Hj]; · iexact Hj
  isplitl [Hs]; · iexact Hs
  iexact HO

end Cert.Proof.Scatter

end
-- ==== Proof.Batch.lean ====
/-
  One batch: its gather comes in, its rows are added, and the next batch's gather is set going.
-/
module

public import proofs.«01_k».proof.Proof.Gather

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem row_word (w v73 : BitVec 32) (c : ℕ) (hc : c < 3125) (h73 : v73.toNat = c) (hw : w.toNat / 16384 / 32 = c) :
    (w.sshiftRight 14 - v73 * 32#32).toNat < 32 ∧ w.toNat / 16384 = 32 * c + (w.sshiftRight 14 - v73 * 32#32).toNat := by
  have hm : w.msb = false := by
    rw [BitVec.msb_eq_decide]; simp; omega
  rw [BitVec.sshiftRight_eq_of_msb_false hm]
  have h1 : (w >>> 14).toNat = w.toNat / 16384 := by
    rw [BitVec.toNat_ushiftRight, Nat.shiftRight_eq_div_pow]
  rw [BitVec.toNat_sub, BitVec.toNat_mul, BitVec.toNat_ofNat, h1]
  omega

abbrev laneV : IVec S16 32 := iota .scVector S16 32 [0] iota_S16_d0_w32_scVector

/-- The sixteen words a batch reads. -/
abbrev ldP (pV : S16400.Idx → Elt F .i32) (o : Fin 1 → ℕ) (ho : ∀ a, o a + S16.size a ≤ S16400.size a) : Vec F S16 .i32 :=
  (pM.access (Rect.unit (s := S16400) o S16.size ho)).read (Elt F) pV

theorem ldP_eq (pV : S16400.Idx → Elt F .i32) (e : ℕ) (o : Fin 1 → ℕ) (ho : ∀ a, o a + S16.size a ≤ S16400.size a) (hoe : o = ![e]) (r : Fin 16) :
    ldP pV o ho (ix1 r) = pvW pV (e + r.val) := by
  subst hoe
  have he : e + 16 ≤ 16400 := ho 0
  rw [ldP, View.read_apply, cast_eq]
  show pV _ = pV _
  congr 1
  funext a
  fin_cases a; apply Fin.ext
  show e + 1 * r.val = (e + r.val) % 16400
  omega

theorem pick_rows (pV : S16400.Idx → Elt F .i32) (v73 : BitVec 32) (e : ℕ) (o : Fin 1 → ℕ) (ho : ∀ a, o a + S16.size a ≤ S16400.size a) (hoe : o = ![e]) (r : Fin 16) :
    pickW laneV (k0_pay151 v73 (ldP pV o ho)) (BitVec.ofNat 32 r.val) = (pvW pV (e + r.val)).sshiftRight 14 - v73 * 32#32 := by
  unfold pickW
  rw [pick _ r _ rfl, ← ldP_eq pV e o ho hoe r]
  rfl

theorem mayW (d : Dev nD) (L : grid0.Coords) {O : CellTallies nD τ sig (HIx 1)} (hO : ∀ g, O g none = 0) :
    (levAts (K (F := F)).L (K (F := F)).lev : sProp 𝕄) ⊢ Transfers.MayWaits (thr d L) (default : HIx 1) O :=
  (K (F := F)).mayWaits_none (thr := thr d L) hO

/-- The waits recorded so far go on from `W` by waits of no level. -/
abbrev owed (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

/-- The chunk's gather before batch `b`: under way for this batch if there is one, else at rest. -/
def gState (d : Dev nD) (L : grid0.Coords) (q : PosShare TreeShare) (X : S131072x128.Idx → Elt F .f32) (pV : S16400.Idx → Elt F .i32) (e₀ n b : ℕ) : sProp 𝕄 :=
  if b < (n + 15) / 16 then iprop(∃ f, gFlight d L q X pV (e₀ + 16 * b) f)
  else iprop(∃ g f, stgPts d L g ∗ xPts d L q X ∗ jbPts d L f ∗ semVal (thr d L, SemLoc.dma cc0_scratch7.sem) 0)

/-- What holds before batch `b` of a chunk. -/
def batchI (d : Dev nD) (L : grid0.Coords) (O : CellTallies nD τ sig (HIx 1)) (W : Waits sig (HIx 1)) (q : PosShare TreeShare)
    (T : S100000x1024.Idx → Elt F .f32) (X : S131072x128.Idx → Elt F .f32) (P : S16384.Idx → Elt F .i32) (pV : S16400.Idx → Elt F .i32) (s e₀ c n b : ℕ) : sProp 𝕄 :=
  iprop(levAts (K (F := F)).L (K (F := F)).lev ∗ slotPts d L s (cont T X P e₀ c (min (16 * b) n)) ∗ pvPts d L pV
    ∗ gState d L q X pV e₀ n b ∗ owed d L O W)

theorem insert_owed {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

set_option maxHeartbeats 2000000 in
/-- One batch: its gather comes in, its rows are added, and the next batch's gather is set going. -/
theorem batch_wp (d : Dev nD) (i : grid0.Coords) (k : Fin (k0_t1_loop i).trips) {v89 v102 : BitVec 32} {e₀ n c : ℕ}
    (hR : Rng v89 v102 e₀ n) (hc : c < 3125) (v19 v15 v72 v73 : BitVec 32) (h73 : v73.toNat = c) (hw2 : k0_chk2 v89 v102) (v103 v122 : BitVec 32)
    (v187 : Vec F S16 .i32) (v188 : IVec S16 32) (b : Fin (k0_t2_loop v89 v102).trips)
    (O : CellTallies nD τ sig (HIx 1)) (W : Waits sig (HIx 1)) (hO : ∀ g, O g none = 0) (q : PosShare TreeShare)
    (T : S100000x1024.Idx → Elt F .f32) (X : S131072x128.Idx → Elt F .f32) (P : S16384.Idx → Elt F .i32) (pV : S16400.Idx → Elt F .i32)
    (hP : ∀ e < 16384, (pvW pV e).toNat = pk P e) (hgood : ∀ e, e₀ ≤ e → e < e₀ + n → pk P e / 16384 / 32 = c) :
    batchI d i O W q T X P pV (k.val % 2) e₀ c n b.val
      ⊢ wp frame (wpE (defs₀ (F := F)) 𝒱₀ (thr d i) none) Set.univ
          (batch' (F := F) i v19 laneV k v15 v72 v73 v89 v102 hw2 v103 v122 v187 v188 b ⟨⟩) fun _ =>
          batchI d i O W q T X P pV (k.val % 2) e₀ c n (b.val + 1) := by
  have hle := hR.le
  have hb : b.val < (n + 15) / 16 := lt_of_lt_of_eq b.isLt hR.t2_trips
  let mm : ℕ → ℕ := fun r => min (16 * b.val + r) n
  have ho := hR.off14_eq b
  have hrow : ∀ r : Fin 16, 16 * b.val + r.val < n →
      (pickW laneV (k0_pay151 v73 (ldP pV (k0_off14 v89 v102 b) (k0_off14_inb v89 v102 hw2 b))) (BitVec.ofNat 32 r.val)).toNat < 32
        ∧ pk P (e₀ + (16 * b.val + r.val)) / 16384 = 32 * c
          + (pickW laneV (k0_pay151 v73 (ldP pV (k0_off14 v89 v102 b) (k0_off14_inb v89 v102 hw2 b))) (BitVec.ofNat 32 r.val)).toNat := fun r hr => by
    rw [pick_rows pV v73 (e₀ + 16 * b.val) _ _ ho r, ← hP _ (by omega), Nat.add_assoc]
    exact row_word _ v73 c hc h73 (by rw [hP _ (by omega)]; exact hgood _ (by omega) (by omega))
  have hgr : ∀ r : Fin 16, 16 * b.val + r.val < n → ∀ j < 1024, rg (gat X pV (e₀ + 16 * b.val)) (16 * (j / 128) + r.val) (j % 128)
      = rx X (pk P (e₀ + (16 * b.val + r.val)) % 16384 * 8 + j / 128) (j % 128) := fun r hr j hj => by
    show rx X (wordW (pvW pV (e₀ + 16 * b.val + (16 * (j / 128) + r.val) % 128 % 16)) (BitVec.ofNat 32 ((16 * (j / 128) + r.val) % 128 / 16))).toNat (j % 128 % 128) = _
    rw [wordW_toNat _ _ (by omega), ← hP _ (by omega)]
    rw [show e₀ + 16 * b.val + (16 * (j / 128) + r.val) % 128 % 16 = e₀ + (16 * b.val + r.val) by omega,
      show (16 * (j / 128) + r.val) % 128 / 16 = j / 128 by omega, show j % 128 % 128 = j % 128 by omega]
  unfold batchI gState
  rw [if_pos hb, batch_eq, wp_bind, part51_eq]
  iintro ⟨#Hlv, Hc, Hp, ⟨%f, Hfl⟩, ⟨%W', %hW', HO⟩⟩
  ihave Hmw := (mayW d i hO) $$ Hlv
  iapply (gwait_wp d i q X pV (e₀ + 16 * b.val) f O W') $$ [Hfl HO Hmw]
  · isplitl [Hfl]; · iexact Hfl
    isplitl [HO]; · iexact HO
    iexact Hmw
  iintro ⟨Hg, Hx, Hj, Hs, HO⟩
  iapply (wp_load_rect 𝒱₀ (thr d i) none Set.univ (m := pM) (r := Rect.unit (s := S16400) _ S16.size (k0_off14_inb v89 v102 hw2 b)) (Finset.subset_univ _)) $$ Hp
  iintro Hp
  ihave H := (show iprop(slotPts d i (k.val % 2) (cont T X P e₀ c (min (16 * b.val) n)) ∗ stgPts d i (gat X pV (e₀ + 16 * b.val)))
    ⊢ iprop(slotPts d i (k.val % 2) (cont T X P e₀ c (mm 0)) ∗ stgPts d i (gat X pV (e₀ + 16 * b.val))) from .rfl) $$ [Hc Hg]
  · isplitl [Hc]
    · iexact Hc
    · iexact Hg
  iapply (row_wp d i k hR b 0 _ _ T X P (gat X pV (e₀ + 16 * b.val)) (mm 0) (mm 1) rfl rfl (hrow 0) (hgr 0)) $$ H
  iintro H
  iapply (row_wp d i k hR b 1 _ _ T X P (gat X pV (e₀ + 16 * b.val)) (mm 1) (mm 2) rfl rfl (hrow 1) (hgr 1)) $$ H
  iintro H
  iapply (row_wp d i k hR b 2 _ _ T X P (gat X pV (e₀ + 16 * b.val)) (mm 2) (mm 3) rfl rfl (hrow 2) (hgr 2)) $$ H
  iintro H
  iapply (row_wp d i k hR b 3 _ _ T X P (gat X pV (e₀ + 16 * b.val)) (mm 3) (mm 4) rfl rfl (hrow 3) (hgr 3)) $$ H
  iintro H
  rw [wp_pure]
  imodintro
  rw [wp_bind, part52_eq]
  iapply (row_wp d i k hR b 4 _ _ T X P (gat X pV (e₀ + 16 * b.val)) (mm 4) (mm 5) rfl rfl (hrow 4) (hgr 4)) $$ H
  iintro H
  iapply (row_wp d i k hR b 5 _ _ T X P (gat X pV (e₀ + 16 * b.val)) (mm 5) (mm 6) rfl rfl (hrow 5) (hgr 5)) $$ H
  iintro H
  iapply (row_wp d i k hR b 6 _ _ T X P (gat X pV (e₀ + 16 * b.val)) (mm 6) (mm 7) rfl rfl (hrow 6) (hgr 6)) $$ H
  iintro H
  iapply (row_wp d i k hR b 7 _ _ T X P (gat X pV (e₀ + 16 * b.val)) (mm 7) (mm 8) rfl rfl (hrow 7) (hgr 7)) $$ H
  iintro H
  iapply (row_wp d i k hR b 8 _ _ T X P (gat X pV (e₀ + 16 * b.val)) (mm 8) (mm 9) rfl rfl (hrow 8) (hgr 8)) $$ H
  iintro H
  iapply (row_wp d i k hR b 9 _ _ T X P (gat X pV (e₀ + 16 * b.val)) (mm 9) (mm 10) rfl rfl (hrow 9) (hgr 9)) $$ H
  iintro H
  iapply (row_wp d i k hR b 10 _ _ T X P (gat X pV (e₀ + 16 * b.val)) (mm 10) (mm 11) rfl rfl (hrow 10) (hgr 10)) $$ H
  iintro H
  rw [wp_pure]
  imodintro
  iapply (row_wp d i k hR b 11 _ _ T X P (gat X pV (e₀ + 16 * b.val)) (mm 11) (mm 12) rfl rfl (hrow 11) (hgr 11)) $$ H
  iintro H
  iapply (row_wp d i k hR b 12 _ _ T X P (gat X pV (e₀ + 16 * b.val)) (mm 12) (mm 13) rfl rfl (hrow 12) (hgr 12)) $$ H
  iintro H
  iapply (row_wp d i k hR b 13 _ _ T X P (gat X pV (e₀ + 16 * b.val)) (mm 13) (mm 14) rfl rfl (hrow 13) (hgr 13)) $$ H
  iintro H
  iapply (row_wp d i k hR b 14 _ _ T X P (gat X pV (e₀ + 16 * b.val)) (mm 14) (mm 15) rfl rfl (hrow 14) (hgr 14)) $$ H
  iintro H
  iapply (row_wp d i k hR b 15 _ _ T X P (gat X pV (e₀ + 16 * b.val)) (mm 15) (mm 16) rfl rfl (hrow 15) (hgr 15)) $$ H
  iintro H
  icases H with ⟨Hc, Hg⟩
  have hm : mm 16 = min (16 * (b.val + 1)) n := rfl
  by_cases h : b.val + 1 < (n + 15) / 16
  · rw [if_pos h, dif_pos ((hR.cond20_iff b).mpr h), wp_bind, part49_eq]
    have ho' := hR.off159_eq b
    ihave H := (show iprop(pvPts d i pV ∗ jbPts d i (jbf pV (e₀ + 16 * b.val) f 8))
      ⊢ iprop(pvPts d i pV ∗ jbPts d i (jbf pV (e₀ + 16 * (b.val + 1)) (jbf pV (e₀ + 16 * b.val) f 8) 0)) by rw [jbf_zero]) $$ [Hp Hj]
    · isplitl [Hp]
      · iexact Hp
      · iexact Hj
    iapply (jP_wp d i _ _ 0 pV (e₀ + 16 * (b.val + 1)) (jbf pV (e₀ + 16 * b.val) f 8) ho' 0 rfl) $$ H
    iintro H
    iapply (jP_wp d i _ _ 1 pV (e₀ + 16 * (b.val + 1)) (jbf pV (e₀ + 16 * b.val) f 8) ho' 1 rfl) $$ H
    iintro H
    iapply (jP_wp d i _ _ 2 pV (e₀ + 16 * (b.val + 1)) (jbf pV (e₀ + 16 * b.val) f 8) ho' 2 rfl) $$ H
    iintro H
    rw [wp_pure]
    imodintro
    rw [wp_bind, part50_eq]
    iapply (jP_wp d i _ _ 3 pV (e₀ + 16 * (b.val + 1)) (jbf pV (e₀ + 16 * b.val) f 8) ho' 3 rfl) $$ H
    iintro H
    iapply (jP_wp d i _ _ 4 pV (e₀ + 16 * (b.val + 1)) (jbf pV (e₀ + 16 * b.val) f 8) ho' 4 rfl) $$ H
    iintro H
    iapply (jP_wp d i _ _ 5 pV (e₀ + 16 * (b.val + 1)) (jbf pV (e₀ + 16 * b.val) f 8) ho' 5 rfl) $$ H
    iintro H
    rw [wp_pure]
    imodintro
    iapply (jP_wp d i _ _ 6 pV (e₀ + 16 * (b.val + 1)) (jbf pV (e₀ + 16 * b.val) f 8) ho' 6 rfl) $$ H
    iintro H
    iapply (jP_wp d i _ _ 7 pV (e₀ + 16 * (b.val + 1)) (jbf pV (e₀ + 16 * b.val) f 8) ho' 7 rfl) $$ H
    iintro H
    icases H with ⟨Hp, Hj⟩
    iapply (gather_wp d i q X pV (e₀ + 16 * (b.val + 1)) (jbf pV (e₀ + 16 * b.val) f 8) (gat X pV (e₀ + 16 * b.val))) $$ [Hx Hg Hj Hs]
    · isplitl [Hx]; · iexact Hx
      isplitl [Hg]; · iexact Hg
      isplitl [Hj]; · iexact Hj
      iexact Hs
    iintro Hfl
    rw [wp_pure]
    imodintro
    isplitr; · iexact Hlv
    isplitl [Hc]; · iexact Hc
    isplitl [Hp]; · iexact Hp
    isplitl [Hfl]; · iexists (jbf pV (e₀ + 16 * b.val) f 8); iexact Hfl
    iexists (insert (SemLoc.dma cc0_scratch7.sem, (default : HIx 1)) W')
    isplitr; · ipureintro; exact insert_owed hW' _
    iexact HO
  · rw [if_neg h, dif_neg (fun z => h ((hR.cond20_iff b).mp z)), wp_pure]
    imodintro
    isplitr; · iexact Hlv
    isplitl [Hc]; · iexact Hc
    isplitl [Hp]; · iexact Hp
    isplitl [Hg Hx Hj Hs]
    · iexists (gat X pV (e₀ + 16 * b.val)), (jbf pV (e₀ + 16 * b.val) f 8)
      isplitl [Hg]; · iexact Hg
      isplitl [Hx]; · iexact Hx
      isplitl [Hj]; · iexact Hj
      iexact Hs
    iexists (insert (SemLoc.dma cc0_scratch7.sem, (default : HIx 1)) W')
    isplitr; · ipureintro; exact insert_owed hW' _
    iexact HO

end Cert.Proof.Scatter

end
-- ==== Proof.Moves.lean ====
/-
  The copies: a chunk of the table into a half of the buffer, and back out.
-/
module

public import proofs.«01_k».proof.Proof.Batch
public import Idealize.ShloMosaic.Lib.ValueLayout

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The pieces the copies move -/

abbrev slotM (o : Fin 3 → ℕ) (ho : ∀ a, o a + S1x32x1024.size a ≤ S2x32x1024.size a) : Memref sig .scVector .vmem S32x1024 .f32 :=
  (cM.slice (Rect.unit (s := S2x32x1024) o S1x32x1024.size ho) (fun _ => rfl)).squeeze S32x1024 squeezes_S1x32x1024_S32x1024

abbrev tabC (o : Fin 2 → ℕ) (ho : ∀ a, o a + S32x1024.size a ≤ S100000x1024.size a) : Memref sig .scVector .hbm S32x1024 .f32 :=
  tabM.slice (Rect.unit (s := S100000x1024) o S32x1024.size ho) (fun _ => rfl)

abbrev resC (o : Fin 2 → ℕ) (ho : ∀ a, o a + S32x1024.size a ≤ S100000x1024.size a) : Memref sig .scVector .hbm S32x1024 .f32 :=
  resM.slice (Rect.unit (s := S100000x1024) o S32x1024.size ho) (fun _ => rfl)

abbrev semI (o : Fin 1 → ℕ) (ho : ∀ a, o a + S1.size a ≤ S2.size a) : DmaSem sig :=
  ((cc0_scratch5.slice (Rect.unit (s := S2) o S1.size ho)).squeeze S_ squeezes_S1_S_).sem

abbrev semO (o : Fin 1 → ℕ) (ho : ∀ a, o a + S1.size a ≤ S2.size a) : DmaSem sig :=
  ((cc0_scratch6.slice (Rect.unit (s := S2) o S1.size ho)).squeeze S_ squeezes_S1_S_).sem

theorem sem_inb (b : ℕ) (a) : (![b % 2] : Fin 1 → ℕ) a + S1.size a ≤ S2.size a := by
  fin_cases a; show b % 2 + 1 ≤ 2; omega

/-- The semaphore of the loads into half `b`, and of the stores from it. -/
abbrev sI (b : ℕ) : SemLoc sig := SemLoc.dma (semI ![b % 2] (sem_inb b))
abbrev sO (b : ℕ) : SemLoc sig := SemLoc.dma (semO ![b % 2] (sem_inb b))

/-- The rows from `a` up to `b`. -/
def rowsIn (a b : ℕ) : Finset S100000x1024.Idx := Finset.univ.filter fun x => a ≤ (x 0).val ∧ (x 0).val < b

theorem mem_rowsIn {a b : ℕ} {x : S100000x1024.Idx} : x ∈ rowsIn a b ↔ a ≤ (x 0).val ∧ (x 0).val < b := by simp [rowsIn]

theorem rowsIn_union (a b c : ℕ) (h : a ≤ b) (h' : b ≤ c) : rowsIn a c = rowsIn a b ∪ rowsIn b c := by
  ext x; simp only [Finset.mem_union, mem_rowsIn]; omega

theorem rowsIn_disj (a b c : ℕ) : Disjoint (rowsIn a b) (rowsIn b c) := by
  rw [Finset.disjoint_left]; intro x; simp only [mem_rowsIn]; omega

theorem rowsIn_empty (a b : ℕ) (h : b ≤ a) : rowsIn a b = ∅ := by
  ext x; simp only [mem_rowsIn, Finset.notMem_empty, iff_false]; omega

abbrev tabPts (d : Dev nD) (L : grid0.Coords) (a b : ℕ) (T : S100000x1024.Idx → Elt F .f32) : sProp 𝕄 :=
  tabM.view.loc (thr d L) ↦[rowsIn a b]{fullShare} T
abbrev resPts (d : Dev nD) (L : grid0.Coords) (a b : ℕ) (R : S100000x1024.Idx → Elt F .f32) : sProp 𝕄 :=
  resM.view.loc (thr d L) ↦[rowsIn a b]{fullShare} R

theorem tabPts_split (d : Dev nD) (L : grid0.Coords) (a b c : ℕ) (h : a ≤ b) (h' : b ≤ c) (T : S100000x1024.Idx → Elt F .f32) :
    tabPts d L a c T ⊣⊢ iprop(tabPts d L a b T ∗ tabPts d L b c T) := by
  unfold tabPts; rw [rowsIn_union a b c h h']; exact pointsTo_union (rowsIn_disj a b c)
theorem resPts_split (d : Dev nD) (L : grid0.Coords) (a b c : ℕ) (h : a ≤ b) (h' : b ≤ c) (T : S100000x1024.Idx → Elt F .f32) :
    resPts d L a c T ⊣⊢ iprop(resPts d L a b T ∗ resPts d L b c T) := by
  unfold resPts; rw [rowsIn_union a b c h h']; exact pointsTo_union (rowsIn_disj a b c)

/-! ## Where the pieces lie -/

theorem slot_emb (b : ℕ) (ho) (y : S32x1024.Idx) :
    ((slotM ![b, 0, 0] ho).view.emb y 0).val = b ∧ ((slotM ![b, 0, 0] ho).view.emb y 1).val = (y 0).val ∧ ((slotM ![b, 0, 0] ho).view.emb y 2).val = (y 1).val := by
  obtain ⟨p, q, rfl⟩ : ∃ (p : Fin 32) (q : Fin 1024), y = ix2 p q := ⟨y 0, y 1, eq_ix2 y⟩
  have key := fun h => reshapeEquiv_ix2_1ab (a := 32) (b := 1024) h p q
  have e : ∀ a, ((slotM ![b, 0, 0] ho).view.emb (ix2 p q) a).val = ![b, 0, 0] a + 1 * ((ix3 (0 : Fin 1) p q : S1x32x1024.Idx) a).val := by
    intro a
    show ((Rect.unit (s := S2x32x1024) ![b, 0, 0] S1x32x1024.size ho).emb (Shape.reshapeEquiv _ (ix2 p q)) a).val = _
    rw [key]; rfl
  refine ⟨(e 0).trans ?_, (e 1).trans ?_, (e 2).trans ?_⟩
  · show b + 1 * 0 = b; omega
  · show 0 + 1 * p.val = p.val; omega
  · show 0 + 1 * q.val = q.val; omega

theorem slot_emb_eq (b : ℕ) (ho) (x : S2x32x1024.Idx) (hx : x ∈ slotSet b) : (slotM ![b, 0, 0] ho).view.emb (ix2 (x 1) (x 2)) = x := by
  rw [mem_slotSet] at hx
  obtain ⟨h0, h1, h2⟩ := slot_emb b ho (ix2 (x 1) (x 2))
  funext a
  match a with
  | ⟨0, _⟩ => exact Fin.ext (h0.trans hx.symm)
  | ⟨1, _⟩ => exact Fin.ext h1
  | ⟨2, _⟩ => exact Fin.ext h2

theorem slot_set (b : ℕ) (ho) : (slotM ![b, 0, 0] ho).view.set = slotSet b := by
  ext x
  constructor
  · intro h
    obtain ⟨y, -, rfl⟩ := Finset.mem_map.mp h
    exact mem_slotSet.mpr (slot_emb b ho y).1
  · intro h
    exact Finset.mem_map.mpr ⟨_, Finset.mem_univ _, slot_emb_eq b ho x h⟩

theorem rows_set (o : ℕ) (ho) : (tabC ![o, 0] ho).view.set = rowsIn o (o + 32) := by
  ext x
  rw [mem_rowsIn]
  constructor
  · intro h
    obtain ⟨y, -, rfl⟩ := Finset.mem_map.mp h
    have : (y 0).val < 32 := (y 0).isLt
    show o ≤ o + 1 * (y 0).val ∧ o + 1 * (y 0).val < _
    omega
  · intro h
    refine Finset.mem_map.mpr ⟨ix2 (⟨(x 0).val - o, by omega⟩ : Fin 32) (x 1), Finset.mem_univ _, ?_⟩
    funext a
    fin_cases a <;> apply Fin.ext
    · show o + 1 * ((x 0).val - o) = (x 0).val; omega
    · show 0 + 1 * (x 1).val = (x 1).val; omega

theorem rows_emb (o : ℕ) (ho) (x : S100000x1024.Idx) (hx : x ∈ rowsIn o (o + 32)) :
    (tabC ![o, 0] ho).view.emb (ix2 (⟨(x 0).val - o, by rw [mem_rowsIn] at hx; omega⟩ : Fin 32) (x 1)) = x := by
  rw [mem_rowsIn] at hx
  funext a
  fin_cases a <;> apply Fin.ext
  · show o + 1 * ((x 0).val - o) = (x 0).val; omega
  · show 0 + 1 * (x 1).val = (x 1).val; omega

/-- A chunk of the table as the load leaves it in its half of the buffer. -/
theorem load_eq (T : S100000x1024.Idx → Elt F .f32) (X : S131072x128.Idx → Elt F .f32) (P : S16384.Idx → Elt F .i32) (e₀ c b : ℕ)
    (ho) (ho') (f : S2x32x1024.Idx → Elt F .f32) (x : S2x32x1024.Idx) (hx : x ∈ slotSet b) :
    (slotM ![b, 0, 0] ho).view.write (Elt F) f ((tabC ![32 * c, 0] ho').view.read (Elt F) T) Finset.univ x = cont T X P e₀ c 0 x := by
  have hc : 32 * c + 32 ≤ 100000 := ho' 0
  have h1 : (x 1).val < 32 := (x 1).isLt
  have h2 : (x 2).val < 1024 := (x 2).isLt
  conv_lhs => rw [← slot_emb_eq b ho x hx]
  rw [View.write_emb_of_mem _ _ (Finset.mem_univ _), cast_eq, View.read_apply, cast_eq]
  show T _ = T _
  congr 1
  funext a
  fin_cases a <;> apply Fin.ext
  · show 32 * c + 1 * (x 1).val = (32 * c + (x 1).val) % 100000; omega
  · show 0 + 1 * (x 2).val = (x 2).val % 1024; omega

/-- The whole result. -/
def GR (T : S100000x1024.Idx → Elt F .f32) (X : S131072x128.Idx → Elt F .f32) (P : S16384.Idx → Elt F .i32) (S : S3126.Idx → Elt F .i32) :
    S100000x1024.Idx → Elt F .f32 := fun x => G T X P S (x 0).val (x 1).val

/-- A finished chunk as the store leaves it in the result. -/
theorem store_eq (T : S100000x1024.Idx → Elt F .f32) (X : S131072x128.Idx → Elt F .f32) (P : S16384.Idx → Elt F .i32) (S : S3126.Idx → Elt F .i32) (c b : ℕ)
    (ho) (ho') (f : S100000x1024.Idx → Elt F .f32) (x : S100000x1024.Idx) (hx : x ∈ rowsIn (32 * c) (32 * c + 32)) :
    (resC ![32 * c, 0] ho').view.write (Elt F) f ((slotM ![b, 0, 0] ho).view.read (Elt F) (cont T X P (st S c) c (st S (c + 1) - st S c))) Finset.univ x
      = GR T X P S x := by
  have hx' := hx
  rw [mem_rowsIn] at hx'
  conv_lhs => rw [← rows_emb (32 * c) ho' x hx]
  refine (View.write_emb_of_mem (Val := Elt F) (v := (resC ![32 * c, 0] ho').view) _ _ (Finset.mem_univ _)).trans ?_
  rw [cast_eq, View.read_apply, cast_eq]
  obtain ⟨-, h1, h2⟩ := slot_emb b ho (ix2 (⟨(x 0).val - 32 * c, by omega⟩ : Fin 32) (x 1))
  unfold cont GR G
  rw [h1, h2, show (x 0).val / 32 = c by omega]
  congr 1
  show 32 * c + ((x 0).val - 32 * c) = (x 0).val
  omega

end Cert.Proof.Scatter

end
-- ==== Proof.Copies.lean ====
/-
  The copies of a chunk, started and waited for.
-/
module

public import proofs.«01_k».proof.Proof.Moves

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem slot0_inb (a) : (![0, 0, 0] : Fin 3 → ℕ) a + S1x32x1024.size a ≤ S2x32x1024.size a := by fin_cases a <;> decide
theorem res0_inb (a) : (![0, 0] : Fin 2 → ℕ) a + S32x1024.size a ≤ S100000x1024.size a := by fin_cases a <;> decide

/-- What a load and a store count. -/
abbrev NI : ℕ := (slotM ![0, 0, 0] slot0_inb).view.dmaCredit
abbrev NO : ℕ := (resC ![0, 0] res0_inb).view.dmaCredit

theorem NI_pos : 0 < NI := by decide
theorem NO_pos : 0 < NO := by decide

theorem sI_congr (b b' : ℕ) (h : b % 2 = b' % 2) : sI b = sI b' := by
  unfold sI; simp only [h]
theorem sO_congr (b b' : ℕ) (h : b % 2 = b' % 2) : sO b = sO b' := by
  unfold sO; simp only [h]

/-- The load of chunk `c` into half `b` under way, and the store of it from half `b`. -/
def lFl (d : Dev nD) (L : grid0.Coords) (T : S100000x1024.Idx → Elt F .f32) (X : S131072x128.Idx → Elt F .f32) (P : S16384.Idx → Elt F .i32) (b c : ℕ) : sProp 𝕄 :=
  Transfers.Flight countersEmb (thr d L) (sI b) (default : HIx 1) NI iprop(slotPts d L (b % 2) (cont T X P 0 c 0) ∗ tabPts d L (32 * c) (32 * c + 32) T)

def sFl (d : Dev nD) (L : grid0.Coords) (T : S100000x1024.Idx → Elt F .f32) (X : S131072x128.Idx → Elt F .f32) (P : S16384.Idx → Elt F .i32) (S : S3126.Idx → Elt F .i32) (b c : ℕ) : sProp 𝕄 :=
  Transfers.Flight countersEmb (thr d L) (sO b) (default : HIx 1) NO
    iprop(resPts d L (32 * c) (32 * c + 32) (GR T X P S) ∗ ∃ f, slotPts d L (b % 2) f)

variable (d : Dev nD) (L : grid0.Coords) (T : S100000x1024.Idx → Elt F .f32) (X : S131072x128.Idx → Elt F .f32) (P : S16384.Idx → Elt F .i32)
  (S : S3126.Idx → Elt F .i32)

theorem load_wp (b c : ℕ) (o3) (ho3) (o2) (ho2) (o1) (ho1) (h1 h2 h3) (e3 : o3 = ![b % 2, 0, 0]) (e2 : o2 = ![32 * c, 0]) (e1 : o1 = ![b % 2])
    (f : S2x32x1024.Idx → Elt F .f32) {α : Type} (kk : PUnit → Prog (Eff F L) α) (Q : α → sProp 𝕄) :
    iprop(slotPts d L (b % 2) f ∗ tabPts d L (32 * c) (32 * c + 32) T ∗ semVal (thr d L, sI b) 0)
      ⊢ iprop((lFl d L T X P b c -∗ wp frame (wpE (defs₀ (F := F)) 𝒱₀ (thr d L) none) Set.univ (kk ⟨⟩) Q)
        -∗ wp frame (wpE (defs₀ (F := F)) 𝒱₀ (thr d L) none) Set.univ
          (Prog.lift (.enqueueDma (tabC o2 ho2) (.here (slotM o3 ho3)) (.dma (semI o1 ho1)) h1 h2 h3) >>= kk) Q) := by
  subst e3 e2 e1
  have hs := rows_set (32 * c) ho2
  iintro ⟨Hc, Ht, Hs⟩ HK
  iapply (Transfers.wp_dmaLocal countersEmb 𝒱₀ (thr d L) none (src := tabC ![32 * c, 0] ho2) (dst := slotM ![b % 2, 0, 0] ho3) (sm := sI b)
    (default : HIx 1) NI rfl NI_pos (slot_set (b % 2) ho3).subset) $$ [Hc Ht Hs]
  · isplitl [Ht]
    · iapply (Entails.of_eq (show tabPts d L (32 * c) (32 * c + 32) T = ((tabC ![32 * c, 0] ho2).view.loc (thr d L) ↦[(tabC ![32 * c, 0] ho2).view.set]{fullShare} T : sProp 𝕄) by rw [hs])) $$ Ht
    isplitl [Hc]; · iexact Hc
    iexact Hs
  iintro Hfl
  iapply HK
  unfold lFl
  iapply (Transfers.Flight_mono countersEmb (thr d L) (by
    rw [hs]
    iintro ⟨Hc, Ht⟩
    isplitl [Hc]
    · iapply (Entails.of_eq (pointsTo_congr fun x hx => load_eq T X P 0 c (b % 2) ho3 ho2 f x hx)) $$ Hc
    · iexact Ht)) $$ Hfl

theorem lwait_wp (b c : ℕ) (o3) (ho3) (o2) (ho2) (o1) (ho1) (h1 h2) (e1 : o1 = ![b % 2])
    (O : CellTallies nD τ sig (HIx 1)) (W : Waits sig (HIx 1)) {α : Type} (kk : PUnit → Prog (Eff F L) α) (Q : α → sProp 𝕄) :
    iprop(lFl d L T X P b c ∗ owes (thr d L) O W ∗ Transfers.MayWaits (thr d L) (default : HIx 1) O)
      ⊢ iprop((slotPts d L (b % 2) (cont T X P 0 c 0) ∗ tabPts d L (32 * c) (32 * c + 32) T ∗ semVal (thr d L, sI b) 0
            ∗ owes (thr d L) O (insert (sI b, (default : HIx 1)) W)
          -∗ wp frame (wpE (defs₀ (F := F)) 𝒱₀ (thr d L) none) Set.univ (kk ⟨⟩) Q)
        -∗ wp frame (wpE (defs₀ (F := F)) 𝒱₀ (thr d L) none) Set.univ
          (Prog.lift (.waitDma2 (semI o1 ho1) (tabC o2 ho2) (slotM o3 ho3) h1 h2) >>= kk) Q) := by
  subst e1
  unfold lFl
  iintro ⟨Hfl, HO, Hmw⟩ HK
  iapply (Transfers.wp_waitLocalO countersEmb 𝒱₀ (thr d L) none (default : HIx 1) (dstw := slotM o3 ho3) (N := NI) rfl) $$ [Hfl HO Hmw]
  · isplitl [Hfl]; · iexact Hfl
    isplitl [HO]; · iexact HO
    iapply (Transfers.MayWaits.elim (sI b)) $$ Hmw
  iintro ⟨⟨Hc, Ht⟩, Hs, HO⟩
  iapply HK
  isplitl [Hc]; · iexact Hc
  isplitl [Ht]; · iexact Ht
  isplitl [Hs]; · iexact Hs
  iexact HO

theorem store_wp (b c : ℕ) (o3) (ho3) (o2) (ho2) (o1) (ho1) (h1 h2 h3) (e3 : o3 = ![b % 2, 0, 0]) (e2 : o2 = ![32 * c, 0]) (e1 : o1 = ![b % 2])
    (R : S100000x1024.Idx → Elt F .f32) {α : Type} (kk : PUnit → Prog (Eff F L) α) (Q : α → sProp 𝕄) :
    iprop(slotPts d L (b % 2) (cont T X P (st S c) c (st S (c + 1) - st S c)) ∗ resPts d L (32 * c) (32 * c + 32) R ∗ semVal (thr d L, sO b) 0)
      ⊢ iprop((sFl d L T X P S b c -∗ wp frame (wpE (defs₀ (F := F)) 𝒱₀ (thr d L) none) Set.univ (kk ⟨⟩) Q)
        -∗ wp frame (wpE (defs₀ (F := F)) 𝒱₀ (thr d L) none) Set.univ
          (Prog.lift (.enqueueDma (slotM o3 ho3) (.here (resC o2 ho2)) (.dma (semO o1 ho1)) h1 h2 h3) >>= kk) Q) := by
  subst e3 e2 e1
  have hs := slot_set (b % 2) ho3
  have hr : (resC ![32 * c, 0] ho2).view.set = rowsIn (32 * c) (32 * c + 32) := rows_set (32 * c) ho2
  iintro ⟨Hc, Ht, Hs⟩ HK
  iapply (Transfers.wp_dmaLocal countersEmb 𝒱₀ (thr d L) none (src := slotM ![b % 2, 0, 0] ho3) (dst := resC ![32 * c, 0] ho2) (sm := sO b)
    (default : HIx 1) NO rfl NO_pos hr.subset) $$ [Hc Ht Hs]
  · isplitl [Hc]
    · iapply (Entails.of_eq (show slotPts d L (b % 2) (cont T X P (st S c) c (st S (c + 1) - st S c)) = ((slotM ![b % 2, 0, 0] ho3).view.loc (thr d L) ↦[(slotM ![b % 2, 0, 0] ho3).view.set]{fullShare} (cont T X P (st S c) c (st S (c + 1) - st S c)) : sProp 𝕄) by rw [hs])) $$ Hc
    isplitl [Ht]; · iexact Ht
    iexact Hs
  iintro Hfl
  iapply HK
  unfold sFl
  iapply (Transfers.Flight_mono countersEmb (thr d L) (by
    rw [hs]
    iintro ⟨Ht, Hc⟩
    isplitl [Ht]
    · iapply (Entails.of_eq (pointsTo_congr fun x hx => store_eq T X P S c (b % 2) ho3 ho2 R x hx)) $$ Ht
    · iexists _; iexact Hc)) $$ Hfl

theorem swait_wp (b c : ℕ) (o3) (ho3) (o2) (ho2) (o1) (ho1) (h1 h2) (e1 : o1 = ![b % 2])
    (O : CellTallies nD τ sig (HIx 1)) (W : Waits sig (HIx 1)) {α : Type} (kk : PUnit → Prog (Eff F L) α) (Q : α → sProp 𝕄) :
    iprop(sFl d L T X P S b c ∗ owes (thr d L) O W ∗ Transfers.MayWaits (thr d L) (default : HIx 1) O)
      ⊢ iprop((resPts d L (32 * c) (32 * c + 32) (GR T X P S) ∗ (∃ f, slotPts d L (b % 2) f) ∗ semVal (thr d L, sO b) 0
            ∗ owes (thr d L) O (insert (sO b, (default : HIx 1)) W)
          -∗ wp frame (wpE (defs₀ (F := F)) 𝒱₀ (thr d L) none) Set.univ (kk ⟨⟩) Q)
        -∗ wp frame (wpE (defs₀ (F := F)) 𝒱₀ (thr d L) none) Set.univ
          (Prog.lift (.waitDma2 (semO o1 ho1) (slotM o3 ho3) (resC o2 ho2) h1 h2) >>= kk) Q) := by
  subst e1
  unfold sFl
  iintro ⟨Hfl, HO, Hmw⟩ HK
  iapply (Transfers.wp_waitLocalO countersEmb 𝒱₀ (thr d L) none (default : HIx 1) (dstw := resC o2 ho2) (N := NO) rfl) $$ [Hfl HO Hmw]
  · isplitl [Hfl]; · iexact Hfl
    isplitl [HO]; · iexact HO
    iapply (Transfers.MayWaits.elim (sO b)) $$ Hmw
  iintro ⟨⟨Ht, Hc⟩, Hs, HO⟩
  iapply HK
  isplitl [Ht]; · iexact Ht
  isplitl [Hc]; · iexact Hc
  isplitl [Hs]; · iexact Hs
  iexact HO

end Cert.Proof.Scatter

end
-- ==== Proof.Head.lean ====
/-
  What a chunk's work begins with.
-/
module

public import proofs.«01_k».proof.Proof.Copies

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Word `c` of the chunks' beginnings as the scratch holds them. -/
def svW (sV : S3141.Idx → Elt F .i32) (c : ℕ) : BitVec 32 := sV (ix1 (⟨c % 3141, Nat.mod_lt _ (by omega)⟩ : Fin 3141))

abbrev svPts (d : Dev nD) (L : grid0.Coords) (sV : S3141.Idx → Elt F .i32) : sProp 𝕄 := sM.view.loc (thr d L) ↦{fullShare} sV

/-- The sixteen words read at a beginning. -/
abbrev ldS (sV : S3141.Idx → Elt F .i32) (o : Fin 1 → ℕ) (ho : ∀ a, o a + S16.size a ≤ S3141.size a) : Vec F S16 .i32 :=
  (sM.access (Rect.unit (s := S3141) o S16.size ho)).read (Elt F) sV

theorem ldS_eq (sV : S3141.Idx → Elt F .i32) (e : ℕ) (o : Fin 1 → ℕ) (ho : ∀ a, o a + S16.size a ≤ S3141.size a) (hoe : o = ![e]) (r : Fin 16) :
    ldS sV o ho (ix1 r) = svW sV (e + r.val) := by
  subst hoe
  have he : e + 16 ≤ 3141 := ho 0
  rw [ldS, View.read_apply, cast_eq]
  show sV _ = sV _
  congr 1
  funext a; fin_cases a
  apply Fin.ext
  show e + 1 * r.val = (e + r.val) % 3141
  omega

theorem and15 (w : BitVec 32) : w &&& 15#32 = BitVec.ofNat 32 (w.toNat % 16) := by
  apply BitVec.eq_of_toNat_eq
  have h : w.toNat &&& 15 = w.toNat % 16 := Nat.and_two_pow_sub_one_eq_mod w.toNat 4
  rw [BitVec.toNat_and, BitVec.toNat_ofNat]
  show w.toNat &&& 15 = _
  rw [h, BitVec.toNat_ofNat]
  omega

theorem v73_toNat (i : grid0.Coords) (k : Fin (k0_t1_loop i).trips) (v19 : BitVec 32) (h19 : v19.toNat = cLo i) :
    (Scalar.addi v19 (Scf.iv 0#32 1#32 k.val)).toNat = cLo i + k.val := by
  have hk : k.val < nck i := lt_of_lt_of_eq k.isLt (t1_trips i)
  have := chunks_le i
  show (v19 + Scf.iv 0#32 1#32 k.val).toNat = _
  rw [iv_eq, BitVec.toNat_add, BitVec.toNat_ofNat, h19]
  omega

/-- The two words picked out of the beginnings. -/
theorem lo_eq (i : grid0.Coords) (k : Fin (k0_t1_loop i).trips) (v19 : BitVec 32) (h19 : v19.toNat = cLo i) (sV : S3141.Idx → Elt F .i32) :
    extractAt ![15] (k0_pay347 (F := F) i v19 laneV 0#32 1#32 k (ldS sV (k0_off8 i k) (k0_off8_inb i k))) inpos_S16_p15 = svW sV (cLo i + k.val) := by
  have h := v73_toNat i k v19 h19
  refine (pick _ (⟨(cLo i + k.val) % 16, Nat.mod_lt _ (by omega)⟩ : Fin 16) _ ?_).trans ?_
  · rw [show Scalar.andi (Scalar.addi v19 (Scf.iv 0#32 1#32 k.val)) 15#32 = (Scalar.addi v19 (Scf.iv 0#32 1#32 k.val)) &&& 15#32 from rfl, and15, h]
  · rw [ldS_eq sV _ _ _ (off8_eq i k)]
    congr 1
    show (cLo i + k.val) / 16 * 16 + (cLo i + k.val) % 16 = _
    omega

theorem hi_eq (i : grid0.Coords) (k : Fin (k0_t1_loop i).trips) (v19 : BitVec 32) (h19 : v19.toNat = cLo i) (sV : S3141.Idx → Elt F .i32) :
    extractAt ![15] (k0_pay348 (F := F) i v19 laneV 0#32 1#32 k (ldS sV (k0_off9 i k) (k0_off9_inb i k))) inpos_S16_p15 = svW sV (cLo i + k.val + 1) := by
  have h := v73_toNat i k v19 h19
  have hk : k.val < nck i := lt_of_lt_of_eq k.isLt (t1_trips i)
  have hc := chunks_le i
  have h' : (Scalar.addi (Scalar.addi v19 (Scf.iv 0#32 1#32 k.val)) 1#32).toNat = cLo i + k.val + 1 := by
    show (Scalar.addi v19 (Scf.iv 0#32 1#32 k.val) + 1#32).toNat = _
    rw [BitVec.toNat_add, h, BitVec.toNat_ofNat]
    omega
  refine (pick _ (⟨(cLo i + k.val + 1) % 16, Nat.mod_lt _ (by omega)⟩ : Fin 16) _ ?_).trans ?_
  · rw [show Scalar.andi (Scalar.addi (Scalar.addi v19 (Scf.iv 0#32 1#32 k.val)) 1#32) 15#32
      = (Scalar.addi (Scalar.addi v19 (Scf.iv 0#32 1#32 k.val)) 1#32) &&& 15#32 from rfl, and15, h']
  · rw [ldS_eq sV _ _ _ (off9_eq i k)]
    congr 1
    show (cLo i + k.val + 1) / 16 * 16 + (cLo i + k.val + 1) % 16 = _
    omega

/-- What the first part of a chunk's work gives on. -/
abbrev Head : Type := Σ' (_ : BitVec 32) (_ : BitVec 32) (_ : BitVec 32) (v89 : BitVec 32) (_ : k0_chk1 v89) (v102 : BitVec 32) (_ : k0_chk2 v89 v102)
  (_ : BitVec 32) (_ : BitVec 32) (_ : BitVec 32) (_ : BitVec 32) (_ : BitVec 32), BitVec 32

/-- What the count of batches is worked out from. -/
abbrev xW (v89 v102 : BitVec 32) : BitVec 32 := Scalar.subi (Scalar.addi (Scalar.subi v102 v89) 16#32) 1#32

/-- Two words of the beginnings are read and looked at. -/
def tailG {β : Type} (i : grid0.Coords) (o o' : Fin 1 → ℕ) (ho : ∀ a, o a + S16.size a ≤ S3141.size a) (ho' : ∀ a, o' a + S16.size a ≤ S3141.size a)
    (f g : Vec F S16 .i32 → BitVec 32) (ret : ∀ v89 : BitVec 32, k0_chk1 v89 → ∀ v102 : BitVec 32, k0_chk2 v89 v102 → β) : Prog (Eff F i) β := do
  let v81 : Vec F S16 .i32 ← Prog.lift (.load sM (Rect.unit (s := S3141) o S16.size ho).toLoadRect (View.loadsAt_vmem h_S16))
  let v89 : BitVec 32 := f v81
  have hw1 : k0_chk1 v89 := (← Prog.lift (TpuEff.assume (k0_chk1 v89) (k0_chk1.dec v89))).down
  let v94 : Vec F S16 .i32 ← Prog.lift (.load sM (Rect.unit (s := S3141) o' S16.size ho').toLoadRect (View.loadsAt_vmem h_S16))
  let v102 : BitVec 32 := g v94
  have hw2 : k0_chk2 v89 v102 := (← Prog.lift (TpuEff.assume (k0_chk2 v89 v102) (k0_chk2.dec v89 v102))).down
  pure (ret v89 hw1 v102 hw2)

/-- The words a chunk's work begins from. -/
abbrev loW (i : grid0.Coords) (v19 : BitVec 32) (k : Fin (k0_t1_loop i).trips) (v81 : Vec F S16 .i32) : BitVec 32 :=
  extractAt ![15] (k0_pay347 (F := F) i v19 laneV 0#32 1#32 k v81) inpos_S16_p15
abbrev hiW (i : grid0.Coords) (v19 : BitVec 32) (k : Fin (k0_t1_loop i).trips) (v94 : Vec F S16 .i32) : BitVec 32 :=
  extractAt ![15] (k0_pay348 (F := F) i v19 laneV 0#32 1#32 k v94) inpos_S16_p15

/-- What it gives on. -/
abbrev tailRet (i : grid0.Coords) (v19 : BitVec 32) (k : Fin (k0_t1_loop i).trips) : ∀ v89 : BitVec 32, k0_chk1 v89 → ∀ v102 : BitVec 32, k0_chk2 v89 v102 → Head :=
  fun v89 hw1 v102 hw2 => ⟨Scf.iv 0#32 1#32 k.val, Scalar.andi (Scf.iv 0#32 1#32 k.val) 1#32, Scalar.addi v19 (Scf.iv 0#32 1#32 k.val), v89, hw1, v102, hw2,
      Scalar.subi v102 v89, xW v89 v102, 16#32, Scalar.divsi (xW v89 v102) 16#32, Scalar.extui (Scalar.cmpi .sgt (xW v89 v102) 0#32), 0#32⟩

/-- The part that reads where the chunk's entries begin and end. -/
def tailP (i : grid0.Coords) (v19 : BitVec 32) (k : Fin (k0_t1_loop i).trips) : Prog (Eff F i) Head :=
  tailG i (k0_off8 i k) (k0_off9 i k) (k0_off8_inb i k) (k0_off9_inb i k) (loW i v19 k) (hiW i v19 k)
    (tailRet i v19 k)

/-- The chunk two before is waited for. -/
abbrev prevP (i : grid0.Coords) (k : Fin (k0_t1_loop i).trips) (h1 : k0_cond1 i k = 1#1) (h2 : k0_cond2 i k = 1#1) : Prog (Eff F i) PUnit :=
  Prog.lift (.waitDma2 (semO (k0_off4 i k) (k0_off4_inb i k h1 h2)) (slotM (k0_off2 i k) (k0_off2_inb i k h1 h2)) (resC (k0_off3 i k) (k0_off3_inb i k h1 h2))
    ((View.wordExact_bits rfl).reshape _ _) (View.wordExact_bits rfl))

/-- The next chunk's load is set going. -/
abbrev nextP (i : grid0.Coords) (k : Fin (k0_t1_loop i).trips) (h1 : k0_cond1 i k = 1#1) : Prog (Eff F i) PUnit :=
  Prog.lift (.enqueueDma (tabC (k0_off6 i k) (k0_off6_inb i k h1)) (.here (slotM (k0_off5 i k) (k0_off5_inb i k h1))) (.dma (semI (k0_off7 i k) (k0_off7_inb i k h1)))
    (View.wordExact_bits rfl) ((View.wordExact_bits rfl).reshape _ _) ⟨Or.inl rfl, trivial⟩)

set_option maxHeartbeats 4000000 in
theorem part105_mid (i : grid0.Coords) (v19 v39 : BitVec 32) (k : Fin (k0_t1_loop i).trips) (h1 : k0_cond1 i k = 1#1) (h2 : k0_cond2 i k = 1#1) :
    part105' (F := F) i v19 v39 laneV 0#32 1#32 k = (prevP i k h1 h2 >>= fun _ => nextP i k h1 >>= fun _ => tailP i v19 k) := by
  unfold part105' k0_part105_skel
  rw [dif_pos h1, dif_pos h2]
  rfl

set_option maxHeartbeats 4000000 in
theorem part105_first (i : grid0.Coords) (v19 v39 : BitVec 32) (k : Fin (k0_t1_loop i).trips) (h1 : k0_cond1 i k = 1#1) (h2 : ¬ k0_cond2 i k = 1#1) :
    part105' (F := F) i v19 v39 laneV 0#32 1#32 k = (nextP i k h1 >>= fun _ => tailP i v19 k) := by
  unfold part105' k0_part105_skel
  rw [dif_pos h1, dif_neg h2]
  rfl

set_option maxHeartbeats 4000000 in
theorem part105_last (i : grid0.Coords) (v19 v39 : BitVec 32) (k : Fin (k0_t1_loop i).trips) (h1 : ¬ k0_cond1 i k = 1#1) :
    part105' (F := F) i v19 v39 laneV 0#32 1#32 k = tailP i v19 k := by
  unfold part105' k0_part105_skel
  rw [dif_neg h1]
  rfl

/-- What is known of the lists the scratches hold. -/
structure Lists (P : S16384.Idx → Elt F .i32) (S : S3126.Idx → Elt F .i32) (pV : S16400.Idx → Elt F .i32) (sV : S3141.Idx → Elt F .i32) : Prop where
  hP : ∀ e < 16384, (pvW pV e).toNat = pk P e
  hS : ∀ c ≤ 3125, (svW sV c).toNat = st S c
  good : Good P S

theorem tailG_wp {β : Type} (d : Dev nD) (i : grid0.Coords) (o o' : Fin 1 → ℕ) (ho : ∀ a, o a + S16.size a ≤ S3141.size a)
    (ho' : ∀ a, o' a + S16.size a ≤ S3141.size a) (sV : S3141.Idx → Elt F .i32)
    (f g : Vec F S16 .i32 → BitVec 32) (ret : ∀ v89 : BitVec 32, k0_chk1 v89 → ∀ v102 : BitVec 32, k0_chk2 v89 v102 → β)
    (hw1 : k0_chk1 (f (ldS sV o ho))) (hw2 : k0_chk2 (f (ldS sV o ho)) (g (ldS sV o' ho'))) (Q : β → sProp 𝕄) :
    svPts d i sV ⊢ iprop((svPts d i sV -∗ Q (ret _ hw1 _ hw2))
      -∗ wp frame (wpE (defs₀ (F := F)) 𝒱₀ (thr d i) none) Set.univ (tailG i o o' ho ho' f g ret) Q) := by
  unfold tailG
  iintro Hs HK
  iapply (wp_load_rect 𝒱₀ (thr d i) none Set.univ (m := sM) (r := Rect.unit (s := S3141) _ S16.size ho) (Finset.subset_univ _)) $$ Hs
  iintro Hs
  iapply (wp_assume 𝒱₀ (thr d i) none Set.univ hw1)
  iapply (wp_load_rect 𝒱₀ (thr d i) none Set.univ (m := sM) (r := Rect.unit (s := S3141) _ S16.size ho') (Finset.subset_univ _)) $$ Hs
  iintro Hs
  iapply (wp_assume 𝒱₀ (thr d i) none Set.univ hw2)
  iapply (Entails.of_eq (wp_pure _ _ _ _ _).symm)
  imodintro
  iapply HK
  iexact Hs

theorem rng_of {a b : BitVec 32} {x y m : ℕ} (h1 : a.toNat = x) (h2 : b.toNat = y) (h : x ≤ y) (hy : y ≤ 16384) (hm : m = y - x) : Rng a b x m :=
  ⟨h1, by omega, by omega⟩

theorem head_rng (i : grid0.Coords) (k : Fin (k0_t1_loop i).trips) (v19 : BitVec 32) (h19 : v19.toNat = cLo i)
    {P : S16384.Idx → Elt F .i32} {S : S3126.Idx → Elt F .i32} {pV : S16400.Idx → Elt F .i32} {sV : S3141.Idx → Elt F .i32} (hL : Lists P S pV sV) :
    Rng (loW i v19 k (ldS sV (k0_off8 i k) (k0_off8_inb i k))) (hiW i v19 k (ldS sV (k0_off9 i k) (k0_off9_inb i k)))
      (st S (cLo i + k.val)) (st S (cLo i + k.val + 1) - st S (cLo i + k.val)) := by
  have hk : k.val < nck i := lt_of_lt_of_eq k.isLt (t1_trips i)
  have hc := chunks_le i
  have hg := hL.good (cLo i + k.val) (by omega)
  have e1 := hL.hS (cLo i + k.val) (by omega)
  have e2 := hL.hS (cLo i + k.val + 1) (by omega)
  rw [← lo_eq i k v19 h19 sV] at e1
  rw [← hi_eq i k v19 h19 sV] at e2
  exact rng_of e1 e2 hg.1 hg.2.1 rfl

theorem tail_wp (d : Dev nD) (i : grid0.Coords) (k : Fin (k0_t1_loop i).trips) (v19 : BitVec 32) (h19 : v19.toNat = cLo i)
    {P : S16384.Idx → Elt F .i32} {S : S3126.Idx → Elt F .i32} {pV : S16400.Idx → Elt F .i32} {sV : S3141.Idx → Elt F .i32} (hL : Lists P S pV sV) (Q : Head → sProp 𝕄) :
    ∃ (v89 v102 : BitVec 32) (hw1 : k0_chk1 v89) (hw2 : k0_chk2 v89 v102),
      Rng v89 v102 (st S (cLo i + k.val)) (st S (cLo i + k.val + 1) - st S (cLo i + k.val)) ∧
      (svPts d i sV ⊢ iprop((svPts d i sV -∗ Q (tailRet i v19 k v89 hw1 v102 hw2))
        -∗ wp frame (wpE (defs₀ (F := F)) 𝒱₀ (thr d i) none) Set.univ (tailP i v19 k) Q)) :=
  have hR := head_rng i k v19 h19 hL
  ⟨_, _, hR.chk1, hR.chk2, hR, tailG_wp d i (k0_off8 i k) (k0_off9 i k) (k0_off8_inb i k) (k0_off9_inb i k) sV (loW i v19 k) (hiW i v19 k) (tailRet i v19 k) hR.chk1 hR.chk2 Q⟩

end Cert.Proof.Scatter

end
-- ==== Proof.Work.lean ====
/-
  The batches of a chunk.
-/
module

public import proofs.«01_k».proof.Proof.Head

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Whether a chunk has entries, as the program asks it. -/
def anyW (v103 : BitVec 32) : BitVec 1 := Scalar.cmpi .ne (Scalar.extui (Scalar.cmpi .sgt v103 0#32) : BitVec 32) 0#32

theorem Rng.any_iff {v89 v102 : BitVec 32} {e₀ n : ℕ} (h : Rng v89 v102 e₀ n) : anyW (Scalar.subi v102 v89) = 1#1 ↔ 0 < n := by
  have := h.le
  have e : (Scalar.subi v102 v89).toNat = n := by
    show (v102 - v89).toNat = n
    rw [BitVec.toNat_sub, h.lo, h.hi]
    omega
  have := cmpi_slt_iff 0#32 (Scalar.subi v102 v89) (by decide) (by omega)
  rw [e] at this
  exact this

/-- The gather at rest. -/
abbrev gRest (d : Dev nD) (L : grid0.Coords) (q : PosShare TreeShare) (X : S131072x128.Idx → Elt F .f32) : sProp 𝕄 :=
  iprop(∃ g f, stgPts d L g ∗ xPts d L q X ∗ jbPts d L f ∗ semVal (thr d L, SemLoc.dma cc0_scratch7.sem) 0)

theorem gState_done (d : Dev nD) (L : grid0.Coords) (q : PosShare TreeShare) (X : S131072x128.Idx → Elt F .f32) (pV : S16400.Idx → Elt F .i32) (e₀ n b : ℕ)
    (h : ¬ b < (n + 15) / 16) : gState d L q X pV e₀ n b = gRest d L q X := if_neg h

theorem gState_on (d : Dev nD) (L : grid0.Coords) (q : PosShare TreeShare) (X : S131072x128.Idx → Elt F .f32) (pV : S16400.Idx → Elt F .i32) (e₀ n b : ℕ)
    (h : b < (n + 15) / 16) : gState d L q X pV e₀ n b = iprop(∃ f, gFlight d L q X pV (e₀ + 16 * b) f) := if_pos h

section

variable (d : Dev nD) (i : grid0.Coords) (k : Fin (k0_t1_loop i).trips) {v89 v102 : BitVec 32} {e₀ n c : ℕ}
  (O : CellTallies nD τ sig (HIx 1)) (W : Waits sig (HIx 1)) (q : PosShare TreeShare)
  (T : S100000x1024.Idx → Elt F .f32) (X : S131072x128.Idx → Elt F .f32) (P : S16384.Idx → Elt F .i32) (pV : S16400.Idx → Elt F .i32)

/-- The load is waited for. -/
abbrev loadedP : Prog (Eff F i) PUnit :=
  Prog.lift (.waitDma2 (semI (k0_off13 i k) (k0_off13_inb i k)) (tabC (k0_off12 i k) (k0_off12_inb i k)) (slotM (k0_off11 i k) (k0_off11_inb i k))
    (View.wordExact_bits rfl) ((View.wordExact_bits rfl).reshape _ _))

/-- The batches of a chunk. -/
abbrev batchesP (v19 v15 v72 v73 v89 v102 : BitVec 32) (hw2 : k0_chk2 v89 v102) (v103 v122 : BitVec 32) (v187 : Vec F S16 .i32) (v188 : IVec S16 32) (w : BitVec 32) :
    Prog (Eff F i) PUnit :=
  loadedP i k >>= fun _ =>
  Scf.Loop.for (k0_t2_loop v89 v102) (k0_t2_ok v89 v102 hw2) ⟨⟩ (batch' (F := F) i v19 laneV k v15 v72 v73 v89 v102 hw2 v103 v122 v187 v188) >>= fun _ =>
  Scf.Loop.for (k0_t19_loop v89 v102) (k0_t19_ok v89 v102 hw2) ⟨⟩ (rest' (F := F) i v19 laneV k v15 v72 v73 v89 v102 hw2 v103 v122 v187 v188 w) >>= fun _ =>
  pure ⟨⟩

set_option maxHeartbeats 4000000 in
theorem part108_eq (v19 v15 v72 v73 : BitVec 32) (hw2 : k0_chk2 v89 v102) (v103 v122 : BitVec 32) (v187 : Vec F S16 .i32) :
    ∃ w, part108' (F := F) i v19 laneV k v15 v72 v73 v89 v102 hw2 v103 v122 v187 (k0_pay356)
      = (do
        let _ : Vec F S16 .i32 ← Prog.lift (.load jM (Rect.unit (s := S128) ![16 * (7 : Fin 8).val] S16.size (jInb 7)).toLoadRect (View.loadsAt_vmem h_S16))
        Prog.lift (.store jM (Rect.unit (s := S128) ![16 * (7 : Fin 8).val] S16.size (jInb 7)) (payW v187 (BitVec.ofNat 32 (7 : Fin 8).val)) Finset.univ (View.stores_vmem_bits_univ h_S16 rfl) (.inl rfl))
        if anyW v103 = 1#1 then gatherP i else pure ⟨⟩
        batchesP i k v19 v15 v72 v73 v89 v102 hw2 v103 v122 v187 k0_pay356 w) := ⟨_, rfl⟩

theorem batches_wp (hR : Rng v89 v102 e₀ n) (hc : c < 3125) (v19 v15 v72 v73 : BitVec 32) (h73 : v73.toNat = c) (hw2 : k0_chk2 v89 v102) (v103 v122 : BitVec 32)
    (v187 : Vec F S16 .i32) (v188 : IVec S16 32) (w : BitVec 32) (hO : ∀ g, O g none = 0)
    (hP : ∀ e < 16384, (pvW pV e).toNat = pk P e) (hgood : ∀ e, e₀ ≤ e → e < e₀ + n → pk P e / 16384 / 32 = c) (Q : PUnit → sProp 𝕄) :
    iprop(levAts (K (F := F)).L (K (F := F)).lev ∗ lFl d i T X P k.val c ∗ pvPts d i pV ∗ gState d i q X pV e₀ n 0 ∗ owed d i O W)
      ⊢ iprop((slotPts d i (k.val % 2) (cont T X P e₀ c n) ∗ tabPts d i (32 * c) (32 * c + 32) T ∗ semVal (thr d i, sI k.val) 0
            ∗ pvPts d i pV ∗ gRest d i q X ∗ owed d i O W -∗ Q ⟨⟩)
        -∗ wp frame (wpE (defs₀ (F := F)) 𝒱₀ (thr d i) none) Set.univ
          (batchesP i k v19 v15 v72 v73 v89 v102 hw2 v103 v122 v187 v188 w) Q) := by
  have h2 := hR.t2_trips
  have h19 := hR.t19_trips
  iintro ⟨#Hlv, Hfl, Hp, Hg, ⟨%W', %hW', HO⟩⟩ HK
  ihave Hmw := (mayW d i hO) $$ Hlv
  iapply (lwait_wp d i T X P k.val c _ _ _ _ _ _ _ _ (off13_eq i k) O W') $$ [Hfl HO Hmw]
  · isplitl [Hfl]; · iexact Hfl
    isplitl [HO]; · iexact HO
    iexact Hmw
  iintro ⟨Hc, Ht, Hs, HO⟩
  iapply (Scf.wp_for_bind frame (wpE (defs₀ (F := F)) 𝒱₀ (thr d i) none) Set.univ (k0_t2_loop v89 v102).lb (k0_t2_loop v89 v102).ub (k0_t2_loop v89 v102).st
    (k0_t2_ok v89 v102 hw2) ⟨⟩ (batch' (F := F) i v19 laneV k v15 v72 v73 v89 v102 hw2 v103 v122 v187 v188)
    (fun b _ => batchI d i O W q T X P pV (k.val % 2) e₀ c n b)
    (fun b _ => batch_wp d i k hR hc v19 v15 v72 v73 h73 hw2 v103 v122 v187 v188 b O W hO q T X P pV hP hgood)) $$ [Hc Hp Hg HO]
  · unfold batchI
    isplitr; · iexact Hlv
    isplitl [Hc]
    · rw [Nat.mul_zero, Nat.zero_min]
      iexact Hc
    isplitl [Hp]; · iexact Hp
    isplitl [Hg]; · iexact Hg
    iexists (insert (sI k.val, (default : HIx 1)) W')
    isplitr; · ipureintro; exact insert_owed hW' _
    iexact HO
  iintro %acc
  rw [show Scf.trips (k0_t2_loop v89 v102).lb (k0_t2_loop v89 v102).ub (k0_t2_loop v89 v102).st = (n + 15) / 16 from h2]
  unfold batchI
  rw [gState_done d i q X pV e₀ n ((n + 15) / 16) (by omega), show min (16 * ((n + 15) / 16)) n = n by omega]
  iintro ⟨-, Hc, Hp, Hg, HO⟩
  iapply (Scf.wp_for_bind frame (wpE (defs₀ (F := F)) 𝒱₀ (thr d i) none) Set.univ (k0_t19_loop v89 v102).lb (k0_t19_loop v89 v102).ub (k0_t19_loop v89 v102).st
    (k0_t19_ok v89 v102 hw2) ⟨⟩ (rest' (F := F) i v19 laneV k v15 v72 v73 v89 v102 hw2 v103 v122 v187 v188 w)
    (fun _ _ => iprop(emp)) (fun b _ => absurd (lt_of_lt_of_eq b.isLt h19) (by omega))) $$ []
  · iempintro
  iintro %acc -
  rw [wp_pure]
  imodintro
  iapply HK
  isplitl [Hc]; · iexact Hc
  isplitl [Ht]; · iexact Ht
  isplitl [Hs]; · iexact Hs
  isplitl [Hp]; · iexact Hp
  isplitl [Hg]; · iexact Hg
  iexact HO

theorem jb_last (f : S128.Idx → Elt F .i32) (o : Fin 1 → ℕ) (ho : ∀ a, o a + S16.size a ≤ S16400.size a) (hoe : o = ![e₀]) :
    (jM.access (Rect.unit (s := S128) ![16 * (7 : Fin 8).val] S16.size (jInb 7))).write (Elt F) (jbf pV e₀ f 7)
        (payW (ldP pV o ho) (BitVec.ofNat 32 (7 : Fin 8).val)) Finset.univ
      = jbf pV e₀ f 8 := by
  subst hoe
  exact jb_write pV e₀ f 7 ho

/-- The last of the gather's list is written, the gather set going if the chunk has entries, and the chunk's batches done. -/
theorem part108_wp (hR : Rng v89 v102 e₀ n) (hc : c < 3125) (v19 v15 v72 v73 : BitVec 32) (h73 : v73.toNat = c) (hw1 : k0_chk1 v89) (hw2 : k0_chk2 v89 v102) (v122 : BitVec 32)
    (hO : ∀ g, O g none = 0) (hP : ∀ e < 16384, (pvW pV e).toNat = pk P e) (hgood : ∀ e, e₀ ≤ e → e < e₀ + n → pk P e / 16384 / 32 = c)
    (f : S128.Idx → Elt F .i32) (g : S128x128.Idx → Elt F .f32) (Q : PUnit → sProp 𝕄) :
    iprop(levAts (K (F := F)).L (K (F := F)).lev ∗ lFl d i T X P k.val c ∗ pvPts d i pV
        ∗ (stgPts d i g ∗ xPts d i q X ∗ jbPts d i (jbf pV e₀ f 7) ∗ semVal (thr d i, SemLoc.dma cc0_scratch7.sem) 0) ∗ owed d i O W)
      ⊢ iprop((slotPts d i (k.val % 2) (cont T X P e₀ c n) ∗ tabPts d i (32 * c) (32 * c + 32) T ∗ semVal (thr d i, sI k.val) 0
            ∗ pvPts d i pV ∗ gRest d i q X ∗ owed d i O W -∗ Q ⟨⟩)
        -∗ wp frame (wpE (defs₀ (F := F)) 𝒱₀ (thr d i) none) Set.univ
          (part108' (F := F) i v19 laneV k v15 v72 v73 v89 v102 hw2 (Scalar.subi v102 v89) v122 (ldP pV (k0_off10 v89) (k0_off10_inb v89 hw1)) k0_pay356) Q) := by
  have ho : k0_off10 v89 = ![e₀] := by rw [off10_eq, hR.lo]
  obtain ⟨w, hw⟩ := part108_eq (F := F) i k v19 v15 v72 v73 hw2 (Scalar.subi v102 v89) v122 (ldP pV (k0_off10 v89) (k0_off10_inb v89 hw1))
  have hjb := jb_last pV f (k0_off10 v89) (k0_off10_inb v89 hw1) ho
  rw [hw]
  iintro ⟨#Hlv, Hfl, Hp, ⟨Hg, Hx, Hj, Hs⟩, HO⟩ HK
  iapply (wp_load_rect 𝒱₀ (thr d i) none Set.univ (m := jM) (r := Rect.unit (s := S128) _ S16.size (jInb 7)) (Finset.subset_univ _)) $$ Hj
  iintro Hj
  iapply (wp_store 𝒱₀ (thr d i) none Set.univ (m := jM) (Mk := Finset.univ) (Finset.subset_univ _)) $$ Hj
  iintro Hj
  by_cases hn : 0 < n
  · rw [if_pos (hR.any_iff.mpr hn)]
    iapply (gather_wp d i q X pV e₀ f g) $$ [Hx Hg Hj Hs]
    · isplitl [Hx]; · iexact Hx
      isplitl [Hg]; · iexact Hg
      isplitl [Hj]; · rw [← hjb]; iexact Hj
      iexact Hs
    iintro Hgf
    iapply (batches_wp d i k O W q T X P pV hR hc v19 v15 v72 v73 h73 hw2 (Scalar.subi v102 v89) v122 _ k0_pay356 w hO hP hgood Q) $$ [Hfl Hp Hgf HO]
    · isplitr; · iexact Hlv
      isplitl [Hfl]; · iexact Hfl
      isplitl [Hp]; · iexact Hp
      isplitl [Hgf]
      · rw [gState_on d i q X pV e₀ n 0 (by omega)]
        iexists f
        iexact Hgf
      iexact HO
    iexact HK
  · rw [if_neg (fun h => hn (hR.any_iff.mp h))]
    iapply (batches_wp d i k O W q T X P pV hR hc v19 v15 v72 v73 h73 hw2 (Scalar.subi v102 v89) v122 _ k0_pay356 w hO hP hgood Q) $$ [Hfl Hp Hg Hx Hj Hs HO]
    · isplitr; · iexact Hlv
      isplitl [Hfl]; · iexact Hfl
      isplitl [Hp]; · iexact Hp
      isplitl [Hg Hx Hj Hs]
      · rw [gState_done d i q X pV e₀ n 0 (by omega)]
        iexists g, (jbf pV e₀ f 8)
        isplitl [Hg]; · iexact Hg
        isplitl [Hx]; · iexact Hx
        isplitl [Hj]; · rw [← hjb]; iexact Hj
        iexact Hs
      iexact HO
    iexact HK

end

end Cert.Proof.Scatter

end
-- ==== Proof.Chunk.lean ====
/-
  One chunk's work.
-/
module

public import proofs.«01_k».proof.Proof.Work

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section

variable (d : Dev nD) (i : grid0.Coords) (O : CellTallies nD τ sig (HIx 1)) (W : Waits sig (HIx 1)) (q : PosShare TreeShare)
  (T : S100000x1024.Idx → Elt F .f32) (X : S131072x128.Idx → Elt F .f32) (P : S16384.Idx → Elt F .i32) (S : S3126.Idx → Elt F .i32)
  (pV : S16400.Idx → Elt F .i32) (sV : S3141.Idx → Elt F .i32) (R : S100000x1024.Idx → Elt F .f32)

/-- Chunk `k`'s half before its work: loaded into, or, past the last chunk, still being stored. -/
def halfA (k : ℕ) : sProp 𝕄 :=
  if k < nck i then iprop(lFl d i T X P k (cLo i + k) ∗ semVal (thr d i, sO k) 0)
  else iprop(sFl d i T X P S (nck i - 2) (cLo i + (nck i - 2)) ∗ semVal (thr d i, sI (nck i)) 0)

/-- The other half: free at first, then being stored. -/
def halfB (k : ℕ) : sProp 𝕄 :=
  if k = 0 then iprop((∃ f, slotPts d i 1 f) ∗ semVal (thr d i, sO 1) 0)
  else sFl d i T X P S (k - 1) (cLo i + (k - 1))

/-- The rows of the table not yet loaded, and of the result stored. -/
abbrev toLoad (k : ℕ) : sProp 𝕄 := tabPts d i (32 * (cLo i + min k (nck i))) (32 * (cLo i + nck i)) T
abbrev stored (k : ℕ) : sProp 𝕄 := resPts d i (32 * cLo i) (32 * (cLo i + min (k - 1) (nck i - 2))) (GR T X P S)

theorem tab_eq {a a' b b' : ℕ} (ha : a = a') (hb : b = b') : tabPts d i a b T ⊢ tabPts d i a' b' T := by
  subst ha hb; exact .rfl
theorem res_eq {a a' b b' : ℕ} (ha : a = a') (hb : b = b') : resPts d i a b R ⊢ resPts d i a' b' R := by
  subst ha hb; exact .rfl

/-- The next chunk's load: its half, the chunk's rows and the counter go into the copy. -/
theorem next_wp (k : Fin (k0_t1_loop i).trips) (h1 : k0_cond1 i k = 1#1) (f : S2x32x1024.Idx → Elt F .f32) {α : Type} (kk : PUnit → Prog (Eff F i) α) (Q : α → sProp 𝕄) :
    iprop(slotPts d i ((k.val + 1) % 2) f ∗ semVal (thr d i, sI (k.val + 1)) 0 ∗ toLoad d i T (k.val + 1))
      ⊢ iprop((lFl d i T X P (k.val + 1) (cLo i + (k.val + 1)) ∗ toLoad d i T (k.val + 2)
          -∗ wp frame (wpE (defs₀ (F := F)) 𝒱₀ (thr d i) none) Set.univ (kk ⟨⟩) Q)
        -∗ wp frame (wpE (defs₀ (F := F)) 𝒱₀ (thr d i) none) Set.univ (nextP i k h1 >>= kk) Q) := by
  have hk := (cond1_iff i k).mp h1
  iintro ⟨Hc, Hs, Ht⟩ HK
  ihave Ht := (tab_eq d i T (show 32 * (cLo i + min (k.val + 1) (nck i)) = 32 * (cLo i + (k.val + 1)) by omega) rfl) $$ Ht
  ihave Ht := (tabPts_split d i (32 * (cLo i + (k.val + 1))) (32 * (cLo i + (k.val + 1)) + 32) (32 * (cLo i + nck i)) (by omega) (by omega) T).1 $$ Ht
  icases Ht with ⟨Ht, Ht'⟩
  iapply (load_wp d i T X P (k.val + 1) (cLo i + (k.val + 1)) _ _ _ _ _ _ _ _ _ (off5_eq i k) (off6_eq i k) (off7_eq i k) f) $$ [Hc Ht Hs]
  · isplitl [Hc]; · iexact Hc
    isplitl [Ht]; · iexact Ht
    iexact Hs
  iintro Hfl
  iapply HK
  isplitl [Hfl]; · iexact Hfl
  iapply (tab_eq d i T (show 32 * (cLo i + (k.val + 1)) + 32 = 32 * (cLo i + min (k.val + 2) (nck i)) by omega) rfl) $$ Ht'

theorem rot_wp (k : Fin (k0_t1_loop i).trips) (v19 v39 : BitVec 32) (hO : ∀ g, O g none = 0) (Q : Head → sProp 𝕄) :
    iprop(levAts (K (F := F)).L (K (F := F)).lev ∗ halfB d i T X P S k.val ∗ semVal (thr d i, sI (k.val + 1)) 0 ∗ toLoad d i T (k.val + 1)
        ∗ stored d i T X P S k.val ∗ owed d i O W)
      ⊢ iprop((halfA d i T X P S (k.val + 1) ∗ toLoad d i T (k.val + 2) ∗ stored d i T X P S (k.val + 1) ∗ owed d i O W
          -∗ wp frame (wpE (defs₀ (F := F)) 𝒱₀ (thr d i) none) Set.univ (tailP i v19 k) Q)
        -∗ wp frame (wpE (defs₀ (F := F)) 𝒱₀ (thr d i) none) Set.univ (part105' (F := F) i v19 v39 laneV 0#32 1#32 k) Q) := by
  have hk : k.val < nck i := lt_of_lt_of_eq k.isLt (t1_trips i)
  have hn := nck_two i
  by_cases h1 : k0_cond1 i k = 1#1
  · have hk1 := (cond1_iff i k).mp h1
    by_cases h2 : k0_cond2 i k = 1#1
    · have hk2 := (cond2_iff i k).mp h2
      rw [part105_mid i v19 v39 k h1 h2]
      unfold halfA halfB
      rw [if_pos hk1, if_neg (show ¬ k.val = 0 by omega)]
      iintro ⟨#Hlv, Hsf, Hsi, Ht, Hr, ⟨%W', %hW', HO⟩⟩ HK
      ihave Hmw := (mayW d i hO) $$ Hlv
      iapply (swait_wp d i T X P S (k.val - 1) (cLo i + (k.val - 1)) _ _ _ _ _ _ _ _
        ((off4_eq i k).trans (by rw [show (k.val + 1) % 2 = (k.val - 1) % 2 by omega])) O W') $$ [Hsf HO Hmw]
      · isplitl [Hsf]; · iexact Hsf
        isplitl [HO]; · iexact HO
        iexact Hmw
      iintro ⟨Hr', ⟨%f, Hc⟩, Hso, HO⟩
      rw [show (k.val - 1) % 2 = (k.val + 1) % 2 by omega, sO_congr (k.val - 1) (k.val + 1) (by omega)]
      iapply (next_wp d i T X P k h1 f) $$ [Hc Hsi Ht]
      · isplitl [Hc]; · iexact Hc
        isplitl [Hsi]; · iexact Hsi
        iexact Ht
      iintro ⟨Hfl, Ht⟩
      iapply HK
      isplitl [Hfl Hso]
      · isplitl [Hfl]; · iexact Hfl
        iexact Hso
      isplitl [Ht]; · iexact Ht
      isplitl [Hr Hr']
      · ihave Hr := (res_eq d i (GR T X P S) rfl (show 32 * (cLo i + min (k.val - 1) (nck i - 2)) = 32 * (cLo i + (k.val - 1)) by omega)) $$ Hr
        iapply (res_eq d i (GR T X P S) rfl (show 32 * (cLo i + (k.val - 1)) + 32 = 32 * (cLo i + min (k.val + 1 - 1) (nck i - 2)) by omega))
        iapply (resPts_split d i (32 * cLo i) (32 * (cLo i + (k.val - 1))) (32 * (cLo i + (k.val - 1)) + 32) (by omega) (by omega) (GR T X P S)).2
        isplitl [Hr]; · iexact Hr
        iexact Hr'
      iexists (insert (sO (k.val + 1), (default : HIx 1)) W')
      isplitr; · ipureintro; exact insert_owed hW' _
      iexact HO
    · have hk2 : k.val = 0 := by have := mt (cond2_iff i k).mpr h2; omega
      rw [part105_first i v19 v39 k h1 h2]
      unfold halfA halfB
      rw [if_pos hk1, if_pos hk2]
      iintro ⟨-, ⟨⟨%f, Hc⟩, Hso⟩, Hsi, Ht, Hr, HO⟩ HK
      ihave Hc := (Entails.of_eq (show (slotPts d i 1 f : sProp 𝕄) = slotPts d i ((k.val + 1) % 2) f by rw [show (k.val + 1) % 2 = 1 by omega])) $$ Hc
      ihave Hso := (Entails.of_eq (show (semVal (thr d i, sO 1) 0 : sProp 𝕄) = semVal (thr d i, sO (k.val + 1)) 0 by rw [sO_congr 1 (k.val + 1) (by omega)])) $$ Hso
      iapply (next_wp d i T X P k h1 f) $$ [Hc Hsi Ht]
      · isplitl [Hc]; · iexact Hc
        isplitl [Hsi]; · iexact Hsi
        iexact Ht
      iintro ⟨Hfl, Ht⟩
      iapply HK
      isplitl [Hfl Hso]
      · isplitl [Hfl]; · iexact Hfl
        iexact Hso
      isplitl [Ht]; · iexact Ht
      isplitl [Hr]
      · iapply (res_eq d i (GR T X P S) rfl (show 32 * (cLo i + min (k.val - 1) (nck i - 2)) = 32 * (cLo i + min (k.val + 1 - 1) (nck i - 2)) by omega)) $$ Hr
      iexact HO
  · have hk1 : k.val + 1 = nck i := by have := mt (cond1_iff i k).mpr h1; omega
    rw [part105_last i v19 v39 k h1]
    unfold halfA halfB
    rw [if_neg (show ¬ k.val + 1 < nck i by omega), if_neg (show ¬ k.val = 0 by omega), ← hk1]
    iintro ⟨-, Hsf, Hsi, Ht, Hr, HO⟩ HK
    iapply HK
    isplitl [Hsf Hsi]
    · isplitl [Hsf]; · iexact Hsf
      iexact Hsi
    isplitl [Ht]
    · iapply (tab_eq d i T (show 32 * (cLo i + min (k.val + 1) (nck i)) = 32 * (cLo i + min (k.val + 2) (nck i)) by omega) rfl) $$ Ht
    isplitl [Hr]
    · iapply (res_eq d i (GR T X P S) rfl (show 32 * (cLo i + min (k.val - 1) (nck i - 2)) = 32 * (cLo i + min (k.val + 1 - 1) (nck i - 2)) by omega)) $$ Hr
    iexact HO

/-- What holds before chunk `k`. -/
def chunkI (k : ℕ) : sProp 𝕄 :=
  iprop(levAts (K (F := F)).L (K (F := F)).lev ∗ halfA d i T X P S k ∗ halfB d i T X P S k ∗ semVal (thr d i, sI (k + 1)) 0
    ∗ tabPts d i (32 * cLo i) (32 * (cLo i + k)) T ∗ toLoad d i T (k + 1)
    ∗ stored d i T X P S k ∗ resPts d i (32 * (cLo i + k)) (32 * (cLo i + nck i)) R
    ∗ gRest d i q X ∗ pvPts d i pV ∗ svPts d i sV ∗ owed d i O W)

end

/-- A chunk's work once its beginning and end are known. -/
def chunkRest (i : grid0.Coords) (v19 : BitVec 32) (k : Fin (k0_t1_loop i).trips) (x : Head) : Prog (Eff F i) PUnit :=
  match x with
  | ⟨v15, v72, v73, v89, hw1, v102, hw2, v103, v105, c16, v106, v108, c0⟩ => do
    let v122 : BitVec 32 ← part106' (F := F) i v89 hw1 v105 c16 v106 v108 c0
    let p : Σ' (v187 : Vec F S16 .i32), IVec S16 32 ← part107' (F := F) i v89 hw1
    part108' (F := F) i v19 laneV k v15 v72 v73 v89 v102 hw2 v103 v122 p.1 p.2
    Prog.lift (.enqueueDma (slotM (k0_off11 i k) (k0_off11_inb i k)) (.here (resC (k0_off12 i k) (k0_off12_inb i k))) (.dma (semO (k0_off13 i k) (k0_off13_inb i k)))
      ((View.wordExact_bits rfl).reshape _ _) (View.wordExact_bits rfl) ⟨Or.inl rfl, trivial⟩)
    pure ⟨⟩

set_option maxHeartbeats 4000000 in
theorem part107_eq (i : grid0.Coords) (v89 : BitVec 32) (hw1 : k0_chk1 v89) :
    part107' (F := F) i v89 hw1 = jP i (k0_off10 v89) (k0_off10_inb v89 hw1) 3 (jP i (k0_off10 v89) (k0_off10_inb v89 hw1) 4
      (jP i (k0_off10 v89) (k0_off10_inb v89 hw1) 5 (jP i (k0_off10 v89) (k0_off10_inb v89 hw1) 6 (do
        let v187 : Vec F S16 .i32 ← Prog.lift (.load pM (Rect.unit (s := S16400) (k0_off10 v89) S16.size (k0_off10_inb v89 hw1)).toLoadRect (View.loadsAt_vmem h_S16))
        pure ⟨v187, k0_pay356⟩)))) := rfl

/-- A chunk's work. -/
abbrev chunkP (i : grid0.Coords) := k0_t1_body (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1

set_option maxHeartbeats 4000000 in
theorem chunk_eq (i : grid0.Coords) (k : Fin (k0_t1_loop i).trips) (v19 v39 : BitVec 32) :
    chunkP (F := F) i v19 v39 laneV k ⟨⟩ = (part105' (F := F) i v19 v39 laneV 0#32 1#32 k >>= chunkRest i v19 k) := by
  unfold chunkP k0_t1_body
  rw [k0_part105_eq_skeleton, k0_part106_eq_skeleton, k0_part107_eq_skeleton, k0_part108_eq_skeleton]
  rfl

set_option maxHeartbeats 4000000 in
theorem chunk_wp (d : Dev nD) (i : grid0.Coords) (k : Fin (k0_t1_loop i).trips) (v19 v39 : BitVec 32) (h19 : v19.toNat = cLo i)
    (O : CellTallies nD τ sig (HIx 1)) (W : Waits sig (HIx 1)) (hO : ∀ g, O g none = 0) (q : PosShare TreeShare)
    (T : S100000x1024.Idx → Elt F .f32) (X : S131072x128.Idx → Elt F .f32) {P : S16384.Idx → Elt F .i32} {S : S3126.Idx → Elt F .i32}
    {pV : S16400.Idx → Elt F .i32} {sV : S3141.Idx → Elt F .i32} (hL : Lists P S pV sV) (R : S100000x1024.Idx → Elt F .f32) :
    chunkI d i O W q T X P S pV sV R k.val
      ⊢ wp frame (wpE (defs₀ (F := F)) 𝒱₀ (thr d i) none) Set.univ (chunkP i v19 v39 laneV k ⟨⟩) fun _ =>
        chunkI d i O W q T X P S pV sV R (k.val + 1) := by
  have hk : k.val < nck i := lt_of_lt_of_eq k.isLt (t1_trips i)
  have hn := nck_two i
  have hcl := chunks_le i
  have hc : cLo i + k.val < 3125 := by omega
  obtain ⟨v89, v102, hw1, hw2, hR, htail⟩ := tail_wp d i k v19 h19 hL (fun x => wp frame (wpE (defs₀ (F := F)) 𝒱₀ (thr d i) none) Set.univ
    (chunkRest i v19 k x) fun _ => chunkI d i O W q T X P S pV sV R (k.val + 1))
  have ho : k0_off10 v89 = ![st S (cLo i + k.val)] := by rw [off10_eq, hR.lo]
  obtain ⟨v122, h106⟩ := part106_eq (F := F) i v89 hw1 (xW v89 v102) 16#32 (Scalar.divsi (xW v89 v102) 16#32) (Scalar.extui (Scalar.cmpi .sgt (xW v89 v102) 0#32)) 0#32
  have e73 := v73_toNat i k v19 h19
  have hst := hL.good (cLo i + k.val) hc
  rw [chunk_eq, wp_bind]
  unfold chunkI
  iintro ⟨#Hlv, HA, HB, Hsi, Htd, Htl, Hrs, Hrt, ⟨%g, %f, Hg, Hx, Hj, Hsg⟩, Hp, Hsv, HO⟩
  iapply (rot_wp d i O W T X P S k v19 v39 hO) $$ [HB Hsi Htl Hrs HO]
  · isplitr; · iexact Hlv
    isplitl [HB]; · iexact HB
    isplitl [Hsi]; · iexact Hsi
    isplitl [Htl]; · iexact Htl
    isplitl [Hrs]; · iexact Hrs
    iexact HO
  iintro ⟨HA', Htl, Hrs, HO⟩
  iapply htail $$ Hsv
  iintro Hsv
  ihave HA := (Entails.of_eq (show halfA d i T X P S k.val = iprop(lFl d i T X P k.val (cLo i + k.val) ∗ semVal (thr d i, sO k.val) 0) from if_pos hk)) $$ HA
  icases HA with ⟨Hlf, Hso⟩
  unfold chunkRest
  rw [wp_bind, h106, ← jbf_zero pV (st S (cLo i + k.val)) f]
  ihave H := (show iprop(pvPts d i pV ∗ jbPts d i (jbf pV (st S (cLo i + k.val)) f 0)) ⊢ iprop(pvPts d i pV ∗ jbPts d i (jbf pV (st S (cLo i + k.val)) f 0)) from .rfl) $$ [Hp Hj]
  · isplitl [Hp]
    · iexact Hp
    · iexact Hj
  iapply (jP_wp d i _ _ 0 pV (st S (cLo i + k.val)) f ho 0 rfl) $$ H
  iintro H
  iapply (jP_wp d i _ _ 1 pV (st S (cLo i + k.val)) f ho 1 rfl) $$ H
  iintro H
  iapply (jP_wp d i _ _ 2 pV (st S (cLo i + k.val)) f ho 2 rfl) $$ H
  iintro H
  rw [wp_pure]
  imodintro
  rw [wp_bind, part107_eq]
  iapply (jP_wp d i _ _ 3 pV (st S (cLo i + k.val)) f ho 3 rfl) $$ H
  iintro H
  iapply (jP_wp d i _ _ 4 pV (st S (cLo i + k.val)) f ho 4 rfl) $$ H
  iintro H
  iapply (jP_wp d i _ _ 5 pV (st S (cLo i + k.val)) f ho 5 rfl) $$ H
  iintro H
  iapply (jP_wp d i _ _ 6 pV (st S (cLo i + k.val)) f ho 6 rfl) $$ H
  iintro ⟨Hp, Hj⟩
  iapply (wp_load_rect 𝒱₀ (thr d i) none Set.univ (m := pM) (r := Rect.unit (s := S16400) _ S16.size (k0_off10_inb v89 hw1)) (Finset.subset_univ _)) $$ Hp
  iintro Hp
  iapply (Entails.of_eq (wp_pure _ _ _ _ _).symm)
  imodintro
  rw [wp_bind]
  iapply (part108_wp d i k O W q T X P pV hR hc v19 (Scf.iv 0#32 1#32 k.val) (Scalar.andi (Scf.iv 0#32 1#32 k.val) 1#32) (Scalar.addi v19 (Scf.iv 0#32 1#32 k.val)) e73 hw1 hw2 v122 hO hL.hP
    (fun e h h' => hst.2.2 e h (by omega)) f g) $$ [Hlf Hp Hg Hx Hj Hsg HO]
  · isplitr; · iexact Hlv
    isplitl [Hlf]; · iexact Hlf
    isplitl [Hp]; · iexact Hp
    isplitl [Hg Hx Hj Hsg]
    · isplitl [Hg]; · iexact Hg
      isplitl [Hx]; · iexact Hx
      isplitl [Hj]; · iexact Hj
      iexact Hsg
    iexact HO
  iintro ⟨Hc, Ht, Hs, Hp, Hg, HO⟩
  ihave Hrt := (resPts_split d i (32 * (cLo i + k.val)) (32 * (cLo i + k.val) + 32) (32 * (cLo i + nck i)) (by omega) (by omega) R).1 $$ Hrt
  icases Hrt with ⟨Hr, Hrt⟩
  iapply (store_wp d i T X P S k.val (cLo i + k.val) _ _ _ _ _ _ _ _ _ (off11_eq i k) (off12_eq i k) (off13_eq i k) R) $$ [Hc Hr Hso]
  · isplitl [Hc]; · iexact Hc
    isplitl [Hr]; · iexact Hr
    iexact Hso
  iintro Hsf
  rw [wp_pure]
  imodintro
  unfold chunkI
  isplitr; · iexact Hlv
  isplitl [HA']; · iexact HA'
  isplitl [Hsf]
  · unfold halfB
    rw [if_neg (show ¬ k.val + 1 = 0 by omega)]
    iexact Hsf
  isplitl [Hs]
  · rw [sI_congr (k.val + 1 + 1) k.val (by omega)]
    iexact Hs
  isplitl [Htd Ht]
  · iapply (tabPts_split d i (32 * cLo i) (32 * (cLo i + k.val)) (32 * (cLo i + (k.val + 1))) (by omega) (by omega) T).2
    isplitl [Htd]; · iexact Htd
    iapply (tab_eq d i T rfl (show 32 * (cLo i + k.val) + 32 = 32 * (cLo i + (k.val + 1)) by omega)) $$ Ht
  isplitl [Htl]; · iexact Htl
  isplitl [Hrs]; · iexact Hrs
  isplitl [Hrt]
  · iapply (res_eq d i R (show 32 * (cLo i + k.val) + 32 = 32 * (cLo i + (k.val + 1)) by omega) rfl) $$ Hrt
  isplitl [Hg]; · iexact Hg
  isplitl [Hp]; · iexact Hp
  isplitl [Hsv]; · iexact Hsv
  iexact HO

end Cert.Proof.Scatter

end
-- ==== Proof.Start.lean ====
/-
  What a subcore's work begins and ends with: the lists fetched, and the two halves of its chunk scratch.
-/
module

public import proofs.«01_k».proof.Proof.Chunk

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The lists, fetched -/

abbrev pkPts (d : Dev nD) (L : grid0.Coords) (q : PosShare TreeShare) (P : S16384.Idx → Elt F .i32) : sProp 𝕄 := pkM.view.loc (thr d L) ↦{q} P
abbrev stPts (d : Dev nD) (L : grid0.Coords) (q : PosShare TreeShare) (S : S3126.Idx → Elt F .i32) : sProp 𝕄 := stM.view.loc (thr d L) ↦{q} S

/-- The parts of the scratches the lists are fetched into. -/
abbrev pDst : Memref sig .scVector .vmem S16384 .i32 := pM.slice (Rect.unit (s := S16400) ![0] S16384.size inb_S16400_S16384_0) (fun _ => rfl)
abbrev sDst : Memref sig .scVector .vmem S3126 .i32 := sM.slice (Rect.unit (s := S3141) ![0] S3126.size inb_S3141_S3126_0) (fun _ => rfl)

/-- The scratches afterwards. -/
def pNew (f : S16400.Idx → Elt F .i32) (P : S16384.Idx → Elt F .i32) : S16400.Idx → Elt F .i32 :=
  pDst.view.write (Elt F) f (pkM.view.read (Elt F) P) Finset.univ
def sNew (f : S3141.Idx → Elt F .i32) (S : S3126.Idx → Elt F .i32) : S3141.Idx → Elt F .i32 :=
  sDst.view.write (Elt F) f (stM.view.read (Elt F) S) Finset.univ

theorem pNew_word (f : S16400.Idx → Elt F .i32) (P : S16384.Idx → Elt F .i32) (e : ℕ) (he : e < 16384) : (pvW (pNew f P) e).toNat = pk P e := by
  have hx : (ix1 (⟨e % 16400, Nat.mod_lt _ (by omega)⟩ : Fin 16400) : S16400.Idx) = pDst.view.emb (ix1 (⟨e % 16384, Nat.mod_lt _ (by omega)⟩ : Fin 16384)) := by
    funext a; fin_cases a; apply Fin.ext
    show e % 16400 = 0 + 1 * (e % 16384); omega
  unfold pvW pNew pk
  rw [hx, View.write_emb_of_mem _ _ (Finset.mem_univ _), cast_eq, View.read_apply, cast_eq]
  rfl

theorem sNew_word (f : S3141.Idx → Elt F .i32) (S : S3126.Idx → Elt F .i32) (c : ℕ) (hc : c ≤ 3125) : (svW (sNew f S) c).toNat = st S c := by
  have hx : (ix1 (⟨c % 3141, Nat.mod_lt _ (by omega)⟩ : Fin 3141) : S3141.Idx) = sDst.view.emb (ix1 (⟨c % 3126, Nat.mod_lt _ (by omega)⟩ : Fin 3126)) := by
    funext a; fin_cases a; apply Fin.ext
    show c % 3141 = 0 + 1 * (c % 3126); omega
  unfold svW sNew st
  rw [hx, View.write_emb_of_mem _ _ (Finset.mem_univ _), cast_eq, View.read_apply, cast_eq]
  rfl

theorem lists_new (f : S16400.Idx → Elt F .i32) (g : S3141.Idx → Elt F .i32) {P : S16384.Idx → Elt F .i32} {S : S3126.Idx → Elt F .i32} (h : Good P S) :
    Lists P S (pNew f P) (sNew g S) := ⟨pNew_word f P, sNew_word g S, h⟩

theorem fetchP_wp (d : Dev nD) (L : grid0.Coords) (q : PosShare TreeShare) (P : S16384.Idx → Elt F .i32) (f : S16400.Idx → Elt F .i32)
    (O : CellTallies nD τ sig (HIx 1)) (W : Waits sig (HIx 1)) (h1 h2 h3 h4 h5) {α : Type} (kk : PUnit → Prog (Eff F L) α) (Q : α → sProp 𝕄) :
    iprop(pkPts d L q P ∗ pvPts d L f ∗ semVal (thr d L, SemLoc.dma cc0_scoped0.sem) 0 ∗ owes (thr d L) O W ∗ Transfers.MayWaits (thr d L) (default : HIx 1) O)
      ⊢ iprop((pkPts d L q P ∗ pvPts d L (pNew f P) ∗ semVal (thr d L, SemLoc.dma cc0_scoped0.sem) 0 ∗ owes (thr d L) O (insert (SemLoc.dma cc0_scoped0.sem, (default : HIx 1)) W)
          -∗ wp frame (wpE (defs₀ (F := F)) 𝒱₀ (thr d L) none) Set.univ (kk ⟨⟩) Q)
        -∗ wp frame (wpE (defs₀ (F := F)) 𝒱₀ (thr d L) none) Set.univ
          (Prog.lift (.enqueueDma pkM (.here pDst) (.dma cc0_scoped0.sem) h1 h2 h3) >>= fun _ => Prog.lift (.waitDma2 cc0_scoped0.sem pkM pDst h4 h5) >>= kk) Q) := by
  have hs : pkM.view.set = Finset.univ := View.set_whole _
  iintro ⟨Hp, Hv, Hs, HO, Hmw⟩ HK
  iapply (Transfers.wp_dmaLocal countersEmb 𝒱₀ (thr d L) none (src := pkM) (dst := pDst) (sm := SemLoc.dma cc0_scoped0.sem)
    (default : HIx 1) pDst.view.dmaCredit rfl (by decide) (Finset.subset_univ _)) $$ [Hp Hv Hs]
  · isplitl [Hp]
    · iapply (Entails.of_eq (show pkPts d L q P = (pkM.view.loc (thr d L) ↦[pkM.view.set]{q} P : sProp 𝕄) by rw [hs])) $$ Hp
    isplitl [Hv]; · iexact Hv
    iexact Hs
  iintro Hfl
  iapply (Transfers.wp_waitLocalO countersEmb 𝒱₀ (thr d L) none (default : HIx 1) (rfl : pDst.view.dmaCredit = _)) $$ [Hfl HO Hmw]
  · isplitl [Hfl]; · iexact Hfl
    isplitl [HO]; · iexact HO
    iapply (Transfers.MayWaits.elim (SemLoc.dma cc0_scoped0.sem)) $$ Hmw
  iintro ⟨⟨Hv, Hp⟩, Hs, HO⟩
  iapply HK
  isplitl [Hp]
  · iapply (Entails.of_eq (show (pkM.view.loc (thr d L) ↦[pkM.view.set]{q} P : sProp 𝕄) = pkPts d L q P by rw [hs])) $$ Hp
  isplitl [Hv]; · iexact Hv
  isplitl [Hs]; · iexact Hs
  iexact HO

theorem fetchS_wp (d : Dev nD) (L : grid0.Coords) (q : PosShare TreeShare) (S : S3126.Idx → Elt F .i32) (f : S3141.Idx → Elt F .i32)
    (O : CellTallies nD τ sig (HIx 1)) (W : Waits sig (HIx 1)) (h1 h2 h3 h4 h5) {α : Type} (kk : PUnit → Prog (Eff F L) α) (Q : α → sProp 𝕄) :
    iprop(stPts d L q S ∗ svPts d L f ∗ semVal (thr d L, SemLoc.dma cc0_scoped1.sem) 0 ∗ owes (thr d L) O W ∗ Transfers.MayWaits (thr d L) (default : HIx 1) O)
      ⊢ iprop((stPts d L q S ∗ svPts d L (sNew f S) ∗ semVal (thr d L, SemLoc.dma cc0_scoped1.sem) 0 ∗ owes (thr d L) O (insert (SemLoc.dma cc0_scoped1.sem, (default : HIx 1)) W)
          -∗ wp frame (wpE (defs₀ (F := F)) 𝒱₀ (thr d L) none) Set.univ (kk ⟨⟩) Q)
        -∗ wp frame (wpE (defs₀ (F := F)) 𝒱₀ (thr d L) none) Set.univ
          (Prog.lift (.enqueueDma stM (.here sDst) (.dma cc0_scoped1.sem) h1 h2 h3) >>= fun _ => Prog.lift (.waitDma2 cc0_scoped1.sem stM sDst h4 h5) >>= kk) Q) := by
  have hs : stM.view.set = Finset.univ := View.set_whole _
  iintro ⟨Hp, Hv, Hs, HO, Hmw⟩ HK
  iapply (Transfers.wp_dmaLocal countersEmb 𝒱₀ (thr d L) none (src := stM) (dst := sDst) (sm := SemLoc.dma cc0_scoped1.sem)
    (default : HIx 1) sDst.view.dmaCredit rfl (by decide) (Finset.subset_univ _)) $$ [Hp Hv Hs]
  · isplitl [Hp]
    · iapply (Entails.of_eq (show stPts d L q S = (stM.view.loc (thr d L) ↦[stM.view.set]{q} S : sProp 𝕄) by rw [hs])) $$ Hp
    isplitl [Hv]; · iexact Hv
    iexact Hs
  iintro Hfl
  iapply (Transfers.wp_waitLocalO countersEmb 𝒱₀ (thr d L) none (default : HIx 1) (rfl : sDst.view.dmaCredit = _)) $$ [Hfl HO Hmw]
  · isplitl [Hfl]; · iexact Hfl
    isplitl [HO]; · iexact HO
    iapply (Transfers.MayWaits.elim (SemLoc.dma cc0_scoped1.sem)) $$ Hmw
  iintro ⟨⟨Hv, Hp⟩, Hs, HO⟩
  iapply HK
  isplitl [Hp]
  · iapply (Entails.of_eq (show (stM.view.loc (thr d L) ↦[stM.view.set]{q} S : sProp 𝕄) = stPts d L q S by rw [hs])) $$ Hp
  isplitl [Hv]; · iexact Hv
  isplitl [Hs]; · iexact Hs
  iexact HO

/-! ## The two halves of the chunk scratch -/

theorem slots_disj : Disjoint (slotSet 0) (slotSet 1) := by
  rw [Finset.disjoint_left]; intro x; simp only [mem_slotSet]; omega

theorem slots_cover : slotSet 0 ∪ slotSet 1 = Finset.univ := by
  ext x
  have : (x 0).val < 2 := (x 0).isLt
  simp only [Finset.mem_union, mem_slotSet, Finset.mem_univ, iff_true]; omega

abbrev cPts (d : Dev nD) (L : grid0.Coords) (f : S2x32x1024.Idx → Elt F .f32) : sProp 𝕄 := cM.view.loc (thr d L) ↦{fullShare} f

theorem cPts_halves (d : Dev nD) (L : grid0.Coords) (f : S2x32x1024.Idx → Elt F .f32) : cPts d L f ⊢ iprop(slotPts d L 0 f ∗ slotPts d L 1 f) := by
  have h := (pointsTo_union (Name := ℕ) (U := UU) (Lvl := ℕ) (Ix := HIx 1) (ℓ := cM.view.loc (thr d L)) (q := fullShare) (f := f) slots_disj).1
  rw [slots_cover] at h
  exact h

theorem cPts_join (d : Dev nD) (L : grid0.Coords) : iprop((∃ f, slotPts (F := F) d L 0 f) ∗ ∃ f, slotPts (F := F) d L 1 f) ⊢ iprop(∃ f, cPts d L f) := by
  iintro ⟨⟨%f, H0⟩, ⟨%g, H1⟩⟩
  iexists ((slotSet 1).piecewise g f)
  have h := pointsTo_join (Name := ℕ) (U := UU) (Lvl := ℕ) (Ix := HIx 1) (ℓ := cM.view.loc (thr d L)) (q := fullShare) (f := f) (g := g) slots_disj
  rw [slots_cover] at h
  iapply h
  isplitl [H0]; · iexact H0
  iexact H1

/-- What is had of both parities is had of nought and one. -/
theorem both (Φ : ℕ → sProp 𝕄) (n : ℕ) (h : ∀ b b', b % 2 = b' % 2 → Φ b = Φ b') : iprop(Φ n ∗ Φ (n + 1)) ⊢ iprop(Φ 0 ∗ Φ 1) := by
  rcases Nat.mod_two_eq_zero_or_one n with hn | hn
  · rw [h n 0 hn, h (n + 1) 1 (by omega)]
  · rw [h n 1 hn, h (n + 1) 0 (by omega)]
    exact sep_comm.1

end Cert.Proof.Scatter

end
-- ==== Proof.Body.lean ====
/-
  The whole of one subcore's work.
-/
module

public import proofs.«01_k».proof.Proof.Start

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Where a subcore's chunks begin, as the program counts -/

def wW (i : grid0.Coords) : BitVec 32 := Scalar.addi (Scalar.muli (BitVec.ofNat 32 (i 1).val) 2#32) (BitVec.ofNat 32 (i 0).val)

/-- A thirty-second, rounded down. -/
def fdiv (v : BitVec 32) : BitVec 32 :=
  Scalar.select (Scalar.andi (Scalar.cmpi .ne (Scalar.subi (Scalar.extui (Scalar.cmpi .sgt v 0#32)) (Scalar.extui (Scalar.cmpi .slt v 0#32)) : BitVec 32)
      (Scalar.subi (Scalar.extui (Scalar.cmpi .sgt 32#32 0#32)) (Scalar.extui (Scalar.cmpi .slt 32#32 0#32)))) (Scalar.cmpi .ne (Scalar.remsi v 32#32) 0#32))
    (Scalar.subi (Scalar.divsi v 32#32) 1#32) (Scalar.divsi v 32#32)

def c0W (i : grid0.Coords) : BitVec 32 := fdiv (Scalar.muli (wW i) 3125#32)
def nW (i : grid0.Coords) : BitVec 32 := Scalar.subi (fdiv (Scalar.muli (Scalar.addi (wW i) 1#32) 3125#32)) (c0W i)

theorem c0W_toNat : ∀ i : grid0.Coords, (c0W i).toNat = cLo i := by decide +kernel

/-! ## The subcore's program -/

/-- All of it. -/
abbrev bodyP (i : grid0.Coords) := cc0__scatter_body (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1

/-- The other loop's step, which is never taken. -/
abbrev idleP (i : grid0.Coords) := k0_t36_body (F := F) i tabM (Memref.isWhole_whole _) xM (Memref.isWhole_whole _) pkM (Memref.isWhole_whole _) stM (Memref.isWhole_whole _) resM (Memref.isWhole_whole _) cM (Memref.isWhole_whole _) gM (Memref.isWhole_whole _) pM (Memref.isWhole_whole _) sM (Memref.isWhole_whole _) jM (Memref.isWhole_whole _) cc0_scratch5 cc0_scratch6 cc0_scratch7 cc0_scoped0 cc0_scoped1

/-- The last chunk but one is waited for. -/
def lastButOne (i : grid0.Coords) : Prog (Eff F i) PUnit := do
  if h : k0_cond75 i = 1#1 then do
    Prog.lift (.waitDma2 (semO (k0_off612 i) (k0_off612_inb i h)) (slotM (k0_off610 i) (k0_off610_inb i h)) (resC (k0_off611 i) (k0_off611_inb i h))
      ((View.wordExact_bits rfl).reshape _ _) (View.wordExact_bits rfl))
    pure ⟨⟩
  else do
    pure ⟨⟩
  pure ⟨⟩

def last (i : grid0.Coords) : Prog (Eff F i) PUnit := do
  Prog.lift (.waitDma2 (semO (k0_off615 i) (k0_off615_inb i)) (slotM (k0_off613 i) (k0_off613_inb i)) (resC (k0_off614 i) (k0_off614_inb i))
    ((View.wordExact_bits rfl).reshape _ _) (View.wordExact_bits rfl))
  pure ⟨⟩

/-- The chunks. -/
def chunksP (i : grid0.Coords) (v19 v39 v55 : BitVec 32) : Prog (Eff F i) PUnit := do
  Scf.Loop.for (k0_t1_loop i) (k0_t1_ok i) ⟨⟩ (chunkP (F := F) i v19 v39 laneV)
  Scf.Loop.for (k0_t36_loop i) (k0_t36_ok i) ⟨⟩ (idleP (F := F) i v19 v39 laneV v55)
  lastButOne i

/-- The lists fetched, the first chunk asked for, then the chunks. -/
def mostP (i : grid0.Coords) (v19 v39 v55 : BitVec 32) : Prog (Eff F i) PUnit :=
  Prog.lift (.enqueueDma pkM (.here pDst) (.dma cc0_scoped0.sem) (Memref.isWhole_whole _).wordExact (View.wordExact_bits rfl) ⟨Or.inl rfl, trivial⟩) >>= fun _ =>
  Prog.lift (.waitDma2 cc0_scoped0.sem pkM pDst (Memref.isWhole_whole _).wordExact (View.wordExact_bits rfl)) >>= fun _ =>
  Prog.lift (.enqueueDma stM (.here sDst) (.dma cc0_scoped1.sem) (Memref.isWhole_whole _).wordExact (View.wordExact_bits rfl) ⟨Or.inl rfl, trivial⟩) >>= fun _ =>
  Prog.lift (.waitDma2 cc0_scoped1.sem stM sDst (Memref.isWhole_whole _).wordExact (View.wordExact_bits rfl)) >>= fun _ =>
  Prog.lift (.enqueueDma (tabC (k0_off1 i) (k0_off1_inb i)) (.here (slotM ![0, 0, 0] inb_S2x32x1024_S1x32x1024_0_0_0)) (.dma (semI ![0] inb_S2_S1_0))
    (View.wordExact_bits rfl) ((View.wordExact_bits rfl).reshape _ _) ⟨Or.inl rfl, trivial⟩) >>= fun _ => chunksP i v19 v39 v55

set_option maxHeartbeats 4000000 in
theorem body_eq (i : grid0.Coords) : ∃ v55, bodyP (F := F) i = (mostP i (c0W i) (nW i) v55 >>= fun _ => last i) := by
  refine ⟨Scalar.addi 0#32 (Scalar.muli (Scalar.divsi (Scalar.subi (nW i) 0#32) 1#32) 1#32), ?_⟩
  unfold bodyP
  rw [cc0__scatter_body_eq_skeleton]
  unfold cc0__scatter_body_skel
  rw [k0_part217_eq_skeleton, k0_part218_eq_skeleton]
  rfl

/-! ## The chunks done -/

section
variable (d : Dev nD) (i : grid0.Coords) (O : CellTallies nD τ sig (HIx 1)) (W : Waits sig (HIx 1)) (q : PosShare TreeShare)
  (T : S100000x1024.Idx → Elt F .f32) (X : S131072x128.Idx → Elt F .f32) (P : S16384.Idx → Elt F .i32) (S : S3126.Idx → Elt F .i32)

theorem tab_none {a b : ℕ} (h : b ≤ a) : ⊢ tabPts d i a b T := by
  unfold tabPts; rw [rowsIn_empty a b h, pointsTo_empty]; exact .rfl
theorem res_none {a b : ℕ} (h : b ≤ a) : ⊢ resPts d i a b T := by
  unfold resPts; rw [rowsIn_empty a b h, pointsTo_empty]; exact .rfl

/-- What holds between the chunks and the last wait. -/
abbrev nearly (pV : S16400.Idx → Elt F .i32) (sV : S3141.Idx → Elt F .i32) : sProp 𝕄 :=
  iprop(tabPts d i (32 * cLo i) (32 * (cLo i + nck i)) T ∗ resPts d i (32 * cLo i) (32 * (cLo i + (nck i - 1))) (GR T X P S)
    ∗ sFl d i T X P S (nck i - 1) (cLo i + (nck i - 1)) ∗ (∃ f, slotPts d i ((nck i - 2) % 2) f) ∗ semVal (thr d i, sO (nck i - 2)) 0
    ∗ semVal (thr d i, sI (nck i)) 0 ∗ semVal (thr d i, sI (nck i + 1)) 0
    ∗ gRest d i q X ∗ pvPts d i pV ∗ svPts d i sV ∗ owed d i O W)

theorem chunks_wp (v39 v55 : BitVec 32) (hO : ∀ g, O g none = 0) {pV : S16400.Idx → Elt F .i32} {sV : S3141.Idx → Elt F .i32}
    (hL : Lists P S pV sV) (R : S100000x1024.Idx → Elt F .f32) :
    chunkI d i O W q T X P S pV sV R 0 ⊢ wp frame (wpE (defs₀ (F := F)) 𝒱₀ (thr d i) none) Set.univ (chunksP i (c0W i) v39 v55) fun _ =>
      nearly d i O W q T X P S pV sV := by
  have hn := nck_two i
  unfold chunksP
  iintro H
  iapply (Scf.wp_for_bind frame (wpE (defs₀ (F := F)) 𝒱₀ (thr d i) none) Set.univ (k0_t1_loop i).lb (k0_t1_loop i).ub (k0_t1_loop i).st
    (k0_t1_ok i) ⟨⟩ (chunkP (F := F) i (c0W i) v39 laneV)
    (fun k _ => chunkI d i O W q T X P S pV sV R k)
    (fun k _ => chunk_wp d i k (c0W i) v39 (c0W_toNat i) O W hO q T X hL R)) $$ [H]
  · iexact H
  iintro %acc
  rw [show Scf.trips (k0_t1_loop i).lb (k0_t1_loop i).ub (k0_t1_loop i).st = nck i from t1_trips i]
  unfold chunkI halfA halfB
  rw [if_neg (lt_irrefl _), if_neg (show ¬ nck i = 0 by omega)]
  iintro ⟨#Hlv, ⟨HfA, HsA⟩, HfB, HsB, Ht, -, Hr, -, Hg, Hp, Hs, HO⟩
  iapply (Scf.wp_for_bind frame (wpE (defs₀ (F := F)) 𝒱₀ (thr d i) none) Set.univ (k0_t36_loop i).lb (k0_t36_loop i).ub (k0_t36_loop i).st
    (k0_t36_ok i) ⟨⟩ (idleP (F := F) i (c0W i) v39 laneV v55)
    (fun _ _ => iprop(emp)) (fun b _ => absurd (lt_of_lt_of_eq b.isLt (t36_trips i)) (by omega))) $$ []
  · iempintro
  iintro %acc2 -
  unfold lastButOne
  rw [dif_pos (cond75_eq i)]
  icases HO with ⟨%W', %hW', HO⟩
  ihave Hmw := (show levAts (K (F := F)).L (K (F := F)).lev ⊢ Transfers.MayWaits (thr d i) (default : HIx 1) O from
    (K (F := F)).mayWaits_none (thr := thr d i) hO) $$ Hlv
  iapply (swait_wp d i T X P S (nck i - 2) (cLo i + (nck i - 2)) (k0_off610 i) (k0_off610_inb i (cond75_eq i)) (k0_off611 i) (k0_off611_inb i (cond75_eq i))
    (k0_off612 i) (k0_off612_inb i (cond75_eq i)) _ _ (by rw [off612_eq, show nck i % 2 = (nck i - 2) % 2 by omega]) O W') $$ [HfA HO Hmw]
  · isplitl [HfA]; · iexact HfA
    isplitl [HO]; · iexact HO
    iexact Hmw
  iintro ⟨Hr2, Hsl, HsO, HO⟩
  rw [wp_pure]
  imodintro
  isplitl [Ht]; · iexact Ht
  isplitl [Hr Hr2]
  · iapply (resPts_split d i (32 * cLo i) (32 * (cLo i + (nck i - 2))) (32 * (cLo i + (nck i - 1))) (by omega) (by omega) _).2
    isplitl [Hr]
    · iapply (res_eq d i _ rfl (show 32 * (cLo i + min (nck i - 1) (nck i - 2)) = 32 * (cLo i + (nck i - 2)) by omega)) $$ Hr
    · iapply (res_eq d i _ rfl (show 32 * (cLo i + (nck i - 2)) + 32 = 32 * (cLo i + (nck i - 1)) by omega)) $$ Hr2
  isplitl [HfB]; · iexact HfB
  isplitl [Hsl]; · iexact Hsl
  isplitl [HsO]; · iexact HsO
  isplitl [HsA]; · iexact HsA
  isplitl [HsB]; · iexact HsB
  isplitl [Hg]; · iexact Hg
  isplitl [Hp]; · iexact Hp
  isplitl [Hs]; · iexact Hs
  iexists _; isplitr
  swap; · iexact HO
  ipureintro; exact insert_owed hW' _

/-! ## The whole of a subcore's work -/

abbrev x0Pts (d : Dev nD) (L : grid0.Coords) (q : PosShare TreeShare) (X : S131072x128.Idx → Elt F .f32) : sProp 𝕄 := xM.view.loc (thr d L) ↦{q} X

theorem xS_set : xS.view.set = (Finset.univ : Finset S131072x128.Idx) := by
  refine Finset.eq_univ_iff_forall.mpr fun x => Finset.mem_map.mpr ⟨x, Finset.mem_univ _, ?_⟩
  funext a; fin_cases a <;> apply Fin.ext
  · show 0 + 1 * (x 0).val = (x 0).val; omega
  · show 0 + 1 * (x 1).val = (x 1).val; omega

theorem x_whole (d : Dev nD) (L : grid0.Coords) (q : PosShare TreeShare) (X : S131072x128.Idx → Elt F .f32) : xPts d L q X = x0Pts d L q X := by
  unfold xPts x0Pts
  rw [xS_set]

/-- What a subcore is given of the arrays. -/
abbrev goP (R : S100000x1024.Idx → Elt F .f32) : sProp 𝕄 :=
  iprop(tabPts d i (32 * cLo i) (32 * (cLo i + nck i)) T ∗ resPts d i (32 * cLo i) (32 * (cLo i + nck i)) R
    ∗ x0Pts d i q X ∗ pkPts d i q P ∗ stPts d i q S)

/-- Its scratches, holding anything. -/
abbrev ownP : sProp 𝕄 :=
  iprop((∃ f, cPts (F := F) d i f) ∗ (∃ f, stgPts (F := F) d i f) ∗ (∃ f, pvPts (F := F) d i f) ∗ (∃ f, svPts (F := F) d i f) ∗ (∃ f, jbPts (F := F) d i f))

/-- Its semaphores, at nought. -/
abbrev semP : sProp 𝕄 :=
  iprop(semVal (thr d i, sI 0) 0 ∗ semVal (thr d i, sI 1) 0 ∗ semVal (thr d i, sO 0) 0 ∗ semVal (thr d i, sO 1) 0
    ∗ semVal (thr d i, SemLoc.dma cc0_scratch7.sem) 0 ∗ semVal (thr d i, SemLoc.dma cc0_scoped0.sem) 0 ∗ semVal (thr d i, SemLoc.dma cc0_scoped1.sem) 0)

theorem most_wp (v39 v55 : BitVec 32) (hO : ∀ g, O g none = 0) (hgood : Good P S) (R : S100000x1024.Idx → Elt F .f32)
    (f1 : S2x32x1024.Idx → Elt F .f32) (f2) (f3 : S16400.Idx → Elt F .i32) (f4 : S3141.Idx → Elt F .i32) (f5) :
    iprop(levAts (K (F := F)).L (K (F := F)).lev ∗ tabPts d i (32 * cLo i) (32 * (cLo i + nck i)) T ∗ resPts d i (32 * cLo i) (32 * (cLo i + nck i)) R
        ∗ xPts d i q X ∗ pkPts d i q P ∗ stPts d i q S ∗ cPts d i f1 ∗ stgPts d i f2 ∗ pvPts d i f3 ∗ svPts d i f4 ∗ jbPts d i f5 ∗ semP (F := F) d i ∗ owes (thr d i) O W)
      ⊢ wp frame (wpE (defs₀ (F := F)) 𝒱₀ (thr d i) none) Set.univ (mostP i (c0W i) v39 v55) fun _ =>
        iprop(nearly d i O W q T X P S (pNew f3 P) (sNew f4 S) ∗ pkPts d i q P ∗ stPts d i q S
          ∗ semVal (thr d i, SemLoc.dma cc0_scoped0.sem) 0 ∗ semVal (thr d i, SemLoc.dma cc0_scoped1.sem) 0) := by
  have hn := nck_two i
  iintro ⟨#Hlv, Ht, Hr, Hx, Hpk, Hst, Hc, Hg, Hp, Hs, Hj, ⟨HI0, HI1, HO0, HO1, H7, Hq0, Hq1⟩, HO⟩
  ihave Hmw := (show levAts (K (F := F)).L (K (F := F)).lev ⊢ Transfers.MayWaits (thr d i) (default : HIx 1) O from
    (K (F := F)).mayWaits_none (thr := thr d i) hO) $$ Hlv
  unfold mostP
  iapply (fetchP_wp d i q P f3 O W _ _ _ _ _) $$ [Hpk Hp Hq0 HO Hmw]
  · isplitl [Hpk]; · iexact Hpk
    isplitl [Hp]; · iexact Hp
    isplitl [Hq0]; · iexact Hq0
    isplitl [HO]; · iexact HO
    iexact Hmw
  iintro ⟨Hpk, Hp, Hq0, HO⟩
  ihave Hmw := (show levAts (K (F := F)).L (K (F := F)).lev ⊢ Transfers.MayWaits (thr d i) (default : HIx 1) O from
    (K (F := F)).mayWaits_none (thr := thr d i) hO) $$ Hlv
  iapply (fetchS_wp d i q S f4 O _ _ _ _ _ _) $$ [Hst Hs Hq1 HO Hmw]
  · isplitl [Hst]; · iexact Hst
    isplitl [Hs]; · iexact Hs
    isplitl [Hq1]; · iexact Hq1
    isplitl [HO]; · iexact HO
    iexact Hmw
  iintro ⟨Hst, Hs, Hq1, HO⟩
  ihave Hc2 := (cPts_halves d i f1) $$ Hc
  icases Hc2 with ⟨Hc0, Hc1⟩
  ihave Ht2 := (tabPts_split d i (32 * cLo i) (32 * (cLo i + 1)) (32 * (cLo i + nck i)) (by omega) (by omega) T).1 $$ Ht
  icases Ht2 with ⟨Hta, Htb⟩
  iapply (load_wp d i T X P 0 (cLo i + 0) ![0, 0, 0] inb_S2x32x1024_S1x32x1024_0_0_0 (k0_off1 i) (k0_off1_inb i) ![0] inb_S2_S1_0 _ _ _ rfl (off1_eq i) rfl f1) $$ [Hc0 Hta HI0]
  · isplitl [Hc0]; · iexact Hc0
    isplitl [Hta]; · iapply (tab_eq d i T rfl (show 32 * (cLo i + 1) = 32 * (cLo i + 0) + 32 by omega)) $$ Hta
    iexact HI0
  iintro Hfl
  iapply (wp_wand_r frame (wpE (defs₀ (F := F)) 𝒱₀ (thr d i) none) Set.univ (Q := fun _ => nearly d i O W q T X P S (pNew f3 P) (sNew f4 S)))
  isplitr [Hpk Hst Hq0 Hq1]
  swap
  · iintro %u H
    isplitl [H]; · iexact H
    isplitl [Hpk]; · iexact Hpk
    isplitl [Hst]; · iexact Hst
    isplitl [Hq0]; · iexact Hq0
    iexact Hq1
  iapply (chunks_wp d i O W q T X P S v39 v55 hO (lists_new f3 f4 hgood) R)
  unfold chunkI halfA halfB
  rw [if_pos (show 0 < nck i by omega), if_pos rfl]
  isplitr; · iexact Hlv
  isplitl [Hfl HO0]
  · isplitl [Hfl]; · iexact Hfl
    iexact HO0
  isplitl [Hc1 HO1]
  · isplitl [Hc1]; · iexists f1; iexact Hc1
    iexact HO1
  isplitl [HI1]; · iexact HI1
  isplitr; · iapply (tab_none d i T (show 32 * (cLo i + 0) ≤ 32 * cLo i by omega))
  isplitl [Htb]
  · iapply (tab_eq d i T (show 32 * (cLo i + 1) = 32 * (cLo i + min (0 + 1) (nck i)) by omega) rfl) $$ Htb
  isplitr; · iapply (res_none d i _ (show 32 * (cLo i + min (0 - 1) (nck i - 2)) ≤ 32 * cLo i by omega))
  isplitl [Hr]; · iexact Hr
  isplitl [Hg Hx Hj H7]
  · iexists f2, f5
    isplitl [Hg]; · iexact Hg
    isplitl [Hx]; · iexact Hx
    isplitl [Hj]; · iexact Hj
    iexact H7
  isplitl [Hp]; · iexact Hp
  isplitl [Hs]; · iexact Hs
  iexists _; isplitr
  swap; · iexact HO
  ipureintro; exact insert_owed (insert_owed (fun p hp => .inl hp) _) _

theorem work_wp (hO : ∀ g, O g none = 0) (hgood : Good P S) (R : S100000x1024.Idx → Elt F .f32) :
    iprop(levAts (K (F := F)).L (K (F := F)).lev ∗ goP d i q T X P S R ∗ ownP (F := F) d i ∗ semP (F := F) d i ∗ owes (thr d i) O W)
      ⊢ wp frame (wpE (defs₀ (F := F)) 𝒱₀ (thr d i) none) Set.univ (bodyP i) fun _ =>
        iprop(goP d i q T X P S (GR T X P S) ∗ ownP (F := F) d i ∗ semP (F := F) d i ∗ owed d i O W) := by
  have hn := nck_two i
  obtain ⟨v55, hb⟩ := body_eq (F := F) i
  rw [hb, wp_bind]
  iintro ⟨#Hlv, ⟨Ht, Hr, Hx, Hpk, Hst⟩, ⟨⟨%f1, Hc⟩, ⟨%f2, Hg⟩, ⟨%f3, Hp⟩, ⟨%f4, Hs⟩, ⟨%f5, Hj⟩⟩, Hsem, HO⟩
  ihave Hxs := (Entails.of_eq (x_whole d i q X).symm) $$ Hx
  iapply (wp_wand_r frame (wpE (defs₀ (F := F)) 𝒱₀ (thr d i) none) Set.univ
    (Q := fun _ => iprop(nearly d i O W q T X P S (pNew f3 P) (sNew f4 S) ∗ pkPts d i q P ∗ stPts d i q S
          ∗ semVal (thr d i, SemLoc.dma cc0_scoped0.sem) 0 ∗ semVal (thr d i, SemLoc.dma cc0_scoped1.sem) 0)))
  isplitr []
  swap
  · iintro %u ⟨⟨Ht, Hr, Hfl, Hsl, HsO, HIa, HIb, ⟨%g, %f, Hg, Hxs, Hj, H7⟩, Hp, Hs, ⟨%W', %hW', HO⟩⟩, Hpk, Hst, Hq0, Hq1⟩
    ihave Hmw := (show levAts (K (F := F)).L (K (F := F)).lev ⊢ Transfers.MayWaits (thr d i) (default : HIx 1) O from
      (K (F := F)).mayWaits_none (thr := thr d i) hO) $$ Hlv
    unfold last
    iapply (swait_wp d i T X P S (nck i - 1) (cLo i + (nck i - 1)) (k0_off613 i) (k0_off613_inb i) (k0_off614 i) (k0_off614_inb i)
      (k0_off615 i) (k0_off615_inb i) _ _ (off615_eq i) O W') $$ [Hfl HO Hmw]
    · isplitl [Hfl]; · iexact Hfl
      isplitl [HO]; · iexact HO
      iexact Hmw
    iintro ⟨Hr2, Hsl2, HsO2, HO⟩
    ihave Hx := (Entails.of_eq (x_whole d i q X)) $$ Hxs
    ihave HI := (both (fun n => semVal (thr d i, sI n) 0) (nck i) (fun b b' h => by rw [sI_congr b b' h])) $$ [HIa HIb]
    · isplitl [HIa]; · iexact HIa
      iexact HIb
    icases HI with ⟨HI0, HI1⟩
    ihave HS := (both (fun n => semVal (thr d i, sO n) 0) (nck i - 2) (fun b b' h => by rw [sO_congr b b' h])) $$ [HsO HsO2]
    · isplitl [HsO]; · iexact HsO
      iapply (Entails.of_eq (show semVal (thr d i, sO (nck i - 1)) 0 = (semVal (thr d i, sO (nck i - 2 + 1)) 0 : sProp 𝕄) by rw [show nck i - 2 + 1 = nck i - 1 by omega])) $$ HsO2
    icases HS with ⟨HO0, HO1⟩
    ihave HC := (both (fun n => iprop(∃ f, slotPts (F := F) d i (n % 2) f)) (nck i - 2) (fun b b' h => by rw [h])) $$ [Hsl Hsl2]
    · isplitl [Hsl]; · iexact Hsl
      iapply (Entails.of_eq (show iprop(∃ f, slotPts (F := F) d i ((nck i - 1) % 2) f) = (iprop(∃ f, slotPts (F := F) d i ((nck i - 2 + 1) % 2) f) : sProp 𝕄) by rw [show nck i - 2 + 1 = nck i - 1 by omega])) $$ Hsl2
    ihave Hc := (cPts_join d i) $$ HC
    rw [wp_pure]
    imodintro
    isplitl [Ht Hr Hr2 Hx Hpk Hst]
    · isplitl [Ht]; · iexact Ht
      isplitl [Hr Hr2]
      · iapply (resPts_split d i (32 * cLo i) (32 * (cLo i + (nck i - 1))) (32 * (cLo i + nck i)) (by omega) (by omega) _).2
        isplitl [Hr]; · iexact Hr
        iapply (res_eq d i _ rfl (show 32 * (cLo i + (nck i - 1)) + 32 = 32 * (cLo i + nck i) by omega)) $$ Hr2
      isplitl [Hx]; · iexact Hx
      isplitl [Hpk]; · iexact Hpk
      iexact Hst
    isplitl [Hc Hg Hp Hs Hj]
    · isplitl [Hc]; · iexact Hc
      isplitl [Hg]; · iexists g; iexact Hg
      isplitl [Hp]; · iexists (pNew f3 P); iexact Hp
      isplitl [Hs]; · iexists (sNew f4 S); iexact Hs
      iexists f; iexact Hj
    isplitl [HI0 HI1 HO0 HO1 H7 Hq0 Hq1]
    · isplitl [HI0]; · iexact HI0
      isplitl [HI1]; · iexact HI1
      isplitl [HO0]; · iexact HO0
      isplitl [HO1]; · iexact HO1
      isplitl [H7]; · iexact H7
      isplitl [Hq0]; · iexact Hq0
      iexact Hq1
    iexists _; isplitr
    swap; · iexact HO
    ipureintro; exact insert_owed hW' _
  iapply (most_wp d i O W q T X P S (nW i) v55 hO hgood R f1 f2 f3 f4 f5)
  isplitr; · iexact Hlv
  isplitl [Ht]; · iexact Ht
  isplitl [Hr]; · iexact Hr
  isplitl [Hxs]; · iexact Hxs
  isplitl [Hpk]; · iexact Hpk
  isplitl [Hst]; · iexact Hst
  isplitl [Hc]; · iexact Hc
  isplitl [Hg]; · iexact Hg
  isplitl [Hp]; · iexact Hp
  isplitl [Hs]; · iexact Hs
  isplitl [Hj]; · iexact Hj
  isplitl [Hsem]; · iexact Hsem
  iexact HO

end

end Cert.Proof.Scatter

end
-- ==== Proof.Tile.lean ====
/-
  Every subcore's task as it is launched, and the arrays split among the subcores.
-/
module

public import proofs.«01_k».proof.Proof.Body

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## A subcore's own -/

section
variable (d : Dev nD) (L : grid0.Coords)

/-- The semaphores the program uses. -/
abbrev mySems : Finset (SemLoc sig) :=
  {sI 0, sI 1, sO 0, sO 1, SemLoc.dma cc0_scratch7.sem, SemLoc.dma cc0_scoped0.sem, SemLoc.dma cc0_scoped1.sem}

/-- The scratches it uses. -/
abbrev myRefs : Finset (Ref sig .scVector) := {cc0_scratch0, cc0_scratch1, cc0_scratch2, cc0_scratch3, cc0_scratch4}

def cellE : SemLoc sig ↪ GSem nD τ sig := ⟨fun s => (thr d L, s), fun _ _ h => (Prod.mk.inj h).2⟩
def refE : Ref sig .scVector ↪ DevRef τ sig := ⟨(Proc.scVector (cV L) (jV L)).devRef, Proc.devRef_injective (Proc.scVector (cV L) (jV L))⟩

theorem mySems_scoped : ∀ s ∈ mySems, s.isScoped .scVector = true := by decide
theorem myRefs_owner : ∀ b ∈ myRefs, ((Proc.scVector (cV L) (jV L)).devRef b).owner = .proc (Proc.scVector (cV L) (jV L)) := by
  intro b hb
  simp only [myRefs, Finset.mem_insert, Finset.mem_singleton] at hb
  rcases hb with rfl | rfl | rfl | rfl | rfl <;> rfl

theorem own_sems : ∃ Z : sProp 𝕄, (ownSems0 (thr d L) : sProp 𝕄) = iprop(semP (F := F) d L ∗ Z) := by
  refine ⟨bigSep (ownCells (thr d L) \ mySems.map (cellE d L)) fun g => semVal g 0, ?_⟩
  unfold SparseCore.Cfg.ownSems0
  rw [SparseCore.bigSep_sdiff_split' (t := mySems.map (cellE d L)) (by
    intro g hg
    obtain ⟨s, hs, rfl⟩ := Finset.mem_map.mp hg
    exact mem_ownCells.mpr ⟨rfl, mySems_scoped s hs⟩), bigSep_map,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem own_bufs : ∃ Z : sProp 𝕄, (ownBufs (thr d L) : sProp 𝕄) = iprop(ownP (F := F) d L ∗ Z) := by
  refine ⟨bigSep (ownRefs (τ := τ) (.scVector (cV L) (jV L)) \ myRefs.map (refE L)) fun b => iprop(∃ f, ((d, b) : Loc nD τ sig) ↦{fullShare} f), ?_⟩
  unfold SparseCore.Cfg.ownBufs
  rw [show (thr d L).2 = Proc.scVector (cV L) (jV L) from rfl, SparseCore.bigSep_sdiff_split' (t := myRefs.map (refE L)) (by
    intro b hb
    obtain ⟨r, hr, rfl⟩ := Finset.mem_map.mp hb
    exact SparseCore.Cfg.mem_ownRefs_of_owner (myRefs_owner L r hr)), bigSep_map,
    SparseCore.bigSep_insert' (by decide), SparseCore.bigSep_insert' (by decide), SparseCore.bigSep_insert' (by decide),
    SparseCore.bigSep_insert' (by decide), bigSep_singleton]
  rfl

variable (O : CellTallies nD τ sig (HIx 1)) (W : Waits sig (HIx 1)) (q : PosShare TreeShare)
  (T : S100000x1024.Idx → Elt F .f32) (X : S131072x128.Idx → Elt F .f32) (P : S16384.Idx → Elt F .i32) (S : S3126.Idx → Elt F .i32)

/-- The subcore's task, as it is launched. -/
theorem tile_body (hF : (K (F := F)).Facts) (hO : ∀ g, O g none = 0) (hgood : Good P S) (R : S100000x1024.Idx → Elt F .f32) :
    iprop(levAts (K (F := F)).L (K (F := F)).lev ∗ emp ∗ goP d L q T X P S R ∗ scopedBufs (thr d L) ∗ scopedSems0 (thr d L) ∗ owes (thr d L) O W)
      ⊢ wp frame (wpE (defs₀ (F := F)) 𝒱₀ (thr d L) none) Set.univ (bodyP L) fun _ =>
        iprop(goP d L q T X P S (GR T X P S) ∗ scopedBufs (thr d L) ∗ scopedSems0 (thr d L)
          ∗ ∃ W', ⌜∀ p ∈ W', p ∈ W ∨ p.2 = none⌝ ∗ owes (thr d L) O W') := by
  obtain ⟨Z1, h1⟩ := own_sems (F := F) d L
  obtain ⟨Z2, h2⟩ := own_bufs (F := F) d L
  rw [(K (F := F)).scopedBufs_V hF d (cV L) (jV L), SparseCore.Cfg.scopedSems0_V (Val := Elt F) d (cV L) (jV L), h1, h2]
  iintro ⟨#Hlv, -, Hgo, ⟨Hb, Hb'⟩, ⟨Hs, Hs'⟩, HO⟩
  iapply (wp_wand_r frame (wpE (defs₀ (F := F)) 𝒱₀ (thr d L) none) Set.univ
    (Q := fun _ => iprop(goP d L q T X P S (GR T X P S) ∗ ownP (F := F) d L ∗ semP (F := F) d L ∗ owed d L O W)))
  isplitr [Hb' Hs']
  · iapply (work_wp d L O W q T X P S hO hgood R)
    isplitr; · iexact Hlv
    isplitl [Hgo]; · iexact Hgo
    isplitl [Hb]; · iexact Hb
    isplitl [Hs]; · iexact Hs
    iexact HO
  · iintro %u ⟨Hgo, Hb, Hs, HO⟩
    isplitl [Hgo]; · iexact Hgo
    isplitl [Hb Hb']
    · isplitl [Hb]; · iexact Hb
      iexact Hb'
    isplitl [Hs Hs']
    · isplitl [Hs]; · iexact Hs
      iexact Hs'
    iexact HO

end

/-! ## Shares -/

/-- A share split among the members of a set. -/
theorem shares {I : Type} [DecidableEq I] (s : Finset I) (hs : s.Nonempty) :
    ∀ q : PosShare TreeShare, ∃ qs : I → PosShare TreeShare, ∀ (ℓ : Loc nD τ sig) (f : Buf (Elt F) ℓ),
      (ℓ ↦{q} f : sProp 𝕄) = bigSep s fun i => ℓ ↦{qs i} f := by
  induction hs using Finset.Nonempty.cons_induction with
  | singleton a => exact fun q => ⟨fun _ => q, fun ℓ f => (bigSep_singleton (i := a) (Φ := fun _ => (ℓ ↦{q} f : sProp 𝕄))).symm⟩
  | cons a s ha hs ih =>
    intro q
    obtain ⟨qs, h⟩ := ih q.right
    refine ⟨fun i => if i = a then q.left else qs i, fun ℓ f => ?_⟩
    rw [Finset.cons_eq_insert, SparseCore.bigSep_insert' ha, show (fun i => if i = a then q.left else qs i) a = q.left from if_pos rfl,
      BI.Entails.antisymm (pointsTo_share (PosShare.mem_left_op_right q)).1 (pointsTo_share (PosShare.mem_left_op_right q)).2, h ℓ f]
    congr 1
    refine bigSep_congr fun i hi => ?_
    rw [show (fun i => if i = a then q.left else qs i) i = qs i from if_neg (fun e : i = a => ha (e ▸ hi))]

/-- A subcore, by its core and its number there. -/
abbrev Who : Type := Fin 2 × Fin 16

def crd (p : Who) : grid0.Coords :=
  fun | 0 => p.1 | 1 => p.2 | ⟨_ + 2, h⟩ => absurd h (Nat.not_lt.2 (Nat.le_add_left _ _))

variable (F) in
/-- Everyone's share of what all read. -/
def qw : Who → PosShare TreeShare := (shares (F := F) (Finset.univ : Finset Who) ⟨(0, 0), Finset.mem_univ _⟩ fullShare).choose

theorem qw_eq (ℓ : Loc nD τ sig) (f : Buf (Elt F) ℓ) : (ℓ ↦{fullShare} f : sProp 𝕄) = bigSep Finset.univ fun p : Who => ℓ ↦{qw F p} f :=
  (shares (F := F) (Finset.univ : Finset Who) ⟨(0, 0), Finset.mem_univ _⟩ fullShare).choose_spec ℓ f

/-! ## Rows -/

abbrev rowsOf (p : Who) : Finset S100000x1024.Idx := rowsIn (32 * cLo (crd p)) (32 * (cLo (crd p) + nck (crd p)))

theorem apart : ∀ p q : Who, p ≠ q → cLo (crd p) + nck (crd p) ≤ cLo (crd q) ∨ cLo (crd q) + nck (crd q) ≤ cLo (crd p) := by decide +kernel

theorem rowsOf_disj : ∀ p ∈ (Finset.univ : Finset Who), ∀ q ∈ (Finset.univ : Finset Who), p ≠ q → Disjoint (rowsOf p) (rowsOf q) := by
  intro p _ q _ h
  rw [Finset.disjoint_left]
  intro x hp hq
  rw [mem_rowsIn] at hp hq
  rcases apart p q h <;> omega

theorem wid_lt (c : ℕ) (h : c < 3125) : (32 * c + 31) / 3125 < 32 := by omega

theorem rowsOf_cover : (Finset.univ : Finset Who).biUnion rowsOf = Finset.univ := by
  refine Finset.eq_univ_iff_forall.mpr fun x => Finset.mem_biUnion.mpr ?_
  have hx : (x 0).val < 100000 := (x 0).isLt
  obtain ⟨w, hw⟩ : ∃ w, w = (32 * ((x 0).val / 32) + 31) / 3125 := ⟨_, rfl⟩
  refine ⟨(⟨w % 2, by omega⟩, ⟨w / 2, by omega⟩), Finset.mem_univ _, mem_rowsIn.mpr ?_⟩
  have e : wid (crd (⟨w % 2, by omega⟩, ⟨w / 2, by omega⟩)) = w := by
    show w / 2 * 2 + w % 2 = w; omega
  unfold cLo nck
  rw [e]
  omega

/-! ## The arrays, split among the subcores and put together again -/

abbrev tabL (d : Dev nD) : Loc nD τ sig := (SparseCore.T d).loc main_v0
abbrev xL (d : Dev nD) : Loc nD τ sig := (SparseCore.T d).loc main_v2
abbrev pkL (d : Dev nD) : Loc nD τ sig := (SparseCore.T d).loc main_v7
abbrev stL (d : Dev nD) : Loc nD τ sig := (SparseCore.T d).loc main_v15
abbrev resL (d : Dev nD) : Loc nD τ sig := (SparseCore.T d).loc main_v16

variable (T : S100000x1024.Idx → Elt F .f32) (X : S131072x128.Idx → Elt F .f32) (P : S16384.Idx → Elt F .i32) (S : S3126.Idx → Elt F .i32)
  (R : S100000x1024.Idx → Elt F .f32)

abbrev allP (d : Dev nD) : sProp 𝕄 :=
  iprop((tabL d ↦{fullShare} T) ∗ (resL d ↦{fullShare} R) ∗ (xL d ↦{fullShare} X) ∗ (pkL d ↦{fullShare} P) ∗ stL d ↦{fullShare} S)

/-- Everyone's part. -/
def partOf (d : Dev nD) (p : Who) : sProp 𝕄 := goP d (crd p) (qw F p) T X P S R

theorem tab_all (d : Dev nD) : (tabL d ↦{fullShare} T : sProp 𝕄) = bigSep Finset.univ fun p : Who => tabL d ↦[rowsOf p]{fullShare} T := by
  rw [← pointsTo_biUnion Finset.univ (ℓ := tabL d) rowsOf rowsOf_disj, rowsOf_cover]; try rfl

theorem res_all (d : Dev nD) : (resL d ↦{fullShare} R : sProp 𝕄) = bigSep Finset.univ fun p : Who => resL d ↦[rowsOf p]{fullShare} R := by
  rw [← pointsTo_biUnion Finset.univ (ℓ := resL d) rowsOf rowsOf_disj, rowsOf_cover]; try rfl

theorem all_parts (d : Dev nD) :
    allP T X P S R d = bigSep Finset.univ fun c : Fin 2 => bigSep Finset.univ fun i : Fin 16 => partOf T X P S R d (c, i) := by
  rw [← bigSep_univ_prod (fun p : Who => partOf T X P S R d p)]
  unfold allP
  rw [tab_all, res_all, qw_eq (xL d), qw_eq (pkL d), qw_eq (stL d), ← bigSep_sep', ← bigSep_sep', ← bigSep_sep', ← bigSep_sep']
  rfl

/-! ## What is handed over at the launch -/

/-- The one call: everyone is given their part, the result at `R`, and gives it back with the result as it should be. -/
def Py (R : (d : Dev nD) → S100000x1024.Idx → Elt F .f32) (T : (d : Dev nD) → S100000x1024.Idx → Elt F .f32) (X : (d : Dev nD) → S131072x128.Idx → Elt F .f32)
    (P : (d : Dev nD) → S16384.Idx → Elt F .i32) (S : (d : Dev nD) → S3126.Idx → Elt F .i32) : (K (F := F)).Pay (nD := nD) (Val := Elt F) (Name := ℕ) (U := UU) where
  st := fun q d c => match q with | 0 => bigSep Finset.univ fun i : Fin 16 => partOf (T d) (X d) (P d) (S d) (R d) d (c, i)
  dn := fun q d c => match q with | 0 => bigSep Finset.univ fun i : Fin 16 => partOf (T d) (X d) (P d) (S d) (GR (T d) (X d) (P d) (S d)) d (c, i)
  go := fun q d c i => match q with | 0 => partOf (T d) (X d) (P d) (S d) (R d) d (c, i)
  td := fun q d c i => match q with | 0 => partOf (T d) (X d) (P d) (S d) (GR (T d) (X d) (P d) (S d)) d (c, i)
  x := fun _ _ => iprop(emp)

instance part_storable (d : Dev nD) (p : Who) : BI.Storable (upEmb : UEmb _ 𝕄) (partOf T X P S R d p) := by
  unfold partOf; infer_instance

variable (R : (d : Dev nD) → S100000x1024.Idx → Elt F .f32) (T : (d : Dev nD) → S100000x1024.Idx → Elt F .f32) (X : (d : Dev nD) → S131072x128.Idx → Elt F .f32)
  (P : (d : Dev nD) → S16384.Idx → Elt F .i32) (S : (d : Dev nD) → S3126.Idx → Elt F .i32)

instance Py_storable : (Py R T X P S).IsStorable where
  st q d c := match q with
    | 0 => (inferInstance : BI.Storable (upEmb : UEmb _ 𝕄) (bigSep Finset.univ fun i : Fin 16 => partOf (T d) (X d) (P d) (S d) (R d) d (c, i)))
  dn q d c := match q with
    | 0 => (inferInstance : BI.Storable (upEmb : UEmb _ 𝕄) (bigSep Finset.univ fun i : Fin 16 => partOf (T d) (X d) (P d) (S d) (GR (T d) (X d) (P d) (S d)) d (c, i)))
  go q d c i := match q with
    | 0 => (inferInstance : BI.Storable (upEmb : UEmb _ 𝕄) (partOf (T d) (X d) (P d) (S d) (R d) d (c, i)))
  td q d c i := match q with
    | 0 => (inferInstance : BI.Storable (upEmb : UEmb _ 𝕄) (partOf (T d) (X d) (P d) (S d) (GR (T d) (X d) (P d) (S d)) d (c, i)))

theorem table_vector (c : Fin τ.nSC) (s : Fin τ.nSub) :
    defs₀ (F := F) (.scVector c s) 0 () = SparseCore.onTile hcore0 hsub0 (fun c s => bodyP (crd (c, s))) ⟨⟩ c s := rfl

theorem some_more {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hgood : ∀ d, Good (P d) (S d)) : (K (F := F)).TileObl (D (F := F)) 𝒱 (Py R T X P S) v₀ 0 := by
  intro d c i O W hO _ _
  simp only [show (Py R T X P S).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [table_vector]; simp only [SparseCore.onTile, hci, and_self, ↓reduceDIte]
  exact (tile_body d (crd (⟨_, hci.1⟩, ⟨_, hci.2⟩)) O W (qw F (c, i)) (T d) (X d) (P d) (S d) hF hO (hgood d) (R d)).trans (wp_mono frame _ _ fun _ => some_more)

theorem vecSplit : (K (F := F)).VecSplit' (Py R T X P S) 0 := by
  intro d c
  show (bigSep Finset.univ fun i : Fin 16 => partOf (T d) (X d) (P d) (S d) (R d) d (c, i)) ⊢ |={Set.univ}=> iprop(
      (bigSep Finset.univ fun i : Fin 16 => partOf (T d) (X d) (P d) (S d) (R d) d (c, i))
      ∗ ((bigSep Finset.univ fun i : Fin 16 => partOf (T d) (X d) (P d) (S d) (GR (T d) (X d) (P d) (S d)) d (c, i))
          -∗ bigSep Finset.univ fun i : Fin 16 => partOf (T d) (X d) (P d) (S d) (GR (T d) (X d) (P d) (S d)) d (c, i)))
  iintro H; imodintro
  isplitl [H]; · iexact H
  iintro H; iexact H

theorem st_eq (d : Dev nD) : (bigSep Finset.univ fun c : Fin ((K (F := F)).nCore 0) => (Py R T X P S).st 0 d c) = allP (T d) (X d) (P d) (S d) (R d) d :=
  (all_parts (T d) (X d) (P d) (S d) (R d) d).symm
theorem dn_eq (d : Dev nD) : (bigSep Finset.univ fun c : Fin ((K (F := F)).nCore 0) => (Py R T X P S).dn 0 d c)
    = allP (T d) (X d) (P d) (S d) (GR (T d) (X d) (P d) (S d)) d :=
  (all_parts (T d) (X d) (P d) (S d) (GR (T d) (X d) (P d) (S d)) d).symm

end Cert.Proof.Scatter

end
-- ==== Proof.Launch.lean ====
/-
  The whole program's run: the host's work, the call, and the arrays at the end.
-/
module

public import proofs.«01_k».proof.Proof.Tile

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The host's work before the call and after it -/

abbrev hops : List (HloOp τ sig (Elt F)) :=
  [ StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F)),
    StableHlo.unary main_arg1 main_v1 ((transpose S16384x1024 [1, 0] · transposes_S1024x16384_S16384x1024_1_0) : (⟨S1024x16384, .f32⟩ : BufTy).Contents (Elt F) → (⟨S16384x1024, .f32⟩ : BufTy).Contents (Elt F)),
    StableHlo.reshape main_v1 main_v2 (rfl : (.f32 : EltTy) = .f32) shapeCasts_S16384x1024_S131072x128,
    StableHlo.nullary main_c (constantI S_ 32 14#32),
    StableHlo.unary main_c main_v3 (broadcastInDim S16384 ![] bcast_S_S16384 : (⟨S_, .i32⟩ : BufTy).Contents (Elt F) → (⟨S16384, .i32⟩ : BufTy).Contents (Elt F)),
    StableHlo.binary main_arg2 main_v3 main_v4 (Host.shli : (⟨S16384, .i32⟩ : BufTy).Contents (Elt F) → (⟨S16384, .i32⟩ : BufTy).Contents (Elt F) → (⟨S16384, .i32⟩ : BufTy).Contents (Elt F)),
    StableHlo.nullary main_v5 (iotaInDim S16384 32 0),
    StableHlo.binary main_v4 main_v5 main_v6 (ori : (⟨S16384, .i32⟩ : BufTy).Contents (Elt F) → (⟨S16384, .i32⟩ : BufTy).Contents (Elt F) → (⟨S16384, .i32⟩ : BufTy).Contents (Elt F)),
    StableHlo.unary main_v6 main_v7 (fun x => Host.sort S16384 0 comparator_i32_d0 x : (⟨S16384, .i32⟩ : BufTy).Contents (Elt F) → (⟨S16384, .i32⟩ : BufTy).Contents (Elt F)),
    StableHlo.nullary main_v8 (iotaInDim S3126 32 0),
    StableHlo.nullary main_c_0 (constantI S_ 32 32#32),
    StableHlo.unary main_c_0 main_v9 (broadcastInDim S3126 ![] bcast_S_S3126 : (⟨S_, .i32⟩ : BufTy).Contents (Elt F) → (⟨S3126, .i32⟩ : BufTy).Contents (Elt F)),
    StableHlo.binary main_v9 main_v8 main_v10 (muli : (⟨S3126, .i32⟩ : BufTy).Contents (Elt F) → (⟨S3126, .i32⟩ : BufTy).Contents (Elt F) → (⟨S3126, .i32⟩ : BufTy).Contents (Elt F)),
    StableHlo.nullary main_c_1 (constantI S_ 32 0#32),
    StableHlo.unary main_c_1 main_v11 (broadcastInDim S3126 ![] bcast_S_S3126 : (⟨S_, .i32⟩ : BufTy).Contents (Elt F) → (⟨S3126, .i32⟩ : BufTy).Contents (Elt F)),
    StableHlo.binary main_v11 main_v10 main_v12 (addi : (⟨S3126, .i32⟩ : BufTy).Contents (Elt F) → (⟨S3126, .i32⟩ : BufTy).Contents (Elt F) → (⟨S3126, .i32⟩ : BufTy).Contents (Elt F)),
    StableHlo.nullary main_c_2 (constantI S_ 32 14#32),
    StableHlo.unary main_c_2 main_v13 (broadcastInDim S3126 ![] bcast_S_S3126 : (⟨S_, .i32⟩ : BufTy).Contents (Elt F) → (⟨S3126, .i32⟩ : BufTy).Contents (Elt F)),
    StableHlo.binary main_v12 main_v13 main_v14 (Host.shli : (⟨S3126, .i32⟩ : BufTy).Contents (Elt F) → (⟨S3126, .i32⟩ : BufTy).Contents (Elt F) → (⟨S3126, .i32⟩ : BufTy).Contents (Elt F)),
    StableHlo.unary main_v14 main_call1_call0_v0 (broadcastInDim S1x3126 ![1] bcast_S3126_S1x3126_1 : (⟨S3126, .i32⟩ : BufTy).Contents (Elt F) → (⟨S1x3126, .i32⟩ : BufTy).Contents (Elt F)),
    StableHlo.unary main_v7 main_call1_call0_v1 (broadcastInDim S16384x1 ![0] bcast_S16384_S16384x1_0 : (⟨S16384, .i32⟩ : BufTy).Contents (Elt F) → (⟨S16384x1, .i32⟩ : BufTy).Contents (Elt F)),
    StableHlo.unary main_call1_call0_v1 main_call1_call0_v2 (broadcastInDim S16384x3126 ![0, 1] bcast_S16384x1_S16384x3126_0_1 : (⟨S16384x1, .i32⟩ : BufTy).Contents (Elt F) → (⟨S16384x3126, .i32⟩ : BufTy).Contents (Elt F)),
    StableHlo.unary main_call1_call0_v0 main_call1_call0_v3 (broadcastInDim S16384x3126 ![0, 1] bcast_S1x3126_S16384x3126_0_1 : (⟨S1x3126, .i32⟩ : BufTy).Contents (Elt F) → (⟨S16384x3126, .i32⟩ : BufTy).Contents (Elt F)),
    StableHlo.binary main_call1_call0_v2 main_call1_call0_v3 main_call1_call0_v4 (cmpi .slt : (⟨S16384x3126, .i32⟩ : BufTy).Contents (Elt F) → (⟨S16384x3126, .i32⟩ : BufTy).Contents (Elt F) → (⟨S16384x3126, .i1⟩ : BufTy).Contents (Elt F)),
    StableHlo.unary main_call1_call0_v4 main_call1_call0_v5 ((extui 32 · natLt_1_32) : (⟨S16384x3126, .i1⟩ : BufTy).Contents (Elt F) → (⟨S16384x3126, .i32⟩ : BufTy).Contents (Elt F)),
    StableHlo.nullary main_call1_call0_c (constantI S_ 32 0#32),
    StableHlo.binary main_call1_call0_v5 main_call1_call0_c main_v15 (fun x v => Host.reduce IntOp.addi x v reducesTo_S16384x3126_S3126_d0 h_S_ : (⟨S16384x3126, .i32⟩ : BufTy).Contents (Elt F) → (⟨S_, .i32⟩ : BufTy).Contents (Elt F) → (⟨S3126, .i32⟩ : BufTy).Contents (Elt F)) ]

abbrev opT : HloOp τ sig (Elt F) := StableHlo.unary main_v16 main_v17 ((transpose S1024x100000 [1, 0] · transposes_S100000x1024_S1024x100000_1_0) : (⟨S100000x1024, .f32⟩ : BufTy).Contents (Elt F) → (⟨S1024x100000, .f32⟩ : BufTy).Contents (Elt F))

/-- The last of the host's operations, whatever it computes. -/
theorem last_eq (f : (⟨S16384x3126, .i32⟩ : BufTy).Contents (Elt F) → (⟨S_, .i32⟩ : BufTy).Contents (Elt F) → (⟨S3126, .i32⟩ : BufTy).Contents (Elt F)) :
    (StableHlo.TRef.binary main_call1_call0.v5 main_call1_call0.c main_call1_call0.v6 f : HloOp τ sig (Elt F)) = StableHlo.binary main_call1_call0_v5 main_call1_call0_c main_v15 f := rfl

theorem main_split (d : Dev nD) :
    main (F := F) d = StableHlo.seqK ([StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F)),
    StableHlo.unary main_arg1 main_v1 ((transpose S16384x1024 [1, 0] · transposes_S1024x16384_S16384x1024_1_0) : (⟨S1024x16384, .f32⟩ : BufTy).Contents (Elt F) → (⟨S16384x1024, .f32⟩ : BufTy).Contents (Elt F)),
    StableHlo.reshape main_v1 main_v2 (rfl : (.f32 : EltTy) = .f32) shapeCasts_S16384x1024_S131072x128,
    StableHlo.nullary main_c (constantI S_ 32 14#32),
    StableHlo.unary main_c main_v3 (broadcastInDim S16384 ![] bcast_S_S16384 : (⟨S_, .i32⟩ : BufTy).Contents (Elt F) → (⟨S16384, .i32⟩ : BufTy).Contents (Elt F)),
    StableHlo.binary main_arg2 main_v3 main_v4 (Host.shli : (⟨S16384, .i32⟩ : BufTy).Contents (Elt F) → (⟨S16384, .i32⟩ : BufTy).Contents (Elt F) → (⟨S16384, .i32⟩ : BufTy).Contents (Elt F)),
    StableHlo.nullary main_v5 (iotaInDim S16384 32 0),
    StableHlo.binary main_v4 main_v5 main_v6 (ori : (⟨S16384, .i32⟩ : BufTy).Contents (Elt F) → (⟨S16384, .i32⟩ : BufTy).Contents (Elt F) → (⟨S16384, .i32⟩ : BufTy).Contents (Elt F)),
    StableHlo.unary main_v6 main_v7 (fun x => Host.sort S16384 0 comparator_i32_d0 x : (⟨S16384, .i32⟩ : BufTy).Contents (Elt F) → (⟨S16384, .i32⟩ : BufTy).Contents (Elt F)),
    StableHlo.nullary main_v8 (iotaInDim S3126 32 0),
    StableHlo.nullary main_c_0 (constantI S_ 32 32#32),
    StableHlo.unary main_c_0 main_v9 (broadcastInDim S3126 ![] bcast_S_S3126 : (⟨S_, .i32⟩ : BufTy).Contents (Elt F) → (⟨S3126, .i32⟩ : BufTy).Contents (Elt F)),
    StableHlo.binary main_v9 main_v8 main_v10 (muli : (⟨S3126, .i32⟩ : BufTy).Contents (Elt F) → (⟨S3126, .i32⟩ : BufTy).Contents (Elt F) → (⟨S3126, .i32⟩ : BufTy).Contents (Elt F)),
    StableHlo.nullary main_c_1 (constantI S_ 32 0#32),
    StableHlo.unary main_c_1 main_v11 (broadcastInDim S3126 ![] bcast_S_S3126 : (⟨S_, .i32⟩ : BufTy).Contents (Elt F) → (⟨S3126, .i32⟩ : BufTy).Contents (Elt F)),
    StableHlo.binary main_v11 main_v10 main_v12 (addi : (⟨S3126, .i32⟩ : BufTy).Contents (Elt F) → (⟨S3126, .i32⟩ : BufTy).Contents (Elt F) → (⟨S3126, .i32⟩ : BufTy).Contents (Elt F)),
    StableHlo.nullary main_c_2 (constantI S_ 32 14#32),
    StableHlo.unary main_c_2 main_v13 (broadcastInDim S3126 ![] bcast_S_S3126 : (⟨S_, .i32⟩ : BufTy).Contents (Elt F) → (⟨S3126, .i32⟩ : BufTy).Contents (Elt F)),
    StableHlo.binary main_v12 main_v13 main_v14 (Host.shli : (⟨S3126, .i32⟩ : BufTy).Contents (Elt F) → (⟨S3126, .i32⟩ : BufTy).Contents (Elt F) → (⟨S3126, .i32⟩ : BufTy).Contents (Elt F)),
    StableHlo.unary main_v14 main_call1_call0_v0 (broadcastInDim S1x3126 ![1] bcast_S3126_S1x3126_1 : (⟨S3126, .i32⟩ : BufTy).Contents (Elt F) → (⟨S1x3126, .i32⟩ : BufTy).Contents (Elt F)),
    StableHlo.unary main_v7 main_call1_call0_v1 (broadcastInDim S16384x1 ![0] bcast_S16384_S16384x1_0 : (⟨S16384, .i32⟩ : BufTy).Contents (Elt F) → (⟨S16384x1, .i32⟩ : BufTy).Contents (Elt F)),
    StableHlo.unary main_call1_call0_v1 main_call1_call0_v2 (broadcastInDim S16384x3126 ![0, 1] bcast_S16384x1_S16384x3126_0_1 : (⟨S16384x1, .i32⟩ : BufTy).Contents (Elt F) → (⟨S16384x3126, .i32⟩ : BufTy).Contents (Elt F)),
    StableHlo.unary main_call1_call0_v0 main_call1_call0_v3 (broadcastInDim S16384x3126 ![0, 1] bcast_S1x3126_S16384x3126_0_1 : (⟨S1x3126, .i32⟩ : BufTy).Contents (Elt F) → (⟨S16384x3126, .i32⟩ : BufTy).Contents (Elt F)),
    StableHlo.binary main_call1_call0_v2 main_call1_call0_v3 main_call1_call0_v4 (cmpi .slt : (⟨S16384x3126, .i32⟩ : BufTy).Contents (Elt F) → (⟨S16384x3126, .i32⟩ : BufTy).Contents (Elt F) → (⟨S16384x3126, .i1⟩ : BufTy).Contents (Elt F)),
    StableHlo.unary main_call1_call0_v4 main_call1_call0_v5 ((extui 32 · natLt_1_32) : (⟨S16384x3126, .i1⟩ : BufTy).Contents (Elt F) → (⟨S16384x3126, .i32⟩ : BufTy).Contents (Elt F)),
    StableHlo.nullary main_call1_call0_c (constantI S_ 32 0#32),
    StableHlo.TRef.binary main_call1_call0.v5 main_call1_call0.c main_call1_call0.v6 (fun x v => Host.reduce IntOp.addi x v reducesTo_S16384x3126_S3126_d0 h_S_)] : List (HloOp τ sig (Elt F))) ((K (F := F)).run d 0 >>= fun _ => hlo rfl opT (fun _ => .ret (⟨⟩ : PUnit)) >>= fun _ => pure ⟨⟩) := rfl

theorem main_eq (d : Dev nD) :
    main (F := F) d = StableHlo.seqK hops ((K (F := F)).run d 0 >>= fun _ => hlo rfl opT (fun _ => .ret (⟨⟩ : PUnit)) >>= fun _ => pure ⟨⟩) := by
  rw [main_split, last_eq]

theorem hops_tc : (hops : List (HloOp τ sig (Elt F))).Forall fun op => op.bufs ⊆ StableHlo.tcRefs τ sig :=
  ⟨StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub ..⟩
theorem hops_sub : ∀ op ∈ (hops : List (HloOp τ sig (Elt F))), op.bufs ⊆ Pipeline.ucRefs τ sig :=
  fun op h => Pipeline.sub_ucRefs op (List.forall_iff_forall_mem.mp hops_tc op h)

theorem hops_new : (hops : List (HloOp τ sig (Elt F))).map HloOp.fresh = List.replicate 27 ∅ := rfl
theorem hops_fresh : ∀ op ∈ (hops : List (HloOp τ sig (Elt F))), op.fresh = ∅ :=
  fun op h => List.eq_of_mem_replicate (hops_new (F := F) ▸ List.mem_map_of_mem h)

theorem opT_sub : (opT (F := F)).bufs ⊆ Pipeline.ucRefs τ sig :=
  show ({Proc.devRef .tc (main_v16 : Ref sig .tc), Proc.devRef .tc (main_v17 : Ref sig .tc)} : Finset (DevRef τ sig)) ⊆ _ by decide

/-! ## The arrays -/

abbrev rT : DevRef τ sig := Proc.devRef .tc (main_v0 : Ref sig .tc)
abbrev rX : DevRef τ sig := Proc.devRef .tc (main_v2 : Ref sig .tc)
abbrev rP : DevRef τ sig := Proc.devRef .tc (main_v7 : Ref sig .tc)
abbrev rS : DevRef τ sig := Proc.devRef .tc (main_v15 : Ref sig .tc)
abbrev rR : DevRef τ sig := Proc.devRef .tc (main_v16 : Ref sig .tc)
abbrev rO : DevRef τ sig := Proc.devRef .tc (main_v17 : Ref sig .tc)
abbrev rA : DevRef τ sig := Proc.devRef .tc (main_arg0 : Ref sig .tc)
abbrev rB : DevRef τ sig := Proc.devRef .tc (main_arg1 : Ref sig .tc)
abbrev rC : DevRef τ sig := Proc.devRef .tc (main_arg2 : Ref sig .tc)

abbrev five : Finset (DevRef τ sig) := {rT, rR, rX, rP, rS}
abbrev four : Finset (DevRef τ sig) := {rA, rB, rC, rO}
theorem five_sub : five ⊆ Pipeline.ucRefs τ sig := by decide
theorem four_sub : four ⊆ Pipeline.ucRefs τ sig := by decide

abbrev rest (d : Dev nD) (W : Valuation τ sig (Elt F)) : sProp 𝕄 := StableHlo.held (SparseCore.T d) (Pipeline.ucRefs τ sig \ five) W

theorem held_five (d : Dev nD) (W : Valuation τ sig (Elt F)) :
    (StableHlo.held (SparseCore.T d) (Pipeline.ucRefs τ sig) W : sProp 𝕄) = iprop(allP (W rT) (W rX) (W rP) (W rS) (W rR) d ∗ rest d W) := by
  rw [StableHlo.held_sub_split (SparseCore.T d) five_sub]
  congr 1
  unfold StableHlo.held
  rw [SparseCore.bigSep_insert' (by decide), SparseCore.bigSep_insert' (by decide), SparseCore.bigSep_insert' (by decide),
    SparseCore.bigSep_insert' (by decide), bigSep_singleton]

/-- The arguments and the result. -/
abbrev kept (d : Dev nD) (W : Valuation τ sig (Elt F)) : sProp 𝕄 :=
  iprop(((SparseCore.T d).loc main_arg0 ↦{fullShare} W rA) ∗ ((SparseCore.T d).loc main_arg1 ↦{fullShare} W rB)
    ∗ ((SparseCore.T d).loc main_arg2 ↦{fullShare} W rC) ∗ (SparseCore.T d).loc main_v17 ↦{fullShare} W rO)

theorem held_four (d : Dev nD) (W : Valuation τ sig (Elt F)) :
    (StableHlo.held (SparseCore.T d) (Pipeline.ucRefs τ sig) W : sProp 𝕄) = iprop(kept d W ∗ StableHlo.held (SparseCore.T d) (Pipeline.ucRefs τ sig \ four) W) := by
  rw [StableHlo.held_sub_split (SparseCore.T d) four_sub]
  congr 1
  unfold StableHlo.held
  rw [SparseCore.bigSep_insert' (by decide), SparseCore.bigSep_insert' (by decide), SparseCore.bigSep_insert' (by decide), bigSep_singleton]

variable (m : (ℓ : Loc nD τ sig) → Buf (Elt F) ℓ) (ρ : Dev nD → PrngReg)

/-- What the device's arrays hold at first, before the call, after it, and at the end. -/
def V0 (d : Dev nD) : Valuation τ sig (Elt F) := fun b => m (d, b)
def V1 (d : Dev nD) : Valuation τ sig (Elt F) := StableHlo.after hops (V0 m d)
abbrev mT (d : Dev nD) : S100000x1024.Idx → Elt F .f32 := V1 m d rT
abbrev mX (d : Dev nD) : S131072x128.Idx → Elt F .f32 := V1 m d rX
abbrev mP (d : Dev nD) : S16384.Idx → Elt F .i32 := V1 m d rP
abbrev mS (d : Dev nD) : S3126.Idx → Elt F .i32 := V1 m d rS
abbrev mR (d : Dev nD) : S100000x1024.Idx → Elt F .f32 := V1 m d rR
abbrev mG (d : Dev nD) : S100000x1024.Idx → Elt F .f32 := GR (mT m d) (mX m d) (mP m d) (mS m d)
def V2 (d : Dev nD) : Valuation τ sig (Elt F) := Function.update (V1 m d) rR (mG m d)
def V3 (d : Dev nD) : Valuation τ sig (Elt F) := (opT (F := F)).result (V2 m d)

abbrev PY : (K (F := F)).Pay (nD := nD) (Val := Elt F) (Name := ℕ) (U := UU) := Py (mR m) (mT m) (mX m) (mP m) (mS m)

theorem held_V2 (d : Dev nD) : (StableHlo.held (SparseCore.T d) (Pipeline.ucRefs τ sig) (V2 m d) : sProp 𝕄)
    = iprop(allP (mT m d) (mX m d) (mP m d) (mS m d) (mG m d) d ∗ rest d (V1 m d)) := by
  rw [held_five]
  have e : ∀ b : DevRef τ sig, b ≠ rR → V2 m d b = V1 m d b := fun b h => Function.update_of_ne h _ _
  have eR : V2 m d rR = mG m d := Function.update_self _ _ _
  rw [e rT (by decide), e rX (by decide), e rP (by decide), e rS (by decide), eR]
  refine congrArg (fun Q : sProp 𝕄 => iprop(allP (mT m d) (mX m d) (mP m d) (mS m d) (mG m d) d ∗ Q)) ?_
  refine StableHlo.held_congr (SparseCore.T d) fun b hb => e b fun h => ?_
  subst h
  exact (Finset.mem_sdiff.mp hb).2 (by decide)

/-! ## The launch -/

def u₀ : UU := (initOf (K (F := F)).hsCells (K (F := F)).hsToks, 1)

omit [FloatOps F] in
theorem none_held {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (PY m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_held]; iempintro
  rw [show (bigSep Finset.univ fun t : Thread nD τ => bigSep Finset.univ fun q : Fin 1 => (PY (F := F) m).x q t) = bigSep Finset.univ fun _ => iprop(emp) from
    bigSep_congr fun _ _ => bigSep_univ_of_subsingleton (0 : Fin 1), none_held]
  iempintro

/-- What the host does, with the call. -/
theorem hmain (κ : GSem nD τ sig → ℕ) (d : Dev nD) :
    iprop((K (F := F)).ctx EH (PY m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ kept d (V3 m d) ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V0 m d) from
    Pipeline.unscopedBufs_held d (V0 m d), main_eq, ← StableHlo.seq_bind_seqK]
  iintro ⟨#Hctx, Hst, ⟨Hb, Hheld, Hts, -⟩, -⟩
  iapply (StableHlo.wp_seq (defs := (K (F := F)).defs (D (F := F))) (𝒱 := 𝒱) (bd := none) (E := Set.univ) d (Pipeline.ucRefs τ sig) _ hops hops_sub hops_fresh (V0 m d)) $$ [Hb Hheld]
  · isplitl [Hb]; · iexact Hb
    iexact Hheld
  iintro ⟨Hb, Hheld⟩
  ihave Hh := (Entails.of_eq (show (StableHlo.held d.tc (Pipeline.ucRefs τ sig) (StableHlo.after hops (V0 m d)) : sProp 𝕄)
    = iprop(allP (mT m d) (mX m d) (mP m d) (mS m d) (mR m d) d ∗ rest d (V1 m d)) from held_five (F := F) d (V1 m d))) $$ Hheld
  icases Hh with ⟨H5, Hrest⟩
  rw [wp_bind]
  iapply ((K (F := F)).wp_run (D (F := F)) 𝒱 (EH := EH) (P := PY m) κ d 0) $$ [Hst H5 Hb Hrest Hts]
  isplitr; · iexact Hctx
  isplitl [Hst]; · iexact Hst
  isplitl [H5]
  · rw [st_eq]; iexact H5
  iintro ⟨Hst, Hdn⟩
  ihave H5 := (Entails.of_eq (dn_eq (mR m) (mT m) (mX m) (mP m) (mS m) d)) $$ Hdn
  rw [wp_bind]
  iapply (StableHlo.wp_hlo_within 𝒱 (SparseCore.T d) none Set.univ (op := opT) (S := Pipeline.ucRefs τ sig) opT_sub (V := V2 m d)) $$ [Hb H5 Hrest]
  · isplitl [Hb]; · iexact Hb
    rw [held_V2]
    isplitl [H5]; · iexact H5
    iexact Hrest
  iintro ⟨Hb, Hheld⟩
  ihave Hh := (Entails.of_eq (show (StableHlo.held (SparseCore.T d) (Pipeline.ucRefs τ sig) ((opT (F := F)).result (V2 m d)) : sProp 𝕄)
    = iprop(kept d (V3 m d) ∗ StableHlo.held (SparseCore.T d) (Pipeline.ucRefs τ sig \ four) (V3 m d)) from held_four (F := F) d (V3 m d))) $$ Hheld
  icases Hh with ⟨Hk, -⟩
  rw [wp_ret]; imodintro
  rw [wp_pure]; imodintro
  isplitl [Hst]; · iexact Hst
  isplitl [Hk]; · iexact Hk
  isplitl [Hb] <;> iassumption

/-- What is known of the memory at the end. -/
def fq (d : Dev nD) (s' : Phys nD τ sig (Elt F)) : Prop :=
  (s'.mem.mem ((SparseCore.T d).loc main_arg0) = V3 m d rA ∧ s'.mem.mem ((SparseCore.T d).loc main_arg1) = V3 m d rB)
    ∧ s'.mem.mem ((SparseCore.T d).loc main_arg2) = V3 m d rC ∧ s'.mem.mem ((SparseCore.T d).loc main_v17) = V3 m d rO

theorem agree (s' : Phys nD τ sig (Elt F)) (ℓ : Loc nD τ sig) (f : Buf (Elt F) ℓ) : iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(kept d (V3 m d) ∗ SI s') ⊢ (⌜fq m d s'⌝ : sProp 𝕄) := by
  iintro ⟨⟨H0, H1, H2, H3⟩, HSI⟩
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [H2 HSI]
  · isplitl [H2] <;> iassumption
  icases H with ⟨%h2, HSI⟩
  ihave H := (agree s' _ _) $$ [H3 HSI]
  · isplitl [H3] <;> iassumption
  icases H with ⟨%h3, HSI⟩
  ipureintro; exact ⟨⟨h0, h1⟩, h2, h3⟩

/-- The program's run, were the lists as the subcores need them. -/
theorem run_main [∀ e, Nonempty (Elt F e)] (hgood : ∀ d, Good (mP m d) (mS m d)) :
    θ_run (Cert.KernelIdeal.defs (F := F)) (Cert.KernelIdeal.threads (F := F)) ⟨m, fun _ => 0, ρ⟩
      (fun r => (∀ d : Dev nD,
        (r.2.mem ((SparseCore.T d).loc main_arg0) = V3 m d rA ∧ r.2.mem ((SparseCore.T d).loc main_arg1) = V3 m d rB)
          ∧ r.2.mem ((SparseCore.T d).loc main_arg2) = V3 m d rC ∧ r.2.mem ((SparseCore.T d).loc main_v17) = V3 m d rO) ∧ r.2.sem = fun _ => 0) :=
  SparseCore.Cfg.θ_run_sc_quiescent (K := K (F := F)) (D := D (F := F)) (𝒱 := 𝒱) (EH := EH) (P := PY m) (A := ∅) facts v₀
    (fun q hq => match q with | 0 => nomatch hq)
    (fun q _ => match q with | 0 => tileObl (mR m) (mT m) (mX m) (mP m) (mS m) facts hgood)
    (fun q _ => match q with | 0 => SparseCore.Cfg.VecSplit.of_plain (vecSplit (mR m) (mT m) (mX m) (mP m) (mS m)))
    m ρ main (fun _ => iprop(emp)) (fun d => kept d (V3 m d)) (u₀ (F := F)) (sep_elim_left.trans (hu₀ m)) (hmain m ρ) (fq m) (hfin m) _ (fun _ h hz => ⟨h, hz⟩)

end Cert.Proof.Scatter

end
-- ==== Proof.Values.lean ====
/-
  What the host's operations leave in the arrays.
-/
module

public import proofs.«01_k».proof.Proof.Launch
public import Idealize.ShloMosaic.Lib.StableHlo.RunRead

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (d : Dev nD)

/-- The host's operations before the sort. -/
abbrev early : List (HloOp τ sig (Elt F)) :=
  [ StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F)),
    StableHlo.unary main_arg1 main_v1 ((transpose S16384x1024 [1, 0] · transposes_S1024x16384_S16384x1024_1_0) : (⟨S1024x16384, .f32⟩ : BufTy).Contents (Elt F) → (⟨S16384x1024, .f32⟩ : BufTy).Contents (Elt F)),
    StableHlo.reshape main_v1 main_v2 (rfl : (.f32 : EltTy) = .f32) shapeCasts_S16384x1024_S131072x128,
    StableHlo.nullary main_c (constantI S_ 32 14#32),
    StableHlo.unary main_c main_v3 (broadcastInDim S16384 ![] bcast_S_S16384 : (⟨S_, .i32⟩ : BufTy).Contents (Elt F) → (⟨S16384, .i32⟩ : BufTy).Contents (Elt F)),
    StableHlo.binary main_arg2 main_v3 main_v4 (Host.shli : (⟨S16384, .i32⟩ : BufTy).Contents (Elt F) → (⟨S16384, .i32⟩ : BufTy).Contents (Elt F) → (⟨S16384, .i32⟩ : BufTy).Contents (Elt F)),
    StableHlo.nullary main_v5 (iotaInDim S16384 32 0),
    StableHlo.binary main_v4 main_v5 main_v6 (ori : (⟨S16384, .i32⟩ : BufTy).Contents (Elt F) → (⟨S16384, .i32⟩ : BufTy).Contents (Elt F) → (⟨S16384, .i32⟩ : BufTy).Contents (Elt F)) ]

/-- Those after the sort, the last left out. -/
abbrev late : List (HloOp τ sig (Elt F)) :=
  [ StableHlo.nullary main_v8 (iotaInDim S3126 32 0),
    StableHlo.nullary main_c_0 (constantI S_ 32 32#32),
    StableHlo.unary main_c_0 main_v9 (broadcastInDim S3126 ![] bcast_S_S3126 : (⟨S_, .i32⟩ : BufTy).Contents (Elt F) → (⟨S3126, .i32⟩ : BufTy).Contents (Elt F)),
    StableHlo.binary main_v9 main_v8 main_v10 (muli : (⟨S3126, .i32⟩ : BufTy).Contents (Elt F) → (⟨S3126, .i32⟩ : BufTy).Contents (Elt F) → (⟨S3126, .i32⟩ : BufTy).Contents (Elt F)),
    StableHlo.nullary main_c_1 (constantI S_ 32 0#32),
    StableHlo.unary main_c_1 main_v11 (broadcastInDim S3126 ![] bcast_S_S3126 : (⟨S_, .i32⟩ : BufTy).Contents (Elt F) → (⟨S3126, .i32⟩ : BufTy).Contents (Elt F)),
    StableHlo.binary main_v11 main_v10 main_v12 (addi : (⟨S3126, .i32⟩ : BufTy).Contents (Elt F) → (⟨S3126, .i32⟩ : BufTy).Contents (Elt F) → (⟨S3126, .i32⟩ : BufTy).Contents (Elt F)),
    StableHlo.nullary main_c_2 (constantI S_ 32 14#32),
    StableHlo.unary main_c_2 main_v13 (broadcastInDim S3126 ![] bcast_S_S3126 : (⟨S_, .i32⟩ : BufTy).Contents (Elt F) → (⟨S3126, .i32⟩ : BufTy).Contents (Elt F)),
    StableHlo.binary main_v12 main_v13 main_v14 (Host.shli : (⟨S3126, .i32⟩ : BufTy).Contents (Elt F) → (⟨S3126, .i32⟩ : BufTy).Contents (Elt F) → (⟨S3126, .i32⟩ : BufTy).Contents (Elt F)),
    StableHlo.unary main_v14 main_call1_call0_v0 (broadcastInDim S1x3126 ![1] bcast_S3126_S1x3126_1 : (⟨S3126, .i32⟩ : BufTy).Contents (Elt F) → (⟨S1x3126, .i32⟩ : BufTy).Contents (Elt F)),
    StableHlo.unary main_v7 main_call1_call0_v1 (broadcastInDim S16384x1 ![0] bcast_S16384_S16384x1_0 : (⟨S16384, .i32⟩ : BufTy).Contents (Elt F) → (⟨S16384x1, .i32⟩ : BufTy).Contents (Elt F)),
    StableHlo.unary main_call1_call0_v1 main_call1_call0_v2 (broadcastInDim S16384x3126 ![0, 1] bcast_S16384x1_S16384x3126_0_1 : (⟨S16384x1, .i32⟩ : BufTy).Contents (Elt F) → (⟨S16384x3126, .i32⟩ : BufTy).Contents (Elt F)),
    StableHlo.unary main_call1_call0_v0 main_call1_call0_v3 (broadcastInDim S16384x3126 ![0, 1] bcast_S1x3126_S16384x3126_0_1 : (⟨S1x3126, .i32⟩ : BufTy).Contents (Elt F) → (⟨S16384x3126, .i32⟩ : BufTy).Contents (Elt F)),
    StableHlo.binary main_call1_call0_v2 main_call1_call0_v3 main_call1_call0_v4 (cmpi .slt : (⟨S16384x3126, .i32⟩ : BufTy).Contents (Elt F) → (⟨S16384x3126, .i32⟩ : BufTy).Contents (Elt F) → (⟨S16384x3126, .i1⟩ : BufTy).Contents (Elt F)),
    StableHlo.unary main_call1_call0_v4 main_call1_call0_v5 ((extui 32 · natLt_1_32) : (⟨S16384x3126, .i1⟩ : BufTy).Contents (Elt F) → (⟨S16384x3126, .i32⟩ : BufTy).Contents (Elt F)),
    StableHlo.nullary main_call1_call0_c (constantI S_ 32 0#32) ]

abbrev sortOp : HloOp τ sig (Elt F) := StableHlo.unary main_v6 main_v7 (fun x => Host.sort S16384 0 comparator_i32_d0 x : (⟨S16384, .i32⟩ : BufTy).Contents (Elt F) → (⟨S16384, .i32⟩ : BufTy).Contents (Elt F))

abbrev lastOp : HloOp τ sig (Elt F) := StableHlo.binary main_call1_call0_v5 main_call1_call0_c main_v15 (fun x v => Host.reduce IntOp.addi x v reducesTo_S16384x3126_S3126_d0 h_S_ : (⟨S16384x3126, .i32⟩ : BufTy).Contents (Elt F) → (⟨S_, .i32⟩ : BufTy).Contents (Elt F) → (⟨S3126, .i32⟩ : BufTy).Contents (Elt F))

theorem hops_split : (hops : List (HloOp τ sig (Elt F))) = early ++ sortOp :: (late ++ [lastOp]) := rfl

/-! ## What the host computes -/

/-- The words that the host sorts: a destination row shifted, with the entry's own number below it. -/
abbrev words (i : IVec S16384 32) : IVec S16384 32 :=
  ori (Host.shli i (broadcastInDim S16384 ![] bcast_S_S16384 (constantI S_ 32 14#32))) (iotaInDim S16384 32 0)

/-- The words that the chunks' first entries are found by. -/
abbrev edges : IVec S3126 32 :=
  Host.shli (addi (broadcastInDim S3126 ![] bcast_S_S3126 (constantI S_ 32 0#32)) (muli (broadcastInDim S3126 ![] bcast_S_S3126 (constantI S_ 32 32#32)) (iotaInDim S3126 32 0)))
    (broadcastInDim S3126 ![] bcast_S_S3126 (constantI S_ 32 14#32))

abbrev argA : S1024x100000.Idx → Elt F .f32 := m ((SparseCore.T d).loc main_arg0)
abbrev argB : S1024x16384.Idx → Elt F .f32 := m ((SparseCore.T d).loc main_arg1)
abbrev argC : IVec S16384 32 := m ((SparseCore.T d).loc main_arg2)

theorem mT_eq : mT m d = transpose S100000x1024 [1, 0] (argA m d) transposes_S1024x100000_S100000x1024_1_0 := by
  show StableHlo.after hops (V0 m d) rT = _
  after_reads_simp
  rfl

theorem mX_eq : mX m d = shapeCast S131072x128 (transpose S16384x1024 [1, 0] (argB m d) transposes_S1024x16384_S16384x1024_1_0) shapeCasts_S16384x1024_S131072x128 := by
  show StableHlo.after hops (V0 m d) rX = _
  after_reads_simp
  rfl

/-- What the arrays hold after the sort. -/
def VS : Valuation τ sig (Elt F) := (sortOp (F := F)).result (StableHlo.after early (V0 m d))

theorem V1_eq : V1 m d = (lastOp (F := F)).result (StableHlo.after late (VS m d)) := by
  unfold V1 VS
  rw [hops_split, StableHlo.after_append, StableHlo.after_cons, StableHlo.after_append, StableHlo.after_cons, StableHlo.after_nil]

theorem VS_P : (VS m d rP : IVec S16384 32) = Host.sort S16384 0 comparator_i32_d0 (words (argC m d)) := by
  unfold VS
  rw [StableHlo.unary_result']
  after_reads_simp
  rfl

theorem mP_eq : mP m d = Host.sort S16384 0 comparator_i32_d0 (words (argC m d)) := by
  show V1 m d rP = _
  rw [V1_eq, StableHlo.binary_result_ne' (h := by decide), ← VS_P]
  generalize VS m d = W
  after_reads_simp

theorem mS_eq : mS m d = Host.reduce IntOp.addi (extui 32 (cmpi .slt
      (broadcastInDim S16384x3126 ![0, 1] bcast_S16384x1_S16384x3126_0_1 (broadcastInDim S16384x1 ![0] bcast_S16384_S16384x1_0 (mP m d)))
      (broadcastInDim S16384x3126 ![0, 1] bcast_S1x3126_S16384x3126_0_1 (broadcastInDim S1x3126 ![1] bcast_S3126_S1x3126_1 edges))) natLt_1_32)
    (constantI S_ 32 0#32) reducesTo_S16384x3126_S3126_d0 h_S_ := by
  rw [mP_eq, ← VS_P]
  show V1 m d rS = _
  rw [V1_eq, StableHlo.binary_result']
  generalize VS m d = W
  after_reads_simp

/-- An array that only the host's first operations may have changed. -/
theorem V3_of (r : Ref sig .tc) (h : r ≠ main_v17) (h' : (Proc.devRef .tc r : DevRef τ sig) ≠ rR) : V3 m d (Proc.devRef .tc r) = V1 m d (Proc.devRef .tc r) := by
  unfold V3 V2
  rw [StableHlo.unary_result_ne' (h := h), Function.update_of_ne h']

theorem V3_A : V3 m d rA = argA m d := by
  rw [V3_of m d main_arg0 (by decide) (by decide)]
  show StableHlo.after hops (V0 m d) _ = _
  after_reads_simp
  rfl

theorem V3_B : V3 m d rB = argB m d := by
  rw [V3_of m d main_arg1 (by decide) (by decide)]
  show StableHlo.after hops (V0 m d) _ = _
  after_reads_simp
  rfl

theorem V3_C : V3 m d rC = argC m d := by
  rw [V3_of m d main_arg2 (by decide) (by decide)]
  show StableHlo.after hops (V0 m d) _ = _
  after_reads_simp
  rfl

theorem V3_O : V3 m d rO = transpose S1024x100000 [1, 0] (mG m d) transposes_S100000x1024_S1024x100000_1_0 := by
  unfold V3
  rw [StableHlo.unary_result']
  unfold V2
  rw [show Function.update (V1 m d) rR (mG m d) (Proc.devRef .tc main_v16) = mG m d from Function.update_self _ _ _]

end Cert.Proof.Scatter

end
-- ==== Proof.Order.lean ====
/-
  The host's lists: sorted words, and where each chunk begins among them.
-/
module

public import proofs.«01_k».proof.Proof.Values
public import Idealize.ShloMosaic.Lib.SortFacts
public import Idealize.ShloMosaic.Lib.Pointwise.Reduce
public import Idealize.ShloMosaic.PureOps.Reduce

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Counting -/

/-- Ones and zeros added up as words are the number of ones. -/
theorem ones_sum {ι : Type} [DecidableEq ι] (p : ι → Bool) (s : Finset ι) (h : s.card < 2 ^ 32) :
    (s.fold IntOp.addi 0#32 fun k => (BitVec.ofBool (p k)).setWidth 32).toNat = (s.filter fun k => p k = true).card := by
  induction s using Finset.induction_on with
  | empty => rfl
  | insert a s ha ih =>
    rw [Finset.card_insert_of_notMem ha] at h
    have hs : (s.filter fun k => p k = true).card ≤ s.card := Finset.card_filter_le _ _
    rw [Finset.fold_insert ha, Finset.filter_insert]
    show (((BitVec.ofBool (p a)).setWidth 32) + _ : BitVec 32).toNat = _
    rw [BitVec.toNat_add, ih (by omega)]
    cases hp : p a
    · simp; omega
    · rw [if_pos rfl, Finset.card_insert_of_notMem (by simp [ha])]
      simp; omega

/-- Of values that go up, those below a bound come first, as many as there are. -/
theorem below_iff {n : ℕ} (f : Fin n → ℤ) (hf : Monotone f) (a : ℤ) (e : Fin n) :
    e.val < (Finset.univ.filter fun k => f k < a).card ↔ f e < a := by
  constructor
  · intro h
    by_contra hn
    have hsub : (Finset.univ.filter fun k => f k < a) ⊆ Finset.Iio e := fun k hk => by
      rw [Finset.mem_filter] at hk
      rw [Finset.mem_Iio]
      by_contra hk'
      exact hn (lt_of_le_of_lt (hf (not_lt.mp hk')) hk.2)
    have := Finset.card_le_card hsub
    rw [Fin.card_Iio] at this
    omega
  · intro h
    have hsub : Finset.Iic e ⊆ (Finset.univ.filter fun k => f k < a) := fun k hk => by
      rw [Finset.mem_filter]
      exact ⟨Finset.mem_univ _, lt_of_le_of_lt (hf (Finset.mem_Iic.mp hk)) h⟩
    have := Finset.card_le_card hsub
    rw [Fin.card_Iic] at this
    omega

/-! ## The sort -/

/-- Where the sort takes the entry at each place from. -/
def src (x : IVec S16384 32) : Fin 16384 → Fin 16384 :=
  sortedFrom fun k k' => comparator_i32_d0 (x (ValueIdx.ix1 k)) (x (ValueIdx.ix1 k')) == 1#1

theorem src_bij (x : IVec S16384 32) : Function.Bijective (src x) := ⟨sortedFrom_injective _, sortedFrom_surjective _⟩

theorem along_eq (e k : Fin 16384) : (ValueIdx.ix1 e : S16384.Idx).along 0 k = ValueIdx.ix1 k := by
  funext a
  match a with
  | ⟨0, _⟩ => rfl

theorem sort_at (x : IVec S16384 32) (e : Fin 16384) : Host.sort S16384 0 comparator_i32_d0 x (ValueIdx.ix1 e) = x (ValueIdx.ix1 (src x e)) := by
  unfold Host.sort src
  rw [dif_pos (show 0 < S16384.rank by decide)]
  show x ((ValueIdx.ix1 e : S16384.Idx).along 0 (sortedFrom (fun k k' => comparator_i32_d0 (x ((ValueIdx.ix1 e : S16384.Idx).along 0 k)) (x ((ValueIdx.ix1 e : S16384.Idx).along 0 k')) == 1#1) e)) = _
  refine (congrArg x (along_eq e _)).trans (congrArg (fun f => x (ValueIdx.ix1 (sortedFrom f e))) (funext fun k => funext fun k' => ?_))
  exact congrArg₂ (fun a b => comparator_i32_d0 (x a) (x b) == 1#1) (along_eq e k) (along_eq e k')

theorem less_iff (a b : BitVec 32) : (comparator_i32_d0 a b == 1#1) = decide (a.toInt < b.toInt) := by
  show (BitVec.ofBool (decide (a.toInt < b.toInt)) == 1#1) = _
  cases decide (a.toInt < b.toInt) <;> rfl

theorem sort_mono (x : IVec S16384 32) : Monotone fun e : Fin 16384 => (x (ValueIdx.ix1 (src x e))).toInt := by
  intro i j hij
  rcases eq_or_lt_of_le hij with rfl | hlt
  · exact le_rfl
  have h := sortedFrom_noInversion (fun k k' : Fin 16384 => decide ((x (ValueIdx.ix1 k)).toInt < (x (ValueIdx.ix1 k')).toInt))
    (fun k k' => comparator_i32_d0 (x (ValueIdx.ix1 k)) (x (ValueIdx.ix1 k')) == 1#1)
    (fun a b h => by rw [less_iff] at h; have := of_decide_eq_true h; exact decide_eq_false (by omega))
    (fun a b h => by rw [less_iff]; exact h)
    (fun a b c h h' => by have := of_decide_eq_false h; have := of_decide_eq_false h'; exact decide_eq_false (by omega)) i j hlt
  exact not_lt.mp (of_decide_eq_false h)

/-! ## The chunks' beginnings -/

theorem edge_nat (c : ℕ) (hc : c < 3126) : (IntOp.shli .host (IntOp.addi 0#32 (IntOp.muli 32#32 (BitVec.ofNat 32 c))) 14#32).toNat = c * 524288 := by
  show (if (14#32).toNat < 32 then (0#32 + 32#32 * BitVec.ofNat 32 c) <<< (14#32) else _).toNat = _
  rw [if_pos (by decide)]
  show ((0#32 + 32#32 * BitVec.ofNat 32 c) <<< 14).toNat = _
  rw [BitVec.toNat_shiftLeft, BitVec.toNat_add, BitVec.toNat_mul, BitVec.toNat_ofNat, Nat.shiftLeft_eq]
  simp only [BitVec.toNat_ofNat]
  omega

theorem edge_int (c : ℕ) (hc : c < 3126) : (IntOp.shli .host (IntOp.addi 0#32 (IntOp.muli 32#32 (BitVec.ofNat 32 c))) 14#32).toInt = (c : ℤ) * 524288 := by
  have h := edge_nat c hc
  rw [BitVec.toInt_eq_toNat_of_lt (by omega), h]
  push_cast; rfl

theorem edges_at (c : Fin 3126) : (edges (ValueIdx.ix1 c)).toInt = (c.val : ℤ) * 524288 := by
  exact edge_int c.val c.isLt

theorem down_at {α : Type} (x : S16384.Idx → α) (k : Fin 16384) (c : Fin 3126) :
    broadcastInDim S16384x3126 ![0, 1] bcast_S16384x1_S16384x3126_0_1 (broadcastInDim S16384x1 ![0] bcast_S16384_S16384x1_0 x) (ValueIdx.ix2 k c) = x (ValueIdx.ix1 k) := by
  unfold broadcastInDim
  refine congrArg x (funext fun a => ?_)
  match a with
  | ⟨0, _⟩ => rfl

theorem across_at {α : Type} (x : S3126.Idx → α) (k : Fin 16384) (c : Fin 3126) :
    broadcastInDim S16384x3126 ![0, 1] bcast_S1x3126_S16384x3126_0_1 (broadcastInDim S1x3126 ![1] bcast_S3126_S1x3126_1 x) (ValueIdx.ix2 k c) = x (ValueIdx.ix1 c) := by
  unfold broadcastInDim
  refine congrArg x (funext fun a => ?_)
  match a with
  | ⟨0, _⟩ => rfl

variable (m : (ℓ : Loc nD τ sig) → Buf (Elt F) ℓ) (d : Dev nD)

/-- The word at a place of the sorted list. -/
def sw (e : Fin 16384) : BitVec 32 := words (argC m d) (ValueIdx.ix1 (src (words (argC m d)) e))

theorem mP_at (e : Fin 16384) : mP m d (ValueIdx.ix1 e) = sw m d e := by
  rw [mP_eq]; exact sort_at _ e

theorem less_at (k : Fin 16384) (c : Fin 3126) : extui 32 (cmpi .slt
      (broadcastInDim S16384x3126 ![0, 1] bcast_S16384x1_S16384x3126_0_1 (broadcastInDim S16384x1 ![0] bcast_S16384_S16384x1_0 (mP m d : IVec S16384 32)))
      (broadcastInDim S16384x3126 ![0, 1] bcast_S1x3126_S16384x3126_0_1 (broadcastInDim S1x3126 ![1] bcast_S3126_S1x3126_1 edges))) natLt_1_32 (ValueIdx.ix2 k c)
    = (BitVec.ofBool (decide ((sw m d k).toInt < (c.val : ℤ) * 524288))).setWidth 32 := by
  show (IntOp.cmpi .slt (broadcastInDim _ _ _ _ (ValueIdx.ix2 k c)) (broadcastInDim _ _ _ _ (ValueIdx.ix2 k c))).setWidth 32 = _
  rw [down_at, across_at, mP_at]
  show (BitVec.ofBool (decide ((sw m d k).toInt < (edges (ValueIdx.ix1 c)).toInt))).setWidth 32 = _
  rw [edges_at]

theorem mS_at (c : Fin 3126) : BitVec.toNat (w := 32) (mS m d (ValueIdx.ix1 c)) = (Finset.univ.filter fun k : Fin 16384 => (sw m d k).toInt < (c.val : ℤ) * 524288).card := by
  rw [mS_eq, Host.reduce_eq_fold, Shape.ReducesTo.fold_fiber_r2_a0]
  refine (congrArg BitVec.toNat (Finset.fold_congr fun k _ => less_at m d k c)).trans ?_
  rw [show (constantI S_ 32 0#32 (Shape.Idx.first h_S_) : BitVec 32) = 0#32 from rfl,
    ones_sum (fun k : Fin 16384 => decide ((sw m d k).toInt < (c.val : ℤ) * 524288)) Finset.univ (by rw [Finset.card_fin]; decide)]
  simp only [decide_eq_true_iff]

theorem before_iff (c e : ℕ) (hc : c < 3126) (he : e < 16384) : e < st (mS m d) c ↔ (sw m d ⟨e, he⟩).toInt < (c : ℤ) * 524288 := by
  unfold st
  rw [show (⟨c % 3126, Nat.mod_lt _ (by omega)⟩ : Fin 3126) = ⟨c, hc⟩ from Fin.ext (Nat.mod_eq_of_lt hc), mS_at]
  exact below_iff (fun k => (sw m d k).toInt) (sort_mono _) _ ⟨e, he⟩

theorem st_le (c : ℕ) (hc : c < 3126) : st (mS m d) c ≤ 16384 := by
  unfold st
  rw [show (⟨c % 3126, Nat.mod_lt _ (by omega)⟩ : Fin 3126) = ⟨c, hc⟩ from Fin.ext (Nat.mod_eq_of_lt hc), mS_at]
  exact (Finset.card_filter_le _ _).trans (by simp)

theorem pk_eq (e : ℕ) (he : e < 16384) : pk (mP m d) e = (sw m d ⟨e, he⟩).toNat := by
  unfold pk
  rw [show (⟨e % 16384, Nat.mod_lt _ (by omega)⟩ : Fin 16384) = ⟨e, he⟩ from Fin.ext (Nat.mod_eq_of_lt he), mP_at]

/-- A word's signed value between two of the bounds: the word's number is, too. -/
theorem between (w : BitVec 32) (c : ℕ) (hc : c < 3125) (h1 : (c : ℤ) * 524288 ≤ w.toInt) (h2 : w.toInt < ((c + 1 : ℕ) : ℤ) * 524288) :
    w.toNat / 16384 / 32 = c := by
  have h := w.isLt
  rw [BitVec.toInt_eq_toNat_cond] at h1 h2
  split at h1 <;> omega

/-- The host's lists are as the program needs them, whatever the destinations. -/
theorem good : Good (mP m d) (mS m d) := by
  intro c hc
  refine ⟨?_, st_le m d (c + 1) (by omega), fun e h1 h2 => ?_⟩
  · by_contra hn
    have h1 := st_le m d c (by omega)
    have h := (before_iff m d c (st (mS m d) (c + 1)) (by omega) (by omega)).mp (by omega)
    have h' := (before_iff m d (c + 1) (st (mS m d) (c + 1)) (by omega) (by omega)).not.mp (by omega)
    push_cast at h'
    omega
  · have he : e < 16384 := lt_of_lt_of_le h2 (st_le m d (c + 1) (by omega))
    rw [pk_eq m d e he]
    exact between _ c hc (not_lt.mp ((before_iff m d c e (by omega) he).not.mp (by omega))) ((before_iff m d (c + 1) e (by omega) he).mp h2)

end Cert.Proof.Scatter

end
-- ==== Proof.Frames.lean ====
/-
  The program's frame, and its run.
-/
module

public import proofs.«01_k».proof.Proof.Order
public import proofs.«01_k».proof.Defs
public import proofs.«01_k».proof.Proof.Gen.Pre_in_range

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The program's run: the result, the arguments as they were, and every counter at zero. -/
theorem run_all [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => (∀ d : Dev nD, r.2.mem ((SparseCore.T d).loc main_v17) = transpose S1024x100000 [1, 0] (mG m d) transposes_S100000x1024_S1024x100000_1_0
          ∧ r.2.mem ((SparseCore.T d).loc main_arg0) = argA m d
          ∧ r.2.mem ((SparseCore.T d).loc main_arg1) = argB m d
          ∧ r.2.mem ((SparseCore.T d).loc main_arg2) = argC m d) ∧ r.2.sem = fun _ => 0) :=
  (θ_run (Cert.KernelIdeal.defs (F := F)) _ _).mono
    (fun r h => ⟨fun d => by
      obtain ⟨⟨h0, h1⟩, h2, h3⟩ := h.1 d
      exact ⟨h3.trans (V3_O m d), h0.trans (V3_A m d), h1.trans (V3_B m d), h2.trans (V3_C m d)⟩, h.2⟩)
    (run_main m ρ (good m))

/-- The arguments as they were, and every counter at zero. -/
theorem frame_any [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) ∧ r.2.sem = fun _ => 0) :=
  (θ_run (Cert.KernelIdeal.defs (F := F)) _ _).mono (fun _ h => ⟨fun d => (h.1 d).2, h.2⟩) (run_all m ρ)

/-- `Cert.quiescent_KernelIdeal` (Defs.lean). -/
theorem frame_ki : Cert.quiescent_KernelIdeal := fun m ρ _ => frame_any m ρ

theorem frame_ki_pre [Cert.Pre_in_range.Facts] : Cert.quiescent_KernelIdeal_pre_in_range := fun m ρ _ => frame_any m ρ

end Cert.Proof.Scatter

end
-- ==== Proof.FrameBits.lean ====
/-
  The frame of the program read at bit patterns.
-/
module

public import proofs.«01_k».proof.Proof.Frames
public import proofs.«01_k».proof.Proof.Gen.Kernel

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 4000000

/-- `Cert.quiescent_Kernel` (Defs.lean): the two programs are one text. -/
theorem frame_k : Cert.quiescent_Kernel := fun m ρ _ => frame_any (F := Bits) m ρ

end Cert.Proof.Scatter

end
-- ==== Proof.Sum.lean ====
/-
  What the program leaves, as a sum.
-/
module

public import proofs.«01_k».proof.Proof.Order
public import Idealize.ShloMosaic.Lib.Pipeline.Value

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt Ideal) ℓ) (d : Dev nD)

/-! ## A row's entries, added up -/

/-- What entry `e` of a sorted list adds to row `r`, column `j`. -/
def term (X : S131072x128.Idx → Elt Ideal .f32) (P : S16384.Idx → Elt Ideal .i32) (r j e : ℕ) : EReal :=
  if pk P e / 16384 = r then rx X (pk P e % 16384 * 8 + j / 128) (j % 128) else 0

theorem part_sum (T : S100000x1024.Idx → Elt Ideal .f32) (X : S131072x128.Idx → Elt Ideal .f32) (P : S16384.Idx → Elt Ideal .i32) (e₀ n r j : ℕ) :
    (part T X P e₀ n r j : EReal) = rd T r j + ∑ k ∈ Finset.range n, term X P r j (e₀ + k) := by
  induction n with
  | zero => rw [Finset.sum_range_zero, add_zero]; rfl
  | succ n ih =>
    rw [Finset.sum_range_succ, ← add_assoc, ← ih]
    unfold term
    show (if pk P (e₀ + n) / 16384 = r then ((part T X P e₀ n r j : EReal) + (rx X (pk P (e₀ + n) % 16384 * 8 + j / 128) (j % 128) : EReal)) else (part T X P e₀ n r j : EReal)) = _
    split
    · rfl
    · rw [add_zero]

/-! ## The words, where the rows' numbers are in range -/

/-- Every row's number is in range. -/
def InRange : Prop := ∀ k : Fin 16384, BitVec.toNat (w := 32) (argC m d (ValueIdx.ix1 k)) < 100000

theorem word_nat (v : BitVec 32) (k : ℕ) (hv : v.toNat < 100000) (hk : k < 16384) :
    (IntOp.ori (IntOp.shli .host v 14#32) (BitVec.ofNat 32 k)).toNat = v.toNat * 16384 + k := by
  show ((if (14#32).toNat < 32 then v <<< (14#32).toNat else _) ||| BitVec.ofNat 32 k : BitVec 32).toNat = _
  have hb : (BitVec.ofNat 32 k).toNat = k := by rw [BitVec.toNat_ofNat]; omega
  rw [if_pos (by decide), BitVec.toNat_or, BitVec.toNat_shiftLeft, hb,
    show (14#32).toNat = 14 from rfl, Nat.shiftLeft_eq, Nat.mod_eq_of_lt (by omega), ← Nat.shiftLeft_eq, ← Nat.shiftLeft_add_eq_or_of_lt (by omega), Nat.shiftLeft_eq]

theorem words_nat (h : InRange m d) (k : Fin 16384) :
    BitVec.toNat (w := 32) (words (argC m d) (ValueIdx.ix1 k)) = BitVec.toNat (w := 32) (argC m d (ValueIdx.ix1 k)) * 16384 + k.val :=
  word_nat _ _ (h k) k.isLt

theorem sw_nat (h : InRange m d) (e : Fin 16384) :
    (sw m d e).toNat = BitVec.toNat (w := 32) (argC m d (ValueIdx.ix1 (src (words (argC m d)) e))) * 16384 + (src (words (argC m d)) e).val :=
  words_nat m d h _

/-- An entry of a row is among the row's chunk's. -/
theorem entry_in (h : InRange m d) (r e : ℕ) (hr : r < 100000) (he : e < 16384) (hp : pk (mP m d) e / 16384 = r) :
    st (mS m d) (r / 32) ≤ e ∧ e < st (mS m d) (r / 32 + 1) := by
  have hn := sw_nat m d h ⟨e, he⟩
  have hi := h (src (words (argC m d)) ⟨e, he⟩)
  have hk := (src (words (argC m d)) ⟨e, he⟩).isLt
  have e1 := pk_eq m d e he
  have hs : (sw m d ⟨e, he⟩).toInt = ((sw m d ⟨e, he⟩).toNat : ℤ) := BitVec.toInt_eq_toNat_of_lt (by omega)
  have h1 := before_iff m d (r / 32) e (by omega) he
  have h2 := before_iff m d (r / 32 + 1) e (by omega) he
  rw [hs] at h1 h2
  rw [e1] at hp
  constructor
  · by_contra hc
    have := h1.mp (by omega)
    omega
  · exact h2.mpr (by push_cast; omega)

/-- What the program leaves: the table's element and every entry of its row. -/
theorem G_sum (h : InRange m d) (r j : ℕ) (hr : r < 100000) :
    (G (mT m d) (mX m d) (mP m d) (mS m d) r j : EReal) = rd (mT m d) r j + ∑ e ∈ Finset.range 16384, term (mX m d) (mP m d) r j e := by
  obtain ⟨-, hb, -⟩ := good m d (r / 32) (by omega)
  unfold G
  rw [part_sum, ← Finset.sum_Ico_eq_sum_range (fun e => term (mX m d) (mP m d) r j e)]
  refine congrArg (fun s : EReal => (rd (mT m d) r j : EReal) + s) (Finset.sum_subset ?_ ?_)
  · intro e he
    rw [Finset.mem_Ico] at he
    exact Finset.mem_range.mpr (by omega)
  · intro e he hn
    unfold term
    refine if_neg fun hp => hn (Finset.mem_Ico.mpr (entry_in m d h r e hr (Finset.mem_range.mp he) hp))

/-! ## The arrays the program takes, by the arguments -/

theorem rd_eq (r j : ℕ) (hr : r < 100000) (hj : j < 1024) : rd (mT m d) r j = argA m d (ValueIdx.ix2 (⟨j, hj⟩ : Fin 1024) (⟨r, hr⟩ : Fin 100000)) := by
  unfold rd
  rw [mT_eq]
  refine transpose_apply _ _ _ _ _ fun b => ?_
  match b with
  | ⟨0, _⟩ => exact (Nat.mod_eq_of_lt hr).symm
  | ⟨1, _⟩ => exact (Nat.mod_eq_of_lt hj).symm

theorem rx_eq (k j : ℕ) (hk : k < 16384) (hj : j < 1024) : rx (mX m d) (k * 8 + j / 128) (j % 128) = argB m d (ValueIdx.ix2 (⟨j, hj⟩ : Fin 1024) (⟨k, hk⟩ : Fin 16384)) := by
  unfold rx
  rw [mX_eq]
  refine (shapeCast_apply _ _ _ (ValueIdx.ix2 (⟨k, hk⟩ : Fin 16384) (⟨j, hj⟩ : Fin 1024)) ?_).trans ?_
  · rw [Shape.rowMajor_val_two, Shape.rowMajor_val_two]
    show k * 1024 + j = ((k * 8 + j / 128) % 131072) * 128 + (j % 128) % 128
    omega
  · refine transpose_apply _ _ _ _ _ fun b => ?_
    match b with
    | ⟨0, _⟩ => rfl
    | ⟨1, _⟩ => rfl

/-- What the program leaves at row `r`, column `j`: the first argument's element and every element of the second's column whose row is `r`. -/
theorem G_eq (h : InRange m d) (r j : ℕ) (hr : r < 100000) (hj : j < 1024) :
    (G (mT m d) (mX m d) (mP m d) (mS m d) r j : EReal)
      = (argA m d (ValueIdx.ix2 (⟨j, hj⟩ : Fin 1024) (⟨r, hr⟩ : Fin 100000)) : EReal)
        + ∑ k : Fin 16384, if BitVec.toNat (w := 32) (argC m d (ValueIdx.ix1 k)) = r then (argB m d (ValueIdx.ix2 (⟨j, hj⟩ : Fin 1024) k) : EReal) else 0 := by
  rw [G_sum m d h r j hr, rd_eq m d r j hr hj, Finset.sum_range]
  refine congrArg (fun s : EReal => (argA m d (ValueIdx.ix2 (⟨j, hj⟩ : Fin 1024) (⟨r, hr⟩ : Fin 100000)) : EReal) + s) ?_
  refine Eq.trans ?_ ((src_bij (words (argC m d))).sum_comp fun k : Fin 16384 =>
    if BitVec.toNat (w := 32) (argC m d (ValueIdx.ix1 k)) = r then (argB m d (ValueIdx.ix2 (⟨j, hj⟩ : Fin 1024) k) : EReal) else 0)
  refine Finset.sum_congr rfl fun e _ => ?_
  have hk := (src (words (argC m d)) e).isLt
  unfold term
  rw [pk_eq m d e.val e.isLt, sw_nat m d h]
  have e1 : (BitVec.toNat (w := 32) (argC m d (ValueIdx.ix1 (src (words (argC m d)) e))) * 16384 + (src (words (argC m d)) e).val) % 16384
    = (src (words (argC m d)) e).val := by omega
  have e2 : (BitVec.toNat (w := 32) (argC m d (ValueIdx.ix1 (src (words (argC m d)) e))) * 16384 + (src (words (argC m d)) e).val) / 16384
    = BitVec.toNat (w := 32) (argC m d (ValueIdx.ix1 (src (words (argC m d)) e))) := by omega
  rw [e1, e2, rx_eq m d _ j hk hj]

end Cert.Proof.Scatter

end
-- ==== Proof.Refer.lean ====
/-
  The reference's run.
-/
module

public import proofs.«01_k».proof.Defs
public import proofs.«01_k».proof.Proof.Gen.ReferenceIdeal
public import proofs.«01_k».proof.Proof.Gen.Pre_in_range
public import Idealize.ShloMosaic.Lib.Claim
public import Idealize.ShloMosaic.Lib.StableHlo.RunRead

@[expose] public section

noncomputable section

namespace Cert.Proof.Refer

open Idealize.ShloMosaic Idealize.SL.Sem Cert.ReferenceIdeal
open Idealize.ShloMosaic.StableHlo (after seq run_seq launchContents tcRefs)

open Cert.ReferenceIdeal.Facts₀

variable {F : FTy → Type} [FloatOps F]

abbrev ops : List (HloOp τ sig (Elt F)) :=
  [ StableHlo.nullary main_c (constantI S_ 32 0#32),
    StableHlo.unary main_c main_v0 (broadcastInDim S16384 ![] bcast_S_S16384 : (⟨S_, .i32⟩ : BufTy).Contents (Elt F) → (⟨S16384, .i32⟩ : BufTy).Contents (Elt F)),
    StableHlo.binary main_arg2 main_v0 main_v1 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 100000#32),
    StableHlo.unary main_c_0 main_v2 (broadcastInDim S16384 ![] bcast_S_S16384 : (⟨S_, .i32⟩ : BufTy).Contents (Elt F) → (⟨S16384, .i32⟩ : BufTy).Contents (Elt F)),
    StableHlo.binary main_arg2 main_v2 main_v3 (addi : (⟨S16384, .i32⟩ : BufTy).Contents (Elt F) → (⟨S16384, .i32⟩ : BufTy).Contents (Elt F) → (⟨S16384, .i32⟩ : BufTy).Contents (Elt F)),
    StableHlo.ternary main_v1 main_v3 main_arg2 main_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v4 main_v5 (broadcastInDim S16384x1 ![0] bcast_S16384_S16384x1_0 : (⟨S16384, .i32⟩ : BufTy).Contents (Elt F) → (⟨S16384x1, .i32⟩ : BufTy).Contents (Elt F)),
    StableHlo.ternary main_arg0 main_v5 main_arg1 main_v6 ((fun x i u => Host.scatterAdd scatter_S1024x100000_S16384x1_S1024x16384_0_1_1_1 x i u) : (⟨S1024x100000, .f32⟩ : BufTy).Contents (Elt F) → (⟨S16384x1, .i32⟩ : BufTy).Contents (Elt F) → (⟨S1024x16384, .f32⟩ : BufTy).Contents (Elt F) → (⟨S1024x100000, .f32⟩ : BufTy).Contents (Elt F)) ]

theorem main_eq (d : Dev nD) : main (F := F) d = seq ops := rfl

theorem no_refs : (Finset.univ.filter fun b : Ref sig .tc => b.isScoped) = ∅ := by decide
theorem no_sems : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩

theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq no_refs no_sems defs main (fun _ => ops) main_eq (fun _ => ops_sub) m ρ

variable (V : Valuation τ sig (Elt F))

theorem arg0_eq : after ops V (Proc.devRef .tc main_arg0) = V (Proc.devRef .tc main_arg0) := by after_reads_simp
theorem arg1_eq : after ops V (Proc.devRef .tc main_arg1) = V (Proc.devRef .tc main_arg1) := by after_reads_simp
theorem arg2_eq : after ops V (Proc.devRef .tc main_arg2) = V (Proc.devRef .tc main_arg2) := by after_reads_simp

/-- The rows that the reference adds to. -/
abbrev rows (i : IVec S16384 32) : IVec S16384x1 32 :=
  broadcastInDim S16384x1 ![0] bcast_S16384_S16384x1_0
    (select (cmpi .slt i (broadcastInDim S16384 ![] bcast_S_S16384 (constantI S_ 32 0#32))) (addi i (broadcastInDim S16384 ![] bcast_S_S16384 (constantI S_ 32 100000#32))) i)

theorem out_eq : after ops V (Proc.devRef .tc main_v6) = Host.scatterAdd scatter_S1024x100000_S16384x1_S1024x16384_0_1_1_1
    (V (Proc.devRef .tc main_arg0) : FVec F S1024x100000 .f32) (rows (V (Proc.devRef .tc main_arg2) : IVec S16384 32)) (V (Proc.devRef .tc main_arg1) : FVec F S1024x16384 .f32) := by
  after_reads_simp

/-- The reference's run, read. -/
theorem run_all (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v6) = Host.scatterAdd scatter_S1024x100000_S16384x1_S1024x16384_0_1_1_1
          (m ((c.tc : Thread nD τ).loc main_arg0) : FVec F S1024x100000 .f32) (rows (m ((c.tc : Thread nD τ).loc main_arg2)))
          (m ((c.tc : Thread nD τ).loc main_arg1) : FVec F S1024x16384 .f32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run (defs (F := F)) _ _).mono (fun _ h c => ⟨(h c main_v6).trans (out_eq _), (h c main_arg0).trans (arg0_eq _),
    (h c main_arg1).trans (arg1_eq _), (h c main_arg2).trans (arg2_eq _)⟩) (run m ρ)

/-- `Cert.quiescent_ReferenceIdeal` (Defs.lean); the reference has no semaphore. -/
theorem frame_r : Cert.quiescent_ReferenceIdeal := fun m ρ _ =>
  (θ_run (defs (F := Ideal)) _ _).mono (fun r h => ⟨fun c => (h c).2, sem_eq_zero_of_no_sems (by decide) r.2⟩) (run_all m ρ)

theorem frame_r_pre : Cert.quiescent_ReferenceIdeal_pre_in_range := fun m ρ _ =>
  (θ_run (defs (F := Ideal)) _ _).mono (fun r h => ⟨fun c => (h c).2, sem_eq_zero_of_no_sems (by decide) r.2⟩) (run_all m ρ)

end Cert.Proof.Refer

end
-- ==== Proof.Lands.lean ====
/-
  Where the reference's scatter puts each of its updates, and what it leaves.
-/
module

public import proofs.«01_k».proof.Proof.Refer
public import Idealize.ShloMosaic.Lib.ValueIdx

@[expose] public section

noncomputable section

namespace Cert.Proof.Refer

open Idealize.ShloMosaic Cert.ReferenceIdeal
open Idealize.ShloMosaic.ValueIdx

abbrev dims : ScatterDims S1024x100000 S16384x1 S1024x16384 := scatter_S1024x100000_S16384x1_S1024x16384_0_1_1_1

variable (idx : IVec S16384x1 32) (j : S1024x16384.Idx)

theorem window_0 : dims.window j 0 = (j 0).val := rfl
theorem window_1 : dims.window j 1 = 0 := rfl
theorem start_0 : dims.start j idx 0 = 0 := rfl

theorem siIdx_eq (c) : dims.siIdx j c = ValueIdx.ix2 (⟨(j 1).val, (j 1).isLt⟩ : Fin 16384) (0 : Fin 1) := by
  funext b
  match b with
  | ⟨0, _⟩ => rfl
  | ⟨1, _⟩ => exact Subsingleton.elim (α := Fin 1) _ _

theorem start_1 : dims.start j idx 1 = (idx (ValueIdx.ix2 (⟨(j 1).val, (j 1).isLt⟩ : Fin 16384) (0 : Fin 1))).toInt := by
  unfold ScatterDims.start
  rw [dif_pos (show (1 : Fin 2) ∈ dims.scatterDimsToOperandDims from List.mem_singleton.2 rfl), siIdx_eq]

/-- An update lands at a place of the result: its column is the place's, and its row's number, read signed, is the place's row. -/
theorem lands (x : S1024x100000.Idx) : dims.resultIdx? j idx = some x
    ↔ (j 0).val = (x 0).val ∧ (idx (ValueIdx.ix2 (⟨(j 1).val, (j 1).isLt⟩ : Fin 16384) (0 : Fin 1))).toInt = ((x 1).val : ℤ) := by
  have h0 : (x 0).val < 1024 := (x 0).isLt
  have h1 : (x 1).val < 100000 := (x 1).isLt
  have hj : (j 0).val < 1024 := (j 0).isLt
  unfold ScatterDims.resultIdx?
  split
  · next h =>
    have e0 := h 0
    have e1 := h 1
    rw [start_0, window_0] at e0
    rw [start_1, window_1] at e1
    constructor
    · intro e
      have a0 := congrArg Fin.val (congrFun (Option.some.inj e) 0)
      have a1 := congrArg Fin.val (congrFun (Option.some.inj e) 1)
      change (dims.start j idx 0 + (dims.window j 0 : ℤ)).toNat = _ at a0
      change (dims.start j idx 1 + (dims.window j 1 : ℤ)).toNat = _ at a1
      rw [start_0, window_0] at a0
      rw [start_1, window_1] at a1
      omega
    · intro e
      refine congrArg some (funext fun a => Fin.ext ?_)
      match a with
      | ⟨0, _⟩ =>
        show (dims.start j idx 0 + (dims.window j 0 : ℤ)).toNat = (x 0).val
        rw [start_0, window_0]; omega
      | ⟨1, _⟩ =>
        show (dims.start j idx 1 + (dims.window j 1 : ℤ)).toNat = (x 1).val
        rw [start_1, window_1]; omega
  · next h =>
    constructor
    · intro e; cases e
    · intro e
      refine (h fun a => ?_).elim
      match a with
      | ⟨0, _⟩ =>
        show 0 ≤ dims.start j idx 0 + (dims.window j 0 : ℤ) ∧ dims.start j idx 0 + (dims.window j 0 : ℤ) < ((1024 : ℕ) : ℤ)
        rw [start_0, window_0]; omega
      | ⟨1, _⟩ =>
        show 0 ≤ dims.start j idx 1 + (dims.window j 1 : ℤ) ∧ dims.start j idx 1 + (dims.window j 1 : ℤ) < ((100000 : ℕ) : ℤ)
        rw [start_1, window_1]; omega

/-- The scatter at a place: the array's element there, and the updates of that column whose row it is. -/
theorem scatter_at (a : FVec Ideal S1024x100000 .f32) (u : FVec Ideal S1024x16384 .f32) (x : S1024x100000.Idx) :
    (Host.scatterAdd dims a idx u : S1024x100000.Idx → EReal) x
      = (a x : EReal) + ∑ k ∈ Finset.univ.filter (fun k : Fin 16384 => (idx (ValueIdx.ix2 k (0 : Fin 1))).toInt = ((x 1).val : ℤ)),
          (u (ValueIdx.ix2 (⟨(x 0).val, (x 0).isLt⟩ : Fin 1024) k) : EReal) := by
  show (a x : EReal) + ∑ j ∈ Finset.univ.filter (fun j => dims.resultIdx? j idx = some x), (u j : EReal) = _
  refine congrArg (fun s : EReal => (a x : EReal) + s) (Eq.symm ?_)
  refine Finset.sum_bij (fun k _ => ValueIdx.ix2 (⟨(x 0).val, (x 0).isLt⟩ : Fin 1024) k) ?_ ?_ ?_ ?_
  · intro k hk
    rw [Finset.mem_filter] at hk ⊢
    exact ⟨Finset.mem_univ _, (lands _ _ _).mpr ⟨rfl, hk.2⟩⟩
  · intro k _ k' _ e
    exact congrFun e 1
  · intro j hj
    rw [Finset.mem_filter] at hj
    obtain ⟨e0, e1⟩ := (lands _ _ _).mp hj.2
    refine ⟨⟨(j 1).val, (j 1).isLt⟩, Finset.mem_filter.mpr ⟨Finset.mem_univ _, e1⟩, ?_⟩
    funext b
    match b with
    | ⟨0, _⟩ => exact Fin.ext e0.symm
    | ⟨1, _⟩ => rfl
  · intro k _; rfl

/-- Where the rows' numbers are in range, the reference reads them as they are. -/
theorem rows_at (i : IVec S16384 32) (k : Fin 16384) (h : 0 ≤ (i (ValueIdx.ix1 k)).toInt) : rows i (ValueIdx.ix2 k (0 : Fin 1)) = i (ValueIdx.ix1 k) := by
  unfold rows
  have e : ∀ y : IVec S16384 32, broadcastInDim S16384x1 ![0] Facts₀.bcast_S16384_S16384x1_0 y (ValueIdx.ix2 k (0 : Fin 1)) = y (ValueIdx.ix1 k) := fun y => by
    unfold broadcastInDim
    refine congrArg y (funext fun a => ?_)
    match a with
    | ⟨0, _⟩ => rfl
  rw [e]
  show (if BitVec.ofBool (decide ((i (ValueIdx.ix1 k)).toInt < (0#32).toInt)) = 1#1 then _ else _) = _
  rw [decide_eq_false (by rw [BitVec.toInt_zero]; omega)]
  rfl

end Cert.Proof.Refer

end
-- ==== Proof.Algebraic.lean ====
/-
  The program and the reference leave the same.
-/
module

public import proofs.«01_k».proof.Proof.Sum
public import proofs.«01_k».proof.Proof.Lands
public import proofs.«01_k».proof.Proof.Frames
public import Idealize.ShloMosaic.Lib.ReduceAll
public import Idealize.ShloMosaic.Lib.Affine

@[expose] public section

noncomputable section

namespace Cert.Proof.Scatter

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt Ideal) ℓ)

/-- A word that passes both tests of the precondition is in range. -/
theorem word_in_range (v : BitVec 32) (h : IntOp.andi (IntOp.cmpi .sge v 0#32) (IntOp.cmpi .slt v 100000#32) = 1#1) : v.toNat < 100000 := by
  have hv := v.isLt
  obtain ⟨h1, h2⟩ := IntOp.andi_eq_one.1 h
  have one : ∀ b : Bool, BitVec.ofBool b = 1#1 → b = true := by decide
  have g1 := one ((0#32).sle v) h1
  have g2 := one (v.slt 100000#32) h2
  rw [BitVec.sle_eq_decide, decide_eq_true_eq, BitVec.toInt_zero, BitVec.toInt_eq_toNat_cond] at g1
  rw [BitVec.slt_eq_decide, decide_eq_true_eq, BitVec.toInt_eq_toNat_cond, show (100000#32).toInt = 100000 from rfl] at g2
  omega

instance : Subsingleton S_.Idx := ⟨fun a b => funext fun i => i.elim0⟩

/-- The precondition, read: every row's number is in range. -/
theorem in_range (h : Cert.Pre_KernelIdeal_in_range m) (d : Dev nD) : InRange m d := fun k =>
  word_in_range _ (Host.reduce_andi_all _ _ _ _ (fun i => i.elim0) (congrFun (h d) fun i => i.elim0) (ValueIdx.ix1 k))

/-- What the program leaves is what the reference's scatter leaves. -/
theorem same (d : Dev nD) (h : InRange m d) :
    (Host.scatterAdd (F := Ideal) (φ := .f32) Refer.dims (argA m d : FVec Ideal S1024x100000 .f32) (Refer.rows (argC m d)) (argB m d : FVec Ideal S1024x16384 .f32)
        : S1024x100000.Idx → Elt Ideal .f32)
      = transpose S1024x100000 [1, 0] (mG m d) transposes_S100000x1024_S1024x100000_1_0 := by
  funext x
  have h0 : (x 0).val < 1024 := (x 0).isLt
  have h1 : (x 1).val < 100000 := (x 1).isLt
  refine (Refer.scatter_at _ _ _ x).trans (Eq.symm ?_)
  refine (transpose_apply _ _ _ x (ValueIdx.ix2 (⟨(x 1).val, h1⟩ : Fin 100000) (⟨(x 0).val, h0⟩ : Fin 1024)) fun b => ?_).trans ?_
  · match b with
    | ⟨0, _⟩ => rfl
    | ⟨1, _⟩ => rfl
  · refine (G_eq m d h (x 1).val (x 0).val h1 h0).trans ?_
    rw [Finset.sum_filter]
    have ex : ValueIdx.ix2 (⟨(x 0).val, h0⟩ : Fin 1024) (⟨(x 1).val, h1⟩ : Fin 100000) = x := by
      funext b
      match b with
      | ⟨0, _⟩ => rfl
      | ⟨1, _⟩ => rfl
    rw [ex]
    refine congrArg (fun s : EReal => (argA m d x : EReal) + s) (Finset.sum_congr rfl fun k _ => ?_)
    have hi : (BitVec.toInt (n := 32) (argC m d (ValueIdx.ix1 k))) = ((BitVec.toNat (w := 32) (argC m d (ValueIdx.ix1 k)) : ℕ) : ℤ) :=
      BitVec.toInt_eq_toNat_of_lt (by exact lt_trans (Nat.mul_lt_mul_of_pos_left (h k) (by decide : 0 < 2)) (by decide))
    refine if_congr ?_ rfl rfl
    rw [Refer.rows_at _ _ (by rw [hi]; omega), hi]
    omega

/-- `Cert.algebraic_KernelIdeal_ReferenceIdeal_pre_in_range` (Defs.lean). -/
theorem algebraic : Cert.algebraic_KernelIdeal_ReferenceIdeal_pre_in_range := fun m g m' g' hpre hagree => by
  refine ⟨fun d => transpose S1024x100000 [1, 0] (mG m d) transposes_S100000x1024_S1024x100000_1_0, ?_, ?_⟩
  · exact (θ_run (Cert.KernelIdeal.defs (F := Ideal)) _ _).mono (fun _ h => h.1) (run_all m g)
  · refine (θ_run (Cert.ReferenceIdeal.defs (F := Ideal)) _ _).mono (fun _ h c => ⟨(h c).1.trans ?_, (h c).2⟩) (Refer.run_all m' g')
    obtain ⟨e0, e1, e2⟩ := hagree c
    rw [e0, e1, e2]
    exact same m c (in_range m hpre c)

end Cert.Proof.Scatter

end
-- ==== Proof.lean ====
/-
  The proof of `Cert.Claim`: the frames of the three programs, the kernel's two readings, and the equality with the
  reference where every row's number is in range.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.FrameBits
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts,
  Scatter.frame_k, Scatter.frame_ki, Scatter.frame_ki_pre, Refer.frame_r, Refer.frame_r_pre, trivial, Scatter.algebraic⟩

end Cert.Proof

end
